-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))) = (fun _ => 1#1)

def Pre_MlaReferenceIdeal (m : (ℓ : Loc Cert.MlaReferenceIdeal.nD Cert.MlaReferenceIdeal.τ Cert.MlaReferenceIdeal.sig) → Buf (Elt Ideal) ℓ) : Prop :=
  True

def Pre_MlaReferenceIdeal_mla_finite [hPre_mla_finite : Cert.Pre_mla_finite.Facts] (m : (ℓ : Loc Cert.MlaReferenceIdeal.nD Cert.MlaReferenceIdeal.τ Cert.MlaReferenceIdeal.sig) → Buf (Elt Ideal) ℓ) : Prop :=
  ∀ c : Dev Cert.MlaReferenceIdeal.nD,
    (Cert.Pre_mla_finite.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3))
      ∧ r.2.sem = fun _ => 0)

def quiescent_MlaReferenceIdeal_pre_mla_finite [hMlaReferenceIdeal : Cert.MlaReferenceIdeal.Facts] [hPre_mla_finite : Cert.Pre_mla_finite.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal_mla_finite m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v7)) (v1 : (c : Dev Cert.MlpIdeal.nD) → Buf (Elt Ideal) ((c.tc : Thread Cert.MlpIdeal.nD Cert.MlpIdeal.τ).loc Cert.MlpIdeal.main_v10)) (v2 : (c : Dev Cert.MlpIdeal.nD) → Buf (Elt Ideal) ((c.tc : Thread Cert.MlpIdeal.nD Cert.MlpIdeal.τ).loc Cert.MlpIdeal.main_v13)) (v3 : (c : Dev Cert.MlpIdeal.nD) → Buf (Elt Ideal) ((c.tc : Thread Cert.MlpIdeal.nD Cert.MlpIdeal.τ).loc Cert.MlpIdeal.main_v9)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v7) = v0 c
          ∧ r.2.mem ((c.tc : Thread Cert.MlpIdeal.nD Cert.MlpIdeal.τ).loc Cert.MlpIdeal.main_v10) = v1 c
          ∧ r.2.mem ((c.tc : Thread Cert.MlpIdeal.nD Cert.MlpIdeal.τ).loc Cert.MlpIdeal.main_v13) = v2 c
          ∧ r.2.mem ((c.tc : Thread Cert.MlpIdeal.nD Cert.MlpIdeal.τ).loc Cert.MlpIdeal.main_v9) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v8) = v0 c
          ∧ r.2.mem ((c.tc : Thread Cert.MlpReferenceIdeal.nD Cert.MlpReferenceIdeal.τ).loc Cert.MlpReferenceIdeal.main_v17) = v1 c
          ∧ r.2.mem ((c.tc : Thread Cert.MlpReferenceIdeal.nD Cert.MlpReferenceIdeal.τ).loc Cert.MlpReferenceIdeal.main_v16) = v2 c
          ∧ r.2.mem ((c.tc : Thread Cert.MlpReferenceIdeal.nD Cert.MlpReferenceIdeal.τ).loc Cert.MlpReferenceIdeal.main_v10) = v3 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v38)) (v1 : (c : Dev Cert.ProjIdeal.nD) → Buf (Elt Ideal) ((c.tc : Thread Cert.ProjIdeal.nD Cert.ProjIdeal.τ).loc Cert.ProjIdeal.main_v45)) (v2 : (c : Dev Cert.ProjIdeal.nD) → Buf (Elt Ideal) ((c.tc : Thread Cert.ProjIdeal.nD Cert.ProjIdeal.τ).loc Cert.ProjIdeal.main_v27)) (v3 : (c : Dev Cert.ProjIdeal.nD) → Buf (Elt Ideal) ((c.tc : Thread Cert.ProjIdeal.nD Cert.ProjIdeal.τ).loc Cert.ProjIdeal.main_v52)) (v4 : (c : Dev Cert.ProjIdeal.nD) → Buf (Elt Ideal) ((c.tc : Thread Cert.ProjIdeal.nD Cert.ProjIdeal.τ).loc Cert.ProjIdeal.main_v29)) (v5 : (c : Dev Cert.ProjIdeal.nD) → Buf (Elt Ideal) ((c.tc : Thread Cert.ProjIdeal.nD Cert.ProjIdeal.τ).loc Cert.ProjIdeal.main_v30)) (v6 : (c : Dev Cert.ProjIdeal.nD) → Buf (Elt Ideal) ((c.tc : Thread Cert.ProjIdeal.nD Cert.ProjIdeal.τ).loc Cert.ProjIdeal.main_v31)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v38) = v0 c
          ∧ r.2.mem ((c.tc : Thread Cert.ProjIdeal.nD Cert.ProjIdeal.τ).loc Cert.ProjIdeal.main_v45) = v1 c
          ∧ r.2.mem ((c.tc : Thread Cert.ProjIdeal.nD Cert.ProjIdeal.τ).loc Cert.ProjIdeal.main_v27) = v2 c
          ∧ r.2.mem ((c.tc : Thread Cert.ProjIdeal.nD Cert.ProjIdeal.τ).loc Cert.ProjIdeal.main_v52) = v3 c
          ∧ r.2.mem ((c.tc : Thread Cert.ProjIdeal.nD Cert.ProjIdeal.τ).loc Cert.ProjIdeal.main_v29) = v4 c
          ∧ r.2.mem ((c.tc : Thread Cert.ProjIdeal.nD Cert.ProjIdeal.τ).loc Cert.ProjIdeal.main_v30) = v5 c
          ∧ r.2.mem ((c.tc : Thread Cert.ProjIdeal.nD Cert.ProjIdeal.τ).loc Cert.ProjIdeal.main_v31) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v0) = v0 c
          ∧ r.2.mem ((c.tc : Thread Cert.ProjReferenceIdeal.nD Cert.ProjReferenceIdeal.τ).loc Cert.ProjReferenceIdeal.main_v2) = v1 c
          ∧ r.2.mem ((c.tc : Thread Cert.ProjReferenceIdeal.nD Cert.ProjReferenceIdeal.τ).loc Cert.ProjReferenceIdeal.main_v5) = v2 c
          ∧ r.2.mem ((c.tc : Thread Cert.ProjReferenceIdeal.nD Cert.ProjReferenceIdeal.τ).loc Cert.ProjReferenceIdeal.main_v4) = v3 c
          ∧ r.2.mem ((c.tc : Thread Cert.ProjReferenceIdeal.nD Cert.ProjReferenceIdeal.τ).loc Cert.ProjReferenceIdeal.main_v1) = v4 c
          ∧ r.2.mem ((c.tc : Thread Cert.ProjReferenceIdeal.nD Cert.ProjReferenceIdeal.τ).loc Cert.ProjReferenceIdeal.main_v8) = v5 c
          ∧ r.2.mem ((c.tc : Thread Cert.ProjReferenceIdeal.nD Cert.ProjReferenceIdeal.τ).loc Cert.ProjReferenceIdeal.main_v7) = v6 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5))

def preserves_Mla_MlaIdeal : Prop :=
  IdealRules.named_const.Statement Cert.MlaIdeal.κ "mask" .f32 0xF149F2CA#32 ⊥

def algebraic_MlaIdeal_MlaReferenceIdeal_pre_mla_finite [hMlaIdeal : Cert.MlaIdeal.Facts] [hMlaReferenceIdeal : Cert.MlaReferenceIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaIdeal_mla_finite m →
    (∀ c : Dev Cert.MlaIdeal.nD,
      m' ((c.tc : Thread Cert.MlaReferenceIdeal.nD Cert.MlaReferenceIdeal.τ).loc Cert.MlaReferenceIdeal.main_arg0) = m ((c.tc : Thread Cert.MlaIdeal.nD Cert.MlaIdeal.τ).loc Cert.MlaIdeal.main_arg0)
      ∧ m' ((c.tc : Thread Cert.MlaReferenceIdeal.nD Cert.MlaReferenceIdeal.τ).loc Cert.MlaReferenceIdeal.main_arg1) = m ((c.tc : Thread Cert.MlaIdeal.nD Cert.MlaIdeal.τ).loc Cert.MlaIdeal.main_arg1)
      ∧ m' ((c.tc : Thread Cert.MlaReferenceIdeal.nD Cert.MlaReferenceIdeal.τ).loc Cert.MlaReferenceIdeal.main_arg2) = m ((c.tc : Thread Cert.MlaIdeal.nD Cert.MlaIdeal.τ).loc Cert.MlaIdeal.main_arg2)
      ∧ m' ((c.tc : Thread Cert.MlaReferenceIdeal.nD Cert.MlaReferenceIdeal.τ).loc Cert.MlaReferenceIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v14)) (v1 : (c : Dev Cert.MlaIdeal.nD) → Buf (Elt Ideal) ((c.tc : Thread Cert.MlaIdeal.nD Cert.MlaIdeal.τ).loc Cert.MlaIdeal.main_v16)) (v2 : (c : Dev Cert.MlaIdeal.nD) → Buf (Elt Ideal) ((c.tc : Thread Cert.MlaIdeal.nD Cert.MlaIdeal.τ).loc Cert.MlaIdeal.main_v18)) (v3 : (c : Dev Cert.MlaIdeal.nD) → Buf (Elt Ideal) ((c.tc : Thread Cert.MlaIdeal.nD Cert.MlaIdeal.τ).loc Cert.MlaIdeal.main_v21)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v14) = v0 c
          ∧ r.2.mem ((c.tc : Thread Cert.MlaIdeal.nD Cert.MlaIdeal.τ).loc Cert.MlaIdeal.main_v16) = v1 c
          ∧ r.2.mem ((c.tc : Thread Cert.MlaIdeal.nD Cert.MlaIdeal.τ).loc Cert.MlaIdeal.main_v18) = v2 c
          ∧ r.2.mem ((c.tc : Thread Cert.MlaIdeal.nD Cert.MlaIdeal.τ).loc Cert.MlaIdeal.main_v21) = v3 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v72) = v0 c
          ∧ r.2.mem ((c.tc : Thread Cert.MlaReferenceIdeal.nD Cert.MlaReferenceIdeal.τ).loc Cert.MlaReferenceIdeal.main_v73) = v1 c
          ∧ r.2.mem ((c.tc : Thread Cert.MlaReferenceIdeal.nD Cert.MlaReferenceIdeal.τ).loc Cert.MlaReferenceIdeal.main_v74) = v2 c
          ∧ r.2.mem ((c.tc : Thread Cert.MlaReferenceIdeal.nD Cert.MlaReferenceIdeal.τ).loc Cert.MlaReferenceIdeal.main_v76) = v3 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hProj : Cert.Proj.Facts) (hProjIdeal : Cert.ProjIdeal.Facts) (hProjReferenceIdeal : Cert.ProjReferenceIdeal.Facts) (hMla : Cert.Mla.Facts) (hMlaIdeal : Cert.MlaIdeal.Facts) (hMlaReferenceIdeal : Cert.MlaReferenceIdeal.Facts) (hPre_finite : Cert.Pre_finite.Facts) (hPre_mla_finite : Cert.Pre_mla_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaReferenceIdeal (hMlaReferenceIdeal := hMlaReferenceIdeal)
    ∧ quiescent_MlaReferenceIdeal_pre_mla_finite (hMlaReferenceIdeal := hMlaReferenceIdeal) (hPre_mla_finite := hPre_mla_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpReferenceIdeal (hMlpIdeal := hMlpIdeal) (hMlpReferenceIdeal := hMlpReferenceIdeal)
    ∧ preserves_Proj_ProjIdeal
    ∧ algebraic_ProjIdeal_ProjReferenceIdeal (hProjIdeal := hProjIdeal) (hProjReferenceIdeal := hProjReferenceIdeal)
    ∧ preserves_Mla_MlaIdeal
    ∧ algebraic_MlaIdeal_MlaReferenceIdeal_pre_mla_finite (hMlaIdeal := hMlaIdeal) (hMlaReferenceIdeal := hMlaReferenceIdeal) (hPre_mla_finite := hPre_mla_finite)
-- ==== Pre_finite.lean ====
abbrev S4096x3072 : Shape := ⟨2, ![4096, 3072]⟩
abbrev S4096x256 : Shape := ⟨2, ![4096, 256]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S4096x3072 .bf16) (main_arg1 : FVec F S4096x256 .f32) : IVec S_ 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_c : IVec S_ 1 := constantI S_ 1 1#1
  let main_v4 : IVec S_ 1 := (fun x v => Host.reduce IntOp.andi x v reducesTo_S4096x3072_S_d0_1 h_S_) main_v3 main_c
  let main_v5 : FVec F S4096x256 .f32 := Host.absf main_arg1
  let main_cst_0 : FVec F S_ .f32 := constant S_ .f32 0x7F800000#32
  let main_v6 : FVec F S4096x256 .f32 := broadcastInDim S4096x256 ![] bcast_S_S4096x256 main_cst_0
  let main_v7 : IVec S4096x256 1 := cmpf .olt main_v5 main_v6
  let main_c_1 : IVec S_ 1 := constantI S_ 1 1#1
  let main_v8 : IVec S_ 1 := (fun x v => Host.reduce IntOp.andi x v reducesTo_S4096x256_S_d0_1 h_S_) main_v7 main_c_1
  let main_v9 : IVec S_ 1 := andi main_v4 main_v8
  main_v9
-- ==== Pre_mla_finite.lean ====
abbrev S4096x4x96 : Shape := ⟨3, ![4096, 4, 96]⟩
abbrev S4096x256 : Shape := ⟨2, ![4096, 256]⟩
abbrev S_ : Shape := ⟨0, ![]⟩

class Facts : Prop where
  bitsLt_bf16_f32 : FTy.bits .bf16 < FTy.bits .f32
  bcast_S_S4096x4x96 : S_.BroadcastsInDim S4096x4x96 (![] : Fin 0 → Fin S4096x4x96.rank)
  reducesTo_S4096x4x96_S_d0_1_2 : S4096x4x96.ReducesTo [0, 1, 2] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn_part1 {F : FTy → Type} [FloatOps F] (main_v16 : IVec S_ 1) (main_v17 : FVec F S4096x256 .f32) : IVec S_ 1 :=
  let main_cst_4 : FVec F S_ .f32 := constant S_ .f32 0x7F800000#32
  let main_v18 : FVec F S4096x256 .f32 := broadcastInDim S4096x256 ![] bcast_S_S4096x256 main_cst_4
  let main_v19 : IVec S4096x256 1 := cmpf .olt main_v17 main_v18
  let main_c_5 : IVec S_ 1 := constantI S_ 1 1#1
  let main_v20 : IVec S_ 1 := (fun x v => Host.reduce IntOp.andi x v reducesTo_S4096x256_S_d0_1 h_S_) main_v19 main_c_5
  let main_v21 : IVec S_ 1 := andi main_v16 main_v20
  main_v21

def fn {F : FTy → Type} [FloatOps F] (main_arg0 : FVec F S4096x4x96 .bf16) (main_arg1 : FVec F S4096x4x96 .bf16) (main_arg2 : FVec F S4096x256 .bf16) (main_arg3 : FVec F S4096x256 .f32) : IVec S_ 1 :=
  let main_v0 : FVec F S4096x4x96 .f32 := (extf .f32 · bitsLt_bf16_f32) main_arg0
  let main_v1 : FVec F S4096x4x96 .f32 := Host.absf main_v0
  let main_cst : FVec F S_ .f32 := constant S_ .f32 0x7F800000#32
  let main_v2 : FVec F S4096x4x96 .f32 := broadcastInDim S4096x4x96 ![] bcast_S_S4096x4x96 main_cst
  let main_v3 : IVec S4096x4x96 1 := cmpf .olt main_v1 main_v2
  let main_c : IVec S_ 1 := constantI S_ 1 1#1
  let main_v4 : IVec S_ 1 := (fun x v => Host.reduce IntOp.andi x v reducesTo_S4096x4x96_S_d0_1_2 h_S_) main_v3 main_c
  let main_v5 : FVec F S4096x4x96 .f32 := (extf .f32 · bitsLt_bf16_f32) main_arg1
  let main_v6 : FVec F S4096x4x96 .f32 := Host.absf main_v5
  let main_cst_0 : FVec F S_ .f32 := constant S_ .f32 0x7F800000#32
  let main_v7 : FVec F S4096x4x96 .f32 := broadcastInDim S4096x4x96 ![] bcast_S_S4096x4x96 main_cst_0
  let main_v8 : IVec S4096x4x96 1 := cmpf .olt main_v6 main_v7
  let main_c_1 : IVec S_ 1 := constantI S_ 1 1#1
  let main_v9 : IVec S_ 1 := (fun x v => Host.reduce IntOp.andi x v reducesTo_S4096x4x96_S_d0_1_2 h_S_) main_v8 main_c_1
  let main_v10 : IVec S_ 1 := andi main_v4 main_v9
  let main_v11 : FVec F S4096x256 .f32 := (extf .f32 · bitsLt_bf16_f32) main_arg2
  let main_v12 : FVec F S4096x256 .f32 := Host.absf main_v11
  let main_cst_2 : FVec F S_ .f32 := constant S_ .f32 0x7F800000#32
  let main_v13 : FVec F S4096x256 .f32 := broadcastInDim S4096x256 ![] bcast_S_S4096x256 main_cst_2
  let main_v14 : IVec S4096x256 1 := cmpf .olt main_v12 main_v13
  let main_c_3 : IVec S_ 1 := constantI S_ 1 1#1
  let main_v15 : IVec S_ 1 := (fun x v => Host.reduce IntOp.andi x v reducesTo_S4096x256_S_d0_1 h_S_) main_v14 main_c_3
  let main_v16 : IVec S_ 1 := andi main_v10 main_v15
  let main_v17 : FVec F S4096x256 .f32 := Host.absf main_arg3
  fn_part1 (F := F) main_v16 main_v17
-- ==== Kernel.lean ====
abbrev S4096x3072 : Shape := ⟨2, ![4096, 3072]⟩
abbrev S4096x256 : Shape := ⟨2, ![4096, 256]⟩
abbrev S2x4096x128 : Shape := ⟨3, ![2, 4096, 128]⟩
abbrev S512x128 : Shape := ⟨2, ![512, 128]⟩
abbrev S4096x128 : Shape := ⟨2, ![4096, 128]⟩
abbrev S1x512x128 : Shape := ⟨3, ![1, 512, 128]⟩
abbrev S512x512 : Shape := ⟨2, ![512, 512]⟩
abbrev S1x128 : Shape := ⟨2, ![1, 128]⟩
abbrev S128x128 : Shape := ⟨2, ![128, 128]⟩
abbrev S512x1 : Shape := ⟨2, ![512, 1]⟩
abbrev S512 : Shape := ⟨1, ![512]⟩

abbrev nBuf : Space → Nat
  | .hbm => 7
  | .vmem => 28
  | .smem => 0
  | _ => 0

abbrev bufTy : (tb : Table) → Fin (tcTables nBuf tb) → BufTy
  | .hbm, ⟨0, _⟩ => ⟨S4096x3072, .bf16⟩
  | .hbm, ⟨1, _⟩ => ⟨S4096x256, .f32⟩
  | .hbm, ⟨2, _⟩ => ⟨S4096x256, .f32⟩
  | .hbm, ⟨3, _⟩ => ⟨S2x4096x128, .f32⟩
  | .hbm, ⟨4, _⟩ => ⟨S4096x256, .f32⟩
  | .hbm, ⟨5, _⟩ => ⟨S4096x256, .f32⟩
  | .hbm, ⟨6, _⟩ => ⟨S4096x256, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S1x512x128, .f32⟩
  | .local _ .vmem, ⟨9, _⟩ => ⟨S1x512x128, .f32⟩
  | .local _ .vmem, ⟨10, _⟩ => ⟨S512x128, .bf16⟩
  | .local _ .vmem, ⟨11, _⟩ => ⟨S512x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S1x512x128, .f32⟩
  | .local _ .vmem, ⟨21, _⟩ => ⟨S1x512x128, .f32⟩
  | .local _ .vmem, ⟨22, _⟩ => ⟨S512x128, .f32⟩
  | .local _ .vmem, ⟨23, _⟩ => ⟨S512x128, .f32⟩
  | .local _ .vmem, ⟨24, _⟩ => ⟨S4096x128, .f32⟩
  | .local _ .vmem, ⟨25, _⟩ => ⟨S4096x128, .f32⟩
  | .local _ .vmem, ⟨26, _⟩ => ⟨S4096x128, .f32⟩
  | .local _ .vmem, ⟨27, _⟩ => ⟨S4096x128, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let c512_i32_27 : BitVec 32 := 512#32
  let v98 : BitVec 32 := Scalar.muli v19 c512_i32_27
  v98
def k0_off1 (i : grid0.Coords) : Fin 2 → Nat :=
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let c512_i32_27 : BitVec 32 := 512#32
  let v98 : BitVec 32 := Scalar.muli v19 c512_i32_27
  let v99 : BitVec 32 := v98
  let v100 : Index := Scalar.indexCast v99
  let c0_28 : Index := 0#32
  ![v100.toNat, 0]
def k0_mult2 (i : grid0.Coords) : BitVec 32 :=
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let c1_i32_25 : BitVec 32 := 1#32
  let v96 : BitVec 32 := Scalar.subi v19 c1_i32_25
  let c0_i32_26 : BitVec 32 := 0#32
  let v97 : BitVec 32 := Scalar.maxsi v96 c0_i32_26
  let c512_i32_32 : BitVec 32 := 512#32
  let v106 : BitVec 32 := Scalar.muli v97 c512_i32_32
  v106
def k0_off2 (i : grid0.Coords) : Fin 2 → Nat :=
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let c1_i32_25 : BitVec 32 := 1#32
  let v96 : BitVec 32 := Scalar.subi v19 c1_i32_25
  let c0_i32_26 : BitVec 32 := 0#32
  let v97 : BitVec 32 := Scalar.maxsi v96 c0_i32_26
  let c512_i32_32 : BitVec 32 := 512#32
  let v106 : BitVec 32 := Scalar.muli v97 c512_i32_32
  let v107 : BitVec 32 := v106
  let v108 : Index := Scalar.indexCast v107
  let c0_33 : Index := 0#32
  ![v108.toNat, 0]
def k0_mult3 (i : grid0.Coords) : BitVec 32 :=
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let c512_i32_37 : BitVec 32 := 512#32
  let v114 : BitVec 32 := Scalar.muli v19 c512_i32_37
  v114
@[reducible] def k0_t1_loop (i : grid0.Coords) : Scf.Loop 32 :=
  let c0_i32_82 : BitVec 32 := 0#32
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let v280 : BitVec 32 := Scalar.subi v19 c0_i32_82
  let c1_i32_83 : BitVec 32 := 1#32
  let v282 : BitVec 32 := Scalar.divsi v280 c1_i32_83
  let v283 : BitVec 32 := Scalar.muli v282 c1_i32_83
  let v284 : BitVec 32 := Scalar.addi c0_i32_82 v283
  let c1_i32_84 : BitVec 32 := 1#32
  ⟨c0_i32_82, v284, c1_i32_84⟩
def k0_mult4 (i : grid0.Coords) (k0_t1 : Fin (k0_t1_loop i).trips) : BitVec 32 :=
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let c2_i32 : BitVec 32 := 2#32
  let v329 : BitVec 32 := Scalar.subi v19 c2_i32
  let c0_i32_82 : BitVec 32 := 0#32
  let c1_i32_84 : BitVec 32 := 1#32
  let arg7 : BitVec 32 := Scf.iv c0_i32_82 c1_i32_84 k0_t1
  let v330 : BitVec 32 := Scalar.subi v329 arg7
  let c0_i32_100 : BitVec 32 := 0#32
  let v331 : BitVec 32 := Scalar.maxsi v330 c0_i32_100
  let c512_i32_101 : BitVec 32 := 512#32
  let v332 : BitVec 32 := Scalar.muli v331 c512_i32_101
  v332
def k0_off3 (i : grid0.Coords) (k0_t1 : Fin (k0_t1_loop i).trips) : Fin 2 → Nat :=
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let c2_i32 : BitVec 32 := 2#32
  let v329 : BitVec 32 := Scalar.subi v19 c2_i32
  let c0_i32_82 : BitVec 32 := 0#32
  let c1_i32_84 : BitVec 32 := 1#32
  let arg7 : BitVec 32 := Scf.iv c0_i32_82 c1_i32_84 k0_t1
  let v330 : BitVec 32 := Scalar.subi v329 arg7
  let c0_i32_100 : BitVec 32 := 0#32
  let v331 : BitVec 32 := Scalar.maxsi v330 c0_i32_100
  let c512_i32_101 : BitVec 32 := 512#32
  let v332 : BitVec 32 := Scalar.muli v331 c512_i32_101
  let v333 : BitVec 32 := v332
  let v334 : Index := Scalar.indexCast v333
  let c0_102 : Index := 0#32
  ![v334.toNat, 0]
def k0_mult5 (i : grid0.Coords) (k0_t1 : Fin (k0_t1_loop i).trips) : BitVec 32 :=
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let c1_i32_99 : BitVec 32 := 1#32
  let v327 : BitVec 32 := Scalar.subi v19 c1_i32_99
  let c0_i32_82 : BitVec 32 := 0#32
  let c1_i32_84 : BitVec 32 := 1#32
  let arg7 : BitVec 32 := Scf.iv c0_i32_82 c1_i32_84 k0_t1
  let v328 : BitVec 32 := Scalar.subi v327 arg7
  let c512_i32_106 : BitVec 32 := 512#32
  let v340 : BitVec 32 := Scalar.muli v328 c512_i32_106
  v340
def k0_off4 (i : grid0.Coords) (k0_t1 : Fin (k0_t1_loop i).trips) : Fin 2 → Nat :=
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let c1_i32_99 : BitVec 32 := 1#32
  let v327 : BitVec 32 := Scalar.subi v19 c1_i32_99
  let c0_i32_82 : BitVec 32 := 0#32
  let c1_i32_84 : BitVec 32 := 1#32
  let arg7 : BitVec 32 := Scf.iv c0_i32_82 c1_i32_84 k0_t1
  let v328 : BitVec 32 := Scalar.subi v327 arg7
  let c512_i32_106 : BitVec 32 := 512#32
  let v340 : BitVec 32 := Scalar.muli v328 c512_i32_106
  let v341 : BitVec 32 := v340
  let v342 : Index := Scalar.indexCast v341
  let c0_107 : Index := 0#32
  ![v342.toNat, 0]
@[reducible] def k0_t2_loop (i : grid0.Coords) : Scf.Loop 32 :=
  let c0_i32_82 : BitVec 32 := 0#32
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let v280 : BitVec 32 := Scalar.subi v19 c0_i32_82
  let c1_i32_83 : BitVec 32 := 1#32
  let v282 : BitVec 32 := Scalar.divsi v280 c1_i32_83
  let v283 : BitVec 32 := Scalar.muli v282 c1_i32_83
  let v284 : BitVec 32 := Scalar.addi c0_i32_82 v283
  let v281 : BitVec 32 := Scalar.addi c0_i32_82 v280
  let c1_i32_85 : BitVec 32 := 1#32
  ⟨v284, v281, c1_i32_85⟩
def k0_mult6 (i : grid0.Coords) (k0_t2 : Fin (k0_t2_loop i).trips) : BitVec 32 :=
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let c2_i32 : BitVec 32 := 2#32
  let v329 : BitVec 32 := Scalar.subi v19 c2_i32
  let c0_i32_82 : BitVec 32 := 0#32
  let v280 : BitVec 32 := Scalar.subi v19 c0_i32_82
  let c1_i32_83 : BitVec 32 := 1#32
  let v282 : BitVec 32 := Scalar.divsi v280 c1_i32_83
  let v283 : BitVec 32 := Scalar.muli v282 c1_i32_83
  let v284 : BitVec 32 := Scalar.addi c0_i32_82 v283
  let c1_i32_85 : BitVec 32 := 1#32
  let arg7 : BitVec 32 := Scf.iv v284 c1_i32_85 k0_t2
  let v330 : BitVec 32 := Scalar.subi v329 arg7
  let c0_i32_100 : BitVec 32 := 0#32
  let v331 : BitVec 32 := Scalar.maxsi v330 c0_i32_100
  let c512_i32_101 : BitVec 32 := 512#32
  let v332 : BitVec 32 := Scalar.muli v331 c512_i32_101
  v332
def k0_off5 (i : grid0.Coords) (k0_t2 : Fin (k0_t2_loop i).trips) : Fin 2 → Nat :=
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let c2_i32 : BitVec 32 := 2#32
  let v329 : BitVec 32 := Scalar.subi v19 c2_i32
  let c0_i32_82 : BitVec 32 := 0#32
  let v280 : BitVec 32 := Scalar.subi v19 c0_i32_82
  let c1_i32_83 : BitVec 32 := 1#32
  let v282 : BitVec 32 := Scalar.divsi v280 c1_i32_83
  let v283 : BitVec 32 := Scalar.muli v282 c1_i32_83
  let v284 : BitVec 32 := Scalar.addi c0_i32_82 v283
  let c1_i32_85 : BitVec 32 := 1#32
  let arg7 : BitVec 32 := Scf.iv v284 c1_i32_85 k0_t2
  let v330 : BitVec 32 := Scalar.subi v329 arg7
  let c0_i32_100 : BitVec 32 := 0#32
  let v331 : BitVec 32 := Scalar.maxsi v330 c0_i32_100
  let c512_i32_101 : BitVec 32 := 512#32
  let v332 : BitVec 32 := Scalar.muli v331 c512_i32_101
  let v333 : BitVec 32 := v332
  let v334 : Index := Scalar.indexCast v333
  let c0_102 : Index := 0#32
  ![v334.toNat, 0]
def k0_mult7 (i : grid0.Coords) (k0_t2 : Fin (k0_t2_loop i).trips) : BitVec 32 :=
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let c1_i32_99 : BitVec 32 := 1#32
  let v327 : BitVec 32 := Scalar.subi v19 c1_i32_99
  let c0_i32_82 : BitVec 32 := 0#32
  let v280 : BitVec 32 := Scalar.subi v19 c0_i32_82
  let c1_i32_83 : BitVec 32 := 1#32
  let v282 : BitVec 32 := Scalar.divsi v280 c1_i32_83
  let v283 : BitVec 32 := Scalar.muli v282 c1_i32_83
  let v284 : BitVec 32 := Scalar.addi c0_i32_82 v283
  let c1_i32_85 : BitVec 32 := 1#32
  let arg7 : BitVec 32 := Scf.iv v284 c1_i32_85 k0_t2
  let v328 : BitVec 32 := Scalar.subi v327 arg7
  let c512_i32_106 : BitVec 32 := 512#32
  let v340 : BitVec 32 := Scalar.muli v328 c512_i32_106
  v340
def k0_off6 (i : grid0.Coords) (k0_t2 : Fin (k0_t2_loop i).trips) : Fin 2 → Nat :=
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let c1_i32_99 : BitVec 32 := 1#32
  let v327 : BitVec 32 := Scalar.subi v19 c1_i32_99
  let c0_i32_82 : BitVec 32 := 0#32
  let v280 : BitVec 32 := Scalar.subi v19 c0_i32_82
  let c1_i32_83 : BitVec 32 := 1#32
  let v282 : BitVec 32 := Scalar.divsi v280 c1_i32_83
  let v283 : BitVec 32 := Scalar.muli v282 c1_i32_83
  let v284 : BitVec 32 := Scalar.addi c0_i32_82 v283
  let c1_i32_85 : BitVec 32 := 1#32
  let arg7 : BitVec 32 := Scf.iv v284 c1_i32_85 k0_t2
  let v328 : BitVec 32 := Scalar.subi v327 arg7
  let c512_i32_106 : BitVec 32 := 512#32
  let v340 : BitVec 32 := Scalar.muli v328 c512_i32_106
  let v341 : BitVec 32 := v340
  let v342 : Index := Scalar.indexCast v341
  let c0_107 : Index := 0#32
  ![v342.toNat, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 8], ![false, false]⟩

def k1_mult1 : BitVec 32 :=
  let c0_i32_34 : BitVec 32 := 0#32
  c0_i32_34
@[reducible] def k1_t1_loop (i : grid1.Coords) : Scf.Loop 32 :=
  let c0_i32_39 : BitVec 32 := 0#32
  let arg1 : BitVec 32 := BitVec.ofNat 32 (i 1).val
  let c512_i32 : BitVec 32 := 512#32
  let v5 : BitVec 32 := Scalar.muli arg1 c512_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c512_i32_1 : BitVec 32 := 512#32
  let c0_i32_4 : BitVec 32 := 0#32
  let v12 : BitVec 1 := Scalar.cmpi .sgt c512_i32_1 c0_i32_4
  let v13 : BitVec 32 := Scalar.extui v12
  let c0_i32_5 : BitVec 32 := 0#32
  let v14 : BitVec 1 := Scalar.cmpi .slt c512_i32_1 c0_i32_5
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_6 : BitVec 32 := 0#32
  let v19 : BitVec 1 := Scalar.cmpi .ne v18 c0_i32_6
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let v125 : BitVec 32 := Scalar.subi v22 c0_i32_39
  let c1_i32_40 : BitVec 32 := 1#32
  let v127 : BitVec 32 := Scalar.divsi v125 c1_i32_40
  let v128 : BitVec 32 := Scalar.muli v127 c1_i32_40
  let v129 : BitVec 32 := Scalar.addi c0_i32_39 v128
  let c1_i32_41 : BitVec 32 := 1#32
  ⟨c0_i32_39, v129, c1_i32_41⟩
def k1_mult2 (i : grid1.Coords) (k1_t1 : Fin (k1_t1_loop i).trips) : BitVec 32 :=
  let c0_i32_39 : BitVec 32 := 0#32
  let c1_i32_41 : BitVec 32 := 1#32
  let arg11 : BitVec 32 := Scf.iv c0_i32_39 c1_i32_41 k1_t1
  let c1_i32_139 : BitVec 32 := 1#32
  let v486 : BitVec 32 := Scalar.addi arg11 c1_i32_139
  let c512_i32_140 : BitVec 32 := 512#32
  let v487 : BitVec 32 := Scalar.muli v486 c512_i32_140
  v487
def k1_off1 (i : grid1.Coords) (k1_t1 : Fin (k1_t1_loop i).trips) : Fin 2 → Nat :=
  let c0_i32_39 : BitVec 32 := 0#32
  let c1_i32_41 : BitVec 32 := 1#32
  let arg11 : BitVec 32 := Scf.iv c0_i32_39 c1_i32_41 k1_t1
  let c1_i32_139 : BitVec 32 := 1#32
  let v486 : BitVec 32 := Scalar.addi arg11 c1_i32_139
  let c512_i32_140 : BitVec 32 := 512#32
  let v487 : BitVec 32 := Scalar.muli v486 c512_i32_140
  let v488 : BitVec 32 := v487
  let v489 : Index := Scalar.indexCast v488
  let c0_141 : Index := 0#32
  ![v489.toNat, 0]
def k1_mult3 (i : grid1.Coords) (k1_t1 : Fin (k1_t1_loop i).trips) : BitVec 32 :=
  let c0_i32_39 : BitVec 32 := 0#32
  let c1_i32_41 : BitVec 32 := 1#32
  let arg11 : BitVec 32 := Scf.iv c0_i32_39 c1_i32_41 k1_t1
  let c512_i32_145 : BitVec 32 := 512#32
  let v495 : BitVec 32 := Scalar.muli arg11 c512_i32_145
  v495
def k1_off2 (i : grid1.Coords) (k1_t1 : Fin (k1_t1_loop i).trips) : Fin 2 → Nat :=
  let c0_i32_39 : BitVec 32 := 0#32
  let c1_i32_41 : BitVec 32 := 1#32
  let arg11 : BitVec 32 := Scf.iv c0_i32_39 c1_i32_41 k1_t1
  let c512_i32_145 : BitVec 32 := 512#32
  let v495 : BitVec 32 := Scalar.muli arg11 c512_i32_145
  let v496 : BitVec 32 := v495
  let v497 : Index := Scalar.indexCast v496
  let c0_146 : Index := 0#32
  ![v497.toNat, 0]
@[reducible] def k1_t2_loop (i : grid1.Coords) : Scf.Loop 32 :=
  let c0_i32_39 : BitVec 32 := 0#32
  let arg1 : BitVec 32 := BitVec.ofNat 32 (i 1).val
  let c512_i32 : BitVec 32 := 512#32
  let v5 : BitVec 32 := Scalar.muli arg1 c512_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c512_i32_1 : BitVec 32 := 512#32
  let c0_i32_4 : BitVec 32 := 0#32
  let v12 : BitVec 1 := Scalar.cmpi .sgt c512_i32_1 c0_i32_4
  let v13 : BitVec 32 := Scalar.extui v12
  let c0_i32_5 : BitVec 32 := 0#32
  let v14 : BitVec 1 := Scalar.cmpi .slt c512_i32_1 c0_i32_5
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_6 : BitVec 32 := 0#32
  let v19 : BitVec 1 := Scalar.cmpi .ne v18 c0_i32_6
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let v125 : BitVec 32 := Scalar.subi v22 c0_i32_39
  let c1_i32_40 : BitVec 32 := 1#32
  let v127 : BitVec 32 := Scalar.divsi v125 c1_i32_40
  let v128 : BitVec 32 := Scalar.muli v127 c1_i32_40
  let v129 : BitVec 32 := Scalar.addi c0_i32_39 v128
  let v126 : BitVec 32 := Scalar.addi c0_i32_39 v125
  let c1_i32_42 : BitVec 32 := 1#32
  ⟨v129, v126, c1_i32_42⟩
def k1_mult4 (i : grid1.Coords) (k1_t2 : Fin (k1_t2_loop i).trips) : BitVec 32 :=
  let c0_i32_39 : BitVec 32 := 0#32
  let arg1 : BitVec 32 := BitVec.ofNat 32 (i 1).val
  let c512_i32 : BitVec 32 := 512#32
  let v5 : BitVec 32 := Scalar.muli arg1 c512_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c512_i32_1 : BitVec 32 := 512#32
  let c0_i32_4 : BitVec 32 := 0#32
  let v12 : BitVec 1 := Scalar.cmpi .sgt c512_i32_1 c0_i32_4
  let v13 : BitVec 32 := Scalar.extui v12
  let c0_i32_5 : BitVec 32 := 0#32
  let v14 : BitVec 1 := Scalar.cmpi .slt c512_i32_1 c0_i32_5
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_6 : BitVec 32 := 0#32
  let v19 : BitVec 1 := Scalar.cmpi .ne v18 c0_i32_6
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let v125 : BitVec 32 := Scalar.subi v22 c0_i32_39
  let c1_i32_40 : BitVec 32 := 1#32
  let v127 : BitVec 32 := Scalar.divsi v125 c1_i32_40
  let v128 : BitVec 32 := Scalar.muli v127 c1_i32_40
  let v129 : BitVec 32 := Scalar.addi c0_i32_39 v128
  let c1_i32_42 : BitVec 32 := 1#32
  let arg11 : BitVec 32 := Scf.iv v129 c1_i32_42 k1_t2
  let c1_i32_139 : BitVec 32 := 1#32
  let v486 : BitVec 32 := Scalar.addi arg11 c1_i32_139
  let c512_i32_140 : BitVec 32 := 512#32
  let v487 : BitVec 32 := Scalar.muli v486 c512_i32_140
  v487
def k1_off3 (i : grid1.Coords) (k1_t2 : Fin (k1_t2_loop i).trips) : Fin 2 → Nat :=
  let c0_i32_39 : BitVec 32 := 0#32
  let arg1 : BitVec 32 := BitVec.ofNat 32 (i 1).val
  let c512_i32 : BitVec 32 := 512#32
  let v5 : BitVec 32 := Scalar.muli arg1 c512_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c512_i32_1 : BitVec 32 := 512#32
  let c0_i32_4 : BitVec 32 := 0#32
  let v12 : BitVec 1 := Scalar.cmpi .sgt c512_i32_1 c0_i32_4
  let v13 : BitVec 32 := Scalar.extui v12
  let c0_i32_5 : BitVec 32 := 0#32
  let v14 : BitVec 1 := Scalar.cmpi .slt c512_i32_1 c0_i32_5
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_6 : BitVec 32 := 0#32
  let v19 : BitVec 1 := Scalar.cmpi .ne v18 c0_i32_6
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let v125 : BitVec 32 := Scalar.subi v22 c0_i32_39
  let c1_i32_40 : BitVec 32 := 1#32
  let v127 : BitVec 32 := Scalar.divsi v125 c1_i32_40
  let v128 : BitVec 32 := Scalar.muli v127 c1_i32_40
  let v129 : BitVec 32 := Scalar.addi c0_i32_39 v128
  let c1_i32_42 : BitVec 32 := 1#32
  let arg11 : BitVec 32 := Scf.iv v129 c1_i32_42 k1_t2
  let c1_i32_139 : BitVec 32 := 1#32
  let v486 : BitVec 32 := Scalar.addi arg11 c1_i32_139
  let c512_i32_140 : BitVec 32 := 512#32
  let v487 : BitVec 32 := Scalar.muli v486 c512_i32_140
  let v488 : BitVec 32 := v487
  let v489 : Index := Scalar.indexCast v488
  let c0_141 : Index := 0#32
  ![v489.toNat, 0]
def k1_mult5 (i : grid1.Coords) (k1_t2 : Fin (k1_t2_loop i).trips) : BitVec 32 :=
  let c0_i32_39 : BitVec 32 := 0#32
  let arg1 : BitVec 32 := BitVec.ofNat 32 (i 1).val
  let c512_i32 : BitVec 32 := 512#32
  let v5 : BitVec 32 := Scalar.muli arg1 c512_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c512_i32_1 : BitVec 32 := 512#32
  let c0_i32_4 : BitVec 32 := 0#32
  let v12 : BitVec 1 := Scalar.cmpi .sgt c512_i32_1 c0_i32_4
  let v13 : BitVec 32 := Scalar.extui v12
  let c0_i32_5 : BitVec 32 := 0#32
  let v14 : BitVec 1 := Scalar.cmpi .slt c512_i32_1 c0_i32_5
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_6 : BitVec 32 := 0#32
  let v19 : BitVec 1 := Scalar.cmpi .ne v18 c0_i32_6
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let v125 : BitVec 32 := Scalar.subi v22 c0_i32_39
  let c1_i32_40 : BitVec 32 := 1#32
  let v127 : BitVec 32 := Scalar.divsi v125 c1_i32_40
  let v128 : BitVec 32 := Scalar.muli v127 c1_i32_40
  let v129 : BitVec 32 := Scalar.addi c0_i32_39 v128
  let c1_i32_42 : BitVec 32 := 1#32
  let arg11 : BitVec 32 := Scf.iv v129 c1_i32_42 k1_t2
  let c512_i32_145 : BitVec 32 := 512#32
  let v495 : BitVec 32 := Scalar.muli arg11 c512_i32_145
  v495
def k1_off4 (i : grid1.Coords) (k1_t2 : Fin (k1_t2_loop i).trips) : Fin 2 → Nat :=
  let c0_i32_39 : BitVec 32 := 0#32
  let arg1 : BitVec 32 := BitVec.ofNat 32 (i 1).val
  let c512_i32 : BitVec 32 := 512#32
  let v5 : BitVec 32 := Scalar.muli arg1 c512_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c512_i32_1 : BitVec 32 := 512#32
  let c0_i32_4 : BitVec 32 := 0#32
  let v12 : BitVec 1 := Scalar.cmpi .sgt c512_i32_1 c0_i32_4
  let v13 : BitVec 32 := Scalar.extui v12
  let c0_i32_5 : BitVec 32 := 0#32
  let v14 : BitVec 1 := Scalar.cmpi .slt c512_i32_1 c0_i32_5
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_6 : BitVec 32 := 0#32
  let v19 : BitVec 1 := Scalar.cmpi .ne v18 c0_i32_6
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let v125 : BitVec 32 := Scalar.subi v22 c0_i32_39
  let c1_i32_40 : BitVec 32 := 1#32
  let v127 : BitVec 32 := Scalar.divsi v125 c1_i32_40
  let v128 : BitVec 32 := Scalar.muli v127 c1_i32_40
  let v129 : BitVec 32 := Scalar.addi c0_i32_39 v128
  let c1_i32_42 : BitVec 32 := 1#32
  let arg11 : BitVec 32 := Scf.iv v129 c1_i32_42 k1_t2
  let c512_i32_145 : BitVec 32 := 512#32
  let v495 : BitVec 32 := Scalar.muli arg11 c512_i32_145
  let v496 : BitVec 32 := v495
  let v497 : Index := Scalar.indexCast v496
  let c0_146 : Index := 0#32
  ![v497.toNat, 0]
def k1_mult6 (i : grid1.Coords) : BitVec 32 :=
  let arg1 : BitVec 32 := BitVec.ofNat 32 (i 1).val
  let c512_i32 : BitVec 32 := 512#32
  let v5 : BitVec 32 := Scalar.muli arg1 c512_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c512_i32_1 : BitVec 32 := 512#32
  let c0_i32_4 : BitVec 32 := 0#32
  let v12 : BitVec 1 := Scalar.cmpi .sgt c512_i32_1 c0_i32_4
  let v13 : BitVec 32 := Scalar.extui v12
  let c0_i32_5 : BitVec 32 := 0#32
  let v14 : BitVec 1 := Scalar.cmpi .slt c512_i32_1 c0_i32_5
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_6 : BitVec 32 := 0#32
  let v19 : BitVec 1 := Scalar.cmpi .ne v18 c0_i32_6
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c512_i32_43 : BitVec 32 := 512#32
  let v132 : BitVec 32 := Scalar.muli v22 c512_i32_43
  v132
def k1_off5 (i : grid1.Coords) : Fin 2 → Nat :=
  let arg1 : BitVec 32 := BitVec.ofNat 32 (i 1).val
  let c512_i32 : BitVec 32 := 512#32
  let v5 : BitVec 32 := Scalar.muli arg1 c512_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c512_i32_1 : BitVec 32 := 512#32
  let c0_i32_4 : BitVec 32 := 0#32
  let v12 : BitVec 1 := Scalar.cmpi .sgt c512_i32_1 c0_i32_4
  let v13 : BitVec 32 := Scalar.extui v12
  let c0_i32_5 : BitVec 32 := 0#32
  let v14 : BitVec 1 := Scalar.cmpi .slt c512_i32_1 c0_i32_5
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_6 : BitVec 32 := 0#32
  let v19 : BitVec 1 := Scalar.cmpi .ne v18 c0_i32_6
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c512_i32_43 : BitVec 32 := 512#32
  let v132 : BitVec 32 := Scalar.muli v22 c512_i32_43
  let v133 : BitVec 32 := v132
  let v134 : Index := Scalar.indexCast v133
  let c0_44 : Index := 0#32
  ![v134.toNat, 0]
def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== ReferenceIdeal.lean ====
abbrev S4096x3072 : Shape := ⟨2, ![4096, 3072]⟩
abbrev S4096x256 : Shape := ⟨2, ![4096, 256]⟩
abbrev S4096x4x64 : Shape := ⟨3, ![4096, 4, 64]⟩
abbrev S4096 : Shape := ⟨1, ![4096]⟩
abbrev S4x4096x4096 : Shape := ⟨3, ![4, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x64x4096 : Shape := ⟨3, ![4, 64, 4096]⟩
abbrev S4x4096x64 : Shape := ⟨3, ![4, 4096, 64]⟩

abbrev nBuf : Space → Nat
  | .hbm => 182
  | .vmem => 0
  | .smem => 0
  | _ => 0

abbrev hbmTy0_0 (i : Nat) : BufTy := match i % 128 with
  | 0 => ⟨S4096x3072, .bf16⟩
  | 1 => ⟨S4096x256, .f32⟩
  | 2 => ⟨S4096x256, .bf16⟩
  | 3 => ⟨S4096x4x64, .bf16⟩
  | 4 => ⟨S4096x256, .bf16⟩
  | 5 => ⟨S4096x4x64, .bf16⟩
  | 6 => ⟨S4096x256, .bf16⟩
  | 7 => ⟨S4096x4x64, .bf16⟩
  | 8 => ⟨S4096, .i32⟩
  | 9 => ⟨S4x4096x4096, .f32⟩
  | 10 => ⟨S_, .f32⟩
  | 11 => ⟨S4x4096x4096, .f32⟩
  | 12 => ⟨S4x4096x4096, .f32⟩
  | 13 => ⟨S1x4096, .i32⟩
  | 14 => ⟨S4096x1, .i32⟩
  | 15 => ⟨S4096x4096, .i32⟩
  | 16 => ⟨S4096x4096, .i32⟩
  | 17 => ⟨S4096x4096, .i1⟩
  | 18 => ⟨S4x4096x4096, .f32⟩
  | 19 => ⟨S4x4096x4096, .f32⟩
  | 20 => ⟨S_, .f32⟩
  | 21 => ⟨S4x4096x4096, .f32⟩
  | 22 => ⟨S4x4096x4096, .f32⟩
  | 23 => ⟨S4x4096x4096, .f32⟩
  | 24 => ⟨S4x4096x4096, .f32⟩
  | 25 => ⟨S4x4096x4096, .i1⟩
  | 26 => ⟨S4x4096x4096, .f32⟩
  | 27 => ⟨S4x4096x4096, .f32⟩
  | 28 => ⟨S4x4096x4096, .f32⟩
  | 29 => ⟨S4x4096x4096, .f32⟩
  | 30 => ⟨S4x4096x4096, .f32⟩
  | 31 => ⟨S4x4096x4096, .f32⟩
  | 32 => ⟨S4x4096x4096, .f32⟩
  | 33 => ⟨S4x4096x4096, .f32⟩
  | 34 => ⟨S_, .f32⟩
  | 35 => ⟨S4x4096x4096, .f32⟩
  | 36 => ⟨S4x4096x4096, .i1⟩
  | 37 => ⟨S_, .f32⟩
  | 38 => ⟨S4x4096x4096, .f32⟩
  | 39 => ⟨S4x4096x4096, .f32⟩
  | 40 => ⟨S_, .f32⟩
  | 41 => ⟨S4x4096x4096, .f32⟩
  | 42 => ⟨S4x4096x4096, .i1⟩
  | 43 => ⟨S_, .f32⟩
  | 44 => ⟨S4x4096x4096, .f32⟩
  | 45 => ⟨S4x4096x4096, .f32⟩
  | 46 => ⟨S4x4096x4096, .f32⟩
  | 47 => ⟨S4x4096x4096, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S4x4096x4096, .f32⟩
  | 56 => ⟨S4x4096x4096, .i1⟩
  | 57 => ⟨S_, .f32⟩
  | 58 => ⟨S4x4096x4096, .f32⟩
  | 59 => ⟨S4x4096x4096, .f32⟩
  | 60 => ⟨S4x4096x4096, .f32⟩
  | 61 => ⟨S4x4096x4096, .f32⟩
  | 62 => ⟨S4x4096x4096, .f32⟩
  | 63 => ⟨S_, .f32⟩
  | 64 => ⟨S4x4096x4096, .f32⟩
  | 65 => ⟨S4x4096x4096, .f32⟩
  | 66 => ⟨S4x4096x4096, .f32⟩
  | 67 => ⟨S_, .f32⟩
  | 68 => ⟨S_, .f32⟩
  | 69 => ⟨S4x4096x4096, .i1⟩
  | 70 => ⟨S4x4096x4096, .f32⟩
  | 71 => ⟨S4x4096x4096, .f32⟩
  | 72 => ⟨S_, .f32⟩
  | 73 => ⟨S4x4096x4096, .f32⟩
  | 74 => ⟨S_, .f32⟩
  | 75 => ⟨S_, .f32⟩
  | 76 => ⟨S4x4096x4096, .f32⟩
  | 77 => ⟨S4x4096x4096, .f32⟩
  | 78 => ⟨S4x4096x4096, .f32⟩
  | 79 => ⟨S_, .f32⟩
  | 80 => ⟨S4x4096x4096, .f32⟩
  | 81 => ⟨S4x4096x4096, .f32⟩
  | 82 => ⟨S4x4096x4096, .f32⟩
  | 83 => ⟨S4x4096x4096, .f32⟩
  | 84 => ⟨S4x4096x4096, .i1⟩
  | 85 => ⟨S4x4096x4096, .f32⟩
  | 86 => ⟨S4x4096x4096, .f32⟩
  | 87 => ⟨S4x4096x4096, .f32⟩
  | 88 => ⟨S4x4096x4096, .f32⟩
  | 89 => ⟨S4x4096x4096, .f32⟩
  | 90 => ⟨S4x4096x4096, .f32⟩
  | 91 => ⟨S4x4096x4096, .f32⟩
  | 92 => ⟨S4x4096x4096, .f32⟩
  | 93 => ⟨S_, .f32⟩
  | 94 => ⟨S4x4096x4096, .f32⟩
  | 95 => ⟨S4x4096x4096, .i1⟩
  | 96 => ⟨S_, .f32⟩
  | 97 => ⟨S4x4096x4096, .f32⟩
  | 98 => ⟨S4x4096x4096, .f32⟩
  | 99 => ⟨S_, .f32⟩
  | 100 => ⟨S4x4096x4096, .f32⟩
  | 101 => ⟨S4x4096x4096, .i1⟩
  | 102 => ⟨S_, .f32⟩
  | 103 => ⟨S4x4096x4096, .f32⟩
  | 104 => ⟨S4x4096x4096, .f32⟩
  | 105 => ⟨S4x4096x4096, .f32⟩
  | 106 => ⟨S4x4096x4096, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S4x4096x4096, .f32⟩
  | 115 => ⟨S4x4096x4096, .i1⟩
  | 116 => ⟨S_, .f32⟩
  | 117 => ⟨S4x4096x4096, .f32⟩
  | 118 => ⟨S4x4096x4096, .f32⟩
  | 119 => ⟨S4x4096x4096, .f32⟩
  | 120 => ⟨S4x4096x4096, .f32⟩
  | 121 => ⟨S4x4096x4096, .f32⟩
  | 122 => ⟨S_, .f32⟩
  | 123 => ⟨S4x4096x4096, .f32⟩
  | 124 => ⟨S4x4096x4096, .f32⟩
  | 125 => ⟨S4x4096x4096, .f32⟩
  | 126 => ⟨S4x4096x4096, .f32⟩
  | 127 => ⟨S4x4096x4096, .f32⟩
  | _ => ⟨S4096x3072, .bf16⟩

abbrev hbmTy0_1 (i : Nat) : BufTy := match i % 128 with
  | 0 => ⟨S_, .f32⟩
  | 1 => ⟨S_, .f32⟩
  | 2 => ⟨S4x4096x4096, .i1⟩
  | 3 => ⟨S4x4096x4096, .f32⟩
  | 4 => ⟨S4x4096x4096, .f32⟩
  | 5 => ⟨S_, .f32⟩
  | 6 => ⟨S4x4096x4096, .f32⟩
  | 7 => ⟨S4x4096x4096, .bf16⟩
  | 8 => ⟨S4x64x4096, .f32⟩
  | 9 => ⟨S4096x4x64, .f32⟩
  | 10 => ⟨S4096x4x64, .f32⟩
  | 11 => ⟨S4x64x4096, .f32⟩
  | 12 => ⟨S4x4096x4096, .f32⟩
  | 13 => ⟨S4x4096x4096, .bf16⟩
  | 14 => ⟨S4x64x4096, .f32⟩
  | 15 => ⟨S4096x4x64, .f32⟩
  | 16 => ⟨S4096x4x64, .bf16⟩
  | 17 => ⟨S4x4096x4096, .f32⟩
  | 18 => ⟨S_, .f32⟩
  | 19 => ⟨S4x4096x4096, .f32⟩
  | 20 => ⟨S4x4096x4096, .f32⟩
  | 21 => ⟨S4x4096x4096, .f32⟩
  | 22 => ⟨S4x4096x4096, .f32⟩
  | 23 => ⟨S4x4096x4096, .f32⟩
  | 24 => ⟨S4x4096x4096, .f32⟩
  | 25 => ⟨S4x4096x4096, .f32⟩
  | 26 => ⟨S_, .f32⟩
  | 27 => ⟨S_, .f32⟩
  | 28 => ⟨S4x4096x4096, .f32⟩
  | 29 => ⟨S4x4096x4096, .f32⟩
  | 30 => ⟨S_, .f32⟩
  | 31 => ⟨S4x4096x4096, .f32⟩
  | 32 => ⟨S4x4096x4096, .f32⟩
  | 33 => ⟨S4x4096x4096, .f32⟩
  | 34 => ⟨S4x4096x4096, .f32⟩
  | 35 => ⟨S4x4096x4096, .f32⟩
  | 36 => ⟨S4x4096x4096, .f32⟩
  | 37 => ⟨S4x4096x4096, .f32⟩
  | 38 => ⟨S_, .f32⟩
  | 39 => ⟨S4x4096x4096, .f32⟩
  | 40 => ⟨S4x4096x4096, .f32⟩
  | 41 => ⟨S4x4096x64, .f32⟩
  | 42 => ⟨S4096x4x64, .f32⟩
  | 43 => ⟨S4096x4x64, .bf16⟩
  | 44 => ⟨S4x4096x64, .f32⟩
  | 45 => ⟨S4096x4x64, .f32⟩
  | 46 => ⟨S4096x4x64, .bf16⟩
  | 47 => ⟨S4096x256, .f32⟩
  | 48 => ⟨S4096x256, .bf16⟩
  | 49 => ⟨S4096x256, .f32⟩
  | 50 => ⟨S4096x256, .bf16⟩
  | 51 => ⟨S4096x256, .f32⟩
  | 52 => ⟨S4096x256, .bf16⟩
  | 53 => ⟨S4096x256, .f32⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v16_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v16_2 : Ref sig .tc := ⟨.hbm, 65, rfl⟩
abbrev main_v16_0 : Ref sig .tc := ⟨.hbm, 66, rfl⟩
abbrev main_cst_0 : Ref sig .tc := ⟨.hbm, 67, rfl⟩
abbrev main_call1_v0 : Ref sig .tc := ⟨.hbm, 68, rfl⟩
abbrev main_v17_1 : Ref sig .tc := ⟨.hbm, 69, rfl⟩
abbrev main_call1_v2 : Ref sig .tc := ⟨.hbm, 70, rfl⟩
abbrev main_v17_0 : Ref sig .tc := ⟨.hbm, 71, rfl⟩
abbrev main_call1_cst : Ref sig .tc := ⟨.hbm, 72, rfl⟩
abbrev main_v17_2 : Ref sig .tc := ⟨.hbm, 73, rfl⟩
abbrev main_call2_cst : Ref sig .tc := ⟨.hbm, 74, rfl⟩
abbrev main_call2_v0 : Ref sig .tc := ⟨.hbm, 75, rfl⟩
abbrev main_v18 : Ref sig .tc := ⟨.hbm, 76, rfl⟩
abbrev main_v19 : Ref sig .tc := ⟨.hbm, 77, rfl⟩
abbrev main_call3_v0 : Ref sig .tc := ⟨.hbm, 78, rfl⟩
abbrev main_call3_call0_cst : Ref sig .tc := ⟨.hbm, 79, rfl⟩
abbrev main_call3_call0_v0 : Ref sig .tc := ⟨.hbm, 80, rfl⟩
abbrev main_call3_call0_v1 : Ref sig .tc := ⟨.hbm, 81, rfl⟩
abbrev main_call3_call0_v2 : Ref sig .tc := ⟨.hbm, 82, rfl⟩
abbrev main_call3_call0_v3 : Ref sig .tc := ⟨.hbm, 83, rfl⟩
abbrev main_call3_call0_v4 : Ref sig .tc := ⟨.hbm, 84, rfl⟩
abbrev main_call3_call0_v5 : Ref sig .tc := ⟨.hbm, 85, rfl⟩
abbrev main_call3_call0_v6 : Ref sig .tc := ⟨.hbm, 86, rfl⟩
abbrev main_call3_call0_v7 : Ref sig .tc := ⟨.hbm, 87, rfl⟩
abbrev main_call3_call0_v8 : Ref sig .tc := ⟨.hbm, 88, rfl⟩
abbrev main_call3_call0_v9 : Ref sig .tc := ⟨.hbm, 89, rfl⟩
abbrev main_call3_call0_v10 : Ref sig .tc := ⟨.hbm, 90, rfl⟩
abbrev main_call3_call0_v11 : Ref sig .tc := ⟨.hbm, 91, rfl⟩
abbrev main_call3_v1_0 : Ref sig .tc := ⟨.hbm, 92, rfl⟩
abbrev main_call3_call0_cst_0 : Ref sig .tc := ⟨.hbm, 93, rfl⟩
abbrev main_call3_call0_v13 : Ref sig .tc := ⟨.hbm, 94, rfl⟩
abbrev main_call3_call0_v14 : Ref sig .tc := ⟨.hbm, 95, rfl⟩
abbrev main_call3_call0_cst_1 : Ref sig .tc := ⟨.hbm, 96, rfl⟩
abbrev main_call3_call0_v15 : Ref sig .tc := ⟨.hbm, 97, rfl⟩
abbrev main_call3_call0_v16 : Ref sig .tc := ⟨.hbm, 98, rfl⟩
abbrev main_call3_call0_cst_2 : Ref sig .tc := ⟨.hbm, 99, rfl⟩
abbrev main_call3_call0_v17 : Ref sig .tc := ⟨.hbm, 100, rfl⟩
abbrev main_call3_call0_v18 : Ref sig .tc := ⟨.hbm, 101, rfl⟩
abbrev main_call3_call0_cst_3 : Ref sig .tc := ⟨.hbm, 102, rfl⟩
abbrev main_call3_call0_v19 : Ref sig .tc := ⟨.hbm, 103, rfl⟩
abbrev main_call3_call0_v20 : Ref sig .tc := ⟨.hbm, 104, rfl⟩
abbrev main_call3_call0_v21 : Ref sig .tc := ⟨.hbm, 105, rfl⟩
abbrev main_v20_1 : Ref sig .tc := ⟨.hbm, 106, rfl⟩
abbrev main_call3_call0_cst_4 : Ref sig .tc := ⟨.hbm, 107, rfl⟩
abbrev main_call3_call0_cst_5 : Ref sig .tc := ⟨.hbm, 108, rfl⟩
abbrev main_call3_call0_v23 : Ref sig .tc := ⟨.hbm, 109, rfl⟩
abbrev main_call3_call0_cst_6 : Ref sig .tc := ⟨.hbm, 110, rfl⟩
abbrev main_call3_call0_cst_7 : Ref sig .tc := ⟨.hbm, 111, rfl⟩
abbrev main_call3_call0_v24 : Ref sig .tc := ⟨.hbm, 112, rfl⟩
abbrev main_call3_call0_cst_8 : Ref sig .tc := ⟨.hbm, 113, rfl⟩
abbrev main_call3_call0_v25 : Ref sig .tc := ⟨.hbm, 114, rfl⟩
abbrev main_call3_call0_v26 : Ref sig .tc := ⟨.hbm, 115, rfl⟩
abbrev main_call3_call0_cst_9 : Ref sig .tc := ⟨.hbm, 116, rfl⟩
abbrev main_call3_call0_v27 : Ref sig .tc := ⟨.hbm, 117, rfl⟩
abbrev main_call3_call0_v28 : Ref sig .tc := ⟨.hbm, 118, rfl⟩
abbrev main_call3_call0_v29 : Ref sig .tc := ⟨.hbm, 119, rfl⟩
abbrev main_call3_call0_v30 : Ref sig .tc := ⟨.hbm, 120, rfl⟩
abbrev main_call3_call0_v31 : Ref sig .tc := ⟨.hbm, 121, rfl⟩
abbrev main_call3_call0_cst_10 : Ref sig .tc := ⟨.hbm, 122, rfl⟩
abbrev main_call3_call0_v32 : Ref sig .tc := ⟨.hbm, 123, rfl⟩
abbrev main_v20_2 : Ref sig .tc := ⟨.hbm, 124, rfl⟩
abbrev main_v20_0 : Ref sig .tc := ⟨.hbm, 125, rfl⟩
abbrev main_v21 : Ref sig .tc := ⟨.hbm, 126, rfl⟩
abbrev main_v22 : Ref sig .tc := ⟨.hbm, 127, rfl⟩
abbrev main_cst_1 : Ref sig .tc := ⟨.hbm, 128, rfl⟩
abbrev main_call4_v0 : Ref sig .tc := ⟨.hbm, 129, rfl⟩
abbrev main_v23_1 : Ref sig .tc := ⟨.hbm, 130, rfl⟩
abbrev main_call4_v2 : Ref sig .tc := ⟨.hbm, 131, rfl⟩
abbrev main_v23_0 : Ref sig .tc := ⟨.hbm, 132, rfl⟩
abbrev main_call4_cst : Ref sig .tc := ⟨.hbm, 133, rfl⟩
abbrev main_v23_2 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_call5_cst : Ref sig .tc := ⟨.hbm, 146, rfl⟩
abbrev main_call5_v0 : Ref sig .tc := ⟨.hbm, 147, rfl⟩
abbrev main_v35 : Ref sig .tc := ⟨.hbm, 148, rfl⟩
abbrev main_v36 : Ref sig .tc := ⟨.hbm, 149, rfl⟩
abbrev main_call6_v0 : Ref sig .tc := ⟨.hbm, 150, rfl⟩
abbrev main_call6_v1 : Ref sig .tc := ⟨.hbm, 151, rfl⟩
abbrev main_v37 : Ref sig .tc := ⟨.hbm, 152, rfl⟩
abbrev main_v38 : Ref sig .tc := ⟨.hbm, 153, rfl⟩
abbrev main_call7_cst : Ref sig .tc := ⟨.hbm, 154, rfl⟩
abbrev main_call7_v0 : Ref sig .tc := ⟨.hbm, 155, rfl⟩
abbrev main_v39 : Ref sig .tc := ⟨.hbm, 156, rfl⟩
abbrev main_v40 : Ref sig .tc := ⟨.hbm, 157, rfl⟩
abbrev main_call8_cst : Ref sig .tc := ⟨.hbm, 158, rfl⟩
abbrev main_call8_v0 : Ref sig .tc := ⟨.hbm, 159, rfl⟩
abbrev main_v41 : Ref sig .tc := ⟨.hbm, 160, rfl⟩
abbrev main_call9_v0 : Ref sig .tc := ⟨.hbm, 161, rfl⟩
abbrev main_call9_v1 : Ref sig .tc := ⟨.hbm, 162, rfl⟩
abbrev main_v42 : Ref sig .tc := ⟨.hbm, 163, rfl⟩
abbrev main_v43 : Ref sig .tc := ⟨.hbm, 164, rfl⟩
abbrev main_v44 : Ref sig .tc := ⟨.hbm, 165, rfl⟩
abbrev main_cst_2 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩

abbrev nD : Nat := 1
abbrev τ : Topo := Topo.v7x

variable {F : FTy → Type} [FloatOps F]
-- ==== Mlp.lean ====
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 18
  | .vmem => 40
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S1024x4096, .bf16⟩
  | .hbm, ⟨6, _⟩ => ⟨S4096x1024, .bf16⟩
  | .hbm, ⟨7, _⟩ => ⟨S4096x1024, .bf16⟩
  | .hbm, ⟨8, _⟩ => ⟨S1024x4x1024, .bf16⟩
  | .hbm, ⟨9, _⟩ => ⟨S4x1024x1024, .bf16⟩
  | .hbm, ⟨10, _⟩ => ⟨S4096x4096, .bf16⟩
  | .hbm, ⟨11, _⟩ => ⟨S4096x1024, .f32⟩
  | .hbm, ⟨12, _⟩ => ⟨S4096x4096, .bf16⟩
  | .hbm, ⟨13, _⟩ => ⟨S4096x1024, .f32⟩
  | .hbm, ⟨14, _⟩ => ⟨S4096x1024, .f32⟩
  | .hbm, ⟨15, _⟩ => ⟨S4x1024x1024, .f32⟩
  | .hbm, ⟨16, _⟩ => ⟨S1024x4x1024, .f32⟩
  | .hbm, ⟨17, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x4096, .bf16⟩
  | .local _ .vmem, ⟨8, _⟩ => ⟨S1024x4096, .bf16⟩
  | .local _ .vmem, ⟨9, _⟩ => ⟨S4096x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .f32⟩
  | .local _ .vmem, ⟨22, _⟩ => ⟨S4096x1024, .bf16⟩
  | .local _ .vmem, ⟨23, _⟩ => ⟨S4096x1024, .bf16⟩
  | .local _ .vmem, ⟨24, _⟩ => ⟨S4096x1024, .bf16⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1024x4096, .bf16⟩
  | .local _ .vmem, ⟨29, _⟩ => ⟨S1024x4096, .bf16⟩
  | .local _ .vmem, ⟨30, _⟩ => ⟨S4x1024x1024, .bf16⟩
  | .local _ .vmem, ⟨31, _⟩ => ⟨S1024x1024, .f32⟩
  | .local _ .vmem, ⟨32, _⟩ => ⟨S1024x1024, .f32⟩
  | .local _ .vmem, ⟨33, _⟩ => ⟨S1024x1024, .f32⟩
  | .local _ .vmem, ⟨34, _⟩ => ⟨S4096x1024, .bf16⟩
  | .local _ .vmem, ⟨35, _⟩ => ⟨S4096x1024, .bf16⟩
  | .local _ .vmem, ⟨36, _⟩ => ⟨S4096x1024, .bf16⟩
  | .local _ .vmem, ⟨37, _⟩ => ⟨S1x1024x1024, .f32⟩
  | .local _ .vmem, ⟨38, _⟩ => ⟨S1x1024x1024, .f32⟩
  | .local _ .vmem, ⟨39, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_scratch0 : Ref sig .tc := ⟨.vmem, 33, rfl⟩
abbrev cc5_stg0_0 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem1_0 : DmaSem sig := 30
abbrev cc5_sem1_1 : DmaSem sig := 31
abbrev cc5_sem2_0 : DmaSem sig := 32
abbrev cc5_sem2_1 : DmaSem sig := 33

abbrev nD : Nat := 1
abbrev τ : Topo := Topo.v7x

variable {F : FTy → Type} [FloatOps F]

abbrev grid0 : Pipeline.Grid := ⟨3, ![4, 4, 1], ![false, false, false]⟩

def k0_cond3 (i : grid0.Coords) : BitVec 1 :=
  let arg2 : BitVec 32 := BitVec.ofNat 32 (i 2).val
  let c0_i32_7 : BitVec 32 := 0#32
  let v11 : BitVec 1 := Scalar.cmpi .eq arg2 c0_i32_7
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def k1_cond3 (i : grid1.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 4, 1], ![false, false, false]⟩

def k2_cond3 (i : grid2.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![4, 1, 1], ![false, false, false]⟩

def k3_cond3 (i : grid3.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 1, 1], ![false, false, false]⟩

def k4_cond3 (i : grid4.Coords) : BitVec 1 :=
  let arg2 : BitVec 32 := BitVec.ofNat 32 (i 2).val
  let c0_i32_13 : BitVec 32 := 0#32
  let v18 : BitVec 1 := Scalar.cmpi .eq arg2 c0_i32_13
  let v19 : BitVec 32 := Scalar.extui v18
  let c0_i32_14 : BitVec 32 := 0#32
  let v20 : BitVec 1 := Scalar.cmpi .ne v19 c0_i32_14
  v20

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S4x1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, false]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 4, 1], ![false, false, false]⟩

def k5_cond3 (i : grid5.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1x1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== MlpReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S1024x4096, .f32⟩
  | .hbm, ⟨19, _⟩ => ⟨S4096x1024, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x1024, .f32⟩
  | .hbm, ⟨26, _⟩ => ⟨S1024x4096, .f32⟩
  | .hbm, ⟨27, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Proj.lean ====
abbrev S4096x1024 : Shape := ⟨2, ![4096, 1024]⟩
abbrev S1024x2980 : Shape := ⟨2, ![1024, 2980]⟩
abbrev S4096x2980 : Shape := ⟨2, ![4096, 2980]⟩
abbrev S1024x1024 : Shape := ⟨2, ![1024, 1024]⟩
abbrev S1024x4 : Shape := ⟨2, ![1024, 4]⟩
abbrev S_ : Shape := ⟨0, ![]⟩
abbrev S1024x60 : Shape := ⟨2, ![1024, 60]⟩
abbrev S1024x32 : Shape := ⟨2, ![1024, 32]⟩
abbrev S1024x128 : Shape := ⟨2, ![1024, 128]⟩
abbrev S1024x768 : Shape := ⟨2, ![1024, 768]⟩
abbrev S1024x256 : Shape := ⟨2, ![1024, 256]⟩
abbrev S1024x1792 : Shape := ⟨2, ![1024, 1792]⟩
abbrev S1024x3072 : Shape := ⟨2, ![1024, 3072]⟩
abbrev S4096x4 : Shape := ⟨2, ![4096, 4]⟩
abbrev S4096x60 : Shape := ⟨2, ![4096, 60]⟩
abbrev S4096x32 : Shape := ⟨2, ![4096, 32]⟩
abbrev S4096x128 : Shape := ⟨2, ![4096, 128]⟩
abbrev S4096x768 : Shape := ⟨2, ![4096, 768]⟩
abbrev S4096x256 : Shape := ⟨2, ![4096, 256]⟩
abbrev S4096x1792 : Shape := ⟨2, ![4096, 1792]⟩
abbrev S4096x3072 : Shape := ⟨2, ![4096, 3072]⟩

abbrev nBuf : Space → Nat
  | .hbm => 64
  | .vmem => 37
  | .smem => 0
  | _ => 0

abbrev bufTy : (tb : Table) → Fin (tcTables nBuf tb) → BufTy
  | .hbm, ⟨0, _⟩ => ⟨S4096x1024, .f32⟩
  | .hbm, ⟨1, _⟩ => ⟨S1024x2980, .f32⟩
  | .hbm, ⟨2, _⟩ => ⟨S4096x2980, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .bf16⟩
  | .hbm, ⟨7, _⟩ => ⟨S1024x2980, .bf16⟩
  | .hbm, ⟨8, _⟩ => ⟨S4096x2980, .bf16⟩
  | .hbm, ⟨9, _⟩ => ⟨S4096x1024, .bf16⟩
  | .hbm, ⟨10, _⟩ => ⟨S1024x1024, .bf16⟩
  | .hbm, ⟨11, _⟩ => ⟨S4096x1024, .bf16⟩
  | .hbm, ⟨12, _⟩ => ⟨S1024x4, .bf16⟩
  | .hbm, ⟨13, _⟩ => ⟨S_, .bf16⟩
  | .hbm, ⟨14, _⟩ => ⟨S1024x60, .bf16⟩
  | .hbm, ⟨15, _⟩ => ⟨S1024x32, .bf16⟩
  | .hbm, ⟨16, _⟩ => ⟨S_, .bf16⟩
  | .hbm, ⟨17, _⟩ => ⟨S1024x32, .bf16⟩
  | .hbm, ⟨18, _⟩ => ⟨S1024x128, .bf16⟩
  | .hbm, ⟨19, _⟩ => ⟨S1024x768, .bf16⟩
  | .hbm, ⟨20, _⟩ => ⟨S1024x256, .bf16⟩
  | .hbm, ⟨21, _⟩ => ⟨S1024x1792, .bf16⟩
  | .hbm, ⟨22, _⟩ => ⟨S1024x128, .bf16⟩
  | .hbm, ⟨23, _⟩ => ⟨S1024x3072, .bf16⟩
  | .hbm, ⟨24, _⟩ => ⟨S4096x4, .bf16⟩
  | .hbm, ⟨25, _⟩ => ⟨S_, .bf16⟩
  | .hbm, ⟨26, _⟩ => ⟨S4096x60, .bf16⟩
  | .hbm, ⟨27, _⟩ => ⟨S4096x32, .bf16⟩
  | .hbm, ⟨28, _⟩ => ⟨S_, .bf16⟩
  | .hbm, ⟨29, _⟩ => ⟨S4096x32, .bf16⟩
  | .hbm, ⟨30, _⟩ => ⟨S4096x128, .bf16⟩
  | .hbm, ⟨31, _⟩ => ⟨S4096x768, .bf16⟩
  | .hbm, ⟨32, _⟩ => ⟨S4096x256, .bf16⟩
  | .hbm, ⟨33, _⟩ => ⟨S4096x1792, .bf16⟩
  | .hbm, ⟨34, _⟩ => ⟨S4096x128, .bf16⟩
  | .hbm, ⟨35, _⟩ => ⟨S4096x3072, .bf16⟩
  | .hbm, ⟨36, _⟩ => ⟨S4096x3072, .f32⟩
  | .hbm, ⟨37, _⟩ => ⟨S4096x3072, .bf16⟩
  | .hbm, ⟨38, _⟩ => ⟨S4096x1024, .f32⟩
  | .hbm, ⟨39, _⟩ => ⟨S1024x3072, .f32⟩
  | .hbm, ⟨40, _⟩ => ⟨S4096x1024, .f32⟩
  | .hbm, ⟨41, _⟩ => ⟨S4096x1024, .f32⟩
  | .hbm, ⟨42, _⟩ => ⟨S1024x1024, .f32⟩
  | .hbm, ⟨43, _⟩ => ⟨S4096x768, .f32⟩
  | .hbm, ⟨44, _⟩ => ⟨S4096x4, .f32⟩
  | .hbm, ⟨45, _⟩ => ⟨S4096x256, .f32⟩
  | .hbm, ⟨46, _⟩ => ⟨S4096x128, .f32⟩
  | .hbm, ⟨47, _⟩ => ⟨S4096x32, .f32⟩
  | .hbm, ⟨48, _⟩ => ⟨S4096x1792, .f32⟩
  | .hbm, ⟨49, _⟩ => ⟨S4096x2980, .f32⟩
  | .hbm, ⟨50, _⟩ => ⟨S4096x768, .bf16⟩
  | .hbm, ⟨51, _⟩ => ⟨S4096x4, .bf16⟩
  | .hbm, ⟨52, _⟩ => ⟨S4096x256, .bf16⟩
  | .hbm, ⟨53, _⟩ => ⟨S4096x128, .bf16⟩
  | .hbm, ⟨54, _⟩ => ⟨S4096x32, .bf16⟩
  | .hbm, ⟨55, _⟩ => ⟨S4096x1792, .bf16⟩
  | .hbm, ⟨56, _⟩ => ⟨S4096x2980, .bf16⟩
  | .hbm, ⟨57, _⟩ => ⟨S1024x768, .f32⟩
  | .hbm, ⟨58, _⟩ => ⟨S1024x4, .f32⟩
  | .hbm, ⟨59, _⟩ => ⟨S1024x256, .f32⟩
  | .hbm, ⟨60, _⟩ => ⟨S1024x128, .f32⟩
  | .hbm, ⟨61, _⟩ => ⟨S1024x32, .f32⟩
  | .hbm, ⟨62, _⟩ => ⟨S1024x1792, .f32⟩
  | .hbm, ⟨63, _⟩ => ⟨S1024x2980, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x3072, .bf16⟩
  | .local _ .vmem, ⟨10, _⟩ => ⟨S1024x3072, .bf16⟩
  | .local _ .vmem, ⟨11, _⟩ => ⟨S1024x3072, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S4096x1024, .bf16⟩
  | .local _ .vmem, ⟨16, _⟩ => ⟨S4096x1024, .bf16⟩
  | .local _ .vmem, ⟨17, _⟩ => ⟨S4096x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .f32⟩
  | .local _ .vmem, ⟨31, _⟩ => ⟨S1024x1024, .f32⟩
  | .local _ .vmem, ⟨32, _⟩ => ⟨S1024x1024, .f32⟩
  | .local _ .vmem, ⟨33, _⟩ => ⟨S4096x1024, .bf16⟩
  | .local _ .vmem, ⟨34, _⟩ => ⟨S4096x1024, .bf16⟩
  | .local _ .vmem, ⟨35, _⟩ => ⟨S1024x1024, .f32⟩
  | .local _ .vmem, ⟨36, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26_0 : Ref sig .tc := ⟨.hbm, 36, rfl⟩
abbrev main_v26_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_scratch0 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc4_scratch0 : Ref sig .tc := ⟨.vmem, 32, rfl⟩
abbrev cc5_stg0_0 : Ref sig .tc := ⟨.vmem, 33, rfl⟩
abbrev cc5_stg1_0 : Ref sig .tc := ⟨.vmem, 34, rfl⟩
abbrev cc5_stg2_0 : Ref sig .tc := ⟨.vmem, 35, rfl⟩
abbrev cc5_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem1_0 : DmaSem sig := 29
abbrev cc5_sem2_0 : DmaSem sig := 30

abbrev nD : Nat := 1
abbrev τ : Topo := Topo.v7x

variable {F : FTy → Type} [FloatOps F]

abbrev grid0 : Pipeline.Grid := ⟨3, ![4, 3, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 1, 1], ![false, false, false]⟩

def k1_cond3 (i : grid1.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x3072 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 3, 1], ![false, false, false]⟩

def k2_cond3 (i : grid2.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 1, 1], ![false, false, false]⟩

def k3_cond3 (i : grid3.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 1, 1], ![false, false, false]⟩

def k4_cond3 (i : grid4.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 1, 1], ![false, false, false]⟩

def k5_cond3 (i : grid5.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 1 → Memref sig .tc .vmem S4096x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 1 → Memref sig .tc .vmem S1024x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true, false]
-- ==== ProjReferenceIdeal.lean ====
abbrev S4096x1024 : Shape := ⟨2, ![4096, 1024]⟩
abbrev S1024x2980 : Shape := ⟨2, ![1024, 2980]⟩
abbrev S4096x2980 : Shape := ⟨2, ![4096, 2980]⟩
abbrev S1024x1024 : Shape := ⟨2, ![1024, 1024]⟩
abbrev S2980x1024 : Shape := ⟨2, ![2980, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2980, .f32⟩
  | .hbm, ⟨2, _⟩ => ⟨S4096x2980, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x2980, .f32⟩
  | .hbm, ⟨7, _⟩ => ⟨S4096x1024, .f32⟩
  | .hbm, ⟨8, _⟩ => ⟨S4096x2980, .bf16⟩
  | .hbm, ⟨9, _⟩ => ⟨S2980x1024, .f32⟩
  | .hbm, ⟨10, _⟩ => ⟨S1024x2980, .f32⟩
  | .hbm, ⟨11, _⟩ => ⟨S4096x1024, .f32⟩
  | .hbm, ⟨12, _⟩ => ⟨S1024x1024, .f32⟩
  | .hbm, ⟨13, _⟩ => ⟨S1024x1024, .f32⟩
  | .hbm, ⟨14, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Mla.lean ====
abbrev S4096x4x96 : Shape := ⟨3, ![4096, 4, 96]⟩
abbrev S4096x256 : Shape := ⟨2, ![4096, 256]⟩
abbrev S_ : Shape := ⟨0, ![]⟩
abbrev S4096x4x128 : Shape := ⟨3, ![4096, 4, 128]⟩
abbrev S4096x512 : Shape := ⟨2, ![4096, 512]⟩
abbrev S4096x4x64 : Shape := ⟨3, ![4096, 4, 64]⟩
abbrev S2x4096x128 : Shape := ⟨3, ![2, 4096, 128]⟩
abbrev S512x256 : Shape := ⟨2, ![512, 256]⟩
abbrev S1x512x128 : Shape := ⟨3, ![1, 512, 128]⟩
abbrev S512x512 : Shape := ⟨2, ![512, 512]⟩
abbrev S1x128 : Shape := ⟨2, ![1, 128]⟩
abbrev S512x128 : Shape := ⟨2, ![512, 128]⟩
abbrev S512x1 : Shape := ⟨2, ![512, 1]⟩
abbrev S512 : Shape := ⟨1, ![512]⟩

abbrev nBuf : Space → Nat
  | .hbm => 37
  | .vmem => 28
  | .smem => 0
  | _ => 0

abbrev bufTy : (tb : Table) → Fin (tcTables nBuf tb) → BufTy
  | .hbm, ⟨0, _⟩ => ⟨S4096x4x96, .bf16⟩
  | .hbm, ⟨1, _⟩ => ⟨S4096x4x96, .bf16⟩
  | .hbm, ⟨2, _⟩ => ⟨S4096x256, .bf16⟩
  | .hbm, ⟨3, _⟩ => ⟨S4096x256, .f32⟩
  | .hbm, ⟨4, _⟩ => ⟨S_, .i32⟩
  | .hbm, ⟨5, _⟩ => ⟨S_, .bf16⟩
  | .hbm, ⟨6, _⟩ => ⟨S4096x4x128, .bf16⟩
  | .hbm, ⟨7, _⟩ => ⟨S4096x512, .bf16⟩
  | .hbm, ⟨8, _⟩ => ⟨S_, .i32⟩
  | .hbm, ⟨9, _⟩ => ⟨S_, .bf16⟩
  | .hbm, ⟨10, _⟩ => ⟨S4096x4x128, .bf16⟩
  | .hbm, ⟨11, _⟩ => ⟨S4096x512, .bf16⟩
  | .hbm, ⟨12, _⟩ => ⟨S4096x4x64, .bf16⟩
  | .hbm, ⟨13, _⟩ => ⟨S_, .i32⟩
  | .hbm, ⟨14, _⟩ => ⟨S_, .bf16⟩
  | .hbm, ⟨15, _⟩ => ⟨S4096x4x128, .bf16⟩
  | .hbm, ⟨16, _⟩ => ⟨S4096x512, .bf16⟩
  | .hbm, ⟨17, _⟩ => ⟨S4096x512, .f32⟩
  | .hbm, ⟨18, _⟩ => ⟨S2x4096x128, .f32⟩
  | .hbm, ⟨19, _⟩ => ⟨S4096x4x64, .f32⟩
  | .hbm, ⟨20, _⟩ => ⟨S_, .i32⟩
  | .hbm, ⟨21, _⟩ => ⟨S_, .f32⟩
  | .hbm, ⟨22, _⟩ => ⟨S4096x4x128, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x4x128, .f32⟩
  | .hbm, ⟨28, _⟩ => ⟨S4096x4x64, .f32⟩
  | .hbm, ⟨29, _⟩ => ⟨S4096x256, .f32⟩
  | .hbm, ⟨30, _⟩ => ⟨S4096x4x128, .f32⟩
  | .hbm, ⟨31, _⟩ => ⟨S4096x4x96, .f32⟩
  | .hbm, ⟨32, _⟩ => ⟨S4096x4x128, .f32⟩
  | .hbm, ⟨33, _⟩ => ⟨S4096x4x96, .f32⟩
  | .hbm, ⟨34, _⟩ => ⟨S4096x4x128, .f32⟩
  | .hbm, ⟨35, _⟩ => ⟨S4096x4x64, .f32⟩
  | .hbm, ⟨36, _⟩ => ⟨S4096x256, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S512x256, .f32⟩
  | .local _ .vmem, ⟨7, _⟩ => ⟨S512x256, .f32⟩
  | .local _ .vmem, ⟨8, _⟩ => ⟨S1x512x128, .f32⟩
  | .local _ .vmem, ⟨9, _⟩ => ⟨S1x512x128, .f32⟩
  | .local _ .vmem, ⟨10, _⟩ => ⟨S512x256, .bf16⟩
  | .local _ .vmem, ⟨11, _⟩ => ⟨S512x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S1x512x128, .f32⟩
  | .local _ .vmem, ⟨21, _⟩ => ⟨S1x512x128, .f32⟩
  | .local _ .vmem, ⟨22, _⟩ => ⟨S512x256, .f32⟩
  | .local _ .vmem, ⟨23, _⟩ => ⟨S512x256, .f32⟩
  | .local _ .vmem, ⟨24, _⟩ => ⟨S4096x256, .f32⟩
  | .local _ .vmem, ⟨25, _⟩ => ⟨S4096x256, .f32⟩
  | .local _ .vmem, ⟨26, _⟩ => ⟨S4096x256, .f32⟩
  | .local _ .vmem, ⟨27, _⟩ => ⟨S4096x256, .f32⟩
  | _, _ => ⟨S4096x4x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v8 : Ref sig .tc := ⟨.hbm, 19, rfl⟩
abbrev main_c_2 : Ref sig .tc := ⟨.hbm, 20, rfl⟩
abbrev main_call3_v0 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![2, 8], ![false, false]⟩

def k0_mult1 : BitVec 32 :=
  let c0_i32_10 : BitVec 32 := 0#32
  c0_i32_10
@[reducible] def k0_t1_loop (i : grid0.Coords) : Scf.Loop 32 :=
  let c0_i32_15 : BitVec 32 := 0#32
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let v41 : BitVec 32 := Scalar.subi v19 c0_i32_15
  let c1_i32_16 : BitVec 32 := 1#32
  let v43 : BitVec 32 := Scalar.divsi v41 c1_i32_16
  let v44 : BitVec 32 := Scalar.muli v43 c1_i32_16
  let v45 : BitVec 32 := Scalar.addi c0_i32_15 v44
  let c1_i32_17 : BitVec 32 := 1#32
  ⟨c0_i32_15, v45, c1_i32_17⟩
def k0_mult2 (i : grid0.Coords) (k0_t1 : Fin (k0_t1_loop i).trips) : BitVec 32 :=
  let c0_i32_15 : BitVec 32 := 0#32
  let c1_i32_17 : BitVec 32 := 1#32
  let arg7 : BitVec 32 := Scf.iv c0_i32_15 c1_i32_17 k0_t1
  let c1_i32_52 : BitVec 32 := 1#32
  let v158 : BitVec 32 := Scalar.addi arg7 c1_i32_52
  let c512_i32_53 : BitVec 32 := 512#32
  let v159 : BitVec 32 := Scalar.muli v158 c512_i32_53
  v159
def k0_off1 (i : grid0.Coords) (k0_t1 : Fin (k0_t1_loop i).trips) : Fin 2 → Nat :=
  let c0_i32_15 : BitVec 32 := 0#32
  let c1_i32_17 : BitVec 32 := 1#32
  let arg7 : BitVec 32 := Scf.iv c0_i32_15 c1_i32_17 k0_t1
  let c1_i32_52 : BitVec 32 := 1#32
  let v158 : BitVec 32 := Scalar.addi arg7 c1_i32_52
  let c512_i32_53 : BitVec 32 := 512#32
  let v159 : BitVec 32 := Scalar.muli v158 c512_i32_53
  let v160 : BitVec 32 := v159
  let v161 : Index := Scalar.indexCast v160
  let c0_54 : Index := 0#32
  ![v161.toNat, 0]
def k0_off2 (i : grid0.Coords) (k0_t1 : Fin (k0_t1_loop i).trips) : Fin 2 → Nat :=
  let c0_i32_15 : BitVec 32 := 0#32
  let c1_i32_17 : BitVec 32 := 1#32
  let arg7 : BitVec 32 := Scf.iv c0_i32_15 c1_i32_17 k0_t1
  let c1_i32_52 : BitVec 32 := 1#32
  let v158 : BitVec 32 := Scalar.addi arg7 c1_i32_52
  let c512_i32_53 : BitVec 32 := 512#32
  let v159 : BitVec 32 := Scalar.muli v158 c512_i32_53
  let v160 : BitVec 32 := v159
  let v165 : Index := Scalar.indexCast v160
  let c128_56 : Index := 128#32
  ![v165.toNat, 128]
def k0_mult3 (i : grid0.Coords) (k0_t1 : Fin (k0_t1_loop i).trips) : BitVec 32 :=
  let c0_i32_15 : BitVec 32 := 0#32
  let c1_i32_17 : BitVec 32 := 1#32
  let arg7 : BitVec 32 := Scf.iv c0_i32_15 c1_i32_17 k0_t1
  let c512_i32_58 : BitVec 32 := 512#32
  let v169 : BitVec 32 := Scalar.muli arg7 c512_i32_58
  v169
def k0_off3 (i : grid0.Coords) (k0_t1 : Fin (k0_t1_loop i).trips) : Fin 2 → Nat :=
  let c0_i32_15 : BitVec 32 := 0#32
  let c1_i32_17 : BitVec 32 := 1#32
  let arg7 : BitVec 32 := Scf.iv c0_i32_15 c1_i32_17 k0_t1
  let c512_i32_58 : BitVec 32 := 512#32
  let v169 : BitVec 32 := Scalar.muli arg7 c512_i32_58
  let v170 : BitVec 32 := v169
  let v171 : Index := Scalar.indexCast v170
  let c0_59 : Index := 0#32
  ![v171.toNat, 0]
def k0_off4 (i : grid0.Coords) (k0_t1 : Fin (k0_t1_loop i).trips) : Fin 2 → Nat :=
  let c0_i32_15 : BitVec 32 := 0#32
  let c1_i32_17 : BitVec 32 := 1#32
  let arg7 : BitVec 32 := Scf.iv c0_i32_15 c1_i32_17 k0_t1
  let c512_i32_58 : BitVec 32 := 512#32
  let v169 : BitVec 32 := Scalar.muli arg7 c512_i32_58
  let v170 : BitVec 32 := v169
  let v193 : Index := Scalar.indexCast v170
  let c128_64 : Index := 128#32
  ![v193.toNat, 128]
@[reducible] def k0_t2_loop (i : grid0.Coords) : Scf.Loop 32 :=
  let c0_i32_15 : BitVec 32 := 0#32
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let v41 : BitVec 32 := Scalar.subi v19 c0_i32_15
  let c1_i32_16 : BitVec 32 := 1#32
  let v43 : BitVec 32 := Scalar.divsi v41 c1_i32_16
  let v44 : BitVec 32 := Scalar.muli v43 c1_i32_16
  let v45 : BitVec 32 := Scalar.addi c0_i32_15 v44
  let v42 : BitVec 32 := Scalar.addi c0_i32_15 v41
  let c1_i32_18 : BitVec 32 := 1#32
  ⟨v45, v42, c1_i32_18⟩
def k0_mult4 (i : grid0.Coords) (k0_t2 : Fin (k0_t2_loop i).trips) : BitVec 32 :=
  let c0_i32_15 : BitVec 32 := 0#32
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let v41 : BitVec 32 := Scalar.subi v19 c0_i32_15
  let c1_i32_16 : BitVec 32 := 1#32
  let v43 : BitVec 32 := Scalar.divsi v41 c1_i32_16
  let v44 : BitVec 32 := Scalar.muli v43 c1_i32_16
  let v45 : BitVec 32 := Scalar.addi c0_i32_15 v44
  let c1_i32_18 : BitVec 32 := 1#32
  let arg7 : BitVec 32 := Scf.iv v45 c1_i32_18 k0_t2
  let c1_i32_52 : BitVec 32 := 1#32
  let v158 : BitVec 32 := Scalar.addi arg7 c1_i32_52
  let c512_i32_53 : BitVec 32 := 512#32
  let v159 : BitVec 32 := Scalar.muli v158 c512_i32_53
  v159
def k0_off5 (i : grid0.Coords) (k0_t2 : Fin (k0_t2_loop i).trips) : Fin 2 → Nat :=
  let c0_i32_15 : BitVec 32 := 0#32
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let v41 : BitVec 32 := Scalar.subi v19 c0_i32_15
  let c1_i32_16 : BitVec 32 := 1#32
  let v43 : BitVec 32 := Scalar.divsi v41 c1_i32_16
  let v44 : BitVec 32 := Scalar.muli v43 c1_i32_16
  let v45 : BitVec 32 := Scalar.addi c0_i32_15 v44
  let c1_i32_18 : BitVec 32 := 1#32
  let arg7 : BitVec 32 := Scf.iv v45 c1_i32_18 k0_t2
  let c1_i32_52 : BitVec 32 := 1#32
  let v158 : BitVec 32 := Scalar.addi arg7 c1_i32_52
  let c512_i32_53 : BitVec 32 := 512#32
  let v159 : BitVec 32 := Scalar.muli v158 c512_i32_53
  let v160 : BitVec 32 := v159
  let v161 : Index := Scalar.indexCast v160
  let c0_54 : Index := 0#32
  ![v161.toNat, 0]
def k0_off6 (i : grid0.Coords) (k0_t2 : Fin (k0_t2_loop i).trips) : Fin 2 → Nat :=
  let c0_i32_15 : BitVec 32 := 0#32
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let v41 : BitVec 32 := Scalar.subi v19 c0_i32_15
  let c1_i32_16 : BitVec 32 := 1#32
  let v43 : BitVec 32 := Scalar.divsi v41 c1_i32_16
  let v44 : BitVec 32 := Scalar.muli v43 c1_i32_16
  let v45 : BitVec 32 := Scalar.addi c0_i32_15 v44
  let c1_i32_18 : BitVec 32 := 1#32
  let arg7 : BitVec 32 := Scf.iv v45 c1_i32_18 k0_t2
  let c1_i32_52 : BitVec 32 := 1#32
  let v158 : BitVec 32 := Scalar.addi arg7 c1_i32_52
  let c512_i32_53 : BitVec 32 := 512#32
  let v159 : BitVec 32 := Scalar.muli v158 c512_i32_53
  let v160 : BitVec 32 := v159
  let v165 : Index := Scalar.indexCast v160
  let c128_56 : Index := 128#32
  ![v165.toNat, 128]
def k0_mult5 (i : grid0.Coords) (k0_t2 : Fin (k0_t2_loop i).trips) : BitVec 32 :=
  let c0_i32_15 : BitVec 32 := 0#32
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let v41 : BitVec 32 := Scalar.subi v19 c0_i32_15
  let c1_i32_16 : BitVec 32 := 1#32
  let v43 : BitVec 32 := Scalar.divsi v41 c1_i32_16
  let v44 : BitVec 32 := Scalar.muli v43 c1_i32_16
  let v45 : BitVec 32 := Scalar.addi c0_i32_15 v44
  let c1_i32_18 : BitVec 32 := 1#32
  let arg7 : BitVec 32 := Scf.iv v45 c1_i32_18 k0_t2
  let c512_i32_58 : BitVec 32 := 512#32
  let v169 : BitVec 32 := Scalar.muli arg7 c512_i32_58
  v169
def k0_off7 (i : grid0.Coords) (k0_t2 : Fin (k0_t2_loop i).trips) : Fin 2 → Nat :=
  let c0_i32_15 : BitVec 32 := 0#32
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let v41 : BitVec 32 := Scalar.subi v19 c0_i32_15
  let c1_i32_16 : BitVec 32 := 1#32
  let v43 : BitVec 32 := Scalar.divsi v41 c1_i32_16
  let v44 : BitVec 32 := Scalar.muli v43 c1_i32_16
  let v45 : BitVec 32 := Scalar.addi c0_i32_15 v44
  let c1_i32_18 : BitVec 32 := 1#32
  let arg7 : BitVec 32 := Scf.iv v45 c1_i32_18 k0_t2
  let c512_i32_58 : BitVec 32 := 512#32
  let v169 : BitVec 32 := Scalar.muli arg7 c512_i32_58
  let v170 : BitVec 32 := v169
  let v171 : Index := Scalar.indexCast v170
  let c0_59 : Index := 0#32
  ![v171.toNat, 0]
def k0_off8 (i : grid0.Coords) (k0_t2 : Fin (k0_t2_loop i).trips) : Fin 2 → Nat :=
  let c0_i32_15 : BitVec 32 := 0#32
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let v41 : BitVec 32 := Scalar.subi v19 c0_i32_15
  let c1_i32_16 : BitVec 32 := 1#32
  let v43 : BitVec 32 := Scalar.divsi v41 c1_i32_16
  let v44 : BitVec 32 := Scalar.muli v43 c1_i32_16
  let v45 : BitVec 32 := Scalar.addi c0_i32_15 v44
  let c1_i32_18 : BitVec 32 := 1#32
  let arg7 : BitVec 32 := Scf.iv v45 c1_i32_18 k0_t2
  let c512_i32_58 : BitVec 32 := 512#32
  let v169 : BitVec 32 := Scalar.muli arg7 c512_i32_58
  let v170 : BitVec 32 := v169
  let v193 : Index := Scalar.indexCast v170
  let c128_64 : Index := 128#32
  ![v193.toNat, 128]
def k0_mult6 (i : grid0.Coords) : BitVec 32 :=
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let c512_i32_19 : BitVec 32 := 512#32
  let v48 : BitVec 32 := Scalar.muli v19 c512_i32_19
  v48
def k0_off9 (i : grid0.Coords) : Fin 2 → Nat :=
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let c512_i32_19 : BitVec 32 := 512#32
  let v48 : BitVec 32 := Scalar.muli v19 c512_i32_19
  let v49 : BitVec 32 := v48
  let v50 : Index := Scalar.indexCast v49
  let c0_20 : Index := 0#32
  ![v50.toNat, 0]
def k0_off10 (i : grid0.Coords) : Fin 2 → Nat :=
  let arg1 : BitVec 32 := BitVec.ofNat 32 (i 1).val
  let c512_i32 : BitVec 32 := 512#32
  let v2 : BitVec 32 := Scalar.muli arg1 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32_0 : BitVec 32 := 512#32
  let c0_i32_2 : BitVec 32 := 0#32
  let v9 : BitVec 1 := Scalar.cmpi .sgt c512_i32_0 c0_i32_2
  let v10 : BitVec 32 := Scalar.extui v9
  let c0_i32_3 : BitVec 32 := 0#32
  let v11 : BitVec 1 := Scalar.cmpi .slt c512_i32_0 c0_i32_3
  let v12 : BitVec 32 := Scalar.extui v11
  let v13 : BitVec 32 := Scalar.subi v10 v12
  let v14 : BitVec 1 := Scalar.cmpi .ne v8 v13
  let v15 : BitVec 32 := Scalar.remsi v2 c512_i32_0
  let c0_i32_4 : BitVec 32 := 0#32
  let v16 : BitVec 1 := Scalar.cmpi .ne v15 c0_i32_4
  let v17 : BitVec 1 := Scalar.andi v14 v16
  let v3 : BitVec 32 := Scalar.divsi v2 c512_i32_0
  let c1_i32 : BitVec 32 := 1#32
  let v18 : BitVec 32 := Scalar.subi v3 c1_i32
  let v19 : BitVec 32 := Scalar.select v17 v18 v3
  let c512_i32_19 : BitVec 32 := 512#32
  let v48 : BitVec 32 := Scalar.muli v19 c512_i32_19
  let v49 : BitVec 32 := v48
  let v81 : Index := Scalar.indexCast v49
  let c128_29 : Index := 128#32
  ![v81.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 8], ![false, false]⟩

def k1_mult1 : BitVec 32 :=
  let c0_i32_19 : BitVec 32 := 0#32
  c0_i32_19
@[reducible] def k1_t1_loop (i : grid1.Coords) : Scf.Loop 32 :=
  let c0_i32_28 : BitVec 32 := 0#32
  let arg1 : BitVec 32 := BitVec.ofNat 32 (i 1).val
  let c512_i32 : BitVec 32 := 512#32
  let v5 : BitVec 32 := Scalar.muli arg1 c512_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c512_i32_1 : BitVec 32 := 512#32
  let c0_i32_4 : BitVec 32 := 0#32
  let v12 : BitVec 1 := Scalar.cmpi .sgt c512_i32_1 c0_i32_4
  let v13 : BitVec 32 := Scalar.extui v12
  let c0_i32_5 : BitVec 32 := 0#32
  let v14 : BitVec 1 := Scalar.cmpi .slt c512_i32_1 c0_i32_5
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_6 : BitVec 32 := 0#32
  let v19 : BitVec 1 := Scalar.cmpi .ne v18 c0_i32_6
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let v68 : BitVec 32 := Scalar.subi v22 c0_i32_28
  let c1_i32_29 : BitVec 32 := 1#32
  let v70 : BitVec 32 := Scalar.divsi v68 c1_i32_29
  let v71 : BitVec 32 := Scalar.muli v70 c1_i32_29
  let v72 : BitVec 32 := Scalar.addi c0_i32_28 v71
  let c1_i32_30 : BitVec 32 := 1#32
  ⟨c0_i32_28, v72, c1_i32_30⟩
def k1_mult2 (i : grid1.Coords) (k1_t1 : Fin (k1_t1_loop i).trips) : BitVec 32 :=
  let c0_i32_28 : BitVec 32 := 0#32
  let c1_i32_30 : BitVec 32 := 1#32
  let arg11 : BitVec 32 := Scf.iv c0_i32_28 c1_i32_30 k1_t1
  let c1_i32_65 : BitVec 32 := 1#32
  let v159 : BitVec 32 := Scalar.addi arg11 c1_i32_65
  let c512_i32_66 : BitVec 32 := 512#32
  let v160 : BitVec 32 := Scalar.muli v159 c512_i32_66
  v160
def k1_off1 (i : grid1.Coords) (k1_t1 : Fin (k1_t1_loop i).trips) : Fin 2 → Nat :=
  let c0_i32_28 : BitVec 32 := 0#32
  let c1_i32_30 : BitVec 32 := 1#32
  let arg11 : BitVec 32 := Scf.iv c0_i32_28 c1_i32_30 k1_t1
  let c1_i32_65 : BitVec 32 := 1#32
  let v159 : BitVec 32 := Scalar.addi arg11 c1_i32_65
  let c512_i32_66 : BitVec 32 := 512#32
  let v160 : BitVec 32 := Scalar.muli v159 c512_i32_66
  let v161 : BitVec 32 := v160
  let v162 : Index := Scalar.indexCast v161
  let c0_67 : Index := 0#32
  ![v162.toNat, 0]
def k1_off2 (i : grid1.Coords) (k1_t1 : Fin (k1_t1_loop i).trips) : Fin 2 → Nat :=
  let c0_i32_28 : BitVec 32 := 0#32
  let c1_i32_30 : BitVec 32 := 1#32
  let arg11 : BitVec 32 := Scf.iv c0_i32_28 c1_i32_30 k1_t1
  let c1_i32_65 : BitVec 32 := 1#32
  let v159 : BitVec 32 := Scalar.addi arg11 c1_i32_65
  let c512_i32_66 : BitVec 32 := 512#32
  let v160 : BitVec 32 := Scalar.muli v159 c512_i32_66
  let v161 : BitVec 32 := v160
  let v170 : Index := Scalar.indexCast v161
  let c128_71 : Index := 128#32
  ![v170.toNat, 128]
def k1_mult3 (i : grid1.Coords) (k1_t1 : Fin (k1_t1_loop i).trips) : BitVec 32 :=
  let c0_i32_28 : BitVec 32 := 0#32
  let c1_i32_30 : BitVec 32 := 1#32
  let arg11 : BitVec 32 := Scf.iv c0_i32_28 c1_i32_30 k1_t1
  let c512_i32_75 : BitVec 32 := 512#32
  let v178 : BitVec 32 := Scalar.muli arg11 c512_i32_75
  v178
def k1_off3 (i : grid1.Coords) (k1_t1 : Fin (k1_t1_loop i).trips) : Fin 2 → Nat :=
  let c0_i32_28 : BitVec 32 := 0#32
  let c1_i32_30 : BitVec 32 := 1#32
  let arg11 : BitVec 32 := Scf.iv c0_i32_28 c1_i32_30 k1_t1
  let c512_i32_75 : BitVec 32 := 512#32
  let v178 : BitVec 32 := Scalar.muli arg11 c512_i32_75
  let v179 : BitVec 32 := v178
  let v192 : Index := Scalar.indexCast v179
  let c0_78 : Index := 0#32
  ![v192.toNat, 0]
def k1_off4 (i : grid1.Coords) (k1_t1 : Fin (k1_t1_loop i).trips) : Fin 2 → Nat :=
  let c0_i32_28 : BitVec 32 := 0#32
  let c1_i32_30 : BitVec 32 := 1#32
  let arg11 : BitVec 32 := Scf.iv c0_i32_28 c1_i32_30 k1_t1
  let c512_i32_75 : BitVec 32 := 512#32
  let v178 : BitVec 32 := Scalar.muli arg11 c512_i32_75
  let v179 : BitVec 32 := v178
  let v223 : Index := Scalar.indexCast v179
  let c128_88 : Index := 128#32
  ![v223.toNat, 128]
@[reducible] def k1_t2_loop (i : grid1.Coords) : Scf.Loop 32 :=
  let c0_i32_28 : BitVec 32 := 0#32
  let arg1 : BitVec 32 := BitVec.ofNat 32 (i 1).val
  let c512_i32 : BitVec 32 := 512#32
  let v5 : BitVec 32 := Scalar.muli arg1 c512_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c512_i32_1 : BitVec 32 := 512#32
  let c0_i32_4 : BitVec 32 := 0#32
  let v12 : BitVec 1 := Scalar.cmpi .sgt c512_i32_1 c0_i32_4
  let v13 : BitVec 32 := Scalar.extui v12
  let c0_i32_5 : BitVec 32 := 0#32
  let v14 : BitVec 1 := Scalar.cmpi .slt c512_i32_1 c0_i32_5
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_6 : BitVec 32 := 0#32
  let v19 : BitVec 1 := Scalar.cmpi .ne v18 c0_i32_6
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let v68 : BitVec 32 := Scalar.subi v22 c0_i32_28
  let c1_i32_29 : BitVec 32 := 1#32
  let v70 : BitVec 32 := Scalar.divsi v68 c1_i32_29
  let v71 : BitVec 32 := Scalar.muli v70 c1_i32_29
  let v72 : BitVec 32 := Scalar.addi c0_i32_28 v71
  let v69 : BitVec 32 := Scalar.addi c0_i32_28 v68
  let c1_i32_31 : BitVec 32 := 1#32
  ⟨v72, v69, c1_i32_31⟩
def k1_mult4 (i : grid1.Coords) (k1_t2 : Fin (k1_t2_loop i).trips) : BitVec 32 :=
  let c0_i32_28 : BitVec 32 := 0#32
  let arg1 : BitVec 32 := BitVec.ofNat 32 (i 1).val
  let c512_i32 : BitVec 32 := 512#32
  let v5 : BitVec 32 := Scalar.muli arg1 c512_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c512_i32_1 : BitVec 32 := 512#32
  let c0_i32_4 : BitVec 32 := 0#32
  let v12 : BitVec 1 := Scalar.cmpi .sgt c512_i32_1 c0_i32_4
  let v13 : BitVec 32 := Scalar.extui v12
  let c0_i32_5 : BitVec 32 := 0#32
  let v14 : BitVec 1 := Scalar.cmpi .slt c512_i32_1 c0_i32_5
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_6 : BitVec 32 := 0#32
  let v19 : BitVec 1 := Scalar.cmpi .ne v18 c0_i32_6
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let v68 : BitVec 32 := Scalar.subi v22 c0_i32_28
  let c1_i32_29 : BitVec 32 := 1#32
  let v70 : BitVec 32 := Scalar.divsi v68 c1_i32_29
  let v71 : BitVec 32 := Scalar.muli v70 c1_i32_29
  let v72 : BitVec 32 := Scalar.addi c0_i32_28 v71
  let c1_i32_31 : BitVec 32 := 1#32
  let arg11 : BitVec 32 := Scf.iv v72 c1_i32_31 k1_t2
  let c1_i32_65 : BitVec 32 := 1#32
  let v159 : BitVec 32 := Scalar.addi arg11 c1_i32_65
  let c512_i32_66 : BitVec 32 := 512#32
  let v160 : BitVec 32 := Scalar.muli v159 c512_i32_66
  v160
def k1_off5 (i : grid1.Coords) (k1_t2 : Fin (k1_t2_loop i).trips) : Fin 2 → Nat :=
  let c0_i32_28 : BitVec 32 := 0#32
  let arg1 : BitVec 32 := BitVec.ofNat 32 (i 1).val
  let c512_i32 : BitVec 32 := 512#32
  let v5 : BitVec 32 := Scalar.muli arg1 c512_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c512_i32_1 : BitVec 32 := 512#32
  let c0_i32_4 : BitVec 32 := 0#32
  let v12 : BitVec 1 := Scalar.cmpi .sgt c512_i32_1 c0_i32_4
  let v13 : BitVec 32 := Scalar.extui v12
  let c0_i32_5 : BitVec 32 := 0#32
  let v14 : BitVec 1 := Scalar.cmpi .slt c512_i32_1 c0_i32_5
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_6 : BitVec 32 := 0#32
  let v19 : BitVec 1 := Scalar.cmpi .ne v18 c0_i32_6
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let v68 : BitVec 32 := Scalar.subi v22 c0_i32_28
  let c1_i32_29 : BitVec 32 := 1#32
  let v70 : BitVec 32 := Scalar.divsi v68 c1_i32_29
  let v71 : BitVec 32 := Scalar.muli v70 c1_i32_29
  let v72 : BitVec 32 := Scalar.addi c0_i32_28 v71
  let c1_i32_31 : BitVec 32 := 1#32
  let arg11 : BitVec 32 := Scf.iv v72 c1_i32_31 k1_t2
  let c1_i32_65 : BitVec 32 := 1#32
  let v159 : BitVec 32 := Scalar.addi arg11 c1_i32_65
  let c512_i32_66 : BitVec 32 := 512#32
  let v160 : BitVec 32 := Scalar.muli v159 c512_i32_66
  let v161 : BitVec 32 := v160
  let v162 : Index := Scalar.indexCast v161
  let c0_67 : Index := 0#32
  ![v162.toNat, 0]
def k1_off6 (i : grid1.Coords) (k1_t2 : Fin (k1_t2_loop i).trips) : Fin 2 → Nat :=
  let c0_i32_28 : BitVec 32 := 0#32
  let arg1 : BitVec 32 := BitVec.ofNat 32 (i 1).val
  let c512_i32 : BitVec 32 := 512#32
  let v5 : BitVec 32 := Scalar.muli arg1 c512_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c512_i32_1 : BitVec 32 := 512#32
  let c0_i32_4 : BitVec 32 := 0#32
  let v12 : BitVec 1 := Scalar.cmpi .sgt c512_i32_1 c0_i32_4
  let v13 : BitVec 32 := Scalar.extui v12
  let c0_i32_5 : BitVec 32 := 0#32
  let v14 : BitVec 1 := Scalar.cmpi .slt c512_i32_1 c0_i32_5
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_6 : BitVec 32 := 0#32
  let v19 : BitVec 1 := Scalar.cmpi .ne v18 c0_i32_6
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let v68 : BitVec 32 := Scalar.subi v22 c0_i32_28
  let c1_i32_29 : BitVec 32 := 1#32
  let v70 : BitVec 32 := Scalar.divsi v68 c1_i32_29
  let v71 : BitVec 32 := Scalar.muli v70 c1_i32_29
  let v72 : BitVec 32 := Scalar.addi c0_i32_28 v71
  let c1_i32_31 : BitVec 32 := 1#32
  let arg11 : BitVec 32 := Scf.iv v72 c1_i32_31 k1_t2
  let c1_i32_65 : BitVec 32 := 1#32
  let v159 : BitVec 32 := Scalar.addi arg11 c1_i32_65
  let c512_i32_66 : BitVec 32 := 512#32
  let v160 : BitVec 32 := Scalar.muli v159 c512_i32_66
  let v161 : BitVec 32 := v160
  let v170 : Index := Scalar.indexCast v161
  let c128_71 : Index := 128#32
  ![v170.toNat, 128]
def k1_mult5 (i : grid1.Coords) (k1_t2 : Fin (k1_t2_loop i).trips) : BitVec 32 :=
  let c0_i32_28 : BitVec 32 := 0#32
  let arg1 : BitVec 32 := BitVec.ofNat 32 (i 1).val
  let c512_i32 : BitVec 32 := 512#32
  let v5 : BitVec 32 := Scalar.muli arg1 c512_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c512_i32_1 : BitVec 32 := 512#32
  let c0_i32_4 : BitVec 32 := 0#32
  let v12 : BitVec 1 := Scalar.cmpi .sgt c512_i32_1 c0_i32_4
  let v13 : BitVec 32 := Scalar.extui v12
  let c0_i32_5 : BitVec 32 := 0#32
  let v14 : BitVec 1 := Scalar.cmpi .slt c512_i32_1 c0_i32_5
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_6 : BitVec 32 := 0#32
  let v19 : BitVec 1 := Scalar.cmpi .ne v18 c0_i32_6
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let v68 : BitVec 32 := Scalar.subi v22 c0_i32_28
  let c1_i32_29 : BitVec 32 := 1#32
  let v70 : BitVec 32 := Scalar.divsi v68 c1_i32_29
  let v71 : BitVec 32 := Scalar.muli v70 c1_i32_29
  let v72 : BitVec 32 := Scalar.addi c0_i32_28 v71
  let c1_i32_31 : BitVec 32 := 1#32
  let arg11 : BitVec 32 := Scf.iv v72 c1_i32_31 k1_t2
  let c512_i32_75 : BitVec 32 := 512#32
  let v178 : BitVec 32 := Scalar.muli arg11 c512_i32_75
  v178
def k1_off7 (i : grid1.Coords) (k1_t2 : Fin (k1_t2_loop i).trips) : Fin 2 → Nat :=
  let c0_i32_28 : BitVec 32 := 0#32
  let arg1 : BitVec 32 := BitVec.ofNat 32 (i 1).val
  let c512_i32 : BitVec 32 := 512#32
  let v5 : BitVec 32 := Scalar.muli arg1 c512_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c512_i32_1 : BitVec 32 := 512#32
  let c0_i32_4 : BitVec 32 := 0#32
  let v12 : BitVec 1 := Scalar.cmpi .sgt c512_i32_1 c0_i32_4
  let v13 : BitVec 32 := Scalar.extui v12
  let c0_i32_5 : BitVec 32 := 0#32
  let v14 : BitVec 1 := Scalar.cmpi .slt c512_i32_1 c0_i32_5
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_6 : BitVec 32 := 0#32
  let v19 : BitVec 1 := Scalar.cmpi .ne v18 c0_i32_6
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let v68 : BitVec 32 := Scalar.subi v22 c0_i32_28
  let c1_i32_29 : BitVec 32 := 1#32
  let v70 : BitVec 32 := Scalar.divsi v68 c1_i32_29
  let v71 : BitVec 32 := Scalar.muli v70 c1_i32_29
  let v72 : BitVec 32 := Scalar.addi c0_i32_28 v71
  let c1_i32_31 : BitVec 32 := 1#32
  let arg11 : BitVec 32 := Scf.iv v72 c1_i32_31 k1_t2
  let c512_i32_75 : BitVec 32 := 512#32
  let v178 : BitVec 32 := Scalar.muli arg11 c512_i32_75
  let v179 : BitVec 32 := v178
  let v192 : Index := Scalar.indexCast v179
  let c0_78 : Index := 0#32
  ![v192.toNat, 0]
def k1_off8 (i : grid1.Coords) (k1_t2 : Fin (k1_t2_loop i).trips) : Fin 2 → Nat :=
  let c0_i32_28 : BitVec 32 := 0#32
  let arg1 : BitVec 32 := BitVec.ofNat 32 (i 1).val
  let c512_i32 : BitVec 32 := 512#32
  let v5 : BitVec 32 := Scalar.muli arg1 c512_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c512_i32_1 : BitVec 32 := 512#32
  let c0_i32_4 : BitVec 32 := 0#32
  let v12 : BitVec 1 := Scalar.cmpi .sgt c512_i32_1 c0_i32_4
  let v13 : BitVec 32 := Scalar.extui v12
  let c0_i32_5 : BitVec 32 := 0#32
  let v14 : BitVec 1 := Scalar.cmpi .slt c512_i32_1 c0_i32_5
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_6 : BitVec 32 := 0#32
  let v19 : BitVec 1 := Scalar.cmpi .ne v18 c0_i32_6
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let v68 : BitVec 32 := Scalar.subi v22 c0_i32_28
  let c1_i32_29 : BitVec 32 := 1#32
  let v70 : BitVec 32 := Scalar.divsi v68 c1_i32_29
  let v71 : BitVec 32 := Scalar.muli v70 c1_i32_29
  let v72 : BitVec 32 := Scalar.addi c0_i32_28 v71
  let c1_i32_31 : BitVec 32 := 1#32
  let arg11 : BitVec 32 := Scf.iv v72 c1_i32_31 k1_t2
  let c512_i32_75 : BitVec 32 := 512#32
  let v178 : BitVec 32 := Scalar.muli arg11 c512_i32_75
  let v179 : BitVec 32 := v178
  let v223 : Index := Scalar.indexCast v179
  let c128_88 : Index := 128#32
  ![v223.toNat, 128]
def k1_mult6 (i : grid1.Coords) : BitVec 32 :=
  let arg1 : BitVec 32 := BitVec.ofNat 32 (i 1).val
  let c512_i32 : BitVec 32 := 512#32
  let v5 : BitVec 32 := Scalar.muli arg1 c512_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c512_i32_1 : BitVec 32 := 512#32
  let c0_i32_4 : BitVec 32 := 0#32
  let v12 : BitVec 1 := Scalar.cmpi .sgt c512_i32_1 c0_i32_4
  let v13 : BitVec 32 := Scalar.extui v12
  let c0_i32_5 : BitVec 32 := 0#32
  let v14 : BitVec 1 := Scalar.cmpi .slt c512_i32_1 c0_i32_5
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_6 : BitVec 32 := 0#32
  let v19 : BitVec 1 := Scalar.cmpi .ne v18 c0_i32_6
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c512_i32_32 : BitVec 32 := 512#32
  let v75 : BitVec 32 := Scalar.muli v22 c512_i32_32
  v75
def k1_off9 (i : grid1.Coords) : Fin 2 → Nat :=
  let arg1 : BitVec 32 := BitVec.ofNat 32 (i 1).val
  let c512_i32 : BitVec 32 := 512#32
  let v5 : BitVec 32 := Scalar.muli arg1 c512_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c512_i32_1 : BitVec 32 := 512#32
  let c0_i32_4 : BitVec 32 := 0#32
  let v12 : BitVec 1 := Scalar.cmpi .sgt c512_i32_1 c0_i32_4
  let v13 : BitVec 32 := Scalar.extui v12
  let c0_i32_5 : BitVec 32 := 0#32
  let v14 : BitVec 1 := Scalar.cmpi .slt c512_i32_1 c0_i32_5
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_6 : BitVec 32 := 0#32
  let v19 : BitVec 1 := Scalar.cmpi .ne v18 c0_i32_6
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c512_i32_32 : BitVec 32 := 512#32
  let v75 : BitVec 32 := Scalar.muli v22 c512_i32_32
  let v76 : BitVec 32 := v75
  let v98 : Index := Scalar.indexCast v76
  let c0_39 : Index := 0#32
  ![v98.toNat, 0]
def k1_off10 (i : grid1.Coords) : Fin 2 → Nat :=
  let arg1 : BitVec 32 := BitVec.ofNat 32 (i 1).val
  let c512_i32 : BitVec 32 := 512#32
  let v5 : BitVec 32 := Scalar.muli arg1 c512_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c512_i32_1 : BitVec 32 := 512#32
  let c0_i32_4 : BitVec 32 := 0#32
  let v12 : BitVec 1 := Scalar.cmpi .sgt c512_i32_1 c0_i32_4
  let v13 : BitVec 32 := Scalar.extui v12
  let c0_i32_5 : BitVec 32 := 0#32
  let v14 : BitVec 1 := Scalar.cmpi .slt c512_i32_1 c0_i32_5
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_6 : BitVec 32 := 0#32
  let v19 : BitVec 1 := Scalar.cmpi .ne v18 c0_i32_6
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c512_i32_32 : BitVec 32 := 512#32
  let v75 : BitVec 32 := Scalar.muli v22 c512_i32_32
  let v76 : BitVec 32 := v75
  let v138 : Index := Scalar.indexCast v76
  let c128_53 : Index := 128#32
  ![v138.toNat, 128]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S4096x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S4096x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== MlaIdeal.lean ====
variable {F : FTy → Type} [FloatOps F] [Named F]
def κ : String → Option EReal := fun
  | "mask" => some ⊥
  | _ => none
-- ==== MlaReferenceIdeal.lean ====
abbrev S4096x4x96 : Shape := ⟨3, ![4096, 4, 96]⟩
abbrev S4096x256 : Shape := ⟨2, ![4096, 256]⟩
abbrev S4096x4x64 : Shape := ⟨3, ![4096, 4, 64]⟩
abbrev S4096 : Shape := ⟨1, ![4096]⟩
abbrev S_ : Shape := ⟨0, ![]⟩
abbrev S4x4096x4096 : Shape := ⟨3, ![4, 4096, 4096]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x64x4096 : Shape := ⟨3, ![4, 64, 4096]⟩
abbrev S4x4096x96 : Shape := ⟨3, ![4, 4096, 96]⟩

abbrev nBuf : Space → Nat
  | .hbm => 120
  | .vmem => 0
  | .smem => 0
  | _ => 0

abbrev bufTy : (tb : Table) → Fin (tcTables nBuf tb) → BufTy
  | .hbm, ⟨0, _⟩ => ⟨S4096x4x96, .bf16⟩
  | .hbm, ⟨1, _⟩ => ⟨S4096x4x96, .bf16⟩
  | .hbm, ⟨2, _⟩ => ⟨S4096x256, .bf16⟩
  | .hbm, ⟨3, _⟩ => ⟨S4096x256, .f32⟩
  | .hbm, ⟨4, _⟩ => ⟨S4096x4x64, .bf16⟩
  | .hbm, ⟨5, _⟩ => ⟨S4096, .i32⟩
  | .hbm, ⟨6, _⟩ => ⟨S_, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S4x4096x4096, .f32⟩
  | .hbm, ⟨25, _⟩ => ⟨S_, .f32⟩
  | .hbm, ⟨26, _⟩ => ⟨S4x4096x4096, .f32⟩
  | .hbm, ⟨27, _⟩ => ⟨S4x4096x4096, .f32⟩
  | .hbm, ⟨28, _⟩ => ⟨S1x4096, .i32⟩
  | .hbm, ⟨29, _⟩ => ⟨S4096x1, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S_, .f32⟩
  | .hbm, ⟨34, _⟩ => ⟨S_, .f32⟩
  | .hbm, ⟨35, _⟩ => ⟨S4x4096x4096, .i1⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096x4096, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S4x4096x4096, .f32⟩
  | .hbm, ⟨44, _⟩ => ⟨S4x4096x4096, .i1⟩
  | .hbm, ⟨45, _⟩ => ⟨S4x4096x4096, .f32⟩
  | .hbm, ⟨46, _⟩ => ⟨S_, .f32⟩
  | .hbm, ⟨47, _⟩ => ⟨S4x4096, .f32⟩
  | .hbm, ⟨48, _⟩ => ⟨S_, .f32⟩
  | .hbm, ⟨49, _⟩ => ⟨S4x4096, .f32⟩
  | .hbm, ⟨50, _⟩ => ⟨S4x4096, .f32⟩
  | .hbm, ⟨51, _⟩ => ⟨S_, .f32⟩
  | .hbm, ⟨52, _⟩ => ⟨S4x4096, .f32⟩
  | .hbm, ⟨53, _⟩ => ⟨S4x4096, .i1⟩
  | .hbm, ⟨54, _⟩ => ⟨S_, .f32⟩
  | .hbm, ⟨55, _⟩ => ⟨S4x4096, .f32⟩
  | .hbm, ⟨56, _⟩ => ⟨S4x4096, .i1⟩
  | .hbm, ⟨57, _⟩ => ⟨S_, .f32⟩
  | .hbm, ⟨58, _⟩ => ⟨S4x4096, .f32⟩
  | .hbm, ⟨59, _⟩ => ⟨S_, .f32⟩
  | .hbm, ⟨60, _⟩ => ⟨S4x4096, .f32⟩
  | .hbm, ⟨61, _⟩ => ⟨S_, .f32⟩
  | .hbm, ⟨62, _⟩ => ⟨S4x4096, .f32⟩
  | .hbm, ⟨63, _⟩ => ⟨S4x4096, .f32⟩
  | .hbm, ⟨64, _⟩ => ⟨S4x4096, .f32⟩
  | .hbm, ⟨65, _⟩ => ⟨S4x4096x1, .f32⟩
  | .hbm, ⟨66, _⟩ => ⟨S4x4096x4096, .f32⟩
  | .hbm, ⟨67, _⟩ => ⟨S4x4096x4096, .f32⟩
  | .hbm, ⟨68, _⟩ => ⟨S4x4096x4096, .f32⟩
  | .hbm, ⟨69, _⟩ => ⟨S_, .f32⟩
  | .hbm, ⟨70, _⟩ => ⟨S4x4096, .f32⟩
  | .hbm, ⟨71, _⟩ => ⟨S4x4096x1, .f32⟩
  | .hbm, ⟨72, _⟩ => ⟨S4x4096x4096, .f32⟩
  | .hbm, ⟨73, _⟩ => ⟨S4x4096x4096, .f32⟩
  | .hbm, ⟨74, _⟩ => ⟨S4x4096x1, .f32⟩
  | .hbm, ⟨75, _⟩ => ⟨S_, .f32⟩
  | .hbm, ⟨76, _⟩ => ⟨S4x4096x1, .f32⟩
  | .hbm, ⟨77, _⟩ => ⟨S4x4096x1, .f32⟩
  | .hbm, ⟨78, _⟩ => ⟨S4x4096x4096, .bf16⟩
  | .hbm, ⟨79, _⟩ => ⟨S4x64x4096, .f32⟩
  | .hbm, ⟨80, _⟩ => ⟨S4096x4x64, .f32⟩
  | .hbm, ⟨81, _⟩ => ⟨S4096x4x64, .f32⟩
  | .hbm, ⟨82, _⟩ => ⟨S4x64x4096, .f32⟩
  | .hbm, ⟨83, _⟩ => ⟨S4x4096x4096, .f32⟩
  | .hbm, ⟨84, _⟩ => ⟨S4x4096x4096, .bf16⟩
  | .hbm, ⟨85, _⟩ => ⟨S4x64x4096, .f32⟩
  | .hbm, ⟨86, _⟩ => ⟨S4096x4x64, .f32⟩
  | .hbm, ⟨87, _⟩ => ⟨S4096x4x64, .bf16⟩
  | .hbm, ⟨88, _⟩ => ⟨S4x4096x4096, .f32⟩
  | .hbm, ⟨89, _⟩ => ⟨S4x4096x4096, .f32⟩
  | .hbm, ⟨90, _⟩ => ⟨S4x4096x4096, .f32⟩
  | .hbm, ⟨91, _⟩ => ⟨S4x4096x4096, .f32⟩
  | .hbm, ⟨92, _⟩ => ⟨S_, .f32⟩
  | .hbm, ⟨93, _⟩ => ⟨S4x4096, .f32⟩
  | .hbm, ⟨94, _⟩ => ⟨S4x4096x1, .f32⟩
  | .hbm, ⟨95, _⟩ => ⟨S4x4096x1, .f32⟩
  | .hbm, ⟨96, _⟩ => ⟨S4x4096x4096, .f32⟩
  | .hbm, ⟨97, _⟩ => ⟨S4x4096x4096, .f32⟩
  | .hbm, ⟨98, _⟩ => ⟨S_, .f32⟩
  | .hbm, ⟨99, _⟩ => ⟨S4x4096, .f32⟩
  | .hbm, ⟨100, _⟩ => ⟨S4x4096x4096, .f32⟩
  | .hbm, ⟨101, _⟩ => ⟨S4x4096x4096, .f32⟩
  | .hbm, ⟨102, _⟩ => ⟨S4x4096x4096, .f32⟩
  | .hbm, ⟨103, _⟩ => ⟨S_, .f32⟩
  | .hbm, ⟨104, _⟩ => ⟨S4x4096x4096, .f32⟩
  | .hbm, ⟨105, _⟩ => ⟨S4x4096x4096, .f32⟩
  | .hbm, ⟨106, _⟩ => ⟨S_, .f32⟩
  | .hbm, ⟨107, _⟩ => ⟨S4x4096x4096, .f32⟩
  | .hbm, ⟨108, _⟩ => ⟨S4x4096x4096, .f32⟩
  | .hbm, ⟨109, _⟩ => ⟨S4x4096x96, .f32⟩
  | .hbm, ⟨110, _⟩ => ⟨S4096x4x96, .f32⟩
  | .hbm, ⟨111, _⟩ => ⟨S4096x4x96, .bf16⟩
  | .hbm, ⟨112, _⟩ => ⟨S4x4096x96, .f32⟩
  | .hbm, ⟨113, _⟩ => ⟨S4096x4x96, .f32⟩
  | .hbm, ⟨114, _⟩ => ⟨S4096x4x96, .bf16⟩
  | .hbm, ⟨115, _⟩ => ⟨S4096x256, .f32⟩
  | .hbm, ⟨116, _⟩ => ⟨S4096x4x96, .f32⟩
  | .hbm, ⟨117, _⟩ => ⟨S4096x4x96, .f32⟩
  | .hbm, ⟨118, _⟩ => ⟨S4096x4x64, .f32⟩
  | .hbm, ⟨119, _⟩ => ⟨S4096x256, .f32⟩
  | _, _ => ⟨S4096x4x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_0 : Ref sig .tc := ⟨.hbm, 33, rfl⟩
abbrev main_call1_v0 : Ref sig .tc := ⟨.hbm, 34, rfl⟩
abbrev main_v11_1 : Ref sig .tc := ⟨.hbm, 35, rfl⟩
abbrev main_call1_v2 : Ref sig .tc := ⟨.hbm, 36, rfl⟩
abbrev main_v11_0 : Ref sig .tc := ⟨.hbm, 37, rfl⟩
abbrev main_call1_cst : Ref sig .tc := ⟨.hbm, 38, rfl⟩
abbrev main_v11_2 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_cst_5 : Ref sig .tc := ⟨.hbm, 54, rfl⟩
abbrev main_v22 : Ref sig .tc := ⟨.hbm, 55, rfl⟩
abbrev main_v23 : Ref sig .tc := ⟨.hbm, 56, rfl⟩
abbrev main_cst_6 : Ref sig .tc := ⟨.hbm, 57, rfl⟩
abbrev main_v24 : Ref sig .tc := ⟨.hbm, 58, rfl⟩
abbrev main_cst_7 : Ref sig .tc := ⟨.hbm, 59, rfl⟩
abbrev main_v25 : Ref sig .tc := ⟨.hbm, 60, rfl⟩
abbrev main_cst_8 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_9 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_10 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_11 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_12 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_call2_cst : Ref sig .tc := ⟨.hbm, 103, rfl⟩
abbrev main_call2_v0 : Ref sig .tc := ⟨.hbm, 104, rfl⟩
abbrev main_v63 : Ref sig .tc := ⟨.hbm, 105, rfl⟩
abbrev main_cst_13 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩

abbrev nD : Nat := 1
abbrev τ : Topo := Topo.v7x

variable {F : FTy → Type} [FloatOps F]
-- ==== Proof.Ops.lean ====
/- What the two kernel bodies do to one block of queries and one block of keys, per head, as a few
   functions on vectors, over any reading of the floats. The generated bodies compute these (Trips.lean,
   Blocks.lean); what they are over the reals is Real.lean. -/
module

public import proofs.«01_k».proof.Proof.Gen.KernelIdeal.Loops

@[expose] public section

set_option maxRecDepth 16384

noncomputable section

namespace Cert.KernelIdeal.Sb

open Idealize.ShloMosaic Idealize.ShloMosaic.TcCoe Idealize.ShloMosaic.Tactic
open Cert.KernelIdeal Cert.KernelIdeal.Gen

variable {F : FTy → Type} [FloatOps F]

/-- The scores of a block: queries times keys, over the 128 lanes. -/
def scores (q : FVec F S512x128 .bf16) (k : FVec F S512x128 .bf16) : FVec F S512x512 .f32 :=
  matmul dot_S512x128_S512x128_S512x512_1_1_0_0_n_n none q k (constant S512x512 .f32 0x00000000#32)

/-- `log σ(z)` as the kernel writes it: `min(z, 0) − log(1 + exp(0 − |z|))`. -/
def logBeta (z : FVec F S512x512 .f32) : FVec F S512x512 .f32 :=
  subf (minimumf z (broadcast S512x512 (Scalar.ofBits .f32 0x00000000#32)))
    (log (addf (broadcast S512x512 (Scalar.ofBits .f32 0x3F800000#32))
      (exp (subf (broadcast S512x512 (Scalar.ofBits .f32 0x00000000#32)) (absf z)))))

/-- `log σ(−z) = log σ(z) − z`. -/
def logStay (z : FVec F S512x512 .f32) : FVec F S512x512 .f32 := subf (logBeta z) z

/-- A block where the mask holds, zero elsewhere. -/
def masked (vis : IVec S512x512 1) (x : FVec F S512x512 .f32) : FVec F S512x512 .f32 :=
  select vis x (broadcast S512x512 (Scalar.ofBits .f32 0x00000000#32))

/-- The four groups of 128 columns of a block. -/
def cols0 (x : FVec F S512x512 .f32) : FVec F S512x128 .f32 :=
  extractStridedSlice S512x128 ![0, 0] x slices_S512x512_o0_0_S512x128
def cols1 (x : FVec F S512x512 .f32) : FVec F S512x128 .f32 :=
  extractStridedSlice S512x128 ![0, 128] x slices_S512x512_o0_128_S512x128
def cols2 (x : FVec F S512x512 .f32) : FVec F S512x128 .f32 :=
  extractStridedSlice S512x128 ![0, 256] x slices_S512x512_o0_256_S512x128
def cols3 (x : FVec F S512x512 .f32) : FVec F S512x128 .f32 :=
  extractStridedSlice S512x128 ![0, 384] x slices_S512x512_o0_384_S512x128

/-- `x · u` with `x` split into a rounded part and the rest. -/
def dotSplit (x : FVec F S512x128 .f32) (u : FVec F S128x128 .bf16) : FVec F S512x128 .f32 :=
  addf (matmul dot_S512x128_S128x128_S512x128_1_0_0_1_n_n none (truncf .bf16 x bitsLt_bf16_f32) u (constant S512x128 .f32 0x00000000#32))
    (matmul dot_S512x128_S128x128_S512x128_1_0_0_1_n_n none
      (truncf .bf16 (subf x (extf .f32 (truncf .bf16 x bitsLt_bf16_f32) bitsLt_bf16_f32)) bitsLt_bf16_f32) u
      (constant S512x128 .f32 0x00000000#32))

/-- A column of running sums, plus the row sums of a group. -/
def addRows (run : FVec F S512x1 .f32) (x : FVec F S512x128 .f32) : FVec F S512x1 .f32 :=
  addf run (shapeCast S512x1 (multiReduction .add [1] S512 x 0x00000000#32 reduces_S512x128_S512 (.inl rfl) rfl) shapeCasts_S512_S512x1)

/-- A column repeated along the lanes. -/
def spread (x : FVec F S512x1 .f32) : FVec F S512x128 .f32 := broadcastTo S512x128 x broadcasts_S512x1_S512x128

/-- Four groups of columns side by side. -/
def join (a b c d : FVec F S512x128 .f32) : FVec F S512x512 .f32 :=
  concatenate S512x512 1 [⟨S512x128, a⟩, ⟨S512x128, b⟩, ⟨S512x128, c⟩, ⟨S512x128, d⟩] concatenates_S512x128_S512x128_S512x128_S512x128_S512x512_d1

/-! ### The forward pass, last group first -/

/-- The sums over the later keys, from the sum `run` of the blocks after this one. -/
def later (u : FVec F S128x128 .bf16) (run : FVec F S512x1 .f32) (ls : FVec F S512x512 .f32) : FVec F S512x512 .f32 :=
  join
    (addf (dotSplit (cols0 ls) u) (spread (addRows (addRows (addRows run (cols3 ls)) (cols2 ls)) (cols1 ls))))
    (addf (dotSplit (cols1 ls) u) (spread (addRows (addRows run (cols3 ls)) (cols2 ls))))
    (addf (dotSplit (cols2 ls) u) (spread (addRows run (cols3 ls))))
    (addf (dotSplit (cols3 ls) u) (spread run))

/-- The running sum after this block. -/
def runNext (run : FVec F S512x1 .f32) (ls : FVec F S512x512 .f32) : FVec F S512x1 .f32 :=
  addRows (addRows (addRows (addRows run (cols3 ls)) (cols2 ls)) (cols1 ls)) (cols0 ls)

/-- The weights from `log β` and the sums over the later keys. -/
def weights (lb lt : FVec F S512x512 .f32) : FVec F S512x512 .f32 := exp (addf lb lt)

/-- The output accumulator after this block. -/
def accNext (acc : FVec F S512x128 .f32) (w : FVec F S512x512 .f32) (v : FVec F S512x128 .bf16) : FVec F S512x128 .f32 :=
  addf acc (matmul dot_S512x512_S512x128_S512x128_1_0_0_1_n_n none (truncf .bf16 w bitsLt_bf16_f32) v (constant S512x128 .f32 0x00000000#32))

/-! ### The backward pass, first group first -/

/-- The sums over the later keys, from the row's total and the sum `seen` of the blocks before this one. -/
def laterB (u : FVec F S128x128 .bf16) (tot seen : FVec F S512x1 .f32) (ls : FVec F S512x512 .f32) : FVec F S512x512 .f32 :=
  join
    (subf (spread (subf tot seen)) (dotSplit (cols0 ls) u))
    (subf (spread (subf tot (addRows seen (cols0 ls)))) (dotSplit (cols1 ls) u))
    (subf (spread (subf tot (addRows (addRows seen (cols0 ls)) (cols1 ls)))) (dotSplit (cols2 ls) u))
    (subf (spread (subf tot (addRows (addRows (addRows seen (cols0 ls)) (cols1 ls)) (cols2 ls)))) (dotSplit (cols3 ls) u))

/-- The sums of the weights' gradients over the earlier keys, from the sum `gsum` of the blocks before. -/
def before (u : FVec F S128x128 .bf16) (gsum : FVec F S512x1 .f32) (g : FVec F S512x512 .f32) : FVec F S512x512 .f32 :=
  join
    (addf (spread gsum) (dotSplit (cols0 g) u))
    (addf (spread (addRows gsum (cols0 g))) (dotSplit (cols1 g) u))
    (addf (spread (addRows (addRows gsum (cols0 g)) (cols1 g))) (dotSplit (cols2 g) u))
    (addf (spread (addRows (addRows (addRows gsum (cols0 g)) (cols1 g)) (cols2 g))) (dotSplit (cols3 g) u))

/-- A running sum after this block, first group first. -/
def sumNext (s : FVec F S512x1 .f32) (x : FVec F S512x512 .f32) : FVec F S512x1 .f32 :=
  addRows (addRows (addRows (addRows s (cols0 x)) (cols1 x)) (cols2 x)) (cols3 x)

/-- The gradient of the scores. -/
def dScore (lb g bf : FVec F S512x512 .f32) : FVec F S512x512 .f32 :=
  subf (mulf g (subf (broadcast S512x512 (Scalar.ofBits .f32 0x3F800000#32)) (exp lb))) (mulf (exp lb) bf)

/-- A block of `dk` or `dv` plus this block's part, `xᵀ · y`. -/
def addTn (old : FVec F S512x128 .f32) (x : FVec F S512x512 .f32) (y : FVec F S512x128 .bf16) : FVec F S512x128 .f32 :=
  addf (shapeCast S512x128 old shapeCasts_S512x128_S512x128)
    (matmul dot_S512x512_S512x128_S512x128_0_0_1_1_n_n none (truncf .bf16 x bitsLt_bf16_f32) y (constant S512x128 .f32 0x00000000#32))

/-! ### One head, one block

The block on the diagonal is masked: `M` is `masked vis` there and the identity elsewhere. -/

/-- The forward weights of a block. -/
def wFwd (M : FVec F S512x512 .f32 → FVec F S512x512 .f32) (u : FVec F S128x128 .bf16) (run : FVec F S512x1 .f32)
    (z : FVec F S512x512 .f32) : FVec F S512x512 .f32 :=
  M (weights (logBeta z) (later u run (M (logStay z))))

/-- The backward pass's weights of a block. -/
def wBwd (M : FVec F S512x512 .f32 → FVec F S512x512 .f32) (u : FVec F S128x128 .bf16) (tot seen : FVec F S512x1 .f32)
    (z : FVec F S512x512 .f32) : FVec F S512x512 .f32 :=
  M (weights (logBeta z) (laterB u tot seen (M (logStay z))))

/-- The gradient of a block's scores, from the weights `w` and the weights' gradients times the weights, `g`. -/
def dzBwd (M : FVec F S512x512 .f32 → FVec F S512x512 .f32) (u : FVec F S128x128 .bf16) (gsum : FVec F S512x1 .f32)
    (z g : FVec F S512x512 .f32) : FVec F S512x512 .f32 :=
  M (dScore (logBeta z) g (before u gsum g))

/-! ### The lanes of the two heads -/

/-- Which of the 128 lanes belong to head `a` (0 or 1) of the pair: the lane's number divided by 64, rounding down. -/
def laneOf (a : BitVec 32) : IVec S1x128 1 :=
  have lane : IVec S1x128 32 := iota .tc S1x128 32 [1]
  have d : IVec S1x128 32 := divsi lane (broadcast S1x128 64#32)
  have s : IVec S1x128 32 := subi (extui 32 (cmpi .sgt lane (broadcast S1x128 0#32)) natLt_1_32) (extui 32 (cmpi .slt lane (broadcast S1x128 0#32)) natLt_1_32)
  have one : BitVec 32 := Scalar.subi (Scalar.extui (Scalar.cmpi .sgt 64#32 0#32)) (Scalar.extui (Scalar.cmpi .slt 64#32 0#32))
  have odd : IVec S1x128 1 := andi (cmpi .ne s (broadcast S1x128 one)) (cmpi .ne (remsi lane (broadcast S1x128 64#32)) (broadcast S1x128 0#32))
  cmpi .eq (select odd (subi d (broadcast S1x128 1#32)) d) (broadcast S1x128 a)

/-- The lanes `sel` of `x` and the other lanes of `y`. -/
def pick (sel : IVec S1x128 1) (x y : FVec F S512x128 .f32) : FVec F S512x128 .f32 :=
  select (broadcastTo S512x128 (shapeCast S1x128 sel shapeCasts_S1x128_S1x128) broadcasts_S1x128_S512x128) x y

/-- A block's lanes `sel`, zero on the others. -/
def headOf (sel : IVec S1x128 1) (x : FVec F S512x128 .f32) : FVec F S512x128 .bf16 :=
  truncf .bf16 (pick sel x (broadcast S512x128 (Scalar.ofBits .f32 0x00000000#32))) bitsLt_bf16_f32

/-- The queries, scaled by 1/8. -/
def scaled (q : FVec F S512x128 .bf16) : FVec F S512x128 .f32 :=
  mulf (extf .f32 q bitsLt_bf16_f32) (broadcast S512x128 (Scalar.ofBits .f32 0x3E000000#32))

/-! ### The masks -/

/-- The 128×128 matrix that is 1 where row and column compare by `p`, else 0. -/
def triangle (p : CmpIPredicate) : FVec F S128x128 .bf16 :=
  truncf .bf16 (sitofp .f32 (extui 32 (cmpi p (iota .tc S128x128 32 [0] iota_S128x128_d0_w32) (iota .tc S128x128 32 [1] iota_S128x128_d1_w32)) natLt_1_32))
    bitsLt_bf16_f32

/-- Where, on a block of keys `d` positions after the queries', the key comes before the query. -/
def seenAt (d : BitVec 32) : IVec S512x512 1 :=
  cmpi .slt (addi (subi (iota .tc S512x512 32 [1] iota_S512x512_d1_w32) (iota .tc S512x512 32 [0] iota_S512x512_d0_w32)) (broadcast S512x512 d))
    (broadcast S512x512 0#32)

/-- Zeros. -/
def zeroCol : FVec F S512x1 .f32 := broadcast S512x1 (Scalar.ofBits .f32 0x00000000#32)
def zeroOut : FVec F S512x128 .f32 := broadcast S512x128 (Scalar.ofBits .f32 0x00000000#32)

end Cert.KernelIdeal.Sb

end
-- ==== Proof.Trips.lean ====
/- What one trip of each loop over the earlier blocks of keys computes, as the functions of Ops.lean. -/
module

public import proofs.«01_k».proof.Proof.Ops
public import Idealize.ShloMosaic.Lib.Pipeline.FrameBody

@[expose] public section

set_option maxRecDepth 16384

noncomputable section

namespace Cert.KernelIdeal.Sb

open Idealize.ShloMosaic Idealize.ShloMosaic.TcCoe Idealize.ShloMosaic.Tactic
open Cert.KernelIdeal Cert.KernelIdeal.Gen

variable {F : FTy → Type} [FloatOps F]

/-- Rows `off 0 …` of a whole-sequence block. -/
abbrev rows (off : Fin 2 → ℕ) (inb : ∀ a, off a + S512x128.size a ≤ S4096x128.size a) : Rect S4096x128 :=
  Rect.unit (s := S4096x128) off S512x128.size inb

/-- What the forward loop carries: the two heads' scores of the next block, then each head's running sum and output. -/
abbrev FwdState (F : FTy → Type) [FloatOps F] : Type :=
  FVec F S512x512 .f32 × FVec F S512x512 .f32 × FVec F S512x1 .f32 × FVec F S512x128 .f32 × FVec F S512x1 .f32 × FVec F S512x128 .f32

/-- One trip of the forward loop: `q0 q1` the two heads' queries, `kn` the keys of the block after this one, `v` this block's values. -/
def fwdTrip (q0 q1 : FVec F S512x128 .bf16) (u : FVec F S128x128 .bf16) (kn v : FVec F S512x128 .bf16) (s : FwdState F) : FwdState F :=
  (scores q0 kn, scores q1 kn,
    runNext s.2.2.1 (logStay s.1), accNext s.2.2.2.1 (wFwd id u s.2.2.1 s.1) v,
    runNext s.2.2.2.2.1 (logStay s.2.1), accNext s.2.2.2.2.2 (wFwd id u s.2.2.2.2.1 s.2.1) v)

/-- What the backward loop carries: the two heads' scores of the next block, then each head's two running sums and gradient of the queries. -/
abbrev BwdState (F : FTy → Type) [FloatOps F] : Type :=
  FVec F S512x512 .f32 × FVec F S512x512 .f32 × FVec F S512x1 .f32 × FVec F S512x1 .f32 × FVec F S512x128 .f32 × FVec F S512x1 .f32 × FVec F S512x1 .f32 × FVec F S512x128 .f32

/-- A head's weights times their gradients in a block: `d` the head's output gradient, `v` the values. -/
def gBwd (M : FVec F S512x512 .f32 → FVec F S512x512 .f32) (ua : FVec F S128x128 .bf16) (tot seen : FVec F S512x1 .f32)
    (d v : FVec F S512x128 .bf16) (z : FVec F S512x512 .f32) : FVec F S512x512 .f32 :=
  mulf (scores d v) (wBwd M ua tot seen z)

/-- A head's gradient of the scores of a block. -/
def dzHead (M : FVec F S512x512 .f32 → FVec F S512x512 .f32) (ua ub : FVec F S128x128 .bf16) (tot seen gsum : FVec F S512x1 .f32)
    (d v : FVec F S512x128 .bf16) (z : FVec F S512x512 .f32) : FVec F S512x512 .f32 :=
  dzBwd M ub gsum z (gBwd M ua tot seen d v z)

/-- One trip of the backward loop, but for what it adds to the gradients of the keys and values: `d0 d1` the two heads' output
    gradients, `kn` the keys of the block after this one, `kc v` this block's keys and values. -/
def bwdTrip (q0 q1 d0 d1 : FVec F S512x128 .bf16) (ua ub : FVec F S128x128 .bf16) (t0 t1 : FVec F S512x1 .f32)
    (kn kc v : FVec F S512x128 .bf16) (s : BwdState F) : BwdState F :=
  (scores q0 kn, scores q1 kn,
    sumNext s.2.2.1 (logStay s.1), sumNext s.2.2.2.1 (gBwd id ua t0 s.2.2.1 d0 v s.1),
    accNext s.2.2.2.2.1 (dzHead id ua ub t0 s.2.2.1 s.2.2.2.1 d0 v s.1) kc,
    sumNext s.2.2.2.2.2.1 (logStay s.2.1), sumNext s.2.2.2.2.2.2.1 (gBwd id ua t1 s.2.2.2.2.2.1 d1 v s.2.1),
    accNext s.2.2.2.2.2.2.2 (dzHead id ua ub t1 s.2.2.2.2.2.1 s.2.2.2.2.2.2.1 d1 v s.2.1) kc)

theorem tripR_k0_eq
   (𝒱 : Variants) (c : Dev nD) (bd : Option 𝒱.V) (i : grid0.Coords) (arg2 : Memref sig .tc .vmem S512x128 .bf16) (harg2 : arg2.IsWhole)
    (arg3 : Memref sig .tc .vmem S4096x128 .bf16) (harg3 : arg3.IsWhole) (arg4 : Memref sig .tc .vmem S4096x128 .bf16) (harg4 : arg4.IsWhole)
    (arg5 : Memref sig .tc .vmem S512x128 .f32) (harg5 : arg5.IsWhole) (arg6 : Memref sig .tc .vmem S1x512x128 .f32) (harg6 : arg6.IsWhole)
    (v19 : BitVec 32) (v21 : IVec S1x128 32) (v56 : FVec F S512x128 .bf16) (v87 : FVec F S512x128 .bf16) (v93 : FVec F S128x128 .bf16)
    (v94 : FVec F S512x128 .f32) (v110 : FVec F S512x512 .f32) (v113 : FVec F S512x512 .f32) (v189 : FVec F S512x1 .f32)
    (v197 : FVec F S512x128 .f32) (v199 : Vec F S512x128 .bf16) (v209 : FVec F S512x512 .f32) (v217 : IVec S512x512 1) (v229 : FVec F S512x128 .f32)
    (v242 : FVec F S512x128 .f32) (v255 : FVec F S512x128 .f32) (v268 : FVec F S512x128 .f32) (v271 : FVec F S512x1 .f32)
    (X_arg3 : BufTy.Contents (Elt F) arg3.view.ty) (X_arg4 : BufTy.Contents (Elt F) arg4.view.ty)
    (k : Fin (k0_t1_loop i).trips) (acc : FwdState F) :
    tripR_k0_t1 (F := F) 𝒱 c bd i arg2 harg2 arg3 harg3 arg4 harg4 arg5 harg5 arg6 harg6 v19 v21 v56 v87 v93 v94 v110 v113 v189 v197 v199 v209 v217 v229 v242 v255 v268 v271 X_arg3 X_arg4 k acc
      = fwdTrip v56 v87 v93 (arg3.view.readAt (Elt F) (rows (k0_off3 i k) (k0_off3_inb i k)).toLoadRect X_arg3)
          (arg4.view.readAt (Elt F) (rows (k0_off4 i k) (k0_off4_inb i k)).toLoadRect X_arg4) acc := by
  unfold tripR_k0_t1 trip_k0_t1
  dsimp only
  rfl

theorem tripR_k1_eq
   (𝒱 : Variants) (c : Dev nD) (bd : Option 𝒱.V) (i : grid1.Coords) (arg2 : Memref sig .tc .vmem S512x128 .bf16) (harg2 : arg2.IsWhole)
    (arg3 : Memref sig .tc .vmem S4096x128 .bf16) (harg3 : arg3.IsWhole) (arg4 : Memref sig .tc .vmem S4096x128 .bf16) (harg4 : arg4.IsWhole)
    (arg5 : Memref sig .tc .vmem S512x128 .f32) (harg5 : arg5.IsWhole) (arg6 : Memref sig .tc .vmem S512x128 .f32) (harg6 : arg6.IsWhole)
    (arg7 : Memref sig .tc .vmem S1x512x128 .f32) (harg7 : arg7.IsWhole) (arg8 : Memref sig .tc .vmem S512x128 .f32) (harg8 : arg8.IsWhole)
    (arg9 : Memref sig .tc .vmem S4096x128 .f32) (harg9 : arg9.IsWhole) (arg10 : Memref sig .tc .vmem S4096x128 .f32) (harg10 : arg10.IsWhole)
    (arg1 : BitVec 32) (v22 : BitVec 32) (v23 : IVec S512x512 32) (v86 : FVec F S512x128 .bf16) (v91 : FVec F S512x128 .bf16)
    (v96 : FVec F S512x128 .bf16) (v101 : FVec F S512x128 .bf16) (v104 : FVec F S512x1 .f32) (v105 : FVec F S512x1 .f32)
    (v111 : FVec F S128x128 .bf16) (v115 : FVec F S128x128 .bf16) (v116 : FVec F S512x128 .f32) (v117 : FVec F S512x1 .f32)
    (v121 : FVec F S512x512 .f32) (v124 : FVec F S512x512 .f32) (c0_i32_39 : BitVec 32) (v129 : BitVec 32)
    (X_arg3 : BufTy.Contents (Elt F) arg3.view.ty) (X_arg4 : BufTy.Contents (Elt F) arg4.view.ty)
    (k : Fin (k1_t1_loop i).trips) (acc : BwdState F) (f9 : BufTy.Contents (Elt F) arg9.view.ty) (f10 : BufTy.Contents (Elt F) arg10.view.ty) :
    tripR_k1_t1 (F := F) 𝒱 c bd i arg2 harg2 arg3 harg3 arg4 harg4 arg5 harg5 arg6 harg6 arg7 harg7 arg8 harg8 arg9 harg9 arg10 harg10 arg1 v22 v23 v86 v91 v96 v101 v104 v105 v111 v115 v116 v117 v121 v124 c0_i32_39 v129 X_arg3 X_arg4 k acc f9 f10
      = bwdTrip v86 v91 v96 v101 v111 v115 v104 v105
          (arg3.view.readAt (Elt F) (rows (k1_off1 i k) (k1_off1_inb i k)).toLoadRect X_arg3)
          (arg3.view.readAt (Elt F) (rows (k1_off2 i k) (k1_off2_inb i k)).toLoadRect X_arg3)
          (arg4.view.readAt (Elt F) (rows (k1_off2 i k) (k1_off2_inb i k)).toLoadRect X_arg4) acc := by
  unfold tripR_k1_t1 trip_k1_t1
  dsimp only
  rfl

/-- A block of rows written twice over: the first head's part is added to what stands there, then the second's. -/
def twice (m : Memref sig .tc .vmem S4096x128 .f32) (off : Fin 2 → ℕ) (inb : ∀ a, off a + S512x128.size a ≤ S4096x128.size a)
    (f : BufTy.Contents (Elt F) m.view.ty) (x0 x1 : FVec F S512x512 .f32) (y0 y1 : FVec F S512x128 .bf16) :
    List (View.Piece (Elt F) S4096x128 .f32) :=
  [⟨rows off inb, addTn (addTn (m.view.readAt (Elt F) (rows off inb).toLoadRect f) x0 y0) x1 y1⟩,
    ⟨rows off inb, addTn (m.view.readAt (Elt F) (rows off inb).toLoadRect f) x0 y0⟩]

theorem tripL_k1_eq
   (𝒱 : Variants) (c : Dev nD) (bd : Option 𝒱.V) (i : grid1.Coords) (arg2 : Memref sig .tc .vmem S512x128 .bf16) (harg2 : arg2.IsWhole)
    (arg3 : Memref sig .tc .vmem S4096x128 .bf16) (harg3 : arg3.IsWhole) (arg4 : Memref sig .tc .vmem S4096x128 .bf16) (harg4 : arg4.IsWhole)
    (arg5 : Memref sig .tc .vmem S512x128 .f32) (harg5 : arg5.IsWhole) (arg6 : Memref sig .tc .vmem S512x128 .f32) (harg6 : arg6.IsWhole)
    (arg7 : Memref sig .tc .vmem S1x512x128 .f32) (harg7 : arg7.IsWhole) (arg8 : Memref sig .tc .vmem S512x128 .f32) (harg8 : arg8.IsWhole)
    (arg9 : Memref sig .tc .vmem S4096x128 .f32) (harg9 : arg9.IsWhole) (arg10 : Memref sig .tc .vmem S4096x128 .f32) (harg10 : arg10.IsWhole)
    (arg1 : BitVec 32) (v22 : BitVec 32) (v23 : IVec S512x512 32) (v86 : FVec F S512x128 .bf16) (v91 : FVec F S512x128 .bf16)
    (v96 : FVec F S512x128 .bf16) (v101 : FVec F S512x128 .bf16) (v104 : FVec F S512x1 .f32) (v105 : FVec F S512x1 .f32)
    (v111 : FVec F S128x128 .bf16) (v115 : FVec F S128x128 .bf16) (v116 : FVec F S512x128 .f32) (v117 : FVec F S512x1 .f32)
    (v121 : FVec F S512x512 .f32) (v124 : FVec F S512x512 .f32) (c0_i32_39 : BitVec 32) (v129 : BitVec 32)
    (X_arg3 : BufTy.Contents (Elt F) arg3.view.ty) (X_arg4 : BufTy.Contents (Elt F) arg4.view.ty)
    (k : Fin (k1_t1_loop i).trips) (acc : BwdState F) (f9 : BufTy.Contents (Elt F) arg9.view.ty) (f10 : BufTy.Contents (Elt F) arg10.view.ty) :
    tripL_k1_t1 (F := F) 𝒱 c bd i arg2 harg2 arg3 harg3 arg4 harg4 arg5 harg5 arg6 harg6 arg7 harg7 arg8 harg8 arg9 harg9 arg10 harg10 arg1 v22 v23 v86 v91 v96 v101 v104 v105 v111 v115 v116 v117 v121 v124 c0_i32_39 v129 X_arg3 X_arg4 k acc f9 f10
      = (twice arg9 (k1_off2 i k) (k1_off2_inb i k) f9
            (dzHead id v111 v115 v104 acc.2.2.1 acc.2.2.2.1 v96 (arg4.view.readAt (Elt F) (rows (k1_off2 i k) (k1_off2_inb i k)).toLoadRect X_arg4) acc.1)
            (dzHead id v111 v115 v105 acc.2.2.2.2.2.1 acc.2.2.2.2.2.2.1 v101 (arg4.view.readAt (Elt F) (rows (k1_off2 i k) (k1_off2_inb i k)).toLoadRect X_arg4) acc.2.1)
            v86 v91,
          twice arg10 (k1_off2 i k) (k1_off2_inb i k) f10 (wBwd id v111 v104 acc.2.2.1 acc.1) (wBwd id v111 v105 acc.2.2.2.2.2.1 acc.2.1) v96 v101) := by
  unfold tripL_k1_t1 trip_k1_t1
  dsimp only
  unfold trip_k1_t1.sl.v786 trip_k1_t1.sl.HW_arg9_1 trip_k1_t1.sl.v793 trip_k1_t1.sl.HW_arg10_1
  rw [View.readCov_cons_toLoadRect arg9.view, View.readCov_cons_toLoadRect arg10.view]
  rfl

end Cert.KernelIdeal.Sb

end
-- ==== Proof.Stick.lean ====
/- Stick-breaking attention over the real numbers, for one head and a sequence of 4096 positions: the scores are
   `Z q j`, query `q`, key `j`; a query sees the keys before it. Then the sums that meet a block of 512 keys. -/
module

public import Idealize.ShloMosaic.Lib.Pointwise

@[expose] public section

noncomputable section

namespace Cert.Stick

open Finset (range)

/-- `log σ(x)`. -/
def lbR (x : ℝ) : ℝ := min x 0 - Real.log (1 + Real.exp (0 - |x|))

/-- The terms from `n` on. -/
def tail (F : ℕ → ℝ) (n : ℕ) : ℝ := ∑ m ∈ range 4096, if n ≤ m then F m else 0

/-- `log σ(-z)` of a visible key, zero otherwise. -/
def LS (Z : ℕ → ℕ → ℝ) (q j : ℕ) : ℝ := if j < q then lbR (Z q j) - Z q j else 0

/-- The weights: `σ(z)` times `σ(-z)` of every later key. -/
def W (Z : ℕ → ℕ → ℝ) (q j : ℕ) : ℝ := if j < q then Real.exp (lbR (Z q j) + tail (LS Z q) (j + 1)) else 0

/-- The gradient `D` of the weights, times the weights. -/
def G (Z D : ℕ → ℕ → ℝ) (q j : ℕ) : ℝ := D q j * W Z q j

/-- The gradient of the scores. -/
def DZ (Z D : ℕ → ℕ → ℝ) (q j : ℕ) : ℝ :=
  if j < q then G Z D q j * (1 - Real.exp (lbR (Z q j))) - Real.exp (lbR (Z q j)) * ∑ m ∈ range j, G Z D q m else 0

theorem tail_zero {F : ℕ → ℝ} {n : ℕ} (h : ∀ m, n ≤ m → F m = 0) : tail F n = 0 :=
  Finset.sum_eq_zero fun m _ => by
    by_cases hm : n ≤ m
    · rw [if_pos hm, h m hm]
    · rw [if_neg hm]

theorem tail_all (F : ℕ → ℝ) : tail F 0 = ∑ m ∈ range 4096, F m :=
  Finset.sum_congr rfl fun m _ => if_pos (Nat.zero_le m)

theorem tail_step (F : ℕ → ℝ) {n : ℕ} (hn : n < 4096) : tail F n = F n + tail F (n + 1) := by
  have h : ∀ m ∈ range 4096, (if n ≤ m then F m else 0) = (if n = m then F m else 0) + (if n + 1 ≤ m then F m else 0) := fun m _ => by
    by_cases h1 : n = m
    · subst h1; rw [if_pos le_rfl, if_pos rfl, if_neg (by omega), add_zero]
    · by_cases h2 : n ≤ m
      · rw [if_pos h2, if_neg h1, if_pos (by omega), zero_add]
      · rw [if_neg h2, if_neg h1, if_neg (by omega), zero_add]
  unfold tail
  rw [Finset.sum_congr rfl h, Finset.sum_add_distrib, Finset.sum_ite_eq, if_pos (Finset.mem_range.mpr hn)]

theorem tail_add (F : ℕ → ℝ) (n k : ℕ) (h : n + k ≤ 4096) : tail F n = ∑ m ∈ range k, F (n + m) + tail F (n + k) := by
  induction k with
  | zero => simp
  | succ k ih =>
    rw [ih (by omega), Finset.sum_range_succ, tail_step F (n := n + k) (by omega), ← add_assoc, ← add_assoc]

theorem sum_tail (F : ℕ → ℝ) (n : ℕ) (h : n ≤ 4096) : ∑ m ∈ range 4096, F m = ∑ m ∈ range n, F m + tail F n := by
  have := tail_add F 0 n (by omega)
  rw [tail_all] at this
  simpa using this

/-- The first keys of a block. -/
theorem sum_upto (F : ℕ → ℝ) {k n : ℕ} (h : k ≤ n) : (∑ m ∈ range n, if m < k then F m else 0) = ∑ m ∈ range k, F m := by
  rw [← Finset.sum_filter]
  congr 1
  ext m
  simp only [Finset.mem_filter, Finset.mem_range]
  omega

/-- The last keys of a block, and the blocks after it. -/
theorem tail_in_block (F : ℕ → ℝ) (a k : ℕ) (hk : k < 512) (h : a + 512 ≤ 4096) :
    tail F (a + 512) + (∑ m ∈ range 512, if k < m then F (a + m) else 0) = tail F (a + k + 1) := by
  have h1 := tail_add F a 512 h
  have h2 := tail_add F a (k + 1) (by omega)
  have h3 : (∑ m ∈ range 512, if k < m then F (a + m) else 0) + ∑ m ∈ range (k + 1), F (a + m) = ∑ m ∈ range 512, F (a + m) := by
    rw [← sum_upto (fun m => F (a + m)) (k := k + 1) (n := 512) (by omega), ← Finset.sum_add_distrib]
    refine Finset.sum_congr rfl fun m _ => ?_
    by_cases hm : k < m
    · rw [if_pos hm, if_neg (by omega), add_zero]
    · rw [if_neg hm, if_pos (by omega), zero_add]
  rw [← add_assoc] at h2
  linarith

/-- The same from the total of the row and the blocks before. -/
theorem tail_from_total (F : ℕ → ℝ) (a k : ℕ) (hk : k < 512) (h : a + 512 ≤ 4096) :
    (∑ m ∈ range 4096, F m) - (∑ m ∈ range a, F m + ∑ m ∈ range 512, if m ≤ k then F (a + m) else 0) = tail F (a + k + 1) := by
  have h1 := sum_tail F (a + k + 1) (by omega)
  have h2 : ∑ m ∈ range (a + k + 1), F m = ∑ m ∈ range a, F m + ∑ m ∈ range (k + 1), F (a + m) := by
    rw [add_assoc, Finset.sum_range_add]
  have h3 : (∑ m ∈ range 512, if m ≤ k then F (a + m) else 0) = ∑ m ∈ range (k + 1), F (a + m) := by
    rw [← sum_upto (fun m => F (a + m)) (k := k + 1) (n := 512) (by omega)]
    exact Finset.sum_congr rfl fun m _ => by
      by_cases hm : m ≤ k
      · rw [if_pos hm, if_pos (by omega)]
      · rw [if_neg hm, if_neg (by omega)]
  linarith

/-- The sum before a key: the blocks before and the first keys of its block. -/
theorem sum_in_block (F : ℕ → ℝ) (a k : ℕ) (hk : k < 512) :
    (∑ m ∈ range a, F m) + (∑ m ∈ range 512, if m < k then F (a + m) else 0) = ∑ m ∈ range (a + k), F m := by
  rw [sum_upto (fun m => F (a + m)) (by omega), Finset.sum_range_add]

end Cert.Stick

end
-- ==== Proof.Real.lean ====
/- The functions of Ops.lean over the reals: on vectors of real numbers each gives the vector of the real
   numbers one expects. `Re v f` says that the matrix `v` holds the real number `f r c` at row `r`, column `c`. -/
module

public import proofs.«01_k».proof.Proof.Trips
public import proofs.«01_k».proof.Proof.Stick
public import Idealize.ShloMosaic.Lib.Pointwise

@[expose] public section

set_option maxRecDepth 16384

noncomputable section

namespace Cert.KernelIdeal.Sb

open Idealize.ShloMosaic Idealize.ShloMosaic.TcCoe Idealize.ShloMosaic.Tactic
open Cert.KernelIdeal Cert.KernelIdeal.Gen Cert.Stick
open Finset (range)

/-- The matrix `v` holds the real number `f r c` at row `r`, column `c`. -/
def Re {R C : ℕ} {φ : FTy} (v : FVec Ideal ⟨2, ![R, C]⟩ φ) (f : ℕ → ℕ → ℝ) : Prop :=
  ∀ (r : Fin R) (c : Fin C), (v (ix2 r c) : EReal) = ((f r c : ℝ) : EReal)

theorem Re.congr {R C : ℕ} {φ : FTy} {v : FVec Ideal ⟨2, ![R, C]⟩ φ} {f g : ℕ → ℕ → ℝ} (h : Re v f)
    (hfg : ∀ r < R, ∀ c < C, f r c = g r c) : Re v g := fun r c => by
  rw [h r c, hfg r r.isLt c c.isLt]

theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem coe_dot {n : ℕ} {x y : Fin n → EReal} {f g : ℕ → ℝ} (hx : ∀ k : Fin n, x k = ((f k : ℝ) : EReal)) (hy : ∀ k : Fin n, y k = ((g k : ℝ) : EReal)) :
    (∑ k : Fin n, x k * y k) = ((∑ k ∈ range n, f k * g k : ℝ) : EReal) := by
  rw [Finset.sum_range, ← coe_sum]
  exact Finset.sum_congr rfl fun k _ => by rw [hx, hy, EReal.coe_mul]

theorem Re.scores {q k : FVec Ideal S512x128 .bf16} {f g : ℕ → ℕ → ℝ} (hq : Re q f) (hk : Re k g) :
    Re (scores q k) (fun r c => ∑ l ∈ range 128, f r l * g c l) := fun r c => by
  pointwise [Sb.scores]
  exact coe_dot (f := f r) (g := g c) (fun l => hq r l) (fun l => hk c l)

theorem coe_max (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

theorem coe_min (x y : ℝ) : min (x : EReal) (y : EReal) = ((min x y : ℝ) : EReal) := by
  rcases le_total x y with h | h
  · rw [min_eq_left h, min_eq_left (EReal.coe_le_coe_iff.mpr h)]
  · rw [min_eq_right h, min_eq_right (EReal.coe_le_coe_iff.mpr h)]

theorem coe_abs (x : ℝ) : max (x : EReal) (-(x : EReal)) = ((|x| : ℝ) : EReal) := by
  rw [← EReal.coe_neg, coe_max]; rfl

theorem log_coe_pos {x : ℝ} (h : 0 < x) : Ideal.log (x : EReal) = ((Real.log x : ℝ) : EReal) := by
  rw [Ideal.log_coe, if_neg (not_le.mpr h)]

theorem Re.logBeta {z : FVec Ideal S512x512 .f32} {f : ℕ → ℕ → ℝ} (hz : Re z f) : Re (logBeta z) (fun r c => lbR (f r c)) := fun r c => by
  pointwise [Sb.logBeta]
  rw [hz r c, Ideal.absf_def, coe_abs]
  have h0 : (0 : EReal) = ((0 : ℝ) : EReal) := rfl
  have h1 : (1 : EReal) = ((1 : ℝ) : EReal) := rfl
  rw [h0, h1, ← EReal.coe_sub, Ideal.exp_coe, ← EReal.coe_add, log_coe_pos (by positivity), coe_min, ← EReal.coe_sub]
  rfl

theorem Re.logStay {z : FVec Ideal S512x512 .f32} {f : ℕ → ℕ → ℝ} (hz : Re z f) : Re (logStay z) (fun r c => lbR (f r c) - f r c) := fun r c => by
  have h := hz.logBeta r c
  pointwise [Sb.logStay]
  rw [h, hz r c, ← EReal.coe_sub]

/-- The mask `vis` holds where `P` does. -/
def Vis (vis : IVec S512x512 1) (P : ℕ → ℕ → Prop) [DecidableRel P] : Prop := ∀ r c : Fin 512, vis (ix2 r c) = if P r c then 1#1 else 0#1

theorem Re.masked {vis : IVec S512x512 1} {P : ℕ → ℕ → Prop} [DecidableRel P] (hv : Vis vis P) {x : FVec Ideal S512x512 .f32} {f : ℕ → ℕ → ℝ}
    (hx : Re x f) : Re (masked vis x) (fun r c => if P r c then f r c else 0) := fun r c => by
  pointwise [Sb.masked]
  rw [hv r c, hx r c]
  by_cases h : P r c
  · rw [if_pos h, if_pos h]; rfl
  · rw [if_neg h, if_neg h]; rfl

theorem Re.cols0 {x : FVec Ideal S512x512 .f32} {f : ℕ → ℕ → ℝ} (hx : Re x f) : Re (cols0 x) f := fun r c => by
  pointwise [Sb.cols0]
  exact hx r _
theorem Re.cols1 {x : FVec Ideal S512x512 .f32} {f : ℕ → ℕ → ℝ} (hx : Re x f) : Re (cols1 x) (fun r c => f r (128 + c)) := fun r c => by
  pointwise [Sb.cols1]
  exact hx r _
theorem Re.cols2 {x : FVec Ideal S512x512 .f32} {f : ℕ → ℕ → ℝ} (hx : Re x f) : Re (cols2 x) (fun r c => f r (256 + c)) := fun r c => by
  pointwise [Sb.cols2]
  exact hx r _
theorem Re.cols3 {x : FVec Ideal S512x512 .f32} {f : ℕ → ℕ → ℝ} (hx : Re x f) : Re (cols3 x) (fun r c => f r (384 + c)) := fun r c => by
  pointwise [Sb.cols3]
  exact hx r _

theorem Re.dotSplit {x : FVec Ideal S512x128 .f32} {u : FVec Ideal S128x128 .bf16} {f g : ℕ → ℕ → ℝ} (hx : Re x f) (hu : Re u g) :
    Re (dotSplit x u) (fun r c => ∑ k ∈ range 128, f r k * g k c) := fun r c => by
  pointwise [Sb.dotSplit]
  rw [coe_dot (f := f r) (g := fun k => g k c) (fun l => hx r l) (fun l => hu l c),
    coe_dot (f := fun _ => 0) (g := fun k => g k c) (fun l => ?_) (fun l => hu l c)]
  · rw [← EReal.coe_add]; congr 1; simp
  · show x (ix2 r l) - x (ix2 r l) = _
    rw [hx r l, ← EReal.coe_sub, sub_self]

theorem Re.addRows {run : FVec Ideal S512x1 .f32} {x : FVec Ideal S512x128 .f32} {R : ℕ → ℝ} {f : ℕ → ℕ → ℝ} (hr : Re run (fun r _ => R r)) (hx : Re x f) :
    Re (addRows run x) (fun r _ => R r + ∑ k ∈ range 128, f r k) := fun r c => by
  have e : c = 0 := Subsingleton.elim _ _
  subst e
  pointwise [Sb.addRows]
  rw [hr r 0, Finset.sum_congr rfl (fun k _ => hx r k), coe_sum, ← EReal.coe_add, Finset.sum_range]

theorem Re.spread {x : FVec Ideal S512x1 .f32} {R : ℕ → ℝ} (hr : Re x (fun r _ => R r)) : Re (spread x) (fun r _ => R r) := fun r c => by
  pointwise [Sb.spread]
  exact hr r 0

theorem Re.addf {R C : ℕ} {φ : FTy} {x y : FVec Ideal ⟨2, ![R, C]⟩ φ} {f g : ℕ → ℕ → ℝ} (hx : Re x f) (hy : Re y g) :
    Re (addf x y) (fun r c => f r c + g r c) := fun r c => by
  show x (ix2 r c) + y (ix2 r c) = _
  rw [hx r c, hy r c, EReal.coe_add]

theorem Re.subf {R C : ℕ} {φ : FTy} {x y : FVec Ideal ⟨2, ![R, C]⟩ φ} {f g : ℕ → ℕ → ℝ} (hx : Re x f) (hy : Re y g) :
    Re (subf x y) (fun r c => f r c - g r c) := fun r c => by
  show x (ix2 r c) - y (ix2 r c) = _
  rw [hx r c, hy r c, EReal.coe_sub]

theorem Re.mulf {R C : ℕ} {φ : FTy} {x y : FVec Ideal ⟨2, ![R, C]⟩ φ} {f g : ℕ → ℕ → ℝ} (hx : Re x f) (hy : Re y g) :
    Re (mulf x y) (fun r c => f r c * g r c) := fun r c => by
  show x (ix2 r c) * y (ix2 r c) = _
  rw [hx r c, hy r c, EReal.coe_mul]

theorem Re.exp {R C : ℕ} {x : FVec Ideal ⟨2, ![R, C]⟩ .f32} {f : ℕ → ℕ → ℝ} (hx : Re x f) :
    Re (exp x) (fun r c => Real.exp (f r c)) := fun r c => by
  show Ideal.exp (x (ix2 r c)) = _
  rw [hx r c, Ideal.exp_coe]

theorem Re.join {a b c d : FVec Ideal S512x128 .f32} {fa fb fc fd : ℕ → ℕ → ℝ} (ha : Re a fa) (hb : Re b fb) (hc : Re c fc) (hd : Re d fd) :
    Re (join a b c d) (fun r k => if k < 128 then fa r k else if k < 256 then fb r (k - 128) else if k < 384 then fc r (k - 256) else fd r (k - 384)) :=
  fun r k => by
  pointwise [Sb.join]
  by_cases h0 : (k : ℕ) < 128
  · rw [dif_pos h0, if_pos h0]; exact ha r _
  rw [dif_neg h0, if_neg h0]
  by_cases h1 : (k : ℕ) < 256
  · rw [dif_pos (by omega), if_pos h1]; exact hb r _
  rw [dif_neg (by omega), if_neg h1]
  by_cases h2 : (k : ℕ) < 384
  · rw [dif_pos (by omega), if_pos h2, show (k : ℕ) - 256 = k - 128 - 128 by omega]; exact hc r _
  rw [dif_neg (by omega), if_neg h2, show (k : ℕ) - 384 = k - 128 - 128 - 128 by omega]
  exact hd r _

/-- A sum over the 512 columns of a block, group by group. -/
theorem sum512 (F : ℕ → ℝ) : ∑ m ∈ range 512, F m
    = ∑ m ∈ range 128, F m + ∑ m ∈ range 128, F (128 + m) + ∑ m ∈ range 128, F (256 + m) + ∑ m ∈ range 128, F (384 + m) := by
  rw [show 512 = 128 + 128 + 128 + 128 from rfl, Finset.sum_range_add, Finset.sum_range_add, Finset.sum_range_add]

/-- A group of columns, all, some or none of which count. -/
theorem sum_all {p : ℕ → Prop} [DecidablePred p] {F : ℕ → ℝ} (h : ∀ m < 128, p m) :
    (∑ m ∈ range 128, if p m then F m else 0) = ∑ m ∈ range 128, F m :=
  Finset.sum_congr rfl fun m hm => if_pos (h m (Finset.mem_range.mp hm))

theorem sum_none {p : ℕ → Prop} [DecidablePred p] {F : ℕ → ℝ} (h : ∀ m < 128, ¬p m) :
    (∑ m ∈ range 128, if p m then F m else 0) = 0 :=
  Finset.sum_eq_zero fun m hm => if_neg (h m (Finset.mem_range.mp hm))

theorem sum_some {p q : ℕ → Prop} [DecidablePred p] [DecidablePred q] {F : ℕ → ℝ} (h : ∀ m < 128, (p m ↔ q m)) :
    (∑ m ∈ range 128, if p m then F m else 0) = ∑ m ∈ range 128, F m * (if q m then 1 else 0) :=
  Finset.sum_congr rfl fun m hm => by
    have := h m (Finset.mem_range.mp hm)
    by_cases hp : p m
    · rw [if_pos hp, if_pos (this.mp hp), mul_one]
    · rw [if_neg hp, if_neg (fun hq => hp (this.mpr hq)), mul_zero]

theorem Re.later {u : FVec Ideal S128x128 .bf16} {run : FVec Ideal S512x1 .f32} {ls : FVec Ideal S512x512 .f32} {R : ℕ → ℝ} {f : ℕ → ℕ → ℝ}
    (hu : Re u (fun k c => if c < k then 1 else 0)) (hr : Re run (fun r _ => R r)) (hl : Re ls f) :
    Re (later u run ls) (fun r c => R r + ∑ m ∈ range 512, if c < m then f r m else 0) := by
  refine Re.congr (((hl.cols0.dotSplit hu).addf (((hr.addRows hl.cols3).addRows hl.cols2).addRows hl.cols1).spread).join
    ((hl.cols1.dotSplit hu).addf ((hr.addRows hl.cols3).addRows hl.cols2).spread)
    ((hl.cols2.dotSplit hu).addf (hr.addRows hl.cols3).spread)
    ((hl.cols3.dotSplit hu).addf hr.spread)) fun r _ c hc => ?_
  rw [sum512]
  by_cases h0 : c < 128
  · rw [if_pos h0, sum_some (q := fun m => c < m) (fun m _ => Iff.rfl), sum_all (fun m _ => by omega), sum_all (fun m _ => by omega), sum_all (fun m _ => by omega)]
    ring
  rw [if_neg h0]
  by_cases h1 : c < 256
  · rw [if_pos h1, sum_none (fun m _ => by omega), sum_some (q := fun m => c - 128 < m) (fun m _ => by omega), sum_all (fun m _ => by omega), sum_all (fun m _ => by omega)]
    ring
  rw [if_neg h1]
  by_cases h2 : c < 384
  · rw [if_pos h2, sum_none (fun m _ => by omega), sum_none (fun m _ => by omega), sum_some (q := fun m => c - 256 < m) (fun m _ => by omega), sum_all (fun m _ => by omega)]
    ring
  rw [if_neg h2, sum_none (fun m _ => by omega), sum_none (fun m _ => by omega), sum_none (fun m _ => by omega), sum_some (q := fun m => c - 384 < m) (fun m _ => by omega)]
  ring

theorem Re.runNext {run : FVec Ideal S512x1 .f32} {ls : FVec Ideal S512x512 .f32} {R : ℕ → ℝ} {f : ℕ → ℕ → ℝ}
    (hr : Re run (fun r _ => R r)) (hl : Re ls f) : Re (runNext run ls) (fun r _ => R r + ∑ m ∈ range 512, f r m) := by
  refine Re.congr ((((hr.addRows hl.cols3).addRows hl.cols2).addRows hl.cols1).addRows hl.cols0) fun r _ c _ => ?_
  rw [sum512]; ring

theorem Re.sumNext {run : FVec Ideal S512x1 .f32} {ls : FVec Ideal S512x512 .f32} {R : ℕ → ℝ} {f : ℕ → ℕ → ℝ}
    (hr : Re run (fun r _ => R r)) (hl : Re ls f) : Re (sumNext run ls) (fun r _ => R r + ∑ m ∈ range 512, f r m) := by
  refine Re.congr ((((hr.addRows hl.cols0).addRows hl.cols1).addRows hl.cols2).addRows hl.cols3) fun r _ c _ => ?_
  rw [sum512]; ring

theorem Re.laterB {u : FVec Ideal S128x128 .bf16} {tot seen : FVec Ideal S512x1 .f32} {ls : FVec Ideal S512x512 .f32} {T R : ℕ → ℝ} {f : ℕ → ℕ → ℝ}
    (hu : Re u (fun k c => if k ≤ c then 1 else 0)) (ht : Re tot (fun r _ => T r)) (hr : Re seen (fun r _ => R r)) (hl : Re ls f) :
    Re (laterB u tot seen ls) (fun r c => T r - (R r + ∑ m ∈ range 512, if m ≤ c then f r m else 0)) := by
  refine Re.congr (((ht.subf hr).spread.subf (hl.cols0.dotSplit hu)).join
    ((ht.subf (hr.addRows hl.cols0)).spread.subf (hl.cols1.dotSplit hu))
    ((ht.subf ((hr.addRows hl.cols0).addRows hl.cols1)).spread.subf (hl.cols2.dotSplit hu))
    ((ht.subf (((hr.addRows hl.cols0).addRows hl.cols1).addRows hl.cols2)).spread.subf (hl.cols3.dotSplit hu))) fun r _ c hc => ?_
  rw [sum512]
  by_cases h0 : c < 128
  · rw [if_pos h0, sum_some (q := fun m => m ≤ c) (fun m _ => Iff.rfl), sum_none (fun m _ => by omega), sum_none (fun m _ => by omega), sum_none (fun m _ => by omega)]
    ring
  rw [if_neg h0]
  by_cases h1 : c < 256
  · rw [if_pos h1, sum_all (fun m _ => by omega), sum_some (q := fun m => m ≤ c - 128) (fun m _ => by omega), sum_none (fun m _ => by omega), sum_none (fun m _ => by omega)]
    ring
  rw [if_neg h1]
  by_cases h2 : c < 384
  · rw [if_pos h2, sum_all (fun m _ => by omega), sum_all (fun m _ => by omega), sum_some (q := fun m => m ≤ c - 256) (fun m _ => by omega), sum_none (fun m _ => by omega)]
    ring
  rw [if_neg h2, sum_all (fun m _ => by omega), sum_all (fun m _ => by omega), sum_all (fun m _ => by omega), sum_some (q := fun m => m ≤ c - 384) (fun m _ => by omega)]
  ring

theorem Re.before {u : FVec Ideal S128x128 .bf16} {gsum : FVec Ideal S512x1 .f32} {g : FVec Ideal S512x512 .f32} {R : ℕ → ℝ} {f : ℕ → ℕ → ℝ}
    (hu : Re u (fun k c => if k < c then 1 else 0)) (hr : Re gsum (fun r _ => R r)) (hl : Re g f) :
    Re (before u gsum g) (fun r c => R r + ∑ m ∈ range 512, if m < c then f r m else 0) := by
  refine Re.congr ((hr.spread.addf (hl.cols0.dotSplit hu)).join
    ((hr.addRows hl.cols0).spread.addf (hl.cols1.dotSplit hu))
    (((hr.addRows hl.cols0).addRows hl.cols1).spread.addf (hl.cols2.dotSplit hu))
    ((((hr.addRows hl.cols0).addRows hl.cols1).addRows hl.cols2).spread.addf (hl.cols3.dotSplit hu))) fun r _ c hc => ?_
  rw [sum512]
  by_cases h0 : c < 128
  · rw [if_pos h0, sum_some (q := fun m => m < c) (fun m _ => Iff.rfl), sum_none (fun m _ => by omega), sum_none (fun m _ => by omega), sum_none (fun m _ => by omega)]
    ring
  rw [if_neg h0]
  by_cases h1 : c < 256
  · rw [if_pos h1, sum_all (fun m _ => by omega), sum_some (q := fun m => m < c - 128) (fun m _ => by omega), sum_none (fun m _ => by omega), sum_none (fun m _ => by omega)]
    ring
  rw [if_neg h1]
  by_cases h2 : c < 384
  · rw [if_pos h2, sum_all (fun m _ => by omega), sum_all (fun m _ => by omega), sum_some (q := fun m => m < c - 256) (fun m _ => by omega), sum_none (fun m _ => by omega)]
    ring
  rw [if_neg h2, sum_all (fun m _ => by omega), sum_all (fun m _ => by omega), sum_all (fun m _ => by omega), sum_some (q := fun m => m < c - 384) (fun m _ => by omega)]
  ring

theorem Re.accNext {acc : FVec Ideal S512x128 .f32} {w : FVec Ideal S512x512 .f32} {v : FVec Ideal S512x128 .bf16} {A f g : ℕ → ℕ → ℝ}
    (ha : Re acc A) (hw : Re w f) (hv : Re v g) : Re (accNext acc w v) (fun r l => A r l + ∑ k ∈ range 512, f r k * g k l) := fun r l => by
  pointwise [Sb.accNext]
  rw [coe_dot (f := f r) (g := fun k => g k l) (fun k => hw r k) (fun k => hv k l), ha r l, ← EReal.coe_add]

theorem Re.addTn {old : FVec Ideal S512x128 .f32} {x : FVec Ideal S512x512 .f32} {y : FVec Ideal S512x128 .bf16} {A f g : ℕ → ℕ → ℝ}
    (ha : Re old A) (hx : Re x f) (hy : Re y g) : Re (addTn old x y) (fun r l => A r l + ∑ k ∈ range 512, f k r * g k l) := fun r l => by
  pointwise [Sb.addTn]
  rw [coe_dot (f := fun k => f k r) (g := fun k => g k l) (fun k => hx k r) (fun k => hy k l), ha r l, ← EReal.coe_add]

theorem Re.dScore {lb g bf : FVec Ideal S512x512 .f32} {l f b : ℕ → ℕ → ℝ} (hl : Re lb l) (hg : Re g f) (hb : Re bf b) :
    Re (dScore lb g bf) (fun r c => f r c * (1 - Real.exp (l r c)) - Real.exp (l r c) * b r c) := fun r c => by
  have h := hl.exp r c
  pointwise [Sb.dScore]
  have h' : Ideal.exp (lb (ix2 r c)) = ((Real.exp (l r c) : ℝ) : EReal) := h
  rw [h', hg r c, hb r c]
  have h1 : (1 : EReal) = ((1 : ℝ) : EReal) := rfl
  rw [h1, ← EReal.coe_sub, ← EReal.coe_mul, ← EReal.coe_mul, ← EReal.coe_sub]

/-- The lanes `sel` are those where `P` holds. -/
def Sel (sel : IVec S1x128 1) (P : ℕ → Prop) [DecidablePred P] : Prop := ∀ c : Fin 128, sel (ix2 0 c) = if P c then 1#1 else 0#1

theorem Re.pick {sel : IVec S1x128 1} {P : ℕ → Prop} [DecidablePred P] (hs : Sel sel P) {x y : FVec Ideal S512x128 .f32} {f g : ℕ → ℕ → ℝ}
    (hx : Re x f) (hy : Re y g) : Re (pick sel x y) (fun r c => if P c then f r c else g r c) := fun r c => by
  pointwise [Sb.pick]
  rw [hs c, hx r c, hy r c]
  by_cases h : P c
  · rw [if_pos h, if_pos h]; rfl
  · rw [if_neg h, if_neg h]; rfl

theorem Re.headOf {sel : IVec S1x128 1} {P : ℕ → Prop} [DecidablePred P] (hs : Sel sel P) {x : FVec Ideal S512x128 .f32} {f : ℕ → ℕ → ℝ}
    (hx : Re x f) : Re (headOf sel x) (fun r c => if P c then f r c else 0) :=
  Re.pick hs hx (g := fun _ _ => 0) fun r c => by pointwise; rfl

theorem eighth : Ideal.ofBits .f32 0x3E000000#32 = ((1 / 8 : ℝ) : EReal) := by
  simp [Ideal.ofBits, Ideal.ieee, -EReal.coe_mul]; norm_num

theorem Re.scaled {q : FVec Ideal S512x128 .bf16} {f : ℕ → ℕ → ℝ} (hq : Re q f) : Re (scaled q) (fun r c => f r c * (1 / 8)) := fun r c => by
  show q (ix2 r c) * Ideal.ofBits .f32 0x3E000000#32 = _
  rw [hq r c, eighth, ← EReal.coe_mul]

end Cert.KernelIdeal.Sb

end
-- ==== Proof.Tile.lean ====
/- One block of 512 queries and 512 keys over the reals: what one step of each loop does to the sums it carries.
   `b` is the block of queries, `c` the block of keys. -/
module

public import proofs.«01_k».proof.Proof.Real

@[expose] public section

set_option maxRecDepth 16384

noncomputable section

namespace Cert.KernelIdeal.Sb

open Idealize.ShloMosaic Idealize.ShloMosaic.TcCoe Idealize.ShloMosaic.Tactic
open Cert.KernelIdeal Cert.KernelIdeal.Gen Cert.Stick
open Finset (range)

/-- `M` masks the block: what is not before the query is zero. -/
def Masks (M : FVec Ideal S512x512 .f32 → FVec Ideal S512x512 .f32) (b c : ℕ) : Prop :=
  ∀ (x : FVec Ideal S512x512 .f32) (f : ℕ → ℕ → ℝ), Re x f → Re (M x) (fun r k => if 512 * c + k < 512 * b + r then f r k else 0)

theorem masks_id {b c : ℕ} (h : c < b) : Masks id b c := fun _ _ hx => Re.congr hx fun _ _ _ _ => (if_pos (by omega)).symm

theorem masks_vis {vis : IVec S512x512 1} {b : ℕ} (h : Vis vis (fun r k => k < r)) : Masks (masked vis) b b := fun _ _ hx =>
  Re.congr (Re.masked h hx) fun r _ k _ => if_congr (by omega) rfl rfl

variable {M : FVec Ideal S512x512 .f32 → FVec Ideal S512x512 .f32} {b c : ℕ} {z : FVec Ideal S512x512 .f32} {Z D : ℕ → ℕ → ℝ}

theorem tile_stay (hM : Masks M b c) (hz : Re z (fun r k => Z (512 * b + r) (512 * c + k))) :
    Re (M (logStay z)) (fun r k => LS Z (512 * b + r) (512 * c + k)) := hM _ _ hz.logStay

/-! ### Forward -/

theorem tile_wFwd {u : FVec Ideal S128x128 .bf16} {run : FVec Ideal S512x1 .f32} (hM : Masks M b c) (hc : c < 8)
    (hu : Re u (fun k c => if c < k then 1 else 0)) (hz : Re z (fun r k => Z (512 * b + r) (512 * c + k)))
    (hr : Re run (fun r _ => tail (LS Z (512 * b + r)) (512 * (c + 1)))) :
    Re (wFwd M u run z) (fun r k => W Z (512 * b + r) (512 * c + k)) := by
  refine Re.congr (hM _ _ (hz.logBeta.addf (Re.later hu hr (tile_stay hM hz))).exp) fun r _ k hk => ?_
  rw [Stick.W, ← tail_in_block (LS Z (512 * b + r)) (512 * c) k hk (by omega)]
  rfl

theorem tile_runFwd {run : FVec Ideal S512x1 .f32} (hM : Masks M b c) (hc : c < 8)
    (hz : Re z (fun r k => Z (512 * b + r) (512 * c + k)))
    (hr : Re run (fun r _ => tail (LS Z (512 * b + r)) (512 * (c + 1)))) :
    Re (runNext run (M (logStay z))) (fun r _ => tail (LS Z (512 * b + r)) (512 * c)) := by
  refine Re.congr (hr.runNext (tile_stay hM hz)) fun r _ k hk => ?_
  rw [tail_add (LS Z (512 * b + r)) (512 * c) 512 (by omega), add_comm]
  rfl

theorem tile_accFwd {acc : FVec Ideal S512x128 .f32} {w : FVec Ideal S512x512 .f32} {v : FVec Ideal S512x128 .bf16} {V : ℕ → ℕ → ℝ} (hc : c < 8)
    (hw : Re w (fun r k => W Z (512 * b + r) (512 * c + k))) (hv : Re v (fun k l => V (512 * c + k) l))
    (ha : Re acc (fun r l => tail (fun j => W Z (512 * b + r) j * V j l) (512 * (c + 1)))) :
    Re (accNext acc w v) (fun r l => tail (fun j => W Z (512 * b + r) j * V j l) (512 * c)) := by
  refine Re.congr (ha.accNext hw hv) fun r _ l _ => ?_
  rw [tail_add _ (512 * c) 512 (by omega), add_comm]
  rfl

/-! ### Backward -/

theorem tile_wBwd {u : FVec Ideal S128x128 .bf16} {tot seen : FVec Ideal S512x1 .f32} (hM : Masks M b c) (hc : c < 8)
    (hu : Re u (fun k c => if k ≤ c then 1 else 0)) (hz : Re z (fun r k => Z (512 * b + r) (512 * c + k)))
    (ht : Re tot (fun r _ => ∑ m ∈ range 4096, LS Z (512 * b + r) m)) (hs : Re seen (fun r _ => ∑ m ∈ range (512 * c), LS Z (512 * b + r) m)) :
    Re (wBwd M u tot seen z) (fun r k => W Z (512 * b + r) (512 * c + k)) := by
  refine Re.congr (hM _ _ (hz.logBeta.addf (Re.laterB hu ht hs (tile_stay hM hz))).exp) fun r _ k hk => ?_
  rw [Stick.W, ← tail_from_total (LS Z (512 * b + r)) (512 * c) k hk (by omega)]

theorem tile_gBwd {u : FVec Ideal S128x128 .bf16} {tot seen : FVec Ideal S512x1 .f32} {d v : FVec Ideal S512x128 .bf16} {f g : ℕ → ℕ → ℝ} (hM : Masks M b c) (hc : c < 8)
    (hu : Re u (fun k c => if k ≤ c then 1 else 0)) (hz : Re z (fun r k => Z (512 * b + r) (512 * c + k)))
    (ht : Re tot (fun r _ => ∑ m ∈ range 4096, LS Z (512 * b + r) m)) (hs : Re seen (fun r _ => ∑ m ∈ range (512 * c), LS Z (512 * b + r) m))
    (hd : Re d f) (hv : Re v g) (hD : ∀ r k, ∑ l ∈ range 128, f r l * g k l = D (512 * b + r) (512 * c + k)) :
    Re (gBwd M u tot seen d v z) (fun r k => G Z D (512 * b + r) (512 * c + k)) := by
  refine Re.congr ((Re.scores hd hv).mulf (tile_wBwd hM hc hu hz ht hs)) fun r _ k _ => ?_
  rw [hD, Stick.G]

theorem tile_dzBwd {u : FVec Ideal S128x128 .bf16} {gs : FVec Ideal S512x1 .f32} {g : FVec Ideal S512x512 .f32} (hM : Masks M b c) (hc : c < 8)
    (hu : Re u (fun k c => if k < c then 1 else 0)) (hz : Re z (fun r k => Z (512 * b + r) (512 * c + k)))
    (hg : Re g (fun r k => G Z D (512 * b + r) (512 * c + k))) (hs : Re gs (fun r _ => ∑ m ∈ range (512 * c), G Z D (512 * b + r) m)) :
    Re (dzBwd M u gs z g) (fun r k => DZ Z D (512 * b + r) (512 * c + k)) := by
  refine Re.congr (hM _ _ (hz.logBeta.dScore hg (Re.before hu hs hg))) fun r _ k hk => ?_
  rw [sum_in_block (G Z D (512 * b + r)) (512 * c) k hk]
  rfl

theorem tile_sumBwd {s : FVec Ideal S512x1 .f32} {x : FVec Ideal S512x512 .f32} {F : ℕ → ℕ → ℝ}
    (hs : Re s (fun r _ => ∑ m ∈ range (512 * c), F r m)) (hx : Re x (fun r k => F r (512 * c + k))) :
    Re (sumNext s x) (fun r _ => ∑ m ∈ range (512 * (c + 1)), F r m) := by
  refine Re.congr (hs.sumNext hx) fun r _ k _ => ?_
  rw [Nat.mul_succ, Finset.sum_range_add]

theorem tile_dqBwd {acc : FVec Ideal S512x128 .f32} {x : FVec Ideal S512x512 .f32} {v : FVec Ideal S512x128 .bf16} {F V : ℕ → ℕ → ℝ}
    (hx : Re x (fun r k => F r (512 * c + k))) (hv : Re v (fun k l => V (512 * c + k) l))
    (ha : Re acc (fun r l => ∑ m ∈ range (512 * c), F r m * V m l)) :
    Re (accNext acc x v) (fun r l => ∑ m ∈ range (512 * (c + 1)), F r m * V m l) := by
  refine Re.congr (ha.accNext hx hv) fun r _ l _ => ?_
  rw [Nat.mul_succ, Finset.sum_range_add]

end Cert.KernelIdeal.Sb

end
-- ==== Proof.Masks.lean ====
/- The masks of the two bodies, read: which lanes belong to which head, the triangles, the diagonal block. -/
module

public import proofs.«01_k».proof.Proof.Tile

@[expose] public section

set_option maxRecDepth 16384

noncomputable section

namespace Cert.KernelIdeal.Sb

open Idealize.ShloMosaic Idealize.ShloMosaic.TcCoe Idealize.ShloMosaic.Tactic
open Cert.KernelIdeal Cert.KernelIdeal.Gen Cert.Stick
open Finset (range)

theorem sel_lane0 : Sel (laneOf 0#32) (fun l => l / 64 = 0) := by unfold Sel; decide +kernel
theorem sel_lane1 : Sel (laneOf 1#32) (fun l => l / 64 = 1) := by unfold Sel; decide +kernel

theorem toInt_small {n : ℕ} (h : n < 2 ^ 31) : (BitVec.ofNat 32 n).toInt = n := by
  rw [BitVec.toInt_eq_toNat_of_lt] <;> rw [BitVec.toNat_ofNat] <;> omega

theorem re_triangle {p : CmpIPredicate} {P : ℕ → ℕ → Prop} [∀ r c, Decidable (P r c)]
    (h : ∀ r c : Fin 128, IntOp.cmpi p (BitVec.ofNat 32 r.val) (BitVec.ofNat 32 c.val) = if P r c then 1#1 else 0#1) :
    Re (triangle p) (fun r c => if P r c then 1 else 0) := fun r c => by
  pointwise [Sb.triangle]
  rw [h r c]
  by_cases hp : P r c
  · rw [if_pos hp, if_pos hp]
    show (((((1#1).setWidth 32).toInt : ℤ) : ℝ) : EReal) = _
    norm_num
  · rw [if_neg hp, if_neg hp]
    show (((((0#1).setWidth 32).toInt : ℤ) : ℝ) : EReal) = _
    norm_num

theorem ofBool_decide (p : Prop) [Decidable p] : BitVec.ofBool (decide p) = if p then 1#1 else 0#1 := by
  by_cases h : p <;> simp [h]

theorem re_later : Re (triangle .sgt) (fun k c => if c < k then 1 else 0) := re_triangle fun r c => by
  simp only [IntOp.cmpi, BitVec.slt, toInt_small (show r.val < 2 ^ 31 by omega), toInt_small (show c.val < 2 ^ 31 by omega), Nat.cast_lt, ofBool_decide]
theorem re_upto : Re (triangle .sle) (fun k c => if k ≤ c then 1 else 0) := re_triangle fun r c => by
  simp only [IntOp.cmpi, BitVec.sle, toInt_small (show r.val < 2 ^ 31 by omega), toInt_small (show c.val < 2 ^ 31 by omega), Nat.cast_le, ofBool_decide]
theorem re_before : Re (triangle .slt) (fun k c => if k < c then 1 else 0) := re_triangle fun r c => by
  simp only [IntOp.cmpi, BitVec.slt, toInt_small (show r.val < 2 ^ 31 by omega), toInt_small (show c.val < 2 ^ 31 by omega), Nat.cast_lt, ofBool_decide]

theorem vis_diag : Vis (seenAt 0#32) (fun r k => k < r) := by
  intro r c
  pointwise [seenAt]
  have h : (BitVec.ofNat 32 c.val - BitVec.ofNat 32 r.val).toInt = (c.val : ℤ) - r.val := by
    rw [BitVec.toInt_sub, toInt_small (by omega), toInt_small (by omega), Int.bmod_def]
    norm_num
    omega
  have h' : (BitVec.ofNat 32 c.val - BitVec.ofNat 32 r.val).slt 0#32 = decide (c.val < r.val) := by
    rw [BitVec.slt, h]
    exact decide_eq_decide.mpr (by simp)
  simp only [IntOp.cmpi, IntOp.addi, IntOp.subi, BitVec.add_zero]
  rw [h']
  by_cases hc : c.val < r.val
  · simp [hc]
  · simp [hc]

theorem re_zeroCol : Re zeroCol (fun _ _ => 0) := fun r c => by pointwise [Sb.zeroCol]; rfl
theorem re_zeroOut : Re zeroOut (fun _ _ => 0) := fun r c => by pointwise [Sb.zeroOut]; rfl

end Cert.KernelIdeal.Sb

end
-- ==== Proof.Forward.lean ====
/- What the forward kernel leaves at one grid point, as a recursion over the earlier blocks of keys. -/
module

public import proofs.«01_k».proof.Proof.Masks
public import proofs.«01_k».proof.Proof.Gen.KernelIdeal.Frame

@[expose] public section

set_option maxRecDepth 16384

noncomputable section

namespace Cert.KernelIdeal.Sb

open Idealize.ShloMosaic Idealize.ShloMosaic.TcCoe Idealize.ShloMosaic.Tactic
open Cert.KernelIdeal Cert.KernelIdeal.Gen Cert.Stick
open Finset (range)

variable {F : FTy → Type} [FloatOps F]

/-- The rows `off 0 …` of a whole-sequence block of keys or values. -/
abbrev chunk (x : Vec F S4096x128 .bf16) (off : Fin 2 → ℕ) (inb : ∀ a, off a + S512x128.size a ≤ S4096x128.size a) : FVec F S512x128 .bf16 :=
  View.ld x (rows off inb)

/-- A head's queries. -/
abbrev headQ (a : BitVec 32) (x0 : Vec F S512x128 .bf16) : FVec F S512x128 .bf16 := headOf (laneOf a) (scaled x0)

/-- The state after the masked block on the diagonal: `k v` its keys and values, `kn` the keys of the block before it. -/
def fwdInit (vis : IVec S512x512 1) (q0 q1 k v kn : FVec F S512x128 .bf16) : FwdState F :=
  (scores q0 kn, scores q1 kn,
    runNext zeroCol (masked vis (logStay (scores q0 k))), accNext zeroOut (wFwd (masked vis) (triangle .sgt) zeroCol (scores q0 k)) v,
    runNext zeroCol (masked vis (logStay (scores q1 k))), accNext zeroOut (wFwd (masked vis) (triangle .sgt) zeroCol (scores q1 k)) v)

/-- The distance of the masked block from the queries' block, as the kernel computes it. -/
def diagOf (a : BitVec 32) : BitVec 32 :=
  let v2 : BitVec 32 := Scalar.muli a 512#32
  let v3 : BitVec 32 := Scalar.divsi v2 512#32
  let v8 : BitVec 32 := Scalar.subi (Scalar.extui (Scalar.cmpi .sgt v2 0#32)) (Scalar.extui (Scalar.cmpi .slt v2 0#32))
  let v13 : BitVec 32 := Scalar.subi (Scalar.extui (Scalar.cmpi .sgt 512#32 0#32)) (Scalar.extui (Scalar.cmpi .slt 512#32 0#32))
  let v17 : BitVec 1 := Scalar.andi (Scalar.cmpi .ne v8 v13) (Scalar.cmpi .ne (Scalar.remsi v2 512#32) 0#32)
  let v19 : BitVec 32 := Scalar.select v17 (Scalar.subi v3 1#32) v3
  Scalar.subi (Scalar.muli v19 512#32) (Scalar.muli a 512#32)

theorem diagOf_eq : ∀ n : Fin 8, diagOf (BitVec.ofNat 32 n.val) = 0#32 := by decide +kernel

/-- The state after the masked block and `n` blocks before it. -/
def fwdAfter (i : grid0.Coords) (x0 : Vec F S512x128 .bf16) (x1 x2 : Vec F S4096x128 .bf16) : ℕ → FwdState F
  | 0 => fwdInit (seenAt (diagOf (BitVec.ofNat 32 (i 1).val))) (headQ 0#32 x0) (headQ 1#32 x0) (chunk x1 (k0_off1 i) (k0_off1_inb i))
      (chunk x2 (k0_off1 i) (k0_off1_inb i)) (chunk x1 (k0_off2 i) (k0_off2_inb i))
  | n + 1 =>
    if h : n < (k0_t1_loop i).trips then
      fwdTrip (headQ 0#32 x0) (headQ 1#32 x0) (triangle .sgt) (chunk x1 (k0_off3 i ⟨n, h⟩) (k0_off3_inb i ⟨n, h⟩))
        (chunk x2 (k0_off4 i ⟨n, h⟩) (k0_off4_inb i ⟨n, h⟩)) (fwdAfter i x0 x1 x2 n)
    else fwdAfter i x0 x1 x2 n

theorem st_fwd
    (𝒱 : Variants) (c : Dev nD) (bd : Option 𝒱.V) (i : grid0.Coords) (arg2 : Memref sig .tc .vmem S512x128 .bf16) (harg2 : arg2.IsWhole)
    (arg3 : Memref sig .tc .vmem S4096x128 .bf16) (harg3 : arg3.IsWhole) (arg4 : Memref sig .tc .vmem S4096x128 .bf16) (harg4 : arg4.IsWhole)
    (arg5 : Memref sig .tc .vmem S512x128 .f32) (harg5 : arg5.IsWhole) (arg6 : Memref sig .tc .vmem S1x512x128 .f32) (harg6 : arg6.IsWhole)
    (v19 : BitVec 32) (v21 : IVec S1x128 32) (v56 : FVec F S512x128 .bf16) (v87 : FVec F S512x128 .bf16) (v93 : FVec F S128x128 .bf16)
    (v94 : FVec F S512x128 .f32) (v110 : FVec F S512x512 .f32) (v113 : FVec F S512x512 .f32) (v189 : FVec F S512x1 .f32) (v197 : FVec F S512x128 .f32)
    (v199 : Vec F S512x128 .bf16) (v209 : FVec F S512x512 .f32) (v217 : IVec S512x512 1) (v229 : FVec F S512x128 .f32) (v242 : FVec F S512x128 .f32)
    (v255 : FVec F S512x128 .f32) (v268 : FVec F S512x128 .f32) (v271 : FVec F S512x1 .f32) (X_arg3 : BufTy.Contents (Elt F) arg3.view.ty)
    (X_arg4 : BufTy.Contents (Elt F) arg4.view.ty) (init : FwdState F)
    (x0 : Vec F S512x128 .bf16) (x1 x2 : Vec F S4096x128 .bf16) (h0 : init = fwdAfter i x0 x1 x2 0)
    (h56 : v56 = headQ 0#32 x0) (h87 : v87 = headQ 1#32 x0) (h93 : v93 = triangle .sgt)
    (hX3 : arg3.view.read (Elt F) X_arg3 = x1) (hX4 : arg4.view.read (Elt F) X_arg4 = x2) : ∀ n, n ≤ (k0_t1_loop i).trips →
    st_k0_t1 (F := F) 𝒱 c bd i arg2 harg2 arg3 harg3 arg4 harg4 arg5 harg5 arg6 harg6 v19 v21 v56 v87 v93 v94 v110 v113 v189 v197 v199 v209 v217 v229 v242 v255 v268 v271 X_arg3 X_arg4 init n
      = fwdAfter i x0 x1 x2 n
  | 0, _ => h0
  | n + 1, h => by
    rw [st_k0_t1_succ (F := F) 𝒱 c bd i arg2 harg2 arg3 harg3 arg4 harg4 arg5 harg5 arg6 harg6 v19 v21 v56 v87 v93 v94 v110 v113 v189 v197 v199 v209 v217 v229 v242 v255 v268 v271 X_arg3 X_arg4 init ⟨n, h⟩, tripR_k0_eq,
      st_fwd 𝒱 c bd i arg2 harg2 arg3 harg3 arg4 harg4 arg5 harg5 arg6 harg6 v19 v21 v56 v87 v93 v94 v110 v113 v189 v197 v199 v209 v217 v229 v242 v255 v268 v271 X_arg3 X_arg4 init x0 x1 x2 h0 h56 h87 h93 hX3 hX4 n (Nat.le_of_succ_le h),
      View.readAt_eq_ld, View.readAt_eq_ld, hX3, hX4, h56, h87, h93, fwdAfter, dif_pos (show n < (k0_t1_loop i).trips from h)]

theorem hz2 : (![0, 0] : Fin 2 → ℕ) = fun _ => 0 := by decide
theorem hz3 : (![0, 0, 0] : Fin 3 → ℕ) = fun _ => 0 := by decide

/-- A whole block reads as what was put there. -/
theorem read_sq {e : EltTy} {a : Memref sig .tc .vmem S512x128 e} (h : a.IsWhole) (x : Vec F S512x128 e) :
    a.view.readAt (Elt F) (Rect.unit (s := S512x128) ![0, 0] S512x128.size inb_S512x128_S512x128_0_0).toLoadRect (h.unread x) = x := by
  rw [View.readAt_eq_ld, h.read_unread, View.ld_unit_zero hz2]

theorem read_st {e : EltTy} {a : Memref sig .tc .vmem S1x512x128 e} (h : a.IsWhole) (x : Vec F S1x512x128 e) :
    a.view.readAt (Elt F) (Rect.unit (s := S1x512x128) ![0, 0, 0] S1x512x128.size inb_S1x512x128_S1x512x128_0_0_0).toLoadRect (h.unread x) = x := by
  rw [View.readAt_eq_ld, h.read_unread, View.ld_unit_zero hz3]

theorem k0_t2_zero (i : grid0.Coords) : (k0_t2_loop i).trips = 0 := Nat.le_zero.mp (k0_t2_abs i).2.1

/-- The output block of a point. -/
def fwdOut (i : grid0.Coords) (x0 : Vec F S512x128 .bf16) (x1 x2 : Vec F S4096x128 .bf16) : FVec F S512x128 .f32 :=
  pick (laneOf 0#32) (fwdAfter i x0 x1 x2 (k0_t1_loop i).trips).2.2.2.1 (fwdAfter i x0 x1 x2 (k0_t1_loop i).trips).2.2.2.2.2

/-- The block of row totals of a point. -/
def fwdTot (i : grid0.Coords) (x0 : Vec F S512x128 .bf16) (x1 x2 : Vec F S4096x128 .bf16) : FVec F S1x512x128 .f32 :=
  shapeCast S1x512x128 (pick (laneOf 0#32)
    (spread (shapeCast S512x1 (fwdAfter i x0 x1 x2 (k0_t1_loop i).trips).2.2.1 shapeCasts_S512x1_S512x1))
    (spread (shapeCast S512x1 (fwdAfter i x0 x1 x2 (k0_t1_loop i).trips).2.2.2.2.1 shapeCasts_S512x1_S512x1))) shapeCasts_S512x128_S1x512x128

theorem out0_A_3_eq
    (c : Dev nD) (i : grid0.Coords) (arg2 : Memref sig .tc .vmem S512x128 .bf16) (harg2 : arg2.IsWhole) (arg3 : Memref sig .tc .vmem S4096x128 .bf16)
    (harg3 : arg3.IsWhole) (arg4 : Memref sig .tc .vmem S4096x128 .bf16) (harg4 : arg4.IsWhole) (arg5 : Memref sig .tc .vmem S512x128 .f32)
    (harg5 : arg5.IsWhole) (arg6 : Memref sig .tc .vmem S1x512x128 .f32) (harg6 : arg6.IsWhole) (x0 : Vec F S512x128 .bf16) (x1 : Vec F S4096x128 .bf16)
    (x2 : Vec F S4096x128 .bf16) :
    out0_A_3 c i arg2 harg2 arg3 harg3 arg4 harg4 arg5 harg5 arg6 harg6 x0 x1 x2 = fwdOut i x0 x1 x2 := by
  have e0 := read_sq harg2 x0
  have e1 := harg3.read_unread x1
  have e2 := harg4.read_unread x2
  unfold out0_A_3
  rw [View.read_writes_eq_canon _ _ _ (cover0_A_3 c i arg2 harg2 arg3 harg3 arg4 harg4 arg5 harg5 arg6 harg6 x0 x1 x2)]
  unfold kernelRun0_A
  dsimp only
  rw [View.canon_unit_zero hz2]
  unfold kernelRun0_A.sl.r_30
  rw [show Scf.trips (k0_t2_loop i).lb (k0_t2_loop i).ub (k0_t2_loop i).st = 0 from k0_t2_zero i, st_k0_t2_zero]
  rw [st_fwd (x0 := x0) (x1 := x1) (x2 := x2) (hX3 := e1) (hX4 := e2) (n := Scf.trips (k0_t1_loop i).lb (k0_t1_loop i).ub (k0_t1_loop i).st)]
  · rfl
  · conv_rhs => rw [← e0, ← e1, ← e2]
    rfl
  · conv_rhs => rw [← e0]
    rfl
  · conv_rhs => rw [← e0]
    rfl
  · rfl
  · exact le_rfl

theorem out0_A_4_eq
    (c : Dev nD) (i : grid0.Coords) (arg2 : Memref sig .tc .vmem S512x128 .bf16) (harg2 : arg2.IsWhole) (arg3 : Memref sig .tc .vmem S4096x128 .bf16)
    (harg3 : arg3.IsWhole) (arg4 : Memref sig .tc .vmem S4096x128 .bf16) (harg4 : arg4.IsWhole) (arg5 : Memref sig .tc .vmem S512x128 .f32)
    (harg5 : arg5.IsWhole) (arg6 : Memref sig .tc .vmem S1x512x128 .f32) (harg6 : arg6.IsWhole) (x0 : Vec F S512x128 .bf16) (x1 : Vec F S4096x128 .bf16)
    (x2 : Vec F S4096x128 .bf16) :
    out0_A_4 c i arg2 harg2 arg3 harg3 arg4 harg4 arg5 harg5 arg6 harg6 x0 x1 x2 = fwdTot i x0 x1 x2 := by
  have e0 := read_sq harg2 x0
  have e1 := harg3.read_unread x1
  have e2 := harg4.read_unread x2
  unfold out0_A_4
  rw [View.read_writes_eq_canon _ _ _ (cover0_A_4 c i arg2 harg2 arg3 harg3 arg4 harg4 arg5 harg5 arg6 harg6 x0 x1 x2)]
  unfold kernelRun0_A
  dsimp only
  rw [View.canon_unit_zero hz3]
  unfold kernelRun0_A.sl.r_28 kernelRun0_A.sl.r_29
  rw [show Scf.trips (k0_t2_loop i).lb (k0_t2_loop i).ub (k0_t2_loop i).st = 0 from k0_t2_zero i, st_k0_t2_zero]
  rw [st_fwd (x0 := x0) (x1 := x1) (x2 := x2) (hX3 := e1) (hX4 := e2) (n := Scf.trips (k0_t1_loop i).lb (k0_t1_loop i).ub (k0_t1_loop i).st)]
  · rfl
  · conv_rhs => rw [← e0, ← e1, ← e2]
    rfl
  · conv_rhs => rw [← e0]
    rfl
  · conv_rhs => rw [← e0]
    rfl
  · rfl
  · exact le_rfl

end Cert.KernelIdeal.Sb

end
-- ==== Proof.ForwardReal.lean ====
/- The forward kernel's block of outputs and of row totals over the reals. -/
module

public import proofs.«01_k».proof.Proof.Forward

@[expose] public section

set_option maxRecDepth 16384

noncomputable section

namespace Cert.KernelIdeal.Sb

open Idealize.ShloMosaic Idealize.ShloMosaic.TcCoe Idealize.ShloMosaic.Tactic
open Cert.KernelIdeal Cert.KernelIdeal.Gen Cert.Stick
open Finset (range)

/-- A block of rows of a matrix. -/
theorem re_chunk {x : FVec Ideal S4096x128 .bf16} {g : ℕ → ℕ → ℝ} (hx : Re x g) {off : Fin 2 → ℕ} {n : ℕ} (h : off = ![512 * n, 0])
    (inb : ∀ a, off a + S512x128.size a ≤ S4096x128.size a) : Re (chunk x off inb) (fun r c => g (512 * n + r) c) := fun r c => by
  subst h
  have hn := inb 0
  have hn' : 512 * n + 512 ≤ 4096 := hn
  have := hx ⟨512 * n + r, by omega⟩ c
  rw [← this]
  show x _ = x _
  congr 1
  refine (eq_ix2 _).trans ?_
  congr 1
  · exact Fin.ext (by simp)
  · exact Fin.ext (by simp)

theorem k0_trips : ∀ i : grid0.Coords, (k0_t1_loop i).trips = (i 1).val := by decide +kernel
theorem k0_off2_at : ∀ i : grid0.Coords, k0_off2 i = ![512 * ((i 1).val - 1), 0] := by decide +kernel
theorem k0_off3_at : ∀ (i : grid0.Coords) (k : Fin (k0_t1_loop i).trips), k0_off3 i k = ![512 * ((i 1).val - 1 - (k.val + 1)), 0] := by decide +kernel
theorem k0_off4_at : ∀ (i : grid0.Coords) (k : Fin (k0_t1_loop i).trips), k0_off4 i k = ![512 * ((i 1).val - 1 - k.val), 0] := by decide +kernel

/-- Head `a` of a pair: its lanes of `X`, zero on the others. -/
def headLanes (a : ℕ) (X : ℕ → ℕ → ℝ) (q l : ℕ) : ℝ := if l / 64 = a then X q l else 0

/-- A pair's scores of head `a`: `Q K` the pair's queries and keys, 64 lanes per head. -/
def scoreOf (a : ℕ) (Q K : ℕ → ℕ → ℝ) (q j : ℕ) : ℝ := ∑ l ∈ range 128, headLanes a (fun q l => Q q l * (1 / 8)) q l * K j l

theorem re_headQ0 {x : FVec Ideal S512x128 .bf16} {f : ℕ → ℕ → ℝ} (hx : Re x f) :
    Re (headQ 0#32 x) (headLanes 0 (fun r l => f r l * (1 / 8))) := hx.scaled.headOf sel_lane0
theorem re_headQ1 {x : FVec Ideal S512x128 .bf16} {f : ℕ → ℕ → ℝ} (hx : Re x f) :
    Re (headQ 1#32 x) (headLanes 1 (fun r l => f r l * (1 / 8))) := hx.scaled.headOf sel_lane1

/-- What one head carries before block `c`: the scores of block `c - 1` of keys, the sums over the blocks from `c` on. -/
structure FwdInv (b c : ℕ) (Z V : ℕ → ℕ → ℝ) (z : FVec Ideal S512x512 .f32) (run : FVec Ideal S512x1 .f32) (acc : FVec Ideal S512x128 .f32) : Prop where
  hz : Re z (fun r k => Z (512 * b + r) (512 * (c - 1) + k))
  hrun : Re run (fun r _ => tail (LS Z (512 * b + r)) (512 * c))
  hacc : Re acc (fun r l => tail (fun j => W Z (512 * b + r) j * V j l) (512 * c))

variable {i : grid0.Coords} {x0 : FVec Ideal S512x128 .bf16} {x1 x2 : FVec Ideal S4096x128 .bf16} {Q K V : ℕ → ℕ → ℝ}

theorem fwdInv_start {b : ℕ} (hb : b < 8) {Z V : ℕ → ℕ → ℝ} {q k kn v : FVec Ideal S512x128 .bf16}
    (hz : Re (scores q k) (fun r k => Z (512 * b + r) (512 * b + k))) (hn : Re (scores q kn) (fun r k => Z (512 * b + r) (512 * (b - 1) + k)))
    (hv : Re v (fun k l => V (512 * b + k) l)) :
    FwdInv b b Z V (scores q kn) (runNext zeroCol (masked (seenAt 0#32) (logStay (scores q k))))
      (accNext zeroOut (wFwd (masked (seenAt 0#32)) (triangle .sgt) zeroCol (scores q k)) v) := by
  have hM := masks_vis (b := b) vis_diag
  have h0 : Re zeroCol (fun r _ => tail (LS Z (512 * b + r)) (512 * (b + 1))) := Re.congr re_zeroCol fun r hr _ _ =>
    (tail_zero fun m hm => if_neg (by omega)).symm
  have h1 : Re zeroOut (fun r l => tail (fun j => W Z (512 * b + r) j * V j l) (512 * (b + 1))) := Re.congr re_zeroOut fun r hr _ _ =>
    (tail_zero fun m hm => by rw [W, if_neg (by omega), zero_mul]).symm
  exact ⟨hn, tile_runFwd hM hb hz h0, tile_accFwd hb (tile_wFwd hM hb re_later hz h0) hv h1⟩

theorem fwdInv_step {b c : ℕ} (hc : c + 1 ≤ b) (hb : b < 8) {Z V : ℕ → ℕ → ℝ} {q kn v : FVec Ideal S512x128 .bf16}
    {z : FVec Ideal S512x512 .f32} {run : FVec Ideal S512x1 .f32} {acc : FVec Ideal S512x128 .f32} (h : FwdInv b (c + 1) Z V z run acc)
    (hn : Re (scores q kn) (fun r k => Z (512 * b + r) (512 * (c - 1) + k))) (hv : Re v (fun k l => V (512 * c + k) l)) :
    FwdInv b c Z V (scores q kn) (runNext run (logStay z)) (accNext acc (wFwd id (triangle .sgt) run z) v) := by
  have hM := masks_id (b := b) (c := c) (by omega)
  have h1 := tile_runFwd hM (by omega) h.hz h.hrun
  have h2 := tile_accFwd (by omega) (tile_wFwd hM (by omega) re_later h.hz h.hrun) hv h.hacc
  exact ⟨hn, h1, h2⟩

theorem fwd_inv (hq : Re x0 (fun r l => Q (512 * (i 1).val + r) l)) (hk : Re x1 K) (hv : Re x2 V) : ∀ n, n ≤ (i 1).val →
    FwdInv (i 1).val ((i 1).val - n) (scoreOf 0 Q K) V (fwdAfter i x0 x1 x2 n).1 (fwdAfter i x0 x1 x2 n).2.2.1 (fwdAfter i x0 x1 x2 n).2.2.2.1
    ∧ FwdInv (i 1).val ((i 1).val - n) (scoreOf 1 Q K) V (fwdAfter i x0 x1 x2 n).2.1 (fwdAfter i x0 x1 x2 n).2.2.2.2.1 (fwdAfter i x0 x1 x2 n).2.2.2.2.2 := by
  have hb : (i 1).val < 8 := (i 1).isLt
  have s0 : ∀ {k : FVec Ideal S512x128 .bf16} {c : ℕ}, Re k (fun k l => K (512 * c + k) l) →
      Re (scores (headQ 0#32 x0) k) (fun r k => scoreOf 0 Q K (512 * (i 1).val + r) (512 * c + k)) := fun hk => (re_headQ0 hq).scores hk
  have s1 : ∀ {k : FVec Ideal S512x128 .bf16} {c : ℕ}, Re k (fun k l => K (512 * c + k) l) →
      Re (scores (headQ 1#32 x0) k) (fun r k => scoreOf 1 Q K (512 * (i 1).val + r) (512 * c + k)) := fun hk => (re_headQ1 hq).scores hk
  intro n
  induction n with
  | zero =>
    intro _
    have hd : diagOf (BitVec.ofNat 32 (i 1).val) = 0#32 := diagOf_eq (i 1)
    have k1 := re_chunk hk (k0_off1_eq i) (k0_off1_inb i)
    have k2 := re_chunk hk (k0_off2_at i) (k0_off2_inb i)
    have v1 := re_chunk hv (k0_off1_eq i) (k0_off1_inb i)
    rw [fwdAfter, hd]
    exact ⟨fwdInv_start hb (s0 k1) (s0 k2) v1, fwdInv_start hb (s1 k1) (s1 k2) v1⟩
  | succ n ih =>
    intro hn
    obtain ⟨h0, h1⟩ := ih (by omega)
    have ht : n < (k0_t1_loop i).trips := by rw [k0_trips i]; omega
    have k1 := re_chunk hk (k0_off3_at i ⟨n, ht⟩) (k0_off3_inb i ⟨n, ht⟩)
    have v1 := re_chunk hv (k0_off4_at i ⟨n, ht⟩) (k0_off4_inb i ⟨n, ht⟩)
    have e : (i 1).val - n = (i 1).val - (n + 1) + 1 := by omega
    have e1 : (i 1).val - 1 - n = (i 1).val - (n + 1) := by omega
    have e2 : (i 1).val - 1 - (n + 1) = (i 1).val - (n + 1) - 1 := by omega
    rw [e] at h0 h1
    simp only [e1, e2] at k1 v1
    rw [fwdAfter, dif_pos ht]
    exact ⟨fwdInv_step (by omega) hb h0 (s0 k1) v1, fwdInv_step (by omega) hb h1 (s1 k1) v1⟩

/-- The output of lane `l`, of the head the lane belongs to. -/
def outOf (Q K V : ℕ → ℕ → ℝ) (q l : ℕ) : ℝ := ∑ j ∈ range 4096, W (scoreOf (l / 64) Q K) q j * V j l

/-- The row total the backward pass takes. -/
def totOf (Q K : ℕ → ℕ → ℝ) (q l : ℕ) : ℝ := ∑ j ∈ range 4096, LS (scoreOf (l / 64) Q K) q j

theorem re_spread {x : FVec Ideal S512x1 .f32} {f : ℕ → ℝ} (hx : Re x (fun r _ => f r)) :
    Re (spread (shapeCast S512x1 x shapeCasts_S512x1_S512x1)) (fun r _ => f r) := fun r c => by
  pointwise [Sb.spread]
  exact hx r 0

theorem lane_cases {l : ℕ} (h : l < 128) (P : ℕ → ℝ) : (if l / 64 = 0 then P 0 else P 1) = P (l / 64) := by
  by_cases h0 : l / 64 = 0
  · rw [if_pos h0, h0]
  · rw [if_neg h0, show l / 64 = 1 by omega]

theorem re_fwdOut (hq : Re x0 (fun r l => Q (512 * (i 1).val + r) l)) (hk : Re x1 K) (hv : Re x2 V) :
    Re (fwdOut i x0 x1 x2) (fun r l => outOf Q K V (512 * (i 1).val + r) l) := by
  obtain ⟨h0, h1⟩ := fwd_inv (i := i) hq hk hv (k0_t1_loop i).trips (k0_trips i).le
  have e : (i 1).val - (k0_t1_loop i).trips = 0 := by rw [k0_trips i]; omega
  rw [e] at h0 h1
  refine Re.congr (Re.pick sel_lane0 h0.hacc h1.hacc) fun r _ l hl => ?_
  rw [Nat.mul_zero, tail_all, tail_all]
  exact lane_cases hl (fun a => ∑ j ∈ range 4096, W (scoreOf a Q K) (512 * (i 1).val + r) j * V j l)

theorem re_fwdTot (hq : Re x0 (fun r l => Q (512 * (i 1).val + r) l)) (hk : Re x1 K) (hv : Re x2 V) (r : Fin 512) (l : Fin 128) :
    (fwdTot (F := Ideal) i x0 x1 x2 (ix3 0 r l) : EReal) = ((totOf Q K (512 * (i 1).val + r) l : ℝ) : EReal) := by
  obtain ⟨h0, h1⟩ := fwd_inv (i := i) hq hk hv (k0_t1_loop i).trips (k0_trips i).le
  have e : (i 1).val - (k0_t1_loop i).trips = 0 := by rw [k0_trips i]; omega
  rw [e] at h0 h1
  have := Re.congr (Re.pick sel_lane0 (re_spread h0.hrun) (re_spread h1.hrun)) (g := fun r l => totOf Q K (512 * (i 1).val + r) l) (fun r _ l hl => by
    rw [Nat.mul_zero, tail_all, tail_all]
    exact lane_cases hl (fun a => ∑ j ∈ range 4096, LS (scoreOf a Q K) (512 * (i 1).val + r) j)) r l
  rw [← this]
  pointwise [Sb.fwdTot]

end Cert.KernelIdeal.Sb

end
-- ==== Proof.ArraysFwd.lean ====
/- What the forward call's result arrays hold, over the reals. -/
module

public import proofs.«01_k».proof.Proof.ForwardReal
public import Idealize.ShloMosaic.Lib.Pipeline.Value

@[expose] public section

set_option maxRecDepth 16384

noncomputable section

namespace Cert.KernelIdeal.Sb

open Idealize.ShloMosaic Idealize.ShloMosaic.TcCoe Idealize.ShloMosaic.Tactic
open Idealize.ShloMosaic.Pipeline (Dat)
open Cert.KernelIdeal Cert.KernelIdeal.Gen Cert.Stick
open Finset (range)

/-- The 128 columns of `P` at column block `p` of the columns from `o`: one pair of heads. -/
def pairAt (P : ℕ → ℕ → ℝ) (o p q l : ℕ) : ℝ := P q (o + 128 * p + l)

/-- The attention's output at column `c` of all the heads' columns. -/
def outAll (P : ℕ → ℕ → ℝ) (q c : ℕ) : ℝ := outOf (pairAt P 2048 (c / 128)) (pairAt P 2304 (c / 128)) (pairAt P 2560 (c / 128)) q (c % 128)

/-! ### Where the windows look -/

theorem coords0 : ∀ t : Fin grid0.N, ((grid0.coords t 0).val = t.val / 8) ∧ ((grid0.coords t 1).val = t.val % 8) := by decide +kernel

theorem index0_0 : ∀ i : grid0.Coords, cc0_transform_0 i 0 = (i 1).val ∧ cc0_transform_0 i 1 = 16 + (i 0).val := by decide +kernel
theorem index0_1 : ∀ i : grid0.Coords, cc0_transform_1 i 0 = 0 ∧ cc0_transform_1 i 1 = 18 + (i 0).val := by decide +kernel
theorem index0_2 : ∀ i : grid0.Coords, cc0_transform_2 i 0 = 0 ∧ cc0_transform_2 i 1 = 20 + (i 0).val := by decide +kernel
theorem index0_3 : ∀ i : grid0.Coords, cc0_transform_3 i 0 = (i 1).val ∧ cc0_transform_3 i 1 = (i 0).val := by decide +kernel
theorem index0_4 : ∀ i : grid0.Coords, cc0_transform_4 i 0 = (i 0).val ∧ cc0_transform_4 i 1 = (i 1).val ∧ cc0_transform_4 i 2 = 0 := by
  decide +kernel

variable (V : (c : Dev nD) → (b : Ref sig .tc) → Buf (Elt Ideal) ((c : Thread nD τ).loc b)) (c : Dev nD)

/-- An index of a matrix from its two numbers. -/
theorem idx2_eq {R C : ℕ} (j : (⟨2, ![R, C]⟩ : Shape).Idx) {a : Fin R} {b : Fin C} (h0 : (j 0).val = a.val) (h1 : (j 1).val = b.val) :
    j = ix2 a b := by
  rw [eq_ix2 j]
  congr 1
  · exact Fin.ext h0
  · exact Fin.ext h1

variable {P : ℕ → ℕ → ℝ}

theorem re_win0_0 (hP : Re (R := 4096) (C := 3072) (φ := .bf16) (V c main_arg0) P) (t : Fin cfg0.N) :
    Re (R := 512) (C := 128) (φ := .bf16) (iblk0 V c 0 t)
      (fun r l => pairAt P 2048 (grid0.coords t 0).val (512 * (grid0.coords t 1).val + r) l) := fun r l => by
  have h0 : (grid0.coords t 0).val < 2 := (grid0.coords t 0).isLt
  have h1 : (grid0.coords t 1).val < 8 := (grid0.coords t 1).isLt
  obtain ⟨e0, e1⟩ := index0_0 (grid0.coords t)
  unfold iblk0 pairAt
  rw [View.read_apply]
  refine Eq.trans ?_ (hP ⟨512 * (grid0.coords t 1).val + r, by omega⟩ ⟨2048 + 128 * (grid0.coords t 0).val + l, by omega⟩)
  refine congrArg (V c main_arg0) (idx2_eq _ ?_ ?_)
  · show cc0_transform_0 (grid0.coords t) 0 * 512 + 1 * r.val = 512 * (grid0.coords t 1).val + r.val
    rw [e0]; omega
  · show cc0_transform_0 (grid0.coords t) 1 * 128 + 1 * l.val = 2048 + 128 * (grid0.coords t 0).val + l.val
    rw [e1]; omega

theorem re_win0_1 (hP : Re (R := 4096) (C := 3072) (φ := .bf16) (V c main_arg0) P) (t : Fin cfg0.N) :
    Re (R := 4096) (C := 128) (φ := .bf16) (iblk0 V c 1 t) (pairAt P 2304 (grid0.coords t 0).val) := fun r l => by
  have h0 : (grid0.coords t 0).val < 2 := (grid0.coords t 0).isLt
  obtain ⟨e0, e1⟩ := index0_1 (grid0.coords t)
  unfold iblk0 pairAt
  rw [View.read_apply]
  refine Eq.trans ?_ (hP r ⟨2304 + 128 * (grid0.coords t 0).val + l, by omega⟩)
  refine congrArg (V c main_arg0) (idx2_eq _ ?_ ?_)
  · show cc0_transform_1 (grid0.coords t) 0 * 4096 + 1 * r.val = r.val
    rw [e0]; omega
  · show cc0_transform_1 (grid0.coords t) 1 * 128 + 1 * l.val = 2304 + 128 * (grid0.coords t 0).val + l.val
    rw [e1]; omega

theorem re_win0_2 (hP : Re (R := 4096) (C := 3072) (φ := .bf16) (V c main_arg0) P) (t : Fin cfg0.N) :
    Re (R := 4096) (C := 128) (φ := .bf16) (iblk0 V c 2 t) (pairAt P 2560 (grid0.coords t 0).val) := fun r l => by
  have h0 : (grid0.coords t 0).val < 2 := (grid0.coords t 0).isLt
  obtain ⟨e0, e1⟩ := index0_2 (grid0.coords t)
  unfold iblk0 pairAt
  rw [View.read_apply]
  refine Eq.trans ?_ (hP r ⟨2560 + 128 * (grid0.coords t 0).val + l, by omega⟩)
  refine congrArg (V c main_arg0) (idx2_eq _ ?_ ?_)
  · show cc0_transform_2 (grid0.coords t) 0 * 4096 + 1 * r.val = r.val
    rw [e0]; omega
  · show cc0_transform_2 (grid0.coords t) 1 * 128 + 1 * l.val = 2560 + 128 * (grid0.coords t 0).val + l.val
    rw [e1]; omega

/-! ### The blocks, and the arrays -/

theorem re_o (hP : Re (R := 4096) (C := 3072) (φ := .bf16) (V c main_arg0) P) (t : Fin cfg0.N) :
    Re (R := 512) (C := 128) (φ := .f32) (outsAt0 V c t).1
      (fun r l => outOf (pairAt P 2048 (grid0.coords t 0).val) (pairAt P 2304 (grid0.coords t 0).val) (pairAt P 2560 (grid0.coords t 0).val)
        (512 * (grid0.coords t 1).val + r) l) := by
  unfold outsAt0
  dsimp only
  rw [out0_A_3_eq]
  exact re_fwdOut (re_win0_0 V c hP t) (re_win0_1 V c hP t) (re_win0_2 V c hP t)

theorem re_stat (hP : Re (R := 4096) (C := 3072) (φ := .bf16) (V c main_arg0) P) (t : Fin cfg0.N) (r : Fin 512) (l : Fin 128) :
    ((outsAt0 V c t).2 (ix3 0 r l) : EReal)
      = ((totOf (pairAt P 2048 (grid0.coords t 0).val) (pairAt P 2304 (grid0.coords t 0).val) (512 * (grid0.coords t 1).val + r) l : ℝ) : EReal) := by
  unfold outsAt0
  dsimp only
  rw [out0_A_4_eq]
  exact re_fwdTot (re_win0_0 V c hP t) (re_win0_1 V c hP t) (re_win0_2 V c hP t) r l

/-- A real matrix as an array of the machine. -/
def oArr (f : ℕ → ℕ → ℝ) : Vec Ideal S4096x256 .f32 := fun j => ((f (j 0).val (j 1).val : ℝ) : EReal)

/-- The rows' totals, as the machine's array: a pair of heads, a row, a lane. -/
def statArr (P : ℕ → ℕ → ℝ) : Vec Ideal S2x4096x128 .f32 := fun j =>
  ((totOf (pairAt P 2048 (j 0).val) (pairAt P 2304 (j 0).val) (j 1).val (j 2).val : ℝ) : EReal)

theorem flushed0_3 (hP : Re (R := 4096) (C := 3072) (φ := .bf16) (V c main_arg0) P) (t : Fin cfg0.N) (hf : (cfg0.win 3).flush t = true) :
    (dat0 V c).flushed 3 t = ((cfg0.win 3).blk t).view.read (Elt Ideal) (oArr (outAll P)) := by
  have h0 : (grid0.coords t 0).val < 2 := (grid0.coords t 0).isLt
  obtain ⟨e0, e1⟩ := index0_3 (grid0.coords t)
  show (cfg0.win 3).cut (grid0.coords t) ((dat0 V c).after 3 t) = _
  rw [after0_3]
  funext j
  obtain ⟨r, l, rfl⟩ : ∃ (r : Fin 512) (l : Fin 128), j = ix2 r l := ⟨j 0, j 1, eq_ix2 j⟩
  refine (re_o V c hP t r l).trans ?_
  rw [View.read_apply]
  have i0 : ((((cfg0.win 3).blk t).view.emb (ix2 r l)) 0).val = 512 * (grid0.coords t 1).val + r.val := by
    show cc0_transform_3 (grid0.coords t) 0 * 512 + 1 * r.val = _
    rw [e0]; omega
  have i1 : ((((cfg0.win 3).blk t).view.emb (ix2 r l)) 1).val = 128 * (grid0.coords t 0).val + l.val := by
    show cc0_transform_3 (grid0.coords t) 1 * 128 + 1 * l.val = _
    rw [e1]; omega
  show _ = ((outAll P ((((cfg0.win 3).blk t).view.emb (ix2 r l)) 0).val ((((cfg0.win 3).blk t).view.emb (ix2 r l)) 1).val : ℝ) : EReal)
  rw [i0, i1, outAll, show (128 * (grid0.coords t 0).val + l.val) / 128 = (grid0.coords t 0).val by omega,
    show (128 * (grid0.coords t 0).val + l.val) % 128 = l.val by omega]

theorem final0_3 (hP : Re (R := 4096) (C := 3072) (φ := .bf16) (V c main_arg0) P) : (dat0 V c).arrAt 3 cfg0.N = oArr (outAll P) :=
  (dat0 V c).arrAt_eq_of_cover 3 (oArr (outAll P)) (flushed0_3 V c hP) fun i => by
    have h0 : (i 0 : Nat) < 4096 := (i 0).isLt
    have h1 : (i 1 : Nat) < 256 := (i 1).isLt
    have hN : cfg0.N = 16 := N_0
    let t : Fin cfg0.N := ⟨8 * ((i 1 : Nat) / 128) + (i 0 : Nat) / 512, by omega⟩
    have ht : t.val = 8 * ((i 1 : Nat) / 128) + (i 0 : Nat) / 512 := rfl
    refine ⟨t, flush0_3 t, ?_⟩
    obtain ⟨c0, c1⟩ := coords0 t
    obtain ⟨e0, e1⟩ := index0_3 (grid0.coords t)
    show i ∈ ((View.whole main_v0_0).slice (win0_3.rect t)).set
    rw [View.set_slice_whole, Rect.mem_set_unit]
    intro a
    match a with
    | ⟨0, _⟩ => show cc0_transform_3 (grid0.coords t) 0 * 512 ≤ (i 0 : Nat) ∧ (i 0 : Nat) < cc0_transform_3 (grid0.coords t) 0 * 512 + 512
                rw [e0, c1]; omega
    | ⟨1, _⟩ => show cc0_transform_3 (grid0.coords t) 1 * 128 ≤ (i 1 : Nat) ∧ (i 1 : Nat) < cc0_transform_3 (grid0.coords t) 1 * 128 + 128
                rw [e1, c0]; omega

theorem flushed0_4 (hP : Re (R := 4096) (C := 3072) (φ := .bf16) (V c main_arg0) P) (t : Fin cfg0.N) (hf : (cfg0.win 4).flush t = true) :
    (dat0 V c).flushed 4 t = ((cfg0.win 4).blk t).view.read (Elt Ideal) (statArr P) := by
  obtain ⟨e0, e1, e2⟩ := index0_4 (grid0.coords t)
  show (cfg0.win 4).cut (grid0.coords t) ((dat0 V c).after 4 t) = _
  rw [after0_4]
  funext j
  obtain ⟨z, r, l, rfl⟩ : ∃ (z : Fin 1) (r : Fin 512) (l : Fin 128), j = ix3 z r l := ⟨j 0, j 1, j 2, eq_ix3 j⟩
  have ez : z = 0 := Subsingleton.elim _ _
  subst ez
  refine (re_stat V c hP t r l).trans ?_
  rw [View.read_apply]
  have i0 : ((((cfg0.win 4).blk t).view.emb (ix3 0 r l)) 0).val = (grid0.coords t 0).val := by
    show cc0_transform_4 (grid0.coords t) 0 * 1 + 1 * 0 = _
    rw [e0]; omega
  have i1 : ((((cfg0.win 4).blk t).view.emb (ix3 0 r l)) 1).val = 512 * (grid0.coords t 1).val + r.val := by
    show cc0_transform_4 (grid0.coords t) 1 * 512 + 1 * r.val = _
    rw [e1]; omega
  have i2 : ((((cfg0.win 4).blk t).view.emb (ix3 0 r l)) 2).val = l.val := by
    show cc0_transform_4 (grid0.coords t) 2 * 128 + 1 * l.val = _
    rw [e2]; omega
  show _ = ((totOf (pairAt P 2048 ((((cfg0.win 4).blk t).view.emb (ix3 0 r l)) 0).val) (pairAt P 2304 ((((cfg0.win 4).blk t).view.emb (ix3 0 r l)) 0).val)
    ((((cfg0.win 4).blk t).view.emb (ix3 0 r l)) 1).val ((((cfg0.win 4).blk t).view.emb (ix3 0 r l)) 2).val : ℝ) : EReal)
  rw [i0, i1, i2]

theorem final0_4 (hP : Re (R := 4096) (C := 3072) (φ := .bf16) (V c main_arg0) P) : (dat0 V c).arrAt 4 cfg0.N = statArr P :=
  (dat0 V c).arrAt_eq_of_cover 4 (statArr P) (flushed0_4 V c hP) fun i => by
    have h0 : (i 0 : Nat) < 2 := (i 0).isLt
    have h1 : (i 1 : Nat) < 4096 := (i 1).isLt
    have h2 : (i 2 : Nat) < 128 := (i 2).isLt
    have hN : cfg0.N = 16 := N_0
    let t : Fin cfg0.N := ⟨8 * (i 0 : Nat) + (i 1 : Nat) / 512, by omega⟩
    have ht : t.val = 8 * (i 0 : Nat) + (i 1 : Nat) / 512 := rfl
    refine ⟨t, flush0_4 t, ?_⟩
    obtain ⟨c0, c1⟩ := coords0 t
    obtain ⟨e0, e1, e2⟩ := index0_4 (grid0.coords t)
    show i ∈ ((View.whole main_v0_1).slice (win0_4.rect t)).set
    rw [View.set_slice_whole, Rect.mem_set_unit]
    intro a
    match a with
    | ⟨0, _⟩ => show cc0_transform_4 (grid0.coords t) 0 * 1 ≤ (i 0 : Nat) ∧ (i 0 : Nat) < cc0_transform_4 (grid0.coords t) 0 * 1 + 1
                rw [e0, c0]; omega
    | ⟨1, _⟩ => show cc0_transform_4 (grid0.coords t) 1 * 512 ≤ (i 1 : Nat) ∧ (i 1 : Nat) < cc0_transform_4 (grid0.coords t) 1 * 512 + 512
                rw [e1, c1]; omega
    | ⟨2, _⟩ => show cc0_transform_4 (grid0.coords t) 2 * 128 ≤ (i 2 : Nat) ∧ (i 2 : Nat) < cc0_transform_4 (grid0.coords t) 2 * 128 + 128
                rw [e2]; omega

end Cert.KernelIdeal.Sb

end
-- ==== Proof.Backward.lean ====
/- What the backward kernel leaves at one grid point, as a recursion over the blocks of keys before the queries' own. -/
module

public import proofs.«01_k».proof.Proof.Forward
public import Idealize.ShloMosaic.Lib.VecWindow

@[expose] public section

set_option maxRecDepth 16384

noncomputable section

namespace Cert.KernelIdeal.Sb

open Idealize.ShloMosaic Idealize.ShloMosaic.TcCoe Idealize.ShloMosaic.Tactic
open Cert.KernelIdeal Cert.KernelIdeal.Gen Cert.Stick
open Finset (range)

variable {F : FTy → Type} [FloatOps F]

/-- A whole-sequence block with `x0ᵀ · y0`, then `x1ᵀ · y1`, added to its rows `off 0 …`. -/
def addTwice (off : Fin 2 → ℕ) (inb : ∀ a, off a + S512x128.size a ≤ S4096x128.size a) (A : Vec F S4096x128 .f32)
    (x0 x1 : FVec F S512x512 .f32) (y0 y1 : FVec F S512x128 .bf16) : Vec F S4096x128 .f32 :=
  VecWindow.put A off S512x128.size (addTn (addTn (View.ld A (rows off inb)) x0 y0) x1 y1)

theorem read_twice (m : Memref sig .tc .vmem S4096x128 .f32) (off : Fin 2 → ℕ) (inb : ∀ a, off a + S512x128.size a ≤ S4096x128.size a)
    (f : BufTy.Contents (Elt F) m.view.ty) (x0 x1 : FVec F S512x512 .f32) (y0 y1 : FVec F S512x128 .bf16) :
    m.view.read (Elt F) (m.view.writes (Elt F) f (twice m off inb f x0 x1 y0 y1)) = addTwice off inb (m.view.read (Elt F) f) x0 x1 y0 y1 := by
  unfold twice addTwice
  rw [View.read_writes_cons_put m.view f inb _ _ rfl, View.read_writes_cons_put m.view f inb _ _ rfl, View.writes_nil,
    VecWindow.put_put_same, View.readAt_eq_ld]

/-- A head's output gradient. -/
abbrev headD (a : BitVec 32) (x4 : Vec F S512x128 .f32) : FVec F S512x128 .bf16 := headOf (laneOf a) x4

/-- A head's row totals: head 0's stand in lane 0, head 1's in lane 64. -/
def tot0 (x5 : Vec F S1x512x128 .f32) : FVec F S512x1 .f32 :=
  extractStridedSlice S512x1 ![0, 0] (shapeCast S512x128 x5 shapeCasts_S1x512x128_S512x128) slices_S512x128_o0_0_S512x1
def tot1 (x5 : Vec F S1x512x128 .f32) : FVec F S512x1 .f32 :=
  extractStridedSlice S512x1 ![0, 64] (shapeCast S512x128 x5 shapeCasts_S1x512x128_S512x128) slices_S512x128_o0_64_S512x1

/-- The state before the first block. -/
def bwdInit (q0 q1 k : FVec F S512x128 .bf16) : BwdState F :=
  (scores q0 k, scores q1 k, zeroCol, zeroCol, zeroOut, zeroCol, zeroCol, zeroOut)

/-- The state after the first `n` blocks. -/
def bwdAfter (i : grid1.Coords) (x0 : Vec F S512x128 .bf16) (x1 x2 : Vec F S4096x128 .bf16) (x4 : Vec F S512x128 .f32)
    (x5 : Vec F S1x512x128 .f32) : ℕ → BwdState F
  | 0 => bwdInit (headQ 0#32 x0) (headQ 1#32 x0) (chunk x1 ![0, 0] inb_S4096x128_S512x128_0_0)
  | n + 1 =>
    if h : n < (k1_t1_loop i).trips then
      bwdTrip (headQ 0#32 x0) (headQ 1#32 x0) (headD 0#32 x4) (headD 1#32 x4) (triangle .sle) (triangle .slt) (tot0 x5) (tot1 x5)
        (chunk x1 (k1_off1 i ⟨n, h⟩) (k1_off1_inb i ⟨n, h⟩)) (chunk x1 (k1_off2 i ⟨n, h⟩) (k1_off2_inb i ⟨n, h⟩))
        (chunk x2 (k1_off2 i ⟨n, h⟩) (k1_off2_inb i ⟨n, h⟩)) (bwdAfter i x0 x1 x2 x4 x5 n)
    else bwdAfter i x0 x1 x2 x4 x5 n

/-- The two heads' gradients of the scores, and weights, of the block a state stands at: `v` the block's values. -/
def dz0Of (M : FVec F S512x512 .f32 → FVec F S512x512 .f32) (x4 : Vec F S512x128 .f32) (x5 : Vec F S1x512x128 .f32)
    (v : FVec F S512x128 .bf16) (s : BwdState F) : FVec F S512x512 .f32 :=
  dzHead M (triangle .sle) (triangle .slt) (tot0 x5) s.2.2.1 s.2.2.2.1 (headD 0#32 x4) v s.1
def dz1Of (M : FVec F S512x512 .f32 → FVec F S512x512 .f32) (x4 : Vec F S512x128 .f32) (x5 : Vec F S1x512x128 .f32)
    (v : FVec F S512x128 .bf16) (s : BwdState F) : FVec F S512x512 .f32 :=
  dzHead M (triangle .sle) (triangle .slt) (tot1 x5) s.2.2.2.2.2.1 s.2.2.2.2.2.2.1 (headD 1#32 x4) v s.2.1
def w0Of (M : FVec F S512x512 .f32 → FVec F S512x512 .f32) (x5 : Vec F S1x512x128 .f32) (s : BwdState F) : FVec F S512x512 .f32 :=
  wBwd M (triangle .sle) (tot0 x5) s.2.2.1 s.1
def w1Of (M : FVec F S512x512 .f32 → FVec F S512x512 .f32) (x5 : Vec F S1x512x128 .f32) (s : BwdState F) : FVec F S512x512 .f32 :=
  wBwd M (triangle .sle) (tot1 x5) s.2.2.2.2.2.1 s.2.1

/-- The gradients of the keys, `A` before this point, after the first `n` blocks. -/
def dkAfter (i : grid1.Coords) (x0 : Vec F S512x128 .bf16) (x1 x2 : Vec F S4096x128 .bf16) (x4 : Vec F S512x128 .f32)
    (x5 : Vec F S1x512x128 .f32) (A : Vec F S4096x128 .f32) : ℕ → Vec F S4096x128 .f32
  | 0 => A
  | n + 1 =>
    if h : n < (k1_t1_loop i).trips then
      addTwice (k1_off2 i ⟨n, h⟩) (k1_off2_inb i ⟨n, h⟩) (dkAfter i x0 x1 x2 x4 x5 A n)
        (dz0Of id x4 x5 (chunk x2 (k1_off2 i ⟨n, h⟩) (k1_off2_inb i ⟨n, h⟩)) (bwdAfter i x0 x1 x2 x4 x5 n))
        (dz1Of id x4 x5 (chunk x2 (k1_off2 i ⟨n, h⟩) (k1_off2_inb i ⟨n, h⟩)) (bwdAfter i x0 x1 x2 x4 x5 n)) (headQ 0#32 x0) (headQ 1#32 x0)
    else dkAfter i x0 x1 x2 x4 x5 A n

/-- The gradients of the values, `A` before this point, after the first `n` blocks. -/
def dvAfter (i : grid1.Coords) (x0 : Vec F S512x128 .bf16) (x1 x2 : Vec F S4096x128 .bf16) (x4 : Vec F S512x128 .f32)
    (x5 : Vec F S1x512x128 .f32) (A : Vec F S4096x128 .f32) : ℕ → Vec F S4096x128 .f32
  | 0 => A
  | n + 1 =>
    if h : n < (k1_t1_loop i).trips then
      addTwice (k1_off2 i ⟨n, h⟩) (k1_off2_inb i ⟨n, h⟩) (dvAfter i x0 x1 x2 x4 x5 A n)
        (w0Of id x5 (bwdAfter i x0 x1 x2 x4 x5 n)) (w1Of id x5 (bwdAfter i x0 x1 x2 x4 x5 n)) (headD 0#32 x4) (headD 1#32 x4)
    else dvAfter i x0 x1 x2 x4 x5 A n

/-- The loop's state with the stores it has made, over the contents `f9 f10` of the two whole-sequence outputs. -/
def bwdAll (i : grid1.Coords) (m9 m10 : Memref sig .tc .vmem S4096x128 .f32) (f9 : BufTy.Contents (Elt F) m9.view.ty)
    (f10 : BufTy.Contents (Elt F) m10.view.ty) (x0 : Vec F S512x128 .bf16) (x1 x2 : Vec F S4096x128 .bf16) (x4 : Vec F S512x128 .f32)
    (x5 : Vec F S1x512x128 .f32) : ℕ → BwdState F × List (View.Piece (Elt F) S4096x128 .f32) × List (View.Piece (Elt F) S4096x128 .f32)
  | 0 => (bwdAfter i x0 x1 x2 x4 x5 0, [], [])
  | n + 1 =>
    if h : n < (k1_t1_loop i).trips then
      (bwdAfter i x0 x1 x2 x4 x5 (n + 1),
        twice m9 (k1_off2 i ⟨n, h⟩) (k1_off2_inb i ⟨n, h⟩) (m9.view.writes (Elt F) f9 (bwdAll i m9 m10 f9 f10 x0 x1 x2 x4 x5 n).2.1)
          (dz0Of id x4 x5 (chunk x2 (k1_off2 i ⟨n, h⟩) (k1_off2_inb i ⟨n, h⟩)) (bwdAfter i x0 x1 x2 x4 x5 n))
          (dz1Of id x4 x5 (chunk x2 (k1_off2 i ⟨n, h⟩) (k1_off2_inb i ⟨n, h⟩)) (bwdAfter i x0 x1 x2 x4 x5 n)) (headQ 0#32 x0) (headQ 1#32 x0)
            ++ (bwdAll i m9 m10 f9 f10 x0 x1 x2 x4 x5 n).2.1,
        twice m10 (k1_off2 i ⟨n, h⟩) (k1_off2_inb i ⟨n, h⟩) (m10.view.writes (Elt F) f10 (bwdAll i m9 m10 f9 f10 x0 x1 x2 x4 x5 n).2.2)
          (w0Of id x5 (bwdAfter i x0 x1 x2 x4 x5 n)) (w1Of id x5 (bwdAfter i x0 x1 x2 x4 x5 n)) (headD 0#32 x4) (headD 1#32 x4)
            ++ (bwdAll i m9 m10 f9 f10 x0 x1 x2 x4 x5 n).2.2)
    else bwdAll i m9 m10 f9 f10 x0 x1 x2 x4 x5 n

theorem bwdAll_fst (i : grid1.Coords) (m9 m10 : Memref sig .tc .vmem S4096x128 .f32) (f9 : BufTy.Contents (Elt F) m9.view.ty)
    (f10 : BufTy.Contents (Elt F) m10.view.ty) (x0 : Vec F S512x128 .bf16) (x1 x2 : Vec F S4096x128 .bf16) (x4 : Vec F S512x128 .f32)
    (x5 : Vec F S1x512x128 .f32) : ∀ n, (bwdAll i m9 m10 f9 f10 x0 x1 x2 x4 x5 n).1 = bwdAfter i x0 x1 x2 x4 x5 n
  | 0 => rfl
  | n + 1 => by
    by_cases h : n < (k1_t1_loop i).trips
    · rw [bwdAll, dif_pos h]
    · rw [bwdAll, dif_neg h, bwdAfter, dif_neg h]; exact bwdAll_fst i m9 m10 f9 f10 x0 x1 x2 x4 x5 n

theorem bwdAll_dk (i : grid1.Coords) (m9 m10 : Memref sig .tc .vmem S4096x128 .f32) (f9 : BufTy.Contents (Elt F) m9.view.ty)
    (f10 : BufTy.Contents (Elt F) m10.view.ty) (x0 : Vec F S512x128 .bf16) (x1 x2 : Vec F S4096x128 .bf16) (x4 : Vec F S512x128 .f32)
    (x5 : Vec F S1x512x128 .f32) : ∀ n, m9.view.read (Elt F) (m9.view.writes (Elt F) f9 (bwdAll i m9 m10 f9 f10 x0 x1 x2 x4 x5 n).2.1)
      = dkAfter i x0 x1 x2 x4 x5 (m9.view.read (Elt F) f9) n
  | 0 => rfl
  | n + 1 => by
    by_cases h : n < (k1_t1_loop i).trips
    · rw [bwdAll, dif_pos h, dkAfter, dif_pos h]
      dsimp only
      rw [View.writes_append, read_twice, bwdAll_dk i m9 m10 f9 f10 x0 x1 x2 x4 x5 n]
    · rw [bwdAll, dif_neg h, dkAfter, dif_neg h]; exact bwdAll_dk i m9 m10 f9 f10 x0 x1 x2 x4 x5 n

theorem bwdAll_dv (i : grid1.Coords) (m9 m10 : Memref sig .tc .vmem S4096x128 .f32) (f9 : BufTy.Contents (Elt F) m9.view.ty)
    (f10 : BufTy.Contents (Elt F) m10.view.ty) (x0 : Vec F S512x128 .bf16) (x1 x2 : Vec F S4096x128 .bf16) (x4 : Vec F S512x128 .f32)
    (x5 : Vec F S1x512x128 .f32) : ∀ n, m10.view.read (Elt F) (m10.view.writes (Elt F) f10 (bwdAll i m9 m10 f9 f10 x0 x1 x2 x4 x5 n).2.2)
      = dvAfter i x0 x1 x2 x4 x5 (m10.view.read (Elt F) f10) n
  | 0 => rfl
  | n + 1 => by
    by_cases h : n < (k1_t1_loop i).trips
    · rw [bwdAll, dif_pos h, dvAfter, dif_pos h]
      dsimp only
      rw [View.writes_append, read_twice, bwdAll_dv i m9 m10 f9 f10 x0 x1 x2 x4 x5 n]
    · rw [bwdAll, dif_neg h, dvAfter, dif_neg h]; exact bwdAll_dv i m9 m10 f9 f10 x0 x1 x2 x4 x5 n

theorem st_bwd
   (𝒱 : Variants) (c : Dev nD) (bd : Option 𝒱.V) (i : grid1.Coords) (arg2 : Memref sig .tc .vmem S512x128 .bf16) (harg2 : arg2.IsWhole)
    (arg3 : Memref sig .tc .vmem S4096x128 .bf16) (harg3 : arg3.IsWhole) (arg4 : Memref sig .tc .vmem S4096x128 .bf16) (harg4 : arg4.IsWhole)
    (arg5 : Memref sig .tc .vmem S512x128 .f32) (harg5 : arg5.IsWhole) (arg6 : Memref sig .tc .vmem S512x128 .f32) (harg6 : arg6.IsWhole)
    (arg7 : Memref sig .tc .vmem S1x512x128 .f32) (harg7 : arg7.IsWhole) (arg8 : Memref sig .tc .vmem S512x128 .f32) (harg8 : arg8.IsWhole)
    (arg9 : Memref sig .tc .vmem S4096x128 .f32) (harg9 : arg9.IsWhole) (arg10 : Memref sig .tc .vmem S4096x128 .f32) (harg10 : arg10.IsWhole)
    (arg1 : BitVec 32) (v22 : BitVec 32) (v23 : IVec S512x512 32) (v86 : FVec F S512x128 .bf16) (v91 : FVec F S512x128 .bf16)
    (v96 : FVec F S512x128 .bf16) (v101 : FVec F S512x128 .bf16) (v104 : FVec F S512x1 .f32) (v105 : FVec F S512x1 .f32)
    (v111 : FVec F S128x128 .bf16) (v115 : FVec F S128x128 .bf16) (v116 : FVec F S512x128 .f32) (v117 : FVec F S512x1 .f32)
    (v121 : FVec F S512x512 .f32) (v124 : FVec F S512x512 .f32) (c0_i32_39 : BitVec 32) (v129 : BitVec 32)
    (X_arg3 : BufTy.Contents (Elt F) arg3.view.ty) (X_arg4 : BufTy.Contents (Elt F) arg4.view.ty)
    (G_arg9 : BufTy.Contents (Elt F) arg9.view.ty) (G_arg10 : BufTy.Contents (Elt F) arg10.view.ty) (init : BwdState F)
    (x0 : Vec F S512x128 .bf16) (x1 x2 : Vec F S4096x128 .bf16) (x4 : Vec F S512x128 .f32) (x5 : Vec F S1x512x128 .f32)
    (h0 : init = bwdAfter i x0 x1 x2 x4 x5 0) (h86 : v86 = headQ 0#32 x0) (h91 : v91 = headQ 1#32 x0) (h96 : v96 = headD 0#32 x4)
    (h101 : v101 = headD 1#32 x4) (h104 : v104 = tot0 x5) (h105 : v105 = tot1 x5) (h111 : v111 = triangle .sle) (h115 : v115 = triangle .slt)
    (hX3 : arg3.view.read (Elt F) X_arg3 = x1) (hX4 : arg4.view.read (Elt F) X_arg4 = x2) : ∀ n, n ≤ (k1_t1_loop i).trips →
    st_k1_t1 (F := F) 𝒱 c bd i arg2 harg2 arg3 harg3 arg4 harg4 arg5 harg5 arg6 harg6 arg7 harg7 arg8 harg8 arg9 harg9 arg10 harg10 arg1 v22 v23 v86 v91 v96 v101 v104 v105 v111 v115 v116 v117 v121 v124 c0_i32_39 v129 X_arg3 X_arg4 G_arg9 G_arg10 init n
      = bwdAll i arg9 arg10 G_arg9 G_arg10 x0 x1 x2 x4 x5 n
  | 0, _ => by subst h0; rfl
  | n + 1, h => by
    have ih := st_bwd 𝒱 c bd i arg2 harg2 arg3 harg3 arg4 harg4 arg5 harg5 arg6 harg6 arg7 harg7 arg8 harg8 arg9 harg9 arg10 harg10 arg1 v22 v23 v86 v91 v96 v101 v104 v105 v111 v115 v116 v117 v121 v124 c0_i32_39 v129 X_arg3 X_arg4 G_arg9 G_arg10 init x0 x1 x2 x4 x5 h0 h86 h91 h96 h101 h104 h105 h111 h115 hX3 hX4 n (Nat.le_of_succ_le h)
    rw [st_k1_t1_succ (F := F) 𝒱 c bd i arg2 harg2 arg3 harg3 arg4 harg4 arg5 harg5 arg6 harg6 arg7 harg7 arg8 harg8 arg9 harg9 arg10 harg10 arg1 v22 v23 v86 v91 v96 v101 v104 v105 v111 v115 v116 v117 v121 v124 c0_i32_39 v129 X_arg3 X_arg4 G_arg9 G_arg10 init ⟨n, h⟩, ih, tripR_k1_eq, tripL_k1_eq, bwdAll_fst]
    subst h86 h91 h96 h101 h104 h105 h111 h115
    rw [View.readAt_eq_ld, View.readAt_eq_ld, View.readAt_eq_ld, hX3, hX4, bwdAll, dif_pos (show n < (k1_t1_loop i).trips from h),
      bwdAfter, dif_pos (show n < (k1_t1_loop i).trips from h)]
    rfl

/-- Where the masked block's keys come before the queries. -/
abbrev visOf (i : grid1.Coords) : IVec S512x512 1 := seenAt (diagOf (BitVec.ofNat 32 (i 1).val))

/-- The gradient of the queries' block of a point. -/
def bwdDq (i : grid1.Coords) (x0 : Vec F S512x128 .bf16) (x1 x2 : Vec F S4096x128 .bf16) (x4 : Vec F S512x128 .f32)
    (x5 : Vec F S1x512x128 .f32) : FVec F S512x128 .f32 :=
  mulf (pick (laneOf 0#32)
    (accNext (bwdAfter i x0 x1 x2 x4 x5 (k1_t1_loop i).trips).2.2.2.2.1
      (dz0Of (masked (visOf i)) x4 x5 (chunk x2 (k1_off5 i) (k1_off5_inb i)) (bwdAfter i x0 x1 x2 x4 x5 (k1_t1_loop i).trips))
      (chunk x1 (k1_off5 i) (k1_off5_inb i)))
    (accNext (bwdAfter i x0 x1 x2 x4 x5 (k1_t1_loop i).trips).2.2.2.2.2.2.2
      (dz1Of (masked (visOf i)) x4 x5 (chunk x2 (k1_off5 i) (k1_off5_inb i)) (bwdAfter i x0 x1 x2 x4 x5 (k1_t1_loop i).trips))
      (chunk x1 (k1_off5 i) (k1_off5_inb i))))
    (broadcast S512x128 (Scalar.ofBits .f32 0x3E000000#32))

/-- The gradients of the keys after a point that found `A`. -/
def bwdDk (i : grid1.Coords) (x0 : Vec F S512x128 .bf16) (x1 x2 : Vec F S4096x128 .bf16) (x4 : Vec F S512x128 .f32)
    (x5 : Vec F S1x512x128 .f32) (A : Vec F S4096x128 .f32) : Vec F S4096x128 .f32 :=
  addTwice (k1_off5 i) (k1_off5_inb i) (dkAfter i x0 x1 x2 x4 x5 A (k1_t1_loop i).trips)
    (dz0Of (masked (visOf i)) x4 x5 (chunk x2 (k1_off5 i) (k1_off5_inb i)) (bwdAfter i x0 x1 x2 x4 x5 (k1_t1_loop i).trips))
    (dz1Of (masked (visOf i)) x4 x5 (chunk x2 (k1_off5 i) (k1_off5_inb i)) (bwdAfter i x0 x1 x2 x4 x5 (k1_t1_loop i).trips))
    (headQ 0#32 x0) (headQ 1#32 x0)

/-- The gradients of the values after a point that found `A`. -/
def bwdDv (i : grid1.Coords) (x0 : Vec F S512x128 .bf16) (x1 x2 : Vec F S4096x128 .bf16) (x4 : Vec F S512x128 .f32)
    (x5 : Vec F S1x512x128 .f32) (A : Vec F S4096x128 .f32) : Vec F S4096x128 .f32 :=
  addTwice (k1_off5 i) (k1_off5_inb i) (dvAfter i x0 x1 x2 x4 x5 A (k1_t1_loop i).trips)
    (w0Of (masked (visOf i)) x5 (bwdAfter i x0 x1 x2 x4 x5 (k1_t1_loop i).trips))
    (w1Of (masked (visOf i)) x5 (bwdAfter i x0 x1 x2 x4 x5 (k1_t1_loop i).trips)) (headD 0#32 x4) (headD 1#32 x4)

theorem k1_t2_zero (i : grid1.Coords) : (k1_t2_loop i).trips = 0 := Nat.le_zero.mp (k1_t2_abs i).2.1

theorem st_bwd2_acc
   (𝒱 : Variants) (c : Dev nD) (bd : Option 𝒱.V) (i : grid1.Coords) (arg2 : Memref sig .tc .vmem S512x128 .bf16) (harg2 : arg2.IsWhole)
    (arg3 : Memref sig .tc .vmem S4096x128 .bf16) (harg3 : arg3.IsWhole) (arg4 : Memref sig .tc .vmem S4096x128 .bf16) (harg4 : arg4.IsWhole)
    (arg5 : Memref sig .tc .vmem S512x128 .f32) (harg5 : arg5.IsWhole) (arg6 : Memref sig .tc .vmem S512x128 .f32) (harg6 : arg6.IsWhole)
    (arg7 : Memref sig .tc .vmem S1x512x128 .f32) (harg7 : arg7.IsWhole) (arg8 : Memref sig .tc .vmem S512x128 .f32) (harg8 : arg8.IsWhole)
    (arg9 : Memref sig .tc .vmem S4096x128 .f32) (harg9 : arg9.IsWhole) (arg10 : Memref sig .tc .vmem S4096x128 .f32) (harg10 : arg10.IsWhole)
    (arg1 : BitVec 32) (v22 : BitVec 32) (v23 : IVec S512x512 32) (v86 : FVec F S512x128 .bf16) (v91 : FVec F S512x128 .bf16)
    (v96 : FVec F S512x128 .bf16) (v101 : FVec F S512x128 .bf16) (v104 : FVec F S512x1 .f32) (v105 : FVec F S512x1 .f32)
    (v111 : FVec F S128x128 .bf16) (v115 : FVec F S128x128 .bf16) (v116 : FVec F S512x128 .f32) (v117 : FVec F S512x1 .f32)
    (v121 : FVec F S512x512 .f32) (v124 : FVec F S512x512 .f32) (c0_i32_39 : BitVec 32) (v129 : BitVec 32)
    (X_arg3 : BufTy.Contents (Elt F) arg3.view.ty) (X_arg4 : BufTy.Contents (Elt F) arg4.view.ty)
    (G_arg9 : BufTy.Contents (Elt F) arg9.view.ty) (G_arg10 : BufTy.Contents (Elt F) arg10.view.ty) (init : BwdState F) :
    (st_k1_t2 (F := F) 𝒱 c bd i arg2 harg2 arg3 harg3 arg4 harg4 arg5 harg5 arg6 harg6 arg7 harg7 arg8 harg8 arg9 harg9 arg10 harg10 arg1 v22 v23 v86 v91 v96 v101 v104 v105 v111 v115 v116 v117 v121 v124 c0_i32_39 v129 X_arg3 X_arg4 G_arg9 G_arg10 init 0).1 = init := rfl

theorem st_bwd2_dk
   (𝒱 : Variants) (c : Dev nD) (bd : Option 𝒱.V) (i : grid1.Coords) (arg2 : Memref sig .tc .vmem S512x128 .bf16) (harg2 : arg2.IsWhole)
    (arg3 : Memref sig .tc .vmem S4096x128 .bf16) (harg3 : arg3.IsWhole) (arg4 : Memref sig .tc .vmem S4096x128 .bf16) (harg4 : arg4.IsWhole)
    (arg5 : Memref sig .tc .vmem S512x128 .f32) (harg5 : arg5.IsWhole) (arg6 : Memref sig .tc .vmem S512x128 .f32) (harg6 : arg6.IsWhole)
    (arg7 : Memref sig .tc .vmem S1x512x128 .f32) (harg7 : arg7.IsWhole) (arg8 : Memref sig .tc .vmem S512x128 .f32) (harg8 : arg8.IsWhole)
    (arg9 : Memref sig .tc .vmem S4096x128 .f32) (harg9 : arg9.IsWhole) (arg10 : Memref sig .tc .vmem S4096x128 .f32) (harg10 : arg10.IsWhole)
    (arg1 : BitVec 32) (v22 : BitVec 32) (v23 : IVec S512x512 32) (v86 : FVec F S512x128 .bf16) (v91 : FVec F S512x128 .bf16)
    (v96 : FVec F S512x128 .bf16) (v101 : FVec F S512x128 .bf16) (v104 : FVec F S512x1 .f32) (v105 : FVec F S512x1 .f32)
    (v111 : FVec F S128x128 .bf16) (v115 : FVec F S128x128 .bf16) (v116 : FVec F S512x128 .f32) (v117 : FVec F S512x1 .f32)
    (v121 : FVec F S512x512 .f32) (v124 : FVec F S512x512 .f32) (c0_i32_39 : BitVec 32) (v129 : BitVec 32)
    (X_arg3 : BufTy.Contents (Elt F) arg3.view.ty) (X_arg4 : BufTy.Contents (Elt F) arg4.view.ty)
    (G_arg9 : BufTy.Contents (Elt F) arg9.view.ty) (G_arg10 : BufTy.Contents (Elt F) arg10.view.ty) (init : BwdState F) :
    (st_k1_t2 (F := F) 𝒱 c bd i arg2 harg2 arg3 harg3 arg4 harg4 arg5 harg5 arg6 harg6 arg7 harg7 arg8 harg8 arg9 harg9 arg10 harg10 arg1 v22 v23 v86 v91 v96 v101 v104 v105 v111 v115 v116 v117 v121 v124 c0_i32_39 v129 X_arg3 X_arg4 G_arg9 G_arg10 init 0).2.1 = [] := rfl

theorem st_bwd2_dv
   (𝒱 : Variants) (c : Dev nD) (bd : Option 𝒱.V) (i : grid1.Coords) (arg2 : Memref sig .tc .vmem S512x128 .bf16) (harg2 : arg2.IsWhole)
    (arg3 : Memref sig .tc .vmem S4096x128 .bf16) (harg3 : arg3.IsWhole) (arg4 : Memref sig .tc .vmem S4096x128 .bf16) (harg4 : arg4.IsWhole)
    (arg5 : Memref sig .tc .vmem S512x128 .f32) (harg5 : arg5.IsWhole) (arg6 : Memref sig .tc .vmem S512x128 .f32) (harg6 : arg6.IsWhole)
    (arg7 : Memref sig .tc .vmem S1x512x128 .f32) (harg7 : arg7.IsWhole) (arg8 : Memref sig .tc .vmem S512x128 .f32) (harg8 : arg8.IsWhole)
    (arg9 : Memref sig .tc .vmem S4096x128 .f32) (harg9 : arg9.IsWhole) (arg10 : Memref sig .tc .vmem S4096x128 .f32) (harg10 : arg10.IsWhole)
    (arg1 : BitVec 32) (v22 : BitVec 32) (v23 : IVec S512x512 32) (v86 : FVec F S512x128 .bf16) (v91 : FVec F S512x128 .bf16)
    (v96 : FVec F S512x128 .bf16) (v101 : FVec F S512x128 .bf16) (v104 : FVec F S512x1 .f32) (v105 : FVec F S512x1 .f32)
    (v111 : FVec F S128x128 .bf16) (v115 : FVec F S128x128 .bf16) (v116 : FVec F S512x128 .f32) (v117 : FVec F S512x1 .f32)
    (v121 : FVec F S512x512 .f32) (v124 : FVec F S512x512 .f32) (c0_i32_39 : BitVec 32) (v129 : BitVec 32)
    (X_arg3 : BufTy.Contents (Elt F) arg3.view.ty) (X_arg4 : BufTy.Contents (Elt F) arg4.view.ty)
    (G_arg9 : BufTy.Contents (Elt F) arg9.view.ty) (G_arg10 : BufTy.Contents (Elt F) arg10.view.ty) (init : BwdState F) :
    (st_k1_t2 (F := F) 𝒱 c bd i arg2 harg2 arg3 harg3 arg4 harg4 arg5 harg5 arg6 harg6 arg7 harg7 arg8 harg8 arg9 harg9 arg10 harg10 arg1 v22 v23 v86 v91 v96 v101 v104 v105 v111 v115 v116 v117 v121 v124 c0_i32_39 v129 X_arg3 X_arg4 G_arg9 G_arg10 init 0).2.2 = [] := rfl

/-- The values the generated body names, on the masked block, are the functions of Ops.lean. -/
theorem pay_w0 (a nf : BitVec 32) (m : IVec S512x512 32) (tot seen : FVec F S512x1 .f32) (u : FVec F S128x128 .bf16) (z : FVec F S512x512 .f32) :
    k1_pay178 tot u (k1_pay168 z) (k1_pay169 a nf m) (k1_pay170 a nf m z) (k1_pay172 a nf m tot u z seen) (k1_pay173 a nf m z seen)
      (k1_pay174 a nf m z) (k1_pay175 a nf m tot z seen) (k1_pay176 a nf m z) (k1_pay177 a nf m z)
      = wBwd (masked (k1_pay169 a nf m)) u tot seen z := rfl

theorem pay_g0 (a nf : BitVec 32) (m : IVec S512x512 32) (tot seen : FVec F S512x1 .f32) (u : FVec F S128x128 .bf16) (d v : FVec F S512x128 .bf16)
    (z : FVec F S512x512 .f32) :
    k1_pay179 tot u (k1_pay167 d v) (k1_pay168 z) (k1_pay169 a nf m) (k1_pay170 a nf m z) (k1_pay172 a nf m tot u z seen) (k1_pay173 a nf m z seen)
      (k1_pay174 a nf m z) (k1_pay175 a nf m tot z seen) (k1_pay176 a nf m z) (k1_pay177 a nf m z)
      = gBwd (masked (k1_pay169 a nf m)) u tot seen d v z := rfl

theorem pay_dz0 (a nf : BitVec 32) (m : IVec S512x512 32) (tot seen gsum : FVec F S512x1 .f32) (u ub : FVec F S128x128 .bf16)
    (d v : FVec F S512x128 .bf16) (z : FVec F S512x512 .f32) :
    k1_pay182 ub gsum (k1_pay168 z)
      (k1_pay179 tot u (k1_pay167 d v) (k1_pay168 z) (k1_pay169 a nf m) (k1_pay170 a nf m z) (k1_pay172 a nf m tot u z seen) (k1_pay173 a nf m z seen)
        (k1_pay174 a nf m z) (k1_pay175 a nf m tot z seen) (k1_pay176 a nf m z) (k1_pay177 a nf m z))
      (k1_pay180 tot u (k1_pay167 d v) (k1_pay168 z) (k1_pay169 a nf m) (k1_pay170 a nf m z) (k1_pay172 a nf m tot u z seen) (k1_pay173 a nf m z seen)
        (k1_pay174 a nf m z) (k1_pay175 a nf m tot z seen) (k1_pay176 a nf m z) (k1_pay177 a nf m z))
      (k1_pay181 tot u ub (k1_pay167 d v) (k1_pay168 z) (k1_pay169 a nf m) (k1_pay170 a nf m z) (k1_pay172 a nf m tot u z seen) (k1_pay173 a nf m z seen)
        (k1_pay174 a nf m z) (k1_pay175 a nf m tot z seen) (k1_pay176 a nf m z) (k1_pay177 a nf m z))
      = dScore (logBeta z) (gBwd (masked (k1_pay169 a nf m)) u tot seen d v z) (before ub gsum (gBwd (masked (k1_pay169 a nf m)) u tot seen d v z)) := rfl

theorem pay_dk0 (vis : IVec S512x512 1) (x : FVec F S512x512 .f32) (q : FVec F S512x128 .bf16) (old : Vec F S512x128 .f32) :
    k1_pay185 q vis x k1_pay183 old = addTn old (masked vis x) q := rfl

theorem pay_dv0 (x : FVec F S512x512 .f32) (d : FVec F S512x128 .bf16) (old : Vec F S512x128 .f32) : k1_pay186 d x old = addTn old x d := rfl

theorem pay_dq0 (vis : IVec S512x512 1) (x : FVec F S512x512 .f32) (acc : FVec F S512x128 .f32) (k : FVec F S512x128 .bf16) :
    k1_pay187 acc vis x k1_pay183 k = accNext acc (masked vis x) k := rfl

theorem pay_w1 (vis : IVec S512x512 1) (tot seen : FVec F S512x1 .f32) (u : FVec F S128x128 .bf16) (z : FVec F S512x512 .f32) :
    k1_pay205 u (k1_pay189 z) vis (k1_pay194 tot u seen (k1_pay190 z) vis) (k1_pay197 tot u seen (k1_pay190 z) vis)
      (k1_pay200 tot u seen (k1_pay190 z) vis) (k1_pay202 tot seen (k1_pay190 z) vis) (k1_pay203 (k1_pay190 z) vis) (k1_pay204 (k1_pay190 z) vis)
      = wBwd (masked vis) u tot seen z := rfl

theorem pay_dv1 (x : FVec F S512x512 .f32) (d : FVec F S512x128 .bf16) (old : Vec F S512x128 .f32) : k1_pay218 d x old = addTn old x d := rfl

theorem pay_dk1 (vis : IVec S512x512 1) (tot seen gsum : FVec F S512x1 .f32) (u ub : FVec F S128x128 .bf16)
    (q d v : FVec F S512x128 .bf16) (z : FVec F S512x512 .f32) (old : Vec F S512x128 .f32) :
    k1_pay217 q ub (k1_pay189 z) vis
      (k1_pay206 u (k1_pay188 d v) (k1_pay189 z) vis (k1_pay194 tot u seen (k1_pay190 z) vis) (k1_pay197 tot u seen (k1_pay190 z) vis)
        (k1_pay200 tot u seen (k1_pay190 z) vis) (k1_pay202 tot seen (k1_pay190 z) vis) (k1_pay203 (k1_pay190 z) vis) (k1_pay204 (k1_pay190 z) vis))
      (k1_pay208 u ub gsum (k1_pay188 d v) (k1_pay189 z) vis (k1_pay194 tot u seen (k1_pay190 z) vis) (k1_pay197 tot u seen (k1_pay190 z) vis)
        (k1_pay200 tot u seen (k1_pay190 z) vis) (k1_pay202 tot seen (k1_pay190 z) vis) (k1_pay203 (k1_pay190 z) vis) (k1_pay204 (k1_pay190 z) vis))
      (k1_pay211 u ub gsum (k1_pay188 d v) (k1_pay189 z) vis (k1_pay194 tot u seen (k1_pay190 z) vis) (k1_pay197 tot u seen (k1_pay190 z) vis)
        (k1_pay200 tot u seen (k1_pay190 z) vis) (k1_pay202 tot seen (k1_pay190 z) vis) (k1_pay203 (k1_pay190 z) vis) (k1_pay204 (k1_pay190 z) vis))
      (k1_pay212 u gsum (k1_pay188 d v) (k1_pay189 z) vis (k1_pay194 tot u seen (k1_pay190 z) vis) (k1_pay197 tot u seen (k1_pay190 z) vis)
        (k1_pay200 tot u seen (k1_pay190 z) vis) (k1_pay202 tot seen (k1_pay190 z) vis) (k1_pay203 (k1_pay190 z) vis) (k1_pay204 (k1_pay190 z) vis))
      (k1_pay214 u ub gsum (k1_pay188 d v) (k1_pay189 z) vis (k1_pay194 tot u seen (k1_pay190 z) vis) (k1_pay197 tot u seen (k1_pay190 z) vis)
        (k1_pay200 tot u seen (k1_pay190 z) vis) (k1_pay202 tot seen (k1_pay190 z) vis) (k1_pay203 (k1_pay190 z) vis) (k1_pay204 (k1_pay190 z) vis))
      (k1_pay215 u (k1_pay188 d v) (k1_pay189 z) vis (k1_pay194 tot u seen (k1_pay190 z) vis) (k1_pay197 tot u seen (k1_pay190 z) vis)
        (k1_pay200 tot u seen (k1_pay190 z) vis) (k1_pay202 tot seen (k1_pay190 z) vis) (k1_pay203 (k1_pay190 z) vis) (k1_pay204 (k1_pay190 z) vis)) old
      = addTn old (dzHead (masked vis) u ub tot seen gsum d v z) q := rfl

theorem pay_dq1 (vis : IVec S512x512 1) (tot seen gsum : FVec F S512x1 .f32) (u ub : FVec F S128x128 .bf16)
    (d v k : FVec F S512x128 .bf16) (z : FVec F S512x512 .f32) (acc : FVec F S512x128 .f32) :
    k1_pay219 ub acc (k1_pay189 z) vis
      (k1_pay206 u (k1_pay188 d v) (k1_pay189 z) vis (k1_pay194 tot u seen (k1_pay190 z) vis) (k1_pay197 tot u seen (k1_pay190 z) vis)
        (k1_pay200 tot u seen (k1_pay190 z) vis) (k1_pay202 tot seen (k1_pay190 z) vis) (k1_pay203 (k1_pay190 z) vis) (k1_pay204 (k1_pay190 z) vis))
      (k1_pay208 u ub gsum (k1_pay188 d v) (k1_pay189 z) vis (k1_pay194 tot u seen (k1_pay190 z) vis) (k1_pay197 tot u seen (k1_pay190 z) vis)
        (k1_pay200 tot u seen (k1_pay190 z) vis) (k1_pay202 tot seen (k1_pay190 z) vis) (k1_pay203 (k1_pay190 z) vis) (k1_pay204 (k1_pay190 z) vis))
      (k1_pay211 u ub gsum (k1_pay188 d v) (k1_pay189 z) vis (k1_pay194 tot u seen (k1_pay190 z) vis) (k1_pay197 tot u seen (k1_pay190 z) vis)
        (k1_pay200 tot u seen (k1_pay190 z) vis) (k1_pay202 tot seen (k1_pay190 z) vis) (k1_pay203 (k1_pay190 z) vis) (k1_pay204 (k1_pay190 z) vis))
      (k1_pay212 u gsum (k1_pay188 d v) (k1_pay189 z) vis (k1_pay194 tot u seen (k1_pay190 z) vis) (k1_pay197 tot u seen (k1_pay190 z) vis)
        (k1_pay200 tot u seen (k1_pay190 z) vis) (k1_pay202 tot seen (k1_pay190 z) vis) (k1_pay203 (k1_pay190 z) vis) (k1_pay204 (k1_pay190 z) vis))
      (k1_pay214 u ub gsum (k1_pay188 d v) (k1_pay189 z) vis (k1_pay194 tot u seen (k1_pay190 z) vis) (k1_pay197 tot u seen (k1_pay190 z) vis)
        (k1_pay200 tot u seen (k1_pay190 z) vis) (k1_pay202 tot seen (k1_pay190 z) vis) (k1_pay203 (k1_pay190 z) vis) (k1_pay204 (k1_pay190 z) vis))
      (k1_pay215 u (k1_pay188 d v) (k1_pay189 z) vis (k1_pay194 tot u seen (k1_pay190 z) vis) (k1_pay197 tot u seen (k1_pay190 z) vis)
        (k1_pay200 tot u seen (k1_pay190 z) vis) (k1_pay202 tot seen (k1_pay190 z) vis) (k1_pay203 (k1_pay190 z) vis) (k1_pay204 (k1_pay190 z) vis)) k
      = accNext acc (dzHead (masked vis) u ub tot seen gsum d v z) k := rfl

end Cert.KernelIdeal.Sb

end
-- ==== Proof.BackwardReal.lean ====
/- The backward kernel's blocks of gradients over the reals. -/
module

public import proofs.«01_k».proof.Proof.ForwardReal
public import proofs.«01_k».proof.Proof.Backward

@[expose] public section

set_option maxRecDepth 16384

noncomputable section

namespace Cert.KernelIdeal.Sb

open Idealize.ShloMosaic Idealize.ShloMosaic.TcCoe Idealize.ShloMosaic.Tactic
open Cert.KernelIdeal Cert.KernelIdeal.Gen Cert.Stick
open Finset (range)

theorem k1_trips : ∀ i : grid1.Coords, (k1_t1_loop i).trips = (i 1).val := by decide +kernel

/-- The gradient of head `a`'s weights. -/
def dOf (a : ℕ) (DO V : ℕ → ℕ → ℝ) (q j : ℕ) : ℝ := ∑ l ∈ range 128, headLanes a DO q l * V j l

/-- The gradient of head `a`'s scores. -/
def dzOf (a : ℕ) (Q K V DO : ℕ → ℕ → ℝ) : ℕ → ℕ → ℝ := DZ (scoreOf a Q K) (dOf a DO V)

/-- The gradients of the queries. -/
def dqOf (Q K V DO : ℕ → ℕ → ℝ) (q l : ℕ) : ℝ := (∑ j ∈ range 4096, dzOf (l / 64) Q K V DO q j * K j l) * (1 / 8)

/-- What the `b`-th block of queries adds to the gradients of the keys, and of the values. -/
def dkPart (Q K V DO : ℕ → ℕ → ℝ) (b j l : ℕ) : ℝ := ∑ k ∈ range 512, dzOf (l / 64) Q K V DO (512 * b + k) j * (Q (512 * b + k) l * (1 / 8))
def dvPart (Q K DO : ℕ → ℕ → ℝ) (b j l : ℕ) : ℝ := ∑ k ∈ range 512, W (scoreOf (l / 64) Q K) (512 * b + k) j * DO (512 * b + k) l

/-- What one head carries before block `c`. -/
structure BwdInv (b c : ℕ) (Z D K : ℕ → ℕ → ℝ) (z : FVec Ideal S512x512 .f32) (seen gsum : FVec Ideal S512x1 .f32) (dq : FVec Ideal S512x128 .f32) : Prop where
  hz : Re z (fun r k => Z (512 * b + r) (512 * c + k))
  hseen : Re seen (fun r _ => ∑ m ∈ range (512 * c), LS Z (512 * b + r) m)
  hgsum : Re gsum (fun r _ => ∑ m ∈ range (512 * c), G Z D (512 * b + r) m)
  hdq : Re dq (fun r l => ∑ m ∈ range (512 * c), DZ Z D (512 * b + r) m * K m l)

section Block

variable {M : FVec Ideal S512x512 .f32 → FVec Ideal S512x512 .f32} {b c : ℕ} {Z D K : ℕ → ℕ → ℝ} {z : FVec Ideal S512x512 .f32}
  {seen gsum tot : FVec Ideal S512x1 .f32} {dq : FVec Ideal S512x128 .f32} {d v k : FVec Ideal S512x128 .bf16} {f g : ℕ → ℕ → ℝ}

theorem BwdInv.gw (h : BwdInv b c Z D K z seen gsum dq) (hM : Masks M b c) (hc : c < 8) (ht : Re tot (fun r _ => ∑ m ∈ range 4096, LS Z (512 * b + r) m))
    (hd : Re d f) (hv : Re v g) (hD : ∀ r k, ∑ l ∈ range 128, f r l * g k l = D (512 * b + r) (512 * c + k)) :
    Re (gBwd M (triangle .sle) tot seen d v z) (fun r k => G Z D (512 * b + r) (512 * c + k)) :=
  tile_gBwd hM hc re_upto h.hz ht h.hseen hd hv hD

theorem BwdInv.dz (h : BwdInv b c Z D K z seen gsum dq) (hM : Masks M b c) (hc : c < 8) (ht : Re tot (fun r _ => ∑ m ∈ range 4096, LS Z (512 * b + r) m))
    (hd : Re d f) (hv : Re v g) (hD : ∀ r k, ∑ l ∈ range 128, f r l * g k l = D (512 * b + r) (512 * c + k)) :
    Re (dzHead M (triangle .sle) (triangle .slt) tot seen gsum d v z) (fun r k => DZ Z D (512 * b + r) (512 * c + k)) :=
  tile_dzBwd hM hc re_before h.hz (h.gw hM hc ht hd hv hD) h.hgsum

theorem BwdInv.w (h : BwdInv b c Z D K z seen gsum dq) (hM : Masks M b c) (hc : c < 8) (ht : Re tot (fun r _ => ∑ m ∈ range 4096, LS Z (512 * b + r) m)) :
    Re (wBwd M (triangle .sle) tot seen z) (fun r k => W Z (512 * b + r) (512 * c + k)) :=
  tile_wBwd hM hc re_upto h.hz ht h.hseen

theorem BwdInv.dqNext (h : BwdInv b c Z D K z seen gsum dq) (hM : Masks M b c) (hc : c < 8) (ht : Re tot (fun r _ => ∑ m ∈ range 4096, LS Z (512 * b + r) m))
    (hd : Re d f) (hv : Re v g) (hD : ∀ r k, ∑ l ∈ range 128, f r l * g k l = D (512 * b + r) (512 * c + k)) (hk : Re k (fun k l => K (512 * c + k) l)) :
    Re (accNext dq (dzHead M (triangle .sle) (triangle .slt) tot seen gsum d v z) k)
      (fun r l => ∑ m ∈ range (512 * (c + 1)), DZ Z D (512 * b + r) m * K m l) :=
  tile_dqBwd (F := fun r m => DZ Z D (512 * b + r) m) (h.dz hM hc ht hd hv hD) hk h.hdq

theorem BwdInv.step (h : BwdInv b c Z D K z seen gsum dq) (hcb : c < b) (hc : c < 8) (ht : Re tot (fun r _ => ∑ m ∈ range 4096, LS Z (512 * b + r) m))
    (hd : Re d f) (hv : Re v g) (hD : ∀ r k, ∑ l ∈ range 128, f r l * g k l = D (512 * b + r) (512 * c + k)) (hk : Re k (fun k l => K (512 * c + k) l))
    {zn : FVec Ideal S512x512 .f32} (hn : Re zn (fun r k => Z (512 * b + r) (512 * (c + 1) + k))) :
    BwdInv b (c + 1) Z D K zn (sumNext seen (logStay z)) (sumNext gsum (gBwd id (triangle .sle) tot seen d v z))
      (accNext dq (dzHead id (triangle .sle) (triangle .slt) tot seen gsum d v z) k) := by
  have hM := masks_id (b := b) (c := c) hcb
  have h1 := tile_sumBwd (F := fun r m => LS Z (512 * b + r) m) h.hseen (tile_stay hM h.hz)
  have h2 := tile_sumBwd (F := fun r m => G Z D (512 * b + r) m) h.hgsum (h.gw hM hc ht hd hv hD)
  have h3 := h.dqNext hM hc ht hd hv hD hk
  exact ⟨hn, h1, h2, h3⟩

end Block

/-! ### The two whole-sequence blocks -/

theorem re_put {A : FVec Ideal S4096x128 .f32} {x : FVec Ideal S512x128 .f32} {f g : ℕ → ℕ → ℝ} (hA : Re A f) {off : Fin 2 → ℕ} {n : ℕ}
    (h : off = ![512 * n, 0]) (hx : Re x (fun r c => g (512 * n + r) c)) :
    Re (φ := .f32) (VecWindow.put A off S512x128.size x)
      (fun j l => if 512 * n ≤ j ∧ j < 512 * (n + 1) then g j l else f j l) := fun j l => by
  subst h
  by_cases hj : 512 * n ≤ j.val ∧ j.val < 512 * (n + 1)
  · dsimp only
    rw [if_pos hj]
    have hall : ∀ a : Fin 2, (![512 * n, 0] : Fin 2 → ℕ) a ≤ ((ix2 j l : S4096x128.Idx) a).val
        ∧ ((ix2 j l : S4096x128.Idx) a).val < (![512 * n, 0] : Fin 2 → ℕ) a + S512x128.size a :=
      Fin.forall_fin_two.mpr ⟨⟨hj.1, by have := hj.2; show j.val < 512 * n + 512; omega⟩, ⟨Nat.zero_le _, by have := l.isLt; show l.val < 0 + 128; omega⟩⟩
    have hlt : j.val - 512 * n < 512 := by omega
    have e : (x (ix2 ⟨j.val - 512 * n, hlt⟩ l) : EReal) = ((g j l : ℝ) : EReal) := by
      have e := hx ⟨j.val - 512 * n, hlt⟩ l
      have e1 : 512 * n + (j.val - 512 * n) = j.val := by omega
      simpa only [e1] using e
    rw [← e]
    refine (dif_pos hall).trans (congrArg x ?_)
    exact funext (Fin.forall_fin_two.mpr ⟨Fin.ext rfl, Fin.ext (show l.val - 0 = l.val by omega)⟩)
  · dsimp only
    rw [if_neg hj, ← hA j l]
    exact dif_neg fun hall => hj (by
      have := hall (0 : Fin 2)
      have h1 : 512 * n ≤ j.val := this.1
      have h2 : j.val < 512 * n + 512 := this.2
      omega)

theorem re_rows {x : FVec Ideal S4096x128 .f32} {g : ℕ → ℕ → ℝ} (hx : Re x g) {off : Fin 2 → ℕ} {n : ℕ} (h : off = ![512 * n, 0])
    (inb : ∀ a, off a + S512x128.size a ≤ S4096x128.size a) : Re (R := 512) (C := 128) (φ := .f32) (View.ld (Val := Elt Ideal) (e' := .f32) x (rows off inb)) (fun r c => g (512 * n + r) c) :=
  fun r c => by
  subst h
  have hn' : 512 * n + 512 ≤ 4096 := inb 0
  have := hx ⟨512 * n + r, by omega⟩ c
  rw [← this]
  show x _ = x _
  congr 1
  refine (eq_ix2 _).trans ?_
  congr 1
  · exact Fin.ext (by simp)
  · exact Fin.ext (by simp)

theorem re_addTwice {A : FVec Ideal S4096x128 .f32} {x0 x1 : FVec Ideal S512x512 .f32} {y0 y1 : FVec Ideal S512x128 .bf16}
    {f g0 g1 X0 X1 : ℕ → ℕ → ℝ} (hA : Re A f) {off : Fin 2 → ℕ} {n : ℕ} (h : off = ![512 * n, 0]) (inb : ∀ a, off a + S512x128.size a ≤ S4096x128.size a)
    (hx0 : Re x0 (fun r k => X0 r (512 * n + k))) (hx1 : Re x1 (fun r k => X1 r (512 * n + k))) (hy0 : Re y0 g0) (hy1 : Re y1 g1) :
    Re (φ := .f32) (addTwice (F := Ideal) off inb A x0 x1 y0 y1)
      (fun j l => if 512 * n ≤ j ∧ j < 512 * (n + 1) then f j l + ∑ k ∈ range 512, X0 k j * g0 k l + ∑ k ∈ range 512, X1 k j * g1 k l else f j l) :=
  re_put hA h (((re_rows hA h inb).addTn hx0 hy0).addTn hx1 hy1)

/-- Each lane belongs to one head. -/
theorem two_heads (P : ℕ → ℕ → ℝ) (X : ℕ → ℕ → ℝ) {l : ℕ} (hl : l < 128) :
    ∑ k ∈ range 512, P 0 k * headLanes 0 X k l + ∑ k ∈ range 512, P 1 k * headLanes 1 X k l = ∑ k ∈ range 512, P (l / 64) k * X k l := by
  rw [← Finset.sum_add_distrib]
  refine Finset.sum_congr rfl fun k _ => ?_
  unfold headLanes
  by_cases h0 : l / 64 = 0
  · rw [if_pos h0, if_neg (by omega), mul_zero, add_zero, h0]
  · rw [if_neg h0, if_pos (by omega), mul_zero, zero_add, show l / 64 = 1 by omega]

/-! ### One grid point -/

variable {i : grid1.Coords} {x0 : FVec Ideal S512x128 .bf16} {x1 x2 : FVec Ideal S4096x128 .bf16} {x4 : FVec Ideal S512x128 .f32}
  {x5 : FVec Ideal S1x512x128 .f32} {A : FVec Ideal S4096x128 .f32} {Q K V DO f : ℕ → ℕ → ℝ}

theorem re_headD0 {x : FVec Ideal S512x128 .f32} {f : ℕ → ℕ → ℝ} (hx : Re x f) : Re (headD 0#32 x) (headLanes 0 f) := hx.headOf sel_lane0
theorem re_headD1 {x : FVec Ideal S512x128 .f32} {f : ℕ → ℕ → ℝ} (hx : Re x f) : Re (headD 1#32 x) (headLanes 1 f) := hx.headOf sel_lane1

theorem re_tot0 {b : ℕ} (ht : ∀ (r : Fin 512) (l : Fin 128), (x5 (ix3 0 r l) : EReal) = ((totOf Q K (512 * b + r) l : ℝ) : EReal)) :
    Re (tot0 x5) (fun r _ => ∑ m ∈ range 4096, LS (scoreOf 0 Q K) (512 * b + r) m) := fun r c => by
  have e : c = 0 := Subsingleton.elim _ _
  subst e
  pointwise [Sb.tot0]
  exact ht r 0

theorem re_tot1 {b : ℕ} (ht : ∀ (r : Fin 512) (l : Fin 128), (x5 (ix3 0 r l) : EReal) = ((totOf Q K (512 * b + r) l : ℝ) : EReal)) :
    Re (tot1 x5) (fun r _ => ∑ m ∈ range 4096, LS (scoreOf 1 Q K) (512 * b + r) m) := fun r c => by
  have e : c = 0 := Subsingleton.elim _ _
  subst e
  pointwise [Sb.tot1]
  exact ht r 64

/-- What a grid point of the backward kernel finds: the block's queries, the keys, the values, the block's output gradients and row totals. -/
structure Finds (i : grid1.Coords) (x0 : FVec Ideal S512x128 .bf16) (x1 x2 : FVec Ideal S4096x128 .bf16) (x4 : FVec Ideal S512x128 .f32)
    (x5 : FVec Ideal S1x512x128 .f32) (Q K V DO : ℕ → ℕ → ℝ) : Prop where
  q : Re x0 (fun r l => Q (512 * (i 1).val + r) l)
  k : Re x1 K
  v : Re x2 V
  d : Re x4 (fun r l => DO (512 * (i 1).val + r) l)
  t : ∀ (r : Fin 512) (l : Fin 128), (x5 (ix3 0 r l) : EReal) = ((totOf Q K (512 * (i 1).val + r) l : ℝ) : EReal)

theorem bwd_inv (h : Finds i x0 x1 x2 x4 x5 Q K V DO) : ∀ n, n ≤ (i 1).val →
    BwdInv (i 1).val n (scoreOf 0 Q K) (dOf 0 DO V) K (bwdAfter i x0 x1 x2 x4 x5 n).1 (bwdAfter i x0 x1 x2 x4 x5 n).2.2.1
      (bwdAfter i x0 x1 x2 x4 x5 n).2.2.2.1 (bwdAfter i x0 x1 x2 x4 x5 n).2.2.2.2.1
    ∧ BwdInv (i 1).val n (scoreOf 1 Q K) (dOf 1 DO V) K (bwdAfter i x0 x1 x2 x4 x5 n).2.1 (bwdAfter i x0 x1 x2 x4 x5 n).2.2.2.2.2.1
      (bwdAfter i x0 x1 x2 x4 x5 n).2.2.2.2.2.2.1 (bwdAfter i x0 x1 x2 x4 x5 n).2.2.2.2.2.2.2 := by
  have hb : (i 1).val < 8 := (i 1).isLt
  have s0 : ∀ {k : FVec Ideal S512x128 .bf16} {c : ℕ}, Re k (fun k l => K (512 * c + k) l) →
      Re (scores (headQ 0#32 x0) k) (fun r k => scoreOf 0 Q K (512 * (i 1).val + r) (512 * c + k)) := fun hk => (re_headQ0 h.q).scores hk
  have s1 : ∀ {k : FVec Ideal S512x128 .bf16} {c : ℕ}, Re k (fun k l => K (512 * c + k) l) →
      Re (scores (headQ 1#32 x0) k) (fun r k => scoreOf 1 Q K (512 * (i 1).val + r) (512 * c + k)) := fun hk => (re_headQ1 h.q).scores hk
  intro n
  induction n with
  | zero =>
    intro _
    have k0 := re_chunk (n := 0) h.k rfl inb_S4096x128_S512x128_0_0
    have z1 : Re zeroCol (fun r _ => ∑ m ∈ range (512 * 0), (0 : ℝ)) := re_zeroCol
    have z2 : Re zeroOut (fun r _ => ∑ m ∈ range (512 * 0), (0 : ℝ)) := re_zeroOut
    rw [bwdAfter]
    exact ⟨⟨s0 k0, z1, z1, z2⟩, ⟨s1 k0, z1, z1, z2⟩⟩
  | succ n ih =>
    intro hn
    obtain ⟨h0, h1⟩ := ih (by omega)
    have ht : n < (k1_t1_loop i).trips := by rw [k1_trips i]; omega
    have kn := re_chunk (n := n + 1) h.k (k1_off1_eq i ⟨n, ht⟩) (k1_off1_inb i ⟨n, ht⟩)
    have kc := re_chunk h.k (k1_off2_eq i ⟨n, ht⟩) (k1_off2_inb i ⟨n, ht⟩)
    have vc := re_chunk h.v (k1_off2_eq i ⟨n, ht⟩) (k1_off2_inb i ⟨n, ht⟩)
    rw [bwdAfter, dif_pos ht]
    have g0 := h0.step (by omega) (by omega) (re_tot0 h.t) (re_headD0 h.d) vc (fun r k => rfl) kc (s0 kn)
    have g1 := h1.step (by omega) (by omega) (re_tot1 h.t) (re_headD1 h.d) vc (fun r k => rfl) kc (s1 kn)
    exact ⟨g0, g1⟩

section Tiles

variable {M : FVec Ideal S512x512 .f32 → FVec Ideal S512x512 .f32} {n : ℕ} {v : FVec Ideal S512x128 .bf16}

theorem re_dz0 (h : Finds i x0 x1 x2 x4 x5 Q K V DO) (hn : n ≤ (i 1).val) (hM : Masks M (i 1).val n) (hv : Re v (fun k l => V (512 * n + k) l)) :
    Re (dz0Of M x4 x5 v (bwdAfter i x0 x1 x2 x4 x5 n)) (fun r k => dzOf 0 Q K V DO (512 * (i 1).val + r) (512 * n + k)) :=
  (bwd_inv h n hn).1.dz hM (lt_of_le_of_lt hn (i 1).isLt) (re_tot0 h.t) (re_headD0 h.d) hv (fun r k => rfl)

theorem re_dz1 (h : Finds i x0 x1 x2 x4 x5 Q K V DO) (hn : n ≤ (i 1).val) (hM : Masks M (i 1).val n) (hv : Re v (fun k l => V (512 * n + k) l)) :
    Re (dz1Of M x4 x5 v (bwdAfter i x0 x1 x2 x4 x5 n)) (fun r k => dzOf 1 Q K V DO (512 * (i 1).val + r) (512 * n + k)) :=
  (bwd_inv h n hn).2.dz hM (lt_of_le_of_lt hn (i 1).isLt) (re_tot1 h.t) (re_headD1 h.d) hv (fun r k => rfl)

theorem re_w0 (h : Finds i x0 x1 x2 x4 x5 Q K V DO) (hn : n ≤ (i 1).val) (hM : Masks M (i 1).val n) :
    Re (w0Of M x5 (bwdAfter i x0 x1 x2 x4 x5 n)) (fun r k => W (scoreOf 0 Q K) (512 * (i 1).val + r) (512 * n + k)) :=
  (bwd_inv h n hn).1.w hM (lt_of_le_of_lt hn (i 1).isLt) (re_tot0 h.t)

theorem re_w1 (h : Finds i x0 x1 x2 x4 x5 Q K V DO) (hn : n ≤ (i 1).val) (hM : Masks M (i 1).val n) :
    Re (w1Of M x5 (bwdAfter i x0 x1 x2 x4 x5 n)) (fun r k => W (scoreOf 1 Q K) (512 * (i 1).val + r) (512 * n + k)) :=
  (bwd_inv h n hn).2.w hM (lt_of_le_of_lt hn (i 1).isLt) (re_tot1 h.t)

/-- What one block of keys receives. -/
theorem re_dkStep (h : Finds i x0 x1 x2 x4 x5 Q K V DO) (hn : n ≤ (i 1).val) (hM : Masks M (i 1).val n) (hv : Re v (fun k l => V (512 * n + k) l))
    (hA : Re A f) {off : Fin 2 → ℕ} (ho : off = ![512 * n, 0]) (inb : ∀ a, off a + S512x128.size a ≤ S4096x128.size a) :
    Re (φ := .f32) (addTwice (F := Ideal) off inb A (dz0Of M x4 x5 v (bwdAfter i x0 x1 x2 x4 x5 n)) (dz1Of M x4 x5 v (bwdAfter i x0 x1 x2 x4 x5 n))
        (headQ 0#32 x0) (headQ 1#32 x0))
      (fun j l => if 512 * n ≤ j ∧ j < 512 * (n + 1) then f j l + dkPart Q K V DO (i 1).val j l else f j l) := by
  refine Re.congr (re_addTwice (X0 := fun r j => dzOf 0 Q K V DO (512 * (i 1).val + r) j) (X1 := fun r j => dzOf 1 Q K V DO (512 * (i 1).val + r) j)
    hA ho inb (re_dz0 h hn hM hv) (re_dz1 h hn hM hv) (re_headQ0 h.q) (re_headQ1 h.q)) fun j _ l hl => ?_
  rw [add_assoc, two_heads (fun a k => dzOf a Q K V DO (512 * (i 1).val + k) j) (fun r l => Q (512 * (i 1).val + r) l * (1 / 8)) hl]
  rfl

theorem re_dvStep (h : Finds i x0 x1 x2 x4 x5 Q K V DO) (hn : n ≤ (i 1).val) (hM : Masks M (i 1).val n)
    (hA : Re A f) {off : Fin 2 → ℕ} (ho : off = ![512 * n, 0]) (inb : ∀ a, off a + S512x128.size a ≤ S4096x128.size a) :
    Re (φ := .f32) (addTwice (F := Ideal) off inb A (w0Of M x5 (bwdAfter i x0 x1 x2 x4 x5 n)) (w1Of M x5 (bwdAfter i x0 x1 x2 x4 x5 n))
        (headD 0#32 x4) (headD 1#32 x4))
      (fun j l => if 512 * n ≤ j ∧ j < 512 * (n + 1) then f j l + dvPart Q K DO (i 1).val j l else f j l) := by
  refine Re.congr (re_addTwice (X0 := fun r j => W (scoreOf 0 Q K) (512 * (i 1).val + r) j) (X1 := fun r j => W (scoreOf 1 Q K) (512 * (i 1).val + r) j)
    hA ho inb (re_w0 h hn hM) (re_w1 h hn hM) (re_headD0 h.d) (re_headD1 h.d)) fun j _ l hl => ?_
  rw [add_assoc, two_heads (fun a k => W (scoreOf a Q K) (512 * (i 1).val + k) j) (fun r l => DO (512 * (i 1).val + r) l) hl]
  rfl

end Tiles

/-- `f` plus `P` on the rows before `m`, then on the block of rows at `m`: plus `P` on the rows before the block's end. -/
theorem rows_upto (f P : ℕ → ℕ → ℝ) (n j l : ℕ) :
    (if 512 * n ≤ j ∧ j < 512 * (n + 1) then (f j l + if j < 512 * n then P j l else 0) + P j l else f j l + if j < 512 * n then P j l else 0)
      = f j l + if j < 512 * (n + 1) then P j l else 0 := by
  by_cases h1 : j < 512 * n
  · rw [if_neg (by omega), if_pos h1, if_pos (by omega)]
  · by_cases h2 : j < 512 * (n + 1)
    · rw [if_pos (by omega), if_neg h1, if_pos h2, add_zero]
    · rw [if_neg (by omega), if_neg h1, if_neg h2]

theorem re_dkAfter (h : Finds i x0 x1 x2 x4 x5 Q K V DO) (hA : Re A f) : ∀ n, n ≤ (i 1).val →
    Re (φ := .f32) (dkAfter (F := Ideal) i x0 x1 x2 x4 x5 A n) (fun j l => f j l + if j < 512 * n then dkPart Q K V DO (i 1).val j l else 0)
  | 0, _ => Re.congr hA fun j _ l _ => by rw [if_neg (by omega), add_zero]
  | n + 1, hn => by
    have ht : n < (k1_t1_loop i).trips := by rw [k1_trips i]; omega
    rw [dkAfter, dif_pos ht]
    refine Re.congr (re_dkStep h (Nat.le_of_succ_le hn) (masks_id (Nat.lt_of_succ_le hn)) (re_chunk h.v (k1_off2_eq i ⟨n, ht⟩) _) (re_dkAfter h hA n (by omega))
      (k1_off2_eq i ⟨n, ht⟩) _) fun j _ l _ => rows_upto f (dkPart Q K V DO (i 1).val) n j l

theorem re_dvAfter (h : Finds i x0 x1 x2 x4 x5 Q K V DO) (hA : Re A f) : ∀ n, n ≤ (i 1).val →
    Re (φ := .f32) (dvAfter (F := Ideal) i x0 x1 x2 x4 x5 A n) (fun j l => f j l + if j < 512 * n then dvPart Q K DO (i 1).val j l else 0)
  | 0, _ => Re.congr hA fun j _ l _ => by rw [if_neg (by omega), add_zero]
  | n + 1, hn => by
    have ht : n < (k1_t1_loop i).trips := by rw [k1_trips i]; omega
    rw [dvAfter, dif_pos ht]
    refine Re.congr (re_dvStep h (Nat.le_of_succ_le hn) (masks_id (Nat.lt_of_succ_le hn)) (re_dvAfter h hA n (by omega))
      (k1_off2_eq i ⟨n, ht⟩) _) fun j _ l _ => rows_upto f (dvPart Q K DO (i 1).val) n j l

theorem masks_last (i : grid1.Coords) : Masks (masked (visOf i)) (i 1).val (i 1).val := by
  have hd : diagOf (BitVec.ofNat 32 (i 1).val) = 0#32 := diagOf_eq (i 1)
  rw [visOf, hd]
  exact masks_vis vis_diag

theorem dkPart_later {b j l : ℕ} (h : ¬ j < 512 * (b + 1)) : dkPart Q K V DO b j l = 0 :=
  Finset.sum_eq_zero fun k hk => by
    have := Finset.mem_range.mp hk
    rw [dzOf, DZ, if_neg (by omega), zero_mul]

theorem dvPart_later {b j l : ℕ} (h : ¬ j < 512 * (b + 1)) : dvPart Q K DO b j l = 0 :=
  Finset.sum_eq_zero fun k hk => by
    have := Finset.mem_range.mp hk
    rw [W, if_neg (by omega), zero_mul]

/-- The gradients of the keys after a point: what stood there plus what the point's block of queries adds. -/
theorem re_bwdDk (h : Finds i x0 x1 x2 x4 x5 Q K V DO) (hA : Re A f) :
    Re (φ := .f32) (bwdDk (F := Ideal) i x0 x1 x2 x4 x5 A) (fun j l => f j l + dkPart Q K V DO (i 1).val j l) := by
  unfold bwdDk
  rw [k1_trips i]
  refine Re.congr (re_dkStep h le_rfl (masks_last i) (re_chunk h.v (k1_off5_eq i) _) (re_dkAfter h hA _ le_rfl) (k1_off5_eq i) _) fun j _ l _ => ?_
  rw [rows_upto f (dkPart Q K V DO (i 1).val) (i 1).val j l]
  by_cases hj : j < 512 * ((i 1).val + 1)
  · rw [if_pos hj]
  · rw [if_neg hj, dkPart_later hj]

theorem re_bwdDv (h : Finds i x0 x1 x2 x4 x5 Q K V DO) (hA : Re A f) :
    Re (φ := .f32) (bwdDv (F := Ideal) i x0 x1 x2 x4 x5 A) (fun j l => f j l + dvPart Q K DO (i 1).val j l) := by
  unfold bwdDv
  rw [k1_trips i]
  refine Re.congr (re_dvStep h le_rfl (masks_last i) (re_dvAfter h hA _ le_rfl) (k1_off5_eq i) _) fun j _ l _ => ?_
  rw [rows_upto f (dvPart Q K DO (i 1).val) (i 1).val j l]
  by_cases hj : j < 512 * ((i 1).val + 1)
  · rw [if_pos hj]
  · rw [if_neg hj, dvPart_later hj]

/-- A sum over the keys a query may see reaches over all of them. -/
theorem sum_seen {F : ℕ → ℝ} {n : ℕ} (hn : n ≤ 4096) (h : ∀ m, n ≤ m → F m = 0) : ∑ m ∈ range n, F m = ∑ m ∈ range 4096, F m :=
  Finset.sum_subset (Finset.range_mono hn) fun m _ hm => h m (by rw [Finset.mem_range] at hm; omega)

theorem re_bwdDq (h : Finds i x0 x1 x2 x4 x5 Q K V DO) :
    Re (bwdDq i x0 x1 x2 x4 x5) (fun r l => dqOf Q K V DO (512 * (i 1).val + r) l) := by
  have hb : (i 1).val < 8 := (i 1).isLt
  unfold bwdDq
  rw [k1_trips i]
  have kc := re_chunk h.k (k1_off5_eq i) (k1_off5_inb i)
  have vc := re_chunk h.v (k1_off5_eq i) (k1_off5_inb i)
  have d0 := (bwd_inv h (i 1).val le_rfl).1.dqNext (masks_last i) hb (re_tot0 h.t) (re_headD0 h.d) vc (fun r k => rfl) kc
  have d1 := (bwd_inv h (i 1).val le_rfl).2.dqNext (masks_last i) hb (re_tot1 h.t) (re_headD1 h.d) vc (fun r k => rfl) kc
  have e8 : Re (broadcast S512x128 (Scalar.ofBits .f32 0x3E000000#32) : FVec Ideal S512x128 .f32) (fun _ _ => 1 / 8) := fun r c => eighth
  refine Re.congr ((Re.pick sel_lane0 d0 d1).mulf e8) fun r hr l hl => ?_
  have e : ∀ a, ∑ m ∈ range (512 * ((i 1).val + 1)), DZ (scoreOf a Q K) (dOf a DO V) (512 * (i 1).val + r) m * K m l
      = ∑ m ∈ range 4096, dzOf a Q K V DO (512 * (i 1).val + r) m * K m l := fun a =>
    sum_seen (by omega) fun m hm => by rw [DZ, if_neg (by omega), zero_mul]
  rw [e, e, lane_cases hl (fun a => ∑ m ∈ range 4096, dzOf a Q K V DO (512 * (i 1).val + r) m * K m l)]
  rfl

end Cert.KernelIdeal.Sb

end
-- ==== Proof.BackwardA.lean ====
/- What the backward kernel leaves at a grid point that starts a run of blocks of queries: the gradients of the keys and values begin at zero. -/
module

public import proofs.«01_k».proof.Proof.Backward

@[expose] public section

set_option maxRecDepth 16384

noncomputable section

namespace Cert.KernelIdeal.Sb

open Idealize.ShloMosaic Idealize.ShloMosaic.TcCoe Idealize.ShloMosaic.Tactic
open Cert.KernelIdeal Cert.KernelIdeal.Gen Cert.Stick
open Finset (range)

variable {F : FTy → Type} [FloatOps F]

theorem out1_A_6_eq
    (c : Dev nD) (i : grid1.Coords) (arg2 : Memref sig .tc .vmem S512x128 .bf16) (harg2 : arg2.IsWhole) (arg3 : Memref sig .tc .vmem S4096x128 .bf16)
    (harg3 : arg3.IsWhole) (arg4 : Memref sig .tc .vmem S4096x128 .bf16) (harg4 : arg4.IsWhole) (arg5 : Memref sig .tc .vmem S512x128 .f32)
    (harg5 : arg5.IsWhole) (arg6 : Memref sig .tc .vmem S512x128 .f32) (harg6 : arg6.IsWhole) (arg7 : Memref sig .tc .vmem S1x512x128 .f32)
    (harg7 : arg7.IsWhole) (arg8 : Memref sig .tc .vmem S512x128 .f32) (harg8 : arg8.IsWhole) (arg9 : Memref sig .tc .vmem S4096x128 .f32)
    (harg9 : arg9.IsWhole) (arg10 : Memref sig .tc .vmem S4096x128 .f32) (harg10 : arg10.IsWhole) (hc0 : cond1_0 i) (x0 : Vec F S512x128 .bf16)
    (x1 : Vec F S4096x128 .bf16) (x2 : Vec F S4096x128 .bf16) (x3 : Vec F S512x128 .f32) (x4 : Vec F S512x128 .f32) (x5 : Vec F S1x512x128 .f32) :
    out1_A_6 c i arg2 harg2 arg3 harg3 arg4 harg4 arg5 harg5 arg6 harg6 arg7 harg7 arg8 harg8 arg9 harg9 arg10 harg10 hc0 x0 x1 x2 x3 x4 x5 = bwdDq i x0 x1 x2 x4 x5 := by
  have e0 := read_sq harg2 x0
  have e1 := harg3.read_unread x1
  have e2 := harg4.read_unread x2
  have e4 := read_sq harg6 x4
  have e5 := read_st harg7 x5
  have h4 : kernelRun1_A.sl.r_4 c arg2 harg2 x0 = headQ 0#32 x0 := by
    conv_rhs => rw [← e0]
    rfl
  have h5 : kernelRun1_A.sl.r_5 c arg2 harg2 x0 = headQ 1#32 x0 := by
    conv_rhs => rw [← e0]
    rfl
  have h6 : kernelRun1_A.sl.r_6 c arg6 harg6 x4 = headD 0#32 x4 := by
    conv_rhs => rw [← e4]
    rfl
  have h7 : kernelRun1_A.sl.r_7 c arg6 harg6 x4 = headD 1#32 x4 := by
    conv_rhs => rw [← e4]
    rfl
  have h8 : kernelRun1_A.sl.r_8 c arg7 harg7 x5 = tot0 x5 := by
    conv_rhs => rw [← e5]
    rfl
  have h9 : kernelRun1_A.sl.r_9 c arg7 harg7 x5 = tot1 x5 := by
    conv_rhs => rw [← e5]
    rfl
  unfold out1_A_6
  rw [View.read_writes_eq_canon _ _ _ (cover1_A_6 c i arg2 harg2 arg3 harg3 arg4 harg4 arg5 harg5 arg6 harg6 arg7 harg7 arg8 harg8 arg9 harg9 arg10 harg10 hc0 x0 x1 x2 x3 x4 x5)]
  unfold kernelRun1_A
  dsimp only
  rw [View.canon_unit_zero hz2]
  simp -proj only [kernelRun1_A.sl.r_51, kernelRun1_A.sl.r_50, kernelRun1_A.sl.r_49, kernelRun1_A.sl.r_48, kernelRun1_A.sl.r_47, kernelRun1_A.sl.r_46, kernelRun1_A.sl.r_45, kernelRun1_A.sl.r_44, kernelRun1_A.sl.r_43, kernelRun1_A.sl.r_42, kernelRun1_A.sl.r_41, kernelRun1_A.sl.r_40, kernelRun1_A.sl.r_39, kernelRun1_A.sl.r_38, kernelRun1_A.sl.r_37, kernelRun1_A.sl.r_36, kernelRun1_A.sl.r_35, kernelRun1_A.sl.r_34, kernelRun1_A.sl.r_33, kernelRun1_A.sl.r_32, kernelRun1_A.sl.r_31, kernelRun1_A.sl.r_30, kernelRun1_A.sl.r_29, kernelRun1_A.sl.r_28, kernelRun1_A.sl.r_27, kernelRun1_A.sl.r_26, kernelRun1_A.sl.r_25, kernelRun1_A.sl.r_24, kernelRun1_A.sl.r_23, kernelRun1_A.sl.r_22, kernelRun1_A.sl.r_21, kernelRun1_A.sl.r_20, kernelRun1_A.sl.r_19, kernelRun1_A.sl.r_18, kernelRun1_A.sl.r_17, kernelRun1_A.sl.r_16, kernelRun1_A.sl.r_15, kernelRun1_A.sl.r_14, kernelRun1_A.sl.r_13, kernelRun1_A.sl.r_12]
  rw [show Scf.trips (k1_t2_loop i).lb (k1_t2_loop i).ub (k1_t2_loop i).st = 0 from k1_t2_zero i,
    show Scf.trips (k1_t1_loop i).lb (k1_t1_loop i).ub (k1_t1_loop i).st = (k1_t1_loop i).trips from rfl]
  simp -proj only [st_bwd2_acc, st_bwd2_dk, st_bwd2_dv, List.nil_append]
  rw [st_bwd (x0 := x0) (x1 := x1) (x2 := x2) (x4 := x4) (x5 := x5) (hX3 := e1) (hX4 := e2) (n := (k1_t1_loop i).trips)]
  · simp -proj only [bwdAll_fst]
    rw [pay_dz0, pay_dq0, pay_dq1, h6, h7, h8, h9, View.readAt_eq_ld, View.readAt_eq_ld, e1, e2]
    rfl
  · conv_rhs => rw [← e0, ← e1]
    rfl
  · exact h4
  · exact h5
  · exact h6
  · exact h7
  · exact h8
  · exact h9
  · rfl
  · rfl
  · exact le_rfl

theorem out1_A_7_eq
    (c : Dev nD) (i : grid1.Coords) (arg2 : Memref sig .tc .vmem S512x128 .bf16) (harg2 : arg2.IsWhole) (arg3 : Memref sig .tc .vmem S4096x128 .bf16)
    (harg3 : arg3.IsWhole) (arg4 : Memref sig .tc .vmem S4096x128 .bf16) (harg4 : arg4.IsWhole) (arg5 : Memref sig .tc .vmem S512x128 .f32)
    (harg5 : arg5.IsWhole) (arg6 : Memref sig .tc .vmem S512x128 .f32) (harg6 : arg6.IsWhole) (arg7 : Memref sig .tc .vmem S1x512x128 .f32)
    (harg7 : arg7.IsWhole) (arg8 : Memref sig .tc .vmem S512x128 .f32) (harg8 : arg8.IsWhole) (arg9 : Memref sig .tc .vmem S4096x128 .f32)
    (harg9 : arg9.IsWhole) (arg10 : Memref sig .tc .vmem S4096x128 .f32) (harg10 : arg10.IsWhole) (hc0 : cond1_0 i) (x0 : Vec F S512x128 .bf16)
    (x1 : Vec F S4096x128 .bf16) (x2 : Vec F S4096x128 .bf16) (x3 : Vec F S512x128 .f32) (x4 : Vec F S512x128 .f32) (x5 : Vec F S1x512x128 .f32) :
    out1_A_7 c i arg2 harg2 arg3 harg3 arg4 harg4 arg5 harg5 arg6 harg6 arg7 harg7 arg8 harg8 arg9 harg9 arg10 harg10 hc0 x0 x1 x2 x3 x4 x5 = bwdDk i x0 x1 x2 x4 x5 (broadcast S4096x128 (Scalar.ofBits .f32 0x00000000#32)) := by
  have e0 := read_sq harg2 x0
  have e1 := harg3.read_unread x1
  have e2 := harg4.read_unread x2
  have e4 := read_sq harg6 x4
  have e5 := read_st harg7 x5
  have h4 : kernelRun1_A.sl.r_4 c arg2 harg2 x0 = headQ 0#32 x0 := by
    conv_rhs => rw [← e0]
    rfl
  have h5 : kernelRun1_A.sl.r_5 c arg2 harg2 x0 = headQ 1#32 x0 := by
    conv_rhs => rw [← e0]
    rfl
  have h6 : kernelRun1_A.sl.r_6 c arg6 harg6 x4 = headD 0#32 x4 := by
    conv_rhs => rw [← e4]
    rfl
  have h7 : kernelRun1_A.sl.r_7 c arg6 harg6 x4 = headD 1#32 x4 := by
    conv_rhs => rw [← e4]
    rfl
  have h8 : kernelRun1_A.sl.r_8 c arg7 harg7 x5 = tot0 x5 := by
    conv_rhs => rw [← e5]
    rfl
  have h9 : kernelRun1_A.sl.r_9 c arg7 harg7 x5 = tot1 x5 := by
    conv_rhs => rw [← e5]
    rfl
  unfold out1_A_7
  rw [View.read_writes_eq_canon _ _ _ (cover1_A_7 c i arg2 harg2 arg3 harg3 arg4 harg4 arg5 harg5 arg6 harg6 arg7 harg7 arg8 harg8 arg9 harg9 arg10 harg10 hc0 x0 x1 x2 x3 x4 x5), ← View.read_writes_eq_canon arg9.view arg9.view.junk _ (cover1_A_7 c i arg2 harg2 arg3 harg3 arg4 harg4 arg5 harg5 arg6 harg6 arg7 harg7 arg8 harg8 arg9 harg9 arg10 harg10 hc0 x0 x1 x2 x3 x4 x5)]
  unfold kernelRun1_A
  dsimp only
  unfold kernelRun1_A.sl.v437 kernelRun1_A.sl.H7_1_1 kernelRun1_A.sl.v277
  simp -proj only [kernelRun1_A.sl.r_50, kernelRun1_A.sl.r_49, kernelRun1_A.sl.r_48, kernelRun1_A.sl.r_47, kernelRun1_A.sl.r_46, kernelRun1_A.sl.r_45, kernelRun1_A.sl.r_44, kernelRun1_A.sl.r_43, kernelRun1_A.sl.r_42, kernelRun1_A.sl.r_41, kernelRun1_A.sl.r_40, kernelRun1_A.sl.r_39, kernelRun1_A.sl.r_38, kernelRun1_A.sl.r_37, kernelRun1_A.sl.r_36, kernelRun1_A.sl.r_35, kernelRun1_A.sl.r_34, kernelRun1_A.sl.r_32, kernelRun1_A.sl.r_31, kernelRun1_A.sl.r_30, kernelRun1_A.sl.r_29, kernelRun1_A.sl.r_28, kernelRun1_A.sl.r_27, kernelRun1_A.sl.r_26, kernelRun1_A.sl.r_25, kernelRun1_A.sl.r_24, kernelRun1_A.sl.r_23, kernelRun1_A.sl.r_22, kernelRun1_A.sl.r_21, kernelRun1_A.sl.r_20, kernelRun1_A.sl.r_19, kernelRun1_A.sl.r_18, kernelRun1_A.sl.r_17, kernelRun1_A.sl.r_16, kernelRun1_A.sl.r_15, kernelRun1_A.sl.r_14, kernelRun1_A.sl.r_13, kernelRun1_A.sl.r_12]
  rw [show Scf.trips (k1_t2_loop i).lb (k1_t2_loop i).ub (k1_t2_loop i).st = 0 from k1_t2_zero i,
    show Scf.trips (k1_t1_loop i).lb (k1_t1_loop i).ub (k1_t1_loop i).st = (k1_t1_loop i).trips from rfl]
  simp -proj only [st_bwd2_acc, st_bwd2_dk, st_bwd2_dv, List.nil_append]
  rw [st_bwd (x0 := x0) (x1 := x1) (x2 := x2) (x4 := x4) (x5 := x5) (hX3 := e1) (hX4 := e2) (n := (k1_t1_loop i).trips)]
  · simp -proj only [bwdAll_fst]
    rw [pay_dz0, pay_dk0, pay_dk1, View.readCov_cons_toLoadRect arg9.view, View.read_writes_cons_put arg9.view _ _ _ _ rfl, View.read_writes_cons_put arg9.view _ _ _ _ rfl,
      VecWindow.put_put_same]
    simp -proj only [View.readAt_eq_ld, e1, e2, h4, h5, h6, h7, h8, h9, View.writes_append]
    refine Eq.trans (b := addTwice (k1_off5 i) (k1_off5_inb i)
      (arg9.view.read (Elt F) (arg9.view.writes (Elt F) (arg9.view.writes (Elt F) arg9.view.junk kernelRun1_A.sl.H7_1) (bwdAll i arg9 arg10 (arg9.view.writes (Elt F) arg9.view.junk kernelRun1_A.sl.H7_1) (arg10.view.writes (Elt F) arg10.view.junk kernelRun1_A.sl.H8_1) x0 x1 x2 x4 x5 (k1_t1_loop i).trips).2.1))
      (dz0Of (masked (visOf i)) x4 x5 (chunk x2 (k1_off5 i) (k1_off5_inb i)) (bwdAfter i x0 x1 x2 x4 x5 (k1_t1_loop i).trips))
      (dz1Of (masked (visOf i)) x4 x5 (chunk x2 (k1_off5 i) (k1_off5_inb i)) (bwdAfter i x0 x1 x2 x4 x5 (k1_t1_loop i).trips)) (headQ 0#32 x0) (headQ 1#32 x0)) ?_ ?_
    · rfl
    · rw [bwdAll_dk, show arg9.view.read (Elt F) (arg9.view.writes (Elt F) arg9.view.junk kernelRun1_A.sl.H7_1) = (broadcast S4096x128 (Scalar.ofBits .f32 0x00000000#32)) from View.read_writes_full arg9.view _ _ _ _]
      rfl
  · conv_rhs => rw [← e0, ← e1]
    rfl
  · exact h4
  · exact h5
  · exact h6
  · exact h7
  · exact h8
  · exact h9
  · rfl
  · rfl
  · exact le_rfl

theorem out1_A_8_eq
    (c : Dev nD) (i : grid1.Coords) (arg2 : Memref sig .tc .vmem S512x128 .bf16) (harg2 : arg2.IsWhole) (arg3 : Memref sig .tc .vmem S4096x128 .bf16)
    (harg3 : arg3.IsWhole) (arg4 : Memref sig .tc .vmem S4096x128 .bf16) (harg4 : arg4.IsWhole) (arg5 : Memref sig .tc .vmem S512x128 .f32)
    (harg5 : arg5.IsWhole) (arg6 : Memref sig .tc .vmem S512x128 .f32) (harg6 : arg6.IsWhole) (arg7 : Memref sig .tc .vmem S1x512x128 .f32)
    (harg7 : arg7.IsWhole) (arg8 : Memref sig .tc .vmem S512x128 .f32) (harg8 : arg8.IsWhole) (arg9 : Memref sig .tc .vmem S4096x128 .f32)
    (harg9 : arg9.IsWhole) (arg10 : Memref sig .tc .vmem S4096x128 .f32) (harg10 : arg10.IsWhole) (hc0 : cond1_0 i) (x0 : Vec F S512x128 .bf16)
    (x1 : Vec F S4096x128 .bf16) (x2 : Vec F S4096x128 .bf16) (x3 : Vec F S512x128 .f32) (x4 : Vec F S512x128 .f32) (x5 : Vec F S1x512x128 .f32) :
    out1_A_8 c i arg2 harg2 arg3 harg3 arg4 harg4 arg5 harg5 arg6 harg6 arg7 harg7 arg8 harg8 arg9 harg9 arg10 harg10 hc0 x0 x1 x2 x3 x4 x5 = bwdDv i x0 x1 x2 x4 x5 (broadcast S4096x128 (Scalar.ofBits .f32 0x00000000#32)) := by
  have e0 := read_sq harg2 x0
  have e1 := harg3.read_unread x1
  have e2 := harg4.read_unread x2
  have e4 := read_sq harg6 x4
  have e5 := read_st harg7 x5
  have h4 : kernelRun1_A.sl.r_4 c arg2 harg2 x0 = headQ 0#32 x0 := by
    conv_rhs => rw [← e0]
    rfl
  have h5 : kernelRun1_A.sl.r_5 c arg2 harg2 x0 = headQ 1#32 x0 := by
    conv_rhs => rw [← e0]
    rfl
  have h6 : kernelRun1_A.sl.r_6 c arg6 harg6 x4 = headD 0#32 x4 := by
    conv_rhs => rw [← e4]
    rfl
  have h7 : kernelRun1_A.sl.r_7 c arg6 harg6 x4 = headD 1#32 x4 := by
    conv_rhs => rw [← e4]
    rfl
  have h8 : kernelRun1_A.sl.r_8 c arg7 harg7 x5 = tot0 x5 := by
    conv_rhs => rw [← e5]
    rfl
  have h9 : kernelRun1_A.sl.r_9 c arg7 harg7 x5 = tot1 x5 := by
    conv_rhs => rw [← e5]
    rfl
  unfold out1_A_8
  rw [View.read_writes_eq_canon _ _ _ (cover1_A_8 c i arg2 harg2 arg3 harg3 arg4 harg4 arg5 harg5 arg6 harg6 arg7 harg7 arg8 harg8 arg9 harg9 arg10 harg10 hc0 x0 x1 x2 x3 x4 x5), ← View.read_writes_eq_canon arg10.view arg10.view.junk _ (cover1_A_8 c i arg2 harg2 arg3 harg3 arg4 harg4 arg5 harg5 arg6 harg6 arg7 harg7 arg8 harg8 arg9 harg9 arg10 harg10 hc0 x0 x1 x2 x3 x4 x5)]
  unfold kernelRun1_A
  dsimp only
  unfold kernelRun1_A.sl.v444 kernelRun1_A.sl.H8_1_1 kernelRun1_A.sl.v284
  simp -proj only [kernelRun1_A.sl.r_50, kernelRun1_A.sl.r_49, kernelRun1_A.sl.r_48, kernelRun1_A.sl.r_47, kernelRun1_A.sl.r_46, kernelRun1_A.sl.r_45, kernelRun1_A.sl.r_44, kernelRun1_A.sl.r_43, kernelRun1_A.sl.r_42, kernelRun1_A.sl.r_41, kernelRun1_A.sl.r_40, kernelRun1_A.sl.r_39, kernelRun1_A.sl.r_38, kernelRun1_A.sl.r_37, kernelRun1_A.sl.r_36, kernelRun1_A.sl.r_35, kernelRun1_A.sl.r_34, kernelRun1_A.sl.r_32, kernelRun1_A.sl.r_31, kernelRun1_A.sl.r_30, kernelRun1_A.sl.r_29, kernelRun1_A.sl.r_28, kernelRun1_A.sl.r_27, kernelRun1_A.sl.r_26, kernelRun1_A.sl.r_25, kernelRun1_A.sl.r_24, kernelRun1_A.sl.r_23, kernelRun1_A.sl.r_22, kernelRun1_A.sl.r_21, kernelRun1_A.sl.r_20, kernelRun1_A.sl.r_19, kernelRun1_A.sl.r_18, kernelRun1_A.sl.r_17, kernelRun1_A.sl.r_16, kernelRun1_A.sl.r_15, kernelRun1_A.sl.r_14, kernelRun1_A.sl.r_13, kernelRun1_A.sl.r_12]
  rw [show Scf.trips (k1_t2_loop i).lb (k1_t2_loop i).ub (k1_t2_loop i).st = 0 from k1_t2_zero i,
    show Scf.trips (k1_t1_loop i).lb (k1_t1_loop i).ub (k1_t1_loop i).st = (k1_t1_loop i).trips from rfl]
  simp -proj only [st_bwd2_acc, st_bwd2_dk, st_bwd2_dv, List.nil_append]
  rw [st_bwd (x0 := x0) (x1 := x1) (x2 := x2) (x4 := x4) (x5 := x5) (hX3 := e1) (hX4 := e2) (n := (k1_t1_loop i).trips)]
  · simp -proj only [bwdAll_fst]
    rw [pay_w0, pay_dv0, pay_w1, pay_dv1, View.readCov_cons_toLoadRect arg10.view, View.read_writes_cons_put arg10.view _ _ _ _ rfl, View.read_writes_cons_put arg10.view _ _ _ _ rfl,
      VecWindow.put_put_same]
    simp -proj only [View.readAt_eq_ld, e1, e2, h4, h5, h6, h7, h8, h9, View.writes_append]
    refine Eq.trans (b := addTwice (k1_off5 i) (k1_off5_inb i)
      (arg10.view.read (Elt F) (arg10.view.writes (Elt F) (arg10.view.writes (Elt F) arg10.view.junk kernelRun1_A.sl.H8_1) (bwdAll i arg9 arg10 (arg9.view.writes (Elt F) arg9.view.junk kernelRun1_A.sl.H7_1) (arg10.view.writes (Elt F) arg10.view.junk kernelRun1_A.sl.H8_1) x0 x1 x2 x4 x5 (k1_t1_loop i).trips).2.2))
      (w0Of (masked (visOf i)) x5 (bwdAfter i x0 x1 x2 x4 x5 (k1_t1_loop i).trips))
      (w1Of (masked (visOf i)) x5 (bwdAfter i x0 x1 x2 x4 x5 (k1_t1_loop i).trips)) (headD 0#32 x4) (headD 1#32 x4)) ?_ ?_
    · rfl
    · rw [bwdAll_dv, show arg10.view.read (Elt F) (arg10.view.writes (Elt F) arg10.view.junk kernelRun1_A.sl.H8_1) = (broadcast S4096x128 (Scalar.ofBits .f32 0x00000000#32)) from View.read_writes_full arg10.view _ _ _ _]
      rfl
  · conv_rhs => rw [← e0, ← e1]
    rfl
  · exact h4
  · exact h5
  · exact h6
  · exact h7
  · exact h8
  · exact h9
  · rfl
  · rfl
  · exact le_rfl

end Cert.KernelIdeal.Sb

end
-- ==== Proof.BackwardB.lean ====
/- What the backward kernel leaves at a grid point that carries on: the gradients of the keys and values begin at what the point before left. -/
module

public import proofs.«01_k».proof.Proof.Backward

@[expose] public section

set_option maxRecDepth 16384

noncomputable section

namespace Cert.KernelIdeal.Sb

open Idealize.ShloMosaic Idealize.ShloMosaic.TcCoe Idealize.ShloMosaic.Tactic
open Cert.KernelIdeal Cert.KernelIdeal.Gen Cert.Stick
open Finset (range)

variable {F : FTy → Type} [FloatOps F]

theorem out1_B_6_eq
    (c : Dev nD) (i : grid1.Coords) (arg2 : Memref sig .tc .vmem S512x128 .bf16) (harg2 : arg2.IsWhole) (arg3 : Memref sig .tc .vmem S4096x128 .bf16)
    (harg3 : arg3.IsWhole) (arg4 : Memref sig .tc .vmem S4096x128 .bf16) (harg4 : arg4.IsWhole) (arg5 : Memref sig .tc .vmem S512x128 .f32)
    (harg5 : arg5.IsWhole) (arg6 : Memref sig .tc .vmem S512x128 .f32) (harg6 : arg6.IsWhole) (arg7 : Memref sig .tc .vmem S1x512x128 .f32)
    (harg7 : arg7.IsWhole) (arg8 : Memref sig .tc .vmem S512x128 .f32) (harg8 : arg8.IsWhole) (arg9 : Memref sig .tc .vmem S4096x128 .f32)
    (harg9 : arg9.IsWhole) (arg10 : Memref sig .tc .vmem S4096x128 .f32) (harg10 : arg10.IsWhole) (hc0 : ¬cond1_0 i) (x0 : Vec F S512x128 .bf16)
    (x1 : Vec F S4096x128 .bf16) (x2 : Vec F S4096x128 .bf16) (x3 : Vec F S512x128 .f32) (x4 : Vec F S512x128 .f32) (x5 : Vec F S1x512x128 .f32)
    (xo7 : Vec F S4096x128 .f32) (xo8 : Vec F S4096x128 .f32) :
    out1_B_6 c i arg2 harg2 arg3 harg3 arg4 harg4 arg5 harg5 arg6 harg6 arg7 harg7 arg8 harg8 arg9 harg9 arg10 harg10 hc0 x0 x1 x2 x3 x4 x5 xo7 xo8 = bwdDq i x0 x1 x2 x4 x5 := by
  have e0 := read_sq harg2 x0
  have e1 := harg3.read_unread x1
  have e2 := harg4.read_unread x2
  have e4 := read_sq harg6 x4
  have e5 := read_st harg7 x5
  have h4 : kernelRun1_B.sl.r_4 c arg2 harg2 x0 = headQ 0#32 x0 := by
    conv_rhs => rw [← e0]
    rfl
  have h5 : kernelRun1_B.sl.r_5 c arg2 harg2 x0 = headQ 1#32 x0 := by
    conv_rhs => rw [← e0]
    rfl
  have h6 : kernelRun1_B.sl.r_6 c arg6 harg6 x4 = headD 0#32 x4 := by
    conv_rhs => rw [← e4]
    rfl
  have h7 : kernelRun1_B.sl.r_7 c arg6 harg6 x4 = headD 1#32 x4 := by
    conv_rhs => rw [← e4]
    rfl
  have h8 : kernelRun1_B.sl.r_8 c arg7 harg7 x5 = tot0 x5 := by
    conv_rhs => rw [← e5]
    rfl
  have h9 : kernelRun1_B.sl.r_9 c arg7 harg7 x5 = tot1 x5 := by
    conv_rhs => rw [← e5]
    rfl
  unfold out1_B_6
  rw [View.read_writes_eq_canon _ _ _ (cover1_B_6 c i arg2 harg2 arg3 harg3 arg4 harg4 arg5 harg5 arg6 harg6 arg7 harg7 arg8 harg8 arg9 harg9 arg10 harg10 hc0 x0 x1 x2 x3 x4 x5 xo7 xo8)]
  unfold kernelRun1_B
  dsimp only
  rw [View.canon_unit_zero hz2]
  simp -proj only [kernelRun1_B.sl.r_51, kernelRun1_B.sl.r_50, kernelRun1_B.sl.r_49, kernelRun1_B.sl.r_48, kernelRun1_B.sl.r_47, kernelRun1_B.sl.r_46, kernelRun1_B.sl.r_45, kernelRun1_B.sl.r_44, kernelRun1_B.sl.r_43, kernelRun1_B.sl.r_42, kernelRun1_B.sl.r_41, kernelRun1_B.sl.r_40, kernelRun1_B.sl.r_39, kernelRun1_B.sl.r_38, kernelRun1_B.sl.r_37, kernelRun1_B.sl.r_36, kernelRun1_B.sl.r_35, kernelRun1_B.sl.r_34, kernelRun1_B.sl.r_33, kernelRun1_B.sl.r_32, kernelRun1_B.sl.r_31, kernelRun1_B.sl.r_30, kernelRun1_B.sl.r_29, kernelRun1_B.sl.r_28, kernelRun1_B.sl.r_27, kernelRun1_B.sl.r_26, kernelRun1_B.sl.r_25, kernelRun1_B.sl.r_24, kernelRun1_B.sl.r_23, kernelRun1_B.sl.r_22, kernelRun1_B.sl.r_21, kernelRun1_B.sl.r_20, kernelRun1_B.sl.r_19, kernelRun1_B.sl.r_18, kernelRun1_B.sl.r_17, kernelRun1_B.sl.r_16, kernelRun1_B.sl.r_15, kernelRun1_B.sl.r_14, kernelRun1_B.sl.r_13, kernelRun1_B.sl.r_12]
  rw [show Scf.trips (k1_t2_loop i).lb (k1_t2_loop i).ub (k1_t2_loop i).st = 0 from k1_t2_zero i,
    show Scf.trips (k1_t1_loop i).lb (k1_t1_loop i).ub (k1_t1_loop i).st = (k1_t1_loop i).trips from rfl]
  simp -proj only [st_bwd2_acc, st_bwd2_dk, st_bwd2_dv, List.nil_append]
  rw [st_bwd (x0 := x0) (x1 := x1) (x2 := x2) (x4 := x4) (x5 := x5) (hX3 := e1) (hX4 := e2) (n := (k1_t1_loop i).trips)]
  · simp -proj only [bwdAll_fst]
    rw [pay_dz0, pay_dq0, pay_dq1, h6, h7, h8, h9, View.readAt_eq_ld, View.readAt_eq_ld, e1, e2]
    rfl
  · conv_rhs => rw [← e0, ← e1]
    rfl
  · exact h4
  · exact h5
  · exact h6
  · exact h7
  · exact h8
  · exact h9
  · rfl
  · rfl
  · exact le_rfl

theorem out1_B_7_eq
    (c : Dev nD) (i : grid1.Coords) (arg2 : Memref sig .tc .vmem S512x128 .bf16) (harg2 : arg2.IsWhole) (arg3 : Memref sig .tc .vmem S4096x128 .bf16)
    (harg3 : arg3.IsWhole) (arg4 : Memref sig .tc .vmem S4096x128 .bf16) (harg4 : arg4.IsWhole) (arg5 : Memref sig .tc .vmem S512x128 .f32)
    (harg5 : arg5.IsWhole) (arg6 : Memref sig .tc .vmem S512x128 .f32) (harg6 : arg6.IsWhole) (arg7 : Memref sig .tc .vmem S1x512x128 .f32)
    (harg7 : arg7.IsWhole) (arg8 : Memref sig .tc .vmem S512x128 .f32) (harg8 : arg8.IsWhole) (arg9 : Memref sig .tc .vmem S4096x128 .f32)
    (harg9 : arg9.IsWhole) (arg10 : Memref sig .tc .vmem S4096x128 .f32) (harg10 : arg10.IsWhole) (hc0 : ¬cond1_0 i) (x0 : Vec F S512x128 .bf16)
    (x1 : Vec F S4096x128 .bf16) (x2 : Vec F S4096x128 .bf16) (x3 : Vec F S512x128 .f32) (x4 : Vec F S512x128 .f32) (x5 : Vec F S1x512x128 .f32)
    (xo7 : Vec F S4096x128 .f32) (xo8 : Vec F S4096x128 .f32) :
    out1_B_7 c i arg2 harg2 arg3 harg3 arg4 harg4 arg5 harg5 arg6 harg6 arg7 harg7 arg8 harg8 arg9 harg9 arg10 harg10 hc0 x0 x1 x2 x3 x4 x5 xo7 xo8 = bwdDk i x0 x1 x2 x4 x5 xo7 := by
  have e0 := read_sq harg2 x0
  have e1 := harg3.read_unread x1
  have e2 := harg4.read_unread x2
  have e4 := read_sq harg6 x4
  have e5 := read_st harg7 x5
  have h4 : kernelRun1_B.sl.r_4 c arg2 harg2 x0 = headQ 0#32 x0 := by
    conv_rhs => rw [← e0]
    rfl
  have h5 : kernelRun1_B.sl.r_5 c arg2 harg2 x0 = headQ 1#32 x0 := by
    conv_rhs => rw [← e0]
    rfl
  have h6 : kernelRun1_B.sl.r_6 c arg6 harg6 x4 = headD 0#32 x4 := by
    conv_rhs => rw [← e4]
    rfl
  have h7 : kernelRun1_B.sl.r_7 c arg6 harg6 x4 = headD 1#32 x4 := by
    conv_rhs => rw [← e4]
    rfl
  have h8 : kernelRun1_B.sl.r_8 c arg7 harg7 x5 = tot0 x5 := by
    conv_rhs => rw [← e5]
    rfl
  have h9 : kernelRun1_B.sl.r_9 c arg7 harg7 x5 = tot1 x5 := by
    conv_rhs => rw [← e5]
    rfl
  unfold out1_B_7 kernelRun1_B
  dsimp only
  unfold kernelRun1_B.sl.v437 kernelRun1_B.sl.H7_1 kernelRun1_B.sl.v277
  simp -proj only [kernelRun1_B.sl.r_50, kernelRun1_B.sl.r_49, kernelRun1_B.sl.r_48, kernelRun1_B.sl.r_47, kernelRun1_B.sl.r_46, kernelRun1_B.sl.r_45, kernelRun1_B.sl.r_44, kernelRun1_B.sl.r_43, kernelRun1_B.sl.r_42, kernelRun1_B.sl.r_41, kernelRun1_B.sl.r_40, kernelRun1_B.sl.r_39, kernelRun1_B.sl.r_38, kernelRun1_B.sl.r_37, kernelRun1_B.sl.r_36, kernelRun1_B.sl.r_35, kernelRun1_B.sl.r_34, kernelRun1_B.sl.r_32, kernelRun1_B.sl.r_31, kernelRun1_B.sl.r_30, kernelRun1_B.sl.r_29, kernelRun1_B.sl.r_28, kernelRun1_B.sl.r_27, kernelRun1_B.sl.r_26, kernelRun1_B.sl.r_25, kernelRun1_B.sl.r_24, kernelRun1_B.sl.r_23, kernelRun1_B.sl.r_22, kernelRun1_B.sl.r_21, kernelRun1_B.sl.r_20, kernelRun1_B.sl.r_19, kernelRun1_B.sl.r_18, kernelRun1_B.sl.r_17, kernelRun1_B.sl.r_16, kernelRun1_B.sl.r_15, kernelRun1_B.sl.r_14, kernelRun1_B.sl.r_13, kernelRun1_B.sl.r_12]
  rw [show Scf.trips (k1_t2_loop i).lb (k1_t2_loop i).ub (k1_t2_loop i).st = 0 from k1_t2_zero i,
    show Scf.trips (k1_t1_loop i).lb (k1_t1_loop i).ub (k1_t1_loop i).st = (k1_t1_loop i).trips from rfl]
  simp -proj only [st_bwd2_acc, st_bwd2_dk, st_bwd2_dv, List.nil_append]
  rw [st_bwd (x0 := x0) (x1 := x1) (x2 := x2) (x4 := x4) (x5 := x5) (hX3 := e1) (hX4 := e2) (n := (k1_t1_loop i).trips)]
  · simp -proj only [bwdAll_fst]
    rw [pay_dz0, pay_dk0, pay_dk1, View.readCov_cons_toLoadRect arg9.view, View.read_writes_cons_put arg9.view _ _ _ _ rfl, View.read_writes_cons_put arg9.view _ _ _ _ rfl,
      VecWindow.put_put_same]
    simp -proj only [View.readAt_eq_ld, e1, e2, h4, h5, h6, h7, h8, h9]
    refine Eq.trans (b := addTwice (k1_off5 i) (k1_off5_inb i)
      (arg9.view.read (Elt F) (arg9.view.writes (Elt F) (harg9.unread xo7) (bwdAll i arg9 arg10 (harg9.unread xo7) (harg10.unread xo8) x0 x1 x2 x4 x5 (k1_t1_loop i).trips).2.1))
      (dz0Of (masked (visOf i)) x4 x5 (chunk x2 (k1_off5 i) (k1_off5_inb i)) (bwdAfter i x0 x1 x2 x4 x5 (k1_t1_loop i).trips))
      (dz1Of (masked (visOf i)) x4 x5 (chunk x2 (k1_off5 i) (k1_off5_inb i)) (bwdAfter i x0 x1 x2 x4 x5 (k1_t1_loop i).trips)) (headQ 0#32 x0) (headQ 1#32 x0)) ?_ ?_
    · rfl
    · rw [bwdAll_dk, harg9.read_unread]
      rfl
  · conv_rhs => rw [← e0, ← e1]
    rfl
  · exact h4
  · exact h5
  · exact h6
  · exact h7
  · exact h8
  · exact h9
  · rfl
  · rfl
  · exact le_rfl

theorem out1_B_8_eq
    (c : Dev nD) (i : grid1.Coords) (arg2 : Memref sig .tc .vmem S512x128 .bf16) (harg2 : arg2.IsWhole) (arg3 : Memref sig .tc .vmem S4096x128 .bf16)
    (harg3 : arg3.IsWhole) (arg4 : Memref sig .tc .vmem S4096x128 .bf16) (harg4 : arg4.IsWhole) (arg5 : Memref sig .tc .vmem S512x128 .f32)
    (harg5 : arg5.IsWhole) (arg6 : Memref sig .tc .vmem S512x128 .f32) (harg6 : arg6.IsWhole) (arg7 : Memref sig .tc .vmem S1x512x128 .f32)
    (harg7 : arg7.IsWhole) (arg8 : Memref sig .tc .vmem S512x128 .f32) (harg8 : arg8.IsWhole) (arg9 : Memref sig .tc .vmem S4096x128 .f32)
    (harg9 : arg9.IsWhole) (arg10 : Memref sig .tc .vmem S4096x128 .f32) (harg10 : arg10.IsWhole) (hc0 : ¬cond1_0 i) (x0 : Vec F S512x128 .bf16)
    (x1 : Vec F S4096x128 .bf16) (x2 : Vec F S4096x128 .bf16) (x3 : Vec F S512x128 .f32) (x4 : Vec F S512x128 .f32) (x5 : Vec F S1x512x128 .f32)
    (xo7 : Vec F S4096x128 .f32) (xo8 : Vec F S4096x128 .f32) :
    out1_B_8 c i arg2 harg2 arg3 harg3 arg4 harg4 arg5 harg5 arg6 harg6 arg7 harg7 arg8 harg8 arg9 harg9 arg10 harg10 hc0 x0 x1 x2 x3 x4 x5 xo7 xo8 = bwdDv i x0 x1 x2 x4 x5 xo8 := by
  have e0 := read_sq harg2 x0
  have e1 := harg3.read_unread x1
  have e2 := harg4.read_unread x2
  have e4 := read_sq harg6 x4
  have e5 := read_st harg7 x5
  have h4 : kernelRun1_B.sl.r_4 c arg2 harg2 x0 = headQ 0#32 x0 := by
    conv_rhs => rw [← e0]
    rfl
  have h5 : kernelRun1_B.sl.r_5 c arg2 harg2 x0 = headQ 1#32 x0 := by
    conv_rhs => rw [← e0]
    rfl
  have h6 : kernelRun1_B.sl.r_6 c arg6 harg6 x4 = headD 0#32 x4 := by
    conv_rhs => rw [← e4]
    rfl
  have h7 : kernelRun1_B.sl.r_7 c arg6 harg6 x4 = headD 1#32 x4 := by
    conv_rhs => rw [← e4]
    rfl
  have h8 : kernelRun1_B.sl.r_8 c arg7 harg7 x5 = tot0 x5 := by
    conv_rhs => rw [← e5]
    rfl
  have h9 : kernelRun1_B.sl.r_9 c arg7 harg7 x5 = tot1 x5 := by
    conv_rhs => rw [← e5]
    rfl
  unfold out1_B_8 kernelRun1_B
  dsimp only
  unfold kernelRun1_B.sl.v444 kernelRun1_B.sl.H8_1 kernelRun1_B.sl.v284
  simp -proj only [kernelRun1_B.sl.r_50, kernelRun1_B.sl.r_49, kernelRun1_B.sl.r_48, kernelRun1_B.sl.r_47, kernelRun1_B.sl.r_46, kernelRun1_B.sl.r_45, kernelRun1_B.sl.r_44, kernelRun1_B.sl.r_43, kernelRun1_B.sl.r_42, kernelRun1_B.sl.r_41, kernelRun1_B.sl.r_40, kernelRun1_B.sl.r_39, kernelRun1_B.sl.r_38, kernelRun1_B.sl.r_37, kernelRun1_B.sl.r_36, kernelRun1_B.sl.r_35, kernelRun1_B.sl.r_34, kernelRun1_B.sl.r_32, kernelRun1_B.sl.r_31, kernelRun1_B.sl.r_30, kernelRun1_B.sl.r_29, kernelRun1_B.sl.r_28, kernelRun1_B.sl.r_27, kernelRun1_B.sl.r_26, kernelRun1_B.sl.r_25, kernelRun1_B.sl.r_24, kernelRun1_B.sl.r_23, kernelRun1_B.sl.r_22, kernelRun1_B.sl.r_21, kernelRun1_B.sl.r_20, kernelRun1_B.sl.r_19, kernelRun1_B.sl.r_18, kernelRun1_B.sl.r_17, kernelRun1_B.sl.r_16, kernelRun1_B.sl.r_15, kernelRun1_B.sl.r_14, kernelRun1_B.sl.r_13, kernelRun1_B.sl.r_12]
  rw [show Scf.trips (k1_t2_loop i).lb (k1_t2_loop i).ub (k1_t2_loop i).st = 0 from k1_t2_zero i,
    show Scf.trips (k1_t1_loop i).lb (k1_t1_loop i).ub (k1_t1_loop i).st = (k1_t1_loop i).trips from rfl]
  simp -proj only [st_bwd2_acc, st_bwd2_dk, st_bwd2_dv, List.nil_append]
  rw [st_bwd (x0 := x0) (x1 := x1) (x2 := x2) (x4 := x4) (x5 := x5) (hX3 := e1) (hX4 := e2) (n := (k1_t1_loop i).trips)]
  · simp -proj only [bwdAll_fst]
    rw [pay_w0, pay_dv0, pay_w1, pay_dv1, View.readCov_cons_toLoadRect arg10.view, View.read_writes_cons_put arg10.view _ _ _ _ rfl, View.read_writes_cons_put arg10.view _ _ _ _ rfl,
      VecWindow.put_put_same]
    simp -proj only [View.readAt_eq_ld, e1, e2, h4, h5, h6, h7, h8, h9]
    refine Eq.trans (b := addTwice (k1_off5 i) (k1_off5_inb i)
      (arg10.view.read (Elt F) (arg10.view.writes (Elt F) (harg10.unread xo8) (bwdAll i arg9 arg10 (harg9.unread xo7) (harg10.unread xo8) x0 x1 x2 x4 x5 (k1_t1_loop i).trips).2.2))
      (w0Of (masked (visOf i)) x5 (bwdAfter i x0 x1 x2 x4 x5 (k1_t1_loop i).trips))
      (w1Of (masked (visOf i)) x5 (bwdAfter i x0 x1 x2 x4 x5 (k1_t1_loop i).trips)) (headD 0#32 x4) (headD 1#32 x4)) ?_ ?_
    · rfl
    · rw [bwdAll_dv, harg10.read_unread]
      rfl
  · conv_rhs => rw [← e0, ← e1]
    rfl
  · exact h4
  · exact h5
  · exact h6
  · exact h7
  · exact h8
  · exact h9
  · rfl
  · rfl
  · exact le_rfl

end Cert.KernelIdeal.Sb

end
-- ==== Proof.ArraysBwd.lean ====
/- What the backward call's result arrays hold, over the reals. -/
module

public import proofs.«01_k».proof.Proof.ArraysFwd
public import proofs.«01_k».proof.Proof.BackwardReal
public import proofs.«01_k».proof.Proof.BackwardA
public import proofs.«01_k».proof.Proof.BackwardB

@[expose] public section

set_option maxRecDepth 16384

noncomputable section

namespace Cert.KernelIdeal.Sb

open Idealize.ShloMosaic Idealize.ShloMosaic.TcCoe Idealize.ShloMosaic.Tactic
open Idealize.ShloMosaic.Pipeline (Dat)
open Cert.KernelIdeal Cert.KernelIdeal.Gen Cert.Stick
open Finset (range)

/-- The gradient of the queries at column `c` of all the heads' columns. -/
def dqAll (P D : ℕ → ℕ → ℝ) (q c : ℕ) : ℝ :=
  dqOf (pairAt P 2048 (c / 128)) (pairAt P 2304 (c / 128)) (pairAt P 2560 (c / 128)) (pairAt D 0 (c / 128)) q (c % 128)
/-- The gradient of the keys, a block of queries after another. -/
def dkAll (P D : ℕ → ℕ → ℝ) (j c : ℕ) : ℝ :=
  ∑ b ∈ range 8, dkPart (pairAt P 2048 (c / 128)) (pairAt P 2304 (c / 128)) (pairAt P 2560 (c / 128)) (pairAt D 0 (c / 128)) b j (c % 128)
/-- The gradient of the values, a block of queries after another. -/
def dvAll (P D : ℕ → ℕ → ℝ) (j c : ℕ) : ℝ :=
  ∑ b ∈ range 8, dvPart (pairAt P 2048 (c / 128)) (pairAt P 2304 (c / 128)) (pairAt D 0 (c / 128)) b j (c % 128)

/-! ### Where the windows look -/

theorem coords1 : ∀ t : Fin grid1.N, ((grid1.coords t 0).val = t.val / 8) ∧ ((grid1.coords t 1).val = t.val % 8) := by decide +kernel

theorem index1_0 : ∀ i : grid1.Coords, cc1_transform_0 i 0 = (i 1).val ∧ cc1_transform_0 i 1 = 16 + (i 0).val := by decide +kernel
theorem index1_1 : ∀ i : grid1.Coords, cc1_transform_1 i 0 = 0 ∧ cc1_transform_1 i 1 = 18 + (i 0).val := by decide +kernel
theorem index1_2 : ∀ i : grid1.Coords, cc1_transform_2 i 0 = 0 ∧ cc1_transform_2 i 1 = 20 + (i 0).val := by decide +kernel
theorem index1_4 : ∀ i : grid1.Coords, cc1_transform_4 i 0 = (i 1).val ∧ cc1_transform_4 i 1 = (i 0).val := by decide +kernel
theorem index1_5 : ∀ i : grid1.Coords, cc1_transform_5 i 0 = (i 0).val ∧ cc1_transform_5 i 1 = (i 1).val ∧ cc1_transform_5 i 2 = 0 := by
  decide +kernel
theorem index1_6 : ∀ i : grid1.Coords, cc1_transform_6 i 0 = (i 1).val ∧ cc1_transform_6 i 1 = (i 0).val := by decide +kernel
theorem index1_7 : ∀ i : grid1.Coords, cc1_transform_7 i 0 = 0 ∧ cc1_transform_7 i 1 = (i 0).val := by decide +kernel
theorem index1_8 : ∀ i : grid1.Coords, cc1_transform_8 i 0 = 0 ∧ cc1_transform_8 i 1 = (i 0).val := by decide +kernel

variable (V : (c : Dev nD) → (b : Ref sig .tc) → Buf (Elt Ideal) ((c : Thread nD τ).loc b)) (c : Dev nD)
variable {P D : ℕ → ℕ → ℝ}

theorem re_win1_0 (hP : Re (R := 4096) (C := 3072) (φ := .bf16) (V c main_arg0) P) (t : Fin cfg1.N) :
    Re (R := 512) (C := 128) (φ := .bf16) (iblk1 V c 0 t) (fun r l => pairAt P 2048 (grid1.coords t 0).val (512 * (grid1.coords t 1).val + r) l) := fun r l => by
  have h0 : (grid1.coords t 0).val < 2 := (grid1.coords t 0).isLt
  have h1 : (grid1.coords t 1).val < 8 := (grid1.coords t 1).isLt
  obtain ⟨e0, e1⟩ := index1_0 (grid1.coords t)
  unfold iblk1 pairAt
  rw [View.read_apply]
  refine Eq.trans ?_ (hP ⟨512 * (grid1.coords t 1).val + r, by omega⟩ ⟨2048 + 128 * (grid1.coords t 0).val + l, by omega⟩)
  refine congrArg (V c main_arg0) (idx2_eq _ ?_ ?_)
  · show cc1_transform_0 (grid1.coords t) 0 * 512 + 1 * r.val = 512 * (grid1.coords t 1).val + r.val
    rw [e0]; omega
  · show cc1_transform_0 (grid1.coords t) 1 * 128 + 1 * l.val = 2048 + 128 * (grid1.coords t 0).val + l.val
    rw [e1]; omega

theorem re_win1_1 (hP : Re (R := 4096) (C := 3072) (φ := .bf16) (V c main_arg0) P) (t : Fin cfg1.N) :
    Re (R := 4096) (C := 128) (φ := .bf16) (iblk1 V c 1 t) (pairAt P 2304 (grid1.coords t 0).val) := fun r l => by
  have h0 : (grid1.coords t 0).val < 2 := (grid1.coords t 0).isLt
  have h1 : (grid1.coords t 1).val < 8 := (grid1.coords t 1).isLt
  obtain ⟨e0, e1⟩ := index1_1 (grid1.coords t)
  unfold iblk1 pairAt
  rw [View.read_apply]
  refine Eq.trans ?_ (hP r ⟨2304 + 128 * (grid1.coords t 0).val + l, by omega⟩)
  refine congrArg (V c main_arg0) (idx2_eq _ ?_ ?_)
  · show cc1_transform_1 (grid1.coords t) 0 * 4096 + 1 * r.val = r.val
    rw [e0]; omega
  · show cc1_transform_1 (grid1.coords t) 1 * 128 + 1 * l.val = 2304 + 128 * (grid1.coords t 0).val + l.val
    rw [e1]; omega

theorem re_win1_2 (hP : Re (R := 4096) (C := 3072) (φ := .bf16) (V c main_arg0) P) (t : Fin cfg1.N) :
    Re (R := 4096) (C := 128) (φ := .bf16) (iblk1 V c 2 t) (pairAt P 2560 (grid1.coords t 0).val) := fun r l => by
  have h0 : (grid1.coords t 0).val < 2 := (grid1.coords t 0).isLt
  have h1 : (grid1.coords t 1).val < 8 := (grid1.coords t 1).isLt
  obtain ⟨e0, e1⟩ := index1_2 (grid1.coords t)
  unfold iblk1 pairAt
  rw [View.read_apply]
  refine Eq.trans ?_ (hP r ⟨2560 + 128 * (grid1.coords t 0).val + l, by omega⟩)
  refine congrArg (V c main_arg0) (idx2_eq _ ?_ ?_)
  · show cc1_transform_2 (grid1.coords t) 0 * 4096 + 1 * r.val = r.val
    rw [e0]; omega
  · show cc1_transform_2 (grid1.coords t) 1 * 128 + 1 * l.val = 2560 + 128 * (grid1.coords t 0).val + l.val
    rw [e1]; omega

theorem re_win1_4 (hD : Re (R := 4096) (C := 256) (φ := .f32) (V c main_arg1) D) (t : Fin cfg1.N) :
    Re (R := 512) (C := 128) (φ := .f32) (iblk1 V c 4 t) (fun r l => pairAt D 0 (grid1.coords t 0).val (512 * (grid1.coords t 1).val + r) l) := fun r l => by
  have h0 : (grid1.coords t 0).val < 2 := (grid1.coords t 0).isLt
  have h1 : (grid1.coords t 1).val < 8 := (grid1.coords t 1).isLt
  obtain ⟨e0, e1⟩ := index1_4 (grid1.coords t)
  unfold iblk1 pairAt
  rw [View.read_apply]
  refine Eq.trans ?_ (hD ⟨512 * (grid1.coords t 1).val + r, by omega⟩ ⟨0 + 128 * (grid1.coords t 0).val + l, by omega⟩)
  refine congrArg (V c main_arg1) (idx2_eq _ ?_ ?_)
  · show cc1_transform_4 (grid1.coords t) 0 * 512 + 1 * r.val = 512 * (grid1.coords t 1).val + r.val
    rw [e0]; omega
  · show cc1_transform_4 (grid1.coords t) 1 * 128 + 1 * l.val = 0 + 128 * (grid1.coords t 0).val + l.val
    rw [e1]; omega

theorem re_win1_5 (hT : (V c main_v0_1 : Vec Ideal S2x4096x128 .f32) = statArr P) (t : Fin cfg1.N) (r : Fin 512) (l : Fin 128) :
    ((iblk1 V c 5 t : Vec Ideal S1x512x128 .f32) (ix3 0 r l) : EReal)
      = ((totOf (pairAt P 2048 (grid1.coords t 0).val) (pairAt P 2304 (grid1.coords t 0).val) (512 * (grid1.coords t 1).val + r) l : ℝ) : EReal) := by
  obtain ⟨e0, e1, e2⟩ := index1_5 (grid1.coords t)
  unfold iblk1
  rw [View.read_apply]
  have i0 : ((((cfg1.win 5).blk t).view.emb (ix3 0 r l)) 0).val = (grid1.coords t 0).val := by
    show cc1_transform_5 (grid1.coords t) 0 * 1 + 1 * 0 = _
    rw [e0]; omega
  have i1 : ((((cfg1.win 5).blk t).view.emb (ix3 0 r l)) 1).val = 512 * (grid1.coords t 1).val + r.val := by
    show cc1_transform_5 (grid1.coords t) 1 * 512 + 1 * r.val = _
    rw [e1]; omega
  have i2 : ((((cfg1.win 5).blk t).view.emb (ix3 0 r l)) 2).val = l.val := by
    show cc1_transform_5 (grid1.coords t) 2 * 128 + 1 * l.val = _
    rw [e2]; omega
  refine (congrFun hT _).trans ?_
  show ((totOf (pairAt P 2048 ((((cfg1.win 5).blk t).view.emb (ix3 0 r l)) 0).val) (pairAt P 2304 ((((cfg1.win 5).blk t).view.emb (ix3 0 r l)) 0).val)
    ((((cfg1.win 5).blk t).view.emb (ix3 0 r l)) 1).val ((((cfg1.win 5).blk t).view.emb (ix3 0 r l)) 2).val : ℝ) : EReal) = _
  rw [i0, i1, i2]

theorem finds (hP : Re (R := 4096) (C := 3072) (φ := .bf16) (V c main_arg0) P)
    (hD : Re (R := 4096) (C := 256) (φ := .f32) (V c main_arg1) D)
    (hT : (V c main_v0_1 : Vec Ideal S2x4096x128 .f32) = statArr P) (t : Fin cfg1.N) :
    Finds (grid1.coords t) (iblk1 V c 0 t) (iblk1 V c 1 t) (iblk1 V c 2 t) (iblk1 V c 4 t) (iblk1 V c 5 t)
      (pairAt P 2048 (grid1.coords t 0).val) (pairAt P 2304 (grid1.coords t 0).val) (pairAt P 2560 (grid1.coords t 0).val)
      (pairAt D 0 (grid1.coords t 0).val) :=
  ⟨re_win1_0 V c hP t, re_win1_1 V c hP t, re_win1_2 V c hP t, re_win1_4 V c hD t, re_win1_5 V c hT t⟩

/-! ### The blocks, and the arrays -/

theorem re_zeros : Re (R := 4096) (C := 128) (φ := .f32) (broadcast S4096x128 (Scalar.ofBits .f32 0x00000000#32) : FVec Ideal S4096x128 .f32)
    (fun _ _ => 0) := fun r c => by pointwise []; rfl

section Blocks

variable (hP : Re (R := 4096) (C := 3072) (φ := .bf16) (V c main_arg0) P)
  (hD : Re (R := 4096) (C := 256) (φ := .f32) (V c main_arg1) D)
  (hT : (V c main_v0_1 : Vec Ideal S2x4096x128 .f32) = statArr P)
include hP hD hT

theorem re_dq (t : Fin cfg1.N) :
    Re (R := 512) (C := 128) (φ := .f32) (outsAt1 V c t.val t.isLt).1
      (fun r l => dqOf (pairAt P 2048 (grid1.coords t 0).val) (pairAt P 2304 (grid1.coords t 0).val) (pairAt P 2560 (grid1.coords t 0).val)
        (pairAt D 0 (grid1.coords t 0).val) (512 * (grid1.coords t 1).val + r) l) := by
  by_cases h : t.val % 8 = 0
  · rw [outsAt1_A V c t h]
    dsimp only
    rw [out1_A_6_eq]
    exact re_bwdDq (finds V c hP hD hT t)
  · rw [outsAt1_B V c t h]
    dsimp only
    rw [out1_B_6_eq]
    exact re_bwdDq (finds V c hP hD hT t)

/-- The keys' gradients gather one block of queries a point; a new pair of heads starts from zero. -/
theorem re_dk : ∀ (n : ℕ) (hn : n < cfg1.N), Re (R := 4096) (C := 128) (φ := .f32) (outsAt1 V c n hn).2.1
    (fun j l => ∑ b ∈ range (n % 8 + 1), dkPart (pairAt P 2048 (n / 8)) (pairAt P 2304 (n / 8)) (pairAt P 2560 (n / 8)) (pairAt D 0 (n / 8)) b j l) := by
  intro n
  induction n with
  | zero =>
    intro hn
    obtain ⟨c0, c1⟩ := coords1 ⟨0, hn⟩
    have c0' : (grid1.coords (⟨0, hn⟩ : Fin cfg1.N) 0).val = 0 := c0.trans (Nat.zero_div 8)
    have c1' : (grid1.coords (⟨0, hn⟩ : Fin cfg1.N) 1).val = 0 := c1
    have f := finds V c hP hD hT ⟨0, hn⟩
    rw [outsAt1_A V c ⟨0, hn⟩ (Nat.zero_mod _)]
    dsimp only
    rw [out1_A_7_eq]
    refine Re.congr (re_bwdDk f re_zeros) fun j _ l _ => ?_
    rw [c0', c1', Nat.zero_mod, Nat.zero_div, Finset.sum_range_one, zero_add]
  | succ n ih =>
    intro hn
    obtain ⟨c0, c1⟩ := coords1 ⟨n + 1, hn⟩
    have c0' : (grid1.coords (⟨n + 1, hn⟩ : Fin cfg1.N) 0).val = (n + 1) / 8 := c0
    have c1' : (grid1.coords (⟨n + 1, hn⟩ : Fin cfg1.N) 1).val = (n + 1) % 8 := c1
    have f := finds V c hP hD hT ⟨n + 1, hn⟩
    by_cases h : (n + 1) % 8 = 0
    · rw [outsAt1_A V c ⟨n + 1, hn⟩ h]
      dsimp only
      rw [out1_A_7_eq]
      refine Re.congr (re_bwdDk f re_zeros) fun j _ l _ => ?_
      rw [c0', c1', h, Finset.sum_range_one, zero_add]
    · rw [outsAt1_B V c ⟨n + 1, hn⟩ h]
      dsimp only
      rw [out1_B_7_eq]
      refine Re.congr (re_bwdDk f (ih (Nat.lt_of_succ_lt hn))) fun j _ l _ => ?_
      rw [c0', c1', show n / 8 = (n + 1) / 8 by omega, show n % 8 + 1 = (n + 1) % 8 by omega, Finset.sum_range_succ]

/-- The values' gradients gather one block of queries a point; a new pair of heads starts from zero. -/
theorem re_dv : ∀ (n : ℕ) (hn : n < cfg1.N), Re (R := 4096) (C := 128) (φ := .f32) (outsAt1 V c n hn).2.2
    (fun j l => ∑ b ∈ range (n % 8 + 1), dvPart (pairAt P 2048 (n / 8)) (pairAt P 2304 (n / 8)) (pairAt D 0 (n / 8)) b j l) := by
  intro n
  induction n with
  | zero =>
    intro hn
    obtain ⟨c0, c1⟩ := coords1 ⟨0, hn⟩
    have c0' : (grid1.coords (⟨0, hn⟩ : Fin cfg1.N) 0).val = 0 := c0.trans (Nat.zero_div 8)
    have c1' : (grid1.coords (⟨0, hn⟩ : Fin cfg1.N) 1).val = 0 := c1
    have f := finds V c hP hD hT ⟨0, hn⟩
    rw [outsAt1_A V c ⟨0, hn⟩ (Nat.zero_mod _)]
    dsimp only
    rw [out1_A_8_eq]
    refine Re.congr (re_bwdDv f re_zeros) fun j _ l _ => ?_
    rw [c0', c1', Nat.zero_mod, Nat.zero_div, Finset.sum_range_one, zero_add]
  | succ n ih =>
    intro hn
    obtain ⟨c0, c1⟩ := coords1 ⟨n + 1, hn⟩
    have c0' : (grid1.coords (⟨n + 1, hn⟩ : Fin cfg1.N) 0).val = (n + 1) / 8 := c0
    have c1' : (grid1.coords (⟨n + 1, hn⟩ : Fin cfg1.N) 1).val = (n + 1) % 8 := c1
    have f := finds V c hP hD hT ⟨n + 1, hn⟩
    by_cases h : (n + 1) % 8 = 0
    · rw [outsAt1_A V c ⟨n + 1, hn⟩ h]
      dsimp only
      rw [out1_A_8_eq]
      refine Re.congr (re_bwdDv f re_zeros) fun j _ l _ => ?_
      rw [c0', c1', h, Finset.sum_range_one, zero_add]
    · rw [outsAt1_B V c ⟨n + 1, hn⟩ h]
      dsimp only
      rw [out1_B_8_eq]
      refine Re.congr (re_bwdDv f (ih (Nat.lt_of_succ_lt hn))) fun j _ l _ => ?_
      rw [c0', c1', show n / 8 = (n + 1) / 8 by omega, show n % 8 + 1 = (n + 1) % 8 by omega, Finset.sum_range_succ]

end Blocks

theorem flushed1_6 (hP : Re (R := 4096) (C := 3072) (φ := .bf16) (V c main_arg0) P)
    (hD : Re (R := 4096) (C := 256) (φ := .f32) (V c main_arg1) D)
    (hT : (V c main_v0_1 : Vec Ideal S2x4096x128 .f32) = statArr P)
    (t : Fin cfg1.N) (hf : (cfg1.win 6).flush t = true) :
    (dat1 V c).flushed 6 t = ((cfg1.win 6).blk t).view.read (Elt Ideal) (oArr (dqAll P D)) := by
  have h0 : (grid1.coords t 0).val < 2 := (grid1.coords t 0).isLt
  obtain ⟨c0, c1⟩ := coords1 t
  obtain ⟨e0, e1⟩ := index1_6 (grid1.coords t)
  show (cfg1.win 6).cut (grid1.coords t) ((dat1 V c).after 6 t) = _
  rw [after1_6]
  funext j
  obtain ⟨r, l, rfl⟩ : ∃ (r : Fin 512) (l : Fin 128), j = ix2 r l := ⟨j 0, j 1, eq_ix2 j⟩
  refine (re_dq V c hP hD hT t r l).trans ?_
  rw [View.read_apply]
  have i0 : ((((cfg1.win 6).blk t).view.emb (ix2 r l)) 0).val = 512 * (grid1.coords t 1).val + r.val := by
    show cc1_transform_6 (grid1.coords t) 0 * 512 + 1 * r.val = _
    rw [e0]; omega
  have i1 : ((((cfg1.win 6).blk t).view.emb (ix2 r l)) 1).val = 128 * (grid1.coords t 0).val + l.val := by
    show cc1_transform_6 (grid1.coords t) 1 * 128 + 1 * l.val = _
    rw [e1]; omega
  show _ = ((dqAll P D ((((cfg1.win 6).blk t).view.emb (ix2 r l)) 0).val ((((cfg1.win 6).blk t).view.emb (ix2 r l)) 1).val : ℝ) : EReal)
  rw [i0, i1, dqAll, show (128 * (grid1.coords t 0).val + l.val) / 128 = (grid1.coords t 0).val by omega,
    show (128 * (grid1.coords t 0).val + l.val) % 128 = l.val by omega]

theorem final1_6 (hP : Re (R := 4096) (C := 3072) (φ := .bf16) (V c main_arg0) P)
    (hD : Re (R := 4096) (C := 256) (φ := .f32) (V c main_arg1) D)
    (hT : (V c main_v0_1 : Vec Ideal S2x4096x128 .f32) = statArr P) :
    (dat1 V c).arrAt 6 cfg1.N = oArr (dqAll P D) :=
  (dat1 V c).arrAt_eq_of_cover 6 (oArr (dqAll P D)) (flushed1_6 V c hP hD hT) fun i => by
    have h0 : (i 0 : Nat) < 4096 := (i 0).isLt
    have h1 : (i 1 : Nat) < 256 := (i 1).isLt
    have hN : cfg1.N = 16 := N_1
    let t : Fin cfg1.N := ⟨8 * ((i 1 : Nat) / 128) + (i 0 : Nat) / 512, by omega⟩
    have ht : t.val = 8 * ((i 1 : Nat) / 128) + (i 0 : Nat) / 512 := rfl
    refine ⟨t, flush1_6 t, ?_⟩
    obtain ⟨c0, c1⟩ := coords1 t
    obtain ⟨e0, e1⟩ := index1_6 (grid1.coords t)
    show i ∈ ((View.whole main_v1_0).slice (win1_6.rect t)).set
    rw [View.set_slice_whole, Rect.mem_set_unit]
    intro a
    match a with
    | ⟨0, _⟩ => show cc1_transform_6 (grid1.coords t) 0 * 512 ≤ (i 0 : Nat) ∧ (i 0 : Nat) < cc1_transform_6 (grid1.coords t) 0 * 512 + 512
                rw [e0, c1]; omega
    | ⟨1, _⟩ => show cc1_transform_6 (grid1.coords t) 1 * 128 ≤ (i 1 : Nat) ∧ (i 1 : Nat) < cc1_transform_6 (grid1.coords t) 1 * 128 + 128
                rw [e1, c0]; omega

theorem flushed1_7 (hP : Re (R := 4096) (C := 3072) (φ := .bf16) (V c main_arg0) P)
    (hD : Re (R := 4096) (C := 256) (φ := .f32) (V c main_arg1) D)
    (hT : (V c main_v0_1 : Vec Ideal S2x4096x128 .f32) = statArr P)
    (t : Fin cfg1.N) (hf : (cfg1.win 7).flush t = true) :
    (dat1 V c).flushed 7 t = ((cfg1.win 7).blk t).view.read (Elt Ideal) (oArr (dkAll P D)) := by
  have h0 : (grid1.coords t 0).val < 2 := (grid1.coords t 0).isLt
  obtain ⟨c0, c1⟩ := coords1 t
  obtain ⟨e0, e1⟩ := index1_7 (grid1.coords t)
  show (cfg1.win 7).cut (grid1.coords t) ((dat1 V c).after 7 t) = _
  rw [after1_7]
  funext j
  obtain ⟨r, l, rfl⟩ : ∃ (r : Fin 4096) (l : Fin 128), j = ix2 r l := ⟨j 0, j 1, eq_ix2 j⟩
  refine (re_dk V c hP hD hT t.val t.isLt r l).trans ?_
  rw [View.read_apply]
  have i0 : ((((cfg1.win 7).blk t).view.emb (ix2 r l)) 0).val = r.val := by
    show cc1_transform_7 (grid1.coords t) 0 * 4096 + 1 * r.val = _
    rw [e0]; omega
  have i1 : ((((cfg1.win 7).blk t).view.emb (ix2 r l)) 1).val = 128 * (grid1.coords t 0).val + l.val := by
    show cc1_transform_7 (grid1.coords t) 1 * 128 + 1 * l.val = _
    rw [e1]; omega
  show _ = ((dkAll P D ((((cfg1.win 7).blk t).view.emb (ix2 r l)) 0).val ((((cfg1.win 7).blk t).view.emb (ix2 r l)) 1).val : ℝ) : EReal)
  rw [i0, i1, dkAll, show (128 * (grid1.coords t 0).val + l.val) / 128 = (grid1.coords t 0).val by omega,
    show (128 * (grid1.coords t 0).val + l.val) % 128 = l.val by omega]
  rw [(flush1_7 t).mp hf, c0]

theorem final1_7 (hP : Re (R := 4096) (C := 3072) (φ := .bf16) (V c main_arg0) P)
    (hD : Re (R := 4096) (C := 256) (φ := .f32) (V c main_arg1) D)
    (hT : (V c main_v0_1 : Vec Ideal S2x4096x128 .f32) = statArr P) :
    (dat1 V c).arrAt 7 cfg1.N = oArr (dkAll P D) :=
  (dat1 V c).arrAt_eq_of_cover 7 (oArr (dkAll P D)) (flushed1_7 V c hP hD hT) fun i => by
    have h0 : (i 0 : Nat) < 4096 := (i 0).isLt
    have h1 : (i 1 : Nat) < 256 := (i 1).isLt
    have hN : cfg1.N = 16 := N_1
    let t : Fin cfg1.N := ⟨8 * ((i 1 : Nat) / 128) + 7, by omega⟩
    have ht : t.val = 8 * ((i 1 : Nat) / 128) + 7 := rfl
    refine ⟨t, (flush1_7 t).mpr (by omega), ?_⟩
    obtain ⟨c0, c1⟩ := coords1 t
    obtain ⟨e0, e1⟩ := index1_7 (grid1.coords t)
    show i ∈ ((View.whole main_v1_1).slice (win1_7.rect t)).set
    rw [View.set_slice_whole, Rect.mem_set_unit]
    intro a
    match a with
    | ⟨0, _⟩ => show cc1_transform_7 (grid1.coords t) 0 * 4096 ≤ (i 0 : Nat) ∧ (i 0 : Nat) < cc1_transform_7 (grid1.coords t) 0 * 4096 + 4096
                rw [e0]; omega
    | ⟨1, _⟩ => show cc1_transform_7 (grid1.coords t) 1 * 128 ≤ (i 1 : Nat) ∧ (i 1 : Nat) < cc1_transform_7 (grid1.coords t) 1 * 128 + 128
                rw [e1, c0]; omega

theorem flushed1_8 (hP : Re (R := 4096) (C := 3072) (φ := .bf16) (V c main_arg0) P)
    (hD : Re (R := 4096) (C := 256) (φ := .f32) (V c main_arg1) D)
    (hT : (V c main_v0_1 : Vec Ideal S2x4096x128 .f32) = statArr P)
    (t : Fin cfg1.N) (hf : (cfg1.win 8).flush t = true) :
    (dat1 V c).flushed 8 t = ((cfg1.win 8).blk t).view.read (Elt Ideal) (oArr (dvAll P D)) := by
  have h0 : (grid1.coords t 0).val < 2 := (grid1.coords t 0).isLt
  obtain ⟨c0, c1⟩ := coords1 t
  obtain ⟨e0, e1⟩ := index1_8 (grid1.coords t)
  show (cfg1.win 8).cut (grid1.coords t) ((dat1 V c).after 8 t) = _
  rw [after1_8]
  funext j
  obtain ⟨r, l, rfl⟩ : ∃ (r : Fin 4096) (l : Fin 128), j = ix2 r l := ⟨j 0, j 1, eq_ix2 j⟩
  refine (re_dv V c hP hD hT t.val t.isLt r l).trans ?_
  rw [View.read_apply]
  have i0 : ((((cfg1.win 8).blk t).view.emb (ix2 r l)) 0).val = r.val := by
    show cc1_transform_8 (grid1.coords t) 0 * 4096 + 1 * r.val = _
    rw [e0]; omega
  have i1 : ((((cfg1.win 8).blk t).view.emb (ix2 r l)) 1).val = 128 * (grid1.coords t 0).val + l.val := by
    show cc1_transform_8 (grid1.coords t) 1 * 128 + 1 * l.val = _
    rw [e1]; omega
  show _ = ((dvAll P D ((((cfg1.win 8).blk t).view.emb (ix2 r l)) 0).val ((((cfg1.win 8).blk t).view.emb (ix2 r l)) 1).val : ℝ) : EReal)
  rw [i0, i1, dvAll, show (128 * (grid1.coords t 0).val + l.val) / 128 = (grid1.coords t 0).val by omega,
    show (128 * (grid1.coords t 0).val + l.val) % 128 = l.val by omega]
  rw [(flush1_8 t).mp hf, c0]

theorem final1_8 (hP : Re (R := 4096) (C := 3072) (φ := .bf16) (V c main_arg0) P)
    (hD : Re (R := 4096) (C := 256) (φ := .f32) (V c main_arg1) D)
    (hT : (V c main_v0_1 : Vec Ideal S2x4096x128 .f32) = statArr P) :
    (dat1 V c).arrAt 8 cfg1.N = oArr (dvAll P D) :=
  (dat1 V c).arrAt_eq_of_cover 8 (oArr (dvAll P D)) (flushed1_8 V c hP hD hT) fun i => by
    have h0 : (i 0 : Nat) < 4096 := (i 0).isLt
    have h1 : (i 1 : Nat) < 256 := (i 1).isLt
    have hN : cfg1.N = 16 := N_1
    let t : Fin cfg1.N := ⟨8 * ((i 1 : Nat) / 128) + 7, by omega⟩
    have ht : t.val = 8 * ((i 1 : Nat) / 128) + 7 := rfl
    refine ⟨t, (flush1_8 t).mpr (by omega), ?_⟩
    obtain ⟨c0, c1⟩ := coords1 t
    obtain ⟨e0, e1⟩ := index1_8 (grid1.coords t)
    show i ∈ ((View.whole main_v1_2).slice (win1_8.rect t)).set
    rw [View.set_slice_whole, Rect.mem_set_unit]
    intro a
    match a with
    | ⟨0, _⟩ => show cc1_transform_8 (grid1.coords t) 0 * 4096 ≤ (i 0 : Nat) ∧ (i 0 : Nat) < cc1_transform_8 (grid1.coords t) 0 * 4096 + 4096
                rw [e0]; omega
    | ⟨1, _⟩ => show cc1_transform_8 (grid1.coords t) 1 * 128 ≤ (i 1 : Nat) ∧ (i 1 : Nat) < cc1_transform_8 (grid1.coords t) 1 * 128 + 128
                rw [e1, c0]; omega

end Cert.KernelIdeal.Sb

end
-- ==== Proof.Result.lean ====
/- The kernel's run: from finite arguments its two calls leave the attention's output and the three gradients. -/
module

public import proofs.«01_k».proof.Proof.ArraysBwd

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The arguments hold the real numbers `P` (the projections) and `D` (the output's gradient). -/
structure Args (c : Dev nD) (P D : ℕ → ℕ → ℝ) : Prop where
  proj : Re (R := 4096) (C := 3072) (φ := .bf16) (m ((c.tc : Thread nD τ).loc main_arg0)) P
  dod : Re (R := 4096) (C := 256) (φ := .f32) (m ((c.tc : Thread nD τ).loc main_arg1)) D

section Contents
variable {c : Dev nD} {P D : ℕ → ℕ → ℝ} (h : Args m c P D)
include h

/-- What the forward call leaves, as the backward call finds it. -/
theorem entry_proj : Re (R := 4096) (C := 3072) (φ := .bf16) (V1 m ρ c main_arg0) P := by
  have e : V1 m ρ c main_arg0 = m ((c.tc : Thread nD τ).loc main_arg0) := W1_args m ρ c main_arg0 (by decide)
  rw [e]; exact h.proj
theorem entry_dod : Re (R := 4096) (C := 256) (φ := .f32) (V1 m ρ c main_arg1) D := by
  have e : V1 m ρ c main_arg1 = m ((c.tc : Thread nD τ).loc main_arg1) := W1_args m ρ c main_arg1 (by decide)
  rw [e]; exact h.dod
theorem entry_stat : (V1 m ρ c main_v0_1 : Vec Ideal S2x4096x128 .f32) = statArr P :=
  (W1_arr m ρ c 4).trans (final0_4 (V0 m ρ) c h.proj)

theorem exit_out : W2 m ρ c (Proc.devRef .tc main_v0_0) = oArr (outAll P) :=
  (W2_of m ρ c main_v0_0 (by decide)).trans ((W1_arr m ρ c 3).trans (final0_3 (V0 m ρ) c h.proj))
theorem exit_dq : W2 m ρ c (Proc.devRef .tc main_v1_0) = oArr (dqAll P D) :=
  (W2_arr m ρ c 6).trans (final1_6 (V1 m ρ) c (entry_proj m ρ h) (entry_dod m ρ h) (entry_stat m ρ h))
theorem exit_dk : W2 m ρ c (Proc.devRef .tc main_v1_1) = oArr (dkAll P D) :=
  (W2_arr m ρ c 7).trans (final1_7 (V1 m ρ) c (entry_proj m ρ h) (entry_dod m ρ h) (entry_stat m ρ h))
theorem exit_dv : W2 m ρ c (Proc.devRef .tc main_v1_2) = oArr (dvAll P D) :=
  (W2_arr m ρ c 8).trans (final1_8 (V1 m ρ) c (entry_proj m ρ h) (entry_dod m ρ h) (entry_stat m ρ h))

end Contents

set_option backward.isDefEq.respectTransparency.types false in
/-- Every execution ends with the four results and with the arguments as they were. -/
theorem results {P D : Dev nD → ℕ → ℕ → ℝ} (h : ∀ c, Args m c (P c) (D c)) :
    θ_run defs (onTc (τ := τ) (main (F := Ideal))) ⟨m, fun _ => 0, ρ⟩ (fun r => ∀ c : Dev nD,
      r.2.mem ((c.tc : Thread nD τ).loc main_v0_0) = (oArr (outAll (P c)) : Buf (Elt Ideal) ((c.tc : Thread nD τ).loc main_v0_0))
      ∧ r.2.mem ((c.tc : Thread nD τ).loc main_v1_0) = (oArr (dqAll (P c) (D c)) : Buf (Elt Ideal) ((c.tc : Thread nD τ).loc main_v1_0))
      ∧ r.2.mem ((c.tc : Thread nD τ).loc main_v1_1) = (oArr (dkAll (P c) (D c)) : Buf (Elt Ideal) ((c.tc : Thread nD τ).loc main_v1_1))
      ∧ r.2.mem ((c.tc : Thread nD τ).loc main_v1_2) = (oArr (dvAll (P c) (D c)) : Buf (Elt Ideal) ((c.tc : Thread nD τ).loc main_v1_2))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s hs hz c =>
      ⟨(hs c _ (mem_uc main_v0_0 (by decide))).trans (exit_out m ρ (h c)),
       (hs c _ (mem_uc main_v1_0 (by decide))).trans (exit_dq m ρ (h c)),
       (hs c _ (mem_uc main_v1_1 (by decide))).trans (exit_dk m ρ (h c)),
       (hs c _ (mem_uc main_v1_2 (by decide))).trans (exit_dv m ρ (h c)),
       (hs c _ (mem_uc main_arg0 (by decide))).trans (W2_main_arg0 m ρ c),
       (hs c _ (mem_uc main_arg1 (by decide))).trans (W2_main_arg1 m ρ c)⟩)

end Cert.KernelIdeal.Sb

end
-- ==== Proof.Finite.lean ====
/- The precondition read back: where it holds, every element of the two arguments is a real number. -/
module

public import proofs.«01_k».proof.Proof.Real
public import proofs.«01_k».proof.Proof.Gen.Pre_finite
public import Idealize.ShloMosaic.Lib.ReduceAll

@[expose] public section

set_option maxRecDepth 16384

noncomputable section

namespace Cert.KernelIdeal.Sb

open Idealize.ShloMosaic Idealize.ShloMosaic.Tactic

/-- An extended real whose absolute value is below +∞ is a real number. -/
theorem real_of_abs_lt {x : EReal} (h : Ideal.cmp .olt (max x (-x)) (Ideal.ofBits .f32 0x7F800000#32) = 1#1) : ((x.toReal : ℝ) : EReal) = x := by
  have htop : Ideal.ofBits .f32 0x7F800000#32 = ⊤ := by simp [Ideal.ofBits, Ideal.ieee]
  rw [htop] at h
  have hx : max x (-x) < ⊤ := by
    by_contra hn
    rw [show Ideal.cmp .olt (max x (-x)) ⊤ = BitVec.ofBool (decide (max x (-x) < ⊤)) from rfl, decide_eq_false hn] at h
    exact absurd h (by decide)
  rw [max_lt_iff] at hx
  exact EReal.coe_toReal hx.1.ne fun hb => by rw [hb] at hx; simp at hx

/-- A matrix of real numbers, as a function of a row and a column. -/
theorem exists_re {R C : ℕ} {φ : FTy} (v : FVec Ideal ⟨2, ![R, C]⟩ φ) (h : ∀ i, (((v i : EReal).toReal : ℝ) : EReal) = v i) : ∃ f, Re v f :=
  ⟨fun r c => if hr : r < R then if hc : c < C then (v (ix2 ⟨r, hr⟩ ⟨c, hc⟩) : EReal).toReal else 0 else 0, fun r c => by
    dsimp only; rw [dif_pos r.isLt, dif_pos c.isLt]; exact (h _).symm⟩

instance : Subsingleton Cert.Pre_finite.S_.Idx := ⟨fun i j => funext fun a => a.elim0⟩

theorem re_of_finite (x : FVec Ideal Cert.Pre_finite.S4096x3072 .bf16) (y : FVec Ideal Cert.Pre_finite.S4096x256 .f32)
    (h : Cert.Pre_finite.fn (F := Ideal) x y = fun _ => 1#1) : (∃ P, Re (R := 4096) (C := 3072) x P) ∧ ∃ D, Re (R := 4096) (C := 256) y D := by
  have hh := congrFun h (fun a => a.elim0)
  unfold Cert.Pre_finite.fn at hh
  obtain ⟨h1, h2⟩ := IntOp.andi_eq_one.1 hh
  exact ⟨exists_re x fun i => real_of_abs_lt (Host.reduce_andi_all _ _ _ _ _ h1 i),
    exists_re y fun i => real_of_abs_lt (Host.reduce_andi_all _ _ _ _ _ h2 i)⟩

end Cert.KernelIdeal.Sb

end
-- ==== Proof.Cumsum.lean ====
/- The reference's running sums along the last axis, over the reals: a window sum over all that comes at or after
   a position, and one over all that comes at or before it. -/
module

public import proofs.«01_k».proof.Proof.Gen.ReferenceIdeal
public import proofs.«01_k».proof.Proof.Real

@[expose] public section

set_option maxRecDepth 16384

noncomputable section

namespace Cert.ReferenceIdeal.Sb

open Idealize.ShloMosaic Idealize.ShloMosaic.Tactic
open Cert.ReferenceIdeal Cert.Stick
open Finset (range)

theorem foldl_add {ι : Type} (g : ι → EReal) : ∀ (l : List ι) (v : EReal), l.foldl (fun r n => r + g n) v = v + (l.map g).sum
  | [], v => by simp
  | a :: l, v => by rw [List.foldl_cons, foldl_add g l, List.map_cons, List.sum_cons, add_assoc]

/-- The window's positions: one along each of the first two axes. -/
abbrev Win : Shape := ⟨3, ![1, 1, 4096]⟩

def winEquiv : Fin 4096 ≃ Win.Idx where
  toFun k := ix3 0 0 k
  invFun w := w 2
  left_inv _ := rfl
  right_inv w := by
    rw [eq_ix3 w]
    exact congrArg₂ (fun a b => ix3 a b (w 2)) (Subsingleton.elim _ _) (Subsingleton.elim _ _)

section Window
variable {s t : Shape} (window strides lo : Fin s.rank → ℕ) {hi : Fin s.rank → ℕ}

/-- What the padded array holds at a position of the window at `j`. -/
def padded (x : s.Idx → EReal) (j : Fin s.rank → ℕ) (w : (⟨s.rank, window⟩ : Shape).Idx) : EReal :=
  if hin : ∀ a : Fin s.rank, lo a ≤ j a * strides a + (w a).val ∧ j a * strides a + (w a).val - lo a < s.size a
    then x (fun a => ⟨j a * strides a + (w a).val - lo a, (hin a).2⟩) else 0

/-- A window sum from zero is the sum over the window's positions. -/
theorem window_sum (h : s.ReduceWindows window strides lo hi t) (x : s.Idx → EReal) (j : t.Idx) :
    Ideal.hostReduceWindowAdd window strides lo hi h x 0 j
      = ∑ w : (⟨s.rank, window⟩ : Shape).Idx, padded window strides lo x (fun a => (j (a.cast h.1.symm)).val) w := by
  unfold Ideal.hostReduceWindowAdd Host.reduceWindow
  refine Eq.trans ?_ ((foldl_add (fun n => padded window strides lo x (fun a => (j (a.cast h.1.symm)).val) ((⟨s.rank, window⟩ : Shape).rowMajor.symm n))
    (List.finRange _) 0).trans ?_)
  · refine congrArg (fun F => List.foldl F (0 : EReal) (List.finRange _)) (funext fun r => funext fun n => congrArg (r + ·) ?_)
    unfold padded
    exact dite_congr rfl (fun _ => rfl) fun _ => rfl
  rw [zero_add, ← Fin.sum_univ_def, Equiv.sum_comp (⟨s.rank, window⟩ : Shape).rowMajor.symm]

end Window

/-- The same where the window runs along the last of three axes. -/
theorem window_last {lo hi : Fin 3 → ℕ} (h : S4x4096x4096.ReduceWindows ![1, 1, 4096] ![1, 1, 1] lo hi S4x4096x4096) (x : S4x4096x4096.Idx → EReal)
    (j : S4x4096x4096.Idx) (g : ℕ → ℝ)
    (hg : ∀ k : Fin 4096, padded (s := S4x4096x4096) ![1, 1, 4096] ![1, 1, 1] lo x (fun a => (j (a.cast h.1.symm)).val) (winEquiv k) = ((g k : ℝ) : EReal)) :
    Ideal.hostReduceWindowAdd ![1, 1, 4096] ![1, 1, 1] lo hi h x 0 j = ((∑ k ∈ range 4096, g k : ℝ) : EReal) :=
  (window_sum _ _ _ h x j).trans ((Equiv.sum_comp winEquiv _).symm.trans
    ((Finset.sum_congr rfl fun k _ => hg k).trans ((Cert.KernelIdeal.Sb.coe_sum _ _).trans (congrArg _ (Finset.sum_range g).symm))))

variable {x : S4x4096x4096.Idx → EReal} {f : ℕ → ℕ → ℕ → ℝ}

/-- The sum over all that comes at or after a position. -/
theorem sum_after (hx : ∀ i, x i = ((f (i 0).val (i 1).val (i 2).val : ℝ) : EReal))
    (h : S4x4096x4096.ReduceWindows ![1, 1, 4096] ![1, 1, 1] ![0, 0, 0] ![0, 0, 4095] S4x4096x4096) (j : S4x4096x4096.Idx) :
    Ideal.hostReduceWindowAdd ![1, 1, 4096] ![1, 1, 1] ![0, 0, 0] ![0, 0, 4095] h x 0 j
      = ((tail (f (j 0).val (j 1).val) (j 2).val : ℝ) : EReal) := by
  have h0 : (j 0).val < 4 := (j 0).isLt
  have h1 : (j 1).val < 4096 := (j 1).isLt
  have h2 : (j 2).val < 4096 := (j 2).isLt
  rw [window_last h x j (fun k => if (j 2).val + k < 4096 then f (j 0).val (j 1).val ((j 2).val + k) else 0) fun k => ?_]
  · congr 1
    unfold tail
    rw [← Finset.sum_filter, ← Finset.sum_filter]
    refine Finset.sum_nbij' (fun k => (j 2).val + k) (fun m => m - (j 2).val) ?_ ?_ ?_ ?_ ?_ <;> intro a ha <;>
      simp only [Finset.mem_filter, Finset.mem_range] at ha ⊢ <;> omega
  · unfold padded
    by_cases hk : (j 2).val + k.val < 4096
    · rw [if_pos hk, dif_pos (by
        intro a
        match a with
        | ⟨0, _⟩ => show 0 ≤ (j 0).val * 1 + 0 ∧ (j 0).val * 1 + 0 - 0 < 4; omega
        | ⟨1, _⟩ => show 0 ≤ (j 1).val * 1 + 0 ∧ (j 1).val * 1 + 0 - 0 < 4096; omega
        | ⟨2, _⟩ => show 0 ≤ (j 2).val * 1 + k.val ∧ (j 2).val * 1 + k.val - 0 < 4096; omega), hx]
      refine congrArg (fun r : ℝ => (r : EReal)) ?_
      show f ((j 0).val * 1 + 0 - 0) ((j 1).val * 1 + 0 - 0) ((j 2).val * 1 + k.val - 0) = _
      simp only [Nat.mul_one, Nat.add_zero, Nat.sub_zero]
    · rw [if_neg hk, dif_neg fun hin => hk (by
        have h3 : (j 2).val * 1 + k.val - 0 < 4096 := (hin 2).2
        omega)]
      rfl

/-- The sum over all that comes at or before a position. -/
theorem sum_upto_at (hx : ∀ i, x i = ((f (i 0).val (i 1).val (i 2).val : ℝ) : EReal))
    (h : S4x4096x4096.ReduceWindows ![1, 1, 4096] ![1, 1, 1] ![0, 0, 4095] ![0, 0, 0] S4x4096x4096) (j : S4x4096x4096.Idx) :
    Ideal.hostReduceWindowAdd ![1, 1, 4096] ![1, 1, 1] ![0, 0, 4095] ![0, 0, 0] h x 0 j
      = ((∑ m ∈ range ((j 2).val + 1), f (j 0).val (j 1).val m : ℝ) : EReal) := by
  have h0 : (j 0).val < 4 := (j 0).isLt
  have h1 : (j 1).val < 4096 := (j 1).isLt
  have h2 : (j 2).val < 4096 := (j 2).isLt
  rw [window_last h x j (fun k => if 4095 ≤ (j 2).val + k then f (j 0).val (j 1).val ((j 2).val + k - 4095) else 0) fun k => ?_]
  · congr 1
    rw [← Finset.sum_filter]
    refine Finset.sum_nbij' (fun k => (j 2).val + k - 4095) (fun m => m + 4095 - (j 2).val) ?_ ?_ ?_ ?_ ?_ <;> intro a ha <;>
      simp only [Finset.mem_filter, Finset.mem_range] at ha ⊢ <;> omega
  · unfold padded
    have hk' := k.isLt
    by_cases hk : 4095 ≤ (j 2).val + k.val
    · rw [if_pos hk, dif_pos (by
        intro a
        match a with
        | ⟨0, _⟩ => show 0 ≤ (j 0).val * 1 + 0 ∧ (j 0).val * 1 + 0 - 0 < 4; omega
        | ⟨1, _⟩ => show 0 ≤ (j 1).val * 1 + 0 ∧ (j 1).val * 1 + 0 - 0 < 4096; omega
        | ⟨2, _⟩ => show 4095 ≤ (j 2).val * 1 + k.val ∧ (j 2).val * 1 + k.val - 4095 < 4096; omega), hx]
      refine congrArg (fun r : ℝ => (r : EReal)) ?_
      show f ((j 0).val * 1 + 0 - 0) ((j 1).val * 1 + 0 - 0) ((j 2).val * 1 + k.val - 4095) = _
      simp only [Nat.mul_one, Nat.add_zero, Nat.sub_zero]
    · rw [if_neg hk, dif_neg fun hin => hk (by
        have h3 : 4095 ≤ (j 2).val * 1 + k.val := (hin 2).1
        omega)]
      rfl

end Cert.ReferenceIdeal.Sb

end
-- ==== Proof.RefReal.lean ====
/- What the reference computes, over the reals: its operations one after another, each at an index. -/
module

public import proofs.«01_k».proof.Proof.Gen.ReferenceIdeal.Read
public import proofs.«01_k».proof.Proof.Cumsum
public import proofs.«01_k».proof.Proof.Masks

@[expose] public section

set_option maxRecDepth 16384

noncomputable section

namespace Cert.ReferenceIdeal.Sb

open Idealize.ShloMosaic
open Cert.ReferenceIdeal Cert.ReferenceIdeal.Read Cert.Stick
open Cert.KernelIdeal.Sb (Re coe_dot coe_sum coe_max coe_min coe_abs log_coe_pos eighth toInt_small ofBool_decide)
open Finset (range)

/-- The array `v` holds the real number `f a b c` at index `a`, `b`, `c`. -/
def Re3 {A B C : ℕ} {φ : FTy} (v : FVec Ideal ⟨3, ![A, B, C]⟩ φ) (f : ℕ → ℕ → ℕ → ℝ) : Prop :=
  ∀ i, (v i : EReal) = ((f (i 0).val (i 1).val (i 2).val : ℝ) : EReal)

/-! ### The scalar functions -/

theorem lbR_neg (x : ℝ) : lbR (-x) = lbR x - x := by
  unfold lbR
  rw [abs_neg]
  rcases le_total x 0 with h | h
  · rw [min_eq_left h, min_eq_right (by linarith)]; ring
  · rw [min_eq_right h, min_eq_left (by linarith)]; ring

/-- The logistic function at `x` and at `-x` add up to one. -/
theorem exp_lbR_neg (x : ℝ) : Real.exp (lbR (-x)) = 1 - Real.exp (lbR x) := by
  have hl : ∀ y : ℝ, 0 < 1 + Real.exp y := fun y => by positivity
  rw [lbR_neg]
  unfold lbR
  rcases le_total x 0 with h | h
  · rw [min_eq_left h, abs_of_nonpos h, show x - Real.log (1 + Real.exp (0 - -x)) - x = -Real.log (1 + Real.exp x) by rw [zero_sub, neg_neg]; ring,
      zero_sub, neg_neg, Real.exp_sub, Real.exp_neg, Real.exp_log (hl x)]
    have := (hl x).ne'
    field_simp
    ring
  · rw [min_eq_right h, abs_of_nonneg h, zero_sub, zero_sub, Real.exp_sub, Real.exp_neg (Real.log _), Real.exp_log (hl _), Real.exp_neg]
    have h2 := (Real.exp_pos x).ne'
    have h3 : 1 + Real.exp x ≠ 0 := (hl x).ne'
    field_simp
    ring

theorem zero_f32 : (FloatOps.ofBits .f32 0x00000000#32 : Ideal .f32) = ((0 : ℝ) : EReal) := Ideal.ofBits_zero_f32
theorem top_f32 : (FloatOps.ofBits .f32 0x7F800000#32 : Ideal .f32) = (⊤ : EReal) := by
  show Ideal.ofBits .f32 0x7F800000#32 = ⊤
  simp [Ideal.ofBits, Ideal.ieee]
theorem eighth_f32 : (FloatOps.ofBits .f32 0x3E000000#32 : Ideal .f32) = ((1 / 8 : ℝ) : EReal) := eighth

/-- The reference's softplus. -/
theorem softplus_at (z c : Ideal .f32) (x : ℝ) (hz : z = ((x : ℝ) : EReal)) (hc : c = ((0 : ℝ) : EReal)) :
    Scalar.select (FloatOps.cmpf .une (FloatOps.subf z c) (FloatOps.subf z c)) (FloatOps.addf z c)
      (FloatOps.addf (FloatOps.maximumf z c) (FloatOps.hostUnary .log1p (FloatOps.hostUnary .exp (FloatOps.hostNegf (FloatOps.hostAbsf (FloatOps.subf z c))))))
      = ((-lbR (-x) : ℝ) : EReal) := by
  subst hz hc
  have e : FloatOps.cmpf (F := Ideal) (φ := .f32) .une (FloatOps.subf (F := Ideal) (φ := .f32) ((x : ℝ) : EReal) ((0 : ℝ) : EReal))
      (FloatOps.subf (F := Ideal) (φ := .f32) ((x : ℝ) : EReal) ((0 : ℝ) : EReal)) = 0#1 := by
    show Ideal.cmp .une _ _ = _
    simp [Ideal.cmp]
  rw [e]
  show max ((x : ℝ) : EReal) ((0 : ℝ) : EReal) + Ideal.log (1 + Ideal.exp (-(max (((x : ℝ) : EReal) - ((0 : ℝ) : EReal)) (-(((x : ℝ) : EReal) - ((0 : ℝ) : EReal)))))) = _
  have h1 : (1 : EReal) = ((1 : ℝ) : EReal) := rfl
  rw [← EReal.coe_sub, sub_zero, coe_abs, ← EReal.coe_neg, Ideal.exp_coe, h1, ← EReal.coe_add, log_coe_pos (by positivity), coe_max, ← EReal.coe_add]
  congr 1
  unfold lbR
  have hm : min (-x) 0 = -max x 0 := by
    rcases le_total x 0 with h | h
    · rw [max_eq_right h, min_eq_right (by linarith), neg_zero]
    · rw [max_eq_left h, min_eq_left (by linarith)]
  rw [abs_neg, zero_sub, hm]
  ring

theorem Select (P : Prop) [Decidable P] {α : Type} (x y : α) : Scalar.select (if P then 1#1 else 0#1) x y = if P then x else y := by
  by_cases h : P
  · rw [if_pos h, if_pos h]; rfl
  · rw [if_neg h, if_neg h]; rfl

/-- A select on being infinite does nothing to a real number. -/
theorem select_finite (x : ℝ) (t y : Ideal .f32) (ht : t = (⊤ : EReal)) :
    Scalar.select (FloatOps.cmpf (F := Ideal) (φ := .f32) .oeq ((x : ℝ) : EReal) t) y ((x : ℝ) : EReal) = ((x : ℝ) : EReal) := by
  subst ht
  have e : FloatOps.cmpf (F := Ideal) (φ := .f32) .oeq ((x : ℝ) : EReal) (⊤ : EReal) = 0#1 := by
    show Ideal.cmp .oeq _ _ = _
    simp [Ideal.cmp]
  rw [e]; rfl

/-! ### The operations -/

/-- A head's scores, and the gradient of its weights. -/
def Zr (P : ℕ → ℕ → ℝ) (h q j : ℕ) : ℝ := (∑ d ∈ range 64, P q (2048 + (64 * h + d)) * P j (2304 + (64 * h + d))) * (1 / 8)
def Dr (P D : ℕ → ℕ → ℝ) (h q j : ℕ) : ℝ := ∑ d ∈ range 64, D q (64 * h + d) * P j (2560 + (64 * h + d))

section Values
variable {x0 : FVec Ideal S4096x3072 .bf16} {x1 : FVec Ideal S4096x256 .f32} {P D : ℕ → ℕ → ℝ}
variable (hP : Re (R := 4096) (C := 3072) x0 P) (hD : Re (R := 4096) (C := 256) x1 D)

theorem idx2_eq {R C : ℕ} (j : (⟨2, ![R, C]⟩ : Shape).Idx) {a : Fin R} {b : Fin C} (h0 : (j 0).val = a.val) (h1 : (j 1).val = b.val) :
    j = Idealize.ShloMosaic.ix2 a b := by
  rw [Idealize.ShloMosaic.eq_ix2 j]
  congr 1
  · exact Fin.ext h0
  · exact Fin.ext h1

include hP in
theorem re_q : Re3 (A := 4096) (B := 4) (C := 64) (φ := .bf16) (val_main_v1 (F := Ideal) x0) (fun n h d => P n (2048 + (64 * h + d))) := fun i => by
  have h0 : (i 0).val < 4096 := (i 0).isLt
  have h1 : (i 1).val < 4 := (i 1).isLt
  have h2 : (i 2).val < 64 := (i 2).isLt
  rw [val_main_v1_apply, val_main_v0_apply]
  refine Eq.trans ?_ (hP ⟨(i 0).val, by omega⟩ ⟨2048 + (64 * (i 1).val + (i 2).val), by omega⟩)
  refine congrArg x0 (idx2_eq _ ?_ ?_)
  · show (((i 0).val * 4 + (i 1).val) * 64 + (i 2).val) / 256 = (i 0).val
    omega
  · show 2048 + (((i 0).val * 4 + (i 1).val) * 64 + (i 2).val) % 256 = 2048 + (64 * (i 1).val + (i 2).val)
    omega
include hP in
theorem re_k : Re3 (A := 4096) (B := 4) (C := 64) (φ := .bf16) (val_main_v3 (F := Ideal) x0) (fun n h d => P n (2304 + (64 * h + d))) := fun i => by
  have h0 : (i 0).val < 4096 := (i 0).isLt
  have h1 : (i 1).val < 4 := (i 1).isLt
  have h2 : (i 2).val < 64 := (i 2).isLt
  rw [val_main_v3_apply, val_main_v2_apply]
  refine Eq.trans ?_ (hP ⟨(i 0).val, by omega⟩ ⟨2304 + (64 * (i 1).val + (i 2).val), by omega⟩)
  refine congrArg x0 (idx2_eq _ ?_ ?_)
  · show (((i 0).val * 4 + (i 1).val) * 64 + (i 2).val) / 256 = (i 0).val
    omega
  · show 2304 + (((i 0).val * 4 + (i 1).val) * 64 + (i 2).val) % 256 = 2304 + (64 * (i 1).val + (i 2).val)
    omega
include hP in
theorem re_v : Re3 (A := 4096) (B := 4) (C := 64) (φ := .bf16) (val_main_v5 (F := Ideal) x0) (fun n h d => P n (2560 + (64 * h + d))) := fun i => by
  have h0 : (i 0).val < 4096 := (i 0).isLt
  have h1 : (i 1).val < 4 := (i 1).isLt
  have h2 : (i 2).val < 64 := (i 2).isLt
  rw [val_main_v5_apply, val_main_v4_apply]
  refine Eq.trans ?_ (hP ⟨(i 0).val, by omega⟩ ⟨2560 + (64 * (i 1).val + (i 2).val), by omega⟩)
  refine congrArg x0 (idx2_eq _ ?_ ?_)
  · show (((i 0).val * 4 + (i 1).val) * 64 + (i 2).val) / 256 = (i 0).val
    omega
  · show 2560 + (((i 0).val * 4 + (i 1).val) * 64 + (i 2).val) % 256 = 2560 + (64 * (i 1).val + (i 2).val)
    omega

include hP in
theorem re_scores : Re3 (A := 4) (B := 4096) (C := 4096) (φ := .f32) (val_main_v9 (F := Ideal) x0) (Zr P) := fun i => by
  rw [val_main_v9_apply, val_main_v7_apply, val_main_v8_apply, val_main_cst_apply, eighth_f32,
    coe_dot (f := fun d => P (i 1).val (2048 + (64 * (i 0).val + d))) (g := fun d => P (i 2).val (2304 + (64 * (i 0).val + d)))
      (fun d => re_q hP (lidx_main_v7 i d)) (fun d => re_k hP (ridx_main_v7 i d))]
  exact (EReal.coe_mul _ _).symm

/-- A key is visible to the queries after it. -/
theorem visible (i : S4096x4096.Idx) : val_main_v14 (F := Ideal) i = if (i 1).val < (i 0).val then 1#1 else 0#1 := by
  have h0 : (i 0).val < 4096 := (i 0).isLt
  have h1 : (i 1).val < 4096 := (i 1).isLt
  rw [val_main_v14_apply, val_main_v12_apply, val_main_v10_apply, val_main_v6_apply, val_main_v13_apply, val_main_v11_apply, val_main_v6_apply]
  show IntOp.cmpi .slt (BitVec.ofNat 32 (i 1).val) (BitVec.ofNat 32 (i 0).val) = _
  simp only [IntOp.cmpi, BitVec.slt, toInt_small (show (i 1).val < 2 ^ 31 by omega), toInt_small (show (i 0).val < 2 ^ 31 by omega), Nat.cast_lt, ofBool_decide]

theorem visible17 (i : S4x4096x4096.Idx) : val_main_v17_1 (F := Ideal) i = if (i 2).val < (i 1).val then 1#1 else 0#1 := by
  rw [val_main_v17_1_apply]; exact visible _
theorem visible23 (i : S4x4096x4096.Idx) : val_main_v23_1 (F := Ideal) i = if (i 2).val < (i 1).val then 1#1 else 0#1 := by
  rw [val_main_v23_1_apply]; exact visible _

theorem coe_neg_eq (a b : ℝ) (h : a = -b) : ((a : ℝ) : EReal) = -((b : ℝ) : EReal) := by rw [h, EReal.coe_neg]

include hP in
theorem re_soft0_arg : Re3 (A := 4) (B := 4096) (C := 4096) (φ := .f32) (val_main_call0_v0 (F := Ideal) x0) (Zr P) := fun i => by
  rw [val_main_call0_v0_apply, val_main_v15_apply, re_scores hP i]
  exact neg_neg (((Zr P (i 0).val (i 1).val (i 2).val : ℝ) : EReal))
include hP in
theorem re_soft0 : Re3 (A := 4) (B := 4096) (C := 4096) (φ := .f32) (val_main_call0_v1_0 (F := Ideal) x0) (fun h q j => -lbR (-Zr P h q j)) := fun i =>
  softplus_at (val_main_call0_v0 (F := Ideal) x0 i) _ _ (re_soft0_arg hP i) zero_f32
include hP in
theorem re_soft3_arg : Re3 (A := 4) (B := 4096) (C := 4096) (φ := .f32) (val_main_call3_v0 (F := Ideal) x0) (fun h q j => -Zr P h q j) := fun i => by
  rw [val_main_call3_v0_apply, re_scores hP i]
  exact (EReal.coe_neg _).symm
include hP in
theorem re_soft3 : Re3 (A := 4) (B := 4096) (C := 4096) (φ := .f32) (val_main_call3_v1_0 (F := Ideal) x0) (fun h q j => -lbR (Zr P h q j)) := fun i => by
  have h := softplus_at (val_main_call3_v0 (F := Ideal) x0 i) _ _ (re_soft3_arg hP i) zero_f32
  rw [neg_neg] at h
  exact h

include hP in
theorem re_slope0 : Re3 (A := 4) (B := 4096) (C := 4096) (φ := .f32) (val_main_v16_1 (F := Ideal) x0) (fun h q j => Real.exp (lbR (Zr P h q j))) := fun i => by
  rw [val_main_v16_1_apply, val_main_call0_call0_v21_apply, val_main_call0_call0_v16_apply, val_main_call0_call0_v14_apply, val_main_call0_call0_v20_apply,
    val_main_call0_call0_v18_apply, re_soft0_arg hP i, re_soft0 hP i]
  dsimp only
  rw [select_finite _ (val_main_call0_call0_v13 (F := Ideal) i) _ top_f32, select_finite _ (val_main_call0_call0_v17 (F := Ideal) i) _ top_f32]
  show Ideal.exp (((_ : ℝ) : EReal) - ((_ : ℝ) : EReal)) = _
  rw [← EReal.coe_sub, Ideal.exp_coe, lbR_neg]
  congr 2
  ring
include hP in
theorem re_slope3 : Re3 (A := 4) (B := 4096) (C := 4096) (φ := .f32) (val_main_v20_1 (F := Ideal) x0) (fun h q j => 1 - Real.exp (lbR (Zr P h q j))) := fun i => by
  rw [val_main_v20_1_apply, val_main_call3_call0_v21_apply, val_main_call3_call0_v16_apply, val_main_call3_call0_v14_apply, val_main_call3_call0_v20_apply,
    val_main_call3_call0_v18_apply, re_soft3_arg hP i, re_soft3 hP i]
  dsimp only
  rw [select_finite _ (val_main_call3_call0_v13 (F := Ideal) i) _ top_f32, select_finite _ (val_main_call3_call0_v17 (F := Ideal) i) _ top_f32]
  show Ideal.exp (((_ : ℝ) : EReal) - ((_ : ℝ) : EReal)) = _
  rw [← EReal.coe_sub, Ideal.exp_coe, ← exp_lbR_neg, lbR_neg]
  congr 2
  ring

include hP in
theorem re_stay : Re3 (A := 4) (B := 4096) (C := 4096) (φ := .f32) (val_main_v17_0 (F := Ideal) x0) (fun h q j => LS (Zr P h) q j) := fun i => by
  rw [val_main_v17_0_apply, visible17, Select, val_main_v16_0_apply, re_soft0 hP i]
  dsimp only [LS]
  by_cases hv : (i 2).val < (i 1).val
  · rw [if_pos hv, if_pos hv, ← lbR_neg]
    exact (EReal.coe_neg _).symm.trans (by rw [neg_neg])
  · rw [if_neg hv, if_neg hv]
    exact zero_f32

theorem window_from_zero {s t u : Shape} {window strides lo hi : Fin s.rank → ℕ} (x : FVec Ideal s .f32) (init : u.Idx → Ideal .f32)
    (h : s.ReduceWindows window strides lo hi t) (hu : 0 < u.numel) (h0 : init (Shape.Idx.first hu) = (0 : EReal)) :
    Host.reduceWindowAdd window strides lo hi x init h hu = Ideal.hostReduceWindowAdd window strides lo hi h x 0 := by
  unfold Host.reduceWindowAdd; rw [h0]; rfl

include hP in
theorem re_after (i : S4x4096x4096.Idx) : (val_main_v18 (F := Ideal) x0 i : EReal) = ((tail (LS (Zr P (i 0).val) (i 1).val) (i 2).val : ℝ) : EReal) := by
  have hs := re_stay hP
  unfold val_main_v18
  generalize val_main_v17_0 (F := Ideal) x0 = y at hs ⊢
  rw [window_from_zero y _ _ _ zero_f32]
  exact sum_after (f := fun h q j => LS (Zr P h) q j) hs _ i

include hP in
theorem re_later : Re3 (A := 4) (B := 4096) (C := 4096) (φ := .f32) (val_main_v19 (F := Ideal) x0) (fun h q j => tail (LS (Zr P h) q) (j + 1)) := fun i => by
  have h2 : (i 2).val < 4096 := (i 2).isLt
  rw [val_main_v19_apply, re_after hP i, re_stay hP i, tail_step _ h2]
  refine (EReal.coe_sub _ _).symm.trans (congrArg _ ?_)
  ring

include hP in
theorem re_weight : Re3 (A := 4) (B := 4096) (C := 4096) (φ := .f32) (val_main_v22 (F := Ideal) x0)
    (fun h q j => Real.exp (lbR (Zr P h q j) + tail (LS (Zr P h) q) (j + 1))) := fun i => by
  rw [val_main_v22_apply, val_main_v21_apply, val_main_v20_0_apply, re_later hP i, re_soft3 hP i]
  show Ideal.exp (-((_ : ℝ) : EReal) + ((_ : ℝ) : EReal)) = _
  rw [← EReal.coe_neg, neg_neg, ← EReal.coe_add, Ideal.exp_coe]

include hP in
theorem re_w : Re3 (A := 4) (B := 4096) (C := 4096) (φ := .bf16) (val_main_v24 (F := Ideal) x0) (fun h q j => W (Zr P h) q j) := fun i => by
  rw [val_main_v24_apply]
  show val_main_v23_0 (F := Ideal) x0 i = _
  rw [val_main_v23_0_apply, visible23, Select, re_weight hP i]
  dsimp only [W]
  by_cases hv : (i 2).val < (i 1).val
  · rw [if_pos hv, if_pos hv]
  · rw [if_neg hv, if_neg hv]
    exact zero_f32

/-! ### The gradients -/

include hD in
theorem re_do : Re3 (A := 4) (B := 64) (C := 4096) (φ := .f32) (val_main_v28 (F := Ideal) x1) (fun h d q => D q (64 * h + d)) := fun i => by
  have h0 : (i 0).val < 4 := (i 0).isLt
  have h1 : (i 1).val < 64 := (i 1).isLt
  have h2 : (i 2).val < 4096 := (i 2).isLt
  rw [val_main_v28_apply, val_main_v27_apply]
  refine Eq.trans ?_ (hD ⟨(i 2).val, by omega⟩ ⟨64 * (i 0).val + (i 1).val, by omega⟩)
  refine congrArg x1 (idx2_eq _ ?_ ?_)
  · show (((i 2).val * 4 + (i 0).val) * 64 + (i 1).val) / 256 = (i 2).val
    omega
  · show (((i 2).val * 4 + (i 0).val) * 64 + (i 1).val) % 256 = 64 * (i 0).val + (i 1).val
    omega

include hP hD in
theorem re_dw : Re3 (A := 4) (B := 4096) (C := 4096) (φ := .f32) (val_main_v29 (F := Ideal) x0 x1) (Dr P D) := fun i => by
  rw [val_main_v29_apply]
  exact coe_dot (f := fun d => D (i 1).val (64 * (i 0).val + d)) (g := fun d => P (i 2).val (2560 + (64 * (i 0).val + d)))
    (fun d => re_do hD (lidx_main_v29 i d)) (fun d => re_v hP (ridx_main_v29 i d))

include hP hD in
theorem re_g : Re3 (A := 4) (B := 4096) (C := 4096) (φ := .f32) (val_main_v36 (F := Ideal) x0 x1) (fun h q j => G (Zr P h) (Dr P D h) q j) := fun i => by
  rw [val_main_v36_apply, val_main_v35_apply, visible23, Select, re_weight hP i]
  have e : val_main_v34 (F := Ideal) x0 x1 i = ((Dr P D (i 0).val (i 1).val (i 2).val : ℝ) : EReal) := re_dw hP hD i
  have e0 : val_main_call5_v0 (F := Ideal) i = ((0 : ℝ) : EReal) := zero_f32
  rw [e, e0]
  dsimp only [G, W]
  by_cases hv : (i 2).val < (i 1).val
  · rw [if_pos hv, if_pos hv]
    exact (EReal.coe_mul _ _).symm
  · rw [if_neg hv, if_neg hv, mul_zero]
    exact (EReal.coe_mul _ _).symm.trans (by rw [zero_mul])

include hP hD in
theorem re_gsum (i : S4x4096x4096.Idx) : (val_main_v39 (F := Ideal) x0 x1 i : EReal)
    = ((∑ m ∈ range ((i 2).val + 1), G (Zr P (i 0).val) (Dr P D (i 0).val) (i 1).val m : ℝ) : EReal) := by
  have hs := re_g hP hD
  unfold val_main_v39
  generalize val_main_v36 (F := Ideal) x0 x1 = y at hs ⊢
  rw [window_from_zero y _ _ _ zero_f32]
  exact sum_upto_at (f := fun h q j => G (Zr P h) (Dr P D h) q j) hs _ i

include hP hD in
theorem re_before : Re3 (A := 4) (B := 4096) (C := 4096) (φ := .f32) (val_main_v40 (F := Ideal) x0 x1)
    (fun h q j => ∑ m ∈ range j, G (Zr P h) (Dr P D h) q m) := fun i => by
  rw [val_main_v40_apply, val_main_v38_apply, re_gsum hP hD i, re_g hP hD i, Finset.sum_range_succ]
  show -((_ : ℝ) : EReal) + ((_ : ℝ) : EReal) = _
  rw [← EReal.coe_neg, ← EReal.coe_add]
  congr 1
  ring

include hP hD in
theorem re_dz : Re3 (A := 4) (B := 4096) (C := 4096) (φ := .f32) (val_main_v46 (F := Ideal) x0 x1)
    (fun h q j => DZ (Zr P h) (Dr P D h) q j * (1 / 8)) := fun i => by
  have e0 : val_main_call8_v0 (F := Ideal) i = ((0 : ℝ) : EReal) := zero_f32
  have e8 : val_main_v45 (F := Ideal) i = ((1 / 8 : ℝ) : EReal) := eighth_f32
  rw [val_main_v46_apply, e8, val_main_v44_apply, val_main_v37_apply, val_main_call6_v1_apply, val_main_call6_v0_apply, re_g hP hD i, re_slope3 hP i,
    val_main_v43_apply, val_main_v42_apply, val_main_call9_v1_apply, val_main_call9_v0_apply, val_main_v41_apply, visible17, Select, re_before hP hD i,
    e0, re_slope0 hP i]
  show (-(-((_ : ℝ) : EReal) * ((_ : ℝ) : EReal)) + - -(-(_ : EReal) * ((_ : ℝ) : EReal))) * ((_ : ℝ) : EReal) = _
  dsimp only [DZ]
  by_cases hv : (i 2).val < (i 1).val
  · rw [if_pos hv, if_pos hv]
    simp only [← EReal.coe_neg, ← EReal.coe_mul, ← EReal.coe_add]
    congr 1
    ring
  · rw [if_neg hv, if_neg hv, show G (Zr P (i 0).val) (Dr P D (i 0).val) (i 1).val (i 2).val = 0 by unfold G W; rw [if_neg hv, mul_zero]]
    simp only [← EReal.coe_neg, ← EReal.coe_mul, ← EReal.coe_add]
    congr 1
    ring

/-! ### The results -/

include hP in
theorem re_o : Re3 (A := 4096) (B := 4) (C := 64) (φ := .f32) (val_main_v26 (F := Ideal) x0)
    (fun n h d => ∑ j ∈ range 4096, W (Zr P h) n j * P j (2560 + (64 * h + d))) := fun i => by
  rw [val_main_v26_apply, val_main_v25_apply,
    coe_dot (f := fun j => P j (2560 + (64 * (i 1).val + (i 2).val))) (g := fun j => W (Zr P (i 1).val) (i 0).val j)
      (fun k => re_v hP (lidx_main_v25 (idx_main_v26 i) k)) (fun k => re_w hP (ridx_main_v25 (idx_main_v26 i) k))]
  exact congrArg _ (Finset.sum_congr rfl fun j _ => mul_comm _ _)

include hP hD in
theorem re_dv : Re3 (A := 4096) (B := 4) (C := 64) (φ := .bf16) (val_main_v33 (F := Ideal) x0 x1)
    (fun n h d => ∑ q ∈ range 4096, W (Zr P h) q n * D q (64 * h + d)) := fun i => by
  rw [val_main_v33_apply]
  show val_main_v32 (F := Ideal) x0 x1 i = _
  rw [val_main_v32_apply, val_main_v31_apply,
    coe_dot (f := fun q => D q (64 * (i 1).val + (i 2).val)) (g := fun q => W (Zr P (i 1).val) q (i 0).val)
      (fun k => re_do hD (lidx_main_v31 (idx_main_v32 i) k)) (fun k => re_w hP (ridx_main_v31 (idx_main_v32 i) k))]
  exact congrArg _ (Finset.sum_congr rfl fun j _ => mul_comm _ _)

include hP hD in
theorem re_dk : Re3 (A := 4096) (B := 4) (C := 64) (φ := .bf16) (val_main_v49 (F := Ideal) x0 x1)
    (fun n h d => ∑ q ∈ range 4096, DZ (Zr P h) (Dr P D h) q n * (1 / 8) * P q (2048 + (64 * h + d))) := fun i => by
  rw [val_main_v49_apply]
  show val_main_v48 (F := Ideal) x0 x1 i = _
  rw [val_main_v48_apply, val_main_v47_apply]
  exact coe_dot (f := fun q => DZ (Zr P (i 1).val) (Dr P D (i 1).val) q (i 0).val * (1 / 8)) (g := fun q => P q (2048 + (64 * (i 1).val + (i 2).val)))
    (fun k => re_dz hP hD (lidx_main_v47 (idx_main_v48 i) k)) (fun k => re_q hP (ridx_main_v47 (idx_main_v48 i) k))

include hP hD in
theorem re_dq : Re3 (A := 4096) (B := 4) (C := 64) (φ := .bf16) (val_main_v52 (F := Ideal) x0 x1)
    (fun n h d => ∑ j ∈ range 4096, DZ (Zr P h) (Dr P D h) n j * (1 / 8) * P j (2304 + (64 * h + d))) := fun i => by
  rw [val_main_v52_apply]
  show val_main_v51 (F := Ideal) x0 x1 i = _
  rw [val_main_v51_apply, val_main_v50_apply]
  exact coe_dot (f := fun j => DZ (Zr P (i 1).val) (Dr P D (i 1).val) (i 0).val j * (1 / 8)) (g := fun j => P j (2304 + (64 * (i 1).val + (i 2).val)))
    (fun k => re_dz hP hD (lidx_main_v50 (idx_main_v51 i) k)) (fun k => re_k hP (ridx_main_v50 (idx_main_v51 i) k))

/-- Laying the heads side by side. -/
theorem flatten {φ : FTy} {v : FVec Ideal S4096x4x64 φ} {f : ℕ → ℕ → ℕ → ℝ} (hv : Re3 (A := 4096) (B := 4) (C := 64) v f) (i : S4096x256.Idx) :
    (v (idx_main_v53 i) : EReal) = ((f (i 0).val ((i 1).val / 64) ((i 1).val % 64) : ℝ) : EReal) := by
  have h0 : (i 0).val < 4096 := (i 0).isLt
  have h1 : (i 1).val < 256 := (i 1).isLt
  refine (hv (idx_main_v53 i)).trans (congrArg (fun r : ℝ => (r : EReal)) ?_)
  show f (((i 0).val * 256 + (i 1).val) / 256) (((i 0).val * 256 + (i 1).val) / 64 % 4) (((i 0).val * 256 + (i 1).val) % 64) = _
  rw [show ((i 0).val * 256 + (i 1).val) / 256 = (i 0).val by omega, show ((i 0).val * 256 + (i 1).val) / 64 % 4 = (i 1).val / 64 by omega,
    show ((i 0).val * 256 + (i 1).val) % 64 = (i 1).val % 64 by omega]

include hP in
theorem ref_out (i : S4096x256.Idx) : (val_main_v53 (F := Ideal) x0 i : EReal)
    = ((∑ j ∈ range 4096, W (Zr P ((i 1).val / 64)) (i 0).val j * P j (2560 + (64 * ((i 1).val / 64) + (i 1).val % 64)) : ℝ) : EReal) := by
  rw [val_main_v53_apply]
  exact flatten (re_o hP) i

include hP hD in
theorem ref_dv (i : S4096x256.Idx) : (val_main_v59 (F := Ideal) x0 x1 i : EReal)
    = ((∑ q ∈ range 4096, W (Zr P ((i 1).val / 64)) q (i 0).val * D q (64 * ((i 1).val / 64) + (i 1).val % 64) : ℝ) : EReal) := by
  rw [val_main_v59_apply]
  show (val_main_v58 (F := Ideal) x0 x1 i : EReal) = _
  rw [val_main_v58_apply]
  exact flatten (re_dv hP hD) i

include hP hD in
theorem ref_dk (i : S4096x256.Idx) : (val_main_v57 (F := Ideal) x0 x1 i : EReal)
    = ((∑ q ∈ range 4096, DZ (Zr P ((i 1).val / 64)) (Dr P D ((i 1).val / 64)) q (i 0).val * (1 / 8) * P q (2048 + (64 * ((i 1).val / 64) + (i 1).val % 64)) : ℝ) : EReal) := by
  rw [val_main_v57_apply]
  show (val_main_v56 (F := Ideal) x0 x1 i : EReal) = _
  rw [val_main_v56_apply]
  exact flatten (re_dk hP hD) i

include hP hD in
theorem ref_dq (i : S4096x256.Idx) : (val_main_v55 (F := Ideal) x0 x1 i : EReal)
    = ((∑ j ∈ range 4096, DZ (Zr P ((i 1).val / 64)) (Dr P D ((i 1).val / 64)) (i 0).val j * (1 / 8) * P j (2304 + (64 * ((i 1).val / 64) + (i 1).val % 64)) : ℝ) : EReal) := by
  rw [val_main_v55_apply]
  show (val_main_v54 (F := Ideal) x0 x1 i : EReal) = _
  rw [val_main_v54_apply]
  exact flatten (re_dq hP hD) i

end Values

end Cert.ReferenceIdeal.Sb

end
-- ==== Proof.Equal.lean ====
/- The kernel's arrays are the reference's: two heads lie side by side in a pair's 128 lanes, and the
sums over the blocks of queries are the sums over all the queries. -/
module

public import proofs.«01_k».proof.Proof.RefReal
public import proofs.«01_k».proof.Proof.ArraysFwd
public import proofs.«01_k».proof.Proof.ArraysBwd

@[expose] public section

set_option maxRecDepth 16384

noncomputable section

namespace Cert.ReferenceIdeal.Sb

open Idealize.ShloMosaic
open Cert.ReferenceIdeal Cert.ReferenceIdeal.Read Cert.Stick
open Cert.KernelIdeal.Sb
open Finset (range)

/-! ### The sums -/

/-- A product over a pair's lanes, one operand kept on a single head. -/
theorem head_sum {a : ℕ} (ha : a < 2) (X Y : ℕ → ℝ) :
    ∑ l ∈ range 128, (if l / 64 = a then X l else 0) * Y l = ∑ d ∈ range 64, X (64 * a + d) * Y (64 * a + d) := by
  have hlo : ∀ d ∈ range 64, d / 64 = 0 := fun d h => by have := Finset.mem_range.mp h; omega
  have hhi : ∀ d ∈ range 64, (64 + d) / 64 = 1 := fun d h => by have := Finset.mem_range.mp h; omega
  rw [show (128 : ℕ) = 64 + 64 from rfl, Finset.sum_range_add]
  obtain rfl | rfl : a = 0 ∨ a = 1 := by omega
  · rw [Finset.sum_congr rfl fun d hd => by rw [if_pos (hlo d hd)],
      Finset.sum_eq_zero (s := range 64) (f := fun d => (if (64 + d) / 64 = 0 then X (64 + d) else 0) * Y (64 + d))
        fun d hd => by rw [if_neg (by rw [hhi d hd]; omega), zero_mul], add_zero]
    exact Finset.sum_congr rfl fun d _ => by rw [show 64 * 0 + d = d by omega]
  · rw [Finset.sum_eq_zero (s := range 64) (f := fun d => (if d / 64 = 1 then X d else 0) * Y d)
        fun d hd => by rw [if_neg (by rw [hlo d hd]; omega), zero_mul], zero_add]
    exact Finset.sum_congr rfl fun d hd => by rw [if_pos (hhi d hd)]

/-- Blocks of 512, one after another. -/
theorem block_sum (F : ℕ → ℝ) (n : ℕ) : ∑ b ∈ range n, ∑ k ∈ range 512, F (512 * b + k) = ∑ q ∈ range (512 * n), F q := by
  induction n with
  | zero => simp
  | succ n ih => rw [Finset.sum_range_succ, ih, show 512 * (n + 1) = 512 * n + 512 by ring, Finset.sum_range_add]

/-! ### One pair of heads -/

theorem score_eq (P : ℕ → ℕ → ℝ) {c : ℕ} (hc : c < 256) :
    scoreOf (c % 128 / 64) (pairAt P 2048 (c / 128)) (pairAt P 2304 (c / 128)) = Zr P (c / 64) := by
  funext q j
  unfold scoreOf headLanes Zr pairAt
  rw [head_sum (by omega) (fun l => P q (2048 + 128 * (c / 128) + l) * (1 / 8)) (fun l => P j (2304 + 128 * (c / 128) + l)), Finset.sum_mul]
  refine Finset.sum_congr rfl fun d _ => ?_
  rw [show 2048 + 128 * (c / 128) + (64 * (c % 128 / 64) + d) = 2048 + (64 * (c / 64) + d) by omega,
    show 2304 + 128 * (c / 128) + (64 * (c % 128 / 64) + d) = 2304 + (64 * (c / 64) + d) by omega]
  ring

theorem do_eq (P D : ℕ → ℕ → ℝ) {c : ℕ} (hc : c < 256) :
    dOf (c % 128 / 64) (pairAt D 0 (c / 128)) (pairAt P 2560 (c / 128)) = Dr P D (c / 64) := by
  funext q j
  unfold dOf headLanes Dr pairAt
  rw [head_sum (by omega) (fun l => D q (0 + 128 * (c / 128) + l)) (fun l => P j (2560 + 128 * (c / 128) + l))]
  refine Finset.sum_congr rfl fun d _ => ?_
  rw [show 0 + 128 * (c / 128) + (64 * (c % 128 / 64) + d) = 64 * (c / 64) + d by omega,
    show 2560 + 128 * (c / 128) + (64 * (c % 128 / 64) + d) = 2560 + (64 * (c / 64) + d) by omega]

theorem dz_eq (P D : ℕ → ℕ → ℝ) {c : ℕ} (hc : c < 256) :
    dzOf (c % 128 / 64) (pairAt P 2048 (c / 128)) (pairAt P 2304 (c / 128)) (pairAt P 2560 (c / 128)) (pairAt D 0 (c / 128))
      = DZ (Zr P (c / 64)) (Dr P D (c / 64)) := by
  unfold dzOf
  rw [score_eq P hc, do_eq P D hc]

/-! ### The results -/

theorem outAll_eq (P : ℕ → ℕ → ℝ) (n : ℕ) {c : ℕ} (hc : c < 256) :
    outAll P n c = ∑ j ∈ range 4096, W (Zr P (c / 64)) n j * P j (2560 + (64 * (c / 64) + c % 64)) := by
  unfold outAll outOf
  rw [score_eq P hc]
  refine Finset.sum_congr rfl fun j _ => ?_
  unfold pairAt
  rw [show 2560 + 128 * (c / 128) + c % 128 = 2560 + (64 * (c / 64) + c % 64) by omega]

theorem dqAll_eq (P D : ℕ → ℕ → ℝ) (n : ℕ) {c : ℕ} (hc : c < 256) :
    dqAll P D n c = ∑ j ∈ range 4096, DZ (Zr P (c / 64)) (Dr P D (c / 64)) n j * (1 / 8) * P j (2304 + (64 * (c / 64) + c % 64)) := by
  unfold dqAll dqOf
  rw [dz_eq P D hc, Finset.sum_mul]
  refine Finset.sum_congr rfl fun j _ => ?_
  unfold pairAt
  rw [show 2304 + 128 * (c / 128) + c % 128 = 2304 + (64 * (c / 64) + c % 64) by omega]
  ring

theorem dkAll_eq (P D : ℕ → ℕ → ℝ) (n : ℕ) {c : ℕ} (hc : c < 256) :
    dkAll P D n c = ∑ q ∈ range 4096, DZ (Zr P (c / 64)) (Dr P D (c / 64)) q n * (1 / 8) * P q (2048 + (64 * (c / 64) + c % 64)) := by
  unfold dkAll dkPart
  rw [dz_eq P D hc]
  refine Eq.trans ?_ (block_sum (fun q => DZ (Zr P (c / 64)) (Dr P D (c / 64)) q n * (1 / 8) * P q (2048 + (64 * (c / 64) + c % 64))) 8)
  refine Finset.sum_congr rfl fun b _ => Finset.sum_congr rfl fun k _ => ?_
  unfold pairAt
  rw [show 2048 + 128 * (c / 128) + c % 128 = 2048 + (64 * (c / 64) + c % 64) by omega]
  ring

theorem dvAll_eq (P D : ℕ → ℕ → ℝ) (n : ℕ) {c : ℕ} (hc : c < 256) :
    dvAll P D n c = ∑ q ∈ range 4096, W (Zr P (c / 64)) q n * D q (64 * (c / 64) + c % 64) := by
  unfold dvAll dvPart
  rw [score_eq P hc]
  refine Eq.trans ?_ (block_sum (fun q => W (Zr P (c / 64)) q n * D q (64 * (c / 64) + c % 64)) 8)
  refine Finset.sum_congr rfl fun b _ => Finset.sum_congr rfl fun k _ => ?_
  unfold pairAt
  rw [show 0 + 128 * (c / 128) + c % 128 = 64 * (c / 64) + c % 64 by omega]

section Values
variable {x0 : FVec Ideal S4096x3072 .bf16} {x1 : FVec Ideal S4096x256 .f32} {P D : ℕ → ℕ → ℝ}
variable (hP : Re (R := 4096) (C := 3072) x0 P) (hD : Re (R := 4096) (C := 256) x1 D)

include hP in
theorem out_eq : (val_main_v53 (F := Ideal) x0 : S4096x256.Idx → EReal) = oArr (outAll P) := funext fun i =>
  (ref_out hP i).trans (congrArg (fun r : ℝ => (r : EReal)) (outAll_eq P (i 0).val (i 1).isLt).symm)

include hP hD in
theorem dq_eq : (val_main_v55 (F := Ideal) x0 x1 : S4096x256.Idx → EReal) = oArr (dqAll P D) := funext fun i =>
  (ref_dq hP hD i).trans (congrArg (fun r : ℝ => (r : EReal)) (dqAll_eq P D (i 0).val (i 1).isLt).symm)

include hP hD in
theorem dk_eq : (val_main_v57 (F := Ideal) x0 x1 : S4096x256.Idx → EReal) = oArr (dkAll P D) := funext fun i =>
  (ref_dk hP hD i).trans (congrArg (fun r : ℝ => (r : EReal)) (dkAll_eq P D (i 0).val (i 1).isLt).symm)

include hP hD in
theorem dv_eq : (val_main_v59 (F := Ideal) x0 x1 : S4096x256.Idx → EReal) = oArr (dvAll P D) := funext fun i =>
  (ref_dv hP hD i).trans (congrArg (fun r : ℝ => (r : EReal)) (dvAll_eq P D (i 0).val (i 1).isLt).symm)

end Values

end Cert.ReferenceIdeal.Sb

end
-- ==== Proof.MlpBody.lean ====
/- What each of the feed-forward layer's six calls writes at one grid point: a product of two blocks, with the
   call's gate applied to it. All over the extended reals, with no assumption on the numbers. -/
module

public import proofs.«01_k».proof.Proof.Gen.MlpIdeal.Frame
public import Idealize.ShloMosaic.Lib.Pointwise
public import Idealize.ShloMosaic.Lib.Pipeline.ValueKit

@[expose] public section

set_option maxRecDepth 16384

noncomputable section

namespace Cert.MlpIdeal.Ffn

open Idealize.ShloMosaic Idealize.ShloMosaic.TcCoe Idealize.ShloMosaic.Tactic
open Cert.MlpIdeal Cert.MlpIdeal.Gen
open Finset (range)

/-- The matrix `v` holds the number `f r c` at row `r`, column `c`. -/
def Holds {R C : ℕ} {φ : FTy} (v : FVec Ideal ⟨2, ![R, C]⟩ φ) (f : ℕ → ℕ → EReal) : Prop :=
  ∀ (r : Fin R) (c : Fin C), (v (ix2 r c) : EReal) = f r c

/-- The stack `v` of matrices holds the number `f z r c` in matrix `z`, row `r`, column `c`. -/
def Holds3 {Z R C : ℕ} {φ : FTy} (v : FVec Ideal ⟨3, ![Z, R, C]⟩ φ) (f : ℕ → ℕ → ℕ → EReal) : Prop :=
  ∀ (z : Fin Z) (r : Fin R) (c : Fin C), (v (ix3 z r c) : EReal) = f z r c

/-- The product of two matrices with `K` numbers to sum over. -/
def mul (K : ℕ) (f g : ℕ → ℕ → EReal) (r c : ℕ) : EReal := ∑ k ∈ range K, f r k * g k c

/-- A matrix transposed. -/
def tr (f : ℕ → ℕ → EReal) (r c : ℕ) : EReal := f c r

/-- The number 2, as the programs write it. -/
def two : EReal := Ideal.ofBits .f32 0x40000000#32

/-- The square of the positive part. -/
def sqRelu (f : ℕ → ℕ → EReal) (r c : ℕ) : EReal := max (f r c) 0 * max (f r c) 0

/-- A gradient times twice the square root of the saved activation. -/
def gated (f u : ℕ → ℕ → EReal) (r c : ℕ) : EReal := f r c * (two * Ideal.sqrt (u r c))

theorem dot_eq {n : ℕ} {x y : Fin n → EReal} {f g : ℕ → EReal} (hx : ∀ k : Fin n, x k = f k) (hy : ∀ k : Fin n, y k = g k) :
    (∑ k : Fin n, x k * y k) = ∑ k ∈ range n, f k * g k := by
  rw [Finset.sum_range]
  exact Finset.sum_congr rfl fun k _ => by rw [hx, hy]

theorem up_dot {x0 : Vec Ideal S1024x1024 .bf16} {x1 : Vec Ideal S1x1024x1024 .bf16} {f : ℕ → ℕ → EReal} {g : ℕ → ℕ → ℕ → EReal}
    (h0 : Holds (φ := .bf16) x0 f) (h1 : Holds3 (φ := .bf16) x1 g) : Holds (k0_pay2 x0 x1) (mul 1024 f (g 0)) := fun r c => by
  pointwise [k0_pay2, k0_pay1]
  exact dot_eq (f := f r) (g := fun k => g 0 k c) (fun k => h0 r k) (fun k => h1 0 k c)

theorem up_gate {x : Vec Ideal S1024x1024 .f32} {f : ℕ → ℕ → EReal} (h : Holds (φ := .f32) x f) :
    Holds (k0_pay4 x) (sqRelu f) := fun r c => by
  pointwise [k0_pay4]
  rw [h r c]; rfl

theorem down_dot {x0 : Vec Ideal S1024x4096 .bf16} {x1 : Vec Ideal S4096x1024 .bf16} {f g : ℕ → ℕ → EReal}
    (h0 : Holds (φ := .bf16) x0 f) (h1 : Holds (φ := .bf16) x1 g) : Holds (k1_pay2 x0 x1) (mul 4096 f g) := fun r c => by
  pointwise [k1_pay2, k1_pay1]
  exact dot_eq (f := f r) (g := fun k => g k c) (fun k => h0 r k) (fun k => h1 k c)

theorem down_dx_dot {x0 x1 : Vec Ideal S1024x1024 .bf16} {f g : ℕ → ℕ → EReal}
    (h0 : Holds (φ := .bf16) x0 f) (h1 : Holds (φ := .bf16) x1 g) : Holds (k2_pay2 x0 x1) (mul 1024 f (tr g)) := fun r c => by
  pointwise [k2_pay2, k2_pay1]
  exact dot_eq (f := f r) (g := fun k => g c k) (fun k => h0 r k) (fun k => h1 c k)

theorem down_dx_gate {x : Vec Ideal S1024x1024 .f32} {y : Vec Ideal S1024x1024 .bf16} {f g : ℕ → ℕ → EReal}
    (hx : Holds (φ := .f32) x f) (hy : Holds (φ := .bf16) y g) : Holds (k2_pay4 x y) (gated f g) := fun r c => by
  pointwise [k2_pay4]
  rw [hx r c, hy r c]; rfl

theorem down_dw_dot {x0 x1 : Vec Ideal S4096x1024 .bf16} {f g : ℕ → ℕ → EReal}
    (h0 : Holds (φ := .bf16) x0 f) (h1 : Holds (φ := .bf16) x1 g) : Holds (k3_pay2 x0 x1) (mul 4096 (tr f) g) := fun r c => by
  pointwise [k3_pay2, k3_pay1]
  exact dot_eq (f := fun k => f k r) (g := fun k => g k c) (fun k => h0 k r) (fun k => h1 k c)

theorem up_dw_dot {x0 x1 : Vec Ideal S4096x1024 .bf16} {f g : ℕ → ℕ → EReal}
    (h0 : Holds (φ := .bf16) x0 f) (h1 : Holds (φ := .bf16) x1 g) : Holds (k5_pay2 x0 x1) (mul 4096 (tr f) g) := fun r c => by
  pointwise [k5_pay2, k5_pay1]
  exact dot_eq (f := fun k => f k r) (g := fun k => g k c) (fun k => h0 k r) (fun k => h1 k c)

theorem up_dw_stack {x : Vec Ideal S1024x1024 .f32} {f : ℕ → ℕ → EReal} (h : Holds (φ := .f32) x f) :
    Holds3 (k5_pay4 x) (fun _ => f) := fun z r c => by
  pointwise [k5_pay4]
  exact h r c

/-- A stack of four matrices side by side as one matrix. -/
def beside (g : ℕ → ℕ → ℕ → EReal) (r c : ℕ) : EReal := g (c / 1024) r (c % 1024)

theorem up_dx_dot {x0 : Vec Ideal S1024x4096 .bf16} {y0 y1 y2 y3 : Vec Ideal S1x1024x1024 .bf16} {f : ℕ → ℕ → EReal} {g : ℕ → ℕ → ℕ → EReal}
    (h0 : Holds (φ := .bf16) x0 f) (e0 : Holds3 (φ := .bf16) y0 (fun _ => g 0)) (e1 : Holds3 (φ := .bf16) y1 (fun _ => g 1))
    (e2 : Holds3 (φ := .bf16) y2 (fun _ => g 2)) (e3 : Holds3 (φ := .bf16) y3 (fun _ => g 3)) :
    Holds (k4_pay2 x0 y0 y1 y2 y3) (mul 4096 f (tr (beside g))) := fun r c => by
  pointwise [k4_pay2, k4_pay1]
  refine dot_eq (f := f r) (g := fun k => beside g c k) (fun k => h0 r k) (fun k => ?_)
  have hk := k.isLt
  unfold beside
  by_cases h : k.val < 1024
  · rw [dif_pos h, e0]
    rw [show k.val / 1024 = 0 by omega, show k.val % 1024 = k.val by omega]
  rw [dif_neg h]
  by_cases h' : k.val - 1024 < 1024
  · rw [dif_pos h', e1]
    rw [show k.val / 1024 = 1 by omega, show k.val % 1024 = k.val - 1024 by omega]
  rw [dif_neg h']
  by_cases h'' : k.val - 1024 - 1024 < 1024
  · rw [dif_pos h'', e2]
    rw [show k.val / 1024 = 2 by omega, show k.val % 1024 = k.val - 1024 - 1024 by omega]
  rw [dif_neg h'', e3]
  rw [show k.val / 1024 = 3 by omega, show k.val % 1024 = k.val - 1024 - 1024 - 1024 by omega]

theorem Holds3.slab {x : Vec Ideal S4x1024x1024 .bf16} {g : ℕ → ℕ → ℕ → EReal} (h : Holds3 (φ := .bf16) x g) (z : Fin 4)
    {off : Fin 3 → ℕ} (inb : ∀ a, off a + S1x1024x1024.size a ≤ S4x1024x1024.size a) (h0 : off 0 = z.val) (h1 : off 1 = 0) (h2 : off 2 = 0) :
    Holds3 (Z := 1) (R := 1024) (C := 1024) (φ := .bf16) (View.ld x (Rect.unit off S1x1024x1024.size inb)) (fun _ => g z.val) := fun w r c => by
  have ew : w = 0 := Subsingleton.elim _ _
  subst ew
  refine Eq.trans ?_ (h z r c)
  refine congrArg x ((eq_ix3 _).trans ?_)
  congr 1
  · refine Fin.ext ?_
    show off 0 + 1 * 0 = z.val
    omega
  · refine Fin.ext ?_
    show off 1 + 1 * r.val = r.val
    omega
  · refine Fin.ext ?_
    show off 2 + 1 * c.val = c.val
    omega

/-! ### What the calls leave in their output blocks -/

theorem up_block (c : Dev nD) (i : grid0.Coords)
    (arg3 : Memref sig .tc .vmem S1024x1024 .bf16) (harg3 : arg3.IsWhole)
    (arg4 : Memref sig .tc .vmem S1x1024x1024 .bf16) (harg4 : arg4.IsWhole)
    (arg5 : Memref sig .tc .vmem S1024x1024 .bf16) (harg5 : arg5.IsWhole)
    (arg6 : Memref sig .tc .vmem S1024x1024 .f32) (harg6 : arg6.IsWhole)
    (hc0 : cond0_0 i) (hc1 : ¬cond0_1 i) (hc2 : cond0_2 i)
    {x0 : Vec Ideal S1024x1024 .bf16}
    {x1 : Vec Ideal S1x1024x1024 .bf16}
    {f : ℕ → ℕ → EReal} {g : ℕ → ℕ → ℕ → EReal} (h0 : Holds (φ := .bf16) x0 f) (h1 : Holds3 (φ := .bf16) x1 g) :
    Holds (R := 1024) (C := 1024) (φ := .bf16) (out0_A_2 c i arg3 harg3 arg4 harg4 arg5 harg5 arg6 harg6 hc0 hc1 hc2 x0 x1) (sqRelu (mul 1024 f (g 0))) := by
  have e : out0_A_2 c i arg3 harg3 arg4 harg4 arg5 harg5 arg6 harg6 hc0 hc1 hc2 x0 x1 = k0_pay4 (k0_pay2 x0 x1) := by frame_out
  rw [e]
  exact up_gate (up_dot h0 h1)

theorem down_block (c : Dev nD) (i : grid1.Coords)
    (arg3 : Memref sig .tc .vmem S1024x4096 .bf16) (harg3 : arg3.IsWhole)
    (arg4 : Memref sig .tc .vmem S4096x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : cond1_0 i) (hc1 : ¬cond1_1 i) (hc2 : cond1_2 i)
    {x0 : Vec Ideal S1024x4096 .bf16}
    {x1 : Vec Ideal S4096x1024 .bf16}
    {f g : ℕ → ℕ → EReal} (h0 : Holds (φ := .bf16) x0 f) (h1 : Holds (φ := .bf16) x1 g) :
    Holds (R := 1024) (C := 1024) (φ := .f32) (out1_A_2 c i arg3 harg3 arg4 harg4 arg5 harg5 arg6 harg6 hc0 hc1 hc2 x0 x1) (mul 4096 f g) := by
  have e : out1_A_2 c i arg3 harg3 arg4 harg4 arg5 harg5 arg6 harg6 hc0 hc1 hc2 x0 x1 = k1_pay2 x0 x1 := by frame_out
  rw [e]
  exact down_dot h0 h1

theorem down_dx_block (c : Dev nD) (i : grid2.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .bf16) (harg6 : arg6.IsWhole)
    (arg7 : Memref sig .tc .vmem S1024x1024 .f32) (harg7 : arg7.IsWhole)
    (hc0 : cond2_0 i) (hc1 : ¬cond2_1 i) (hc2 : cond2_2 i)
    {x0 : Vec Ideal S1024x1024 .bf16}
    {x1 : Vec Ideal S1024x1024 .bf16}
    {x2 : Vec Ideal S1024x1024 .bf16}
    {f g u : ℕ → ℕ → EReal} (h0 : Holds (φ := .bf16) x0 f) (h1 : Holds (φ := .bf16) x1 g) (h2 : Holds (φ := .bf16) x2 u) :
    Holds (R := 1024) (C := 1024) (φ := .bf16) (out2_A_3 c i arg3 harg3 arg4 harg4 arg5 harg5 arg6 harg6 arg7 harg7 hc0 hc1 hc2 x0 x1 x2) (gated (mul 1024 f (tr g)) u) := by
  have e : out2_A_3 c i arg3 harg3 arg4 harg4 arg5 harg5 arg6 harg6 arg7 harg7 hc0 hc1 hc2 x0 x1 x2 = k2_pay4 (k2_pay2 x0 x1) x2 := by frame_out
  rw [e]
  exact down_dx_gate (down_dx_dot h0 h1) h2

theorem down_dw_block (c : Dev nD) (i : grid3.Coords)
    (arg3 : Memref sig .tc .vmem S4096x1024 .bf16) (harg3 : arg3.IsWhole)
    (arg4 : Memref sig .tc .vmem S4096x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : cond3_0 i) (hc1 : ¬cond3_1 i) (hc2 : cond3_2 i)
    {x0 : Vec Ideal S4096x1024 .bf16}
    {x1 : Vec Ideal S4096x1024 .bf16}
    {f g : ℕ → ℕ → EReal} (h0 : Holds (φ := .bf16) x0 f) (h1 : Holds (φ := .bf16) x1 g) :
    Holds (R := 1024) (C := 1024) (φ := .f32) (out3_A_2 c i arg3 harg3 arg4 harg4 arg5 harg5 arg6 harg6 hc0 hc1 hc2 x0 x1) (mul 4096 (tr f) g) := by
  have e : out3_A_2 c i arg3 harg3 arg4 harg4 arg5 harg5 arg6 harg6 hc0 hc1 hc2 x0 x1 = k3_pay2 x0 x1 := by frame_out
  rw [e]
  exact down_dw_dot h0 h1

theorem up_dx_block (c : Dev nD) (i : grid4.Coords)
    (arg3 : Memref sig .tc .vmem S1024x4096 .bf16) (harg3 : arg3.IsWhole)
    (arg4 : Memref sig .tc .vmem S4x1024x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : cond4_0 i) (hc1 : ¬cond4_1 i) (hc2 : cond4_2 i)
    {x0 : Vec Ideal S1024x4096 .bf16}
    {x1 : Vec Ideal S4x1024x1024 .bf16}
    {f : ℕ → ℕ → EReal} {g : ℕ → ℕ → ℕ → EReal} (h0 : Holds (φ := .bf16) x0 f) (h1 : Holds3 (φ := .bf16) x1 g) :
    Holds (R := 1024) (C := 1024) (φ := .f32) (out4_A_2 c i arg3 harg3 arg4 harg4 arg5 harg5 arg6 harg6 hc0 hc1 hc2 x0 x1) (mul 4096 f (tr (beside g))) := by
  have e : out4_A_2 c i arg3 harg3 arg4 harg4 arg5 harg5 arg6 harg6 hc0 hc1 hc2 x0 x1 = k4_pay2 x0 (View.ld x1 (Rect.unit (s := S4x1024x1024) ![0, 0, 0] S1x1024x1024.size inb_S4x1024x1024_S1x1024x1024_0_0_0)) (View.ld x1 (Rect.unit (s := S4x1024x1024) ![1, 0, 0] S1x1024x1024.size inb_S4x1024x1024_S1x1024x1024_1_0_0)) (View.ld x1 (Rect.unit (s := S4x1024x1024) ![2, 0, 0] S1x1024x1024.size inb_S4x1024x1024_S1x1024x1024_2_0_0)) (View.ld x1 (Rect.unit (s := S4x1024x1024) ![3, 0, 0] S1x1024x1024.size inb_S4x1024x1024_S1x1024x1024_3_0_0)) := by frame_out
  rw [e]
  exact up_dx_dot h0 (h1.slab 0 _ rfl rfl rfl) (h1.slab 1 _ rfl rfl rfl) (h1.slab 2 _ rfl rfl rfl) (h1.slab 3 _ rfl rfl rfl)

theorem up_dw_block (c : Dev nD) (i : grid5.Coords)
    (arg3 : Memref sig .tc .vmem S4096x1024 .bf16) (harg3 : arg3.IsWhole)
    (arg4 : Memref sig .tc .vmem S4096x1024 .bf16) (harg4 : arg4.IsWhole)
    (arg5 : Memref sig .tc .vmem S1x1024x1024 .f32) (harg5 : arg5.IsWhole)
    (arg6 : Memref sig .tc .vmem S1024x1024 .f32) (harg6 : arg6.IsWhole)
    (hc0 : cond5_0 i) (hc1 : ¬cond5_1 i) (hc2 : cond5_2 i)
    {x0 : Vec Ideal S4096x1024 .bf16}
    {x1 : Vec Ideal S4096x1024 .bf16}
    {f g : ℕ → ℕ → EReal} (h0 : Holds (φ := .bf16) x0 f) (h1 : Holds (φ := .bf16) x1 g) :
    Holds3 (Z := 1) (R := 1024) (C := 1024) (φ := .f32) (out5_A_2 c i arg3 harg3 arg4 harg4 arg5 harg5 arg6 harg6 hc0 hc1 hc2 x0 x1) (fun _ => mul 4096 (tr f) g) := by
  have e : out5_A_2 c i arg3 harg3 arg4 harg4 arg5 harg5 arg6 harg6 hc0 hc1 hc2 x0 x1 = k5_pay4 (k5_pay2 x0 x1) := by frame_out
  rw [e]
  exact up_dw_stack (up_dw_dot h0 h1)

end Cert.MlpIdeal.Ffn

end
-- ==== Proof.MlpArrays.lean ====
/- What each of the feed-forward layer's six calls leaves in its result array: the whole matrix, put together from
   the blocks of MlpBody.lean. -/
module

public import proofs.«01_k».proof.Proof.MlpBody
public import Idealize.ShloMosaic.Lib.Pipeline.Value

@[expose] public section

set_option maxRecDepth 16384

noncomputable section

namespace Cert.MlpIdeal.Ffn

open Idealize.ShloMosaic Idealize.ShloMosaic.TcCoe Idealize.ShloMosaic.Tactic
open Idealize.ShloMosaic.Pipeline (Dat)
open Cert.MlpIdeal Cert.MlpIdeal.Gen
open Finset (range)

/-- The part of a matrix from row `a` and column `b` on; from row `a` on; from column `b` on. -/
def part (a b : ℕ) (f : ℕ → ℕ → EReal) (r c : ℕ) : EReal := f (a + r) (b + c)
def rows (a : ℕ) (f : ℕ → ℕ → EReal) (r c : ℕ) : EReal := f (a + r) c
def cols (b : ℕ) (f : ℕ → ℕ → EReal) (r c : ℕ) : EReal := f r (b + c)

/-- A matrix of numbers as an array of the machine. -/
def arr {R C : ℕ} (φ : FTy) (f : ℕ → ℕ → EReal) : FVec Ideal ⟨2, ![R, C]⟩ φ := fun j => f (j 0).val (j 1).val
def arr3 {Z R C : ℕ} (φ : FTy) (f : ℕ → ℕ → ℕ → EReal) : FVec Ideal ⟨3, ![Z, R, C]⟩ φ := fun j => f (j 0).val (j 1).val (j 2).val

theorem holds_arr {R C : ℕ} (φ : FTy) (f : ℕ → ℕ → EReal) : Holds (R := R) (C := C) (φ := φ) (arr φ f) f := fun _ _ => rfl
theorem holds_arr3 {Z R C : ℕ} (φ : FTy) (f : ℕ → ℕ → ℕ → EReal) : Holds3 (Z := Z) (R := R) (C := C) (φ := φ) (arr3 φ f) f := fun _ _ _ => rfl

/-- The numbers an array of the machine holds. -/
def ofArr {R C : ℕ} {φ : FTy} (v : FVec Ideal ⟨2, ![R, C]⟩ φ) (r c : ℕ) : EReal := if h : r < R ∧ c < C then v (ix2 ⟨r, h.1⟩ ⟨c, h.2⟩) else 0
theorem holds_ofArr {R C : ℕ} {φ : FTy} (v : FVec Ideal ⟨2, ![R, C]⟩ φ) : Holds v (ofArr v) := fun r c => by
  unfold ofArr; rw [dif_pos ⟨r.isLt, c.isLt⟩]

/-- An index of a matrix, or of a stack of matrices, from its numbers. -/
theorem idx2_eq {R C : ℕ} (j : (⟨2, ![R, C]⟩ : Shape).Idx) {a : Fin R} {b : Fin C} (h0 : (j 0).val = a.val) (h1 : (j 1).val = b.val) :
    j = ix2 a b := by
  rw [eq_ix2 j]
  congr 1
  · exact Fin.ext h0
  · exact Fin.ext h1
theorem idx3_eq {Z R C : ℕ} (j : (⟨3, ![Z, R, C]⟩ : Shape).Idx) {z : Fin Z} {a : Fin R} {b : Fin C} (h0 : (j 0).val = z.val) (h1 : (j 1).val = a.val)
    (h2 : (j 2).val = b.val) : j = ix3 z a b := by
  rw [eq_ix3 j]
  congr 1
  · exact Fin.ext h0
  · exact Fin.ext h1
  · exact Fin.ext h2

variable (V : (c : Dev nD) → (b : Ref sig .tc) → Buf (Elt Ideal) ((c : Thread nD τ).loc b)) (c : Dev nD)

/-! ### `ffn_up` -/

theorem coords0 : ∀ t : Fin grid0.N, ((grid0.coords t 0).val = t.val / 4) ∧ ((grid0.coords t 1).val = t.val % 4) := by decide +kernel
theorem index0_0 : ∀ i : grid0.Coords, cc0_transform_0 i 0 = (i 0).val ∧ cc0_transform_0 i 1 = 0 := by decide +kernel
theorem index0_1 : ∀ i : grid0.Coords, cc0_transform_1 i 0 = (i 1).val ∧ cc0_transform_1 i 1 = 0 ∧ cc0_transform_1 i 2 = 0 := by decide +kernel
theorem index0_2 : ∀ i : grid0.Coords, cc0_transform_2 i 0 = (i 0).val ∧ cc0_transform_2 i 1 = (i 1).val := by decide +kernel

theorem window0_0 {f : ℕ → ℕ → EReal} (h0 : Holds (R := 4096) (C := 1024) (φ := .bf16) (V c main_v0) f) (t : Fin cfg0.N) :
    Holds (R := 1024) (C := 1024) (φ := .bf16) (iblk0 V c 0 t) (rows (1024 * ((grid0.coords t) 0).val) f) := fun r k => by
  have b0 : (grid0.coords t 0).val < 4 := (grid0.coords t 0).isLt
  have b1 : (grid0.coords t 1).val < 4 := (grid0.coords t 1).isLt
  obtain ⟨e0, e1⟩ := index0_0 (grid0.coords t)
  unfold iblk0
  rw [View.read_apply]
  refine Eq.trans ?_ (h0 ⟨1024 * ((grid0.coords t) 0).val + r, by omega⟩ k)
  refine congrArg (V c main_v0) (idx2_eq _ ?_ ?_)
  · show cc0_transform_0 (grid0.coords t) 0 * 1024 + 1 * r.val = 1024 * ((grid0.coords t) 0).val + r.val
    rw [e0]; omega
  · show cc0_transform_0 (grid0.coords t) 1 * 1024 + 1 * k.val = k.val
    rw [e1]; omega

theorem window0_1 {g : ℕ → ℕ → ℕ → EReal} (h1 : Holds3 (Z := 4) (R := 1024) (C := 1024) (φ := .bf16) (V c main_v5) g) (t : Fin cfg0.N) :
    Holds3 (Z := 1) (R := 1024) (C := 1024) (φ := .bf16) (iblk0 V c 1 t) (fun z r k => g (((grid0.coords t) 1).val + z) r k) := fun z r k => by
  have b0 : (grid0.coords t 0).val < 4 := (grid0.coords t 0).isLt
  have b1 : (grid0.coords t 1).val < 4 := (grid0.coords t 1).isLt
  obtain ⟨e0, e1, e2⟩ := index0_1 (grid0.coords t)
  unfold iblk0
  rw [View.read_apply]
  refine Eq.trans ?_ (h1 ⟨((grid0.coords t) 1).val + z, by omega⟩ r k)
  refine congrArg (V c main_v5) (idx3_eq _ ?_ ?_ ?_)
  · show cc0_transform_1 (grid0.coords t) 0 * 1 + 1 * z.val = ((grid0.coords t) 1).val + z.val
    rw [e0]; omega
  · show cc0_transform_1 (grid0.coords t) 1 * 1024 + 1 * r.val = r.val
    rw [e1]; omega
  · show cc0_transform_1 (grid0.coords t) 2 * 1024 + 1 * k.val = k.val
    rw [e2]; omega

theorem flushed0 {f : ℕ → ℕ → EReal} (h0 : Holds (R := 4096) (C := 1024) (φ := .bf16) (V c main_v0) f) {g : ℕ → ℕ → ℕ → EReal} (h1 : Holds3 (Z := 4) (R := 1024) (C := 1024) (φ := .bf16) (V c main_v5) g)
    (t : Fin cfg0.N) (hf : (cfg0.win 2).flush t = true) :
    (dat0 V c).flushed 2 t = ((cfg0.win 2).blk t).view.read (Elt Ideal) (arr .bf16 (sqRelu (mul 1024 f (beside g)))) := by
  obtain ⟨e0, e1⟩ := index0_2 (grid0.coords t)
  show (cfg0.win 2).cut (grid0.coords t) ((dat0 V c).after 2 t) = _
  rw [after0_2]
  funext j
  obtain ⟨r, k, rfl⟩ : ∃ (r : Fin 1024) (k : Fin 1024), j = ix2 r k := ⟨j 0, j 1, eq_ix2 j⟩
  refine (up_block c _ _ _ _ _ _ _ _ _ _ _ _ (window0_0 V c h0 t) (window0_1 V c h1 t) r k).trans ?_
  rw [View.read_apply]
  have i0 : ((((cfg0.win 2).blk t).view.emb (ix2 r k)) 0).val = 1024 * ((grid0.coords t) 0).val + r.val := by
    show cc0_transform_2 (grid0.coords t) 0 * 1024 + 1 * r.val = _
    rw [e0]; omega
  have i1 : ((((cfg0.win 2).blk t).view.emb (ix2 r k)) 1).val = 1024 * ((grid0.coords t) 1).val + k.val := by
    show cc0_transform_2 (grid0.coords t) 1 * 1024 + 1 * k.val = _
    rw [e1]; omega
  show _ = (sqRelu (mul 1024 f (beside g))) ((((cfg0.win 2).blk t).view.emb (ix2 r k)) 0).val ((((cfg0.win 2).blk t).view.emb (ix2 r k)) 1).val
  rw [i0, i1]
  unfold sqRelu mul beside
  rw [show (1024 * ((grid0.coords t) 1).val + k.val) / 1024 = ((grid0.coords t) 1).val by omega, show (1024 * ((grid0.coords t) 1).val + k.val) % 1024 = k.val by omega]
  rfl

theorem final0 {f : ℕ → ℕ → EReal} (h0 : Holds (R := 4096) (C := 1024) (φ := .bf16) (V c main_v0) f) {g : ℕ → ℕ → ℕ → EReal} (h1 : Holds3 (Z := 4) (R := 1024) (C := 1024) (φ := .bf16) (V c main_v5) g) :
    (dat0 V c).arrAt 2 cfg0.N = arr .bf16 (sqRelu (mul 1024 f (beside g))) :=
  (dat0 V c).arrAt_eq_of_cover 2 (arr .bf16 (sqRelu (mul 1024 f (beside g)))) (flushed0 V c h0 h1) fun i => by
    have h0' : (i 0 : Nat) < 4096 := (i 0).isLt
    have h1' : (i 1 : Nat) < 4096 := (i 1).isLt
    have hN : cfg0.N = 16 := N_0
    let t : Fin cfg0.N := ⟨4 * ((i 0 : Nat) / 1024) + (i 1 : Nat) / 1024, by omega⟩
    have ht : t.val = 4 * ((i 0 : Nat) / 1024) + (i 1 : Nat) / 1024 := rfl
    refine ⟨t, flush0_2 t, ?_⟩
    obtain ⟨c0, c1⟩ := coords0 t
    obtain ⟨e0, e1⟩ := index0_2 (grid0.coords t)
    show i ∈ ((View.whole main_v6).slice (win0_2.rect t)).set
    rw [View.set_slice_whole, Rect.mem_set_unit]
    intro a
    match a with
    | ⟨0, _⟩ => show cc0_transform_2 (grid0.coords t) 0 * 1024 ≤ (i 0 : Nat) ∧ (i 0 : Nat) < cc0_transform_2 (grid0.coords t) 0 * 1024 + 1024
                rw [e0, c0]; omega
    | ⟨1, _⟩ => show cc0_transform_2 (grid0.coords t) 1 * 1024 ≤ (i 1 : Nat) ∧ (i 1 : Nat) < cc0_transform_2 (grid0.coords t) 1 * 1024 + 1024
                rw [e1, c1]; omega

/-! ### `ffn_down` -/

theorem coords1 : ∀ t : Fin grid1.N, ((grid1.coords t 0).val = t.val / 1) ∧ ((grid1.coords t 1).val = t.val % 1) := by decide +kernel
theorem index1_0 : ∀ i : grid1.Coords, cc1_transform_0 i 0 = (i 0).val ∧ cc1_transform_0 i 1 = 0 := by decide +kernel
theorem index1_1 : ∀ i : grid1.Coords, cc1_transform_1 i 0 = 0 ∧ cc1_transform_1 i 1 = (i 1).val := by decide +kernel
theorem index1_2 : ∀ i : grid1.Coords, cc1_transform_2 i 0 = (i 0).val ∧ cc1_transform_2 i 1 = (i 1).val := by decide +kernel

theorem window1_0 {f : ℕ → ℕ → EReal} (h0 : Holds (R := 4096) (C := 4096) (φ := .bf16) (V c main_v6) f) (t : Fin cfg1.N) :
    Holds (R := 1024) (C := 4096) (φ := .bf16) (iblk1 V c 0 t) (rows (1024 * ((grid1.coords t) 0).val) f) := fun r k => by
  have b0 : (grid1.coords t 0).val < 4 := (grid1.coords t 0).isLt
  have b1 : (grid1.coords t 1).val < 1 := (grid1.coords t 1).isLt
  obtain ⟨e0, e1⟩ := index1_0 (grid1.coords t)
  unfold iblk1
  rw [View.read_apply]
  refine Eq.trans ?_ (h0 ⟨1024 * ((grid1.coords t) 0).val + r, by omega⟩ k)
  refine congrArg (V c main_v6) (idx2_eq _ ?_ ?_)
  · show cc1_transform_0 (grid1.coords t) 0 * 1024 + 1 * r.val = 1024 * ((grid1.coords t) 0).val + r.val
    rw [e0]; omega
  · show cc1_transform_0 (grid1.coords t) 1 * 4096 + 1 * k.val = k.val
    rw [e1]; omega

theorem window1_1 {g : ℕ → ℕ → EReal} (h1 : Holds (R := 4096) (C := 1024) (φ := .bf16) (V c main_v2) g) (t : Fin cfg1.N) :
    Holds (R := 4096) (C := 1024) (φ := .bf16) (iblk1 V c 1 t) (cols (1024 * ((grid1.coords t) 1).val) g) := fun r k => by
  have b0 : (grid1.coords t 0).val < 4 := (grid1.coords t 0).isLt
  have b1 : (grid1.coords t 1).val < 1 := (grid1.coords t 1).isLt
  obtain ⟨e0, e1⟩ := index1_1 (grid1.coords t)
  unfold iblk1
  rw [View.read_apply]
  refine Eq.trans ?_ (h1 r ⟨1024 * ((grid1.coords t) 1).val + k, by omega⟩)
  refine congrArg (V c main_v2) (idx2_eq _ ?_ ?_)
  · show cc1_transform_1 (grid1.coords t) 0 * 4096 + 1 * r.val = r.val
    rw [e0]; omega
  · show cc1_transform_1 (grid1.coords t) 1 * 1024 + 1 * k.val = 1024 * ((grid1.coords t) 1).val + k.val
    rw [e1]; omega

theorem flushed1 {f : ℕ → ℕ → EReal} (h0 : Holds (R := 4096) (C := 4096) (φ := .bf16) (V c main_v6) f) {g : ℕ → ℕ → EReal} (h1 : Holds (R := 4096) (C := 1024) (φ := .bf16) (V c main_v2) g)
    (t : Fin cfg1.N) (hf : (cfg1.win 2).flush t = true) :
    (dat1 V c).flushed 2 t = ((cfg1.win 2).blk t).view.read (Elt Ideal) (arr .f32 (mul 4096 f g)) := by
  obtain ⟨e0, e1⟩ := index1_2 (grid1.coords t)
  show (cfg1.win 2).cut (grid1.coords t) ((dat1 V c).after 2 t) = _
  rw [after1_2]
  funext j
  obtain ⟨r, k, rfl⟩ : ∃ (r : Fin 1024) (k : Fin 1024), j = ix2 r k := ⟨j 0, j 1, eq_ix2 j⟩
  refine (down_block c _ _ _ _ _ _ _ _ _ _ _ _ (window1_0 V c h0 t) (window1_1 V c h1 t) r k).trans ?_
  rw [View.read_apply]
  have i0 : ((((cfg1.win 2).blk t).view.emb (ix2 r k)) 0).val = 1024 * ((grid1.coords t) 0).val + r.val := by
    show cc1_transform_2 (grid1.coords t) 0 * 1024 + 1 * r.val = _
    rw [e0]; omega
  have i1 : ((((cfg1.win 2).blk t).view.emb (ix2 r k)) 1).val = 1024 * ((grid1.coords t) 1).val + k.val := by
    show cc1_transform_2 (grid1.coords t) 1 * 1024 + 1 * k.val = _
    rw [e1]; omega
  show _ = (mul 4096 f g) ((((cfg1.win 2).blk t).view.emb (ix2 r k)) 0).val ((((cfg1.win 2).blk t).view.emb (ix2 r k)) 1).val
  rw [i0, i1]
  rfl

theorem final1 {f : ℕ → ℕ → EReal} (h0 : Holds (R := 4096) (C := 4096) (φ := .bf16) (V c main_v6) f) {g : ℕ → ℕ → EReal} (h1 : Holds (R := 4096) (C := 1024) (φ := .bf16) (V c main_v2) g) :
    (dat1 V c).arrAt 2 cfg1.N = arr .f32 (mul 4096 f g) :=
  (dat1 V c).arrAt_eq_of_cover 2 (arr .f32 (mul 4096 f g)) (flushed1 V c h0 h1) fun i => by
    have h0' : (i 0 : Nat) < 4096 := (i 0).isLt
    have h1' : (i 1 : Nat) < 1024 := (i 1).isLt
    have hN : cfg1.N = 4 := N_1
    let t : Fin cfg1.N := ⟨1 * ((i 0 : Nat) / 1024) + (i 1 : Nat) / 1024, by omega⟩
    have ht : t.val = 1 * ((i 0 : Nat) / 1024) + (i 1 : Nat) / 1024 := rfl
    refine ⟨t, flush1_2 t, ?_⟩
    obtain ⟨c0, c1⟩ := coords1 t
    obtain ⟨e0, e1⟩ := index1_2 (grid1.coords t)
    show i ∈ ((View.whole main_v7).slice (win1_2.rect t)).set
    rw [View.set_slice_whole, Rect.mem_set_unit]
    intro a
    match a with
    | ⟨0, _⟩ => show cc1_transform_2 (grid1.coords t) 0 * 1024 ≤ (i 0 : Nat) ∧ (i 0 : Nat) < cc1_transform_2 (grid1.coords t) 0 * 1024 + 1024
                rw [e0, c0]; omega
    | ⟨1, _⟩ => show cc1_transform_2 (grid1.coords t) 1 * 1024 ≤ (i 1 : Nat) ∧ (i 1 : Nat) < cc1_transform_2 (grid1.coords t) 1 * 1024 + 1024
                rw [e1, c1]; omega

/-! ### `ffn_down_dx` -/

theorem coords2 : ∀ t : Fin grid2.N, ((grid2.coords t 0).val = t.val / 4) ∧ ((grid2.coords t 1).val = t.val % 4) := by decide +kernel
theorem index2_0 : ∀ i : grid2.Coords, cc2_transform_0 i 0 = (i 0).val ∧ cc2_transform_0 i 1 = 0 := by decide +kernel
theorem index2_1 : ∀ i : grid2.Coords, cc2_transform_1 i 0 = (i 1).val ∧ cc2_transform_1 i 1 = 0 := by decide +kernel
theorem index2_2 : ∀ i : grid2.Coords, cc2_transform_2 i 0 = (i 0).val ∧ cc2_transform_2 i 1 = (i 1).val := by decide +kernel
theorem index2_3 : ∀ i : grid2.Coords, cc2_transform_3 i 0 = (i 0).val ∧ cc2_transform_3 i 1 = (i 1).val := by decide +kernel

theorem window2_0 {f : ℕ → ℕ → EReal} (h0 : Holds (R := 4096) (C := 1024) (φ := .bf16) (V c main_v3) f) (t : Fin cfg2.N) :
    Holds (R := 1024) (C := 1024) (φ := .bf16) (iblk2 V c 0 t) (rows (1024 * ((grid2.coords t) 0).val) f) := fun r k => by
  have b0 : (grid2.coords t 0).val < 4 := (grid2.coords t 0).isLt
  have b1 : (grid2.coords t 1).val < 4 := (grid2.coords t 1).isLt
  obtain ⟨e0, e1⟩ := index2_0 (grid2.coords t)
  unfold iblk2
  rw [View.read_apply]
  refine Eq.trans ?_ (h0 ⟨1024 * ((grid2.coords t) 0).val + r, by omega⟩ k)
  refine congrArg (V c main_v3) (idx2_eq _ ?_ ?_)
  · show cc2_transform_0 (grid2.coords t) 0 * 1024 + 1 * r.val = 1024 * ((grid2.coords t) 0).val + r.val
    rw [e0]; omega
  · show cc2_transform_0 (grid2.coords t) 1 * 1024 + 1 * k.val = k.val
    rw [e1]; omega

theorem window2_1 {g : ℕ → ℕ → EReal} (h1 : Holds (R := 4096) (C := 1024) (φ := .bf16) (V c main_v2) g) (t : Fin cfg2.N) :
    Holds (R := 1024) (C := 1024) (φ := .bf16) (iblk2 V c 1 t) (rows (1024 * ((grid2.coords t) 1).val) g) := fun r k => by
  have b0 : (grid2.coords t 0).val < 4 := (grid2.coords t 0).isLt
  have b1 : (grid2.coords t 1).val < 4 := (grid2.coords t 1).isLt
  obtain ⟨e0, e1⟩ := index2_1 (grid2.coords t)
  unfold iblk2
  rw [View.read_apply]
  refine Eq.trans ?_ (h1 ⟨1024 * ((grid2.coords t) 1).val + r, by omega⟩ k)
  refine congrArg (V c main_v2) (idx2_eq _ ?_ ?_)
  · show cc2_transform_1 (grid2.coords t) 0 * 1024 + 1 * r.val = 1024 * ((grid2.coords t) 1).val + r.val
    rw [e0]; omega
  · show cc2_transform_1 (grid2.coords t) 1 * 1024 + 1 * k.val = k.val
    rw [e1]; omega

theorem window2_2 {u : ℕ → ℕ → EReal} (h2 : Holds (R := 4096) (C := 4096) (φ := .bf16) (V c main_v6) u) (t : Fin cfg2.N) :
    Holds (R := 1024) (C := 1024) (φ := .bf16) (iblk2 V c 2 t) (part (1024 * ((grid2.coords t) 0).val) (1024 * ((grid2.coords t) 1).val) u) := fun r k => by
  have b0 : (grid2.coords t 0).val < 4 := (grid2.coords t 0).isLt
  have b1 : (grid2.coords t 1).val < 4 := (grid2.coords t 1).isLt
  obtain ⟨e0, e1⟩ := index2_2 (grid2.coords t)
  unfold iblk2
  rw [View.read_apply]
  refine Eq.trans ?_ (h2 ⟨1024 * ((grid2.coords t) 0).val + r, by omega⟩ ⟨1024 * ((grid2.coords t) 1).val + k, by omega⟩)
  refine congrArg (V c main_v6) (idx2_eq _ ?_ ?_)
  · show cc2_transform_2 (grid2.coords t) 0 * 1024 + 1 * r.val = 1024 * ((grid2.coords t) 0).val + r.val
    rw [e0]; omega
  · show cc2_transform_2 (grid2.coords t) 1 * 1024 + 1 * k.val = 1024 * ((grid2.coords t) 1).val + k.val
    rw [e1]; omega

theorem flushed2 {f : ℕ → ℕ → EReal} (h0 : Holds (R := 4096) (C := 1024) (φ := .bf16) (V c main_v3) f) {g : ℕ → ℕ → EReal} (h1 : Holds (R := 4096) (C := 1024) (φ := .bf16) (V c main_v2) g) {u : ℕ → ℕ → EReal} (h2 : Holds (R := 4096) (C := 4096) (φ := .bf16) (V c main_v6) u)
    (t : Fin cfg2.N) (hf : (cfg2.win 3).flush t = true) :
    (dat2 V c).flushed 3 t = ((cfg2.win 3).blk t).view.read (Elt Ideal) (arr .bf16 (gated (mul 1024 f (tr g)) u)) := by
  obtain ⟨e0, e1⟩ := index2_3 (grid2.coords t)
  show (cfg2.win 3).cut (grid2.coords t) ((dat2 V c).after 3 t) = _
  rw [after2_3]
  funext j
  obtain ⟨r, k, rfl⟩ : ∃ (r : Fin 1024) (k : Fin 1024), j = ix2 r k := ⟨j 0, j 1, eq_ix2 j⟩
  refine (down_dx_block c _ _ _ _ _ _ _ _ _ _ _ _ _ _ (window2_0 V c h0 t) (window2_1 V c h1 t) (window2_2 V c h2 t) r k).trans ?_
  rw [View.read_apply]
  have i0 : ((((cfg2.win 3).blk t).view.emb (ix2 r k)) 0).val = 1024 * ((grid2.coords t) 0).val + r.val := by
    show cc2_transform_3 (grid2.coords t) 0 * 1024 + 1 * r.val = _
    rw [e0]; omega
  have i1 : ((((cfg2.win 3).blk t).view.emb (ix2 r k)) 1).val = 1024 * ((grid2.coords t) 1).val + k.val := by
    show cc2_transform_3 (grid2.coords t) 1 * 1024 + 1 * k.val = _
    rw [e1]; omega
  show _ = (gated (mul 1024 f (tr g)) u) ((((cfg2.win 3).blk t).view.emb (ix2 r k)) 0).val ((((cfg2.win 3).blk t).view.emb (ix2 r k)) 1).val
  rw [i0, i1]
  rfl

theorem final2 {f : ℕ → ℕ → EReal} (h0 : Holds (R := 4096) (C := 1024) (φ := .bf16) (V c main_v3) f) {g : ℕ → ℕ → EReal} (h1 : Holds (R := 4096) (C := 1024) (φ := .bf16) (V c main_v2) g) {u : ℕ → ℕ → EReal} (h2 : Holds (R := 4096) (C := 4096) (φ := .bf16) (V c main_v6) u) :
    (dat2 V c).arrAt 3 cfg2.N = arr .bf16 (gated (mul 1024 f (tr g)) u) :=
  (dat2 V c).arrAt_eq_of_cover 3 (arr .bf16 (gated (mul 1024 f (tr g)) u)) (flushed2 V c h0 h1 h2) fun i => by
    have h0' : (i 0 : Nat) < 4096 := (i 0).isLt
    have h1' : (i 1 : Nat) < 4096 := (i 1).isLt
    have hN : cfg2.N = 16 := N_2
    let t : Fin cfg2.N := ⟨4 * ((i 0 : Nat) / 1024) + (i 1 : Nat) / 1024, by omega⟩
    have ht : t.val = 4 * ((i 0 : Nat) / 1024) + (i 1 : Nat) / 1024 := rfl
    refine ⟨t, flush2_3 t, ?_⟩
    obtain ⟨c0, c1⟩ := coords2 t
    obtain ⟨e0, e1⟩ := index2_3 (grid2.coords t)
    show i ∈ ((View.whole main_v8).slice (win2_3.rect t)).set
    rw [View.set_slice_whole, Rect.mem_set_unit]
    intro a
    match a with
    | ⟨0, _⟩ => show cc2_transform_3 (grid2.coords t) 0 * 1024 ≤ (i 0 : Nat) ∧ (i 0 : Nat) < cc2_transform_3 (grid2.coords t) 0 * 1024 + 1024
                rw [e0, c0]; omega
    | ⟨1, _⟩ => show cc2_transform_3 (grid2.coords t) 1 * 1024 ≤ (i 1 : Nat) ∧ (i 1 : Nat) < cc2_transform_3 (grid2.coords t) 1 * 1024 + 1024
                rw [e1, c1]; omega

/-! ### `ffn_down_dw` -/

theorem coords3 : ∀ t : Fin grid3.N, ((grid3.coords t 0).val = t.val / 1) ∧ ((grid3.coords t 1).val = t.val % 1) := by decide +kernel
theorem index3_0 : ∀ i : grid3.Coords, cc3_transform_0 i 0 = 0 ∧ cc3_transform_0 i 1 = (i 0).val := by decide +kernel
theorem index3_1 : ∀ i : grid3.Coords, cc3_transform_1 i 0 = 0 ∧ cc3_transform_1 i 1 = (i 1).val := by decide +kernel
theorem index3_2 : ∀ i : grid3.Coords, cc3_transform_2 i 0 = (i 0).val ∧ cc3_transform_2 i 1 = (i 1).val := by decide +kernel

theorem window3_0 {f : ℕ → ℕ → EReal} (h0 : Holds (R := 4096) (C := 4096) (φ := .bf16) (V c main_v6) f) (t : Fin cfg3.N) :
    Holds (R := 4096) (C := 1024) (φ := .bf16) (iblk3 V c 0 t) (cols (1024 * ((grid3.coords t) 0).val) f) := fun r k => by
  have b0 : (grid3.coords t 0).val < 4 := (grid3.coords t 0).isLt
  have b1 : (grid3.coords t 1).val < 1 := (grid3.coords t 1).isLt
  obtain ⟨e0, e1⟩ := index3_0 (grid3.coords t)
  unfold iblk3
  rw [View.read_apply]
  refine Eq.trans ?_ (h0 r ⟨1024 * ((grid3.coords t) 0).val + k, by omega⟩)
  refine congrArg (V c main_v6) (idx2_eq _ ?_ ?_)
  · show cc3_transform_0 (grid3.coords t) 0 * 4096 + 1 * r.val = r.val
    rw [e0]; omega
  · show cc3_transform_0 (grid3.coords t) 1 * 1024 + 1 * k.val = 1024 * ((grid3.coords t) 0).val + k.val
    rw [e1]; omega

theorem window3_1 {g : ℕ → ℕ → EReal} (h1 : Holds (R := 4096) (C := 1024) (φ := .bf16) (V c main_v3) g) (t : Fin cfg3.N) :
    Holds (R := 4096) (C := 1024) (φ := .bf16) (iblk3 V c 1 t) (cols (1024 * ((grid3.coords t) 1).val) g) := fun r k => by
  have b0 : (grid3.coords t 0).val < 4 := (grid3.coords t 0).isLt
  have b1 : (grid3.coords t 1).val < 1 := (grid3.coords t 1).isLt
  obtain ⟨e0, e1⟩ := index3_1 (grid3.coords t)
  unfold iblk3
  rw [View.read_apply]
  refine Eq.trans ?_ (h1 r ⟨1024 * ((grid3.coords t) 1).val + k, by omega⟩)
  refine congrArg (V c main_v3) (idx2_eq _ ?_ ?_)
  · show cc3_transform_1 (grid3.coords t) 0 * 4096 + 1 * r.val = r.val
    rw [e0]; omega
  · show cc3_transform_1 (grid3.coords t) 1 * 1024 + 1 * k.val = 1024 * ((grid3.coords t) 1).val + k.val
    rw [e1]; omega

theorem flushed3 {f : ℕ → ℕ → EReal} (h0 : Holds (R := 4096) (C := 4096) (φ := .bf16) (V c main_v6) f) {g : ℕ → ℕ → EReal} (h1 : Holds (R := 4096) (C := 1024) (φ := .bf16) (V c main_v3) g)
    (t : Fin cfg3.N) (hf : (cfg3.win 2).flush t = true) :
    (dat3 V c).flushed 2 t = ((cfg3.win 2).blk t).view.read (Elt Ideal) (arr .f32 (mul 4096 (tr f) g)) := by
  obtain ⟨e0, e1⟩ := index3_2 (grid3.coords t)
  show (cfg3.win 2).cut (grid3.coords t) ((dat3 V c).after 2 t) = _
  rw [after3_2]
  funext j
  obtain ⟨r, k, rfl⟩ : ∃ (r : Fin 1024) (k : Fin 1024), j = ix2 r k := ⟨j 0, j 1, eq_ix2 j⟩
  refine (down_dw_block c _ _ _ _ _ _ _ _ _ _ _ _ (window3_0 V c h0 t) (window3_1 V c h1 t) r k).trans ?_
  rw [View.read_apply]
  have i0 : ((((cfg3.win 2).blk t).view.emb (ix2 r k)) 0).val = 1024 * ((grid3.coords t) 0).val + r.val := by
    show cc3_transform_2 (grid3.coords t) 0 * 1024 + 1 * r.val = _
    rw [e0]; omega
  have i1 : ((((cfg3.win 2).blk t).view.emb (ix2 r k)) 1).val = 1024 * ((grid3.coords t) 1).val + k.val := by
    show cc3_transform_2 (grid3.coords t) 1 * 1024 + 1 * k.val = _
    rw [e1]; omega
  show _ = (mul 4096 (tr f) g) ((((cfg3.win 2).blk t).view.emb (ix2 r k)) 0).val ((((cfg3.win 2).blk t).view.emb (ix2 r k)) 1).val
  rw [i0, i1]
  rfl

theorem final3 {f : ℕ → ℕ → EReal} (h0 : Holds (R := 4096) (C := 4096) (φ := .bf16) (V c main_v6) f) {g : ℕ → ℕ → EReal} (h1 : Holds (R := 4096) (C := 1024) (φ := .bf16) (V c main_v3) g) :
    (dat3 V c).arrAt 2 cfg3.N = arr .f32 (mul 4096 (tr f) g) :=
  (dat3 V c).arrAt_eq_of_cover 2 (arr .f32 (mul 4096 (tr f) g)) (flushed3 V c h0 h1) fun i => by
    have h0' : (i 0 : Nat) < 4096 := (i 0).isLt
    have h1' : (i 1 : Nat) < 1024 := (i 1).isLt
    have hN : cfg3.N = 4 := N_3
    let t : Fin cfg3.N := ⟨1 * ((i 0 : Nat) / 1024) + (i 1 : Nat) / 1024, by omega⟩
    have ht : t.val = 1 * ((i 0 : Nat) / 1024) + (i 1 : Nat) / 1024 := rfl
    refine ⟨t, flush3_2 t, ?_⟩
    obtain ⟨c0, c1⟩ := coords3 t
    obtain ⟨e0, e1⟩ := index3_2 (grid3.coords t)
    show i ∈ ((View.whole main_v9).slice (win3_2.rect t)).set
    rw [View.set_slice_whole, Rect.mem_set_unit]
    intro a
    match a with
    | ⟨0, _⟩ => show cc3_transform_2 (grid3.coords t) 0 * 1024 ≤ (i 0 : Nat) ∧ (i 0 : Nat) < cc3_transform_2 (grid3.coords t) 0 * 1024 + 1024
                rw [e0, c0]; omega
    | ⟨1, _⟩ => show cc3_transform_2 (grid3.coords t) 1 * 1024 ≤ (i 1 : Nat) ∧ (i 1 : Nat) < cc3_transform_2 (grid3.coords t) 1 * 1024 + 1024
                rw [e1, c1]; omega

/-! ### `ffn_up_dx` -/

theorem coords4 : ∀ t : Fin grid4.N, ((grid4.coords t 0).val = t.val / 1) ∧ ((grid4.coords t 1).val = t.val % 1) := by decide +kernel
theorem index4_0 : ∀ i : grid4.Coords, cc4_transform_0 i 0 = (i 0).val ∧ cc4_transform_0 i 1 = 0 := by decide +kernel
theorem index4_1 : ∀ i : grid4.Coords, cc4_transform_1 i 0 = 0 ∧ cc4_transform_1 i 1 = (i 1).val ∧ cc4_transform_1 i 2 = 0 := by decide +kernel
theorem index4_2 : ∀ i : grid4.Coords, cc4_transform_2 i 0 = (i 0).val ∧ cc4_transform_2 i 1 = (i 1).val := by decide +kernel

theorem window4_0 {f : ℕ → ℕ → EReal} (h0 : Holds (R := 4096) (C := 4096) (φ := .bf16) (V c main_v8) f) (t : Fin cfg4.N) :
    Holds (R := 1024) (C := 4096) (φ := .bf16) (iblk4 V c 0 t) (rows (1024 * ((grid4.coords t) 0).val) f) := fun r k => by
  have b0 : (grid4.coords t 0).val < 4 := (grid4.coords t 0).isLt
  have b1 : (grid4.coords t 1).val < 1 := (grid4.coords t 1).isLt
  obtain ⟨e0, e1⟩ := index4_0 (grid4.coords t)
  unfold iblk4
  rw [View.read_apply]
  refine Eq.trans ?_ (h0 ⟨1024 * ((grid4.coords t) 0).val + r, by omega⟩ k)
  refine congrArg (V c main_v8) (idx2_eq _ ?_ ?_)
  · show cc4_transform_0 (grid4.coords t) 0 * 1024 + 1 * r.val = 1024 * ((grid4.coords t) 0).val + r.val
    rw [e0]; omega
  · show cc4_transform_0 (grid4.coords t) 1 * 4096 + 1 * k.val = k.val
    rw [e1]; omega

theorem window4_1 {g : ℕ → ℕ → ℕ → EReal} (h1 : Holds3 (Z := 4) (R := 1024) (C := 1024) (φ := .bf16) (V c main_v5) g) (t : Fin cfg4.N) :
    Holds3 (Z := 4) (R := 1024) (C := 1024) (φ := .bf16) (iblk4 V c 1 t) (fun z r k => g z (1024 * ((grid4.coords t) 1).val + r) k) := fun z r k => by
  have b0 : (grid4.coords t 0).val < 4 := (grid4.coords t 0).isLt
  have b1 : (grid4.coords t 1).val < 1 := (grid4.coords t 1).isLt
  obtain ⟨e0, e1, e2⟩ := index4_1 (grid4.coords t)
  unfold iblk4
  rw [View.read_apply]
  refine Eq.trans ?_ (h1 z ⟨1024 * ((grid4.coords t) 1).val + r, by omega⟩ k)
  refine congrArg (V c main_v5) (idx3_eq _ ?_ ?_ ?_)
  · show cc4_transform_1 (grid4.coords t) 0 * 4 + 1 * z.val = z.val
    rw [e0]; omega
  · show cc4_transform_1 (grid4.coords t) 1 * 1024 + 1 * r.val = 1024 * ((grid4.coords t) 1).val + r.val
    rw [e1]; omega
  · show cc4_transform_1 (grid4.coords t) 2 * 1024 + 1 * k.val = k.val
    rw [e2]; omega

theorem flushed4 {f : ℕ → ℕ → EReal} (h0 : Holds (R := 4096) (C := 4096) (φ := .bf16) (V c main_v8) f) {g : ℕ → ℕ → ℕ → EReal} (h1 : Holds3 (Z := 4) (R := 1024) (C := 1024) (φ := .bf16) (V c main_v5) g)
    (t : Fin cfg4.N) (hf : (cfg4.win 2).flush t = true) :
    (dat4 V c).flushed 2 t = ((cfg4.win 2).blk t).view.read (Elt Ideal) (arr .f32 (mul 4096 f (tr (beside g)))) := by
  obtain ⟨e0, e1⟩ := index4_2 (grid4.coords t)
  show (cfg4.win 2).cut (grid4.coords t) ((dat4 V c).after 2 t) = _
  rw [after4_2]
  funext j
  obtain ⟨r, k, rfl⟩ : ∃ (r : Fin 1024) (k : Fin 1024), j = ix2 r k := ⟨j 0, j 1, eq_ix2 j⟩
  refine (up_dx_block c _ _ _ _ _ _ _ _ _ _ _ _ (window4_0 V c h0 t) (window4_1 V c h1 t) r k).trans ?_
  rw [View.read_apply]
  have i0 : ((((cfg4.win 2).blk t).view.emb (ix2 r k)) 0).val = 1024 * ((grid4.coords t) 0).val + r.val := by
    show cc4_transform_2 (grid4.coords t) 0 * 1024 + 1 * r.val = _
    rw [e0]; omega
  have i1 : ((((cfg4.win 2).blk t).view.emb (ix2 r k)) 1).val = 1024 * ((grid4.coords t) 1).val + k.val := by
    show cc4_transform_2 (grid4.coords t) 1 * 1024 + 1 * k.val = _
    rw [e1]; omega
  show _ = (mul 4096 f (tr (beside g))) ((((cfg4.win 2).blk t).view.emb (ix2 r k)) 0).val ((((cfg4.win 2).blk t).view.emb (ix2 r k)) 1).val
  rw [i0, i1]
  rfl

theorem final4 {f : ℕ → ℕ → EReal} (h0 : Holds (R := 4096) (C := 4096) (φ := .bf16) (V c main_v8) f) {g : ℕ → ℕ → ℕ → EReal} (h1 : Holds3 (Z := 4) (R := 1024) (C := 1024) (φ := .bf16) (V c main_v5) g) :
    (dat4 V c).arrAt 2 cfg4.N = arr .f32 (mul 4096 f (tr (beside g))) :=
  (dat4 V c).arrAt_eq_of_cover 2 (arr .f32 (mul 4096 f (tr (beside g)))) (flushed4 V c h0 h1) fun i => by
    have h0' : (i 0 : Nat) < 4096 := (i 0).isLt
    have h1' : (i 1 : Nat) < 1024 := (i 1).isLt
    have hN : cfg4.N = 4 := N_4
    let t : Fin cfg4.N := ⟨1 * ((i 0 : Nat) / 1024) + (i 1 : Nat) / 1024, by omega⟩
    have ht : t.val = 1 * ((i 0 : Nat) / 1024) + (i 1 : Nat) / 1024 := rfl
    refine ⟨t, flush4_2 t, ?_⟩
    obtain ⟨c0, c1⟩ := coords4 t
    obtain ⟨e0, e1⟩ := index4_2 (grid4.coords t)
    show i ∈ ((View.whole main_v10).slice (win4_2.rect t)).set
    rw [View.set_slice_whole, Rect.mem_set_unit]
    intro a
    match a with
    | ⟨0, _⟩ => show cc4_transform_2 (grid4.coords t) 0 * 1024 ≤ (i 0 : Nat) ∧ (i 0 : Nat) < cc4_transform_2 (grid4.coords t) 0 * 1024 + 1024
                rw [e0, c0]; omega
    | ⟨1, _⟩ => show cc4_transform_2 (grid4.coords t) 1 * 1024 ≤ (i 1 : Nat) ∧ (i 1 : Nat) < cc4_transform_2 (grid4.coords t) 1 * 1024 + 1024
                rw [e1, c1]; omega

/-! ### `ffn_up_dw` -/

theorem coords5 : ∀ t : Fin grid5.N, ((grid5.coords t 0).val = t.val / 4) ∧ ((grid5.coords t 1).val = t.val % 4) := by decide +kernel
theorem index5_0 : ∀ i : grid5.Coords, cc5_transform_0 i 0 = 0 ∧ cc5_transform_0 i 1 = (i 0).val := by decide +kernel
theorem index5_1 : ∀ i : grid5.Coords, cc5_transform_1 i 0 = 0 ∧ cc5_transform_1 i 1 = (i 1).val := by decide +kernel
theorem index5_2 : ∀ i : grid5.Coords, cc5_transform_2 i 0 = (i 1).val ∧ cc5_transform_2 i 1 = (i 0).val ∧ cc5_transform_2 i 2 = 0 := by decide +kernel

theorem window5_0 {f : ℕ → ℕ → EReal} (h0 : Holds (R := 4096) (C := 1024) (φ := .bf16) (V c main_v0) f) (t : Fin cfg5.N) :
    Holds (R := 4096) (C := 1024) (φ := .bf16) (iblk5 V c 0 t) (cols (1024 * ((grid5.coords t) 0).val) f) := fun r k => by
  have b0 : (grid5.coords t 0).val < 1 := (grid5.coords t 0).isLt
  have b1 : (grid5.coords t 1).val < 4 := (grid5.coords t 1).isLt
  obtain ⟨e0, e1⟩ := index5_0 (grid5.coords t)
  unfold iblk5
  rw [View.read_apply]
  refine Eq.trans ?_ (h0 r ⟨1024 * ((grid5.coords t) 0).val + k, by omega⟩)
  refine congrArg (V c main_v0) (idx2_eq _ ?_ ?_)
  · show cc5_transform_0 (grid5.coords t) 0 * 4096 + 1 * r.val = r.val
    rw [e0]; omega
  · show cc5_transform_0 (grid5.coords t) 1 * 1024 + 1 * k.val = 1024 * ((grid5.coords t) 0).val + k.val
    rw [e1]; omega

theorem window5_1 {g : ℕ → ℕ → EReal} (h1 : Holds (R := 4096) (C := 4096) (φ := .bf16) (V c main_v8) g) (t : Fin cfg5.N) :
    Holds (R := 4096) (C := 1024) (φ := .bf16) (iblk5 V c 1 t) (cols (1024 * ((grid5.coords t) 1).val) g) := fun r k => by
  have b0 : (grid5.coords t 0).val < 1 := (grid5.coords t 0).isLt
  have b1 : (grid5.coords t 1).val < 4 := (grid5.coords t 1).isLt
  obtain ⟨e0, e1⟩ := index5_1 (grid5.coords t)
  unfold iblk5
  rw [View.read_apply]
  refine Eq.trans ?_ (h1 r ⟨1024 * ((grid5.coords t) 1).val + k, by omega⟩)
  refine congrArg (V c main_v8) (idx2_eq _ ?_ ?_)
  · show cc5_transform_1 (grid5.coords t) 0 * 4096 + 1 * r.val = r.val
    rw [e0]; omega
  · show cc5_transform_1 (grid5.coords t) 1 * 1024 + 1 * k.val = 1024 * ((grid5.coords t) 1).val + k.val
    rw [e1]; omega

theorem flushed5 {f : ℕ → ℕ → EReal} (h0 : Holds (R := 4096) (C := 1024) (φ := .bf16) (V c main_v0) f) {g : ℕ → ℕ → EReal} (h1 : Holds (R := 4096) (C := 4096) (φ := .bf16) (V c main_v8) g)
    (t : Fin cfg5.N) (hf : (cfg5.win 2).flush t = true) :
    (dat5 V c).flushed 2 t = ((cfg5.win 2).blk t).view.read (Elt Ideal) (arr3 .f32 (fun z r k => mul 4096 (tr f) g r (1024 * z + k))) := by
  obtain ⟨e0, e1, e2⟩ := index5_2 (grid5.coords t)
  show (cfg5.win 2).cut (grid5.coords t) ((dat5 V c).after 2 t) = _
  rw [after5_2]
  funext j
  obtain ⟨z, r, k, rfl⟩ : ∃ (z : Fin 1) (r : Fin 1024) (k : Fin 1024), j = ix3 z r k := ⟨j 0, j 1, j 2, eq_ix3 j⟩
  have ez : z = 0 := Subsingleton.elim _ _
  subst ez
  refine (up_dw_block c _ _ _ _ _ _ _ _ _ _ _ _ (window5_0 V c h0 t) (window5_1 V c h1 t) 0 r k).trans ?_
  rw [View.read_apply]
  have i0 : ((((cfg5.win 2).blk t).view.emb (ix3 0 r k)) 0).val = ((grid5.coords t) 1).val := by
    show cc5_transform_2 (grid5.coords t) 0 * 1 + 1 * 0 = _
    rw [e0]; omega
  have i1 : ((((cfg5.win 2).blk t).view.emb (ix3 0 r k)) 1).val = 1024 * ((grid5.coords t) 0).val + r.val := by
    show cc5_transform_2 (grid5.coords t) 1 * 1024 + 1 * r.val = _
    rw [e1]; omega
  have i2 : ((((cfg5.win 2).blk t).view.emb (ix3 0 r k)) 2).val = k.val := by
    show cc5_transform_2 (grid5.coords t) 2 * 1024 + 1 * k.val = _
    rw [e2]; omega
  show _ = (fun z r k => mul 4096 (tr f) g r (1024 * z + k)) ((((cfg5.win 2).blk t).view.emb (ix3 0 r k)) 0).val ((((cfg5.win 2).blk t).view.emb (ix3 0 r k)) 1).val ((((cfg5.win 2).blk t).view.emb (ix3 0 r k)) 2).val
  rw [i0, i1, i2]
  rfl

theorem final5 {f : ℕ → ℕ → EReal} (h0 : Holds (R := 4096) (C := 1024) (φ := .bf16) (V c main_v0) f) {g : ℕ → ℕ → EReal} (h1 : Holds (R := 4096) (C := 4096) (φ := .bf16) (V c main_v8) g) :
    (dat5 V c).arrAt 2 cfg5.N = arr3 .f32 (fun z r k => mul 4096 (tr f) g r (1024 * z + k)) :=
  (dat5 V c).arrAt_eq_of_cover 2 (arr3 .f32 (fun z r k => mul 4096 (tr f) g r (1024 * z + k))) (flushed5 V c h0 h1) fun i => by
    have h0' : (i 0 : Nat) < 4 := (i 0).isLt
    have h1' : (i 1 : Nat) < 1024 := (i 1).isLt
    have h2' : (i 2 : Nat) < 1024 := (i 2).isLt
    have hN : cfg5.N = 4 := N_5
    let t : Fin cfg5.N := ⟨4 * ((i 1 : Nat) / 1024) + (i 0 : Nat), by omega⟩
    have ht : t.val = 4 * ((i 1 : Nat) / 1024) + (i 0 : Nat) := rfl
    refine ⟨t, flush5_2 t, ?_⟩
    obtain ⟨c0, c1⟩ := coords5 t
    obtain ⟨e0, e1, e2⟩ := index5_2 (grid5.coords t)
    show i ∈ ((View.whole main_v11).slice (win5_2.rect t)).set
    rw [View.set_slice_whole, Rect.mem_set_unit]
    intro a
    match a with
    | ⟨0, _⟩ => show cc5_transform_2 (grid5.coords t) 0 * 1 ≤ (i 0 : Nat) ∧ (i 0 : Nat) < cc5_transform_2 (grid5.coords t) 0 * 1 + 1
                rw [e0, c1]; omega
    | ⟨1, _⟩ => show cc5_transform_2 (grid5.coords t) 1 * 1024 ≤ (i 1 : Nat) ∧ (i 1 : Nat) < cc5_transform_2 (grid5.coords t) 1 * 1024 + 1024
                rw [e1, c0]; omega
    | ⟨2, _⟩ => show cc5_transform_2 (grid5.coords t) 2 * 1024 ≤ (i 2 : Nat) ∧ (i 2 : Nat) < cc5_transform_2 (grid5.coords t) 2 * 1024 + 1024
                rw [e2]; omega

end Cert.MlpIdeal.Ffn

end
-- ==== Proof.MlpEntry.lean ====
/- The feed-forward layer's host lines: what they hand to the calls, and what they make of the stacked gradient. -/
module

public import proofs.«01_k».proof.Proof.MlpArrays
public import Idealize.ShloMosaic.Lib.StableHlo.Run

@[expose] public section

set_option maxRecDepth 16384

noncomputable section

namespace Cert.MlpIdeal.Ffn

open Idealize.ShloMosaic Idealize.ShloMosaic.TcCoe Idealize.ShloMosaic.Tactic
open Cert.MlpIdeal Cert.MlpIdeal.Gen

/-- Rounding to the narrower format keeps the numbers. -/
theorem Holds.trunc {R C : ℕ} {v : FVec Ideal ⟨2, ![R, C]⟩ .f32} {f : ℕ → ℕ → EReal} (h : Holds v f) (hlt : FTy.bf16.bits < FTy.f32.bits) :
    Holds (truncf .bf16 v hlt) f := fun r c => h r c

/-- The weight's four column blocks as a stack: block `z` holds the columns from `1024 z`. -/
def stack (f : ℕ → ℕ → EReal) (z r c : ℕ) : EReal := f r (1024 * z + c)

theorem beside_stack (f : ℕ → ℕ → EReal) : beside (stack f) = f := by
  funext r c
  show f r (1024 * (c / 1024) + c % 1024) = f r c
  rw [Nat.div_add_mod]

theorem Holds.eq_arr {R C : ℕ} {φ : FTy} {v : FVec Ideal ⟨2, ![R, C]⟩ φ} {f : ℕ → ℕ → EReal} (h : Holds v f) : v = arr φ f := by
  funext j
  rw [eq_ix2 j]
  exact h (j 0) (j 1)

theorem Holds.stack {v : FVec Ideal S1024x4096 .bf16} {f : ℕ → ℕ → EReal} (h : Holds v f) :
    Holds3 (transpose S4x1024x1024 [1, 0, 2] (shapeCast S1024x4x1024 v shapeCasts_S1024x4096_S1024x4x1024) transposes_S1024x4x1024_S4x1024x1024_1_0_2)
      (stack f) := fun z r c => by
  pointwise
  refine (h r _).trans ?_
  show f r (z.val * 1024 + c.val) = f r (1024 * z.val + c.val)
  rw [Nat.mul_comm]

theorem Holds3.unstack {v : FVec Ideal S4x1024x1024 .f32} {f : ℕ → ℕ → ℕ → EReal} (h : Holds3 v f) :
    Holds (shapeCast S1024x4096 (transpose S1024x4x1024 [1, 0, 2] v transposes_S4x1024x1024_S1024x4x1024_1_0_2) shapeCasts_S1024x4x1024_S1024x4096)
      (beside f) := fun r c => by
  pointwise
  exact h _ r _

variable (m : (ℓ : Loc nD τ sig) → Buf (Elt Ideal) ℓ) (ρ : Dev nD → PrngReg) (c : Dev nD)

theorem entry_h : W1 m ρ c (Proc.devRef .tc main_v0) = truncf (F := Ideal) (φ := .f32) .bf16 (m ((c.tc : Thread nD τ).loc main_arg0)) bitsLt_bf16_f32 := by
  show StableHlo.after hostOps0 _ (Proc.devRef .tc main_v0) = _
  after_results
theorem entry_w : W1 m ρ c (Proc.devRef .tc main_v2) = truncf (F := Ideal) (φ := .f32) .bf16 (m ((c.tc : Thread nD τ).loc main_arg2)) bitsLt_bf16_f32 := by
  show StableHlo.after hostOps0 _ (Proc.devRef .tc main_v2) = _
  after_results
theorem entry_df : W1 m ρ c (Proc.devRef .tc main_v3) = truncf (F := Ideal) (φ := .f32) .bf16 (m ((c.tc : Thread nD τ).loc main_arg3)) bitsLt_bf16_f32 := by
  show StableHlo.after hostOps0 _ (Proc.devRef .tc main_v3) = _
  after_results
theorem entry_up : W1 m ρ c (Proc.devRef .tc main_v5)
    = transpose S4x1024x1024 [1, 0, 2] (shapeCast S1024x4x1024 (truncf (F := Ideal) (φ := .f32) .bf16 (m ((c.tc : Thread nD τ).loc main_arg1)) bitsLt_bf16_f32)
        shapeCasts_S1024x4096_S1024x4x1024) transposes_S1024x4x1024_S4x1024x1024_1_0_2 := by
  show StableHlo.after hostOps0 _ (Proc.devRef .tc main_v5) = _
  after_results
  rfl
theorem exit_up : W8 m ρ c (Proc.devRef .tc main_v13)
    = shapeCast S1024x4096 (transpose S1024x4x1024 [1, 0, 2] (W7 m ρ c (Proc.devRef .tc main_v11) : FVec Ideal S4x1024x1024 .f32) transposes_S4x1024x1024_S1024x4x1024_1_0_2)
        shapeCasts_S1024x4x1024_S1024x4096 := by
  show StableHlo.after hostOps6 _ (Proc.devRef .tc main_v13) = _
  after_results
  rfl

end Cert.MlpIdeal.Ffn

end
-- ==== Proof.MlpResult.lean ====
/- The feed-forward layer's run: its six calls leave the output and the gradients of the input and of both weights. -/
module

public import proofs.«01_k».proof.Proof.MlpEntry

@[expose] public section

set_option maxRecDepth 16384

noncomputable section

namespace Cert.MlpIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal Cert.MlpIdeal.Gen

local notation "𝕄" => MT nD τ sig Unit (Elt Ideal) ℕ (UR sig nD τ) ℕ

variable (m : (ℓ : Loc nD τ sig) → Buf (Elt Ideal) ℓ) (ρ : Dev nD → PrngReg)

/-- The arguments hold the numbers `H` (the layer's input), `U` and `W` (the weights up and down) and `D` (the output's gradient). -/
structure Args (c : Dev nD) (H U W D : ℕ → ℕ → EReal) : Prop where
  h : Holds (R := 4096) (C := 1024) (φ := .f32) (m ((c.tc : Thread nD τ).loc main_arg0)) H
  up : Holds (R := 1024) (C := 4096) (φ := .f32) (m ((c.tc : Thread nD τ).loc main_arg1)) U
  down : Holds (R := 4096) (C := 1024) (φ := .f32) (m ((c.tc : Thread nD τ).loc main_arg2)) W
  df : Holds (R := 4096) (C := 1024) (φ := .f32) (m ((c.tc : Thread nD τ).loc main_arg3)) D

/-- The activation `relu(h · up)²`. -/
def act (H U : ℕ → ℕ → EReal) : ℕ → ℕ → EReal := sqRelu (mul 1024 H U)

/-- The gradient at the activation's argument. -/
def dpre (H U W D : ℕ → ℕ → EReal) : ℕ → ℕ → EReal := gated (mul 1024 D (tr W)) (act H U)

section Contents
variable {c : Dev nD} {H U W D : ℕ → ℕ → EReal} (a : Args m c H U W D)
include a

/-! What the host lines hand over. -/
theorem e1_h : Holds (R := 4096) (C := 1024) (φ := .bf16) (V1 m ρ c main_v0) H := by
  rw [show V1 m ρ c main_v0 = _ from entry_h m ρ c]; exact a.h.trunc _
theorem e1_down : Holds (R := 4096) (C := 1024) (φ := .bf16) (V1 m ρ c main_v2) W := by
  rw [show V1 m ρ c main_v2 = _ from entry_w m ρ c]; exact a.down.trunc _
theorem e1_df : Holds (R := 4096) (C := 1024) (φ := .bf16) (V1 m ρ c main_v3) D := by
  rw [show V1 m ρ c main_v3 = _ from entry_df m ρ c]; exact a.df.trunc _
theorem e1_up : Holds3 (Z := 4) (R := 1024) (C := 1024) (φ := .bf16) (V1 m ρ c main_v5) (stack U) := by
  rw [show V1 m ρ c main_v5 = _ from entry_up m ρ c]; exact (a.up.trunc _).stack

/-! What each call finds and leaves. -/
theorem x2_act : (V2 m ρ c main_v6 : FVec Ideal S4096x4096 .bf16) = arr .bf16 (act H U) := by
  have e := (W2_arr m ρ c 2).trans (final0 (V1 m ρ) c (e1_h m ρ a) (e1_up m ρ a))
  rw [beside_stack] at e
  exact e
theorem e2_act : Holds (R := 4096) (C := 4096) (φ := .bf16) (V2 m ρ c main_v6) (act H U) := by
  rw [x2_act m ρ a]; exact holds_arr _ _
theorem e2_down : Holds (R := 4096) (C := 1024) (φ := .bf16) (V2 m ρ c main_v2) W := by
  rw [show V2 m ρ c main_v2 = V1 m ρ c main_v2 from W2_of m ρ c main_v2 (by decide)]; exact e1_down m ρ a
theorem e2_df : Holds (R := 4096) (C := 1024) (φ := .bf16) (V2 m ρ c main_v3) D := by
  rw [show V2 m ρ c main_v3 = V1 m ρ c main_v3 from W2_of m ρ c main_v3 (by decide)]; exact e1_df m ρ a
theorem e2_up : Holds3 (Z := 4) (R := 1024) (C := 1024) (φ := .bf16) (V2 m ρ c main_v5) (stack U) := by
  rw [show V2 m ρ c main_v5 = V1 m ρ c main_v5 from W2_of m ρ c main_v5 (by decide)]; exact e1_up m ρ a
theorem e2_h : Holds (R := 4096) (C := 1024) (φ := .bf16) (V2 m ρ c main_v0) H := by
  rw [show V2 m ρ c main_v0 = V1 m ρ c main_v0 from W2_of m ρ c main_v0 (by decide)]; exact e1_h m ρ a

theorem x3_out : (V3 m ρ c main_v7 : FVec Ideal S4096x1024 .f32) = arr .f32 (mul 4096 (act H U) W) :=
  (W3_arr m ρ c 2).trans (final1 (V2 m ρ) c (e2_act m ρ a) (e2_down m ρ a))
theorem e3_df : Holds (R := 4096) (C := 1024) (φ := .bf16) (V3 m ρ c main_v3) D := by
  rw [show V3 m ρ c main_v3 = V2 m ρ c main_v3 from W3_of m ρ c main_v3 (by decide)]; exact e2_df m ρ a
theorem e3_down : Holds (R := 4096) (C := 1024) (φ := .bf16) (V3 m ρ c main_v2) W := by
  rw [show V3 m ρ c main_v2 = V2 m ρ c main_v2 from W3_of m ρ c main_v2 (by decide)]; exact e2_down m ρ a
theorem e3_act : Holds (R := 4096) (C := 4096) (φ := .bf16) (V3 m ρ c main_v6) (act H U) := by
  rw [show V3 m ρ c main_v6 = V2 m ρ c main_v6 from W3_of m ρ c main_v6 (by decide)]; exact e2_act m ρ a
theorem e3_up : Holds3 (Z := 4) (R := 1024) (C := 1024) (φ := .bf16) (V3 m ρ c main_v5) (stack U) := by
  rw [show V3 m ρ c main_v5 = V2 m ρ c main_v5 from W3_of m ρ c main_v5 (by decide)]; exact e2_up m ρ a
theorem e3_h : Holds (R := 4096) (C := 1024) (φ := .bf16) (V3 m ρ c main_v0) H := by
  rw [show V3 m ρ c main_v0 = V2 m ρ c main_v0 from W3_of m ρ c main_v0 (by decide)]; exact e2_h m ρ a
theorem x4_dpre : (V4 m ρ c main_v8 : FVec Ideal S4096x4096 .bf16) = arr .bf16 (dpre H U W D) :=
  (W4_arr m ρ c 3).trans (final2 (V3 m ρ) c (e3_df m ρ a) (e3_down m ρ a) (e3_act m ρ a))
theorem e4_dpre : Holds (R := 4096) (C := 4096) (φ := .bf16) (V4 m ρ c main_v8) (dpre H U W D) := by
  rw [x4_dpre m ρ a]; exact holds_arr _ _
theorem e4_act : Holds (R := 4096) (C := 4096) (φ := .bf16) (V4 m ρ c main_v6) (act H U) := by
  rw [show V4 m ρ c main_v6 = V3 m ρ c main_v6 from W4_of m ρ c main_v6 (by decide)]; exact e3_act m ρ a
theorem e4_df : Holds (R := 4096) (C := 1024) (φ := .bf16) (V4 m ρ c main_v3) D := by
  rw [show V4 m ρ c main_v3 = V3 m ρ c main_v3 from W4_of m ρ c main_v3 (by decide)]; exact e3_df m ρ a
theorem e4_up : Holds3 (Z := 4) (R := 1024) (C := 1024) (φ := .bf16) (V4 m ρ c main_v5) (stack U) := by
  rw [show V4 m ρ c main_v5 = V3 m ρ c main_v5 from W4_of m ρ c main_v5 (by decide)]; exact e3_up m ρ a
theorem e4_h : Holds (R := 4096) (C := 1024) (φ := .bf16) (V4 m ρ c main_v0) H := by
  rw [show V4 m ρ c main_v0 = V3 m ρ c main_v0 from W4_of m ρ c main_v0 (by decide)]; exact e3_h m ρ a
theorem x5_dw : (V5 m ρ c main_v9 : FVec Ideal S4096x1024 .f32) = arr .f32 (mul 4096 (tr (act H U)) D) :=
  (W5_arr m ρ c 2).trans (final3 (V4 m ρ) c (e4_act m ρ a) (e4_df m ρ a))
theorem e5_dpre : Holds (R := 4096) (C := 4096) (φ := .bf16) (V5 m ρ c main_v8) (dpre H U W D) := by
  rw [show V5 m ρ c main_v8 = V4 m ρ c main_v8 from W5_of m ρ c main_v8 (by decide)]; exact e4_dpre m ρ a
theorem e5_up : Holds3 (Z := 4) (R := 1024) (C := 1024) (φ := .bf16) (V5 m ρ c main_v5) (stack U) := by
  rw [show V5 m ρ c main_v5 = V4 m ρ c main_v5 from W5_of m ρ c main_v5 (by decide)]; exact e4_up m ρ a
theorem e5_h : Holds (R := 4096) (C := 1024) (φ := .bf16) (V5 m ρ c main_v0) H := by
  rw [show V5 m ρ c main_v0 = V4 m ρ c main_v0 from W5_of m ρ c main_v0 (by decide)]; exact e4_h m ρ a
theorem x6_dh : (V6 m ρ c main_v10 : FVec Ideal S4096x1024 .f32) = arr .f32 (mul 4096 (dpre H U W D) (tr U)) := by
  have e := (W6_arr m ρ c 2).trans (final4 (V5 m ρ) c (e5_dpre m ρ a) (e5_up m ρ a))
  rw [beside_stack] at e
  exact e
theorem e6_h : Holds (R := 4096) (C := 1024) (φ := .bf16) (V6 m ρ c main_v0) H := by
  rw [show V6 m ρ c main_v0 = V5 m ρ c main_v0 from W6_of m ρ c main_v0 (by decide)]; exact e5_h m ρ a
theorem e6_dpre : Holds (R := 4096) (C := 4096) (φ := .bf16) (V6 m ρ c main_v8) (dpre H U W D) := by
  rw [show V6 m ρ c main_v8 = V5 m ρ c main_v8 from W6_of m ρ c main_v8 (by decide)]; exact e5_dpre m ρ a
theorem x7_dup : (V7 m ρ c main_v11 : FVec Ideal S4x1024x1024 .f32) = arr3 .f32 (stack (mul 4096 (tr H) (dpre H U W D))) :=
  (W7_arr m ρ c 2).trans (final5 (V6 m ρ) c (e6_h m ρ a) (e6_dpre m ρ a))

/-! The four results. -/
theorem exit_out : (W8 m ρ c (Proc.devRef .tc main_v7) : FVec Ideal S4096x1024 .f32) = arr .f32 (mul 4096 (act H U) W) :=
  (W8_of m ρ c main_v7 (by decide)).trans ((W7_of m ρ c main_v7 (by decide)).trans ((W6_of m ρ c main_v7 (by decide)).trans
    ((W5_of m ρ c main_v7 (by decide)).trans ((W4_of m ρ c main_v7 (by decide)).trans (x3_out m ρ a)))))
theorem exit_dh : (W8 m ρ c (Proc.devRef .tc main_v10) : FVec Ideal S4096x1024 .f32) = arr .f32 (mul 4096 (dpre H U W D) (tr U)) :=
  (W8_of m ρ c main_v10 (by decide)).trans ((W7_of m ρ c main_v10 (by decide)).trans (x6_dh m ρ a))
theorem exit_dw : (W8 m ρ c (Proc.devRef .tc main_v9) : FVec Ideal S4096x1024 .f32) = arr .f32 (mul 4096 (tr (act H U)) D) :=
  (W8_of m ρ c main_v9 (by decide)).trans ((W7_of m ρ c main_v9 (by decide)).trans ((W6_of m ρ c main_v9 (by decide)).trans (x5_dw m ρ a)))
theorem exit_dup : (W8 m ρ c (Proc.devRef .tc main_v13) : FVec Ideal S1024x4096 .f32) = arr .f32 (mul 4096 (tr H) (dpre H U W D)) := by
  have h : Holds3 (Z := 4) (R := 1024) (C := 1024) (φ := .f32) (W7 m ρ c (Proc.devRef .tc main_v11)) (stack (mul 4096 (tr H) (dpre H U W D))) := by
    rw [show W7 m ρ c (Proc.devRef .tc main_v11) = _ from x7_dup m ρ a]; exact holds_arr3 _ _
  have h' := h.unstack
  rw [beside_stack] at h'
  exact (exit_up m ρ c).trans h'.eq_arr

end Contents

set_option backward.isDefEq.respectTransparency.types false in
/-- Every execution ends with the four results and with the arguments as they were. -/
theorem results {H U W D : Dev nD → ℕ → ℕ → EReal} (h : ∀ c, Args m c (H c) (U c) (W c) (D c)) :
    θ_run defs (onTc (τ := τ) (main (F := Ideal))) ⟨m, fun _ => 0, ρ⟩ (fun r => ∀ c : Dev nD,
      r.2.mem ((c.tc : Thread nD τ).loc main_v7) = (arr .f32 (mul 4096 (act (H c) (U c)) (W c)) : Buf (Elt Ideal) ((c.tc : Thread nD τ).loc main_v7))
      ∧ r.2.mem ((c.tc : Thread nD τ).loc main_v10) = (arr .f32 (mul 4096 (dpre (H c) (U c) (W c) (D c)) (tr (U c))) : Buf (Elt Ideal) ((c.tc : Thread nD τ).loc main_v10))
      ∧ r.2.mem ((c.tc : Thread nD τ).loc main_v13) = (arr .f32 (mul 4096 (tr (H c)) (dpre (H c) (U c) (W c) (D c))) : Buf (Elt Ideal) ((c.tc : Thread nD τ).loc main_v13))
      ∧ r.2.mem ((c.tc : Thread nD τ).loc main_v9) = (arr .f32 (mul 4096 (tr (act (H c) (U c))) (D c)) : Buf (Elt Ideal) ((c.tc : Thread nD τ).loc main_v9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s hs hz c =>
      ⟨(hs c _ (mem_uc main_v7 (by decide))).trans (exit_out m ρ (h c)),
       (hs c _ (mem_uc main_v10 (by decide))).trans (exit_dh m ρ (h c)),
       (hs c _ (mem_uc main_v13 (by decide))).trans (exit_dup m ρ (h c)),
       (hs c _ (mem_uc main_v9 (by decide))).trans (exit_dw m ρ (h c)),
       (hs c _ (mem_uc main_arg0 (by decide))).trans (W8_main_arg0 m ρ c),
       (hs c _ (mem_uc main_arg1 (by decide))).trans (W8_main_arg1 m ρ c),
       (hs c _ (mem_uc main_arg2 (by decide))).trans (W8_main_arg2 m ρ c),
       (hs c _ (mem_uc main_arg3 (by decide))).trans (W8_main_arg3 m ρ c)⟩)

end Cert.MlpIdeal.Ffn

end
-- ==== Proof.MlpRef.lean ====
/- What the feed-forward layer's reference computes, and that it is what the six calls leave. -/
module

public import proofs.«01_k».proof.Proof.MlpResult
public import proofs.«01_k».proof.Proof.Gen.MlpReferenceIdeal.Read

@[expose] public section

set_option maxRecDepth 16384

noncomputable section

namespace Cert.MlpReferenceIdeal.Ffn

open Idealize.ShloMosaic Idealize.ShloMosaic.TcCoe Idealize.ShloMosaic.Tactic
open Cert.MlpReferenceIdeal Cert.MlpReferenceIdeal.Gen Cert.MlpReferenceIdeal.Read
open Cert.MlpIdeal.Ffn (Holds mul tr sqRelu gated two act dpre arr dot_eq idx2_eq)

/-! ### Facts on the extended reals -/

theorem sqrt_sq_of_nonneg {x : EReal} (h : 0 ≤ x) : Ideal.sqrt (x * x) = x := by
  induction x using EReal.rec with
  | bot => exact absurd h (by simp)
  | top => rw [EReal.top_mul_top, Ideal.sqrt_top]
  | coe r =>
    have hr : 0 ≤ r := EReal.coe_nonneg.mp h
    rw [← EReal.coe_mul, Ideal.sqrt_coe, if_neg (not_lt.mpr (mul_nonneg hr hr)), Real.sqrt_mul_self hr]

/-- The derivative of the squared positive part: the kernel takes it from the saved square, the reference from the argument's sign. -/
theorem gate_eq (x p : EReal) : x * (two * Ideal.sqrt (max p 0 * max p 0)) = if 0 < p then x * (two * max p 0) else 0 := by
  rw [sqrt_sq_of_nonneg (le_max_right p 0)]
  by_cases h : 0 < p
  · rw [if_pos h]
  · rw [if_neg h, max_eq_right (not_lt.mp h), mul_zero, mul_zero]

/-- A choice by the sign of a number. -/
theorem select_pos (p y : EReal) : Scalar.select (Ideal.cmp .ogt p 0) y 0 = if 0 < p then y else 0 := by
  by_cases h : 0 < p
  · have e : Ideal.cmp .ogt p 0 = 1#1 := by unfold Ideal.cmp; simp [h]
    rw [e, if_pos h]; rfl
  · have e : Ideal.cmp .ogt p 0 = 0#1 := by unfold Ideal.cmp; simp [h]
    rw [e, if_neg h]; rfl

variable {x0 : (⟨S4096x1024, .f32⟩ : BufTy).Contents (Elt Ideal)} {x1 : (⟨S1024x4096, .f32⟩ : BufTy).Contents (Elt Ideal)}
  {x2 x3 : (⟨S4096x1024, .f32⟩ : BufTy).Contents (Elt Ideal)} {H U W D : ℕ → ℕ → EReal}
  (h0 : Holds (R := 4096) (C := 1024) (φ := .f32) x0 H) (h1 : Holds (R := 1024) (C := 4096) (φ := .f32) x1 U)
  (h2 : Holds (R := 4096) (C := 1024) (φ := .f32) x2 W) (h3 : Holds (R := 4096) (C := 1024) (φ := .f32) x3 D)

/-- The zero and the two of the reference, broadcast. -/
theorem zero_v2 (i : S4096x4096.Idx) : val_main_v2 (F := Ideal) i = (0 : EReal) := by
  rw [val_main_v2_apply, val_main_cst_apply]; exact Ideal.ofBits_zero_f32
theorem zero_v13 (i : S4096x4096.Idx) : val_main_v13 (F := Ideal) i = (0 : EReal) := by
  rw [val_main_v13_apply, val_main_cst_2_apply]; exact Ideal.ofBits_zero_f32
theorem zero_relu (i : S4096x4096.Idx) : val_main_call0_v0 (F := Ideal) i = (0 : EReal) := by
  rw [val_main_call0_v0_apply, val_main_call0_cst_apply]; exact Ideal.ofBits_zero_f32
theorem two_v6 (i : S4096x4096.Idx) : val_main_v6 (F := Ideal) i = two := by
  rw [val_main_v6_apply, val_main_cst_1_apply]; rfl

include h0 h1 in
theorem holds_pre : Holds (R := 4096) (C := 4096) (φ := .f32) (val_main_v0 (F := Ideal) x0 x1) (mul 1024 H U) := fun r c => by
  rw [val_main_v0_apply]
  exact dot_eq (f := H r) (g := fun k => U k c) (fun k => (congrArg x0 (idx2_eq _ rfl rfl)).trans (h0 r k))
    (fun k => (congrArg x1 (idx2_eq _ rfl rfl)).trans (h1 k c))

include h0 h1 in
theorem holds_relu : Holds (R := 4096) (C := 4096) (φ := .f32) (val_main_v1 (F := Ideal) x0 x1) (fun r c => max (mul 1024 H U r c) 0) := fun r c => by
  rw [val_main_v1_apply, holds_pre h0 h1 r c, zero_relu]; rfl

include h0 h1 in
theorem holds_act : Holds (R := 4096) (C := 4096) (φ := .f32) (val_main_v5 (F := Ideal) x0 x1) (act H U) := fun r c => by
  rw [val_main_v5_apply, holds_relu h0 h1 r c]; rfl

include h0 h1 h2 in
theorem holds_out : Holds (R := 4096) (C := 1024) (φ := .f32) (val_main_v8 (F := Ideal) x0 x1 x2) (mul 4096 (act H U) W) := fun r c => by
  rw [val_main_v8_apply]
  exact dot_eq (f := act H U r) (g := fun k => W k c) (fun k => (congrArg _ (idx2_eq _ rfl rfl)).trans (holds_act h0 h1 r k))
    (fun k => (congrArg x2 (idx2_eq _ rfl rfl)).trans (h2 k c))

include h0 h1 h3 in
theorem holds_dw : Holds (R := 4096) (C := 1024) (φ := .f32) (val_main_v10 (F := Ideal) x0 x1 x3) (mul 4096 (tr (act H U)) D) := fun r c => by
  rw [val_main_v10_apply, val_main_v9_apply]
  refine (dot_eq (f := fun k => D k c) (g := fun k => act H U k r) (fun k => (congrArg x3 (idx2_eq _ rfl rfl)).trans (h3 k c))
    (fun k => (congrArg _ (idx2_eq _ rfl rfl)).trans (holds_act h0 h1 k r))).trans ?_
  exact Finset.sum_congr rfl fun k _ => mul_comm _ _

include h2 h3 in
theorem holds_dact : Holds (R := 4096) (C := 4096) (φ := .f32) (val_main_v11 (F := Ideal) x2 x3) (mul 1024 D (tr W)) := fun r c => by
  rw [val_main_v11_apply]
  exact dot_eq (f := D r) (g := fun k => W c k) (fun k => (congrArg x3 (idx2_eq _ rfl rfl)).trans (h3 r k))
    (fun k => (congrArg x2 (idx2_eq _ rfl rfl)).trans (h2 c k))

include h0 h1 h2 h3 in
theorem holds_dpre : Holds (R := 4096) (C := 4096) (φ := .f32) (val_main_v14 (F := Ideal) x0 x1 x2 x3) (dpre H U W D) := fun r c => by
  rw [val_main_v14_apply, val_main_v3_apply, val_main_v12_apply, val_main_v7_apply, zero_v2, zero_v13, two_v6,
    holds_pre h0 h1 r c, holds_relu h0 h1 r c, holds_dact h2 h3 r c]
  show Scalar.select (Ideal.cmp .ogt (mul 1024 H U r c) 0) (mul 1024 D (tr W) r c * (two * max (mul 1024 H U r c) 0)) 0 = _
  refine Eq.trans ?_ (gate_eq (mul 1024 D (tr W) r c) (mul 1024 H U r c)).symm
  generalize mul 1024 H U r c = p
  generalize mul 1024 D (tr W) r c = x
  exact select_pos p _

include h0 h1 h2 h3 in
theorem holds_dup : Holds (R := 1024) (C := 4096) (φ := .f32) (val_main_v16 (F := Ideal) x0 x1 x2 x3) (mul 4096 (tr H) (dpre H U W D)) := fun r c => by
  rw [val_main_v16_apply, val_main_v15_apply]
  refine (dot_eq (f := fun k => dpre H U W D k c) (g := fun k => H k r) (fun k => (congrArg _ (idx2_eq _ rfl rfl)).trans (holds_dpre h0 h1 h2 h3 k c))
    (fun k => (congrArg x0 (idx2_eq _ rfl rfl)).trans (h0 k r))).trans ?_
  exact Finset.sum_congr rfl fun k _ => mul_comm _ _

include h0 h1 h2 h3 in
theorem holds_dh : Holds (R := 4096) (C := 1024) (φ := .f32) (val_main_v17 (F := Ideal) x0 x1 x2 x3) (mul 4096 (dpre H U W D) (tr U)) := fun r c => by
  rw [val_main_v17_apply]
  exact dot_eq (f := dpre H U W D r) (g := fun k => U c k) (fun k => (congrArg _ (idx2_eq _ rfl rfl)).trans (holds_dpre h0 h1 h2 h3 r k))
    (fun k => (congrArg x1 (idx2_eq _ rfl rfl)).trans (h1 c k))

end Cert.MlpReferenceIdeal.Ffn

end
-- ==== Proof.ProjBody.lean ====
/- What each of the six calls of the two projections writes at one grid point: a product of two blocks. All over the
   extended reals, with no assumption on the numbers. -/
module

public import proofs.«01_k».proof.Proof.MlpArrays
public import proofs.«01_k».proof.Proof.Gen.ProjIdeal.Frame

@[expose] public section

set_option maxRecDepth 16384

noncomputable section

namespace Cert.ProjIdeal.Lin

open Idealize.ShloMosaic Idealize.ShloMosaic.TcCoe Idealize.ShloMosaic.Tactic
open Cert.ProjIdeal Cert.ProjIdeal.Gen
open Cert.MlpIdeal.Ffn (Holds mul tr dot_eq)

theorem in_proj_dot {x0 : Vec Ideal S1024x1024 .bf16} {x1 : Vec Ideal S1024x1024 .bf16} {f g : ℕ → ℕ → EReal}
    (h0 : Holds (φ := .bf16) x0 f) (h1 : Holds (φ := .bf16) x1 g) : Holds (k0_pay2 x0 x1) (mul 1024 f g) := fun r c => by
  pointwise [k0_pay2, k0_pay1]
  exact dot_eq (f := f r) (g := fun k => g k c) (fun k => h0 r k) (fun k => h1 k c)

theorem in_proj_narrow {x : Vec Ideal S1024x1024 .f32} {f : ℕ → ℕ → EReal} (h : Holds (φ := .f32) x f) : Holds (k0_pay4 x) f := fun r c => by
  pointwise [k0_pay4]
  exact h r c

theorem in_proj_dx_dot {x0 : Vec Ideal S1024x3072 .bf16} {x1 : Vec Ideal S1024x3072 .bf16} {f g : ℕ → ℕ → EReal}
    (h0 : Holds (φ := .bf16) x0 f) (h1 : Holds (φ := .bf16) x1 g) : Holds (k1_pay2 x0 x1) (mul 3072 f (tr g)) := fun r c => by
  pointwise [k1_pay2, k1_pay1]
  exact dot_eq (f := f r) (g := fun k => g c k) (fun k => h0 r k) (fun k => h1 c k)

theorem in_proj_dw_dot {x0 : Vec Ideal S4096x1024 .bf16} {x1 : Vec Ideal S4096x1024 .bf16} {f g : ℕ → ℕ → EReal}
    (h0 : Holds (φ := .bf16) x0 f) (h1 : Holds (φ := .bf16) x1 g) : Holds (k2_pay2 x0 x1) (mul 4096 (tr f) g) := fun r c => by
  pointwise [k2_pay2, k2_pay1]
  exact dot_eq (f := fun k => f k r) (g := fun k => g k c) (fun k => h0 k r) (fun k => h1 k c)

theorem out_proj_dot {x0 : Vec Ideal S1024x1024 .bf16} {x1 : Vec Ideal S1024x1024 .bf16} {f g : ℕ → ℕ → EReal}
    (h0 : Holds (φ := .bf16) x0 f) (h1 : Holds (φ := .bf16) x1 g) : Holds (k3_pay2 x0 x1) (mul 1024 f g) := fun r c => by
  pointwise [k3_pay2, k3_pay1]
  exact dot_eq (f := f r) (g := fun k => g k c) (fun k => h0 r k) (fun k => h1 k c)

theorem out_proj_dx_dot {x0 : Vec Ideal S1024x1024 .bf16} {x1 : Vec Ideal S1024x1024 .bf16} {f g : ℕ → ℕ → EReal}
    (h0 : Holds (φ := .bf16) x0 f) (h1 : Holds (φ := .bf16) x1 g) : Holds (k4_pay2 x0 x1) (mul 1024 f (tr g)) := fun r c => by
  pointwise [k4_pay2, k4_pay1]
  exact dot_eq (f := f r) (g := fun k => g c k) (fun k => h0 r k) (fun k => h1 c k)

theorem out_proj_dw_dot {x0 : Vec Ideal S4096x1024 .bf16} {x1 : Vec Ideal S4096x1024 .bf16} {f g : ℕ → ℕ → EReal}
    (h0 : Holds (φ := .bf16) x0 f) (h1 : Holds (φ := .bf16) x1 g) : Holds (k5_pay2 x0 x1) (mul 4096 (tr f) g) := fun r c => by
  pointwise [k5_pay2, k5_pay1]
  exact dot_eq (f := fun k => f k r) (g := fun k => g k c) (fun k => h0 k r) (fun k => h1 k c)

/-! ### What the calls leave in their output blocks -/

theorem in_proj_block (c : Dev nD) (i : grid0.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .bf16) (harg6 : arg6.IsWhole)
    (arg7 : Memref sig .tc .vmem S1024x1024 .f32) (harg7 : arg7.IsWhole)
    (hc0 : cond0_0 i) (hc1 : ¬cond0_1 i) (hc2 : cond0_2 i) {x0 : Vec Ideal S1024x1024 .bf16} {x1 : Vec Ideal S1024x1024 .bf16}
    {f g : ℕ → ℕ → EReal} (h0 : Holds (φ := .bf16) x0 f) (h1 : Holds (φ := .bf16) x1 g) :
    Holds (R := 1024) (C := 1024) (φ := .f32) (out0_A_2 c i arg3 harg3 arg4 harg4 arg5 harg5 arg6 harg6 arg7 harg7 hc0 hc1 hc2 x0 x1) (mul 1024 f g) := by
  have e : out0_A_2 c i arg3 harg3 arg4 harg4 arg5 harg5 arg6 harg6 arg7 harg7 hc0 hc1 hc2 x0 x1 = k0_pay2 x0 x1 := by frame_out
  rw [e]
  exact in_proj_dot h0 h1

theorem in_proj_block_narrow (c : Dev nD) (i : grid0.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .bf16) (harg6 : arg6.IsWhole)
    (arg7 : Memref sig .tc .vmem S1024x1024 .f32) (harg7 : arg7.IsWhole)
    (hc0 : cond0_0 i) (hc1 : ¬cond0_1 i) (hc2 : cond0_2 i) {x0 : Vec Ideal S1024x1024 .bf16} {x1 : Vec Ideal S1024x1024 .bf16}
    {f g : ℕ → ℕ → EReal} (h0 : Holds (φ := .bf16) x0 f) (h1 : Holds (φ := .bf16) x1 g) :
    Holds (R := 1024) (C := 1024) (φ := .bf16) (out0_A_3 c i arg3 harg3 arg4 harg4 arg5 harg5 arg6 harg6 arg7 harg7 hc0 hc1 hc2 x0 x1) (mul 1024 f g) := by
  have e : out0_A_3 c i arg3 harg3 arg4 harg4 arg5 harg5 arg6 harg6 arg7 harg7 hc0 hc1 hc2 x0 x1 = k0_pay4 (k0_pay2 x0 x1) := by frame_out
  rw [e]
  exact in_proj_narrow (in_proj_dot h0 h1)

theorem in_proj_dx_block (c : Dev nD) (i : grid1.Coords)
    (arg3 : Memref sig .tc .vmem S1024x3072 .bf16) (harg3 : arg3.IsWhole)
    (arg4 : Memref sig .tc .vmem S1024x3072 .bf16) (harg4 : arg4.IsWhole)
    (arg5 : Memref sig .tc .vmem S1024x1024 .f32) (harg5 : arg5.IsWhole)
    (arg6 : Memref sig .tc .vmem S1024x1024 .f32) (harg6 : arg6.IsWhole)
    (hc0 : cond1_0 i) (hc1 : ¬cond1_1 i) (hc2 : cond1_2 i) {x0 : Vec Ideal S1024x3072 .bf16} {x1 : Vec Ideal S1024x3072 .bf16}
    {f g : ℕ → ℕ → EReal} (h0 : Holds (φ := .bf16) x0 f) (h1 : Holds (φ := .bf16) x1 g) :
    Holds (R := 1024) (C := 1024) (φ := .f32) (out1_A_2 c i arg3 harg3 arg4 harg4 arg5 harg5 arg6 harg6 hc0 hc1 hc2 x0 x1) (mul 3072 f (tr g)) := by
  have e : out1_A_2 c i arg3 harg3 arg4 harg4 arg5 harg5 arg6 harg6 hc0 hc1 hc2 x0 x1 = k1_pay2 x0 x1 := by frame_out
  rw [e]
  exact in_proj_dx_dot h0 h1

theorem in_proj_dw_block (c : Dev nD) (i : grid2.Coords)
    (arg3 : Memref sig .tc .vmem S4096x1024 .bf16) (harg3 : arg3.IsWhole)
    (arg4 : Memref sig .tc .vmem S4096x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : cond2_0 i) (hc1 : ¬cond2_1 i) (hc2 : cond2_2 i) {x0 : Vec Ideal S4096x1024 .bf16} {x1 : Vec Ideal S4096x1024 .bf16}
    {f g : ℕ → ℕ → EReal} (h0 : Holds (φ := .bf16) x0 f) (h1 : Holds (φ := .bf16) x1 g) :
    Holds (R := 1024) (C := 1024) (φ := .f32) (out2_A_2 c i arg3 harg3 arg4 harg4 arg5 harg5 arg6 harg6 hc0 hc1 hc2 x0 x1) (mul 4096 (tr f) g) := by
  have e : out2_A_2 c i arg3 harg3 arg4 harg4 arg5 harg5 arg6 harg6 hc0 hc1 hc2 x0 x1 = k2_pay2 x0 x1 := by frame_out
  rw [e]
  exact in_proj_dw_dot h0 h1

theorem out_proj_block (c : Dev nD) (i : grid3.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : cond3_0 i) (hc1 : ¬cond3_1 i) (hc2 : cond3_2 i) {x0 : Vec Ideal S1024x1024 .bf16} {x1 : Vec Ideal S1024x1024 .bf16}
    {f g : ℕ → ℕ → EReal} (h0 : Holds (φ := .bf16) x0 f) (h1 : Holds (φ := .bf16) x1 g) :
    Holds (R := 1024) (C := 1024) (φ := .f32) (out3_A_2 c i arg3 harg3 arg4 harg4 arg5 harg5 arg6 harg6 hc0 hc1 hc2 x0 x1) (mul 1024 f g) := by
  have e : out3_A_2 c i arg3 harg3 arg4 harg4 arg5 harg5 arg6 harg6 hc0 hc1 hc2 x0 x1 = k3_pay2 x0 x1 := by frame_out
  rw [e]
  exact out_proj_dot h0 h1

theorem out_proj_dx_block (c : Dev nD) (i : grid4.Coords)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : cond4_0 i) (hc1 : ¬cond4_1 i) (hc2 : cond4_2 i) {x0 : Vec Ideal S1024x1024 .bf16} {x1 : Vec Ideal S1024x1024 .bf16}
    {f g : ℕ → ℕ → EReal} (h0 : Holds (φ := .bf16) x0 f) (h1 : Holds (φ := .bf16) x1 g) :
    Holds (R := 1024) (C := 1024) (φ := .f32) (out4_A_2 c i arg3 harg3 arg4 harg4 arg5 harg5 arg6 harg6 hc0 hc1 hc2 x0 x1) (mul 1024 f (tr g)) := by
  have e : out4_A_2 c i arg3 harg3 arg4 harg4 arg5 harg5 arg6 harg6 hc0 hc1 hc2 x0 x1 = k4_pay2 x0 x1 := by frame_out
  rw [e]
  exact out_proj_dx_dot h0 h1

theorem out_proj_dw_block (c : Dev nD) (i : grid5.Coords)
    (arg3 : Memref sig .tc .vmem S4096x1024 .bf16) (harg3 : arg3.IsWhole)
    (arg4 : Memref sig .tc .vmem S4096x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : cond5_0 i) (hc1 : ¬cond5_1 i) (hc2 : cond5_2 i) {x0 : Vec Ideal S4096x1024 .bf16} {x1 : Vec Ideal S4096x1024 .bf16}
    {f g : ℕ → ℕ → EReal} (h0 : Holds (φ := .bf16) x0 f) (h1 : Holds (φ := .bf16) x1 g) :
    Holds (R := 1024) (C := 1024) (φ := .f32) (out5_A_2 c i arg3 harg3 arg4 harg4 arg5 harg5 arg6 harg6 hc0 hc1 hc2 x0 x1) (mul 4096 (tr f) g) := by
  have e : out5_A_2 c i arg3 harg3 arg4 harg4 arg5 harg5 arg6 harg6 hc0 hc1 hc2 x0 x1 = k5_pay2 x0 x1 := by frame_out
  rw [e]
  exact out_proj_dw_dot h0 h1

end Cert.ProjIdeal.Lin

end
-- ==== Proof.ProjArrays.lean ====
/- What each of the six calls of the two projections leaves in its result array: the whole matrix, put together from
   the blocks of ProjBody.lean. -/
module

public import proofs.«01_k».proof.Proof.ProjBody
public import Idealize.ShloMosaic.Lib.Pipeline.Value

@[expose] public section

set_option maxRecDepth 16384

noncomputable section

namespace Cert.ProjIdeal.Lin

open Idealize.ShloMosaic Idealize.ShloMosaic.TcCoe Idealize.ShloMosaic.Tactic
open Idealize.ShloMosaic.Pipeline (Dat)
open Cert.ProjIdeal Cert.ProjIdeal.Gen
open Cert.MlpIdeal.Ffn (Holds mul tr rows cols arr idx2_eq)

variable (V : (c : Dev nD) → (b : Ref sig .tc) → Buf (Elt Ideal) ((c : Thread nD τ).loc b)) (c : Dev nD)

/-! ### `in_proj` -/

theorem coords0 : ∀ t : Fin grid0.N, ((grid0.coords t 0).val = t.val / 3) ∧ ((grid0.coords t 1).val = t.val % 3) := by decide +kernel
theorem index0_0 : ∀ i : grid0.Coords, cc0_transform_0 i 0 = (i 0).val ∧ cc0_transform_0 i 1 = 0 := by decide +kernel
theorem index0_1 : ∀ i : grid0.Coords, cc0_transform_1 i 0 = 0 ∧ cc0_transform_1 i 1 = (i 1).val := by decide +kernel
theorem index0_2 : ∀ i : grid0.Coords, cc0_transform_2 i 0 = (i 0).val ∧ cc0_transform_2 i 1 = (i 1).val := by decide +kernel
theorem index0_3 : ∀ i : grid0.Coords, cc0_transform_3 i 0 = (i 0).val ∧ cc0_transform_3 i 1 = (i 1).val := by decide +kernel

theorem window0_0 {f : ℕ → ℕ → EReal} (h0 : Holds (R := 4096) (C := 1024) (φ := .bf16) (V c main_v0) f) (t : Fin cfg0.N) :
    Holds (R := 1024) (C := 1024) (φ := .bf16) (iblk0 V c 0 t) (rows (1024 * ((grid0.coords t) 0).val) f) := fun r k => by
  have b0 : (grid0.coords t 0).val < 4 := (grid0.coords t 0).isLt
  have b1 : (grid0.coords t 1).val < 3 := (grid0.coords t 1).isLt
  obtain ⟨e0, e1⟩ := index0_0 (grid0.coords t)
  unfold iblk0
  rw [View.read_apply]
  refine Eq.trans ?_ (h0 ⟨1024 * ((grid0.coords t) 0).val + r, by omega⟩ k)
  refine congrArg (V c main_v0) (idx2_eq _ ?_ ?_)
  · show cc0_transform_0 (grid0.coords t) 0 * 1024 + 1 * r.val = 1024 * ((grid0.coords t) 0).val + r.val
    rw [e0]; omega
  · show cc0_transform_0 (grid0.coords t) 1 * 1024 + 1 * k.val = k.val
    rw [e1]; omega

theorem window0_1 {g : ℕ → ℕ → EReal} (h1 : Holds (R := 1024) (C := 3072) (φ := .bf16) (V c main_v15) g) (t : Fin cfg0.N) :
    Holds (R := 1024) (C := 1024) (φ := .bf16) (iblk0 V c 1 t) (cols (1024 * ((grid0.coords t) 1).val) g) := fun r k => by
  have b0 : (grid0.coords t 0).val < 4 := (grid0.coords t 0).isLt
  have b1 : (grid0.coords t 1).val < 3 := (grid0.coords t 1).isLt
  obtain ⟨e0, e1⟩ := index0_1 (grid0.coords t)
  unfold iblk0
  rw [View.read_apply]
  refine Eq.trans ?_ (h1 r ⟨1024 * ((grid0.coords t) 1).val + k, by omega⟩)
  refine congrArg (V c main_v15) (idx2_eq _ ?_ ?_)
  · show cc0_transform_1 (grid0.coords t) 0 * 1024 + 1 * r.val = r.val
    rw [e0]; omega
  · show cc0_transform_1 (grid0.coords t) 1 * 1024 + 1 * k.val = 1024 * ((grid0.coords t) 1).val + k.val
    rw [e1]; omega

theorem flushed0 {f : ℕ → ℕ → EReal} (h0 : Holds (R := 4096) (C := 1024) (φ := .bf16) (V c main_v0) f) {g : ℕ → ℕ → EReal} (h1 : Holds (R := 1024) (C := 3072) (φ := .bf16) (V c main_v15) g)
    (t : Fin cfg0.N) (hf : (cfg0.win 2).flush t = true) :
    (dat0 V c).flushed 2 t = ((cfg0.win 2).blk t).view.read (Elt Ideal) (arr .f32 (mul 1024 f g)) := by
  obtain ⟨e0, e1⟩ := index0_2 (grid0.coords t)
  show (cfg0.win 2).cut (grid0.coords t) ((dat0 V c).after 2 t) = _
  rw [after0_2]
  unfold outsAt0
  dsimp only
  funext j
  obtain ⟨r, k, rfl⟩ : ∃ (r : Fin 1024) (k : Fin 1024), j = ix2 r k := ⟨j 0, j 1, eq_ix2 j⟩
  refine (in_proj_block c _ _ _ _ _ _ _ _ _ _ _ _ _ _ (window0_0 V c h0 t) (window0_1 V c h1 t) r k).trans ?_
  rw [View.read_apply]
  have i0 : ((((cfg0.win 2).blk t).view.emb (ix2 r k)) 0).val = 1024 * ((grid0.coords t) 0).val + r.val := by
    show cc0_transform_2 (grid0.coords t) 0 * 1024 + 1 * r.val = _
    rw [e0]; omega
  have i1 : ((((cfg0.win 2).blk t).view.emb (ix2 r k)) 1).val = 1024 * ((grid0.coords t) 1).val + k.val := by
    show cc0_transform_2 (grid0.coords t) 1 * 1024 + 1 * k.val = _
    rw [e1]; omega
  show _ = (mul 1024 f g) ((((cfg0.win 2).blk t).view.emb (ix2 r k)) 0).val ((((cfg0.win 2).blk t).view.emb (ix2 r k)) 1).val
  rw [i0, i1]
  rfl

theorem final0 {f : ℕ → ℕ → EReal} (h0 : Holds (R := 4096) (C := 1024) (φ := .bf16) (V c main_v0) f) {g : ℕ → ℕ → EReal} (h1 : Holds (R := 1024) (C := 3072) (φ := .bf16) (V c main_v15) g) :
    (dat0 V c).arrAt 2 cfg0.N = arr .f32 (mul 1024 f g) :=
  (dat0 V c).arrAt_eq_of_cover 2 (arr .f32 (mul 1024 f g)) (flushed0 V c h0 h1) fun i => by
    have h0' : (i 0 : Nat) < 4096 := (i 0).isLt
    have h1' : (i 1 : Nat) < 3072 := (i 1).isLt
    have hN : cfg0.N = 12 := N_0
    let t : Fin cfg0.N := ⟨3 * ((i 0 : Nat) / 1024) + (i 1 : Nat) / 1024, by omega⟩
    have ht : t.val = 3 * ((i 0 : Nat) / 1024) + (i 1 : Nat) / 1024 := rfl
    refine ⟨t, flush0_2 t, ?_⟩
    obtain ⟨c0, c1⟩ := coords0 t
    obtain ⟨e0, e1⟩ := index0_2 (grid0.coords t)
    show i ∈ ((View.whole main_v26_0).slice (win0_2.rect t)).set
    rw [View.set_slice_whole, Rect.mem_set_unit]
    intro a
    match a with
    | ⟨0, _⟩ => show cc0_transform_2 (grid0.coords t) 0 * 1024 ≤ (i 0 : Nat) ∧ (i 0 : Nat) < cc0_transform_2 (grid0.coords t) 0 * 1024 + 1024
                rw [e0, c0]; omega
    | ⟨1, _⟩ => show cc0_transform_2 (grid0.coords t) 1 * 1024 ≤ (i 1 : Nat) ∧ (i 1 : Nat) < cc0_transform_2 (grid0.coords t) 1 * 1024 + 1024
                rw [e1, c1]; omega

theorem flushed0_narrow {f : ℕ → ℕ → EReal} (h0 : Holds (R := 4096) (C := 1024) (φ := .bf16) (V c main_v0) f) {g : ℕ → ℕ → EReal} (h1 : Holds (R := 1024) (C := 3072) (φ := .bf16) (V c main_v15) g)
    (t : Fin cfg0.N) (hf : (cfg0.win 3).flush t = true) :
    (dat0 V c).flushed 3 t = ((cfg0.win 3).blk t).view.read (Elt Ideal) (arr .bf16 (mul 1024 f g)) := by
  obtain ⟨e0, e1⟩ := index0_3 (grid0.coords t)
  show (cfg0.win 3).cut (grid0.coords t) ((dat0 V c).after 3 t) = _
  rw [after0_3]
  unfold outsAt0
  dsimp only
  funext j
  obtain ⟨r, k, rfl⟩ : ∃ (r : Fin 1024) (k : Fin 1024), j = ix2 r k := ⟨j 0, j 1, eq_ix2 j⟩
  refine (in_proj_block_narrow c _ _ _ _ _ _ _ _ _ _ _ _ _ _ (window0_0 V c h0 t) (window0_1 V c h1 t) r k).trans ?_
  rw [View.read_apply]
  have i0 : ((((cfg0.win 3).blk t).view.emb (ix2 r k)) 0).val = 1024 * ((grid0.coords t) 0).val + r.val := by
    show cc0_transform_3 (grid0.coords t) 0 * 1024 + 1 * r.val = _
    rw [e0]; omega
  have i1 : ((((cfg0.win 3).blk t).view.emb (ix2 r k)) 1).val = 1024 * ((grid0.coords t) 1).val + k.val := by
    show cc0_transform_3 (grid0.coords t) 1 * 1024 + 1 * k.val = _
    rw [e1]; omega
  show _ = (mul 1024 f g) ((((cfg0.win 3).blk t).view.emb (ix2 r k)) 0).val ((((cfg0.win 3).blk t).view.emb (ix2 r k)) 1).val
  rw [i0, i1]
  rfl

theorem final0_narrow {f : ℕ → ℕ → EReal} (h0 : Holds (R := 4096) (C := 1024) (φ := .bf16) (V c main_v0) f) {g : ℕ → ℕ → EReal} (h1 : Holds (R := 1024) (C := 3072) (φ := .bf16) (V c main_v15) g) :
    (dat0 V c).arrAt 3 cfg0.N = arr .bf16 (mul 1024 f g) :=
  (dat0 V c).arrAt_eq_of_cover 3 (arr .bf16 (mul 1024 f g)) (flushed0_narrow V c h0 h1) fun i => by
    have h0' : (i 0 : Nat) < 4096 := (i 0).isLt
    have h1' : (i 1 : Nat) < 3072 := (i 1).isLt
    have hN : cfg0.N = 12 := N_0
    let t : Fin cfg0.N := ⟨3 * ((i 0 : Nat) / 1024) + (i 1 : Nat) / 1024, by omega⟩
    have ht : t.val = 3 * ((i 0 : Nat) / 1024) + (i 1 : Nat) / 1024 := rfl
    refine ⟨t, flush0_3 t, ?_⟩
    obtain ⟨c0, c1⟩ := coords0 t
    obtain ⟨e0, e1⟩ := index0_3 (grid0.coords t)
    show i ∈ ((View.whole main_v26_1).slice (win0_3.rect t)).set
    rw [View.set_slice_whole, Rect.mem_set_unit]
    intro a
    match a with
    | ⟨0, _⟩ => show cc0_transform_3 (grid0.coords t) 0 * 1024 ≤ (i 0 : Nat) ∧ (i 0 : Nat) < cc0_transform_3 (grid0.coords t) 0 * 1024 + 1024
                rw [e0, c0]; omega
    | ⟨1, _⟩ => show cc0_transform_3 (grid0.coords t) 1 * 1024 ≤ (i 1 : Nat) ∧ (i 1 : Nat) < cc0_transform_3 (grid0.coords t) 1 * 1024 + 1024
                rw [e1, c1]; omega

/-! ### `in_proj_dx` -/

theorem coords1 : ∀ t : Fin grid1.N, ((grid1.coords t 0).val = t.val / 1) ∧ ((grid1.coords t 1).val = t.val % 1) := by decide +kernel
theorem index1_0 : ∀ i : grid1.Coords, cc1_transform_0 i 0 = (i 0).val ∧ cc1_transform_0 i 1 = 0 := by decide +kernel
theorem index1_1 : ∀ i : grid1.Coords, cc1_transform_1 i 0 = (i 1).val ∧ cc1_transform_1 i 1 = 0 := by decide +kernel
theorem index1_2 : ∀ i : grid1.Coords, cc1_transform_2 i 0 = (i 0).val ∧ cc1_transform_2 i 1 = (i 1).val := by decide +kernel

theorem window1_0 {f : ℕ → ℕ → EReal} (h0 : Holds (R := 4096) (C := 3072) (φ := .bf16) (V c main_v25) f) (t : Fin cfg1.N) :
    Holds (R := 1024) (C := 3072) (φ := .bf16) (iblk1 V c 0 t) (rows (1024 * ((grid1.coords t) 0).val) f) := fun r k => by
  have b0 : (grid1.coords t 0).val < 4 := (grid1.coords t 0).isLt
  have b1 : (grid1.coords t 1).val < 1 := (grid1.coords t 1).isLt
  obtain ⟨e0, e1⟩ := index1_0 (grid1.coords t)
  unfold iblk1
  rw [View.read_apply]
  refine Eq.trans ?_ (h0 ⟨1024 * ((grid1.coords t) 0).val + r, by omega⟩ k)
  refine congrArg (V c main_v25) (idx2_eq _ ?_ ?_)
  · show cc1_transform_0 (grid1.coords t) 0 * 1024 + 1 * r.val = 1024 * ((grid1.coords t) 0).val + r.val
    rw [e0]; omega
  · show cc1_transform_0 (grid1.coords t) 1 * 3072 + 1 * k.val = k.val
    rw [e1]; omega

theorem window1_1 {g : ℕ → ℕ → EReal} (h1 : Holds (R := 1024) (C := 3072) (φ := .bf16) (V c main_v15) g) (t : Fin cfg1.N) :
    Holds (R := 1024) (C := 3072) (φ := .bf16) (iblk1 V c 1 t) (rows (1024 * ((grid1.coords t) 1).val) g) := fun r k => by
  have b0 : (grid1.coords t 0).val < 4 := (grid1.coords t 0).isLt
  have b1 : (grid1.coords t 1).val < 1 := (grid1.coords t 1).isLt
  obtain ⟨e0, e1⟩ := index1_1 (grid1.coords t)
  unfold iblk1
  rw [View.read_apply]
  refine Eq.trans ?_ (h1 ⟨1024 * ((grid1.coords t) 1).val + r, by omega⟩ k)
  refine congrArg (V c main_v15) (idx2_eq _ ?_ ?_)
  · show cc1_transform_1 (grid1.coords t) 0 * 1024 + 1 * r.val = 1024 * ((grid1.coords t) 1).val + r.val
    rw [e0]; omega
  · show cc1_transform_1 (grid1.coords t) 1 * 3072 + 1 * k.val = k.val
    rw [e1]; omega

theorem flushed1 {f : ℕ → ℕ → EReal} (h0 : Holds (R := 4096) (C := 3072) (φ := .bf16) (V c main_v25) f) {g : ℕ → ℕ → EReal} (h1 : Holds (R := 1024) (C := 3072) (φ := .bf16) (V c main_v15) g)
    (t : Fin cfg1.N) (hf : (cfg1.win 2).flush t = true) :
    (dat1 V c).flushed 2 t = ((cfg1.win 2).blk t).view.read (Elt Ideal) (arr .f32 (mul 3072 f (tr g))) := by
  obtain ⟨e0, e1⟩ := index1_2 (grid1.coords t)
  show (cfg1.win 2).cut (grid1.coords t) ((dat1 V c).after 2 t) = _
  rw [after1_2]
  funext j
  obtain ⟨r, k, rfl⟩ : ∃ (r : Fin 1024) (k : Fin 1024), j = ix2 r k := ⟨j 0, j 1, eq_ix2 j⟩
  refine (in_proj_dx_block c _ _ _ _ _ _ _ _ _ _ _ _ (window1_0 V c h0 t) (window1_1 V c h1 t) r k).trans ?_
  rw [View.read_apply]
  have i0 : ((((cfg1.win 2).blk t).view.emb (ix2 r k)) 0).val = 1024 * ((grid1.coords t) 0).val + r.val := by
    show cc1_transform_2 (grid1.coords t) 0 * 1024 + 1 * r.val = _
    rw [e0]; omega
  have i1 : ((((cfg1.win 2).blk t).view.emb (ix2 r k)) 1).val = 1024 * ((grid1.coords t) 1).val + k.val := by
    show cc1_transform_2 (grid1.coords t) 1 * 1024 + 1 * k.val = _
    rw [e1]; omega
  show _ = (mul 3072 f (tr g)) ((((cfg1.win 2).blk t).view.emb (ix2 r k)) 0).val ((((cfg1.win 2).blk t).view.emb (ix2 r k)) 1).val
  rw [i0, i1]
  rfl

theorem final1 {f : ℕ → ℕ → EReal} (h0 : Holds (R := 4096) (C := 3072) (φ := .bf16) (V c main_v25) f) {g : ℕ → ℕ → EReal} (h1 : Holds (R := 1024) (C := 3072) (φ := .bf16) (V c main_v15) g) :
    (dat1 V c).arrAt 2 cfg1.N = arr .f32 (mul 3072 f (tr g)) :=
  (dat1 V c).arrAt_eq_of_cover 2 (arr .f32 (mul 3072 f (tr g))) (flushed1 V c h0 h1) fun i => by
    have h0' : (i 0 : Nat) < 4096 := (i 0).isLt
    have h1' : (i 1 : Nat) < 1024 := (i 1).isLt
    have hN : cfg1.N = 4 := N_1
    let t : Fin cfg1.N := ⟨1 * ((i 0 : Nat) / 1024) + (i 1 : Nat) / 1024, by omega⟩
    have ht : t.val = 1 * ((i 0 : Nat) / 1024) + (i 1 : Nat) / 1024 := rfl
    refine ⟨t, flush1_2 t, ?_⟩
    obtain ⟨c0, c1⟩ := coords1 t
    obtain ⟨e0, e1⟩ := index1_2 (grid1.coords t)
    show i ∈ ((View.whole main_v27).slice (win1_2.rect t)).set
    rw [View.set_slice_whole, Rect.mem_set_unit]
    intro a
    match a with
    | ⟨0, _⟩ => show cc1_transform_2 (grid1.coords t) 0 * 1024 ≤ (i 0 : Nat) ∧ (i 0 : Nat) < cc1_transform_2 (grid1.coords t) 0 * 1024 + 1024
                rw [e0, c0]; omega
    | ⟨1, _⟩ => show cc1_transform_2 (grid1.coords t) 1 * 1024 ≤ (i 1 : Nat) ∧ (i 1 : Nat) < cc1_transform_2 (grid1.coords t) 1 * 1024 + 1024
                rw [e1, c1]; omega

/-! ### `in_proj_dw` -/

theorem coords2 : ∀ t : Fin grid2.N, ((grid2.coords t 0).val = t.val / 3) ∧ ((grid2.coords t 1).val = t.val % 3) := by decide +kernel
theorem index2_0 : ∀ i : grid2.Coords, cc2_transform_0 i 0 = 0 ∧ cc2_transform_0 i 1 = (i 0).val := by decide +kernel
theorem index2_1 : ∀ i : grid2.Coords, cc2_transform_1 i 0 = 0 ∧ cc2_transform_1 i 1 = (i 1).val := by decide +kernel
theorem index2_2 : ∀ i : grid2.Coords, cc2_transform_2 i 0 = (i 0).val ∧ cc2_transform_2 i 1 = (i 1).val := by decide +kernel

theorem window2_0 {f : ℕ → ℕ → EReal} (h0 : Holds (R := 4096) (C := 1024) (φ := .bf16) (V c main_v0) f) (t : Fin cfg2.N) :
    Holds (R := 4096) (C := 1024) (φ := .bf16) (iblk2 V c 0 t) (cols (1024 * ((grid2.coords t) 0).val) f) := fun r k => by
  have b0 : (grid2.coords t 0).val < 1 := (grid2.coords t 0).isLt
  have b1 : (grid2.coords t 1).val < 3 := (grid2.coords t 1).isLt
  obtain ⟨e0, e1⟩ := index2_0 (grid2.coords t)
  unfold iblk2
  rw [View.read_apply]
  refine Eq.trans ?_ (h0 r ⟨1024 * ((grid2.coords t) 0).val + k, by omega⟩)
  refine congrArg (V c main_v0) (idx2_eq _ ?_ ?_)
  · show cc2_transform_0 (grid2.coords t) 0 * 4096 + 1 * r.val = r.val
    rw [e0]; omega
  · show cc2_transform_0 (grid2.coords t) 1 * 1024 + 1 * k.val = 1024 * ((grid2.coords t) 0).val + k.val
    rw [e1]; omega

theorem window2_1 {g : ℕ → ℕ → EReal} (h1 : Holds (R := 4096) (C := 3072) (φ := .bf16) (V c main_v25) g) (t : Fin cfg2.N) :
    Holds (R := 4096) (C := 1024) (φ := .bf16) (iblk2 V c 1 t) (cols (1024 * ((grid2.coords t) 1).val) g) := fun r k => by
  have b0 : (grid2.coords t 0).val < 1 := (grid2.coords t 0).isLt
  have b1 : (grid2.coords t 1).val < 3 := (grid2.coords t 1).isLt
  obtain ⟨e0, e1⟩ := index2_1 (grid2.coords t)
  unfold iblk2
  rw [View.read_apply]
  refine Eq.trans ?_ (h1 r ⟨1024 * ((grid2.coords t) 1).val + k, by omega⟩)
  refine congrArg (V c main_v25) (idx2_eq _ ?_ ?_)
  · show cc2_transform_1 (grid2.coords t) 0 * 4096 + 1 * r.val = r.val
    rw [e0]; omega
  · show cc2_transform_1 (grid2.coords t) 1 * 1024 + 1 * k.val = 1024 * ((grid2.coords t) 1).val + k.val
    rw [e1]; omega

theorem flushed2 {f : ℕ → ℕ → EReal} (h0 : Holds (R := 4096) (C := 1024) (φ := .bf16) (V c main_v0) f) {g : ℕ → ℕ → EReal} (h1 : Holds (R := 4096) (C := 3072) (φ := .bf16) (V c main_v25) g)
    (t : Fin cfg2.N) (hf : (cfg2.win 2).flush t = true) :
    (dat2 V c).flushed 2 t = ((cfg2.win 2).blk t).view.read (Elt Ideal) (arr .f32 (mul 4096 (tr f) g)) := by
  obtain ⟨e0, e1⟩ := index2_2 (grid2.coords t)
  show (cfg2.win 2).cut (grid2.coords t) ((dat2 V c).after 2 t) = _
  rw [after2_2]
  funext j
  obtain ⟨r, k, rfl⟩ : ∃ (r : Fin 1024) (k : Fin 1024), j = ix2 r k := ⟨j 0, j 1, eq_ix2 j⟩
  refine (in_proj_dw_block c _ _ _ _ _ _ _ _ _ _ _ _ (window2_0 V c h0 t) (window2_1 V c h1 t) r k).trans ?_
  rw [View.read_apply]
  have i0 : ((((cfg2.win 2).blk t).view.emb (ix2 r k)) 0).val = 1024 * ((grid2.coords t) 0).val + r.val := by
    show cc2_transform_2 (grid2.coords t) 0 * 1024 + 1 * r.val = _
    rw [e0]; omega
  have i1 : ((((cfg2.win 2).blk t).view.emb (ix2 r k)) 1).val = 1024 * ((grid2.coords t) 1).val + k.val := by
    show cc2_transform_2 (grid2.coords t) 1 * 1024 + 1 * k.val = _
    rw [e1]; omega
  show _ = (mul 4096 (tr f) g) ((((cfg2.win 2).blk t).view.emb (ix2 r k)) 0).val ((((cfg2.win 2).blk t).view.emb (ix2 r k)) 1).val
  rw [i0, i1]
  rfl

theorem final2 {f : ℕ → ℕ → EReal} (h0 : Holds (R := 4096) (C := 1024) (φ := .bf16) (V c main_v0) f) {g : ℕ → ℕ → EReal} (h1 : Holds (R := 4096) (C := 3072) (φ := .bf16) (V c main_v25) g) :
    (dat2 V c).arrAt 2 cfg2.N = arr .f32 (mul 4096 (tr f) g) :=
  (dat2 V c).arrAt_eq_of_cover 2 (arr .f32 (mul 4096 (tr f) g)) (flushed2 V c h0 h1) fun i => by
    have h0' : (i 0 : Nat) < 1024 := (i 0).isLt
    have h1' : (i 1 : Nat) < 3072 := (i 1).isLt
    have hN : cfg2.N = 3 := N_2
    let t : Fin cfg2.N := ⟨3 * ((i 0 : Nat) / 1024) + (i 1 : Nat) / 1024, by omega⟩
    have ht : t.val = 3 * ((i 0 : Nat) / 1024) + (i 1 : Nat) / 1024 := rfl
    refine ⟨t, flush2_2 t, ?_⟩
    obtain ⟨c0, c1⟩ := coords2 t
    obtain ⟨e0, e1⟩ := index2_2 (grid2.coords t)
    show i ∈ ((View.whole main_v28).slice (win2_2.rect t)).set
    rw [View.set_slice_whole, Rect.mem_set_unit]
    intro a
    match a with
    | ⟨0, _⟩ => show cc2_transform_2 (grid2.coords t) 0 * 1024 ≤ (i 0 : Nat) ∧ (i 0 : Nat) < cc2_transform_2 (grid2.coords t) 0 * 1024 + 1024
                rw [e0, c0]; omega
    | ⟨1, _⟩ => show cc2_transform_2 (grid2.coords t) 1 * 1024 ≤ (i 1 : Nat) ∧ (i 1 : Nat) < cc2_transform_2 (grid2.coords t) 1 * 1024 + 1024
                rw [e1, c1]; omega

/-! ### `out_proj` -/

theorem coords3 : ∀ t : Fin grid3.N, ((grid3.coords t 0).val = t.val / 1) ∧ ((grid3.coords t 1).val = t.val % 1) := by decide +kernel
theorem index3_0 : ∀ i : grid3.Coords, cc3_transform_0 i 0 = (i 0).val ∧ cc3_transform_0 i 1 = 0 := by decide +kernel
theorem index3_1 : ∀ i : grid3.Coords, cc3_transform_1 i 0 = 0 ∧ cc3_transform_1 i 1 = (i 1).val := by decide +kernel
theorem index3_2 : ∀ i : grid3.Coords, cc3_transform_2 i 0 = (i 0).val ∧ cc3_transform_2 i 1 = (i 1).val := by decide +kernel

theorem window3_0 {f : ℕ → ℕ → EReal} (h0 : Holds (R := 4096) (C := 1024) (φ := .bf16) (V c main_v3) f) (t : Fin cfg3.N) :
    Holds (R := 1024) (C := 1024) (φ := .bf16) (iblk3 V c 0 t) (rows (1024 * ((grid3.coords t) 0).val) f) := fun r k => by
  have b0 : (grid3.coords t 0).val < 4 := (grid3.coords t 0).isLt
  have b1 : (grid3.coords t 1).val < 1 := (grid3.coords t 1).isLt
  obtain ⟨e0, e1⟩ := index3_0 (grid3.coords t)
  unfold iblk3
  rw [View.read_apply]
  refine Eq.trans ?_ (h0 ⟨1024 * ((grid3.coords t) 0).val + r, by omega⟩ k)
  refine congrArg (V c main_v3) (idx2_eq _ ?_ ?_)
  · show cc3_transform_0 (grid3.coords t) 0 * 1024 + 1 * r.val = 1024 * ((grid3.coords t) 0).val + r.val
    rw [e0]; omega
  · show cc3_transform_0 (grid3.coords t) 1 * 1024 + 1 * k.val = k.val
    rw [e1]; omega

theorem window3_1 {g : ℕ → ℕ → EReal} (h1 : Holds (R := 1024) (C := 1024) (φ := .bf16) (V c main_v4) g) (t : Fin cfg3.N) :
    Holds (R := 1024) (C := 1024) (φ := .bf16) (iblk3 V c 1 t) (cols (1024 * ((grid3.coords t) 1).val) g) := fun r k => by
  have b0 : (grid3.coords t 0).val < 4 := (grid3.coords t 0).isLt
  have b1 : (grid3.coords t 1).val < 1 := (grid3.coords t 1).isLt
  obtain ⟨e0, e1⟩ := index3_1 (grid3.coords t)
  unfold iblk3
  rw [View.read_apply]
  refine Eq.trans ?_ (h1 r ⟨1024 * ((grid3.coords t) 1).val + k, by omega⟩)
  refine congrArg (V c main_v4) (idx2_eq _ ?_ ?_)
  · show cc3_transform_1 (grid3.coords t) 0 * 1024 + 1 * r.val = r.val
    rw [e0]; omega
  · show cc3_transform_1 (grid3.coords t) 1 * 1024 + 1 * k.val = 1024 * ((grid3.coords t) 1).val + k.val
    rw [e1]; omega

theorem flushed3 {f : ℕ → ℕ → EReal} (h0 : Holds (R := 4096) (C := 1024) (φ := .bf16) (V c main_v3) f) {g : ℕ → ℕ → EReal} (h1 : Holds (R := 1024) (C := 1024) (φ := .bf16) (V c main_v4) g)
    (t : Fin cfg3.N) (hf : (cfg3.win 2).flush t = true) :
    (dat3 V c).flushed 2 t = ((cfg3.win 2).blk t).view.read (Elt Ideal) (arr .f32 (mul 1024 f g)) := by
  obtain ⟨e0, e1⟩ := index3_2 (grid3.coords t)
  show (cfg3.win 2).cut (grid3.coords t) ((dat3 V c).after 2 t) = _
  rw [after3_2]
  funext j
  obtain ⟨r, k, rfl⟩ : ∃ (r : Fin 1024) (k : Fin 1024), j = ix2 r k := ⟨j 0, j 1, eq_ix2 j⟩
  refine (out_proj_block c _ _ _ _ _ _ _ _ _ _ _ _ (window3_0 V c h0 t) (window3_1 V c h1 t) r k).trans ?_
  rw [View.read_apply]
  have i0 : ((((cfg3.win 2).blk t).view.emb (ix2 r k)) 0).val = 1024 * ((grid3.coords t) 0).val + r.val := by
    show cc3_transform_2 (grid3.coords t) 0 * 1024 + 1 * r.val = _
    rw [e0]; omega
  have i1 : ((((cfg3.win 2).blk t).view.emb (ix2 r k)) 1).val = 1024 * ((grid3.coords t) 1).val + k.val := by
    show cc3_transform_2 (grid3.coords t) 1 * 1024 + 1 * k.val = _
    rw [e1]; omega
  show _ = (mul 1024 f g) ((((cfg3.win 2).blk t).view.emb (ix2 r k)) 0).val ((((cfg3.win 2).blk t).view.emb (ix2 r k)) 1).val
  rw [i0, i1]
  rfl

theorem final3 {f : ℕ → ℕ → EReal} (h0 : Holds (R := 4096) (C := 1024) (φ := .bf16) (V c main_v3) f) {g : ℕ → ℕ → EReal} (h1 : Holds (R := 1024) (C := 1024) (φ := .bf16) (V c main_v4) g) :
    (dat3 V c).arrAt 2 cfg3.N = arr .f32 (mul 1024 f g) :=
  (dat3 V c).arrAt_eq_of_cover 2 (arr .f32 (mul 1024 f g)) (flushed3 V c h0 h1) fun i => by
    have h0' : (i 0 : Nat) < 4096 := (i 0).isLt
    have h1' : (i 1 : Nat) < 1024 := (i 1).isLt
    have hN : cfg3.N = 4 := N_3
    let t : Fin cfg3.N := ⟨1 * ((i 0 : Nat) / 1024) + (i 1 : Nat) / 1024, by omega⟩
    have ht : t.val = 1 * ((i 0 : Nat) / 1024) + (i 1 : Nat) / 1024 := rfl
    refine ⟨t, flush3_2 t, ?_⟩
    obtain ⟨c0, c1⟩ := coords3 t
    obtain ⟨e0, e1⟩ := index3_2 (grid3.coords t)
    show i ∈ ((View.whole main_v29).slice (win3_2.rect t)).set
    rw [View.set_slice_whole, Rect.mem_set_unit]
    intro a
    match a with
    | ⟨0, _⟩ => show cc3_transform_2 (grid3.coords t) 0 * 1024 ≤ (i 0 : Nat) ∧ (i 0 : Nat) < cc3_transform_2 (grid3.coords t) 0 * 1024 + 1024
                rw [e0, c0]; omega
    | ⟨1, _⟩ => show cc3_transform_2 (grid3.coords t) 1 * 1024 ≤ (i 1 : Nat) ∧ (i 1 : Nat) < cc3_transform_2 (grid3.coords t) 1 * 1024 + 1024
                rw [e1, c1]; omega

/-! ### `out_proj_dx` -/

theorem coords4 : ∀ t : Fin grid4.N, ((grid4.coords t 0).val = t.val / 1) ∧ ((grid4.coords t 1).val = t.val % 1) := by decide +kernel
theorem index4_0 : ∀ i : grid4.Coords, cc4_transform_0 i 0 = (i 0).val ∧ cc4_transform_0 i 1 = 0 := by decide +kernel
theorem index4_1 : ∀ i : grid4.Coords, cc4_transform_1 i 0 = (i 1).val ∧ cc4_transform_1 i 1 = 0 := by decide +kernel
theorem index4_2 : ∀ i : grid4.Coords, cc4_transform_2 i 0 = (i 0).val ∧ cc4_transform_2 i 1 = (i 1).val := by decide +kernel

theorem window4_0 {f : ℕ → ℕ → EReal} (h0 : Holds (R := 4096) (C := 1024) (φ := .bf16) (V c main_v5) f) (t : Fin cfg4.N) :
    Holds (R := 1024) (C := 1024) (φ := .bf16) (iblk4 V c 0 t) (rows (1024 * ((grid4.coords t) 0).val) f) := fun r k => by
  have b0 : (grid4.coords t 0).val < 4 := (grid4.coords t 0).isLt
  have b1 : (grid4.coords t 1).val < 1 := (grid4.coords t 1).isLt
  obtain ⟨e0, e1⟩ := index4_0 (grid4.coords t)
  unfold iblk4
  rw [View.read_apply]
  refine Eq.trans ?_ (h0 ⟨1024 * ((grid4.coords t) 0).val + r, by omega⟩ k)
  refine congrArg (V c main_v5) (idx2_eq _ ?_ ?_)
  · show cc4_transform_0 (grid4.coords t) 0 * 1024 + 1 * r.val = 1024 * ((grid4.coords t) 0).val + r.val
    rw [e0]; omega
  · show cc4_transform_0 (grid4.coords t) 1 * 1024 + 1 * k.val = k.val
    rw [e1]; omega

theorem window4_1 {g : ℕ → ℕ → EReal} (h1 : Holds (R := 1024) (C := 1024) (φ := .bf16) (V c main_v4) g) (t : Fin cfg4.N) :
    Holds (R := 1024) (C := 1024) (φ := .bf16) (iblk4 V c 1 t) (rows (1024 * ((grid4.coords t) 1).val) g) := fun r k => by
  have b0 : (grid4.coords t 0).val < 4 := (grid4.coords t 0).isLt
  have b1 : (grid4.coords t 1).val < 1 := (grid4.coords t 1).isLt
  obtain ⟨e0, e1⟩ := index4_1 (grid4.coords t)
  unfold iblk4
  rw [View.read_apply]
  refine Eq.trans ?_ (h1 ⟨1024 * ((grid4.coords t) 1).val + r, by omega⟩ k)
  refine congrArg (V c main_v4) (idx2_eq _ ?_ ?_)
  · show cc4_transform_1 (grid4.coords t) 0 * 1024 + 1 * r.val = 1024 * ((grid4.coords t) 1).val + r.val
    rw [e0]; omega
  · show cc4_transform_1 (grid4.coords t) 1 * 1024 + 1 * k.val = k.val
    rw [e1]; omega

theorem flushed4 {f : ℕ → ℕ → EReal} (h0 : Holds (R := 4096) (C := 1024) (φ := .bf16) (V c main_v5) f) {g : ℕ → ℕ → EReal} (h1 : Holds (R := 1024) (C := 1024) (φ := .bf16) (V c main_v4) g)
    (t : Fin cfg4.N) (hf : (cfg4.win 2).flush t = true) :
    (dat4 V c).flushed 2 t = ((cfg4.win 2).blk t).view.read (Elt Ideal) (arr .f32 (mul 1024 f (tr g))) := by
  obtain ⟨e0, e1⟩ := index4_2 (grid4.coords t)
  show (cfg4.win 2).cut (grid4.coords t) ((dat4 V c).after 2 t) = _
  rw [after4_2]
  funext j
  obtain ⟨r, k, rfl⟩ : ∃ (r : Fin 1024) (k : Fin 1024), j = ix2 r k := ⟨j 0, j 1, eq_ix2 j⟩
  refine (out_proj_dx_block c _ _ _ _ _ _ _ _ _ _ _ _ (window4_0 V c h0 t) (window4_1 V c h1 t) r k).trans ?_
  rw [View.read_apply]
  have i0 : ((((cfg4.win 2).blk t).view.emb (ix2 r k)) 0).val = 1024 * ((grid4.coords t) 0).val + r.val := by
    show cc4_transform_2 (grid4.coords t) 0 * 1024 + 1 * r.val = _
    rw [e0]; omega
  have i1 : ((((cfg4.win 2).blk t).view.emb (ix2 r k)) 1).val = 1024 * ((grid4.coords t) 1).val + k.val := by
    show cc4_transform_2 (grid4.coords t) 1 * 1024 + 1 * k.val = _
    rw [e1]; omega
  show _ = (mul 1024 f (tr g)) ((((cfg4.win 2).blk t).view.emb (ix2 r k)) 0).val ((((cfg4.win 2).blk t).view.emb (ix2 r k)) 1).val
  rw [i0, i1]
  rfl

theorem final4 {f : ℕ → ℕ → EReal} (h0 : Holds (R := 4096) (C := 1024) (φ := .bf16) (V c main_v5) f) {g : ℕ → ℕ → EReal} (h1 : Holds (R := 1024) (C := 1024) (φ := .bf16) (V c main_v4) g) :
    (dat4 V c).arrAt 2 cfg4.N = arr .f32 (mul 1024 f (tr g)) :=
  (dat4 V c).arrAt_eq_of_cover 2 (arr .f32 (mul 1024 f (tr g))) (flushed4 V c h0 h1) fun i => by
    have h0' : (i 0 : Nat) < 4096 := (i 0).isLt
    have h1' : (i 1 : Nat) < 1024 := (i 1).isLt
    have hN : cfg4.N = 4 := N_4
    let t : Fin cfg4.N := ⟨1 * ((i 0 : Nat) / 1024) + (i 1 : Nat) / 1024, by omega⟩
    have ht : t.val = 1 * ((i 0 : Nat) / 1024) + (i 1 : Nat) / 1024 := rfl
    refine ⟨t, flush4_2 t, ?_⟩
    obtain ⟨c0, c1⟩ := coords4 t
    obtain ⟨e0, e1⟩ := index4_2 (grid4.coords t)
    show i ∈ ((View.whole main_v30).slice (win4_2.rect t)).set
    rw [View.set_slice_whole, Rect.mem_set_unit]
    intro a
    match a with
    | ⟨0, _⟩ => show cc4_transform_2 (grid4.coords t) 0 * 1024 ≤ (i 0 : Nat) ∧ (i 0 : Nat) < cc4_transform_2 (grid4.coords t) 0 * 1024 + 1024
                rw [e0, c0]; omega
    | ⟨1, _⟩ => show cc4_transform_2 (grid4.coords t) 1 * 1024 ≤ (i 1 : Nat) ∧ (i 1 : Nat) < cc4_transform_2 (grid4.coords t) 1 * 1024 + 1024
                rw [e1, c1]; omega

/-! ### `out_proj_dw` -/

theorem coords5 : ∀ t : Fin grid5.N, ((grid5.coords t 0).val = t.val / 1) ∧ ((grid5.coords t 1).val = t.val % 1) := by decide +kernel
theorem index5_0 : ∀ i : grid5.Coords, cc5_transform_0 i 0 = 0 ∧ cc5_transform_0 i 1 = (i 0).val := by decide +kernel
theorem index5_1 : ∀ i : grid5.Coords, cc5_transform_1 i 0 = 0 ∧ cc5_transform_1 i 1 = (i 1).val := by decide +kernel
theorem index5_2 : ∀ i : grid5.Coords, cc5_transform_2 i 0 = (i 0).val ∧ cc5_transform_2 i 1 = (i 1).val := by decide +kernel

theorem window5_0 {f : ℕ → ℕ → EReal} (h0 : Holds (R := 4096) (C := 1024) (φ := .bf16) (V c main_v3) f) (t : Fin cfg5.N) :
    Holds (R := 4096) (C := 1024) (φ := .bf16) (iblk5 V c 0 t) (cols (1024 * ((grid5.coords t) 0).val) f) := fun r k => by
  have b0 : (grid5.coords t 0).val < 1 := (grid5.coords t 0).isLt
  have b1 : (grid5.coords t 1).val < 1 := (grid5.coords t 1).isLt
  obtain ⟨e0, e1⟩ := index5_0 (grid5.coords t)
  unfold iblk5
  rw [View.read_apply]
  refine Eq.trans ?_ (h0 r ⟨1024 * ((grid5.coords t) 0).val + k, by omega⟩)
  refine congrArg (V c main_v3) (idx2_eq _ ?_ ?_)
  · show cc5_transform_0 (grid5.coords t) 0 * 4096 + 1 * r.val = r.val
    rw [e0]; omega
  · show cc5_transform_0 (grid5.coords t) 1 * 1024 + 1 * k.val = 1024 * ((grid5.coords t) 0).val + k.val
    rw [e1]; omega

theorem window5_1 {g : ℕ → ℕ → EReal} (h1 : Holds (R := 4096) (C := 1024) (φ := .bf16) (V c main_v5) g) (t : Fin cfg5.N) :
    Holds (R := 4096) (C := 1024) (φ := .bf16) (iblk5 V c 1 t) (cols (1024 * ((grid5.coords t) 1).val) g) := fun r k => by
  have b0 : (grid5.coords t 0).val < 1 := (grid5.coords t 0).isLt
  have b1 : (grid5.coords t 1).val < 1 := (grid5.coords t 1).isLt
  obtain ⟨e0, e1⟩ := index5_1 (grid5.coords t)
  unfold iblk5
  rw [View.read_apply]
  refine Eq.trans ?_ (h1 r ⟨1024 * ((grid5.coords t) 1).val + k, by omega⟩)
  refine congrArg (V c main_v5) (idx2_eq _ ?_ ?_)
  · show cc5_transform_1 (grid5.coords t) 0 * 4096 + 1 * r.val = r.val
    rw [e0]; omega
  · show cc5_transform_1 (grid5.coords t) 1 * 1024 + 1 * k.val = 1024 * ((grid5.coords t) 1).val + k.val
    rw [e1]; omega

theorem flushed5 {f : ℕ → ℕ → EReal} (h0 : Holds (R := 4096) (C := 1024) (φ := .bf16) (V c main_v3) f) {g : ℕ → ℕ → EReal} (h1 : Holds (R := 4096) (C := 1024) (φ := .bf16) (V c main_v5) g)
    (t : Fin cfg5.N) (hf : (cfg5.win 2).flush t = true) :
    (dat5 V c).flushed 2 t = ((cfg5.win 2).blk t).view.read (Elt Ideal) (arr .f32 (mul 4096 (tr f) g)) := by
  obtain ⟨e0, e1⟩ := index5_2 (grid5.coords t)
  show (cfg5.win 2).cut (grid5.coords t) ((dat5 V c).after 2 t) = _
  rw [after5_2]
  funext j
  obtain ⟨r, k, rfl⟩ : ∃ (r : Fin 1024) (k : Fin 1024), j = ix2 r k := ⟨j 0, j 1, eq_ix2 j⟩
  refine (out_proj_dw_block c _ _ _ _ _ _ _ _ _ _ _ _ (window5_0 V c h0 t) (window5_1 V c h1 t) r k).trans ?_
  rw [View.read_apply]
  have i0 : ((((cfg5.win 2).blk t).view.emb (ix2 r k)) 0).val = 1024 * ((grid5.coords t) 0).val + r.val := by
    show cc5_transform_2 (grid5.coords t) 0 * 1024 + 1 * r.val = _
    rw [e0]; omega
  have i1 : ((((cfg5.win 2).blk t).view.emb (ix2 r k)) 1).val = 1024 * ((grid5.coords t) 1).val + k.val := by
    show cc5_transform_2 (grid5.coords t) 1 * 1024 + 1 * k.val = _
    rw [e1]; omega
  show _ = (mul 4096 (tr f) g) ((((cfg5.win 2).blk t).view.emb (ix2 r k)) 0).val ((((cfg5.win 2).blk t).view.emb (ix2 r k)) 1).val
  rw [i0, i1]
  rfl

theorem final5 {f : ℕ → ℕ → EReal} (h0 : Holds (R := 4096) (C := 1024) (φ := .bf16) (V c main_v3) f) {g : ℕ → ℕ → EReal} (h1 : Holds (R := 4096) (C := 1024) (φ := .bf16) (V c main_v5) g) :
    (dat5 V c).arrAt 2 cfg5.N = arr .f32 (mul 4096 (tr f) g) :=
  (dat5 V c).arrAt_eq_of_cover 2 (arr .f32 (mul 4096 (tr f) g)) (flushed5 V c h0 h1) fun i => by
    have h0' : (i 0 : Nat) < 1024 := (i 0).isLt
    have h1' : (i 1 : Nat) < 1024 := (i 1).isLt
    have hN : cfg5.N = 1 := N_5
    let t : Fin cfg5.N := ⟨1 * ((i 0 : Nat) / 1024) + (i 1 : Nat) / 1024, by omega⟩
    have ht : t.val = 1 * ((i 0 : Nat) / 1024) + (i 1 : Nat) / 1024 := rfl
    refine ⟨t, flush5_2 t, ?_⟩
    obtain ⟨c0, c1⟩ := coords5 t
    obtain ⟨e0, e1⟩ := index5_2 (grid5.coords t)
    show i ∈ ((View.whole main_v31).slice (win5_2.rect t)).set
    rw [View.set_slice_whole, Rect.mem_set_unit]
    intro a
    match a with
    | ⟨0, _⟩ => show cc5_transform_2 (grid5.coords t) 0 * 1024 ≤ (i 0 : Nat) ∧ (i 0 : Nat) < cc5_transform_2 (grid5.coords t) 0 * 1024 + 1024
                rw [e0, c0]; omega
    | ⟨1, _⟩ => show cc5_transform_2 (grid5.coords t) 1 * 1024 ≤ (i 1 : Nat) ∧ (i 1 : Nat) < cc5_transform_2 (grid5.coords t) 1 * 1024 + 1024
                rw [e1, c1]; omega

end Cert.ProjIdeal.Lin

end
-- ==== Proof.ProjPack.lean ====
/- The input projection's columns in the order the calls take them, and back. -/
module

public import proofs.«01_k».proof.Proof.ProjBody
public import Idealize.ShloMosaic.Lib.Pointwise

@[expose] public section

set_option maxRecDepth 16384

noncomputable section

namespace Cert.ProjIdeal.Lin

open Idealize.ShloMosaic Idealize.ShloMosaic.TcCoe Idealize.ShloMosaic.Tactic
open Cert.ProjIdeal Cert.ProjIdeal.Gen
open Cert.MlpIdeal.Ffn (Holds mul tr rows cols arr idx2_eq)
open Finset (range)

/-- The matrix `f` of 2980 columns in the calls' order of 3072: five runs of columns move, and the gaps are zero. -/
def pack (f : ℕ → ℕ → EReal) (r c : ℕ) : EReal :=
  if c < 768 then f r c else if c < 1024 then f r (772 + (c - 768)) else if c < 2816 then f r (1188 + (c - 1024))
  else if c < 2944 then f r (1028 + (c - 2816)) else if c < 2948 then f r (768 + (c - 2944)) else if c < 3008 then 0
  else if c < 3040 then f r (1156 + (c - 3008)) else 0

/-- Where the calls' order keeps column `c`. -/
def place (c : ℕ) : ℕ :=
  if c < 768 then c else if c < 772 then 2944 + (c - 768) else if c < 1028 then 768 + (c - 772) else if c < 1156 then 2816 + (c - 1028)
  else if c < 1188 then 3008 + (c - 1156) else 1024 + (c - 1188)

/-- The columns in their own order again. -/
def unpack (f : ℕ → ℕ → EReal) (r c : ℕ) : EReal := f r (place c)

theorem pack_place (f : ℕ → ℕ → EReal) (r : ℕ) {c : ℕ} (hc : c < 2980) : pack f r (place c) = f r c := by
  unfold place
  by_cases h1 : c < 768
  · rw [if_pos h1]; unfold pack; rw [if_pos (by omega)]
  rw [if_neg h1]
  by_cases h2 : c < 772
  · rw [if_pos h2]; unfold pack
    rw [if_neg (by omega), if_neg (by omega), if_neg (by omega), if_neg (by omega), if_pos (by omega)]
    exact congrArg (f r) (by omega)
  rw [if_neg h2]
  by_cases h3 : c < 1028
  · rw [if_pos h3]; unfold pack
    rw [if_neg (by omega), if_pos (by omega)]
    exact congrArg (f r) (by omega)
  rw [if_neg h3]
  by_cases h4 : c < 1156
  · rw [if_pos h4]; unfold pack
    rw [if_neg (by omega), if_neg (by omega), if_neg (by omega), if_pos (by omega)]
    exact congrArg (f r) (by omega)
  rw [if_neg h4]
  by_cases h5 : c < 1188
  · rw [if_pos h5]; unfold pack
    rw [if_neg (by omega), if_neg (by omega), if_neg (by omega), if_neg (by omega), if_neg (by omega), if_neg (by omega), if_pos (by omega)]
    exact congrArg (f r) (by omega)
  rw [if_neg h5]
  unfold pack
  rw [if_neg (by omega), if_neg (by omega), if_pos (by omega)]
  exact congrArg (f r) (by omega)

/-! The cases of the two orders. -/
theorem pack_0 (f : ℕ → ℕ → EReal) (r : ℕ) {c : ℕ} (h0 : c < 768) : pack f r c = f r c := by
  unfold pack
  rw [if_pos (by omega)]
theorem pack_1 (f : ℕ → ℕ → EReal) (r : ℕ) {c : ℕ} (h0 : ¬c < 768) (h1 : c - 768 < 256) : pack f r c = f r (772 + (c - 768)) := by
  unfold pack
  rw [if_neg (by omega), if_pos (by omega)]
theorem pack_2 (f : ℕ → ℕ → EReal) (r : ℕ) {c : ℕ} (h0 : ¬c < 768) (h1 : ¬c - 768 < 256) (h2 : c - 768 - 256 < 1792) : pack f r c = f r (1188 + (c - 768 - 256)) := by
  unfold pack
  rw [if_neg (by omega), if_neg (by omega), if_pos (by omega)]
  exact congrArg (f r) (by omega)
theorem pack_3 (f : ℕ → ℕ → EReal) (r : ℕ) {c : ℕ} (h0 : ¬c < 768) (h1 : ¬c - 768 < 256) (h2 : ¬c - 768 - 256 < 1792) (h3 : c - 768 - 256 - 1792 < 128) : pack f r c = f r (1028 + (c - 768 - 256 - 1792)) := by
  unfold pack
  rw [if_neg (by omega), if_neg (by omega), if_neg (by omega), if_pos (by omega)]
  exact congrArg (f r) (by omega)
theorem pack_4 (f : ℕ → ℕ → EReal) (r : ℕ) {c : ℕ} (h0 : ¬c < 768) (h1 : ¬c - 768 < 256) (h2 : ¬c - 768 - 256 < 1792) (h3 : ¬c - 768 - 256 - 1792 < 128) (h4 : c - 768 - 256 - 1792 - 128 < 4) : pack f r c = f r (768 + (c - 768 - 256 - 1792 - 128)) := by
  unfold pack
  rw [if_neg (by omega), if_neg (by omega), if_neg (by omega), if_neg (by omega), if_pos (by omega)]
  exact congrArg (f r) (by omega)
theorem pack_5 (f : ℕ → ℕ → EReal) (r : ℕ) {c : ℕ} (h0 : ¬c < 768) (h1 : ¬c - 768 < 256) (h2 : ¬c - 768 - 256 < 1792) (h3 : ¬c - 768 - 256 - 1792 < 128) (h4 : ¬c - 768 - 256 - 1792 - 128 < 4) (h5 : c - 768 - 256 - 1792 - 128 - 4 < 60) : pack f r c = 0 := by
  unfold pack
  rw [if_neg (by omega), if_neg (by omega), if_neg (by omega), if_neg (by omega), if_neg (by omega), if_pos (by omega)]
theorem pack_6 (f : ℕ → ℕ → EReal) (r : ℕ) {c : ℕ} (h0 : ¬c < 768) (h1 : ¬c - 768 < 256) (h2 : ¬c - 768 - 256 < 1792) (h3 : ¬c - 768 - 256 - 1792 < 128) (h4 : ¬c - 768 - 256 - 1792 - 128 < 4) (h5 : ¬c - 768 - 256 - 1792 - 128 - 4 < 60) (h6 : c - 768 - 256 - 1792 - 128 - 4 - 60 < 32) : pack f r c = f r (1156 + (c - 768 - 256 - 1792 - 128 - 4 - 60)) := by
  unfold pack
  rw [if_neg (by omega), if_neg (by omega), if_neg (by omega), if_neg (by omega), if_neg (by omega), if_neg (by omega), if_pos (by omega)]
  exact congrArg (f r) (by omega)
theorem pack_7 (f : ℕ → ℕ → EReal) (r : ℕ) {c : ℕ} (h0 : ¬c < 768) (h1 : ¬c - 768 < 256) (h2 : ¬c - 768 - 256 < 1792) (h3 : ¬c - 768 - 256 - 1792 < 128) (h4 : ¬c - 768 - 256 - 1792 - 128 < 4) (h5 : ¬c - 768 - 256 - 1792 - 128 - 4 < 60) (h6 : ¬c - 768 - 256 - 1792 - 128 - 4 - 60 < 32) : pack f r c = 0 := by
  unfold pack
  rw [if_neg (by omega), if_neg (by omega), if_neg (by omega), if_neg (by omega), if_neg (by omega), if_neg (by omega), if_neg (by omega)]

theorem place_0 {c : ℕ} (h0 : c < 768) : place c = c := by
  unfold place
  rw [if_pos (by omega)]
theorem place_1 {c : ℕ} (h0 : ¬c < 768) (h1 : c - 768 < 4) : place c = 2944 + (c - 768) := by
  unfold place
  rw [if_neg (by omega), if_pos (by omega)]
theorem place_2 {c : ℕ} (h0 : ¬c < 768) (h1 : ¬c - 768 < 4) (h2 : c - 768 - 4 < 256) : place c = 768 + (c - 768 - 4) := by
  unfold place
  rw [if_neg (by omega), if_neg (by omega), if_pos (by omega)]
  omega
theorem place_3 {c : ℕ} (h0 : ¬c < 768) (h1 : ¬c - 768 < 4) (h2 : ¬c - 768 - 4 < 256) (h3 : c - 768 - 4 - 256 < 128) : place c = 2816 + (c - 768 - 4 - 256) := by
  unfold place
  rw [if_neg (by omega), if_neg (by omega), if_neg (by omega), if_pos (by omega)]
  omega
theorem place_4 {c : ℕ} (h0 : ¬c < 768) (h1 : ¬c - 768 < 4) (h2 : ¬c - 768 - 4 < 256) (h3 : ¬c - 768 - 4 - 256 < 128) (h4 : c - 768 - 4 - 256 - 128 < 32) : place c = 3008 + (c - 768 - 4 - 256 - 128) := by
  unfold place
  rw [if_neg (by omega), if_neg (by omega), if_neg (by omega), if_neg (by omega), if_pos (by omega)]
  omega
theorem place_5 {c : ℕ} (h0 : ¬c < 768) (h1 : ¬c - 768 < 4) (h2 : ¬c - 768 - 4 < 256) (h3 : ¬c - 768 - 4 - 256 < 128) (h4 : ¬c - 768 - 4 - 256 - 128 < 32) : place c = 1024 + (c - 768 - 4 - 256 - 128 - 32) := by
  unfold place
  rw [if_neg (by omega), if_neg (by omega), if_neg (by omega), if_neg (by omega), if_neg (by omega)]
  omega

/-- A sum over the packed columns of a product of two packed matrices is the sum over the columns themselves. -/
theorem mul_pack (f g : ℕ → ℕ → EReal) : mul 3072 (pack f) (tr (pack g)) = mul 2980 f (tr g) := by
  funext r c
  show (∑ k ∈ range (768 + (256 + (1792 + (128 + (4 + (60 + (32 + 32))))))), pack f r k * pack g c k)
    = ∑ k ∈ range (768 + (4 + (256 + (128 + (32 + 1792))))), f r k * g c k
  simp only [Finset.sum_range_add]
  have s0 : (∑ x ∈ range 768, pack f r (x) * pack g c (x)) = ∑ x ∈ range 768, f r x * g c x := Finset.sum_congr rfl fun x hx => by
    have hx' := Finset.mem_range.mp hx
    rw [pack_0 f r (by omega), pack_0 g c (by omega)]
  have s1 : (∑ x ∈ range 256, pack f r (768 + (x)) * pack g c (768 + (x))) = ∑ x ∈ range 256, f r (772 + x) * g c (772 + x) := Finset.sum_congr rfl fun x hx => by
    have hx' := Finset.mem_range.mp hx
    have e : 772 + (768 + (x) - 768) = 772 + x := by omega
    rw [pack_1 f r (by omega) (by omega), pack_1 g c (by omega) (by omega), e]
  have s2 : (∑ x ∈ range 1792, pack f r (768 + (256 + (x))) * pack g c (768 + (256 + (x)))) = ∑ x ∈ range 1792, f r (1188 + x) * g c (1188 + x) := Finset.sum_congr rfl fun x hx => by
    have hx' := Finset.mem_range.mp hx
    have e : 1188 + (768 + (256 + (x)) - 768 - 256) = 1188 + x := by omega
    rw [pack_2 f r (by omega) (by omega) (by omega), pack_2 g c (by omega) (by omega) (by omega), e]
  have s3 : (∑ x ∈ range 128, pack f r (768 + (256 + (1792 + (x)))) * pack g c (768 + (256 + (1792 + (x))))) = ∑ x ∈ range 128, f r (1028 + x) * g c (1028 + x) := Finset.sum_congr rfl fun x hx => by
    have hx' := Finset.mem_range.mp hx
    have e : 1028 + (768 + (256 + (1792 + (x))) - 768 - 256 - 1792) = 1028 + x := by omega
    rw [pack_3 f r (by omega) (by omega) (by omega) (by omega), pack_3 g c (by omega) (by omega) (by omega) (by omega), e]
  have s4 : (∑ x ∈ range 4, pack f r (768 + (256 + (1792 + (128 + (x))))) * pack g c (768 + (256 + (1792 + (128 + (x)))))) = ∑ x ∈ range 4, f r (768 + x) * g c (768 + x) := Finset.sum_congr rfl fun x hx => by
    have hx' := Finset.mem_range.mp hx
    have e : 768 + (768 + (256 + (1792 + (128 + (x)))) - 768 - 256 - 1792 - 128) = 768 + x := by omega
    rw [pack_4 f r (by omega) (by omega) (by omega) (by omega) (by omega), pack_4 g c (by omega) (by omega) (by omega) (by omega) (by omega), e]
  have s5 : (∑ x ∈ range 60, pack f r (768 + (256 + (1792 + (128 + (4 + (x)))))) * pack g c (768 + (256 + (1792 + (128 + (4 + (x))))))) = 0 := Finset.sum_eq_zero fun x hx => by
    have hx' := Finset.mem_range.mp hx
    rw [pack_5 f r (by omega) (by omega) (by omega) (by omega) (by omega) (by omega), zero_mul]
  have s6 : (∑ x ∈ range 32, pack f r (768 + (256 + (1792 + (128 + (4 + (60 + (x))))))) * pack g c (768 + (256 + (1792 + (128 + (4 + (60 + (x)))))))) = ∑ x ∈ range 32, f r (1156 + x) * g c (1156 + x) := Finset.sum_congr rfl fun x hx => by
    have hx' := Finset.mem_range.mp hx
    have e : 1156 + (768 + (256 + (1792 + (128 + (4 + (60 + (x)))))) - 768 - 256 - 1792 - 128 - 4 - 60) = 1156 + x := by omega
    rw [pack_6 f r (by omega) (by omega) (by omega) (by omega) (by omega) (by omega) (by omega), pack_6 g c (by omega) (by omega) (by omega) (by omega) (by omega) (by omega) (by omega), e]
  have s7 : (∑ x ∈ range 32, pack f r (768 + (256 + (1792 + (128 + (4 + (60 + (32 + (x)))))))) * pack g c (768 + (256 + (1792 + (128 + (4 + (60 + (32 + (x))))))))) = 0 := Finset.sum_eq_zero fun x hx => by
    have hx' := Finset.mem_range.mp hx
    rw [pack_7 f r (by omega) (by omega) (by omega) (by omega) (by omega) (by omega) (by omega), zero_mul]
  rw [s0, s1, s2, s3, s4, s5, s6, s7]
  have t2 : (∑ x ∈ range 256, f r (768 + (4 + (x))) * g c (768 + (4 + (x)))) = ∑ x ∈ range 256, f r (772 + x) * g c (772 + x) := Finset.sum_congr rfl fun x _ => by
    rw [show 768 + (4 + (x)) = 772 + x by omega]
  have t3 : (∑ x ∈ range 128, f r (768 + (4 + (256 + (x)))) * g c (768 + (4 + (256 + (x))))) = ∑ x ∈ range 128, f r (1028 + x) * g c (1028 + x) := Finset.sum_congr rfl fun x _ => by
    rw [show 768 + (4 + (256 + (x))) = 1028 + x by omega]
  have t4 : (∑ x ∈ range 32, f r (768 + (4 + (256 + (128 + (x))))) * g c (768 + (4 + (256 + (128 + (x)))))) = ∑ x ∈ range 32, f r (1156 + x) * g c (1156 + x) := Finset.sum_congr rfl fun x _ => by
    rw [show 768 + (4 + (256 + (128 + (x)))) = 1156 + x by omega]
  have t5 : (∑ x ∈ range 1792, f r (768 + (4 + (256 + (128 + (32 + (x)))))) * g c (768 + (4 + (256 + (128 + (32 + (x))))))) = ∑ x ∈ range 1792, f r (1188 + x) * g c (1188 + x) := Finset.sum_congr rfl fun x _ => by
    rw [show 768 + (4 + (256 + (128 + (32 + (x))))) = 1188 + x by omega]
  rw [t2, t3, t4, t5]
  abel

/-- The host's packing of a matrix with 1024 rows. -/
def packed1024 (v : FVec Ideal S1024x2980 .bf16) : FVec Ideal S1024x3072 .bf16 :=
  concatenate S1024x3072 1 [⟨S1024x768, extractStridedSlice S1024x768 ![0, 0] v slices_S1024x2980_S1024x768_0_0⟩, ⟨S1024x256, extractStridedSlice S1024x256 ![0, 772] v slices_S1024x2980_S1024x256_0_772⟩,
    ⟨S1024x1792, extractStridedSlice S1024x1792 ![0, 1188] v slices_S1024x2980_S1024x1792_0_1188⟩, ⟨S1024x128, extractStridedSlice S1024x128 ![0, 1028] v slices_S1024x2980_S1024x128_0_1028⟩,
    ⟨S1024x128, concatenate S1024x128 1 [⟨S1024x4, extractStridedSlice S1024x4 ![0, 768] v slices_S1024x2980_S1024x4_0_768⟩,
      ⟨S1024x60, broadcastInDim S1024x60 ![] bcast_S_S1024x60 (constant S_ .bf16 0x0000#16 : FVec Ideal S_ .bf16)⟩, ⟨S1024x32, extractStridedSlice S1024x32 ![0, 1156] v slices_S1024x2980_S1024x32_0_1156⟩,
      ⟨S1024x32, broadcastInDim S1024x32 ![] bcast_S_S1024x32 (constant S_ .bf16 0x0000#16 : FVec Ideal S_ .bf16)⟩] concatenates_S1024x4_S1024x60_S1024x32_S1024x32_S1024x128_d1⟩]
    concatenates_S1024x768_S1024x256_S1024x1792_S1024x128_S1024x128_S1024x3072_d1

/-- The host's packing of a matrix with 4096 rows. -/
def packed4096 (v : FVec Ideal S4096x2980 .bf16) : FVec Ideal S4096x3072 .bf16 :=
  concatenate S4096x3072 1 [⟨S4096x768, extractStridedSlice S4096x768 ![0, 0] v slices_S4096x2980_S4096x768_0_0⟩, ⟨S4096x256, extractStridedSlice S4096x256 ![0, 772] v slices_S4096x2980_S4096x256_0_772⟩,
    ⟨S4096x1792, extractStridedSlice S4096x1792 ![0, 1188] v slices_S4096x2980_S4096x1792_0_1188⟩, ⟨S4096x128, extractStridedSlice S4096x128 ![0, 1028] v slices_S4096x2980_S4096x128_0_1028⟩,
    ⟨S4096x128, concatenate S4096x128 1 [⟨S4096x4, extractStridedSlice S4096x4 ![0, 768] v slices_S4096x2980_S4096x4_0_768⟩,
      ⟨S4096x60, broadcastInDim S4096x60 ![] bcast_S_S4096x60 (constant S_ .bf16 0x0000#16 : FVec Ideal S_ .bf16)⟩, ⟨S4096x32, extractStridedSlice S4096x32 ![0, 1156] v slices_S4096x2980_S4096x32_0_1156⟩,
      ⟨S4096x32, broadcastInDim S4096x32 ![] bcast_S_S4096x32 (constant S_ .bf16 0x0000#16 : FVec Ideal S_ .bf16)⟩] concatenates_S4096x4_S4096x60_S4096x32_S4096x32_S4096x128_d1⟩]
    concatenates_S4096x768_S4096x256_S4096x1792_S4096x128_S4096x128_S4096x3072_d1

/-- The host's unpacking of a matrix with 4096 rows. -/
def unpacked4096_f32 (v : FVec Ideal S4096x3072 .f32) : FVec Ideal S4096x2980 .f32 :=
  concatenate S4096x2980 1 [⟨S4096x768, extractStridedSlice S4096x768 ![0, 0] v slices_S4096x3072_S4096x768_0_0⟩, ⟨S4096x4, extractStridedSlice S4096x4 ![0, 2944] v slices_S4096x3072_S4096x4_0_2944⟩,
    ⟨S4096x256, extractStridedSlice S4096x256 ![0, 768] v slices_S4096x3072_S4096x256_0_768⟩, ⟨S4096x128, extractStridedSlice S4096x128 ![0, 2816] v slices_S4096x3072_S4096x128_0_2816⟩,
    ⟨S4096x32, extractStridedSlice S4096x32 ![0, 3008] v slices_S4096x3072_S4096x32_0_3008⟩, ⟨S4096x1792, extractStridedSlice S4096x1792 ![0, 1024] v slices_S4096x3072_S4096x1792_0_1024⟩]
    concatenates_S4096x768_S4096x4_S4096x256_S4096x128_S4096x32_S4096x1792_S4096x2980_d1

/-- The host's unpacking of a matrix with 4096 rows. -/
def unpacked4096_bf16 (v : FVec Ideal S4096x3072 .bf16) : FVec Ideal S4096x2980 .bf16 :=
  concatenate S4096x2980 1 [⟨S4096x768, extractStridedSlice S4096x768 ![0, 0] v slices_S4096x3072_S4096x768_0_0⟩, ⟨S4096x4, extractStridedSlice S4096x4 ![0, 2944] v slices_S4096x3072_S4096x4_0_2944⟩,
    ⟨S4096x256, extractStridedSlice S4096x256 ![0, 768] v slices_S4096x3072_S4096x256_0_768⟩, ⟨S4096x128, extractStridedSlice S4096x128 ![0, 2816] v slices_S4096x3072_S4096x128_0_2816⟩,
    ⟨S4096x32, extractStridedSlice S4096x32 ![0, 3008] v slices_S4096x3072_S4096x32_0_3008⟩, ⟨S4096x1792, extractStridedSlice S4096x1792 ![0, 1024] v slices_S4096x3072_S4096x1792_0_1024⟩]
    concatenates_S4096x768_S4096x4_S4096x256_S4096x128_S4096x32_S4096x1792_S4096x2980_d1

/-- The host's unpacking of a matrix with 1024 rows. -/
def unpacked1024_f32 (v : FVec Ideal S1024x3072 .f32) : FVec Ideal S1024x2980 .f32 :=
  concatenate S1024x2980 1 [⟨S1024x768, extractStridedSlice S1024x768 ![0, 0] v slices_S1024x3072_S1024x768_0_0⟩, ⟨S1024x4, extractStridedSlice S1024x4 ![0, 2944] v slices_S1024x3072_S1024x4_0_2944⟩,
    ⟨S1024x256, extractStridedSlice S1024x256 ![0, 768] v slices_S1024x3072_S1024x256_0_768⟩, ⟨S1024x128, extractStridedSlice S1024x128 ![0, 2816] v slices_S1024x3072_S1024x128_0_2816⟩,
    ⟨S1024x32, extractStridedSlice S1024x32 ![0, 3008] v slices_S1024x3072_S1024x32_0_3008⟩, ⟨S1024x1792, extractStridedSlice S1024x1792 ![0, 1024] v slices_S1024x3072_S1024x1792_0_1024⟩]
    concatenates_S1024x768_S1024x4_S1024x256_S1024x128_S1024x32_S1024x1792_S1024x2980_d1

theorem holds_packed1024 {v : FVec Ideal S1024x2980 .bf16} {f : ℕ → ℕ → EReal} (h : Holds v f) : Holds (packed1024 v) (pack f) := fun r c => by
  have hc := c.isLt
  pointwise [packed1024]
  by_cases h0 : c.val < 768
  · rw [dif_pos h0]
    exact (h r _).trans (pack_0 f r h0).symm
  rw [dif_neg h0]
  by_cases h1 : c.val - 768 < 256
  · rw [dif_pos h1]
    exact (h r _).trans (pack_1 f r h0 h1).symm
  rw [dif_neg h1]
  by_cases h2 : c.val - 768 - 256 < 1792
  · rw [dif_pos h2]
    exact (h r _).trans (pack_2 f r h0 h1 h2).symm
  rw [dif_neg h2]
  by_cases h3 : c.val - 768 - 256 - 1792 < 128
  · rw [dif_pos h3]
    exact (h r _).trans (pack_3 f r h0 h1 h2 h3).symm
  rw [dif_neg h3]
  by_cases h4 : c.val - 768 - 256 - 1792 - 128 < 4
  · rw [dif_pos h4]
    exact (h r _).trans (pack_4 f r h0 h1 h2 h3 h4).symm
  rw [dif_neg h4]
  by_cases h5 : c.val - 768 - 256 - 1792 - 128 - 4 < 60
  · rw [dif_pos h5]
    exact (pack_5 f r h0 h1 h2 h3 h4 h5).symm
  rw [dif_neg h5]
  by_cases h6 : c.val - 768 - 256 - 1792 - 128 - 4 - 60 < 32
  · rw [dif_pos h6]
    exact (h r _).trans (pack_6 f r h0 h1 h2 h3 h4 h5 h6).symm
  rw [dif_neg h6]
  exact (pack_7 f r h0 h1 h2 h3 h4 h5 h6).symm

theorem holds_packed4096 {v : FVec Ideal S4096x2980 .bf16} {f : ℕ → ℕ → EReal} (h : Holds v f) : Holds (packed4096 v) (pack f) := fun r c => by
  have hc := c.isLt
  pointwise [packed4096]
  by_cases h0 : c.val < 768
  · rw [dif_pos h0]
    exact (h r _).trans (pack_0 f r h0).symm
  rw [dif_neg h0]
  by_cases h1 : c.val - 768 < 256
  · rw [dif_pos h1]
    exact (h r _).trans (pack_1 f r h0 h1).symm
  rw [dif_neg h1]
  by_cases h2 : c.val - 768 - 256 < 1792
  · rw [dif_pos h2]
    exact (h r _).trans (pack_2 f r h0 h1 h2).symm
  rw [dif_neg h2]
  by_cases h3 : c.val - 768 - 256 - 1792 < 128
  · rw [dif_pos h3]
    exact (h r _).trans (pack_3 f r h0 h1 h2 h3).symm
  rw [dif_neg h3]
  by_cases h4 : c.val - 768 - 256 - 1792 - 128 < 4
  · rw [dif_pos h4]
    exact (h r _).trans (pack_4 f r h0 h1 h2 h3 h4).symm
  rw [dif_neg h4]
  by_cases h5 : c.val - 768 - 256 - 1792 - 128 - 4 < 60
  · rw [dif_pos h5]
    exact (pack_5 f r h0 h1 h2 h3 h4 h5).symm
  rw [dif_neg h5]
  by_cases h6 : c.val - 768 - 256 - 1792 - 128 - 4 - 60 < 32
  · rw [dif_pos h6]
    exact (h r _).trans (pack_6 f r h0 h1 h2 h3 h4 h5 h6).symm
  rw [dif_neg h6]
  exact (pack_7 f r h0 h1 h2 h3 h4 h5 h6).symm

theorem holds_unpacked4096_f32 {v : FVec Ideal S4096x3072 .f32} {f : ℕ → ℕ → EReal} (h : Holds v f) : Holds (unpacked4096_f32 v) (unpack f) := fun r c => by
  have hc := c.isLt
  pointwise [unpacked4096_f32]
  by_cases h0 : c.val < 768
  · rw [dif_pos h0]
    exact (h r _).trans (congrArg (f r) (place_0 h0).symm)
  rw [dif_neg h0]
  by_cases h1 : c.val - 768 < 4
  · rw [dif_pos h1]
    exact (h r _).trans (congrArg (f r) (place_1 h0 h1).symm)
  rw [dif_neg h1]
  by_cases h2 : c.val - 768 - 4 < 256
  · rw [dif_pos h2]
    exact (h r _).trans (congrArg (f r) (place_2 h0 h1 h2).symm)
  rw [dif_neg h2]
  by_cases h3 : c.val - 768 - 4 - 256 < 128
  · rw [dif_pos h3]
    exact (h r _).trans (congrArg (f r) (place_3 h0 h1 h2 h3).symm)
  rw [dif_neg h3]
  by_cases h4 : c.val - 768 - 4 - 256 - 128 < 32
  · rw [dif_pos h4]
    exact (h r _).trans (congrArg (f r) (place_4 h0 h1 h2 h3 h4).symm)
  rw [dif_neg h4]
  exact (h r _).trans (congrArg (f r) (place_5 h0 h1 h2 h3 h4).symm)

theorem holds_unpacked4096_bf16 {v : FVec Ideal S4096x3072 .bf16} {f : ℕ → ℕ → EReal} (h : Holds v f) : Holds (unpacked4096_bf16 v) (unpack f) := fun r c => by
  have hc := c.isLt
  pointwise [unpacked4096_bf16]
  by_cases h0 : c.val < 768
  · rw [dif_pos h0]
    exact (h r _).trans (congrArg (f r) (place_0 h0).symm)
  rw [dif_neg h0]
  by_cases h1 : c.val - 768 < 4
  · rw [dif_pos h1]
    exact (h r _).trans (congrArg (f r) (place_1 h0 h1).symm)
  rw [dif_neg h1]
  by_cases h2 : c.val - 768 - 4 < 256
  · rw [dif_pos h2]
    exact (h r _).trans (congrArg (f r) (place_2 h0 h1 h2).symm)
  rw [dif_neg h2]
  by_cases h3 : c.val - 768 - 4 - 256 < 128
  · rw [dif_pos h3]
    exact (h r _).trans (congrArg (f r) (place_3 h0 h1 h2 h3).symm)
  rw [dif_neg h3]
  by_cases h4 : c.val - 768 - 4 - 256 - 128 < 32
  · rw [dif_pos h4]
    exact (h r _).trans (congrArg (f r) (place_4 h0 h1 h2 h3 h4).symm)
  rw [dif_neg h4]
  exact (h r _).trans (congrArg (f r) (place_5 h0 h1 h2 h3 h4).symm)

theorem holds_unpacked1024_f32 {v : FVec Ideal S1024x3072 .f32} {f : ℕ → ℕ → EReal} (h : Holds v f) : Holds (unpacked1024_f32 v) (unpack f) := fun r c => by
  have hc := c.isLt
  pointwise [unpacked1024_f32]
  by_cases h0 : c.val < 768
  · rw [dif_pos h0]
    exact (h r _).trans (congrArg (f r) (place_0 h0).symm)
  rw [dif_neg h0]
  by_cases h1 : c.val - 768 < 4
  · rw [dif_pos h1]
    exact (h r _).trans (congrArg (f r) (place_1 h0 h1).symm)
  rw [dif_neg h1]
  by_cases h2 : c.val - 768 - 4 < 256
  · rw [dif_pos h2]
    exact (h r _).trans (congrArg (f r) (place_2 h0 h1 h2).symm)
  rw [dif_neg h2]
  by_cases h3 : c.val - 768 - 4 - 256 < 128
  · rw [dif_pos h3]
    exact (h r _).trans (congrArg (f r) (place_3 h0 h1 h2 h3).symm)
  rw [dif_neg h3]
  by_cases h4 : c.val - 768 - 4 - 256 - 128 < 32
  · rw [dif_pos h4]
    exact (h r _).trans (congrArg (f r) (place_4 h0 h1 h2 h3 h4).symm)
  rw [dif_neg h4]
  exact (h r _).trans (congrArg (f r) (place_5 h0 h1 h2 h3 h4).symm)

end Cert.ProjIdeal.Lin

end
-- ==== Proof.ProjEntry.lean ====
/- What the two projections' host lines hand to the calls, and what they make of the results. -/
module

public import proofs.«01_k».proof.Proof.ProjPack
public import Idealize.ShloMosaic.Lib.StableHlo.Run

@[expose] public section

set_option maxRecDepth 16384

noncomputable section

namespace Cert.ProjIdeal.Lin

open Idealize.ShloMosaic Idealize.ShloMosaic.TcCoe Idealize.ShloMosaic.Tactic
open Cert.ProjIdeal Cert.ProjIdeal.Gen

variable (m : (ℓ : Loc nD τ sig) → Buf (Elt Ideal) ℓ) (ρ : Dev nD → PrngReg) (c : Dev nD)

theorem entry_h : W1 m ρ c (Proc.devRef .tc main_v0) = truncf (F := Ideal) (φ := .f32) .bf16 (m ((c.tc : Thread nD τ).loc main_arg0)) bitsLt_bf16_f32 := by
  show StableHlo.after hostOps0 _ (Proc.devRef .tc main_v0) = _
  after_results
theorem entry_mixed : W1 m ρ c (Proc.devRef .tc main_v3) = truncf (F := Ideal) (φ := .f32) .bf16 (m ((c.tc : Thread nD τ).loc main_arg3)) bitsLt_bf16_f32 := by
  show StableHlo.after hostOps0 _ (Proc.devRef .tc main_v3) = _
  after_results
theorem entry_w_out : W1 m ρ c (Proc.devRef .tc main_v4) = truncf (F := Ideal) (φ := .f32) .bf16 (m ((c.tc : Thread nD τ).loc main_arg4)) bitsLt_bf16_f32 := by
  show StableHlo.after hostOps0 _ (Proc.devRef .tc main_v4) = _
  after_results
theorem entry_dmix : W1 m ρ c (Proc.devRef .tc main_v5) = truncf (F := Ideal) (φ := .f32) .bf16 (m ((c.tc : Thread nD τ).loc main_arg5)) bitsLt_bf16_f32 := by
  show StableHlo.after hostOps0 _ (Proc.devRef .tc main_v5) = _
  after_results
theorem entry_w_in : W1 m ρ c (Proc.devRef .tc main_v15) = packed1024 (truncf (F := Ideal) (φ := .f32) .bf16 (m ((c.tc : Thread nD τ).loc main_arg1)) bitsLt_bf16_f32) := by
  show StableHlo.after hostOps0 _ (Proc.devRef .tc main_v15) = _
  after_results
  rfl
theorem entry_dproj : W1 m ρ c (Proc.devRef .tc main_v25) = packed4096 (truncf (F := Ideal) (φ := .f32) .bf16 (m ((c.tc : Thread nD τ).loc main_arg2)) bitsLt_bf16_f32) := by
  show StableHlo.after hostOps0 _ (Proc.devRef .tc main_v25) = _
  after_results
  rfl
theorem exit_proj : W8 m ρ c (Proc.devRef .tc main_v38) = unpacked4096_f32 (W7 m ρ c (Proc.devRef .tc main_v26_0)) := by
  show StableHlo.after hostOps6 _ (Proc.devRef .tc main_v38) = _
  after_results
  rfl
theorem exit_projb : W8 m ρ c (Proc.devRef .tc main_v45) = unpacked4096_bf16 (W7 m ρ c (Proc.devRef .tc main_v26_1)) := by
  show StableHlo.after hostOps6 _ (Proc.devRef .tc main_v45) = _
  after_results
  rfl
theorem exit_dw_in : W8 m ρ c (Proc.devRef .tc main_v52) = unpacked1024_f32 (W7 m ρ c (Proc.devRef .tc main_v28)) := by
  show StableHlo.after hostOps6 _ (Proc.devRef .tc main_v52) = _
  after_results
  rfl

end Cert.ProjIdeal.Lin

end
-- ==== Proof.ProjResult.lean ====
/- The two projections' run: its six calls leave both outputs and the gradients of both inputs and of both weights. -/
module

public import proofs.«01_k».proof.Proof.ProjArrays
public import proofs.«01_k».proof.Proof.ProjEntry
public import proofs.«01_k».proof.Proof.MlpEntry

@[expose] public section

set_option maxRecDepth 16384

noncomputable section

namespace Cert.ProjIdeal.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen
open Cert.MlpIdeal.Ffn

local notation "𝕄" => MT nD τ sig Unit (Elt Ideal) ℕ (UR sig nD τ) ℕ

variable (m : (ℓ : Loc nD τ sig) → Buf (Elt Ideal) ℓ) (ρ : Dev nD → PrngReg)

/-- The arguments hold the numbers `H` (the layer's input), `W` (the input weight), `D` (the gradient of its product), `X` (the
    mixers' output), `O` (the output weight) and `E` (the gradient of its product). -/
structure Args (c : Dev nD) (H W D X O E : ℕ → ℕ → EReal) : Prop where
  h : Holds (R := 4096) (C := 1024) (φ := .f32) (m ((c.tc : Thread nD τ).loc main_arg0)) H
  w_in : Holds (R := 1024) (C := 2980) (φ := .f32) (m ((c.tc : Thread nD τ).loc main_arg1)) W
  dproj : Holds (R := 4096) (C := 2980) (φ := .f32) (m ((c.tc : Thread nD τ).loc main_arg2)) D
  mixed : Holds (R := 4096) (C := 1024) (φ := .f32) (m ((c.tc : Thread nD τ).loc main_arg3)) X
  w_out : Holds (R := 1024) (C := 1024) (φ := .f32) (m ((c.tc : Thread nD τ).loc main_arg4)) O
  dmix : Holds (R := 4096) (C := 1024) (φ := .f32) (m ((c.tc : Thread nD τ).loc main_arg5)) E

theorem unpack_mul {K : ℕ} (f g : ℕ → ℕ → EReal) (r : ℕ) {c : ℕ} (hc : c < 2980) : unpack (mul K f (pack g)) r c = mul K f g r c := by
  unfold unpack mul
  exact Finset.sum_congr rfl fun k _ => by rw [pack_place g k hc]

section Contents
variable {c : Dev nD} {H W D X O E : ℕ → ℕ → EReal} (a : Args m c H W D X O E)
include a

/-! What the calls find. -/
theorem e1_h : Holds (R := 4096) (C := 1024) (φ := .bf16) (V1 m ρ c main_v0) H := by
  rw [show V1 m ρ c main_v0 = _ from entry_h m ρ c]; exact a.h.trunc _
theorem e2_h : Holds (R := 4096) (C := 1024) (φ := .bf16) (V2 m ρ c main_v0) H := by
  rw [show V2 m ρ c main_v0 = V1 m ρ c main_v0 from W2_of m ρ c main_v0 (by decide)]; exact e1_h m ρ a
theorem e3_h : Holds (R := 4096) (C := 1024) (φ := .bf16) (V3 m ρ c main_v0) H := by
  rw [show V3 m ρ c main_v0 = V2 m ρ c main_v0 from W3_of m ρ c main_v0 (by decide)]; exact e2_h m ρ a
theorem e1_w_in : Holds (R := 1024) (C := 3072) (φ := .bf16) (V1 m ρ c main_v15) (pack W) := by
  rw [show V1 m ρ c main_v15 = _ from entry_w_in m ρ c]; exact holds_packed1024 (a.w_in.trunc _)
theorem e2_w_in : Holds (R := 1024) (C := 3072) (φ := .bf16) (V2 m ρ c main_v15) (pack W) := by
  rw [show V2 m ρ c main_v15 = V1 m ρ c main_v15 from W2_of m ρ c main_v15 (by decide)]; exact e1_w_in m ρ a
theorem e1_dproj : Holds (R := 4096) (C := 3072) (φ := .bf16) (V1 m ρ c main_v25) (pack D) := by
  rw [show V1 m ρ c main_v25 = _ from entry_dproj m ρ c]; exact holds_packed4096 (a.dproj.trunc _)
theorem e2_dproj : Holds (R := 4096) (C := 3072) (φ := .bf16) (V2 m ρ c main_v25) (pack D) := by
  rw [show V2 m ρ c main_v25 = V1 m ρ c main_v25 from W2_of m ρ c main_v25 (by decide)]; exact e1_dproj m ρ a
theorem e3_dproj : Holds (R := 4096) (C := 3072) (φ := .bf16) (V3 m ρ c main_v25) (pack D) := by
  rw [show V3 m ρ c main_v25 = V2 m ρ c main_v25 from W3_of m ρ c main_v25 (by decide)]; exact e2_dproj m ρ a
theorem e1_mixed : Holds (R := 4096) (C := 1024) (φ := .bf16) (V1 m ρ c main_v3) X := by
  rw [show V1 m ρ c main_v3 = _ from entry_mixed m ρ c]; exact a.mixed.trunc _
theorem e2_mixed : Holds (R := 4096) (C := 1024) (φ := .bf16) (V2 m ρ c main_v3) X := by
  rw [show V2 m ρ c main_v3 = V1 m ρ c main_v3 from W2_of m ρ c main_v3 (by decide)]; exact e1_mixed m ρ a
theorem e3_mixed : Holds (R := 4096) (C := 1024) (φ := .bf16) (V3 m ρ c main_v3) X := by
  rw [show V3 m ρ c main_v3 = V2 m ρ c main_v3 from W3_of m ρ c main_v3 (by decide)]; exact e2_mixed m ρ a
theorem e4_mixed : Holds (R := 4096) (C := 1024) (φ := .bf16) (V4 m ρ c main_v3) X := by
  rw [show V4 m ρ c main_v3 = V3 m ρ c main_v3 from W4_of m ρ c main_v3 (by decide)]; exact e3_mixed m ρ a
theorem e5_mixed : Holds (R := 4096) (C := 1024) (φ := .bf16) (V5 m ρ c main_v3) X := by
  rw [show V5 m ρ c main_v3 = V4 m ρ c main_v3 from W5_of m ρ c main_v3 (by decide)]; exact e4_mixed m ρ a
theorem e6_mixed : Holds (R := 4096) (C := 1024) (φ := .bf16) (V6 m ρ c main_v3) X := by
  rw [show V6 m ρ c main_v3 = V5 m ρ c main_v3 from W6_of m ρ c main_v3 (by decide)]; exact e5_mixed m ρ a
theorem e1_w_out : Holds (R := 1024) (C := 1024) (φ := .bf16) (V1 m ρ c main_v4) O := by
  rw [show V1 m ρ c main_v4 = _ from entry_w_out m ρ c]; exact a.w_out.trunc _
theorem e2_w_out : Holds (R := 1024) (C := 1024) (φ := .bf16) (V2 m ρ c main_v4) O := by
  rw [show V2 m ρ c main_v4 = V1 m ρ c main_v4 from W2_of m ρ c main_v4 (by decide)]; exact e1_w_out m ρ a
theorem e3_w_out : Holds (R := 1024) (C := 1024) (φ := .bf16) (V3 m ρ c main_v4) O := by
  rw [show V3 m ρ c main_v4 = V2 m ρ c main_v4 from W3_of m ρ c main_v4 (by decide)]; exact e2_w_out m ρ a
theorem e4_w_out : Holds (R := 1024) (C := 1024) (φ := .bf16) (V4 m ρ c main_v4) O := by
  rw [show V4 m ρ c main_v4 = V3 m ρ c main_v4 from W4_of m ρ c main_v4 (by decide)]; exact e3_w_out m ρ a
theorem e5_w_out : Holds (R := 1024) (C := 1024) (φ := .bf16) (V5 m ρ c main_v4) O := by
  rw [show V5 m ρ c main_v4 = V4 m ρ c main_v4 from W5_of m ρ c main_v4 (by decide)]; exact e4_w_out m ρ a
theorem e1_dmix : Holds (R := 4096) (C := 1024) (φ := .bf16) (V1 m ρ c main_v5) E := by
  rw [show V1 m ρ c main_v5 = _ from entry_dmix m ρ c]; exact a.dmix.trunc _
theorem e2_dmix : Holds (R := 4096) (C := 1024) (φ := .bf16) (V2 m ρ c main_v5) E := by
  rw [show V2 m ρ c main_v5 = V1 m ρ c main_v5 from W2_of m ρ c main_v5 (by decide)]; exact e1_dmix m ρ a
theorem e3_dmix : Holds (R := 4096) (C := 1024) (φ := .bf16) (V3 m ρ c main_v5) E := by
  rw [show V3 m ρ c main_v5 = V2 m ρ c main_v5 from W3_of m ρ c main_v5 (by decide)]; exact e2_dmix m ρ a
theorem e4_dmix : Holds (R := 4096) (C := 1024) (φ := .bf16) (V4 m ρ c main_v5) E := by
  rw [show V4 m ρ c main_v5 = V3 m ρ c main_v5 from W4_of m ρ c main_v5 (by decide)]; exact e3_dmix m ρ a
theorem e5_dmix : Holds (R := 4096) (C := 1024) (φ := .bf16) (V5 m ρ c main_v5) E := by
  rw [show V5 m ρ c main_v5 = V4 m ρ c main_v5 from W5_of m ρ c main_v5 (by decide)]; exact e4_dmix m ρ a
theorem e6_dmix : Holds (R := 4096) (C := 1024) (φ := .bf16) (V6 m ρ c main_v5) E := by
  rw [show V6 m ρ c main_v5 = V5 m ρ c main_v5 from W6_of m ρ c main_v5 (by decide)]; exact e5_dmix m ρ a

/-! What the calls leave. -/
theorem x_proj : (V2 m ρ c main_v26_0 : FVec Ideal S4096x3072 .f32) = arr .f32 (mul 1024 H (pack W)) :=
  (W2_arr m ρ c 2).trans (final0 (V1 m ρ) c (e1_h m ρ a) (e1_w_in m ρ a))
theorem y_proj : (W7 m ρ c (Proc.devRef .tc main_v26_0) : FVec Ideal S4096x3072 .f32) = arr .f32 (mul 1024 H (pack W)) :=
  (W7_of m ρ c main_v26_0 (by decide)).trans ((W6_of m ρ c main_v26_0 (by decide)).trans ((W5_of m ρ c main_v26_0 (by decide)).trans ((W4_of m ρ c main_v26_0 (by decide)).trans ((W3_of m ρ c main_v26_0 (by decide)).trans (x_proj m ρ a)))))
theorem x_projb : (V2 m ρ c main_v26_1 : FVec Ideal S4096x3072 .bf16) = arr .bf16 (mul 1024 H (pack W)) :=
  (W2_arr m ρ c 3).trans (final0_narrow (V1 m ρ) c (e1_h m ρ a) (e1_w_in m ρ a))
theorem y_projb : (W7 m ρ c (Proc.devRef .tc main_v26_1) : FVec Ideal S4096x3072 .bf16) = arr .bf16 (mul 1024 H (pack W)) :=
  (W7_of m ρ c main_v26_1 (by decide)).trans ((W6_of m ρ c main_v26_1 (by decide)).trans ((W5_of m ρ c main_v26_1 (by decide)).trans ((W4_of m ρ c main_v26_1 (by decide)).trans ((W3_of m ρ c main_v26_1 (by decide)).trans (x_projb m ρ a)))))
theorem x_dh : (V3 m ρ c main_v27 : FVec Ideal S4096x1024 .f32) = arr .f32 (mul 3072 (pack D) (tr (pack W))) :=
  (W3_arr m ρ c 2).trans (final1 (V2 m ρ) c (e2_dproj m ρ a) (e2_w_in m ρ a))
theorem y_dh : (W7 m ρ c (Proc.devRef .tc main_v27) : FVec Ideal S4096x1024 .f32) = arr .f32 (mul 3072 (pack D) (tr (pack W))) :=
  (W7_of m ρ c main_v27 (by decide)).trans ((W6_of m ρ c main_v27 (by decide)).trans ((W5_of m ρ c main_v27 (by decide)).trans ((W4_of m ρ c main_v27 (by decide)).trans (x_dh m ρ a))))
theorem x_dw_in : (V4 m ρ c main_v28 : FVec Ideal S1024x3072 .f32) = arr .f32 (mul 4096 (tr H) (pack D)) :=
  (W4_arr m ρ c 2).trans (final2 (V3 m ρ) c (e3_h m ρ a) (e3_dproj m ρ a))
theorem y_dw_in : (W7 m ρ c (Proc.devRef .tc main_v28) : FVec Ideal S1024x3072 .f32) = arr .f32 (mul 4096 (tr H) (pack D)) :=
  (W7_of m ρ c main_v28 (by decide)).trans ((W6_of m ρ c main_v28 (by decide)).trans ((W5_of m ρ c main_v28 (by decide)).trans (x_dw_in m ρ a)))
theorem x_mix : (V5 m ρ c main_v29 : FVec Ideal S4096x1024 .f32) = arr .f32 (mul 1024 X O) :=
  (W5_arr m ρ c 2).trans (final3 (V4 m ρ) c (e4_mixed m ρ a) (e4_w_out m ρ a))
theorem y_mix : (W7 m ρ c (Proc.devRef .tc main_v29) : FVec Ideal S4096x1024 .f32) = arr .f32 (mul 1024 X O) :=
  (W7_of m ρ c main_v29 (by decide)).trans ((W6_of m ρ c main_v29 (by decide)).trans (x_mix m ρ a))
theorem x_dmixed : (V6 m ρ c main_v30 : FVec Ideal S4096x1024 .f32) = arr .f32 (mul 1024 E (tr O)) :=
  (W6_arr m ρ c 2).trans (final4 (V5 m ρ) c (e5_dmix m ρ a) (e5_w_out m ρ a))
theorem y_dmixed : (W7 m ρ c (Proc.devRef .tc main_v30) : FVec Ideal S4096x1024 .f32) = arr .f32 (mul 1024 E (tr O)) :=
  (W7_of m ρ c main_v30 (by decide)).trans (x_dmixed m ρ a)
theorem x_dw_out : (V7 m ρ c main_v31 : FVec Ideal S1024x1024 .f32) = arr .f32 (mul 4096 (tr X) E) :=
  (W7_arr m ρ c 2).trans (final5 (V6 m ρ) c (e6_mixed m ρ a) (e6_dmix m ρ a))
theorem y_dw_out : (W7 m ρ c (Proc.devRef .tc main_v31) : FVec Ideal S1024x1024 .f32) = arr .f32 (mul 4096 (tr X) E) :=
  x_dw_out m ρ a

/-! The seven results. -/
theorem out_proj : (W8 m ρ c (Proc.devRef .tc main_v38) : FVec Ideal S4096x2980 .f32) = arr .f32 (mul 1024 H W) := by
  have h : Holds (R := 4096) (C := 3072) (φ := .f32) (W7 m ρ c (Proc.devRef .tc main_v26_0)) (mul 1024 H (pack W)) := by
    rw [show W7 m ρ c (Proc.devRef .tc main_v26_0) = _ from y_proj m ρ a]; exact holds_arr _ _
  have h' : Holds (unpacked4096_f32 (W7 m ρ c (Proc.devRef .tc main_v26_0))) (mul 1024 H W) :=
    fun r k => (holds_unpacked4096_f32 h r k).trans (unpack_mul _ _ _ k.isLt)
  exact (exit_proj m ρ c).trans h'.eq_arr
theorem out_projb : (W8 m ρ c (Proc.devRef .tc main_v45) : FVec Ideal S4096x2980 .bf16) = arr .bf16 (mul 1024 H W) := by
  have h : Holds (R := 4096) (C := 3072) (φ := .bf16) (W7 m ρ c (Proc.devRef .tc main_v26_1)) (mul 1024 H (pack W)) := by
    rw [show W7 m ρ c (Proc.devRef .tc main_v26_1) = _ from y_projb m ρ a]; exact holds_arr _ _
  have h' : Holds (unpacked4096_bf16 (W7 m ρ c (Proc.devRef .tc main_v26_1))) (mul 1024 H W) :=
    fun r k => (holds_unpacked4096_bf16 h r k).trans (unpack_mul _ _ _ k.isLt)
  exact (exit_projb m ρ c).trans h'.eq_arr
theorem out_dw_in : (W8 m ρ c (Proc.devRef .tc main_v52) : FVec Ideal S1024x2980 .f32) = arr .f32 (mul 4096 (tr H) D) := by
  have h : Holds (R := 1024) (C := 3072) (φ := .f32) (W7 m ρ c (Proc.devRef .tc main_v28)) (mul 4096 (tr H) (pack D)) := by
    rw [show W7 m ρ c (Proc.devRef .tc main_v28) = _ from y_dw_in m ρ a]; exact holds_arr _ _
  have h' : Holds (unpacked1024_f32 (W7 m ρ c (Proc.devRef .tc main_v28))) (mul 4096 (tr H) D) :=
    fun r k => (holds_unpacked1024_f32 h r k).trans (unpack_mul _ _ _ k.isLt)
  exact (exit_dw_in m ρ c).trans h'.eq_arr
theorem out_dh : (W8 m ρ c (Proc.devRef .tc main_v27) : FVec Ideal S4096x1024 .f32) = arr .f32 (mul 2980 D (tr W)) :=
  (W8_of m ρ c main_v27 (by decide)).trans (((y_dh m ρ a).trans (congrArg (arr .f32) (mul_pack D W))))
theorem out_mix : (W8 m ρ c (Proc.devRef .tc main_v29) : FVec Ideal S4096x1024 .f32) = arr .f32 (mul 1024 X O) :=
  (W8_of m ρ c main_v29 (by decide)).trans (y_mix m ρ a)
theorem out_dmixed : (W8 m ρ c (Proc.devRef .tc main_v30) : FVec Ideal S4096x1024 .f32) = arr .f32 (mul 1024 E (tr O)) :=
  (W8_of m ρ c main_v30 (by decide)).trans (y_dmixed m ρ a)
theorem out_dw_out : (W8 m ρ c (Proc.devRef .tc main_v31) : FVec Ideal S1024x1024 .f32) = arr .f32 (mul 4096 (tr X) E) :=
  (W8_of m ρ c main_v31 (by decide)).trans (y_dw_out m ρ a)

end Contents

set_option backward.isDefEq.respectTransparency.types false in
/-- Every execution ends with the seven results and with the arguments as they were. -/
theorem results {H W D X O E : Dev nD → ℕ → ℕ → EReal} (h : ∀ c, Args m c (H c) (W c) (D c) (X c) (O c) (E c)) :
    θ_run defs (onTc (τ := τ) (main (F := Ideal))) ⟨m, fun _ => 0, ρ⟩ (fun r => ∀ c : Dev nD,
      r.2.mem ((c.tc : Thread nD τ).loc main_v38) = (arr .f32 (mul 1024 (H c) (W c)) : Buf (Elt Ideal) ((c.tc : Thread nD τ).loc main_v38))
      ∧ r.2.mem ((c.tc : Thread nD τ).loc main_v45) = (arr .bf16 (mul 1024 (H c) (W c)) : Buf (Elt Ideal) ((c.tc : Thread nD τ).loc main_v45))
      ∧ r.2.mem ((c.tc : Thread nD τ).loc main_v27) = (arr .f32 (mul 2980 (D c) (tr (W c))) : Buf (Elt Ideal) ((c.tc : Thread nD τ).loc main_v27))
      ∧ r.2.mem ((c.tc : Thread nD τ).loc main_v52) = (arr .f32 (mul 4096 (tr (H c)) (D c)) : Buf (Elt Ideal) ((c.tc : Thread nD τ).loc main_v52))
      ∧ r.2.mem ((c.tc : Thread nD τ).loc main_v29) = (arr .f32 (mul 1024 (X c) (O c)) : Buf (Elt Ideal) ((c.tc : Thread nD τ).loc main_v29))
      ∧ r.2.mem ((c.tc : Thread nD τ).loc main_v30) = (arr .f32 (mul 1024 (E c) (tr (O c))) : Buf (Elt Ideal) ((c.tc : Thread nD τ).loc main_v30))
      ∧ r.2.mem ((c.tc : Thread nD τ).loc main_v31) = (arr .f32 (mul 4096 (tr (X c)) (E c)) : Buf (Elt Ideal) ((c.tc : Thread nD τ).loc main_v31))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s hs hz c =>
      ⟨(hs c _ (mem_uc main_v38 (by decide))).trans (out_proj m ρ (h c)),
       (hs c _ (mem_uc main_v45 (by decide))).trans (out_projb m ρ (h c)),
       (hs c _ (mem_uc main_v27 (by decide))).trans (out_dh m ρ (h c)),
       (hs c _ (mem_uc main_v52 (by decide))).trans (out_dw_in m ρ (h c)),
       (hs c _ (mem_uc main_v29 (by decide))).trans (out_mix m ρ (h c)),
       (hs c _ (mem_uc main_v30 (by decide))).trans (out_dmixed m ρ (h c)),
       (hs c _ (mem_uc main_v31 (by decide))).trans (out_dw_out m ρ (h c)),
       (hs c _ (mem_uc main_arg0 (by decide))).trans (W8_main_arg0 m ρ c),
       (hs c _ (mem_uc main_arg1 (by decide))).trans (W8_main_arg1 m ρ c),
       (hs c _ (mem_uc main_arg2 (by decide))).trans (W8_main_arg2 m ρ c),
       (hs c _ (mem_uc main_arg3 (by decide))).trans (W8_main_arg3 m ρ c),
       (hs c _ (mem_uc main_arg4 (by decide))).trans (W8_main_arg4 m ρ c),
       (hs c _ (mem_uc main_arg5 (by decide))).trans (W8_main_arg5 m ρ c)⟩)

end Cert.ProjIdeal.Lin

end
-- ==== Proof.ProjRef.lean ====
/- What the two projections' reference computes: the same products of the plain matrices. -/
module

public import proofs.«01_k».proof.Proof.ProjResult
public import proofs.«01_k».proof.Proof.Gen.ProjReferenceIdeal.Read

@[expose] public section

set_option maxRecDepth 16384

noncomputable section

namespace Cert.ProjReferenceIdeal.Lin

open Idealize.ShloMosaic Idealize.ShloMosaic.TcCoe Idealize.ShloMosaic.Tactic
open Cert.ProjReferenceIdeal Cert.ProjReferenceIdeal.Gen Cert.ProjReferenceIdeal.Read
open Cert.MlpIdeal.Ffn (Holds mul tr arr dot_eq idx2_eq)

variable {x0 : (⟨S4096x1024, .f32⟩ : BufTy).Contents (Elt Ideal)} {x1 : (⟨S1024x2980, .f32⟩ : BufTy).Contents (Elt Ideal)}
  {x2 : (⟨S4096x2980, .f32⟩ : BufTy).Contents (Elt Ideal)} {x3 x5 : (⟨S4096x1024, .f32⟩ : BufTy).Contents (Elt Ideal)}
  {x4 : (⟨S1024x1024, .f32⟩ : BufTy).Contents (Elt Ideal)} {H W D X O E : ℕ → ℕ → EReal}
  (h0 : Holds (R := 4096) (C := 1024) (φ := .f32) x0 H) (h1 : Holds (R := 1024) (C := 2980) (φ := .f32) x1 W)
  (h2 : Holds (R := 4096) (C := 2980) (φ := .f32) x2 D) (h3 : Holds (R := 4096) (C := 1024) (φ := .f32) x3 X)
  (h4 : Holds (R := 1024) (C := 1024) (φ := .f32) x4 O) (h5 : Holds (R := 4096) (C := 1024) (φ := .f32) x5 E)

include h0 h1 in
theorem holds_proj : Holds (R := 4096) (C := 2980) (φ := .f32) (val_main_v0 (F := Ideal) x0 x1) (mul 1024 H W) := fun r c => by
  rw [val_main_v0_apply]
  exact dot_eq (f := H r) (g := fun k => W k c) (fun k => (congrArg x0 (idx2_eq _ rfl rfl)).trans (h0 r k))
    (fun k => (congrArg x1 (idx2_eq _ rfl rfl)).trans (h1 k c))

include h0 h1 in
theorem holds_projb : Holds (R := 4096) (C := 2980) (φ := .bf16) (val_main_v2 (F := Ideal) x0 x1) (mul 1024 H W) := fun r c => by
  rw [val_main_v2_apply]
  exact holds_proj h0 h1 r c

include h0 h2 in
theorem holds_dw_in : Holds (R := 1024) (C := 2980) (φ := .f32) (val_main_v4 (F := Ideal) x0 x2) (mul 4096 (tr H) D) := fun r c => by
  rw [val_main_v4_apply, val_main_v3_apply]
  refine (dot_eq (f := fun k => D k c) (g := fun k => H k r) (fun k => (congrArg x2 (idx2_eq _ rfl rfl)).trans (h2 k c))
    (fun k => (congrArg x0 (idx2_eq _ rfl rfl)).trans (h0 k r))).trans ?_
  exact Finset.sum_congr rfl fun k _ => mul_comm _ _

include h1 h2 in
theorem holds_dh : Holds (R := 4096) (C := 1024) (φ := .f32) (val_main_v5 (F := Ideal) x1 x2) (mul 2980 D (tr W)) := fun r c => by
  rw [val_main_v5_apply]
  exact dot_eq (f := D r) (g := fun k => W c k) (fun k => (congrArg x2 (idx2_eq _ rfl rfl)).trans (h2 r k))
    (fun k => (congrArg x1 (idx2_eq _ rfl rfl)).trans (h1 c k))

include h3 h4 in
theorem holds_mix : Holds (R := 4096) (C := 1024) (φ := .f32) (val_main_v1 (F := Ideal) x3 x4) (mul 1024 X O) := fun r c => by
  rw [val_main_v1_apply]
  exact dot_eq (f := X r) (g := fun k => O k c) (fun k => (congrArg x3 (idx2_eq _ rfl rfl)).trans (h3 r k))
    (fun k => (congrArg x4 (idx2_eq _ rfl rfl)).trans (h4 k c))

include h3 h5 in
theorem holds_dw_out : Holds (R := 1024) (C := 1024) (φ := .f32) (val_main_v7 (F := Ideal) x3 x5) (mul 4096 (tr X) E) := fun r c => by
  rw [val_main_v7_apply, val_main_v6_apply]
  refine (dot_eq (f := fun k => E k c) (g := fun k => X k r) (fun k => (congrArg x5 (idx2_eq _ rfl rfl)).trans (h5 k c))
    (fun k => (congrArg x3 (idx2_eq _ rfl rfl)).trans (h3 k r))).trans ?_
  exact Finset.sum_congr rfl fun k _ => mul_comm _ _

include h4 h5 in
theorem holds_dmixed : Holds (R := 4096) (C := 1024) (φ := .f32) (val_main_v8 (F := Ideal) x4 x5) (mul 1024 E (tr O)) := fun r c => by
  rw [val_main_v8_apply]
  exact dot_eq (f := E r) (g := fun k => O c k) (fun k => (congrArg x5 (idx2_eq _ rfl rfl)).trans (h5 r k))
    (fun k => (congrArg x4 (idx2_eq _ rfl rfl)).trans (h4 c k))

end Cert.ProjReferenceIdeal.Lin

end
-- ==== Proof.MlaOps.lean ====
/- What the two latent-attention bodies do to one block of queries and one block of keys, per head, as a few functions
   on vectors, over any reading of the floats. The generated bodies compute these (MlaTrips.lean, MlaForward.lean,
   MlaBackward.lean); what they are over the reals is MlaReal.lean. -/
module

public import proofs.«01_k».proof.Proof.Gen.MlaIdeal.Loops

@[expose] public section

set_option maxRecDepth 16384

noncomputable section

namespace Cert.MlaIdeal.Lat

open Idealize.ShloMosaic Idealize.ShloMosaic.TcCoe Idealize.ShloMosaic.Tactic
open Cert.MlaIdeal Cert.MlaIdeal.Gen

variable {F : FTy → Type} [FloatOps F] [Named F]

/-- A block of 512 rows and 128 lanes, as read. -/
def blk (x : Vec F S512x128 .bf16) : FVec F S512x128 .bf16 := shapeCast S512x128 x shapeCasts_S512x128_S512x128

/-- The products of a block: rows of `q` with rows of `k`, over the 128 lanes. -/
def scores (q k : FVec F S512x128 .bf16) : FVec F S512x512 .f32 :=
  matmul dot_S512x128_S512x128_S512x512_1_1_0_0_n_n none q k (constant S512x512 .f32 0x00000000#32)

/-- A block times the scale `96^(-1/2)`, rounded. -/
def scl (s : FVec F S512x512 .f32) : FVec F S512x512 .f32 := mulf s (broadcast S512x512 (Scalar.ofBits .f32 0x3DD105EC#32))

/-- A block where the mask holds, `-∞` elsewhere. -/
def masked (vis : IVec S512x512 1) (s : FVec F S512x512 .f32) : FVec F S512x512 .f32 :=
  select vis s (broadcast S512x512 (Named.named κ "mask" 0xF149F2CA#32))

/-- Where, on a block of keys `d` positions after the queries', the key's chunk of 64 is not after the query's. -/
def visAt (d : BitVec 32) : IVec S512x512 1 :=
  cmpi .sle (addi (subi (iota .tc S512x512 32 [1] iota_S512x512_d1_w32) (ori (iota .tc S512x512 32 [0] iota_S512x512_d0_w32) (broadcast S512x512 63#32)))
    (broadcast S512x512 d)) (broadcast S512x512 0#32)

/-! ### The forward pass -/

/-- The running maximum after a block of scores. -/
def maxNext (m : FVec F S512x1 .f32) (s : FVec F S512x512 .f32) : FVec F S512x1 .f32 :=
  maximumf m (shapeCast S512x1 (multiReduction .maximumf [1] S512 s 0xFF800000#32 reduces_S512x512_S512 (.inl rfl) rfl) shapeCasts_S512_S512x1)

/-- The factor the earlier sums take. -/
def decay (m m' : FVec F S512x1 .f32) : FVec F S512x1 .f32 := exp (subf m m')

/-- The exponentials of a block of scores less a column. -/
def expOf (s : FVec F S512x512 .f32) (m : FVec F S512x1 .f32) : FVec F S512x512 .f32 :=
  exp (subf s (broadcastTo S512x512 m broadcasts_S512x1_S512x512))

/-- The running sum after a block of scores. -/
def sumNext (m l : FVec F S512x1 .f32) (s : FVec F S512x512 .f32) : FVec F S512x1 .f32 :=
  addf (mulf (decay m (maxNext m s)) l)
    (shapeCast S512x1 (multiReduction .add [1] S512 (expOf s (maxNext m s)) 0x00000000#32 reduces_S512x512_S512 (.inl rfl) rfl) shapeCasts_S512_S512x1)

/-- The running output after a block of scores. -/
def accNext (m : FVec F S512x1 .f32) (acc : FVec F S512x128 .f32) (s : FVec F S512x512 .f32) (v : FVec F S512x128 .bf16) : FVec F S512x128 .f32 :=
  addf (mulf (broadcastTo S512x128 (decay m (maxNext m s)) broadcasts_S512x1_S512x128) acc)
    (matmul dot_S512x512_S512x128_S512x128_1_0_0_1_n_n none (truncf .bf16 (expOf s (maxNext m s)) bitsLt_bf16_f32) v (constant S512x128 .f32 0x00000000#32))

/-- The output: the running output over the running sum. -/
def outOf (l : FVec F S512x1 .f32) (acc : FVec F S512x128 .f32) : FVec F S512x128 .f32 :=
  divf acc (broadcastTo S512x128 l broadcasts_S512x1_S512x128)

/-- The logarithm of the row's sum of exponentials. -/
def lseOf (m l : FVec F S512x1 .f32) : FVec F S512x1 .f32 := addf m (log l)

/-! ### The backward pass -/

/-- The gradient of a block of scores, before the scale: `p` the weights, `dp` their gradients, `dl` the row's dot product. -/
def dScore (p dp : FVec F S512x512 .f32) (dl : FVec F S512x1 .f32) : FVec F S512x512 .f32 :=
  scl (mulf p (subf dp (broadcastTo S512x512 dl broadcasts_S512x1_S512x512)))

/-- A block of `dk` or `dv` plus this block's part, `xᵀ · y`. -/
def addTn (old : FVec F S512x128 .f32) (x : FVec F S512x512 .f32) (y : FVec F S512x128 .bf16) : FVec F S512x128 .f32 :=
  addf (shapeCast S512x128 old shapeCasts_S512x128_S512x128)
    (matmul dot_S512x512_S512x128_S512x128_0_0_1_1_n_n none (truncf .bf16 x bitsLt_bf16_f32) y (constant S512x128 .f32 0x00000000#32))

/-- A block of `dq` plus this block's part, `x · y`. -/
def addNn (acc : FVec F S512x128 .f32) (x : FVec F S512x512 .f32) (y : FVec F S512x128 .bf16) : FVec F S512x128 .f32 :=
  addf acc (matmul dot_S512x512_S512x128_S512x128_1_0_0_1_n_n none (truncf .bf16 x bitsLt_bf16_f32) y (constant S512x128 .f32 0x00000000#32))

/-- The two heads' halves of a block of 256 columns. -/
def half0 (x : FVec F S512x256 .f32) : FVec F S512x128 .f32 := extractStridedSlice S512x128 ![0, 0] x slices_S512x256_o0_0_S512x128
def half1 (x : FVec F S512x256 .f32) : FVec F S512x128 .f32 := extractStridedSlice S512x128 ![0, 128] x slices_S512x256_o0_128_S512x128

/-- The sums of the rows of a block. -/
def rowSum (x : FVec F S512x128 .f32) : FVec F S512x1 .f32 :=
  shapeCast S512x1 (multiReduction .add [1] S512 x 0x00000000#32 reduces_S512x128_S512 (.inl rfl) rfl) shapeCasts_S512_S512x1

/-- A block's half as the products take it. -/
def headD (x : FVec F S512x128 .f32) : FVec F S512x128 .bf16 := truncf .bf16 x bitsLt_bf16_f32

/-- A head's logarithms: head 0's stand in lane 0, head 1's in lane 64. -/
def lse0 (x : Vec F S1x512x128 .f32) : FVec F S512x1 .f32 :=
  extractStridedSlice S512x1 ![0, 0] (shapeCast S512x128 x shapeCasts_S1x512x128_S512x128) slices_S512x128_o0_0_S512x1
def lse1 (x : Vec F S1x512x128 .f32) : FVec F S512x1 .f32 :=
  extractStridedSlice S512x1 ![0, 64] (shapeCast S512x128 x shapeCasts_S1x512x128_S512x128) slices_S512x128_o0_64_S512x1

/-- Zeros, and the column that is `-∞`. -/
def zeroCol : FVec F S512x1 .f32 := broadcast S512x1 (Scalar.ofBits .f32 0x00000000#32)
def zeroOut : FVec F S512x128 .f32 := broadcast S512x128 (Scalar.ofBits .f32 0x00000000#32)
def lowCol : FVec F S512x1 .f32 := broadcast S512x1 (Named.named κ "mask" 0xF149F2CA#32)

/-! ### The lanes of the two heads -/

/-- Which of the 128 lanes hold the first head's logarithms: those whose number divided by 64, rounding down, is 0. -/
def laneOf (a : BitVec 32) : IVec S1x128 1 :=
  have lane : IVec S1x128 32 := iota .tc S1x128 32 [1] iota_S1x128_d1_w32
  have d : IVec S1x128 32 := divsi lane (broadcast S1x128 64#32)
  have s : IVec S1x128 32 := subi (extui 32 (cmpi .sgt lane (broadcast S1x128 0#32)) natLt_1_32) (extui 32 (cmpi .slt lane (broadcast S1x128 0#32)) natLt_1_32)
  have one : BitVec 32 := Scalar.subi (Scalar.extui (Scalar.cmpi .sgt 64#32 0#32)) (Scalar.extui (Scalar.cmpi .slt 64#32 0#32))
  have odd : IVec S1x128 1 := andi (cmpi .ne s (broadcast S1x128 one)) (cmpi .ne (remsi lane (broadcast S1x128 64#32)) (broadcast S1x128 0#32))
  cmpi .eq (select odd (subi d (broadcast S1x128 1#32)) d) (broadcast S1x128 a)

/-- Two columns along the lanes: `x` on the lanes `sel`, `y` on the others. -/
def pickCols (sel : IVec S1x128 1) (x y : FVec F S512x1 .f32) : FVec F S512x128 .f32 :=
  select (broadcastTo S512x128 (shapeCast S1x128 sel shapeCasts_S1x128_S1x128) broadcasts_S1x128_S512x128)
    (broadcastTo S512x128 (shapeCast S512x1 x shapeCasts_S512x1_S512x1) broadcasts_S512x1_S512x128)
    (broadcastTo S512x128 (shapeCast S512x1 y shapeCasts_S512x1_S512x1) broadcasts_S512x1_S512x128)

end Cert.MlaIdeal.Lat

end
-- ==== Proof.MlaFinite.lean ====
/- The precondition of the latent attention read back: where it holds, every element of the four arguments is a real number. -/
module

public import proofs.«01_k».proof.Proof.Finite
public import proofs.«01_k».proof.Proof.RefReal
public import proofs.«01_k».proof.Proof.MlaOps
public import proofs.«01_k».proof.Proof.Gen.Pre_mla_finite

@[expose] public section

set_option maxRecDepth 16384

noncomputable section

namespace Cert.MlaIdeal.Lat

open Idealize.ShloMosaic Idealize.ShloMosaic.TcCoe Idealize.ShloMosaic.Tactic
open Cert.MlaIdeal Cert.MlaIdeal.Gen
open Cert.KernelIdeal.Sb (Re Re.congr Re.addf Re.subf Re.mulf Re.exp coe_sum coe_dot coe_max log_coe_pos Vis Sel toInt_small ofBool_decide)
open Finset (range)
open Cert.KernelIdeal.Sb (real_of_abs_lt exists_re)
open Cert.ReferenceIdeal.Sb (Re3)

theorem exists_re3 {A B C : ℕ} {φ : FTy} (v : FVec Ideal ⟨3, ![A, B, C]⟩ φ) (h : ∀ i, (((v i : EReal).toReal : ℝ) : EReal) = v i) : ∃ f, Re3 v f :=
  ⟨fun a b c => if ha : a < A then if hb : b < B then if hc : c < C then (v (ix3 ⟨a, ha⟩ ⟨b, hb⟩ ⟨c, hc⟩) : EReal).toReal else 0 else 0 else 0, fun i => by
    obtain ⟨a, b, c, rfl⟩ : ∃ (a : Fin A) (b : Fin B) (c : Fin C), i = ix3 a b c := ⟨i 0, i 1, i 2, eq_ix3 i⟩
    show _ = (((if ha : a.val < A then if hb : b.val < B then if hc : c.val < C then (v (ix3 ⟨a.val, ha⟩ ⟨b.val, hb⟩ ⟨c.val, hc⟩) : EReal).toReal else 0 else 0 else 0 : ℝ)) : EReal)
    rw [dif_pos a.isLt, dif_pos b.isLt, dif_pos c.isLt]; exact (h _).symm⟩

instance : Subsingleton Cert.Pre_mla_finite.S_.Idx := ⟨fun i j => funext fun a => a.elim0⟩

theorem re_of_mla_finite (x y : FVec Ideal Cert.Pre_mla_finite.S4096x4x96 .bf16) (z : FVec Ideal Cert.Pre_mla_finite.S4096x256 .bf16)
    (w : FVec Ideal Cert.Pre_mla_finite.S4096x256 .f32) (h : Cert.Pre_mla_finite.fn (F := Ideal) x y z w = fun _ => 1#1) :
    (∃ f, Re3 (A := 4096) (B := 4) (C := 96) x f) ∧ (∃ f, Re3 (A := 4096) (B := 4) (C := 96) y f) ∧ (∃ f, Re (R := 4096) (C := 256) z f)
      ∧ ∃ f, Re (R := 4096) (C := 256) w f := by
  have hh := congrFun h (fun a => a.elim0)
  unfold Cert.Pre_mla_finite.fn Cert.Pre_mla_finite.fn_part1 at hh
  obtain ⟨h123, h4⟩ := IntOp.andi_eq_one.1 hh
  obtain ⟨h12, h3⟩ := IntOp.andi_eq_one.1 h123
  obtain ⟨h1, h2⟩ := IntOp.andi_eq_one.1 h12
  exact ⟨exists_re3 x fun i => real_of_abs_lt (Host.reduce_andi_all _ _ _ _ _ h1 i), exists_re3 y fun i => real_of_abs_lt (Host.reduce_andi_all _ _ _ _ _ h2 i),
    exists_re z fun i => real_of_abs_lt (Host.reduce_andi_all _ _ _ _ _ h3 i), exists_re w fun i => real_of_abs_lt (Host.reduce_andi_all _ _ _ _ _ h4 i)⟩

end Cert.MlaIdeal.Lat

end
-- ==== Proof.MlaTrips.lean ====
/- What one trip of each loop over the earlier blocks of keys computes, as the functions of MlaOps.lean. -/
module

public import proofs.«01_k».proof.Proof.MlaOps
public import Idealize.ShloMosaic.Lib.Pipeline.FrameBody

@[expose] public section

set_option maxRecDepth 16384

noncomputable section

namespace Cert.MlaIdeal.Lat

open Idealize.ShloMosaic Idealize.ShloMosaic.TcCoe Idealize.ShloMosaic.Tactic
open Cert.MlaIdeal Cert.MlaIdeal.Gen

variable {F : FTy → Type} [FloatOps F] [Named F]

/-- Rows `off 0 …` and lanes `off 1 …` of a whole-sequence block of 256 columns. -/
abbrev rows (off : Fin 2 → ℕ) (inb : ∀ a, off a + S512x128.size a ≤ S4096x256.size a) : Rect S4096x256 :=
  Rect.unit (s := S4096x256) off S512x128.size inb

/-- What the forward loop carries: the two heads' scores of the next block, then each head's running maximum, sum and output. -/
abbrev FwdState (F : FTy → Type) [FloatOps F] : Type :=
  FVec F S512x512 .f32 × FVec F S512x512 .f32 × FVec F S512x1 .f32 × FVec F S512x1 .f32 × FVec F S512x128 .f32 × FVec F S512x1 .f32 × FVec F S512x1 .f32 × FVec F S512x128 .f32

/-- One trip of the forward loop: `q0 q1` the two heads' queries, `kn0 kn1` the keys of the block after this one, `v0 v1` this block's values. -/
def fwdTrip (q0 q1 : FVec F S512x128 .bf16) (kn0 kn1 v0 v1 : Vec F S512x128 .bf16) (s : FwdState F) : FwdState F :=
  (scores q0 (blk kn0), scores q1 (blk kn1),
    maxNext s.2.2.1 (scl s.1), sumNext s.2.2.1 s.2.2.2.1 (scl s.1), accNext s.2.2.1 s.2.2.2.2.1 (scl s.1) (blk v0),
    maxNext s.2.2.2.2.2.1 (scl s.2.1), sumNext s.2.2.2.2.2.1 s.2.2.2.2.2.2.1 (scl s.2.1), accNext s.2.2.2.2.2.1 s.2.2.2.2.2.2.2 (scl s.2.1) (blk v1))

/-- What the backward loop carries: each head's scores of the next block and the gradients of its weights, then each head's gradient of the queries. -/
abbrev BwdState (F : FTy → Type) [FloatOps F] : Type :=
  FVec F S512x512 .f32 × FVec F S512x512 .f32 × FVec F S512x512 .f32 × FVec F S512x512 .f32 × FVec F S512x128 .f32 × FVec F S512x128 .f32

/-- One trip of the backward loop, but for what it adds to the gradients of the keys and values: `d0 d1` the two heads' output
    gradients, `dl` the rows' dot products, `ls` the rows' logarithms, `kn vn` the keys and values of the block after this one, `kc` this
    block's keys. -/
def bwdTrip (q0 q1 d0 d1 : FVec F S512x128 .bf16) (dl0 dl1 ls0 ls1 : FVec F S512x1 .f32) (kn0 kn1 vn0 vn1 kc0 kc1 : Vec F S512x128 .bf16)
    (s : BwdState F) : BwdState F :=
  (scores q0 (blk kn0), scores d0 (blk vn0), scores q1 (blk kn1), scores d1 (blk vn1),
    addNn s.2.2.2.2.1 (dScore (expOf (scl s.1) ls0) s.2.1 dl0) (blk kc0),
    addNn s.2.2.2.2.2 (dScore (expOf (scl s.2.2.1) ls1) s.2.2.2.1 dl1) (blk kc1))

theorem tripR_k0_eq
    (𝒱 : Variants) (c : Dev nD) (bd : Option 𝒱.V) (i : grid0.Coords) (arg2 : Memref sig .tc .vmem S512x256 .bf16) (harg2 : arg2.IsWhole)
    (arg3 : Memref sig .tc .vmem S4096x256 .bf16) (harg3 : arg3.IsWhole) (arg4 : Memref sig .tc .vmem S4096x256 .bf16)
    (harg4 : arg4.IsWhole) (arg5 : Memref sig .tc .vmem S512x256 .f32) (harg5 : arg5.IsWhole) (arg6 : Memref sig .tc .vmem S1x512x128 .f32)
    (harg6 : arg6.IsWhole) (arg1 : BitVec 32) (v19 : BitVec 32) (v22 : IVec S512x512 32) (v25 : FVec F S512x128 .bf16)
    (v27 : FVec F S512x128 .bf16) (v28 : FVec F S512x128 .f32) (v29 : FVec F S512x1 .f32) (v30 : FVec F S512x1 .f32)
    (v31 : FVec F S512x1 .f32) (v36 : FVec F S512x512 .f32) (X_arg3 : BufTy.Contents (Elt F) arg3.view.ty)
    (X_arg4 : BufTy.Contents (Elt F) arg4.view.ty) (k : Fin (k0_t1_loop i).trips) (acc : FwdState F) :
    tripR_k0_t1 (F := F) 𝒱 c bd i arg2 harg2 arg3 harg3 arg4 harg4 arg5 harg5 arg6 harg6 arg1 v19 v22 v25 v27 v28 v29 v30 v31 v36 X_arg3 X_arg4 k acc
      = fwdTrip v25 v27 (arg3.view.readAt (Elt F) (rows (k0_off1 i k) (k0_off1_inb i k)).toLoadRect X_arg3) (arg3.view.readAt (Elt F) (rows (k0_off2 i k) (k0_off2_inb i k)).toLoadRect X_arg3)
          (arg4.view.readAt (Elt F) (rows (k0_off3 i k) (k0_off3_inb i k)).toLoadRect X_arg4) (arg4.view.readAt (Elt F) (rows (k0_off4 i k) (k0_off4_inb i k)).toLoadRect X_arg4) acc := by
  unfold tripR_k0_t1 trip_k0_t1
  dsimp only
  rfl

theorem tripR_k1_eq
    (𝒱 : Variants) (c : Dev nD) (bd : Option 𝒱.V) (i : grid1.Coords) (arg2 : Memref sig .tc .vmem S512x256 .bf16) (harg2 : arg2.IsWhole)
    (arg3 : Memref sig .tc .vmem S4096x256 .bf16) (harg3 : arg3.IsWhole) (arg4 : Memref sig .tc .vmem S4096x256 .bf16)
    (harg4 : arg4.IsWhole) (arg5 : Memref sig .tc .vmem S512x256 .f32) (harg5 : arg5.IsWhole) (arg6 : Memref sig .tc .vmem S512x256 .f32)
    (harg6 : arg6.IsWhole) (arg7 : Memref sig .tc .vmem S1x512x128 .f32) (harg7 : arg7.IsWhole) (arg8 : Memref sig .tc .vmem S512x256 .f32)
    (harg8 : arg8.IsWhole) (arg9 : Memref sig .tc .vmem S4096x256 .f32) (harg9 : arg9.IsWhole) (arg10 : Memref sig .tc .vmem S4096x256 .f32)
    (harg10 : arg10.IsWhole) (v22 : BitVec 32) (v30 : FVec F S512x256 .f32) (v32 : FVec F S512x128 .bf16) (v34 : FVec F S512x128 .bf16)
    (v36 : FVec F S512x128 .bf16) (v37 : FVec F S512x128 .f32) (v45 : Vec F S1x512x128 .f32) (X_arg3 : BufTy.Contents (Elt F) arg3.view.ty)
    (X_arg4 : BufTy.Contents (Elt F) arg4.view.ty) (k : Fin (k1_t1_loop i).trips) (acc : BwdState F)
    (f_arg9 : BufTy.Contents (Elt F) arg9.view.ty) (f_arg10 : BufTy.Contents (Elt F) arg10.view.ty) :
    tripR_k1_t1 (F := F) 𝒱 c bd i arg2 harg2 arg3 harg3 arg4 harg4 arg5 harg5 arg6 harg6 arg7 harg7 arg8 harg8 arg9 harg9 arg10 harg10 v22 v30 v32 v34 v36 v37 v45 X_arg3 X_arg4 k acc f_arg9 f_arg10
      = bwdTrip v32 v34 v36 (headD v37) (rowSum (half0 v30)) (rowSum (half1 v30)) (lse0 v45) (lse1 v45)
          (arg3.view.readAt (Elt F) (rows (k1_off1 i k) (k1_off1_inb i k)).toLoadRect X_arg3) (arg3.view.readAt (Elt F) (rows (k1_off2 i k) (k1_off2_inb i k)).toLoadRect X_arg3)
          (arg4.view.readAt (Elt F) (rows (k1_off1 i k) (k1_off1_inb i k)).toLoadRect X_arg4) (arg4.view.readAt (Elt F) (rows (k1_off2 i k) (k1_off2_inb i k)).toLoadRect X_arg4)
          (arg3.view.readAt (Elt F) (rows (k1_off3 i k) (k1_off3_inb i k)).toLoadRect X_arg3) (arg3.view.readAt (Elt F) (rows (k1_off4 i k) (k1_off4_inb i k)).toLoadRect X_arg3) acc := by
  unfold tripR_k1_t1 trip_k1_t1
  dsimp only
  rfl

/-- The two heads' parts of a block of rows: each is added to what stands in its own lanes. -/
def both (m : Memref sig .tc .vmem S4096x256 .f32) (off0 : Fin 2 → ℕ) (inb0 : ∀ a, off0 a + S512x128.size a ≤ S4096x256.size a)
    (off1 : Fin 2 → ℕ) (inb1 : ∀ a, off1 a + S512x128.size a ≤ S4096x256.size a)
    (f : BufTy.Contents (Elt F) m.view.ty) (x0 x1 : FVec F S512x512 .f32) (y0 y1 : FVec F S512x128 .bf16) :
    List (View.Piece (Elt F) S4096x256 .f32) :=
  [⟨rows off1 inb1, addTn (m.view.readAt (Elt F) (rows off1 inb1).toLoadRect f) x1 y1⟩,
    ⟨rows off0 inb0, addTn (m.view.readAt (Elt F) (rows off0 inb0).toLoadRect f) x0 y0⟩]

theorem tripL_k1_eq
    (𝒱 : Variants) (c : Dev nD) (bd : Option 𝒱.V) (i : grid1.Coords) (arg2 : Memref sig .tc .vmem S512x256 .bf16) (harg2 : arg2.IsWhole)
    (arg3 : Memref sig .tc .vmem S4096x256 .bf16) (harg3 : arg3.IsWhole) (arg4 : Memref sig .tc .vmem S4096x256 .bf16)
    (harg4 : arg4.IsWhole) (arg5 : Memref sig .tc .vmem S512x256 .f32) (harg5 : arg5.IsWhole) (arg6 : Memref sig .tc .vmem S512x256 .f32)
    (harg6 : arg6.IsWhole) (arg7 : Memref sig .tc .vmem S1x512x128 .f32) (harg7 : arg7.IsWhole) (arg8 : Memref sig .tc .vmem S512x256 .f32)
    (harg8 : arg8.IsWhole) (arg9 : Memref sig .tc .vmem S4096x256 .f32) (harg9 : arg9.IsWhole) (arg10 : Memref sig .tc .vmem S4096x256 .f32)
    (harg10 : arg10.IsWhole) (v22 : BitVec 32) (v30 : FVec F S512x256 .f32) (v32 : FVec F S512x128 .bf16) (v34 : FVec F S512x128 .bf16)
    (v36 : FVec F S512x128 .bf16) (v37 : FVec F S512x128 .f32) (v45 : Vec F S1x512x128 .f32) (X_arg3 : BufTy.Contents (Elt F) arg3.view.ty)
    (X_arg4 : BufTy.Contents (Elt F) arg4.view.ty) (k : Fin (k1_t1_loop i).trips) (acc : BwdState F)
    (f_arg9 : BufTy.Contents (Elt F) arg9.view.ty) (f_arg10 : BufTy.Contents (Elt F) arg10.view.ty) :
    tripL_k1_t1 (F := F) 𝒱 c bd i arg2 harg2 arg3 harg3 arg4 harg4 arg5 harg5 arg6 harg6 arg7 harg7 arg8 harg8 arg9 harg9 arg10 harg10 v22 v30 v32 v34 v36 v37 v45 X_arg3 X_arg4 k acc f_arg9 f_arg10
      = (both arg9 (k1_off3 i k) (k1_off3_inb i k) (k1_off4 i k) (k1_off4_inb i k) f_arg9
            (dScore (expOf (scl acc.1) (lse0 v45)) acc.2.1 (rowSum (half0 v30))) (dScore (expOf (scl acc.2.2.1) (lse1 v45)) acc.2.2.2.1 (rowSum (half1 v30)))
            v32 v34,
          both arg10 (k1_off3 i k) (k1_off3_inb i k) (k1_off4 i k) (k1_off4_inb i k) f_arg10
            (expOf (scl acc.1) (lse0 v45)) (expOf (scl acc.2.2.1) (lse1 v45)) v36 (headD v37)) := by
  unfold tripL_k1_t1 trip_k1_t1
  dsimp only
  rfl

end Cert.MlaIdeal.Lat

end
-- ==== Proof.MlaForward.lean ====
/- What the forward kernel leaves at one grid point, as a recursion over the earlier blocks of keys. -/
module

public import proofs.«01_k».proof.Proof.MlaTrips
public import proofs.«01_k».proof.Proof.Gen.MlaIdeal.Frame
public import Idealize.ShloMosaic.Lib.VecWindow
public import Idealize.ShloMosaic.Lib.Pointwise
public import Idealize.ShloMosaic.Lib.Pipeline.ValueKit

@[expose] public section

set_option maxRecDepth 16384

noncomputable section

namespace Cert.MlaIdeal.Lat

open Idealize.ShloMosaic Idealize.ShloMosaic.TcCoe Idealize.ShloMosaic.Tactic
open Cert.MlaIdeal Cert.MlaIdeal.Gen

variable {F : FTy → Type} [FloatOps F] [Named F]

/-- The rows `off 0 …` and lanes `off 1 …` of a whole-sequence block of keys or values. -/
abbrev chunk (x : Vec F S4096x256 .bf16) (off : Fin 2 → ℕ) (inb : ∀ a, off a + S512x128.size a ≤ S4096x256.size a) : Vec F S512x128 .bf16 :=
  View.ld x (rows off inb)

/-- The two heads' queries. -/
def headQ0 (x : Vec F S512x256 .bf16) : FVec F S512x128 .bf16 :=
  blk (View.ld x (Rect.unit (s := S512x256) ![0, 0] S512x128.size inb_S512x256_S512x128_0_0))
def headQ1 (x : Vec F S512x256 .bf16) : FVec F S512x128 .bf16 :=
  blk (View.ld x (Rect.unit (s := S512x256) ![0, 128] S512x128.size inb_S512x256_S512x128_0_128))

/-- Two heads' blocks side by side. -/
def side {e : EltTy} (a b : Vec F S512x128 e) : Vec F S512x256 e := fun y =>
  if h : (y 1).val < 128 then a (ix2 (y 0) ⟨(y 1).val, h⟩)
  else b (ix2 (y 0) ⟨(y 1).val - 128, by have := (y 1).isLt; have e : S512x256.size 1 = 256 := rfl; omega⟩)

theorem put_sides {e : EltTy} (x : Vec F S512x256 e) (a b : Vec F S512x128 e) :
    VecWindow.put (VecWindow.put x ![0, 0] S512x128.size a) ![0, 128] S512x128.size b = side a b := by
  funext y
  have h0 : (y 0).val < 512 := (y 0).isLt
  have h1 : (y 1).val < 256 := (y 1).isLt
  unfold side VecWindow.put
  by_cases h : (y 1).val < 128
  · rw [dif_pos h, dif_neg (fun hh => by have := (hh 1).1; have e : (![0, 128] : Fin 2 → ℕ) 1 = 128 := rfl; omega),
      dif_pos (fun a => by fin_cases a; exacts [⟨Nat.zero_le _, by simpa using h0⟩, ⟨Nat.zero_le _, by simpa using h⟩])]
    congr 1
    funext a
    fin_cases a <;> rfl
  · rw [dif_neg h, dif_pos (fun a => by fin_cases a; exacts [⟨Nat.zero_le _, by simpa using h0⟩, ⟨by simpa using Nat.le_of_not_lt h, by simpa using h1⟩])]
    congr 1
    funext a
    fin_cases a <;> rfl

/-- The distance of the masked block from the queries' block, as the kernel computes it. -/
def diagOf (a : BitVec 32) : BitVec 32 :=
  let v2 : BitVec 32 := Scalar.muli a 512#32
  let v3 : BitVec 32 := Scalar.divsi v2 512#32
  let v8 : BitVec 32 := Scalar.subi (Scalar.extui (Scalar.cmpi .sgt v2 0#32)) (Scalar.extui (Scalar.cmpi .slt v2 0#32))
  let v13 : BitVec 32 := Scalar.subi (Scalar.extui (Scalar.cmpi .sgt 512#32 0#32)) (Scalar.extui (Scalar.cmpi .slt 512#32 0#32))
  let v17 : BitVec 1 := Scalar.andi (Scalar.cmpi .ne v8 v13) (Scalar.cmpi .ne (Scalar.remsi v2 512#32) 0#32)
  let v19 : BitVec 32 := Scalar.select v17 (Scalar.subi v3 1#32) v3
  Scalar.subi (Scalar.muli v19 512#32) (Scalar.muli a 512#32)

theorem diagOf_eq : ∀ n : Fin 8, diagOf (BitVec.ofNat 32 n.val) = 0#32 := by decide +kernel

/-- The state after the first `n` blocks of keys. -/
def fwdAfter (i : grid0.Coords) (x0 : Vec F S512x256 .bf16) (x1 x2 : Vec F S4096x256 .bf16) : ℕ → FwdState F
  | 0 => (scores (headQ0 x0) (blk (chunk x1 ![0, 0] inb_S4096x256_S512x128_0_0)), scores (headQ1 x0) (blk (chunk x1 ![0, 128] inb_S4096x256_S512x128_0_128)),
      lowCol, zeroCol, zeroOut, lowCol, zeroCol, zeroOut)
  | n + 1 =>
    if h : n < (k0_t1_loop i).trips then
      fwdTrip (headQ0 x0) (headQ1 x0) (chunk x1 (k0_off1 i ⟨n, h⟩) (k0_off1_inb i ⟨n, h⟩)) (chunk x1 (k0_off2 i ⟨n, h⟩) (k0_off2_inb i ⟨n, h⟩))
        (chunk x2 (k0_off3 i ⟨n, h⟩) (k0_off3_inb i ⟨n, h⟩)) (chunk x2 (k0_off4 i ⟨n, h⟩) (k0_off4_inb i ⟨n, h⟩)) (fwdAfter i x0 x1 x2 n)
    else fwdAfter i x0 x1 x2 n

theorem st_fwd
    (𝒱 : Variants) (c : Dev nD) (bd : Option 𝒱.V) (i : grid0.Coords) (arg2 : Memref sig .tc .vmem S512x256 .bf16) (harg2 : arg2.IsWhole)
    (arg3 : Memref sig .tc .vmem S4096x256 .bf16) (harg3 : arg3.IsWhole) (arg4 : Memref sig .tc .vmem S4096x256 .bf16)
    (harg4 : arg4.IsWhole) (arg5 : Memref sig .tc .vmem S512x256 .f32) (harg5 : arg5.IsWhole) (arg6 : Memref sig .tc .vmem S1x512x128 .f32)
    (harg6 : arg6.IsWhole) (arg1 : BitVec 32) (v19 : BitVec 32) (v22 : IVec S512x512 32) (v25 : FVec F S512x128 .bf16)
    (v27 : FVec F S512x128 .bf16) (v28 : FVec F S512x128 .f32) (v29 : FVec F S512x1 .f32) (v30 : FVec F S512x1 .f32)
    (v31 : FVec F S512x1 .f32) (v36 : FVec F S512x512 .f32) (X_arg3 : BufTy.Contents (Elt F) arg3.view.ty)
    (X_arg4 : BufTy.Contents (Elt F) arg4.view.ty)
    (init : FwdState F) (x0 : Vec F S512x256 .bf16) (x1 x2 : Vec F S4096x256 .bf16) (h0 : init = fwdAfter i x0 x1 x2 0)
    (h25 : v25 = headQ0 x0) (h27 : v27 = headQ1 x0)
    (hX3 : arg3.view.read (Elt F) X_arg3 = x1) (hX4 : arg4.view.read (Elt F) X_arg4 = x2) : ∀ n, n ≤ (k0_t1_loop i).trips →
    st_k0_t1 (F := F) 𝒱 c bd i arg2 harg2 arg3 harg3 arg4 harg4 arg5 harg5 arg6 harg6 arg1 v19 v22 v25 v27 v28 v29 v30 v31 v36 X_arg3 X_arg4 init n
      = fwdAfter i x0 x1 x2 n
  | 0, _ => h0
  | n + 1, h => by
    rw [st_k0_t1_succ (F := F) 𝒱 c bd i arg2 harg2 arg3 harg3 arg4 harg4 arg5 harg5 arg6 harg6 arg1 v19 v22 v25 v27 v28 v29 v30 v31 v36 X_arg3 X_arg4 init ⟨n, h⟩, tripR_k0_eq,
      st_fwd 𝒱 c bd i arg2 harg2 arg3 harg3 arg4 harg4 arg5 harg5 arg6 harg6 arg1 v19 v22 v25 v27 v28 v29 v30 v31 v36 X_arg3 X_arg4 init x0 x1 x2 h0 h25 h27 hX3 hX4 n (Nat.le_of_succ_le h),
      View.readAt_eq_ld, View.readAt_eq_ld, View.readAt_eq_ld, View.readAt_eq_ld, hX3, hX4, h25, h27, fwdAfter, dif_pos (show n < (k0_t1_loop i).trips from h)]

theorem hz2 : (![0, 0] : Fin 2 → ℕ) = fun _ => 0 := by decide
theorem hz3 : (![0, 0, 0] : Fin 3 → ℕ) = fun _ => 0 := by decide

theorem k0_t2_zero (i : grid0.Coords) : (k0_t2_loop i).trips = 0 := Nat.le_zero.mp (k0_t2_abs i).2.1

/-- The masked scores of the last block, the queries' own. -/
def lastBlock (i : grid0.Coords) (s : FVec F S512x512 .f32) : FVec F S512x512 .f32 :=
  masked (visAt (diagOf (BitVec.ofNat 32 (i 1).val))) (scl s)

/-- The output block of a point. -/
def fwdOut (i : grid0.Coords) (x0 : Vec F S512x256 .bf16) (x1 x2 : Vec F S4096x256 .bf16) : Vec F S512x256 .f32 :=
  have s : FwdState F := fwdAfter i x0 x1 x2 (k0_t1_loop i).trips
  side (outOf (sumNext s.2.2.1 s.2.2.2.1 (lastBlock i s.1)) (accNext s.2.2.1 s.2.2.2.2.1 (lastBlock i s.1) (blk (chunk x2 (k0_off9 i) (k0_off9_inb i)))))
    (outOf (sumNext s.2.2.2.2.2.1 s.2.2.2.2.2.2.1 (lastBlock i s.2.1))
      (accNext s.2.2.2.2.2.1 s.2.2.2.2.2.2.2 (lastBlock i s.2.1) (blk (chunk x2 (k0_off10 i) (k0_off10_inb i)))))

/-- The block of row logarithms of a point. -/
def fwdLse (i : grid0.Coords) (x0 : Vec F S512x256 .bf16) (x1 x2 : Vec F S4096x256 .bf16) : FVec F S1x512x128 .f32 :=
  have s : FwdState F := fwdAfter i x0 x1 x2 (k0_t1_loop i).trips
  shapeCast S1x512x128 (pickCols (laneOf 0#32)
    (lseOf (maxNext s.2.2.1 (lastBlock i s.1)) (sumNext s.2.2.1 s.2.2.2.1 (lastBlock i s.1)))
    (lseOf (maxNext s.2.2.2.2.2.1 (lastBlock i s.2.1)) (sumNext s.2.2.2.2.2.1 s.2.2.2.2.2.2.1 (lastBlock i s.2.1)))) shapeCasts_S512x128_S1x512x128

theorem out0_A_3_eq
    (c : Dev nD) (i : grid0.Coords) (arg2 : Memref sig .tc .vmem S512x256 .bf16) (harg2 : arg2.IsWhole)
    (arg3 : Memref sig .tc .vmem S4096x256 .bf16) (harg3 : arg3.IsWhole) (arg4 : Memref sig .tc .vmem S4096x256 .bf16)
    (harg4 : arg4.IsWhole) (arg5 : Memref sig .tc .vmem S512x256 .f32) (harg5 : arg5.IsWhole) (arg6 : Memref sig .tc .vmem S1x512x128 .f32)
    (harg6 : arg6.IsWhole) (x0 : Vec F S512x256 .bf16) (x1 : Vec F S4096x256 .bf16) (x2 : Vec F S4096x256 .bf16) :
    out0_A_3 c i arg2 harg2 arg3 harg3 arg4 harg4 arg5 harg5 arg6 harg6 x0 x1 x2 = fwdOut i x0 x1 x2 := by
  have e0 := harg2.read_unread x0
  have e1 := harg3.read_unread x1
  have e2 := harg4.read_unread x2
  unfold out0_A_3
  unfold kernelRun0_A
  dsimp only
  rw [View.read_writes_cons_put _ _ inb_S512x256_S512x128_0_128 _ _ rfl, View.read_writes_cons_put _ _ inb_S512x256_S512x128_0_0 _ _ rfl, put_sides]
  unfold kernelRun0_A.sl.r_10 kernelRun0_A.sl.r_11
  unfold  kernelRun0_A.sl.r_8 kernelRun0_A.sl.r_9 kernelRun0_A.sl.r_3 kernelRun0_A.sl.r_4 kernelRun0_A.sl.r_5 kernelRun0_A.sl.r_6
  rw [show Scf.trips (k0_t2_loop i).lb (k0_t2_loop i).ub (k0_t2_loop i).st = 0 from k0_t2_zero i, st_k0_t2_zero]
  rw [st_fwd (x0 := x0) (x1 := x1) (x2 := x2) (hX3 := e1) (hX4 := e2) (n := Scf.trips (k0_t1_loop i).lb (k0_t1_loop i).ub (k0_t1_loop i).st)]
  · rw [View.readAt_eq_ld, View.readAt_eq_ld, e2]
    rfl
  · conv_rhs => rw [← e0, ← e1]
    rfl
  · conv_rhs => rw [← e0]
    rfl
  · conv_rhs => rw [← e0]
    rfl
  · exact le_rfl

theorem out0_A_4_eq
    (c : Dev nD) (i : grid0.Coords) (arg2 : Memref sig .tc .vmem S512x256 .bf16) (harg2 : arg2.IsWhole)
    (arg3 : Memref sig .tc .vmem S4096x256 .bf16) (harg3 : arg3.IsWhole) (arg4 : Memref sig .tc .vmem S4096x256 .bf16)
    (harg4 : arg4.IsWhole) (arg5 : Memref sig .tc .vmem S512x256 .f32) (harg5 : arg5.IsWhole) (arg6 : Memref sig .tc .vmem S1x512x128 .f32)
    (harg6 : arg6.IsWhole) (x0 : Vec F S512x256 .bf16) (x1 : Vec F S4096x256 .bf16) (x2 : Vec F S4096x256 .bf16) :
    out0_A_4 c i arg2 harg2 arg3 harg3 arg4 harg4 arg5 harg5 arg6 harg6 x0 x1 x2 = fwdLse i x0 x1 x2 := by
  have e0 := harg2.read_unread x0
  have e1 := harg3.read_unread x1
  have e2 := harg4.read_unread x2
  unfold out0_A_4
  rw [View.read_writes_eq_canon _ _ _ (cover0_A_4 c i arg2 harg2 arg3 harg3 arg4 harg4 arg5 harg5 arg6 harg6 x0 x1 x2)]
  unfold kernelRun0_A
  dsimp only
  rw [View.canon_unit_zero hz3]
  unfold kernelRun0_A.sl.r_12 kernelRun0_A.sl.r_13
  unfold kernelRun0_A.sl.r_7 kernelRun0_A.sl.r_8 kernelRun0_A.sl.r_3 kernelRun0_A.sl.r_4 kernelRun0_A.sl.r_5
  rw [show Scf.trips (k0_t2_loop i).lb (k0_t2_loop i).ub (k0_t2_loop i).st = 0 from k0_t2_zero i, st_k0_t2_zero]
  rw [st_fwd (x0 := x0) (x1 := x1) (x2 := x2) (hX3 := e1) (hX4 := e2) (n := Scf.trips (k0_t1_loop i).lb (k0_t1_loop i).ub (k0_t1_loop i).st)]
  · rfl
  · conv_rhs => rw [← e0, ← e1]
    rfl
  · conv_rhs => rw [← e0]
    rfl
  · conv_rhs => rw [← e0]
    rfl
  · exact le_rfl

end Cert.MlaIdeal.Lat

end
-- ==== Proof.MlaReal.lean ====
/- The latent attention kernels' block operations over the reals. -/
module

public import proofs.«01_k».proof.Proof.MlaForward
public import proofs.«01_k».proof.Proof.Masks

@[expose] public section

set_option maxRecDepth 16384

noncomputable section

namespace Cert.MlaIdeal.Lat

open Idealize.ShloMosaic Idealize.ShloMosaic.TcCoe Idealize.ShloMosaic.Tactic
open Cert.MlaIdeal Cert.MlaIdeal.Gen
open Cert.KernelIdeal.Sb (Re Re.congr Re.addf Re.subf Re.mulf Re.exp coe_sum coe_dot coe_max log_coe_pos Vis Sel toInt_small ofBool_decide)
open Finset (range)

/-- The scale of the scores, `96^(-1/2)` rounded to f32. -/
def sc : ℝ := 13698540 / 134217728

theorem sc_bits : Ideal.ofBits .f32 0x3DD105EC#32 = ((sc : ℝ) : EReal) := by
  unfold sc
  simp [Ideal.ofBits, Ideal.ieee, -EReal.coe_mul]; norm_num

theorem low_bits : Ideal.ofBits .f32 0xFF800000#32 = (⊥ : EReal) := by
  simp [Ideal.ofBits, Ideal.ieee]

theorem low_named : (Named.named (F := Ideal) κ "mask" 0xF149F2CA#32 : Ideal .f32) = (⊥ : EReal) :=
  IdealRules.named_const.ideal_named_scalar _ _ _ _ rfl

theorem div_real {x y : ℝ} (h : y ≠ 0) : Ideal.div (x : EReal) (y : EReal) = ((x / y : ℝ) : EReal) := by
  rw [Ideal.div_coe h, ← EReal.coe_mul]; congr 1; ring

/-! ### Products -/

theorem Re.blk {x : FVec Ideal S512x128 .bf16} {f : ℕ → ℕ → ℝ} (hx : Re x f) : Re (blk x) f := fun r c => by
  pointwise [Lat.blk]
  exact hx r c

theorem Re.scores {q k : FVec Ideal S512x128 .bf16} {f g : ℕ → ℕ → ℝ} (hq : Re q f) (hk : Re k g) :
    Re (scores q k) (fun r c => ∑ l ∈ range 128, f r l * g c l) := fun r c => by
  pointwise [Lat.scores]
  exact coe_dot (f := f r) (g := g c) (fun l => hq r l) (fun l => hk c l)

theorem Re.scl {s : FVec Ideal S512x512 .f32} {f : ℕ → ℕ → ℝ} (hs : Re s f) : Re (scl s) (fun r c => f r c * sc) := fun r c => by
  show s (ix2 r c) * Ideal.ofBits .f32 0x3DD105EC#32 = _
  rw [hs r c, sc_bits, ← EReal.coe_mul]

theorem Re.addTn {old : FVec Ideal S512x128 .f32} {x : FVec Ideal S512x512 .f32} {y : FVec Ideal S512x128 .bf16} {A f g : ℕ → ℕ → ℝ}
    (ha : Re old A) (hx : Re x f) (hy : Re y g) : Re (addTn old x y) (fun r l => A r l + ∑ k ∈ range 512, f k r * g k l) := fun r l => by
  pointwise [Lat.addTn]
  rw [coe_dot (f := fun k => f k r) (g := fun k => g k l) (fun k => hx k r) (fun k => hy k l), ha r l, ← EReal.coe_add]

theorem Re.addNn {acc : FVec Ideal S512x128 .f32} {x : FVec Ideal S512x512 .f32} {y : FVec Ideal S512x128 .bf16} {A f g : ℕ → ℕ → ℝ}
    (ha : Re acc A) (hx : Re x f) (hy : Re y g) : Re (addNn acc x y) (fun r l => A r l + ∑ k ∈ range 512, f r k * g k l) := fun r l => by
  pointwise [Lat.addNn]
  rw [coe_dot (f := f r) (g := fun k => g k l) (fun k => hx r k) (fun k => hy k l), ha r l, ← EReal.coe_add]

theorem Re.dScore {p dp : FVec Ideal S512x512 .f32} {dl : FVec Ideal S512x1 .f32} {f g : ℕ → ℕ → ℝ} {D : ℕ → ℝ} (hp : Re p f) (hd : Re dp g)
    (hl : Re dl (fun r _ => D r)) : Re (dScore p dp dl) (fun r c => f r c * (g r c - D r) * sc) := by
  have hb : Re (broadcastTo S512x512 dl broadcasts_S512x1_S512x512) (fun r _ => D r) := fun r c => by
    pointwise
    exact hl r 0
  exact Re.scl (Re.mulf hp (Re.subf hd hb))

theorem Re.rowSum {x : FVec Ideal S512x128 .f32} {f : ℕ → ℕ → ℝ} (hx : Re x f) : Re (rowSum x) (fun r _ => ∑ l ∈ range 128, f r l) := fun r c => by
  have e : c = 0 := Subsingleton.elim _ _
  subst e
  pointwise [Lat.rowSum]
  rw [Finset.sum_congr rfl (fun k _ => hx r k), coe_sum, Finset.sum_range]

theorem Re.half0 {x : FVec Ideal S512x256 .f32} {f : ℕ → ℕ → ℝ} (hx : Re x f) : Re (half0 x) f := fun r c => by
  pointwise [Lat.half0]
  exact hx r _
theorem Re.half1 {x : FVec Ideal S512x256 .f32} {f : ℕ → ℕ → ℝ} (hx : Re x f) : Re (half1 x) (fun r c => f r (128 + c)) := fun r c => by
  pointwise [Lat.half1]
  exact hx r _

theorem Re.cast256 {x : FVec Ideal S512x256 .f32} {f : ℕ → ℕ → ℝ} (hx : Re x f) : Re (shapeCast S512x256 x shapeCasts_S512x256_S512x256) f := fun r c => by
  pointwise
  exact hx r c

/-! ### The masks -/

theorem or63 : ∀ n : Fin 512, BitVec.ofNat 32 n.val ||| 63#32 = BitVec.ofNat 32 (n.val / 64 * 64 + 63) := by decide +kernel

theorem vis_diag : Vis (visAt 0#32) (fun r k => k / 64 ≤ r / 64) := by
  intro r c
  pointwise [visAt]
  simp only [IntOp.cmpi, IntOp.addi, IntOp.subi, IntOp.ori, BitVec.add_zero]
  rw [or63 r]
  have h : (BitVec.ofNat 32 c.val - BitVec.ofNat 32 (r.val / 64 * 64 + 63)).toInt = (c.val : ℤ) - ((r.val / 64 * 64 + 63 : ℕ) : ℤ) := by
    rw [BitVec.toInt_sub, toInt_small (by omega), toInt_small (by omega), Int.bmod_def]
    norm_num
    omega
  have h' : (BitVec.ofNat 32 c.val - BitVec.ofNat 32 (r.val / 64 * 64 + 63)).sle 0#32 = decide (c.val / 64 ≤ r.val / 64) := by
    rw [BitVec.sle, h]
    exact decide_eq_decide.mpr (by simp only [BitVec.toInt_zero]; omega)
  rw [h', ofBool_decide]

theorem sel_lane0 : Sel (laneOf 0#32) (fun l => l / 64 = 0) := by unfold Sel; decide +kernel

theorem Re.pickCols {sel : IVec S1x128 1} {p : ℕ → Prop} [DecidablePred p] (hs : Sel sel p) {x y : FVec Ideal S512x1 .f32} {f g : ℕ → ℝ}
    (hx : Re x (fun r _ => f r)) (hy : Re y (fun r _ => g r)) : Re (pickCols sel x y) (fun r c => if p c then f r else g r) := fun r c => by
  pointwise [Lat.pickCols]
  rw [hs c, hx r 0, hy r 0]
  by_cases h : p c
  · rw [if_pos h, if_pos h]; rfl
  · rw [if_neg h, if_neg h]; rfl

/-! ### The weights -/

/-- A block of scores whose exponentials are `w`: a score is a real number, or `-∞` where the weight is zero. -/
def Wt (s : FVec Ideal S512x512 .f32) (w : ℕ → ℕ → ℝ) : Prop :=
  ∀ r k : Fin 512, (∃ z : ℝ, (s (ix2 r k) : EReal) = (z : EReal) ∧ w r k = Real.exp z) ∨ ((s (ix2 r k) : EReal) = ⊥ ∧ w r k = 0)

/-- Every row has a score that is a real number. -/
def Has (s : FVec Ideal S512x512 .f32) : Prop := ∀ r : Fin 512, ∃ (k : Fin 512) (z : ℝ), (s (ix2 r k) : EReal) = (z : EReal)

theorem wt_re {s : FVec Ideal S512x512 .f32} {f : ℕ → ℕ → ℝ} (hs : Re s f) : Wt s (fun r k => Real.exp (f r k)) ∧ Has s :=
  ⟨fun r k => .inl ⟨_, hs r k, rfl⟩, fun r => ⟨0, _, hs r 0⟩⟩

theorem wt_masked {vis : IVec S512x512 1} {p : ℕ → ℕ → Prop} [DecidableRel p] (hv : Vis vis p) (h0 : ∀ r, p r 0) {s : FVec Ideal S512x512 .f32}
    {f : ℕ → ℕ → ℝ} (hs : Re s f) : Wt (masked vis s) (fun r k => if p r k then Real.exp (f r k) else 0) ∧ Has (masked vis s) := by
  have e : ∀ r k : Fin 512, (masked vis s (ix2 r k) : EReal) = if p r k then ((f r k : ℝ) : EReal) else ⊥ := fun r k => by
    pointwise [Lat.masked]
    rw [hv r k, hs r k, low_named]
    by_cases h : p r k
    · rw [if_pos h, if_pos h]; rfl
    · rw [if_neg h, if_neg h]; rfl
  refine ⟨fun r k => ?_, fun r => ⟨0, f r 0, (e r 0).trans (if_pos (h0 r))⟩⟩
  rw [e r k]
  dsimp only
  by_cases h : p r k
  · exact .inl ⟨f r k, if_pos h, if_pos h⟩
  · exact .inr ⟨if_neg h, if_neg h⟩

theorem re_expOf {s : FVec Ideal S512x512 .f32} {w : ℕ → ℕ → ℝ} (hs : Wt s w) {m : FVec Ideal S512x1 .f32} {μ : ℕ → ℝ} (hm : Re m (fun r _ => μ r)) :
    Re (expOf s m) (fun r k => Real.exp (-μ r) * w r k) := fun r k => by
  pointwise [Lat.expOf]
  rw [hm r 0]
  rcases hs r k with ⟨z, hz, hw⟩ | ⟨hz, hw⟩
  · rw [hz, hw, ← EReal.coe_sub, Ideal.exp_coe, ← Real.exp_add]
    congr 2; ring
  · rw [hz, hw, EReal.bot_sub, Ideal.exp_bot, mul_zero]; rfl

/-- The maximum of a row with a real number, of no `+∞`, is a real number. -/
theorem max_real {n : ℕ} (m : EReal) (x : Fin n → EReal) (hm : m ≠ ⊤) (hx : ∀ k, x k ≠ ⊤) (h : ∃ (k : Fin n) (z : ℝ), x k = (z : EReal)) :
    ∃ μ : ℝ, max m (Finset.fold max ⊥ x Finset.univ) = (μ : EReal) := by
  obtain ⟨k, z, hz⟩ := h
  have h1 : Finset.fold max ⊥ x Finset.univ < (⊤ : EReal) := by
    rw [Finset.fold_max_lt]
    exact ⟨bot_lt_top, fun k _ => lt_top_iff_ne_top.mpr (hx k)⟩
  have h2 : (z : EReal) ≤ Finset.fold max ⊥ x Finset.univ := by
    rw [Finset.le_fold_max]
    exact .inr ⟨k, Finset.mem_univ k, hz.ge⟩
  refine ⟨EReal.toReal _, (EReal.coe_toReal ?_ ?_).symm⟩
  · exact (max_lt (lt_top_iff_ne_top.mpr hm) h1).ne
  · exact (lt_of_lt_of_le (EReal.bot_lt_coe z) (h2.trans (le_max_right _ _))).ne'

/-- What a head carries, its weights so far adding up to `Λ` and its weighted values to `A`: each is kept as a multiple `e`, zero before the
    first block, of itself. -/
def St (m l : FVec Ideal S512x1 .f32) (acc : FVec Ideal S512x128 .f32) (Λ : ℕ → ℝ) (A : ℕ → ℕ → ℝ) : Prop :=
  ∃ e : ℕ → ℝ, (∀ r : Fin 512, ((m (ix2 r 0) : EReal) = ⊥ ∧ Λ r = 0 ∧ ∀ c, A r c = 0) ∨ ∃ μ : ℝ, (m (ix2 r 0) : EReal) = (μ : EReal) ∧ e r = Real.exp (-μ))
    ∧ Re l (fun r _ => e r * Λ r) ∧ Re acc (fun r c => e r * A r c)

theorem st_start : St lowCol zeroCol zeroOut (fun _ => 0) (fun _ _ => 0) := by
  refine ⟨fun _ => 0, fun r => .inl ⟨?_, rfl, fun _ => rfl⟩, fun r c => ?_, fun r c => ?_⟩
  · pointwise [Lat.lowCol]
    exact low_named
  · pointwise [Lat.zeroCol]
    rw [mul_zero]; rfl
  · pointwise [Lat.zeroOut]
    rw [mul_zero]; rfl

theorem St.step {m l : FVec Ideal S512x1 .f32} {acc : FVec Ideal S512x128 .f32} {Λ : ℕ → ℝ} {A : ℕ → ℕ → ℝ} (h : St m l acc Λ A)
    {s : FVec Ideal S512x512 .f32} {w : ℕ → ℕ → ℝ} (hs : Wt s w ∧ Has s) {v : FVec Ideal S512x128 .bf16} {g : ℕ → ℕ → ℝ} (hv : Re v g) :
    ∃ μ : ℕ → ℝ, Re (maxNext m s) (fun r _ => μ r) ∧ Re (sumNext m l s) (fun r _ => Real.exp (-μ r) * (Λ r + ∑ k ∈ range 512, w r k))
      ∧ Re (accNext m acc s v) (fun r c => Real.exp (-μ r) * (A r c + ∑ k ∈ range 512, w r k * g k c)) := by
  obtain ⟨e, hm, hl, ha⟩ := h
  have hex : ∀ r : Fin 512, ∃ μ : ℝ, (maxNext m s (ix2 r 0) : EReal) = (μ : EReal) := fun r => by
    pointwise [Lat.maxNext]
    rw [low_bits]
    refine max_real _ _ ?_ (fun k => ?_) (hs.2 r)
    · rcases hm r with ⟨h, _⟩ | ⟨μ, h, _⟩
      · rw [h]; exact bot_ne_top
      · rw [h]; exact EReal.coe_ne_top μ
    · rcases hs.1 r k with ⟨z, h, _⟩ | ⟨h, _⟩
      · rw [h]; exact EReal.coe_ne_top z
      · rw [h]; exact bot_ne_top
  choose μ hμ using hex
  have hM : Re (maxNext m s) (fun r _ => if hr : r < 512 then μ ⟨r, hr⟩ else 0) := fun r c => by
    have e : c = 0 := Subsingleton.elim _ _
    subst e
    dsimp only
    rw [dif_pos r.isLt]
    exact hμ r
  refine ⟨fun r => if hr : r < 512 then μ ⟨r, hr⟩ else 0, hM, fun r c => ?_, fun r c => ?_⟩
  all_goals
    have hw := re_expOf hs.1 hM r
    have hd : (decay m (maxNext m s) (ix2 r 0) : EReal) = Ideal.exp ((m (ix2 r 0) : EReal) - (μ r : EReal)) := by
      pointwise [Lat.decay]
      rw [hμ r]
    have e1 : (if hr : r.val < 512 then μ ⟨r.val, hr⟩ else 0) = μ r := dif_pos r.isLt
    simp only [e1] at hw ⊢
  · have e : c = 0 := Subsingleton.elim _ _
    subst e
    pointwise [Lat.sumNext]
    rw [Finset.sum_congr rfl (fun k _ => hw k), coe_sum, hd, hl r 0, ← Finset.sum_range (fun k => Real.exp (-μ r) * w r k), ← Finset.mul_sum]
    rcases hm r with ⟨h, hΛ, _⟩ | ⟨ν, h, he⟩
    · rw [h, EReal.bot_sub, Ideal.exp_bot, zero_mul, zero_add, hΛ, zero_add]
    · rw [h, ← EReal.coe_sub, Ideal.exp_coe, ← EReal.coe_mul, ← EReal.coe_add]
      beta_reduce
      rw [he, ← mul_assoc, ← Real.exp_add, mul_add]
      congr 4; ring
  · pointwise [Lat.accNext]
    rw [coe_dot (f := fun k => Real.exp (-μ r) * w r k) (g := fun k => g k c) (fun k => hw k) (fun k => hv k c), hd, ha r c,
      Finset.sum_congr rfl (fun k _ => mul_assoc (Real.exp (-μ r)) (w r k) (g k c)), ← Finset.mul_sum]
    rcases hm r with ⟨h, _, hA⟩ | ⟨ν, h, he⟩
    · rw [h, EReal.bot_sub, Ideal.exp_bot, zero_mul, zero_add, hA, zero_add]
    · rw [h, ← EReal.coe_sub, Ideal.exp_coe, ← EReal.coe_mul, ← EReal.coe_add]
      beta_reduce
      rw [he, ← mul_assoc, ← Real.exp_add, mul_add]
      congr 4; ring

theorem St.next {m l : FVec Ideal S512x1 .f32} {acc : FVec Ideal S512x128 .f32} {Λ : ℕ → ℝ} {A : ℕ → ℕ → ℝ} (h : St m l acc Λ A)
    {s : FVec Ideal S512x512 .f32} {w : ℕ → ℕ → ℝ} (hs : Wt s w ∧ Has s) {v : FVec Ideal S512x128 .bf16} {g : ℕ → ℕ → ℝ} (hv : Re v g) :
    St (maxNext m s) (sumNext m l s) (accNext m acc s v) (fun r => Λ r + ∑ k ∈ range 512, w r k) (fun r c => A r c + ∑ k ∈ range 512, w r k * g k c) := by
  obtain ⟨μ, h1, h2, h3⟩ := h.step hs hv
  exact ⟨fun r => Real.exp (-μ r), fun r => .inr ⟨μ r, h1 r 0, rfl⟩, h2, h3⟩

theorem re_outOf {l : FVec Ideal S512x1 .f32} {acc : FVec Ideal S512x128 .f32} {μ Λ : ℕ → ℝ} {A : ℕ → ℕ → ℝ}
    (hl : Re l (fun r _ => Real.exp (-μ r) * Λ r)) (ha : Re acc (fun r c => Real.exp (-μ r) * A r c)) (hΛ : ∀ r < 512, 0 < Λ r) :
    Re (outOf l acc) (fun r c => A r c / Λ r) := fun r c => by
  pointwise [Lat.outOf]
  rw [hl r 0, ha r c]
  have h := hΛ r r.isLt
  have he := Real.exp_pos (-μ r)
  rw [div_real (by positivity)]
  congr 1
  exact mul_div_mul_left _ _ he.ne'

theorem re_lseOf {m l : FVec Ideal S512x1 .f32} {μ Λ : ℕ → ℝ} (hm : Re m (fun r _ => μ r))
    (hl : Re l (fun r _ => Real.exp (-μ r) * Λ r)) (hΛ : ∀ r < 512, 0 < Λ r) :
    Re (lseOf m l) (fun r _ => Real.log (Λ r)) := fun r c => by
  have e : c = 0 := Subsingleton.elim _ _
  subst e
  pointwise [Lat.lseOf]
  rw [hm r 0, hl r 0]
  have h := hΛ r r.isLt
  have he := Real.exp_pos (-μ r)
  rw [log_coe_pos (by positivity), ← EReal.coe_add, Real.log_mul he.ne' h.ne', Real.log_exp]
  congr 1; ring

end Cert.MlaIdeal.Lat

end
-- ==== Proof.MlaForwardReal.lean ====
/- The forward kernel's outputs and row logarithms over the reals. -/
module

public import proofs.«01_k».proof.Proof.MlaReal

@[expose] public section

set_option maxRecDepth 16384

noncomputable section

namespace Cert.MlaIdeal.Lat

open Idealize.ShloMosaic Idealize.ShloMosaic.TcCoe Idealize.ShloMosaic.Tactic
open Cert.MlaIdeal Cert.MlaIdeal.Gen
open Cert.KernelIdeal.Sb (Re Re.congr Re.addf Re.subf Re.mulf Re.exp coe_sum coe_dot coe_max log_coe_pos Vis Sel toInt_small ofBool_decide)
open Finset (range)

/-! ### The heads' mathematics: rows `t`, keys `j`, 128 lanes -/

/-- Head `a`'s columns of a matrix. -/
def hd (a : ℕ) (X : ℕ → ℕ → ℝ) (t l : ℕ) : ℝ := X t (128 * a + l)

/-- The weight of key `j` for query `t` before it is divided by the row's sum: zero where `j`'s chunk of 64 comes after `t`'s. -/
def E (Q K : ℕ → ℕ → ℝ) (t j : ℕ) : ℝ := if j / 64 ≤ t / 64 then Real.exp ((∑ l ∈ range 128, Q t l * K j l) * sc) else 0

/-- The sum of a row's weights. -/
def Sm (Q K : ℕ → ℕ → ℝ) (t : ℕ) : ℝ := ∑ j ∈ range 4096, E Q K t j

/-- The output. -/
def Ou (Q K V : ℕ → ℕ → ℝ) (t l : ℕ) : ℝ := (∑ j ∈ range 4096, E Q K t j * V j l) / Sm Q K t

theorem E_nonneg (Q K : ℕ → ℕ → ℝ) (t j : ℕ) : 0 ≤ E Q K t j := by
  unfold E
  split
  · exact (Real.exp_pos _).le
  · exact le_rfl

theorem Sm_pos (Q K : ℕ → ℕ → ℝ) (t : ℕ) : 0 < Sm Q K t := by
  refine Finset.sum_pos' (fun j _ => E_nonneg Q K t j) ⟨0, Finset.mem_range.mpr (by omega), ?_⟩
  rw [E, if_pos (by omega)]
  exact Real.exp_pos _

theorem E_later {Q K : ℕ → ℕ → ℝ} {b r j : ℕ} (hr : r < 512) (hj : 512 * (b + 1) ≤ j) : E Q K (512 * b + r) j = 0 := if_neg (by omega)

/-- A sum over the keys a block of queries sees reaches over all of them. -/
theorem sum_seen {F : ℕ → ℝ} {n : ℕ} (hn : n ≤ 4096) (h : ∀ m, n ≤ m → F m = 0) : ∑ m ∈ range n, F m = ∑ m ∈ range 4096, F m :=
  Finset.sum_subset (Finset.range_mono hn) fun m _ hm => h m (by rw [Finset.mem_range] at hm; omega)

/-! ### Blocks of rows and lanes -/

theorem re_chunk {x : FVec Ideal S4096x256 .bf16} {g : ℕ → ℕ → ℝ} (hx : Re x g) {off : Fin 2 → ℕ} {n a : ℕ} (h : off = ![512 * n, 128 * a])
    (inb : ∀ a, off a + S512x128.size a ≤ S4096x256.size a) : Re (blk (chunk x off inb)) (fun r c => hd a g (512 * n + r) c) :=
  Re.blk fun r c => by
  subst h
  have hn' : 512 * n + 512 ≤ 4096 := inb 0
  have ha' : 128 * a + 128 ≤ 256 := inb 1
  have := hx ⟨512 * n + r, by omega⟩ ⟨128 * a + c, by omega⟩
  unfold hd
  rw [← this]
  show x _ = x _
  congr 1
  refine (eq_ix2 _).trans ?_
  congr 1
  · exact Fin.ext (by simp)
  · exact Fin.ext (by simp)

theorem re_headQ0 {x : FVec Ideal S512x256 .bf16} {f : ℕ → ℕ → ℝ} (hx : Re x f) : Re (headQ0 x) (fun r l => hd 0 f r l) :=
  Re.blk fun r c => by
  have := hx r ⟨c, by omega⟩
  unfold hd
  rw [Nat.mul_zero, Nat.zero_add, ← this]
  show x _ = x _
  congr 1
  refine (eq_ix2 _).trans ?_
  congr 1
  · exact Fin.ext (by simp)
  · exact Fin.ext (by simp)

theorem re_headQ1 {x : FVec Ideal S512x256 .bf16} {f : ℕ → ℕ → ℝ} (hx : Re x f) : Re (headQ1 x) (fun r l => hd 1 f r l) :=
  Re.blk fun r c => by
  have := hx r ⟨128 + c, by omega⟩
  unfold hd
  rw [Nat.mul_one, ← this]
  show x _ = x _
  congr 1
  refine (eq_ix2 _).trans ?_
  congr 1
  · exact Fin.ext (by simp)
  · exact Fin.ext (by simp)

theorem re_side {a b : FVec Ideal S512x128 .f32} {f : ℕ → ℕ → ℕ → ℝ} (ha : Re a (f 0)) (hb : Re b (f 1)) :
    Re (R := 512) (C := 256) (φ := .f32) (side (F := Ideal) (e := .f32) a b) (fun r c => f (c / 128) r (c % 128)) := fun r c => by
  show (if h : c.val < 128 then a (ix2 r ⟨c.val, h⟩) else b (ix2 r ⟨c.val - 128, _⟩) : EReal) = _
  by_cases h : c.val < 128
  · rw [dif_pos h, ha r ⟨c.val, h⟩]
    dsimp only
    rw [show c.val / 128 = 0 by omega, show c.val % 128 = c.val by omega]
  · rw [dif_neg h, hb r ⟨c.val - 128, by omega⟩]
    dsimp only
    rw [show c.val / 128 = 1 by omega, show c.val % 128 = c.val - 128 by omega]

theorem k0_trips : ∀ i : grid0.Coords, (k0_t1_loop i).trips = (i 1).val := by decide +kernel
theorem k0_off1_at : ∀ (i : grid0.Coords) (k : Fin (k0_t1_loop i).trips), k0_off1 i k = ![512 * (k.val + 1), 128 * 0] := by decide +kernel
theorem k0_off2_at : ∀ (i : grid0.Coords) (k : Fin (k0_t1_loop i).trips), k0_off2 i k = ![512 * (k.val + 1), 128 * 1] := by decide +kernel
theorem k0_off3_at : ∀ (i : grid0.Coords) (k : Fin (k0_t1_loop i).trips), k0_off3 i k = ![512 * k.val, 128 * 0] := by decide +kernel
theorem k0_off4_at : ∀ (i : grid0.Coords) (k : Fin (k0_t1_loop i).trips), k0_off4 i k = ![512 * k.val, 128 * 1] := by decide +kernel
theorem k0_off9_at : ∀ i : grid0.Coords, k0_off9 i = ![512 * (i 1).val, 128 * 0] := by decide +kernel
theorem k0_off10_at : ∀ i : grid0.Coords, k0_off10 i = ![512 * (i 1).val, 128 * 1] := by decide +kernel

/-- The scores of a block, before the scale. -/
abbrev Dt (Q K : ℕ → ℕ → ℝ) (t j : ℕ) : ℝ := ∑ l ∈ range 128, Q t l * K j l

/-- The exponentials of a block of earlier keys, and of the queries' own block. -/
theorem wt_before {b c : ℕ} (hc : c < b) {Q K : ℕ → ℕ → ℝ} {s : FVec Ideal S512x512 .f32} (hs : Re s (fun r k => Dt Q K (512 * b + r) (512 * c + k))) :
    Wt (scl s) (fun r k => E Q K (512 * b + r) (512 * c + k)) ∧ Has (scl s) := by
  obtain ⟨h1, h2⟩ := wt_re (Re.scl hs)
  refine ⟨fun r k => ?_, h2⟩
  have e : E Q K (512 * b + r) (512 * c + k) = Real.exp (Dt Q K (512 * b + r) (512 * c + k) * sc) := if_pos (by omega)
  dsimp only
  rw [e]
  exact h1 r k

theorem wt_own {b : ℕ} (hb : b < 8) {Q K : ℕ → ℕ → ℝ} {s : FVec Ideal S512x512 .f32} (hs : Re s (fun r k => Dt Q K (512 * b + r) (512 * b + k))) :
    Wt (masked (visAt (diagOf (BitVec.ofNat 32 b))) (scl s)) (fun r k => E Q K (512 * b + r) (512 * b + k))
      ∧ Has (masked (visAt (diagOf (BitVec.ofNat 32 b))) (scl s)) := by
  rw [diagOf_eq ⟨b, hb⟩]
  obtain ⟨h1, h2⟩ := wt_masked vis_diag (fun r => by omega) (Re.scl hs)
  refine ⟨fun r k => ?_, h2⟩
  have e : E Q K (512 * b + r) (512 * b + k) = if k.val / 64 ≤ r.val / 64 then Real.exp (Dt Q K (512 * b + r) (512 * b + k) * sc) else 0 := by
    unfold E
    by_cases h : k.val / 64 ≤ r.val / 64
    · rw [if_pos h, if_pos (by omega)]
    · rw [if_neg h, if_neg (by omega)]
  dsimp only
  rw [e]
  exact h1 r k

/-- What a head carries before block `n`, over queries block `b`. -/
structure FwdInv (b n : ℕ) (Q K V : ℕ → ℕ → ℝ) (s : FVec Ideal S512x512 .f32) (m l : FVec Ideal S512x1 .f32) (acc : FVec Ideal S512x128 .f32) : Prop where
  hs : Re s (fun r k => Dt Q K (512 * b + r) (512 * n + k))
  ht : St m l acc (fun r => ∑ j ∈ range (512 * n), E Q K (512 * b + r) j) (fun r c => ∑ j ∈ range (512 * n), E Q K (512 * b + r) j * V j c)

theorem sum_next (F : ℕ → ℝ) (n : ℕ) : (∑ j ∈ range (512 * n), F j) + ∑ k ∈ range 512, F (512 * n + k) = ∑ j ∈ range (512 * (n + 1)), F j := by
  rw [Nat.mul_succ, Finset.sum_range_add]

theorem FwdInv.next {b n : ℕ} (hn : n < b) {Q K V : ℕ → ℕ → ℝ} {s s' : FVec Ideal S512x512 .f32} {m l : FVec Ideal S512x1 .f32}
    {acc : FVec Ideal S512x128 .f32} (h : FwdInv b n Q K V s m l acc) {v : FVec Ideal S512x128 .bf16} (hv : Re v (fun k c => V (512 * n + k) c))
    (hs' : Re s' (fun r k => Dt Q K (512 * b + r) (512 * (n + 1) + k))) :
    FwdInv b (n + 1) Q K V s' (maxNext m (scl s)) (sumNext m l (scl s)) (accNext m acc (scl s) v) := by
  have h1 := h.ht.next (wt_before hn h.hs) hv
  simp only [sum_next (fun j => E Q K (512 * b + _) j), sum_next (fun j => E Q K (512 * b + _) j * V j _)] at h1
  exact ⟨hs', h1⟩

theorem FwdInv.last {b : ℕ} (hb : b < 8) {Q K V : ℕ → ℕ → ℝ} {s : FVec Ideal S512x512 .f32} {m l : FVec Ideal S512x1 .f32}
    {acc : FVec Ideal S512x128 .f32} (h : FwdInv b b Q K V s m l acc) {v : FVec Ideal S512x128 .bf16} (hv : Re v (fun k c => V (512 * b + k) c)) :
    ∃ μ : ℕ → ℝ, Re (maxNext m (masked (visAt (diagOf (BitVec.ofNat 32 b))) (scl s))) (fun r _ => μ r)
      ∧ Re (sumNext m l (masked (visAt (diagOf (BitVec.ofNat 32 b))) (scl s))) (fun r _ => Real.exp (-μ r) * Sm Q K (512 * b + r))
      ∧ Re (accNext m acc (masked (visAt (diagOf (BitVec.ofNat 32 b))) (scl s)) v)
        (fun r c => Real.exp (-μ r) * ∑ j ∈ range 4096, E Q K (512 * b + r) j * V j c) := by
  obtain ⟨μ, h1, h2, h3⟩ := h.ht.step (wt_own hb h.hs) hv
  refine ⟨μ, h1, Re.congr h2 fun r hr _ _ => ?_, Re.congr h3 fun r hr c _ => ?_⟩
  · rw [sum_next (fun j => E Q K (512 * b + r) j), sum_seen (by omega) fun m hm => E_later hr hm]
    rfl
  · rw [sum_next (fun j => E Q K (512 * b + r) j * V j c), sum_seen (by omega) fun m hm => by rw [E_later hr hm, zero_mul]]

variable {i : grid0.Coords} {x0 : FVec Ideal S512x256 .bf16} {x1 x2 : FVec Ideal S4096x256 .bf16} {Q K V : ℕ → ℕ → ℝ}

theorem fwd_inv (hq : Re x0 (fun r l => Q (512 * (i 1).val + r) l)) (hk : Re x1 K) (hv : Re x2 V) : ∀ n, n ≤ (i 1).val →
    FwdInv (i 1).val n (hd 0 Q) (hd 0 K) (hd 0 V) (fwdAfter i x0 x1 x2 n).1 (fwdAfter i x0 x1 x2 n).2.2.1 (fwdAfter i x0 x1 x2 n).2.2.2.1 (fwdAfter i x0 x1 x2 n).2.2.2.2.1
    ∧ FwdInv (i 1).val n (hd 1 Q) (hd 1 K) (hd 1 V) (fwdAfter i x0 x1 x2 n).2.1 (fwdAfter i x0 x1 x2 n).2.2.2.2.2.1 (fwdAfter i x0 x1 x2 n).2.2.2.2.2.2.1
      (fwdAfter i x0 x1 x2 n).2.2.2.2.2.2.2 := by
  have s0 : ∀ {k : FVec Ideal S512x128 .bf16} {c : ℕ}, Re k (fun k l => hd 0 K (512 * c + k) l) →
      Re (scores (headQ0 x0) k) (fun r k => Dt (hd 0 Q) (hd 0 K) (512 * (i 1).val + r) (512 * c + k)) := fun hk => Re.scores (re_headQ0 hq) hk
  have s1 : ∀ {k : FVec Ideal S512x128 .bf16} {c : ℕ}, Re k (fun k l => hd 1 K (512 * c + k) l) →
      Re (scores (headQ1 x0) k) (fun r k => Dt (hd 1 Q) (hd 1 K) (512 * (i 1).val + r) (512 * c + k)) := fun hk => Re.scores (re_headQ1 hq) hk
  intro n
  induction n with
  | zero =>
    intro _
    have k0 := re_chunk (n := 0) (a := 0) hk rfl inb_S4096x256_S512x128_0_0
    have k1 := re_chunk (n := 0) (a := 1) hk rfl inb_S4096x256_S512x128_0_128
    rw [fwdAfter]
    exact ⟨⟨s0 k0, st_start⟩, ⟨s1 k1, st_start⟩⟩
  | succ n ih =>
    intro hn
    obtain ⟨h0, h1⟩ := ih (by omega)
    have ht : n < (k0_t1_loop i).trips := by rw [k0_trips i]; omega
    have k0 := re_chunk (n := n + 1) hk (k0_off1_at i ⟨n, ht⟩) (k0_off1_inb i ⟨n, ht⟩)
    have k1 := re_chunk (n := n + 1) hk (k0_off2_at i ⟨n, ht⟩) (k0_off2_inb i ⟨n, ht⟩)
    have v0 := re_chunk hv (k0_off3_at i ⟨n, ht⟩) (k0_off3_inb i ⟨n, ht⟩)
    have v1 := re_chunk hv (k0_off4_at i ⟨n, ht⟩) (k0_off4_inb i ⟨n, ht⟩)
    rw [fwdAfter, dif_pos ht]
    exact ⟨h0.next (by omega) v0 (s0 k0), h1.next (by omega) v1 (s1 k1)⟩

/-- The outputs of a pair of heads, and the logarithms of their sums along the lanes. -/
def outP (Q K V : ℕ → ℕ → ℝ) (t c : ℕ) : ℝ := Ou (hd (c / 128) Q) (hd (c / 128) K) (hd (c / 128) V) t (c % 128)
def lseP (Q K : ℕ → ℕ → ℝ) (t l : ℕ) : ℝ := Real.log (Sm (hd (l / 64) Q) (hd (l / 64) K) t)

theorem re_fwdOut (hq : Re x0 (fun r l => Q (512 * (i 1).val + r) l)) (hk : Re x1 K) (hv : Re x2 V) :
    Re (R := 512) (C := 256) (φ := .f32) (fwdOut (F := Ideal) i x0 x1 x2) (fun r c => outP Q K V (512 * (i 1).val + r) c) := by
  obtain ⟨h0, h1⟩ := fwd_inv (i := i) hq hk hv (i 1).val le_rfl
  have v0 := re_chunk hv (k0_off9_at i) (k0_off9_inb i)
  have v1 := re_chunk hv (k0_off10_at i) (k0_off10_inb i)
  obtain ⟨μ, _, a1, a2⟩ := h0.last (i 1).isLt v0
  obtain ⟨ν, _, b1, b2⟩ := h1.last (i 1).isLt v1
  unfold fwdOut
  rw [k0_trips i]
  exact re_side (f := fun a r l => Ou (hd a Q) (hd a K) (hd a V) (512 * (i 1).val + r) l)
    (re_outOf a1 a2 fun r _ => Sm_pos _ _ _) (re_outOf b1 b2 fun r _ => Sm_pos _ _ _)

theorem re_fwdLse (hq : Re x0 (fun r l => Q (512 * (i 1).val + r) l)) (hk : Re x1 K) (hv : Re x2 V) (r : Fin 512) (l : Fin 128) :
    (fwdLse (F := Ideal) i x0 x1 x2 (ix3 0 r l) : EReal) = ((lseP Q K (512 * (i 1).val + r) l : ℝ) : EReal) := by
  obtain ⟨h0, h1⟩ := fwd_inv (i := i) hq hk hv (i 1).val le_rfl
  have v0 := re_chunk hv (k0_off9_at i) (k0_off9_inb i)
  have v1 := re_chunk hv (k0_off10_at i) (k0_off10_inb i)
  obtain ⟨μ, a0, a1, _⟩ := h0.last (i 1).isLt v0
  obtain ⟨ν, b0, b1, _⟩ := h1.last (i 1).isLt v1
  have := Re.congr (Re.pickCols sel_lane0 (re_lseOf a0 a1 fun r _ => Sm_pos _ _ _) (re_lseOf b0 b1 fun r _ => Sm_pos _ _ _))
    (g := fun r l => lseP Q K (512 * (i 1).val + r) l) (fun r _ l hl => by
      unfold lseP
      by_cases h : l / 64 = 0
      · rw [if_pos h, h]
      · rw [if_neg h, show l / 64 = 1 by omega]) r l
  rw [← this]
  unfold fwdLse
  rw [k0_trips i]
  pointwise
  rfl

end Cert.MlaIdeal.Lat

end
-- ==== Proof.MlaPack.lean ====
/- The heads widened to whole lanes and narrowed back: what the host lines hand to the two calls and make of their results. -/
module

public import proofs.«01_k».proof.Proof.MlaForwardReal
public import proofs.«01_k».proof.Proof.RefReal
public import Idealize.ShloMosaic.Lib.Pointwise
public import Idealize.ShloMosaic.Lib.StableHlo.Run

@[expose] public section

set_option maxRecDepth 16384

noncomputable section

namespace Cert.MlaIdeal.Lat

open Idealize.ShloMosaic Idealize.ShloMosaic.TcCoe Idealize.ShloMosaic.Tactic
open Cert.MlaIdeal Cert.MlaIdeal.Gen
open Cert.KernelIdeal.Sb (Re Re.congr Re.addf Re.subf Re.mulf Re.exp coe_sum coe_dot coe_max log_coe_pos Vis Sel toInt_small ofBool_decide)
open Finset (range)
open Cert.ReferenceIdeal.Sb (Re3)

/-- The heads `f`, of width `w`, laid out one after another on 128 lanes each, the rest zero. -/
def wide (w : ℕ) (f : ℕ → ℕ → ℕ → ℝ) (t c : ℕ) : ℝ := if c % 128 < w then f t (c / 128) (c % 128) else 0

def widenKeys (x : FVec Ideal S4096x4x96 .bf16) : FVec Ideal S4096x512 .bf16 :=
  shapeCast S4096x512 (pad S4096x4x128 ![0, 0, 0] ![0, 0, 32] ![0, 0, 0] x (sitofp (F := Ideal) .bf16 (constantI S_ 32 0#32)) pads_S4096x4x96_S4096x4x128_000_000_0320 h_S_)
    shapeCasts_S4096x4x128_S4096x512
def widenValues (x : FVec Ideal S4096x256 .bf16) : FVec Ideal S4096x512 .bf16 :=
  shapeCast S4096x512 (pad S4096x4x128 ![0, 0, 0] ![0, 0, 64] ![0, 0, 0] (shapeCast S4096x4x64 x shapeCasts_S4096x256_S4096x4x64)
    (sitofp (F := Ideal) .bf16 (constantI S_ 32 0#32)) pads_S4096x4x64_S4096x4x128_000_000_0640 h_S_) shapeCasts_S4096x4x128_S4096x512
def widenGrads (x : FVec Ideal S4096x256 .f32) : FVec Ideal S4096x512 .f32 :=
  shapeCast S4096x512 (pad S4096x4x128 ![0, 0, 0] ![0, 0, 64] ![0, 0, 0] (shapeCast S4096x4x64 x shapeCasts_S4096x256_S4096x4x64)
    (sitofp (F := Ideal) .f32 (constantI S_ 32 0#32)) pads_S4096x4x64_S4096x4x128_000_000_0640 h_S_) shapeCasts_S4096x4x128_S4096x512
def narrowKeys (x : FVec Ideal S4096x512 .f32) : FVec Ideal S4096x4x96 .f32 :=
  extractStridedSlice S4096x4x96 ![0, 0, 0] (shapeCast S4096x4x128 x shapeCasts_S4096x512_S4096x4x128) slices_S4096x4x128_S4096x4x96_0_0_0
def narrowHeads (x : FVec Ideal S4096x512 .f32) : FVec Ideal S4096x256 .f32 :=
  shapeCast S4096x256 (extractStridedSlice S4096x4x64 ![0, 0, 0] (shapeCast S4096x4x128 x shapeCasts_S4096x512_S4096x4x128) slices_S4096x4x128_S4096x4x64_0_0_0)
    shapeCasts_S4096x4x64_S4096x256

theorem zero_word {φ : FTy} : (FloatOps.sitofp (F := Ideal) φ (0#32 : BitVec 32) : EReal) = ((0 : ℝ) : EReal) := by
  show (((0#32 : BitVec 32).toInt : ℝ) : EReal) = ((0 : ℝ) : EReal)
  norm_num

/-- An element of the widened array, read off the narrow one. -/
theorem widened {φ ψ : FTy} {x : FVec Ideal S4096x256 φ} {f : ℕ → ℕ → ℝ} (hx : Re x f) (r : Fin 4096) (c : Fin 512)
    (hb : c.val / 128 < 4 ∧ c.val % 128 < 64 → c.val / 128 * 64 + c.val % 128 < 256) :
    (if h : c.val / 128 < 4 ∧ c.val % 128 < 64 then x (ix2 r ⟨c.val / 128 * 64 + c.val % 128, hb h⟩) else FloatOps.sitofp (F := Ideal) ψ (0#32 : BitVec 32) : EReal)
      = ((wide 64 (fun t h d => f t (64 * h + d)) r.val c.val : ℝ) : EReal) := by
  have hc : c.val < 512 := c.isLt
  unfold wide
  by_cases h : c.val % 128 < 64
  · rw [dif_pos ⟨by omega, h⟩, if_pos h, hx r _]
    show ((f r.val (c.val / 128 * 64 + c.val % 128) : ℝ) : EReal) = ((f r.val (64 * (c.val / 128) + c.val % 128) : ℝ) : EReal)
    rw [Nat.mul_comm (c.val / 128)]
  · rw [dif_neg fun h' => h h'.2, if_neg h]
    exact zero_word

theorem re_widenKeys {x : FVec Ideal S4096x4x96 .bf16} {f : ℕ → ℕ → ℕ → ℝ} (hx : Re3 (A := 4096) (B := 4) (C := 96) x f) : Re (widenKeys x) (wide 96 f) := fun r c => by
  pointwise [widenKeys]
  unfold wide
  have hc : c.val < 512 := c.isLt
  by_cases h : c.val % 128 < 96
  · rw [dif_pos ⟨by omega, h⟩, if_pos h]
    exact hx _
  · rw [dif_neg fun h' => h h'.2, if_neg h]
    exact zero_word
theorem re_widenValues {x : FVec Ideal S4096x256 .bf16} {f : ℕ → ℕ → ℝ} (hx : Re x f) : Re (widenValues x) (wide 64 fun t h d => f t (64 * h + d)) := fun r c => by
  pointwise [widenValues]
  exact widened hx r c _
theorem re_widenGrads {x : FVec Ideal S4096x256 .f32} {f : ℕ → ℕ → ℝ} (hx : Re x f) : Re (widenGrads x) (wide 64 fun t h d => f t (64 * h + d)) := fun r c => by
  pointwise [widenGrads]
  exact widened hx r c _
theorem re_narrowKeys {x : FVec Ideal S4096x512 .f32} {f : ℕ → ℕ → ℝ} (hx : Re x f) :
    Re3 (A := 4096) (B := 4) (C := 96) (narrowKeys x) (fun t h d => f t (128 * h + d)) := fun i => by
  obtain ⟨t, h, d, rfl⟩ : ∃ (t : Fin 4096) (h : Fin 4) (d : Fin 96), i = ix3 t h d := ⟨i 0, i 1, i 2, eq_ix3 i⟩
  pointwise [narrowKeys]
  rw [hx t ⟨h.val * 128 + d.val, by omega⟩]
  show ((f t.val (h.val * 128 + d.val) : ℝ) : EReal) = ((f t.val (128 * h.val + d.val) : ℝ) : EReal)
  rw [Nat.mul_comm h.val]
theorem re_narrowHeads {x : FVec Ideal S4096x512 .f32} {f : ℕ → ℕ → ℝ} (hx : Re x f) :
    Re (narrowHeads x) (fun t c => f t (128 * (c / 64) + c % 64)) := fun r c => by
  pointwise [narrowHeads]
  rw [hx r ⟨c.val / 64 * 128 + c.val % 64, by omega⟩]
  show ((f r.val (c.val / 64 * 128 + c.val % 64) : ℝ) : EReal) = ((f r.val (128 * (c.val / 64) + c.val % 64) : ℝ) : EReal)
  rw [Nat.mul_comm (c.val / 64)]

section Host

variable (m : (ℓ : Loc nD τ sig) → Buf (Elt Ideal) ℓ) (ρ : Dev nD → PrngReg) (c : Dev nD)

theorem entry_q : W7 m ρ c (Proc.devRef .tc main_v1) = widenKeys (m ((c.tc : Thread nD τ).loc main_arg0)) := by
  rw [W7_of m ρ c main_v1 (by decide), W6_of m ρ c main_v1 (by decide), W5_of m ρ c main_v1 (by decide), W4_of m ρ c main_v1 (by decide)]
  show StableHlo.after hostOps0_2 (StableHlo.after hostOps0_1 (StableHlo.after hostOps0 _)) (Proc.devRef .tc main_v1) = _
  after_results
  rfl
theorem entry_k : W7 m ρ c (Proc.devRef .tc main_v3) = widenKeys (m ((c.tc : Thread nD τ).loc main_arg1)) := by
  rw [W7_of m ρ c main_v3 (by decide), W6_of m ρ c main_v3 (by decide)]
  show StableHlo.after hostOps0_4 (StableHlo.after hostOps0_3 (StableHlo.after hostOps0_2 (W2 m ρ c))) (Proc.devRef .tc main_v3) = _
  after_results
  rfl
theorem entry_v : W7 m ρ c (Proc.devRef .tc main_v6) = widenValues (m ((c.tc : Thread nD τ).loc main_arg2)) := by
  show StableHlo.after hostOps0_6 (StableHlo.after hostOps0_5 (StableHlo.after hostOps0_4 (W4 m ρ c))) (Proc.devRef .tc main_v6) = _
  after_results
  rfl
theorem entry_d : W11 m ρ c (Proc.devRef .tc main_v10) = widenGrads (m ((c.tc : Thread nD τ).loc main_arg3)) := by
  show StableHlo.after hostOps1_2 (StableHlo.after hostOps1_1 (StableHlo.after hostOps1 (W8 m ρ c))) (Proc.devRef .tc main_v10) = _
  after_results
  rw [W8_args m ρ c main_arg3 (by decide)]
  rfl
theorem exit_o : W13 m ρ c (Proc.devRef .tc main_v14) = narrowHeads (W12 m ρ c (Proc.devRef .tc main_v7_0)) := by
  show StableHlo.after hostOps2 _ (Proc.devRef .tc main_v14) = _
  after_results
  rfl
theorem exit_dq : W13 m ρ c (Proc.devRef .tc main_v16) = narrowKeys (W12 m ρ c (Proc.devRef .tc main_v11_0)) := by
  show StableHlo.after hostOps2 _ (Proc.devRef .tc main_v16) = _
  after_results
  rfl
theorem exit_dk : W13 m ρ c (Proc.devRef .tc main_v18) = narrowKeys (W12 m ρ c (Proc.devRef .tc main_v11_1)) := by
  show StableHlo.after hostOps2 _ (Proc.devRef .tc main_v18) = _
  after_results
  rfl
theorem exit_dv : W13 m ρ c (Proc.devRef .tc main_v21) = narrowHeads (W12 m ρ c (Proc.devRef .tc main_v11_2)) := by
  show StableHlo.after hostOps2 _ (Proc.devRef .tc main_v21) = _
  after_results
  rfl

end Host

end Cert.MlaIdeal.Lat

end
-- ==== Proof.MlaBackward.lean ====
/- What the backward kernel leaves at one grid point, as a recursion over the blocks of keys before the queries' own. -/
module

public import proofs.«01_k».proof.Proof.MlaForward

@[expose] public section

set_option maxRecDepth 16384

noncomputable section

namespace Cert.MlaIdeal.Lat

open Idealize.ShloMosaic Idealize.ShloMosaic.TcCoe Idealize.ShloMosaic.Tactic
open Cert.MlaIdeal Cert.MlaIdeal.Gen

variable {F : FTy → Type} [FloatOps F] [Named F]

/-- A whole block reads as what was put there. -/
theorem read_sq {e : EltTy} {a : Memref sig .tc .vmem S512x256 e} (h : a.IsWhole) (x : Vec F S512x256 e) :
    a.view.readAt (Elt F) (Rect.unit (s := S512x256) ![0, 0] S512x256.size inb_S512x256_S512x256_0_0).toLoadRect (h.unread x) = x := by
  rw [View.readAt_eq_ld, h.read_unread, View.ld_unit_zero hz2]

theorem read_st {e : EltTy} {a : Memref sig .tc .vmem S1x512x128 e} (h : a.IsWhole) (x : Vec F S1x512x128 e) :
    a.view.readAt (Elt F) (Rect.unit (s := S1x512x128) ![0, 0, 0] S1x512x128.size inb_S1x512x128_S1x512x128_0_0_0).toLoadRect (h.unread x) = x := by
  rw [View.readAt_eq_ld, h.read_unread, View.ld_unit_zero hz3]

/-- A whole-sequence block with `x0ᵀ · y0` added to the rows and lanes `off0`, and `x1ᵀ · y1` to those at `off1`. -/
def addBoth (off0 : Fin 2 → ℕ) (inb0 : ∀ a, off0 a + S512x128.size a ≤ S4096x256.size a) (off1 : Fin 2 → ℕ)
    (inb1 : ∀ a, off1 a + S512x128.size a ≤ S4096x256.size a) (A : Vec F S4096x256 .f32)
    (x0 x1 : FVec F S512x512 .f32) (y0 y1 : FVec F S512x128 .bf16) : Vec F S4096x256 .f32 :=
  VecWindow.put (VecWindow.put A off0 S512x128.size (addTn (View.ld A (rows off0 inb0)) x0 y0)) off1 S512x128.size
    (addTn (View.ld A (rows off1 inb1)) x1 y1)

theorem read_both (m : Memref sig .tc .vmem S4096x256 .f32) (off0 : Fin 2 → ℕ) (inb0 : ∀ a, off0 a + S512x128.size a ≤ S4096x256.size a)
    (off1 : Fin 2 → ℕ) (inb1 : ∀ a, off1 a + S512x128.size a ≤ S4096x256.size a)
    (f : BufTy.Contents (Elt F) m.view.ty) (x0 x1 : FVec F S512x512 .f32) (y0 y1 : FVec F S512x128 .bf16) :
    m.view.read (Elt F) (m.view.writes (Elt F) f (both m off0 inb0 off1 inb1 f x0 x1 y0 y1)) = addBoth off0 inb0 off1 inb1 (m.view.read (Elt F) f) x0 x1 y0 y1 := by
  unfold both addBoth
  rw [View.read_writes_cons_put m.view f inb1 _ _ rfl, View.read_writes_cons_put m.view f inb0 _ _ rfl, View.writes_nil,
    View.readAt_eq_ld, View.readAt_eq_ld]

/-- The heads' output gradients. -/
def headD0 (x4 : Vec F S512x256 .f32) : FVec F S512x128 .bf16 := headD (half0 (shapeCast S512x256 x4 shapeCasts_S512x256_S512x256))
def headD1 (x4 : Vec F S512x256 .f32) : FVec F S512x128 .bf16 := headD (half1 (shapeCast S512x256 x4 shapeCasts_S512x256_S512x256))

/-- The output gradients times the outputs. -/
def prodDO (x3 x4 : Vec F S512x256 .f32) : FVec F S512x256 .f32 :=
  mulf (shapeCast S512x256 x4 shapeCasts_S512x256_S512x256) (shapeCast S512x256 x3 shapeCasts_S512x256_S512x256)

/-- The state before the first block. -/
def bwdInit (q0 q1 d0 d1 : FVec F S512x128 .bf16) (k0 k1 v0 v1 : Vec F S512x128 .bf16) : BwdState F :=
  (scores q0 (blk k0), scores d0 (blk v0), scores q1 (blk k1), scores d1 (blk v1), zeroOut, zeroOut)

/-- The state after the first `n` blocks. -/
def bwdAfter (i : grid1.Coords) (x0 : Vec F S512x256 .bf16) (x1 x2 : Vec F S4096x256 .bf16) (x3 x4 : Vec F S512x256 .f32) (x5 : Vec F S1x512x128 .f32) : ℕ → BwdState F
  | 0 => bwdInit (headQ0 x0) (headQ1 x0) (headD0 x4) (headD1 x4) (chunk x1 ![0, 0] inb_S4096x256_S512x128_0_0) (chunk x1 ![0, 128] inb_S4096x256_S512x128_0_128)
      (chunk x2 ![0, 0] inb_S4096x256_S512x128_0_0) (chunk x2 ![0, 128] inb_S4096x256_S512x128_0_128)
  | n + 1 =>
    if h : n < (k1_t1_loop i).trips then
      bwdTrip (headQ0 x0) (headQ1 x0) (headD0 x4) (headD1 x4) (rowSum (half0 (prodDO x3 x4))) (rowSum (half1 (prodDO x3 x4))) (lse0 x5) (lse1 x5)
        (chunk x1 (k1_off1 i ⟨n, h⟩) (k1_off1_inb i ⟨n, h⟩)) (chunk x1 (k1_off2 i ⟨n, h⟩) (k1_off2_inb i ⟨n, h⟩))
        (chunk x2 (k1_off1 i ⟨n, h⟩) (k1_off1_inb i ⟨n, h⟩)) (chunk x2 (k1_off2 i ⟨n, h⟩) (k1_off2_inb i ⟨n, h⟩))
        (chunk x1 (k1_off3 i ⟨n, h⟩) (k1_off3_inb i ⟨n, h⟩)) (chunk x1 (k1_off4 i ⟨n, h⟩) (k1_off4_inb i ⟨n, h⟩)) (bwdAfter i x0 x1 x2 x3 x4 x5 n)
    else bwdAfter i x0 x1 x2 x3 x4 x5 n

/-- The two heads' weights, and gradients of the scores, of the block a state stands at; `M` masks the scaled scores. -/
def w0Of (M : FVec F S512x512 .f32 → FVec F S512x512 .f32) (x5 : Vec F S1x512x128 .f32) (s : BwdState F) : FVec F S512x512 .f32 :=
  expOf (M (scl s.1)) (lse0 x5)
def w1Of (M : FVec F S512x512 .f32 → FVec F S512x512 .f32) (x5 : Vec F S1x512x128 .f32) (s : BwdState F) : FVec F S512x512 .f32 :=
  expOf (M (scl s.2.2.1)) (lse1 x5)
def ds0Of (M : FVec F S512x512 .f32 → FVec F S512x512 .f32) (x3 x4 : Vec F S512x256 .f32) (x5 : Vec F S1x512x128 .f32) (s : BwdState F) : FVec F S512x512 .f32 :=
  dScore (w0Of M x5 s) s.2.1 (rowSum (half0 (prodDO x3 x4)))
def ds1Of (M : FVec F S512x512 .f32 → FVec F S512x512 .f32) (x3 x4 : Vec F S512x256 .f32) (x5 : Vec F S1x512x128 .f32) (s : BwdState F) : FVec F S512x512 .f32 :=
  dScore (w1Of M x5 s) s.2.2.2.1 (rowSum (half1 (prodDO x3 x4)))

/-- The gradients of the keys, `A` before this point, after the first `n` blocks. -/
def dkAfter (i : grid1.Coords) (x0 : Vec F S512x256 .bf16) (x1 x2 : Vec F S4096x256 .bf16) (x3 x4 : Vec F S512x256 .f32) (x5 : Vec F S1x512x128 .f32) (A : Vec F S4096x256 .f32) : ℕ → Vec F S4096x256 .f32
  | 0 => A
  | n + 1 =>
    if h : n < (k1_t1_loop i).trips then
      addBoth (k1_off3 i ⟨n, h⟩) (k1_off3_inb i ⟨n, h⟩) (k1_off4 i ⟨n, h⟩) (k1_off4_inb i ⟨n, h⟩) (dkAfter i x0 x1 x2 x3 x4 x5 A n)
        (ds0Of id x3 x4 x5 (bwdAfter i x0 x1 x2 x3 x4 x5 n)) (ds1Of id x3 x4 x5 (bwdAfter i x0 x1 x2 x3 x4 x5 n)) (headQ0 x0) (headQ1 x0)
    else dkAfter i x0 x1 x2 x3 x4 x5 A n

/-- The gradients of the values, `A` before this point, after the first `n` blocks. -/
def dvAfter (i : grid1.Coords) (x0 : Vec F S512x256 .bf16) (x1 x2 : Vec F S4096x256 .bf16) (x3 x4 : Vec F S512x256 .f32) (x5 : Vec F S1x512x128 .f32) (A : Vec F S4096x256 .f32) : ℕ → Vec F S4096x256 .f32
  | 0 => A
  | n + 1 =>
    if h : n < (k1_t1_loop i).trips then
      addBoth (k1_off3 i ⟨n, h⟩) (k1_off3_inb i ⟨n, h⟩) (k1_off4 i ⟨n, h⟩) (k1_off4_inb i ⟨n, h⟩) (dvAfter i x0 x1 x2 x3 x4 x5 A n)
        (w0Of id x5 (bwdAfter i x0 x1 x2 x3 x4 x5 n)) (w1Of id x5 (bwdAfter i x0 x1 x2 x3 x4 x5 n)) (headD0 x4) (headD1 x4)
    else dvAfter i x0 x1 x2 x3 x4 x5 A n

/-- The loop's state with the stores it has made, over the contents `f9 f10` of the two whole-sequence outputs. -/
def bwdAll (i : grid1.Coords) (m9 m10 : Memref sig .tc .vmem S4096x256 .f32) (f9 : BufTy.Contents (Elt F) m9.view.ty)
    (f10 : BufTy.Contents (Elt F) m10.view.ty) (x0 : Vec F S512x256 .bf16) (x1 x2 : Vec F S4096x256 .bf16) (x3 x4 : Vec F S512x256 .f32) (x5 : Vec F S1x512x128 .f32) :
    ℕ → BwdState F × List (View.Piece (Elt F) S4096x256 .f32) × List (View.Piece (Elt F) S4096x256 .f32)
  | 0 => (bwdAfter i x0 x1 x2 x3 x4 x5 0, [], [])
  | n + 1 =>
    if h : n < (k1_t1_loop i).trips then
      (bwdAfter i x0 x1 x2 x3 x4 x5 (n + 1),
        both m9 (k1_off3 i ⟨n, h⟩) (k1_off3_inb i ⟨n, h⟩) (k1_off4 i ⟨n, h⟩) (k1_off4_inb i ⟨n, h⟩) (m9.view.writes (Elt F) f9 (bwdAll i m9 m10 f9 f10 x0 x1 x2 x3 x4 x5 n).2.1)
          (ds0Of id x3 x4 x5 (bwdAfter i x0 x1 x2 x3 x4 x5 n)) (ds1Of id x3 x4 x5 (bwdAfter i x0 x1 x2 x3 x4 x5 n)) (headQ0 x0) (headQ1 x0)
            ++ (bwdAll i m9 m10 f9 f10 x0 x1 x2 x3 x4 x5 n).2.1,
        both m10 (k1_off3 i ⟨n, h⟩) (k1_off3_inb i ⟨n, h⟩) (k1_off4 i ⟨n, h⟩) (k1_off4_inb i ⟨n, h⟩) (m10.view.writes (Elt F) f10 (bwdAll i m9 m10 f9 f10 x0 x1 x2 x3 x4 x5 n).2.2)
          (w0Of id x5 (bwdAfter i x0 x1 x2 x3 x4 x5 n)) (w1Of id x5 (bwdAfter i x0 x1 x2 x3 x4 x5 n)) (headD0 x4) (headD1 x4)
            ++ (bwdAll i m9 m10 f9 f10 x0 x1 x2 x3 x4 x5 n).2.2)
    else bwdAll i m9 m10 f9 f10 x0 x1 x2 x3 x4 x5 n

theorem bwdAll_fst (i : grid1.Coords) (m9 m10 : Memref sig .tc .vmem S4096x256 .f32) (f9 : BufTy.Contents (Elt F) m9.view.ty)
    (f10 : BufTy.Contents (Elt F) m10.view.ty) (x0 : Vec F S512x256 .bf16) (x1 x2 : Vec F S4096x256 .bf16) (x3 x4 : Vec F S512x256 .f32) (x5 : Vec F S1x512x128 .f32) :
    ∀ n, (bwdAll i m9 m10 f9 f10 x0 x1 x2 x3 x4 x5 n).1 = bwdAfter i x0 x1 x2 x3 x4 x5 n
  | 0 => rfl
  | n + 1 => by
    by_cases h : n < (k1_t1_loop i).trips
    · rw [bwdAll, dif_pos h]
    · rw [bwdAll, dif_neg h, bwdAfter, dif_neg h]; exact bwdAll_fst i m9 m10 f9 f10 x0 x1 x2 x3 x4 x5 n

theorem bwdAll_dk (i : grid1.Coords) (m9 m10 : Memref sig .tc .vmem S4096x256 .f32) (f9 : BufTy.Contents (Elt F) m9.view.ty)
    (f10 : BufTy.Contents (Elt F) m10.view.ty) (x0 : Vec F S512x256 .bf16) (x1 x2 : Vec F S4096x256 .bf16) (x3 x4 : Vec F S512x256 .f32) (x5 : Vec F S1x512x128 .f32) :
    ∀ n, m9.view.read (Elt F) (m9.view.writes (Elt F) f9 (bwdAll i m9 m10 f9 f10 x0 x1 x2 x3 x4 x5 n).2.1)
      = dkAfter i x0 x1 x2 x3 x4 x5 (m9.view.read (Elt F) f9) n
  | 0 => rfl
  | n + 1 => by
    by_cases h : n < (k1_t1_loop i).trips
    · rw [bwdAll, dif_pos h, dkAfter, dif_pos h]
      dsimp only
      rw [View.writes_append, read_both, bwdAll_dk i m9 m10 f9 f10 x0 x1 x2 x3 x4 x5 n]
    · rw [bwdAll, dif_neg h, dkAfter, dif_neg h]; exact bwdAll_dk i m9 m10 f9 f10 x0 x1 x2 x3 x4 x5 n

theorem bwdAll_dv (i : grid1.Coords) (m9 m10 : Memref sig .tc .vmem S4096x256 .f32) (f9 : BufTy.Contents (Elt F) m9.view.ty)
    (f10 : BufTy.Contents (Elt F) m10.view.ty) (x0 : Vec F S512x256 .bf16) (x1 x2 : Vec F S4096x256 .bf16) (x3 x4 : Vec F S512x256 .f32) (x5 : Vec F S1x512x128 .f32) :
    ∀ n, m10.view.read (Elt F) (m10.view.writes (Elt F) f10 (bwdAll i m9 m10 f9 f10 x0 x1 x2 x3 x4 x5 n).2.2)
      = dvAfter i x0 x1 x2 x3 x4 x5 (m10.view.read (Elt F) f10) n
  | 0 => rfl
  | n + 1 => by
    by_cases h : n < (k1_t1_loop i).trips
    · rw [bwdAll, dif_pos h, dvAfter, dif_pos h]
      dsimp only
      rw [View.writes_append, read_both, bwdAll_dv i m9 m10 f9 f10 x0 x1 x2 x3 x4 x5 n]
    · rw [bwdAll, dif_neg h, dvAfter, dif_neg h]; exact bwdAll_dv i m9 m10 f9 f10 x0 x1 x2 x3 x4 x5 n

theorem st_bwd
    (𝒱 : Variants) (c : Dev nD) (bd : Option 𝒱.V) (i : grid1.Coords) (arg2 : Memref sig .tc .vmem S512x256 .bf16) (harg2 : arg2.IsWhole)
    (arg3 : Memref sig .tc .vmem S4096x256 .bf16) (harg3 : arg3.IsWhole) (arg4 : Memref sig .tc .vmem S4096x256 .bf16)
    (harg4 : arg4.IsWhole) (arg5 : Memref sig .tc .vmem S512x256 .f32) (harg5 : arg5.IsWhole) (arg6 : Memref sig .tc .vmem S512x256 .f32)
    (harg6 : arg6.IsWhole) (arg7 : Memref sig .tc .vmem S1x512x128 .f32) (harg7 : arg7.IsWhole) (arg8 : Memref sig .tc .vmem S512x256 .f32)
    (harg8 : arg8.IsWhole) (arg9 : Memref sig .tc .vmem S4096x256 .f32) (harg9 : arg9.IsWhole) (arg10 : Memref sig .tc .vmem S4096x256 .f32)
    (harg10 : arg10.IsWhole) (v22 : BitVec 32) (v30 : FVec F S512x256 .f32) (v32 : FVec F S512x128 .bf16) (v34 : FVec F S512x128 .bf16)
    (v36 : FVec F S512x128 .bf16) (v37 : FVec F S512x128 .f32) (v45 : Vec F S1x512x128 .f32) (X_arg3 : BufTy.Contents (Elt F) arg3.view.ty)
    (X_arg4 : BufTy.Contents (Elt F) arg4.view.ty) (G_arg9 : BufTy.Contents (Elt F) arg9.view.ty)
    (G_arg10 : BufTy.Contents (Elt F) arg10.view.ty)
    (init : BwdState F) (x0 : Vec F S512x256 .bf16) (x1 x2 : Vec F S4096x256 .bf16) (x3 x4 : Vec F S512x256 .f32) (x5 : Vec F S1x512x128 .f32)
    (h0 : init = bwdAfter i x0 x1 x2 x3 x4 x5 0) (h30 : v30 = prodDO x3 x4) (h32 : v32 = headQ0 x0) (h34 : v34 = headQ1 x0) (h36 : v36 = headD0 x4)
    (h37 : headD v37 = headD1 x4) (h45 : v45 = x5)
    (hX3 : arg3.view.read (Elt F) X_arg3 = x1) (hX4 : arg4.view.read (Elt F) X_arg4 = x2) : ∀ n, n ≤ (k1_t1_loop i).trips →
    st_k1_t1 (F := F) 𝒱 c bd i arg2 harg2 arg3 harg3 arg4 harg4 arg5 harg5 arg6 harg6 arg7 harg7 arg8 harg8 arg9 harg9 arg10 harg10 v22 v30 v32 v34 v36 v37 v45 X_arg3 X_arg4 G_arg9 G_arg10 init n
      = bwdAll i arg9 arg10 G_arg9 G_arg10 x0 x1 x2 x3 x4 x5 n
  | 0, _ => by subst h0; rfl
  | n + 1, h => by
    have ih := st_bwd 𝒱 c bd i arg2 harg2 arg3 harg3 arg4 harg4 arg5 harg5 arg6 harg6 arg7 harg7 arg8 harg8 arg9 harg9 arg10 harg10 v22 v30 v32 v34 v36 v37 v45 X_arg3 X_arg4 G_arg9 G_arg10 init x0 x1 x2 x3 x4 x5 h0 h30 h32 h34 h36 h37 h45 hX3 hX4 n (Nat.le_of_succ_le h)
    rw [st_k1_t1_succ (F := F) 𝒱 c bd i arg2 harg2 arg3 harg3 arg4 harg4 arg5 harg5 arg6 harg6 arg7 harg7 arg8 harg8 arg9 harg9 arg10 harg10 v22 v30 v32 v34 v36 v37 v45 X_arg3 X_arg4 G_arg9 G_arg10 init ⟨n, h⟩, tripR_k1_eq, tripL_k1_eq, ih,
      bwdAll_fst, bwdAll, dif_pos (show n < (k1_t1_loop i).trips from h), bwdAfter, dif_pos (show n < (k1_t1_loop i).trips from h),
      View.readAt_eq_ld, View.readAt_eq_ld, View.readAt_eq_ld, View.readAt_eq_ld, View.readAt_eq_ld, View.readAt_eq_ld, hX3, hX4, h30, h32, h34, h36, h37, h45]
    rfl

/-- The masked block is masked as the forward pass masks it. -/
abbrev lastMask (i : grid1.Coords) : FVec F S512x512 .f32 → FVec F S512x512 .f32 := masked (visAt (diagOf (BitVec.ofNat 32 (i 1).val)))

/-- The gradient of the queries' block of a point. -/
def bwdDq (i : grid1.Coords) (x0 : Vec F S512x256 .bf16) (x1 x2 : Vec F S4096x256 .bf16) (x3 x4 : Vec F S512x256 .f32) (x5 : Vec F S1x512x128 .f32) : Vec F S512x256 .f32 :=
  side (addNn (bwdAfter i x0 x1 x2 x3 x4 x5 (k1_t1_loop i).trips).2.2.2.2.1 (ds0Of (lastMask i) x3 x4 x5 (bwdAfter i x0 x1 x2 x3 x4 x5 (k1_t1_loop i).trips)) (blk (chunk x1 (k1_off9 i) (k1_off9_inb i))))
    (addNn (bwdAfter i x0 x1 x2 x3 x4 x5 (k1_t1_loop i).trips).2.2.2.2.2 (ds1Of (lastMask i) x3 x4 x5 (bwdAfter i x0 x1 x2 x3 x4 x5 (k1_t1_loop i).trips)) (blk (chunk x1 (k1_off10 i) (k1_off10_inb i))))

/-- The gradients of the keys after a point that found `A`. -/
def bwdDk (i : grid1.Coords) (x0 : Vec F S512x256 .bf16) (x1 x2 : Vec F S4096x256 .bf16) (x3 x4 : Vec F S512x256 .f32) (x5 : Vec F S1x512x128 .f32) (A : Vec F S4096x256 .f32) : Vec F S4096x256 .f32 :=
  addBoth (k1_off9 i) (k1_off9_inb i) (k1_off10 i) (k1_off10_inb i) (dkAfter i x0 x1 x2 x3 x4 x5 A (k1_t1_loop i).trips)
    (ds0Of (lastMask i) x3 x4 x5 (bwdAfter i x0 x1 x2 x3 x4 x5 (k1_t1_loop i).trips)) (ds1Of (lastMask i) x3 x4 x5 (bwdAfter i x0 x1 x2 x3 x4 x5 (k1_t1_loop i).trips)) (headQ0 x0) (headQ1 x0)

/-- The gradients of the values after a point that found `A`. -/
def bwdDv (i : grid1.Coords) (x0 : Vec F S512x256 .bf16) (x1 x2 : Vec F S4096x256 .bf16) (x3 x4 : Vec F S512x256 .f32) (x5 : Vec F S1x512x128 .f32) (A : Vec F S4096x256 .f32) : Vec F S4096x256 .f32 :=
  addBoth (k1_off9 i) (k1_off9_inb i) (k1_off10 i) (k1_off10_inb i) (dvAfter i x0 x1 x2 x3 x4 x5 A (k1_t1_loop i).trips)
    (w0Of (lastMask i) x5 (bwdAfter i x0 x1 x2 x3 x4 x5 (k1_t1_loop i).trips)) (w1Of (lastMask i) x5 (bwdAfter i x0 x1 x2 x3 x4 x5 (k1_t1_loop i).trips)) (headD0 x4) (headD1 x4)

/-- The two heads' parts of the masked block, written after the pieces `L`: the second's lanes are apart from the first's. -/
theorem read_last (m : Memref sig .tc .vmem S4096x256 .f32) (off0 : Fin 2 → ℕ) (inb0 : ∀ a, off0 a + S512x128.size a ≤ S4096x256.size a)
    (off1 : Fin 2 → ℕ) (inb1 : ∀ a, off1 a + S512x128.size a ≤ S4096x256.size a) (h : off0 1 + 128 ≤ off1 1)
    (f : BufTy.Contents (Elt F) m.view.ty) (L : List (View.Piece (Elt F) S4096x256 .f32)) (x0 x1 : FVec F S512x512 .f32) (y0 y1 : FVec F S512x128 .bf16) :
    m.view.read (Elt F) (m.view.writes (Elt F) f
      (⟨rows off1 inb1, addTn (m.view.readAt (Elt F) (rows off1 inb1).toLoadRect (m.view.writes (Elt F) f
          (⟨rows off0 inb0, addTn (m.view.readAt (Elt F) (rows off0 inb0).toLoadRect (m.view.writes (Elt F) f L)) x0 y0⟩ :: L))) x1 y1⟩
        :: ⟨rows off0 inb0, addTn (m.view.readAt (Elt F) (rows off0 inb0).toLoadRect (m.view.writes (Elt F) f L)) x0 y0⟩ :: L))
      = addBoth off0 inb0 off1 inb1 (m.view.read (Elt F) (m.view.writes (Elt F) f L)) x0 x1 y0 y1 := by
  unfold addBoth
  rw [View.read_writes_cons_put m.view f inb1 _ _ rfl, View.read_writes_cons_put m.view f inb0 _ _ rfl,
    View.readAt_eq_ld, View.readAt_eq_ld, View.read_writes_cons_put m.view f inb0 _ _ rfl]
  rw [show View.ld (Val := Elt F) (e' := .f32) (VecWindow.put (m.view.read (Elt F) (m.view.writes (Elt F) f L)) off0 S512x128.size
        (addTn (View.ld (m.view.read (Elt F) (m.view.writes (Elt F) f L)) (rows off0 inb0)) x0 y0)) (rows off1 inb1)
      = View.ld (m.view.read (Elt F) (m.view.writes (Elt F) f L)) (rows off1 inb1) from
    VecWindow.window_put_of_disjoint (s := S4096x256) _ off0 S512x128.size off1 S512x128.size inb1 _ 1 (.inr h)]

theorem k1_apart : ∀ i : grid1.Coords, k1_off9 i 1 + 128 ≤ k1_off10 i 1 := by decide +kernel

theorem k1_t2_zero (i : grid1.Coords) : (k1_t2_loop i).trips = 0 := Nat.le_zero.mp (k1_t2_abs i).2.1

theorem st_bwd2_acc
    (𝒱 : Variants) (c : Dev nD) (bd : Option 𝒱.V) (i : grid1.Coords) (arg2 : Memref sig .tc .vmem S512x256 .bf16) (harg2 : arg2.IsWhole)
    (arg3 : Memref sig .tc .vmem S4096x256 .bf16) (harg3 : arg3.IsWhole) (arg4 : Memref sig .tc .vmem S4096x256 .bf16)
    (harg4 : arg4.IsWhole) (arg5 : Memref sig .tc .vmem S512x256 .f32) (harg5 : arg5.IsWhole) (arg6 : Memref sig .tc .vmem S512x256 .f32)
    (harg6 : arg6.IsWhole) (arg7 : Memref sig .tc .vmem S1x512x128 .f32) (harg7 : arg7.IsWhole) (arg8 : Memref sig .tc .vmem S512x256 .f32)
    (harg8 : arg8.IsWhole) (arg9 : Memref sig .tc .vmem S4096x256 .f32) (harg9 : arg9.IsWhole) (arg10 : Memref sig .tc .vmem S4096x256 .f32)
    (harg10 : arg10.IsWhole) (v22 : BitVec 32) (v30 : FVec F S512x256 .f32) (v32 : FVec F S512x128 .bf16) (v34 : FVec F S512x128 .bf16)
    (v36 : FVec F S512x128 .bf16) (v37 : FVec F S512x128 .f32) (v45 : Vec F S1x512x128 .f32) (v72 : BitVec 32)
    (X_arg3 : BufTy.Contents (Elt F) arg3.view.ty) (X_arg4 : BufTy.Contents (Elt F) arg4.view.ty)
    (G_arg9 : BufTy.Contents (Elt F) arg9.view.ty) (G_arg10 : BufTy.Contents (Elt F) arg10.view.ty)
    (init : BwdState F) :
    (st_k1_t2 (F := F) 𝒱 c bd i arg2 harg2 arg3 harg3 arg4 harg4 arg5 harg5 arg6 harg6 arg7 harg7 arg8 harg8 arg9 harg9 arg10 harg10 v22 v30 v32 v34 v36 v37 v45 v72 X_arg3 X_arg4 G_arg9 G_arg10 init 0).1 = init := rfl

theorem st_bwd2_dk
    (𝒱 : Variants) (c : Dev nD) (bd : Option 𝒱.V) (i : grid1.Coords) (arg2 : Memref sig .tc .vmem S512x256 .bf16) (harg2 : arg2.IsWhole)
    (arg3 : Memref sig .tc .vmem S4096x256 .bf16) (harg3 : arg3.IsWhole) (arg4 : Memref sig .tc .vmem S4096x256 .bf16)
    (harg4 : arg4.IsWhole) (arg5 : Memref sig .tc .vmem S512x256 .f32) (harg5 : arg5.IsWhole) (arg6 : Memref sig .tc .vmem S512x256 .f32)
    (harg6 : arg6.IsWhole) (arg7 : Memref sig .tc .vmem S1x512x128 .f32) (harg7 : arg7.IsWhole) (arg8 : Memref sig .tc .vmem S512x256 .f32)
    (harg8 : arg8.IsWhole) (arg9 : Memref sig .tc .vmem S4096x256 .f32) (harg9 : arg9.IsWhole) (arg10 : Memref sig .tc .vmem S4096x256 .f32)
    (harg10 : arg10.IsWhole) (v22 : BitVec 32) (v30 : FVec F S512x256 .f32) (v32 : FVec F S512x128 .bf16) (v34 : FVec F S512x128 .bf16)
    (v36 : FVec F S512x128 .bf16) (v37 : FVec F S512x128 .f32) (v45 : Vec F S1x512x128 .f32) (v72 : BitVec 32)
    (X_arg3 : BufTy.Contents (Elt F) arg3.view.ty) (X_arg4 : BufTy.Contents (Elt F) arg4.view.ty)
    (G_arg9 : BufTy.Contents (Elt F) arg9.view.ty) (G_arg10 : BufTy.Contents (Elt F) arg10.view.ty)
    (init : BwdState F) :
    (st_k1_t2 (F := F) 𝒱 c bd i arg2 harg2 arg3 harg3 arg4 harg4 arg5 harg5 arg6 harg6 arg7 harg7 arg8 harg8 arg9 harg9 arg10 harg10 v22 v30 v32 v34 v36 v37 v45 v72 X_arg3 X_arg4 G_arg9 G_arg10 init 0).2.1 = [] := rfl

theorem st_bwd2_dv
    (𝒱 : Variants) (c : Dev nD) (bd : Option 𝒱.V) (i : grid1.Coords) (arg2 : Memref sig .tc .vmem S512x256 .bf16) (harg2 : arg2.IsWhole)
    (arg3 : Memref sig .tc .vmem S4096x256 .bf16) (harg3 : arg3.IsWhole) (arg4 : Memref sig .tc .vmem S4096x256 .bf16)
    (harg4 : arg4.IsWhole) (arg5 : Memref sig .tc .vmem S512x256 .f32) (harg5 : arg5.IsWhole) (arg6 : Memref sig .tc .vmem S512x256 .f32)
    (harg6 : arg6.IsWhole) (arg7 : Memref sig .tc .vmem S1x512x128 .f32) (harg7 : arg7.IsWhole) (arg8 : Memref sig .tc .vmem S512x256 .f32)
    (harg8 : arg8.IsWhole) (arg9 : Memref sig .tc .vmem S4096x256 .f32) (harg9 : arg9.IsWhole) (arg10 : Memref sig .tc .vmem S4096x256 .f32)
    (harg10 : arg10.IsWhole) (v22 : BitVec 32) (v30 : FVec F S512x256 .f32) (v32 : FVec F S512x128 .bf16) (v34 : FVec F S512x128 .bf16)
    (v36 : FVec F S512x128 .bf16) (v37 : FVec F S512x128 .f32) (v45 : Vec F S1x512x128 .f32) (v72 : BitVec 32)
    (X_arg3 : BufTy.Contents (Elt F) arg3.view.ty) (X_arg4 : BufTy.Contents (Elt F) arg4.view.ty)
    (G_arg9 : BufTy.Contents (Elt F) arg9.view.ty) (G_arg10 : BufTy.Contents (Elt F) arg10.view.ty)
    (init : BwdState F) :
    (st_k1_t2 (F := F) 𝒱 c bd i arg2 harg2 arg3 harg3 arg4 harg4 arg5 harg5 arg6 harg6 arg7 harg7 arg8 harg8 arg9 harg9 arg10 harg10 v22 v30 v32 v34 v36 v37 v45 v72 X_arg3 X_arg4 G_arg9 G_arg10 init 0).2.2 = [] := rfl

end Cert.MlaIdeal.Lat

end
-- ==== Proof.MlaBackwardA.lean ====
/- What the backward kernel leaves at the first grid point of a pair of heads: the gradients of the keys and values begin at zero. -/
module

public import proofs.«01_k».proof.Proof.MlaBackward

@[expose] public section

set_option maxRecDepth 16384

noncomputable section

namespace Cert.MlaIdeal.Lat

open Idealize.ShloMosaic Idealize.ShloMosaic.TcCoe Idealize.ShloMosaic.Tactic
open Cert.MlaIdeal Cert.MlaIdeal.Gen

variable {F : FTy → Type} [FloatOps F] [Named F]

/-- The gradients of the keys and values before the first point. -/
def zeros : Vec F S4096x256 .f32 := broadcast S4096x256 (Scalar.ofBits .f32 0x00000000#32)

theorem out1_A_6_eq
    (c : Dev nD) (i : grid1.Coords) (arg2 : Memref sig .tc .vmem S512x256 .bf16) (harg2 : arg2.IsWhole)
    (arg3 : Memref sig .tc .vmem S4096x256 .bf16) (harg3 : arg3.IsWhole) (arg4 : Memref sig .tc .vmem S4096x256 .bf16)
    (harg4 : arg4.IsWhole) (arg5 : Memref sig .tc .vmem S512x256 .f32) (harg5 : arg5.IsWhole) (arg6 : Memref sig .tc .vmem S512x256 .f32)
    (harg6 : arg6.IsWhole) (arg7 : Memref sig .tc .vmem S1x512x128 .f32) (harg7 : arg7.IsWhole) (arg8 : Memref sig .tc .vmem S512x256 .f32)
    (harg8 : arg8.IsWhole) (arg9 : Memref sig .tc .vmem S4096x256 .f32) (harg9 : arg9.IsWhole) (arg10 : Memref sig .tc .vmem S4096x256 .f32)
    (harg10 : arg10.IsWhole) (hc0 : cond1_0 i) (x0 : Vec F S512x256 .bf16) (x1 : Vec F S4096x256 .bf16) (x2 : Vec F S4096x256 .bf16)
    (x3 : Vec F S512x256 .f32) (x4 : Vec F S512x256 .f32) (x5 : Vec F S1x512x128 .f32) :
    out1_A_6 c i arg2 harg2 arg3 harg3 arg4 harg4 arg5 harg5 arg6 harg6 arg7 harg7 arg8 harg8 arg9 harg9 arg10 harg10 hc0 x0 x1 x2 x3 x4 x5 = bwdDq i x0 x1 x2 x3 x4 x5 := by
  have e0 := harg2.read_unread x0
  have e1 := harg3.read_unread x1
  have e2 := harg4.read_unread x2
  have e3 := read_sq harg5 x3
  have e4 := read_sq harg6 x4
  have e5 := read_st harg7 x5
  have h0 : kernelRun1_A.sl.r c arg5 harg5 arg6 harg6 x3 x4 = prodDO x3 x4 := by
    conv_rhs => rw [← e3, ← e4]
    rfl
  have h1 : kernelRun1_A.sl.r_1 c arg2 harg2 x0 = headQ0 x0 := by
    conv_rhs => rw [← e0]
    rfl
  have h2 : kernelRun1_A.sl.r_2 c arg2 harg2 x0 = headQ1 x0 := by
    conv_rhs => rw [← e0]
    rfl
  have h3 : kernelRun1_A.sl.r_3 c arg6 harg6 x4 = headD0 x4 := by
    conv_rhs => rw [← e4]
    rfl
  have h4 : headD (kernelRun1_A.sl.r_4 c arg6 harg6 x4) = headD1 x4 := by
    conv_rhs => rw [← e4]
    rfl
  have h5 : kernelRun1_A.sl.r_5 c arg6 harg6 x4 = headD1 x4 := by
    conv_rhs => rw [← e4]
    rfl
  have h6 : kernelRun1_A.sl.r_6 c arg5 harg5 arg6 harg6 x3 x4 = rowSum (half0 (prodDO x3 x4)) := by
    conv_rhs => rw [← e3, ← e4]
    rfl
  have h7 : kernelRun1_A.sl.r_7 c arg5 harg5 arg6 harg6 x3 x4 = rowSum (half1 (prodDO x3 x4)) := by
    conv_rhs => rw [← e3, ← e4]
    rfl
  unfold out1_A_6 kernelRun1_A
  dsimp only
  rw [View.read_writes_cons_put _ _ inb_S512x256_S512x128_0_128 _ _ rfl, View.read_writes_cons_put _ _ inb_S512x256_S512x128_0_0 _ _ rfl, put_sides]
  simp -proj only [kernelRun1_A.sl.r_17, kernelRun1_A.sl.r_16, kernelRun1_A.sl.r_15, kernelRun1_A.sl.r_14, kernelRun1_A.sl.r_13, kernelRun1_A.sl.r_12, kernelRun1_A.sl.r_11, kernelRun1_A.sl.r_10, kernelRun1_A.sl.r_9, kernelRun1_A.sl.r_8, kernelRun1_A.sl.v99, kernelRun1_A.sl.v106]
  rw [show Scf.trips (k1_t2_loop i).lb (k1_t2_loop i).ub (k1_t2_loop i).st = 0 from k1_t2_zero i,
    show Scf.trips (k1_t1_loop i).lb (k1_t1_loop i).ub (k1_t1_loop i).st = (k1_t1_loop i).trips from rfl]
  simp -proj only [st_bwd2_acc, st_bwd2_dk, st_bwd2_dv, List.nil_append]
  rw [st_bwd (x0 := x0) (x1 := x1) (x2 := x2) (x3 := x3) (x4 := x4) (x5 := x5) (hX3 := e1) (hX4 := e2) (n := (k1_t1_loop i).trips)]
  · simp -proj only [bwdAll_fst]
    rw [e5, h6, h7, View.readAt_eq_ld, View.readAt_eq_ld, e1]
    rfl
  · conv_rhs => rw [← e1, ← e2]
    unfold bwdAfter
    rw [← h1, ← h2, ← h3, ← h4]
    rfl
  · exact h0
  · exact h1
  · exact h2
  · exact h3
  · exact h4
  · exact e5
  · exact le_rfl

theorem out1_A_7_eq
    (c : Dev nD) (i : grid1.Coords) (arg2 : Memref sig .tc .vmem S512x256 .bf16) (harg2 : arg2.IsWhole)
    (arg3 : Memref sig .tc .vmem S4096x256 .bf16) (harg3 : arg3.IsWhole) (arg4 : Memref sig .tc .vmem S4096x256 .bf16)
    (harg4 : arg4.IsWhole) (arg5 : Memref sig .tc .vmem S512x256 .f32) (harg5 : arg5.IsWhole) (arg6 : Memref sig .tc .vmem S512x256 .f32)
    (harg6 : arg6.IsWhole) (arg7 : Memref sig .tc .vmem S1x512x128 .f32) (harg7 : arg7.IsWhole) (arg8 : Memref sig .tc .vmem S512x256 .f32)
    (harg8 : arg8.IsWhole) (arg9 : Memref sig .tc .vmem S4096x256 .f32) (harg9 : arg9.IsWhole) (arg10 : Memref sig .tc .vmem S4096x256 .f32)
    (harg10 : arg10.IsWhole) (hc0 : cond1_0 i) (x0 : Vec F S512x256 .bf16) (x1 : Vec F S4096x256 .bf16) (x2 : Vec F S4096x256 .bf16)
    (x3 : Vec F S512x256 .f32) (x4 : Vec F S512x256 .f32) (x5 : Vec F S1x512x128 .f32) :
    out1_A_7 c i arg2 harg2 arg3 harg3 arg4 harg4 arg5 harg5 arg6 harg6 arg7 harg7 arg8 harg8 arg9 harg9 arg10 harg10 hc0 x0 x1 x2 x3 x4 x5 = bwdDk i x0 x1 x2 x3 x4 x5 zeros := by
  have e0 := harg2.read_unread x0
  have e1 := harg3.read_unread x1
  have e2 := harg4.read_unread x2
  have e3 := read_sq harg5 x3
  have e4 := read_sq harg6 x4
  have e5 := read_st harg7 x5
  have h0 : kernelRun1_A.sl.r c arg5 harg5 arg6 harg6 x3 x4 = prodDO x3 x4 := by
    conv_rhs => rw [← e3, ← e4]
    rfl
  have h1 : kernelRun1_A.sl.r_1 c arg2 harg2 x0 = headQ0 x0 := by
    conv_rhs => rw [← e0]
    rfl
  have h2 : kernelRun1_A.sl.r_2 c arg2 harg2 x0 = headQ1 x0 := by
    conv_rhs => rw [← e0]
    rfl
  have h3 : kernelRun1_A.sl.r_3 c arg6 harg6 x4 = headD0 x4 := by
    conv_rhs => rw [← e4]
    rfl
  have h4 : headD (kernelRun1_A.sl.r_4 c arg6 harg6 x4) = headD1 x4 := by
    conv_rhs => rw [← e4]
    rfl
  have h5 : kernelRun1_A.sl.r_5 c arg6 harg6 x4 = headD1 x4 := by
    conv_rhs => rw [← e4]
    rfl
  have h6 : kernelRun1_A.sl.r_6 c arg5 harg5 arg6 harg6 x3 x4 = rowSum (half0 (prodDO x3 x4)) := by
    conv_rhs => rw [← e3, ← e4]
    rfl
  have h7 : kernelRun1_A.sl.r_7 c arg5 harg5 arg6 harg6 x3 x4 = rowSum (half1 (prodDO x3 x4)) := by
    conv_rhs => rw [← e3, ← e4]
    rfl
  have hz : arg9.view.read (Elt F) (arg9.view.writes (Elt F) arg9.view.junk kernelRun1_A.sl.H7_1) = zeros :=
    View.read_writes_full arg9.view _ _ _ _
  unfold out1_A_7
  rw [View.read_writes_eq_canon _ _ _ (cover1_A_7 c i arg2 harg2 arg3 harg3 arg4 harg4 arg5 harg5 arg6 harg6 arg7 harg7 arg8 harg8 arg9 harg9 arg10 harg10 hc0 x0 x1 x2 x3 x4 x5), ← View.read_writes_eq_canon arg9.view arg9.view.junk _ (cover1_A_7 c i arg2 harg2 arg3 harg3 arg4 harg4 arg5 harg5 arg6 harg6 arg7 harg7 arg8 harg8 arg9 harg9 arg10 harg10 hc0 x0 x1 x2 x3 x4 x5)]
  unfold kernelRun1_A
  dsimp only
  unfold kernelRun1_A.sl.H7_1_1
  simp -proj only [kernelRun1_A.sl.r_17, kernelRun1_A.sl.r_16, kernelRun1_A.sl.r_15, kernelRun1_A.sl.r_14, kernelRun1_A.sl.r_13, kernelRun1_A.sl.r_12, kernelRun1_A.sl.r_11, kernelRun1_A.sl.r_10, kernelRun1_A.sl.r_9, kernelRun1_A.sl.r_8, kernelRun1_A.sl.v99, kernelRun1_A.sl.v106]
  rw [show Scf.trips (k1_t2_loop i).lb (k1_t2_loop i).ub (k1_t2_loop i).st = 0 from k1_t2_zero i,
    show Scf.trips (k1_t1_loop i).lb (k1_t1_loop i).ub (k1_t1_loop i).st = (k1_t1_loop i).trips from rfl]
  simp -proj only [st_bwd2_acc, st_bwd2_dk, st_bwd2_dv, List.nil_append]
  rw [st_bwd (x0 := x0) (x1 := x1) (x2 := x2) (x3 := x3) (x4 := x4) (x5 := x5) (hX3 := e1) (hX4 := e2) (n := (k1_t1_loop i).trips)]
  · simp -proj only [bwdAll_fst]
    rw [e5, h1, h2, h6, h7]
    have hl := read_last arg9 _ (k1_off9_inb i) _ (k1_off10_inb i) (k1_apart i) arg9.view.junk ((bwdAll i arg9 arg10 (arg9.view.writes (Elt F) arg9.view.junk kernelRun1_A.sl.H7_1) (arg10.view.writes (Elt F) arg10.view.junk kernelRun1_A.sl.H8_1) x0 x1 x2 x3 x4 x5 (k1_t1_loop i).trips).2.1 ++ kernelRun1_A.sl.H7_1) (ds0Of (lastMask i) x3 x4 x5 (bwdAfter i x0 x1 x2 x3 x4 x5 (k1_t1_loop i).trips)) (ds1Of (lastMask i) x3 x4 x5 (bwdAfter i x0 x1 x2 x3 x4 x5 (k1_t1_loop i).trips)) (headQ0 x0) (headQ1 x0)
    rw [View.writes_append arg9.view] at hl
    rw [bwdAll_dk, hz] at hl
    rw [← View.writes_append arg9.view] at hl
    refine Eq.trans ?_ (hl.trans ?_)
    · rfl
    · rfl
  · conv_rhs => rw [← e1, ← e2]
    unfold bwdAfter
    rw [← h1, ← h2, ← h3, ← h4]
    rfl
  · exact h0
  · exact h1
  · exact h2
  · exact h3
  · exact h4
  · exact e5
  · exact le_rfl

theorem out1_A_8_eq
    (c : Dev nD) (i : grid1.Coords) (arg2 : Memref sig .tc .vmem S512x256 .bf16) (harg2 : arg2.IsWhole)
    (arg3 : Memref sig .tc .vmem S4096x256 .bf16) (harg3 : arg3.IsWhole) (arg4 : Memref sig .tc .vmem S4096x256 .bf16)
    (harg4 : arg4.IsWhole) (arg5 : Memref sig .tc .vmem S512x256 .f32) (harg5 : arg5.IsWhole) (arg6 : Memref sig .tc .vmem S512x256 .f32)
    (harg6 : arg6.IsWhole) (arg7 : Memref sig .tc .vmem S1x512x128 .f32) (harg7 : arg7.IsWhole) (arg8 : Memref sig .tc .vmem S512x256 .f32)
    (harg8 : arg8.IsWhole) (arg9 : Memref sig .tc .vmem S4096x256 .f32) (harg9 : arg9.IsWhole) (arg10 : Memref sig .tc .vmem S4096x256 .f32)
    (harg10 : arg10.IsWhole) (hc0 : cond1_0 i) (x0 : Vec F S512x256 .bf16) (x1 : Vec F S4096x256 .bf16) (x2 : Vec F S4096x256 .bf16)
    (x3 : Vec F S512x256 .f32) (x4 : Vec F S512x256 .f32) (x5 : Vec F S1x512x128 .f32) :
    out1_A_8 c i arg2 harg2 arg3 harg3 arg4 harg4 arg5 harg5 arg6 harg6 arg7 harg7 arg8 harg8 arg9 harg9 arg10 harg10 hc0 x0 x1 x2 x3 x4 x5 = bwdDv i x0 x1 x2 x3 x4 x5 zeros := by
  have e0 := harg2.read_unread x0
  have e1 := harg3.read_unread x1
  have e2 := harg4.read_unread x2
  have e3 := read_sq harg5 x3
  have e4 := read_sq harg6 x4
  have e5 := read_st harg7 x5
  have h0 : kernelRun1_A.sl.r c arg5 harg5 arg6 harg6 x3 x4 = prodDO x3 x4 := by
    conv_rhs => rw [← e3, ← e4]
    rfl
  have h1 : kernelRun1_A.sl.r_1 c arg2 harg2 x0 = headQ0 x0 := by
    conv_rhs => rw [← e0]
    rfl
  have h2 : kernelRun1_A.sl.r_2 c arg2 harg2 x0 = headQ1 x0 := by
    conv_rhs => rw [← e0]
    rfl
  have h3 : kernelRun1_A.sl.r_3 c arg6 harg6 x4 = headD0 x4 := by
    conv_rhs => rw [← e4]
    rfl
  have h4 : headD (kernelRun1_A.sl.r_4 c arg6 harg6 x4) = headD1 x4 := by
    conv_rhs => rw [← e4]
    rfl
  have h5 : kernelRun1_A.sl.r_5 c arg6 harg6 x4 = headD1 x4 := by
    conv_rhs => rw [← e4]
    rfl
  have h6 : kernelRun1_A.sl.r_6 c arg5 harg5 arg6 harg6 x3 x4 = rowSum (half0 (prodDO x3 x4)) := by
    conv_rhs => rw [← e3, ← e4]
    rfl
  have h7 : kernelRun1_A.sl.r_7 c arg5 harg5 arg6 harg6 x3 x4 = rowSum (half1 (prodDO x3 x4)) := by
    conv_rhs => rw [← e3, ← e4]
    rfl
  have hz : arg10.view.read (Elt F) (arg10.view.writes (Elt F) arg10.view.junk kernelRun1_A.sl.H8_1) = zeros :=
    View.read_writes_full arg10.view _ _ _ _
  unfold out1_A_8
  rw [View.read_writes_eq_canon _ _ _ (cover1_A_8 c i arg2 harg2 arg3 harg3 arg4 harg4 arg5 harg5 arg6 harg6 arg7 harg7 arg8 harg8 arg9 harg9 arg10 harg10 hc0 x0 x1 x2 x3 x4 x5), ← View.read_writes_eq_canon arg10.view arg10.view.junk _ (cover1_A_8 c i arg2 harg2 arg3 harg3 arg4 harg4 arg5 harg5 arg6 harg6 arg7 harg7 arg8 harg8 arg9 harg9 arg10 harg10 hc0 x0 x1 x2 x3 x4 x5)]
  unfold kernelRun1_A
  dsimp only
  unfold kernelRun1_A.sl.H8_1_1
  simp -proj only [kernelRun1_A.sl.r_17, kernelRun1_A.sl.r_16, kernelRun1_A.sl.r_15, kernelRun1_A.sl.r_14, kernelRun1_A.sl.r_13, kernelRun1_A.sl.r_12, kernelRun1_A.sl.r_11, kernelRun1_A.sl.r_10, kernelRun1_A.sl.r_9, kernelRun1_A.sl.r_8, kernelRun1_A.sl.v99, kernelRun1_A.sl.v106]
  rw [show Scf.trips (k1_t2_loop i).lb (k1_t2_loop i).ub (k1_t2_loop i).st = 0 from k1_t2_zero i,
    show Scf.trips (k1_t1_loop i).lb (k1_t1_loop i).ub (k1_t1_loop i).st = (k1_t1_loop i).trips from rfl]
  simp -proj only [st_bwd2_acc, st_bwd2_dk, st_bwd2_dv, List.nil_append]
  rw [st_bwd (x0 := x0) (x1 := x1) (x2 := x2) (x3 := x3) (x4 := x4) (x5 := x5) (hX3 := e1) (hX4 := e2) (n := (k1_t1_loop i).trips)]
  · simp -proj only [bwdAll_fst]
    rw [e5, h3, h5]
    have hl := read_last arg10 _ (k1_off9_inb i) _ (k1_off10_inb i) (k1_apart i) arg10.view.junk ((bwdAll i arg9 arg10 (arg9.view.writes (Elt F) arg9.view.junk kernelRun1_A.sl.H7_1) (arg10.view.writes (Elt F) arg10.view.junk kernelRun1_A.sl.H8_1) x0 x1 x2 x3 x4 x5 (k1_t1_loop i).trips).2.2 ++ kernelRun1_A.sl.H8_1) (w0Of (lastMask i) x5 (bwdAfter i x0 x1 x2 x3 x4 x5 (k1_t1_loop i).trips)) (w1Of (lastMask i) x5 (bwdAfter i x0 x1 x2 x3 x4 x5 (k1_t1_loop i).trips)) (headD0 x4) (headD1 x4)
    rw [View.writes_append arg10.view] at hl
    rw [bwdAll_dv, hz] at hl
    rw [← View.writes_append arg10.view] at hl
    refine Eq.trans ?_ (hl.trans ?_)
    · rfl
    · rfl
  · conv_rhs => rw [← e1, ← e2]
    unfold bwdAfter
    rw [← h1, ← h2, ← h3, ← h4]
    rfl
  · exact h0
  · exact h1
  · exact h2
  · exact h3
  · exact h4
  · exact e5
  · exact le_rfl

end Cert.MlaIdeal.Lat

end
-- ==== Proof.MlaBackwardB.lean ====
/- What the backward kernel leaves at a grid point that carries on: the gradients of the keys and values begin at what the point before left. -/
module

public import proofs.«01_k».proof.Proof.MlaBackward

@[expose] public section

set_option maxRecDepth 16384

noncomputable section

namespace Cert.MlaIdeal.Lat

open Idealize.ShloMosaic Idealize.ShloMosaic.TcCoe Idealize.ShloMosaic.Tactic
open Cert.MlaIdeal Cert.MlaIdeal.Gen

variable {F : FTy → Type} [FloatOps F] [Named F]

theorem out1_B_6_eq
    (c : Dev nD) (i : grid1.Coords) (arg2 : Memref sig .tc .vmem S512x256 .bf16) (harg2 : arg2.IsWhole)
    (arg3 : Memref sig .tc .vmem S4096x256 .bf16) (harg3 : arg3.IsWhole) (arg4 : Memref sig .tc .vmem S4096x256 .bf16)
    (harg4 : arg4.IsWhole) (arg5 : Memref sig .tc .vmem S512x256 .f32) (harg5 : arg5.IsWhole) (arg6 : Memref sig .tc .vmem S512x256 .f32)
    (harg6 : arg6.IsWhole) (arg7 : Memref sig .tc .vmem S1x512x128 .f32) (harg7 : arg7.IsWhole) (arg8 : Memref sig .tc .vmem S512x256 .f32)
    (harg8 : arg8.IsWhole) (arg9 : Memref sig .tc .vmem S4096x256 .f32) (harg9 : arg9.IsWhole) (arg10 : Memref sig .tc .vmem S4096x256 .f32)
    (harg10 : arg10.IsWhole) (hc0 : ¬cond1_0 i) (x0 : Vec F S512x256 .bf16) (x1 : Vec F S4096x256 .bf16) (x2 : Vec F S4096x256 .bf16)
    (x3 : Vec F S512x256 .f32) (x4 : Vec F S512x256 .f32) (x5 : Vec F S1x512x128 .f32) (xo7 : Vec F S4096x256 .f32)
    (xo8 : Vec F S4096x256 .f32) :
    out1_B_6 c i arg2 harg2 arg3 harg3 arg4 harg4 arg5 harg5 arg6 harg6 arg7 harg7 arg8 harg8 arg9 harg9 arg10 harg10 hc0 x0 x1 x2 x3 x4 x5 xo7 xo8 = bwdDq i x0 x1 x2 x3 x4 x5 := by
  have e0 := harg2.read_unread x0
  have e1 := harg3.read_unread x1
  have e2 := harg4.read_unread x2
  have e3 := read_sq harg5 x3
  have e4 := read_sq harg6 x4
  have e5 := read_st harg7 x5
  have h0 : kernelRun1_B.sl.r c arg5 harg5 arg6 harg6 x3 x4 = prodDO x3 x4 := by
    conv_rhs => rw [← e3, ← e4]
    rfl
  have h1 : kernelRun1_B.sl.r_1 c arg2 harg2 x0 = headQ0 x0 := by
    conv_rhs => rw [← e0]
    rfl
  have h2 : kernelRun1_B.sl.r_2 c arg2 harg2 x0 = headQ1 x0 := by
    conv_rhs => rw [← e0]
    rfl
  have h3 : kernelRun1_B.sl.r_3 c arg6 harg6 x4 = headD0 x4 := by
    conv_rhs => rw [← e4]
    rfl
  have h4 : headD (kernelRun1_B.sl.r_4 c arg6 harg6 x4) = headD1 x4 := by
    conv_rhs => rw [← e4]
    rfl
  have h5 : kernelRun1_B.sl.r_5 c arg6 harg6 x4 = headD1 x4 := by
    conv_rhs => rw [← e4]
    rfl
  have h6 : kernelRun1_B.sl.r_6 c arg5 harg5 arg6 harg6 x3 x4 = rowSum (half0 (prodDO x3 x4)) := by
    conv_rhs => rw [← e3, ← e4]
    rfl
  have h7 : kernelRun1_B.sl.r_7 c arg5 harg5 arg6 harg6 x3 x4 = rowSum (half1 (prodDO x3 x4)) := by
    conv_rhs => rw [← e3, ← e4]
    rfl
  unfold out1_B_6 kernelRun1_B
  dsimp only
  rw [View.read_writes_cons_put _ _ inb_S512x256_S512x128_0_128 _ _ rfl, View.read_writes_cons_put _ _ inb_S512x256_S512x128_0_0 _ _ rfl, put_sides]
  simp -proj only [kernelRun1_B.sl.r_17, kernelRun1_B.sl.r_16, kernelRun1_B.sl.r_15, kernelRun1_B.sl.r_14, kernelRun1_B.sl.r_13, kernelRun1_B.sl.r_12, kernelRun1_B.sl.r_11, kernelRun1_B.sl.r_10, kernelRun1_B.sl.r_9, kernelRun1_B.sl.r_8, kernelRun1_B.sl.v99, kernelRun1_B.sl.v106]
  rw [show Scf.trips (k1_t2_loop i).lb (k1_t2_loop i).ub (k1_t2_loop i).st = 0 from k1_t2_zero i,
    show Scf.trips (k1_t1_loop i).lb (k1_t1_loop i).ub (k1_t1_loop i).st = (k1_t1_loop i).trips from rfl]
  simp -proj only [st_bwd2_acc, st_bwd2_dk, st_bwd2_dv, List.nil_append]
  rw [st_bwd (x0 := x0) (x1 := x1) (x2 := x2) (x3 := x3) (x4 := x4) (x5 := x5) (hX3 := e1) (hX4 := e2) (n := (k1_t1_loop i).trips)]
  · simp -proj only [bwdAll_fst]
    rw [e5, h6, h7, View.readAt_eq_ld, View.readAt_eq_ld, e1]
    rfl
  · conv_rhs => rw [← e1, ← e2]
    unfold bwdAfter
    rw [← h1, ← h2, ← h3, ← h4]
    rfl
  · exact h0
  · exact h1
  · exact h2
  · exact h3
  · exact h4
  · exact e5
  · exact le_rfl

theorem out1_B_7_eq
    (c : Dev nD) (i : grid1.Coords) (arg2 : Memref sig .tc .vmem S512x256 .bf16) (harg2 : arg2.IsWhole)
    (arg3 : Memref sig .tc .vmem S4096x256 .bf16) (harg3 : arg3.IsWhole) (arg4 : Memref sig .tc .vmem S4096x256 .bf16)
    (harg4 : arg4.IsWhole) (arg5 : Memref sig .tc .vmem S512x256 .f32) (harg5 : arg5.IsWhole) (arg6 : Memref sig .tc .vmem S512x256 .f32)
    (harg6 : arg6.IsWhole) (arg7 : Memref sig .tc .vmem S1x512x128 .f32) (harg7 : arg7.IsWhole) (arg8 : Memref sig .tc .vmem S512x256 .f32)
    (harg8 : arg8.IsWhole) (arg9 : Memref sig .tc .vmem S4096x256 .f32) (harg9 : arg9.IsWhole) (arg10 : Memref sig .tc .vmem S4096x256 .f32)
    (harg10 : arg10.IsWhole) (hc0 : ¬cond1_0 i) (x0 : Vec F S512x256 .bf16) (x1 : Vec F S4096x256 .bf16) (x2 : Vec F S4096x256 .bf16)
    (x3 : Vec F S512x256 .f32) (x4 : Vec F S512x256 .f32) (x5 : Vec F S1x512x128 .f32) (xo7 : Vec F S4096x256 .f32)
    (xo8 : Vec F S4096x256 .f32) :
    out1_B_7 c i arg2 harg2 arg3 harg3 arg4 harg4 arg5 harg5 arg6 harg6 arg7 harg7 arg8 harg8 arg9 harg9 arg10 harg10 hc0 x0 x1 x2 x3 x4 x5 xo7 xo8 = bwdDk i x0 x1 x2 x3 x4 x5 xo7 := by
  have e0 := harg2.read_unread x0
  have e1 := harg3.read_unread x1
  have e2 := harg4.read_unread x2
  have e3 := read_sq harg5 x3
  have e4 := read_sq harg6 x4
  have e5 := read_st harg7 x5
  have h0 : kernelRun1_B.sl.r c arg5 harg5 arg6 harg6 x3 x4 = prodDO x3 x4 := by
    conv_rhs => rw [← e3, ← e4]
    rfl
  have h1 : kernelRun1_B.sl.r_1 c arg2 harg2 x0 = headQ0 x0 := by
    conv_rhs => rw [← e0]
    rfl
  have h2 : kernelRun1_B.sl.r_2 c arg2 harg2 x0 = headQ1 x0 := by
    conv_rhs => rw [← e0]
    rfl
  have h3 : kernelRun1_B.sl.r_3 c arg6 harg6 x4 = headD0 x4 := by
    conv_rhs => rw [← e4]
    rfl
  have h4 : headD (kernelRun1_B.sl.r_4 c arg6 harg6 x4) = headD1 x4 := by
    conv_rhs => rw [← e4]
    rfl
  have h5 : kernelRun1_B.sl.r_5 c arg6 harg6 x4 = headD1 x4 := by
    conv_rhs => rw [← e4]
    rfl
  have h6 : kernelRun1_B.sl.r_6 c arg5 harg5 arg6 harg6 x3 x4 = rowSum (half0 (prodDO x3 x4)) := by
    conv_rhs => rw [← e3, ← e4]
    rfl
  have h7 : kernelRun1_B.sl.r_7 c arg5 harg5 arg6 harg6 x3 x4 = rowSum (half1 (prodDO x3 x4)) := by
    conv_rhs => rw [← e3, ← e4]
    rfl
  unfold out1_B_7 kernelRun1_B
  dsimp only
  unfold kernelRun1_B.sl.H7_1
  simp -proj only [kernelRun1_B.sl.r_17, kernelRun1_B.sl.r_16, kernelRun1_B.sl.r_15, kernelRun1_B.sl.r_14, kernelRun1_B.sl.r_13, kernelRun1_B.sl.r_12, kernelRun1_B.sl.r_11, kernelRun1_B.sl.r_10, kernelRun1_B.sl.r_9, kernelRun1_B.sl.r_8, kernelRun1_B.sl.v99, kernelRun1_B.sl.v106]
  rw [show Scf.trips (k1_t2_loop i).lb (k1_t2_loop i).ub (k1_t2_loop i).st = 0 from k1_t2_zero i,
    show Scf.trips (k1_t1_loop i).lb (k1_t1_loop i).ub (k1_t1_loop i).st = (k1_t1_loop i).trips from rfl]
  simp -proj only [st_bwd2_acc, st_bwd2_dk, st_bwd2_dv, List.nil_append]
  rw [st_bwd (x0 := x0) (x1 := x1) (x2 := x2) (x3 := x3) (x4 := x4) (x5 := x5) (hX3 := e1) (hX4 := e2) (n := (k1_t1_loop i).trips)]
  · simp -proj only [bwdAll_fst]
    rw [e5, h1, h2, h6, h7]
    exact (read_last arg9 _ (k1_off9_inb i) _ (k1_off10_inb i) (k1_apart i) _ _ (ds0Of (lastMask i) x3 x4 x5 (bwdAfter i x0 x1 x2 x3 x4 x5 (k1_t1_loop i).trips)) (ds1Of (lastMask i) x3 x4 x5 (bwdAfter i x0 x1 x2 x3 x4 x5 (k1_t1_loop i).trips)) (headQ0 x0) (headQ1 x0)).trans
      (by rw [bwdAll_dk, harg9.read_unread]; rfl)
  · conv_rhs => rw [← e1, ← e2]
    unfold bwdAfter
    rw [← h1, ← h2, ← h3, ← h4]
    rfl
  · exact h0
  · exact h1
  · exact h2
  · exact h3
  · exact h4
  · exact e5
  · exact le_rfl

theorem out1_B_8_eq
    (c : Dev nD) (i : grid1.Coords) (arg2 : Memref sig .tc .vmem S512x256 .bf16) (harg2 : arg2.IsWhole)
    (arg3 : Memref sig .tc .vmem S4096x256 .bf16) (harg3 : arg3.IsWhole) (arg4 : Memref sig .tc .vmem S4096x256 .bf16)
    (harg4 : arg4.IsWhole) (arg5 : Memref sig .tc .vmem S512x256 .f32) (harg5 : arg5.IsWhole) (arg6 : Memref sig .tc .vmem S512x256 .f32)
    (harg6 : arg6.IsWhole) (arg7 : Memref sig .tc .vmem S1x512x128 .f32) (harg7 : arg7.IsWhole) (arg8 : Memref sig .tc .vmem S512x256 .f32)
    (harg8 : arg8.IsWhole) (arg9 : Memref sig .tc .vmem S4096x256 .f32) (harg9 : arg9.IsWhole) (arg10 : Memref sig .tc .vmem S4096x256 .f32)
    (harg10 : arg10.IsWhole) (hc0 : ¬cond1_0 i) (x0 : Vec F S512x256 .bf16) (x1 : Vec F S4096x256 .bf16) (x2 : Vec F S4096x256 .bf16)
    (x3 : Vec F S512x256 .f32) (x4 : Vec F S512x256 .f32) (x5 : Vec F S1x512x128 .f32) (xo7 : Vec F S4096x256 .f32)
    (xo8 : Vec F S4096x256 .f32) :
    out1_B_8 c i arg2 harg2 arg3 harg3 arg4 harg4 arg5 harg5 arg6 harg6 arg7 harg7 arg8 harg8 arg9 harg9 arg10 harg10 hc0 x0 x1 x2 x3 x4 x5 xo7 xo8 = bwdDv i x0 x1 x2 x3 x4 x5 xo8 := by
  have e0 := harg2.read_unread x0
  have e1 := harg3.read_unread x1
  have e2 := harg4.read_unread x2
  have e3 := read_sq harg5 x3
  have e4 := read_sq harg6 x4
  have e5 := read_st harg7 x5
  have h0 : kernelRun1_B.sl.r c arg5 harg5 arg6 harg6 x3 x4 = prodDO x3 x4 := by
    conv_rhs => rw [← e3, ← e4]
    rfl
  have h1 : kernelRun1_B.sl.r_1 c arg2 harg2 x0 = headQ0 x0 := by
    conv_rhs => rw [← e0]
    rfl
  have h2 : kernelRun1_B.sl.r_2 c arg2 harg2 x0 = headQ1 x0 := by
    conv_rhs => rw [← e0]
    rfl
  have h3 : kernelRun1_B.sl.r_3 c arg6 harg6 x4 = headD0 x4 := by
    conv_rhs => rw [← e4]
    rfl
  have h4 : headD (kernelRun1_B.sl.r_4 c arg6 harg6 x4) = headD1 x4 := by
    conv_rhs => rw [← e4]
    rfl
  have h5 : kernelRun1_B.sl.r_5 c arg6 harg6 x4 = headD1 x4 := by
    conv_rhs => rw [← e4]
    rfl
  have h6 : kernelRun1_B.sl.r_6 c arg5 harg5 arg6 harg6 x3 x4 = rowSum (half0 (prodDO x3 x4)) := by
    conv_rhs => rw [← e3, ← e4]
    rfl
  have h7 : kernelRun1_B.sl.r_7 c arg5 harg5 arg6 harg6 x3 x4 = rowSum (half1 (prodDO x3 x4)) := by
    conv_rhs => rw [← e3, ← e4]
    rfl
  unfold out1_B_8 kernelRun1_B
  dsimp only
  unfold kernelRun1_B.sl.H8_1
  simp -proj only [kernelRun1_B.sl.r_17, kernelRun1_B.sl.r_16, kernelRun1_B.sl.r_15, kernelRun1_B.sl.r_14, kernelRun1_B.sl.r_13, kernelRun1_B.sl.r_12, kernelRun1_B.sl.r_11, kernelRun1_B.sl.r_10, kernelRun1_B.sl.r_9, kernelRun1_B.sl.r_8, kernelRun1_B.sl.v99, kernelRun1_B.sl.v106]
  rw [show Scf.trips (k1_t2_loop i).lb (k1_t2_loop i).ub (k1_t2_loop i).st = 0 from k1_t2_zero i,
    show Scf.trips (k1_t1_loop i).lb (k1_t1_loop i).ub (k1_t1_loop i).st = (k1_t1_loop i).trips from rfl]
  simp -proj only [st_bwd2_acc, st_bwd2_dk, st_bwd2_dv, List.nil_append]
  rw [st_bwd (x0 := x0) (x1 := x1) (x2 := x2) (x3 := x3) (x4 := x4) (x5 := x5) (hX3 := e1) (hX4 := e2) (n := (k1_t1_loop i).trips)]
  · simp -proj only [bwdAll_fst]
    rw [e5, h3, h5]
    exact (read_last arg10 _ (k1_off9_inb i) _ (k1_off10_inb i) (k1_apart i) _ _ (w0Of (lastMask i) x5 (bwdAfter i x0 x1 x2 x3 x4 x5 (k1_t1_loop i).trips)) (w1Of (lastMask i) x5 (bwdAfter i x0 x1 x2 x3 x4 x5 (k1_t1_loop i).trips)) (headD0 x4) (headD1 x4)).trans
      (by rw [bwdAll_dv, harg10.read_unread]; rfl)
  · conv_rhs => rw [← e1, ← e2]
    unfold bwdAfter
    rw [← h1, ← h2, ← h3, ← h4]
    rfl
  · exact h0
  · exact h1
  · exact h2
  · exact h3
  · exact h4
  · exact e5
  · exact le_rfl

end Cert.MlaIdeal.Lat

end
-- ==== Proof.MlaBackwardReal.lean ====
/- The backward kernel's gradients over the reals, one grid point. -/
module

public import proofs.«01_k».proof.Proof.MlaForwardReal
public import proofs.«01_k».proof.Proof.MlaBackwardA
public import proofs.«01_k».proof.Proof.MlaBackwardB

@[expose] public section

set_option maxRecDepth 16384

noncomputable section

namespace Cert.MlaIdeal.Lat

open Idealize.ShloMosaic Idealize.ShloMosaic.TcCoe Idealize.ShloMosaic.Tactic
open Cert.MlaIdeal Cert.MlaIdeal.Gen
open Cert.KernelIdeal.Sb (Re Re.congr Re.addf Re.subf Re.mulf Re.exp coe_sum coe_dot coe_max log_coe_pos Vis Sel toInt_small ofBool_decide)
open Finset (range)

/-- The weight of key `j` for query `t`. -/
def Wp (Q K : ℕ → ℕ → ℝ) (t j : ℕ) : ℝ := E Q K t j / Sm Q K t

/-- The dot product of a row's output gradients with its outputs. -/
def Dl (D O : ℕ → ℕ → ℝ) (t : ℕ) : ℝ := ∑ l ∈ range 128, D t l * O t l

/-- The gradient of a score: the weight times its own gradient less the row's dot product, scaled. -/
def Gs (Q K V D O : ℕ → ℕ → ℝ) (t j : ℕ) : ℝ := Wp Q K t j * (Dt D V t j - Dl D O t) * sc

theorem Wp_later {Q K : ℕ → ℕ → ℝ} {b r j : ℕ} (hr : r < 512) (hj : 512 * (b + 1) ≤ j) : Wp Q K (512 * b + r) j = 0 := by
  rw [Wp, E_later hr hj, zero_div]
theorem Gs_later {Q K V D O : ℕ → ℕ → ℝ} {b r j : ℕ} (hr : r < 512) (hj : 512 * (b + 1) ≤ j) : Gs Q K V D O (512 * b + r) j = 0 := by
  rw [Gs, Wp_later hr hj, zero_mul, zero_mul]

/-- A pair's gradients: of the queries, and what the `b`-th block of queries adds to those of the keys and values. -/
def dqP (Q K V D O : ℕ → ℕ → ℝ) (t c : ℕ) : ℝ :=
  ∑ j ∈ range 4096, Gs (hd (c / 128) Q) (hd (c / 128) K) (hd (c / 128) V) (hd (c / 128) D) (hd (c / 128) O) t j * hd (c / 128) K j (c % 128)
def dkP (Q K V D O : ℕ → ℕ → ℝ) (b j c : ℕ) : ℝ :=
  ∑ k ∈ range 512, Gs (hd (c / 128) Q) (hd (c / 128) K) (hd (c / 128) V) (hd (c / 128) D) (hd (c / 128) O) (512 * b + k) j * hd (c / 128) Q (512 * b + k) (c % 128)
def dvP (Q K D : ℕ → ℕ → ℝ) (b j c : ℕ) : ℝ :=
  ∑ k ∈ range 512, Wp (hd (c / 128) Q) (hd (c / 128) K) (512 * b + k) j * hd (c / 128) D (512 * b + k) (c % 128)

theorem k1_trips : ∀ i : grid1.Coords, (k1_t1_loop i).trips = (i 1).val := by decide +kernel
theorem k1_off1_at : ∀ (i : grid1.Coords) (k : Fin (k1_t1_loop i).trips), k1_off1 i k = ![512 * (k.val + 1), 128 * 0] := by decide +kernel
theorem k1_off2_at : ∀ (i : grid1.Coords) (k : Fin (k1_t1_loop i).trips), k1_off2 i k = ![512 * (k.val + 1), 128 * 1] := by decide +kernel
theorem k1_off3_at : ∀ (i : grid1.Coords) (k : Fin (k1_t1_loop i).trips), k1_off3 i k = ![512 * k.val, 128 * 0] := by decide +kernel
theorem k1_off4_at : ∀ (i : grid1.Coords) (k : Fin (k1_t1_loop i).trips), k1_off4 i k = ![512 * k.val, 128 * 1] := by decide +kernel
theorem k1_off9_at : ∀ i : grid1.Coords, k1_off9 i = ![512 * (i 1).val, 128 * 0] := by decide +kernel
theorem k1_off10_at : ∀ i : grid1.Coords, k1_off10 i = ![512 * (i 1).val, 128 * 1] := by decide +kernel

/-! ### The two whole-sequence blocks -/

theorem re_put {A : FVec Ideal S4096x256 .f32} {x : FVec Ideal S512x128 .f32} {f g : ℕ → ℕ → ℝ} (hA : Re A f) {off : Fin 2 → ℕ} {n a : ℕ}
    (h : off = ![512 * n, 128 * a]) (hx : Re x (fun r c => g (512 * n + r) c)) :
    Re (φ := .f32) (VecWindow.put A off S512x128.size x)
      (fun j c => if (512 * n ≤ j ∧ j < 512 * (n + 1)) ∧ c / 128 = a then g j (c % 128) else f j c) := fun j c => by
  subst h
  by_cases hj : (512 * n ≤ j.val ∧ j.val < 512 * (n + 1)) ∧ c.val / 128 = a
  · dsimp only
    rw [if_pos hj]
    obtain ⟨hj, ha⟩ := hj
    have hall : ∀ b : Fin 2, (![512 * n, 128 * a] : Fin 2 → ℕ) b ≤ ((ix2 j c : S4096x256.Idx) b).val
        ∧ ((ix2 j c : S4096x256.Idx) b).val < (![512 * n, 128 * a] : Fin 2 → ℕ) b + S512x128.size b :=
      Fin.forall_fin_two.mpr ⟨⟨hj.1, by have := hj.2; show j.val < 512 * n + 512; omega⟩,
        ⟨by show 128 * a ≤ c.val; omega, by show c.val < 128 * a + 128; omega⟩⟩
    have hlt : j.val - 512 * n < 512 := by omega
    have hlc : c.val % 128 < 128 := Nat.mod_lt _ (by omega)
    have e : (x (ix2 ⟨j.val - 512 * n, hlt⟩ ⟨c.val % 128, hlc⟩) : EReal) = ((g j (c.val % 128) : ℝ) : EReal) := by
      have e := hx ⟨j.val - 512 * n, hlt⟩ ⟨c.val % 128, hlc⟩
      have e1 : 512 * n + (j.val - 512 * n) = j.val := by omega
      simpa only [e1] using e
    rw [← e]
    refine (dif_pos hall).trans (congrArg x ?_)
    exact funext (Fin.forall_fin_two.mpr ⟨Fin.ext rfl, Fin.ext (show c.val - 128 * a = c.val % 128 by omega)⟩)
  · dsimp only
    rw [if_neg hj, ← hA j c]
    exact dif_neg fun hall => hj (by
      have h0 := hall (0 : Fin 2)
      have h1 : 512 * n ≤ j.val := h0.1
      have h2 : j.val < 512 * n + 512 := h0.2
      have h3 := hall (1 : Fin 2)
      have h4 : 128 * a ≤ c.val := h3.1
      have h5 : c.val < 128 * a + 128 := h3.2
      omega)

theorem re_rows {x : FVec Ideal S4096x256 .f32} {g : ℕ → ℕ → ℝ} (hx : Re x g) {off : Fin 2 → ℕ} {n a : ℕ} (h : off = ![512 * n, 128 * a])
    (inb : ∀ b, off b + S512x128.size b ≤ S4096x256.size b) :
    Re (R := 512) (C := 128) (φ := .f32) (View.ld (Val := Elt Ideal) (e' := .f32) x (rows off inb)) (fun r c => hd a g (512 * n + r) c) :=
  fun r c => by
  subst h
  have hn' : 512 * n + 512 ≤ 4096 := inb 0
  have ha' : 128 * a + 128 ≤ 256 := inb 1
  have := hx ⟨512 * n + r, by omega⟩ ⟨128 * a + c, by omega⟩
  unfold hd
  rw [← this]
  show x _ = x _
  congr 1
  refine (eq_ix2 _).trans ?_
  congr 1
  · exact Fin.ext (by simp)
  · exact Fin.ext (by simp)

theorem re_addBoth {A : FVec Ideal S4096x256 .f32} {x0 x1 : FVec Ideal S512x512 .f32} {y0 y1 : FVec Ideal S512x128 .bf16}
    {f : ℕ → ℕ → ℝ} {X g : ℕ → ℕ → ℕ → ℝ} (hA : Re A f) {off0 off1 : Fin 2 → ℕ} {n : ℕ} (h0 : off0 = ![512 * n, 128 * 0]) (h1 : off1 = ![512 * n, 128 * 1])
    (inb0 : ∀ a, off0 a + S512x128.size a ≤ S4096x256.size a) (inb1 : ∀ a, off1 a + S512x128.size a ≤ S4096x256.size a)
    (hx0 : Re x0 (fun r k => X 0 r (512 * n + k))) (hx1 : Re x1 (fun r k => X 1 r (512 * n + k))) (hy0 : Re y0 (g 0)) (hy1 : Re y1 (g 1)) :
    Re (φ := .f32) (addBoth (F := Ideal) off0 inb0 off1 inb1 A x0 x1 y0 y1)
      (fun j c => if 512 * n ≤ j ∧ j < 512 * (n + 1) then f j c + ∑ k ∈ range 512, X (c / 128) k j * g (c / 128) k (c % 128) else f j c) := by
  have r0 := Re.addTn (re_rows hA h0 inb0) hx0 hy0
  have r1 := Re.addTn (re_rows hA h1 inb1) hx1 hy1
  have p0 := re_put (g := fun j l => hd 0 f j l + ∑ k ∈ range 512, X 0 k j * g 0 k l) hA h0 r0
  have p1 := re_put (g := fun j l => hd 1 f j l + ∑ k ∈ range 512, X 1 k j * g 1 k l) p0 h1 r1
  refine Re.congr p1 fun j _ c hc => ?_
  by_cases hj : 512 * n ≤ j ∧ j < 512 * (n + 1)
  · rw [if_pos hj]
    by_cases h : c / 128 = 1
    · rw [if_pos ⟨hj, h⟩, h]
      unfold hd
      rw [show 128 * 1 + c % 128 = c by omega]
    · have h' : c / 128 = 0 := by omega
      rw [if_neg fun hh => h hh.2, if_pos ⟨hj, h'⟩, h']
      unfold hd
      rw [show 128 * 0 + c % 128 = c by omega]
  · rw [if_neg hj, if_neg fun hh => hj hh.1, if_neg fun hh => hj hh.1]

/-! ### One grid point -/

variable {i : grid1.Coords} {x0 : FVec Ideal S512x256 .bf16} {x1 x2 : FVec Ideal S4096x256 .bf16} {x3 x4 : FVec Ideal S512x256 .f32}
  {x5 : FVec Ideal S1x512x128 .f32} {A : FVec Ideal S4096x256 .f32} {Q K V D O f : ℕ → ℕ → ℝ}

theorem re_headD0 {x : FVec Ideal S512x256 .f32} {f : ℕ → ℕ → ℝ} (hx : Re x f) : Re (headD0 x) (fun r l => hd 0 f r l) := fun r c => by
  have h := Re.half0 (Re.cast256 hx) r c
  refine Eq.trans h ?_
  show ((f r c : ℝ) : EReal) = ((f r (128 * 0 + c) : ℝ) : EReal)
  rw [Nat.mul_zero, Nat.zero_add]
theorem re_headD1 {x : FVec Ideal S512x256 .f32} {f : ℕ → ℕ → ℝ} (hx : Re x f) : Re (headD1 x) (fun r l => hd 1 f r l) := fun r c => by
  have h := Re.half1 (Re.cast256 hx) r c
  unfold hd
  rw [Nat.mul_one]
  exact h

/-- What a grid point of the backward kernel finds: the block's queries, the keys, the values, the block's outputs, output gradients and row
    logarithms. -/
structure Finds (i : grid1.Coords) (x0 : FVec Ideal S512x256 .bf16) (x1 x2 : FVec Ideal S4096x256 .bf16) (x3 x4 : FVec Ideal S512x256 .f32)
    (x5 : FVec Ideal S1x512x128 .f32) (Q K V D O : ℕ → ℕ → ℝ) : Prop where
  q : Re x0 (fun r l => Q (512 * (i 1).val + r) l)
  k : Re x1 K
  v : Re x2 V
  o : Re x3 (fun r l => O (512 * (i 1).val + r) l)
  d : Re x4 (fun r l => D (512 * (i 1).val + r) l)
  t : ∀ (r : Fin 512) (l : Fin 128), (x5 (ix3 0 r l) : EReal) = ((lseP Q K (512 * (i 1).val + r) l : ℝ) : EReal)

theorem Finds.dl0 (h : Finds i x0 x1 x2 x3 x4 x5 Q K V D O) : Re (rowSum (half0 (prodDO x3 x4))) (fun r _ => Dl (hd 0 D) (hd 0 O) (512 * (i 1).val + r)) :=
  Re.congr (Re.rowSum (Re.half0 (Re.mulf (Re.cast256 h.d) (Re.cast256 h.o)))) fun r _ c _ => by
    unfold Dl hd
    simp only [Nat.mul_zero, Nat.zero_add]

theorem Finds.dl1 (h : Finds i x0 x1 x2 x3 x4 x5 Q K V D O) : Re (rowSum (half1 (prodDO x3 x4))) (fun r _ => Dl (hd 1 D) (hd 1 O) (512 * (i 1).val + r)) :=
  Re.congr (Re.rowSum (Re.half1 (Re.mulf (Re.cast256 h.d) (Re.cast256 h.o)))) fun r _ c _ => by
    unfold Dl hd
    simp only [Nat.mul_one]

theorem Finds.lse0 (h : Finds i x0 x1 x2 x3 x4 x5 Q K V D O) : Re (lse0 x5) (fun r _ => Real.log (Sm (hd 0 Q) (hd 0 K) (512 * (i 1).val + r))) := fun r c => by
  have e : c = 0 := Subsingleton.elim _ _
  subst e
  pointwise [Lat.lse0]
  exact h.t r 0

theorem Finds.lse1 (h : Finds i x0 x1 x2 x3 x4 x5 Q K V D O) : Re (lse1 x5) (fun r _ => Real.log (Sm (hd 1 Q) (hd 1 K) (512 * (i 1).val + r))) := fun r c => by
  have e : c = 0 := Subsingleton.elim _ _
  subst e
  pointwise [Lat.lse1]
  exact h.t r 64

/-- What one head carries before block `n`. -/
structure BwdInv (b n : ℕ) (Q K V D O : ℕ → ℕ → ℝ) (s dp : FVec Ideal S512x512 .f32) (dq : FVec Ideal S512x128 .f32) : Prop where
  hs : Re s (fun r k => Dt Q K (512 * b + r) (512 * n + k))
  hp : Re dp (fun r k => Dt D V (512 * b + r) (512 * n + k))
  hdq : Re dq (fun r l => ∑ m ∈ range (512 * n), Gs Q K V D O (512 * b + r) m * K m l)

section Head

variable {M : FVec Ideal S512x512 .f32 → FVec Ideal S512x512 .f32} {b n : ℕ} {s dp : FVec Ideal S512x512 .f32} {ls dl : FVec Ideal S512x1 .f32}
  {dq : FVec Ideal S512x128 .f32} {k : FVec Ideal S512x128 .bf16}

/-- `M` leaves the exponentials of block `n` as they should be. -/
def Masks (M : FVec Ideal S512x512 .f32 → FVec Ideal S512x512 .f32) (b n : ℕ) : Prop :=
  ∀ {Q K : ℕ → ℕ → ℝ} {s : FVec Ideal S512x512 .f32}, Re s (fun r k => Dt Q K (512 * b + r) (512 * n + k)) →
    Wt (M (scl s)) (fun r k => E Q K (512 * b + r) (512 * n + k))

theorem masks_id (h : n < b) : Masks id b n := fun hs => (wt_before h hs).1
theorem masks_own (h : b < 8) : Masks (masked (visAt (diagOf (BitVec.ofNat 32 b)))) b b := fun hs => (wt_own h hs).1

theorem BwdInv.w (h : BwdInv b n Q K V D O s dp dq) (hM : Masks M b n) (hl : Re ls (fun r _ => Real.log (Sm Q K (512 * b + r)))) :
    Re (expOf (M (scl s)) ls) (fun r k => Wp Q K (512 * b + r) (512 * n + k)) :=
  Re.congr (re_expOf (hM h.hs) hl) fun r _ c _ => by
    rw [Real.exp_neg, Real.exp_log (Sm_pos _ _ _), Wp, div_eq_inv_mul]

theorem BwdInv.ds (h : BwdInv b n Q K V D O s dp dq) (hM : Masks M b n) (hl : Re ls (fun r _ => Real.log (Sm Q K (512 * b + r))))
    (hd : Re dl (fun r _ => Dl D O (512 * b + r))) :
    Re (dScore (expOf (M (scl s)) ls) dp dl) (fun r k => Gs Q K V D O (512 * b + r) (512 * n + k)) :=
  Re.dScore (h.w hM hl) h.hp hd

theorem BwdInv.dqNext (h : BwdInv b n Q K V D O s dp dq) (hM : Masks M b n) (hl : Re ls (fun r _ => Real.log (Sm Q K (512 * b + r))))
    (hd : Re dl (fun r _ => Dl D O (512 * b + r))) (hk : Re k (fun k l => K (512 * n + k) l)) :
    Re (addNn dq (dScore (expOf (M (scl s)) ls) dp dl) k) (fun r l => ∑ m ∈ range (512 * (n + 1)), Gs Q K V D O (512 * b + r) m * K m l) :=
  Re.congr (Re.addNn h.hdq (h.ds hM hl hd) hk) fun r _ l _ => sum_next (fun m => Gs Q K V D O (512 * b + r) m * K m l) n

theorem BwdInv.step (h : BwdInv b n Q K V D O s dp dq) (hn : n < b) (hl : Re ls (fun r _ => Real.log (Sm Q K (512 * b + r))))
    (hd : Re dl (fun r _ => Dl D O (512 * b + r))) (hk : Re k (fun k l => K (512 * n + k) l)) {s' dp' : FVec Ideal S512x512 .f32}
    (hs' : Re s' (fun r k => Dt Q K (512 * b + r) (512 * (n + 1) + k))) (hp' : Re dp' (fun r k => Dt D V (512 * b + r) (512 * (n + 1) + k))) :
    BwdInv b (n + 1) Q K V D O s' dp' (addNn dq (dScore (expOf (scl s) ls) dp dl) k) :=
  ⟨hs', hp', h.dqNext (M := id) (masks_id hn) hl hd hk⟩

end Head

theorem bwd_inv (h : Finds i x0 x1 x2 x3 x4 x5 Q K V D O) : ∀ n, n ≤ (i 1).val →
    BwdInv (i 1).val n (hd 0 Q) (hd 0 K) (hd 0 V) (hd 0 D) (hd 0 O) (bwdAfter i x0 x1 x2 x3 x4 x5 n).1 (bwdAfter i x0 x1 x2 x3 x4 x5 n).2.1
      (bwdAfter i x0 x1 x2 x3 x4 x5 n).2.2.2.2.1
    ∧ BwdInv (i 1).val n (hd 1 Q) (hd 1 K) (hd 1 V) (hd 1 D) (hd 1 O) (bwdAfter i x0 x1 x2 x3 x4 x5 n).2.2.1 (bwdAfter i x0 x1 x2 x3 x4 x5 n).2.2.2.1
      (bwdAfter i x0 x1 x2 x3 x4 x5 n).2.2.2.2.2 := by
  have s0 : ∀ {k : FVec Ideal S512x128 .bf16} {c : ℕ}, Re k (fun k l => hd 0 K (512 * c + k) l) →
      Re (scores (headQ0 x0) k) (fun r k => Dt (hd 0 Q) (hd 0 K) (512 * (i 1).val + r) (512 * c + k)) := fun hk => Re.scores (re_headQ0 h.q) hk
  have s1 : ∀ {k : FVec Ideal S512x128 .bf16} {c : ℕ}, Re k (fun k l => hd 1 K (512 * c + k) l) →
      Re (scores (headQ1 x0) k) (fun r k => Dt (hd 1 Q) (hd 1 K) (512 * (i 1).val + r) (512 * c + k)) := fun hk => Re.scores (re_headQ1 h.q) hk
  have p0 : ∀ {k : FVec Ideal S512x128 .bf16} {c : ℕ}, Re k (fun k l => hd 0 V (512 * c + k) l) →
      Re (scores (headD0 x4) k) (fun r k => Dt (hd 0 D) (hd 0 V) (512 * (i 1).val + r) (512 * c + k)) := fun hk => Re.scores (re_headD0 h.d) hk
  have p1 : ∀ {k : FVec Ideal S512x128 .bf16} {c : ℕ}, Re k (fun k l => hd 1 V (512 * c + k) l) →
      Re (scores (headD1 x4) k) (fun r k => Dt (hd 1 D) (hd 1 V) (512 * (i 1).val + r) (512 * c + k)) := fun hk => Re.scores (re_headD1 h.d) hk
  intro n
  induction n with
  | zero =>
    intro _
    have k0 := re_chunk (n := 0) (a := 0) h.k rfl inb_S4096x256_S512x128_0_0
    have k1 := re_chunk (n := 0) (a := 1) h.k rfl inb_S4096x256_S512x128_0_128
    have v0 := re_chunk (n := 0) (a := 0) h.v rfl inb_S4096x256_S512x128_0_0
    have v1 := re_chunk (n := 0) (a := 1) h.v rfl inb_S4096x256_S512x128_0_128
    have z : Re zeroOut (fun r l => ∑ m ∈ range (512 * 0), (0 : ℝ)) := fun r c => by pointwise [Lat.zeroOut]; rfl
    rw [bwdAfter]
    exact ⟨⟨s0 k0, p0 v0, z⟩, ⟨s1 k1, p1 v1, z⟩⟩
  | succ n ih =>
    intro hn
    obtain ⟨h0, h1⟩ := ih (by omega)
    have ht : n < (k1_t1_loop i).trips := by rw [k1_trips i]; omega
    have k0 := re_chunk (n := n + 1) h.k (k1_off1_at i ⟨n, ht⟩) (k1_off1_inb i ⟨n, ht⟩)
    have k1 := re_chunk (n := n + 1) h.k (k1_off2_at i ⟨n, ht⟩) (k1_off2_inb i ⟨n, ht⟩)
    have v0 := re_chunk (n := n + 1) h.v (k1_off1_at i ⟨n, ht⟩) (k1_off1_inb i ⟨n, ht⟩)
    have v1 := re_chunk (n := n + 1) h.v (k1_off2_at i ⟨n, ht⟩) (k1_off2_inb i ⟨n, ht⟩)
    have c0 := re_chunk h.k (k1_off3_at i ⟨n, ht⟩) (k1_off3_inb i ⟨n, ht⟩)
    have c1 := re_chunk h.k (k1_off4_at i ⟨n, ht⟩) (k1_off4_inb i ⟨n, ht⟩)
    rw [bwdAfter, dif_pos ht]
    exact ⟨h0.step (by omega) h.lse0 h.dl0 c0 (s0 k0) (p0 v0), h1.step (by omega) h.lse1 h.dl1 c1 (s1 k1) (p1 v1)⟩

section Tiles

variable {M : FVec Ideal S512x512 .f32 → FVec Ideal S512x512 .f32} {n : ℕ}

/-- What one block of keys, and of values, receives. -/
theorem re_dkStep (h : Finds i x0 x1 x2 x3 x4 x5 Q K V D O) (hn : n ≤ (i 1).val) (hM : Masks M (i 1).val n)
    (hA : Re A f) {off0 off1 : Fin 2 → ℕ} (h0 : off0 = ![512 * n, 128 * 0]) (h1 : off1 = ![512 * n, 128 * 1])
    (inb0 : ∀ a, off0 a + S512x128.size a ≤ S4096x256.size a) (inb1 : ∀ a, off1 a + S512x128.size a ≤ S4096x256.size a) :
    Re (φ := .f32) (addBoth (F := Ideal) off0 inb0 off1 inb1 A (ds0Of M x3 x4 x5 (bwdAfter i x0 x1 x2 x3 x4 x5 n)) (ds1Of M x3 x4 x5 (bwdAfter i x0 x1 x2 x3 x4 x5 n))
        (headQ0 x0) (headQ1 x0))
      (fun j c => if 512 * n ≤ j ∧ j < 512 * (n + 1) then f j c + dkP Q K V D O (i 1).val j c else f j c) :=
  re_addBoth (X := fun a r j => Gs (hd a Q) (hd a K) (hd a V) (hd a D) (hd a O) (512 * (i 1).val + r) j) (g := fun a r l => hd a Q (512 * (i 1).val + r) l)
    hA h0 h1 inb0 inb1 ((bwd_inv h n hn).1.ds hM h.lse0 h.dl0) ((bwd_inv h n hn).2.ds hM h.lse1 h.dl1) (re_headQ0 h.q) (re_headQ1 h.q)

theorem re_dvStep (h : Finds i x0 x1 x2 x3 x4 x5 Q K V D O) (hn : n ≤ (i 1).val) (hM : Masks M (i 1).val n)
    (hA : Re A f) {off0 off1 : Fin 2 → ℕ} (h0 : off0 = ![512 * n, 128 * 0]) (h1 : off1 = ![512 * n, 128 * 1])
    (inb0 : ∀ a, off0 a + S512x128.size a ≤ S4096x256.size a) (inb1 : ∀ a, off1 a + S512x128.size a ≤ S4096x256.size a) :
    Re (φ := .f32) (addBoth (F := Ideal) off0 inb0 off1 inb1 A (w0Of M x5 (bwdAfter i x0 x1 x2 x3 x4 x5 n)) (w1Of M x5 (bwdAfter i x0 x1 x2 x3 x4 x5 n))
        (headD0 x4) (headD1 x4))
      (fun j c => if 512 * n ≤ j ∧ j < 512 * (n + 1) then f j c + dvP Q K D (i 1).val j c else f j c) :=
  re_addBoth (X := fun a r j => Wp (hd a Q) (hd a K) (512 * (i 1).val + r) j) (g := fun a r l => hd a D (512 * (i 1).val + r) l)
    hA h0 h1 inb0 inb1 ((bwd_inv h n hn).1.w hM h.lse0) ((bwd_inv h n hn).2.w hM h.lse1) (re_headD0 h.d) (re_headD1 h.d)

end Tiles

/-- `f` plus `p` on the rows before `m`, then on the block of rows at `m`: plus `p` on the rows before the block's end. -/
theorem rows_upto (f p : ℕ → ℕ → ℝ) (n j l : ℕ) :
    (if 512 * n ≤ j ∧ j < 512 * (n + 1) then (f j l + if j < 512 * n then p j l else 0) + p j l else f j l + if j < 512 * n then p j l else 0)
      = f j l + if j < 512 * (n + 1) then p j l else 0 := by
  by_cases h1 : j < 512 * n
  · rw [if_neg (by omega), if_pos h1, if_pos (by omega)]
  · by_cases h2 : j < 512 * (n + 1)
    · rw [if_pos (by omega), if_neg h1, if_pos h2, add_zero]
    · rw [if_neg (by omega), if_neg h1, if_neg h2]

theorem re_dkAfter (h : Finds i x0 x1 x2 x3 x4 x5 Q K V D O) (hA : Re A f) : ∀ n, n ≤ (i 1).val →
    Re (φ := .f32) (dkAfter (F := Ideal) i x0 x1 x2 x3 x4 x5 A n) (fun j c => f j c + if j < 512 * n then dkP Q K V D O (i 1).val j c else 0)
  | 0, _ => Re.congr hA fun j _ l _ => by rw [if_neg (by omega), add_zero]
  | n + 1, hn => by
    have ht : n < (k1_t1_loop i).trips := by rw [k1_trips i]; omega
    rw [dkAfter, dif_pos ht]
    refine Re.congr (re_dkStep h (Nat.le_of_succ_le hn) (masks_id (Nat.lt_of_succ_le hn)) (re_dkAfter h hA n (by omega))
      (k1_off3_at i ⟨n, ht⟩) (k1_off4_at i ⟨n, ht⟩) _ _) fun j _ l _ => rows_upto f (dkP Q K V D O (i 1).val) n j l

theorem re_dvAfter (h : Finds i x0 x1 x2 x3 x4 x5 Q K V D O) (hA : Re A f) : ∀ n, n ≤ (i 1).val →
    Re (φ := .f32) (dvAfter (F := Ideal) i x0 x1 x2 x3 x4 x5 A n) (fun j c => f j c + if j < 512 * n then dvP Q K D (i 1).val j c else 0)
  | 0, _ => Re.congr hA fun j _ l _ => by rw [if_neg (by omega), add_zero]
  | n + 1, hn => by
    have ht : n < (k1_t1_loop i).trips := by rw [k1_trips i]; omega
    rw [dvAfter, dif_pos ht]
    refine Re.congr (re_dvStep h (Nat.le_of_succ_le hn) (masks_id (Nat.lt_of_succ_le hn)) (re_dvAfter h hA n (by omega))
      (k1_off3_at i ⟨n, ht⟩) (k1_off4_at i ⟨n, ht⟩) _ _) fun j _ l _ => rows_upto f (dvP Q K D (i 1).val) n j l

theorem dkP_later {b j c : ℕ} (h : ¬ j < 512 * (b + 1)) : dkP Q K V D O b j c = 0 :=
  Finset.sum_eq_zero fun k hk => by rw [Gs_later (Finset.mem_range.mp hk) (by omega), zero_mul]

theorem dvP_later {b j c : ℕ} (h : ¬ j < 512 * (b + 1)) : dvP Q K D b j c = 0 :=
  Finset.sum_eq_zero fun k hk => by rw [Wp_later (Finset.mem_range.mp hk) (by omega), zero_mul]

/-- The gradients of the keys after a point: what stood there plus what the point's block of queries adds. -/
theorem re_bwdDk (h : Finds i x0 x1 x2 x3 x4 x5 Q K V D O) (hA : Re A f) :
    Re (φ := .f32) (bwdDk (F := Ideal) i x0 x1 x2 x3 x4 x5 A) (fun j c => f j c + dkP Q K V D O (i 1).val j c) := by
  unfold bwdDk
  rw [k1_trips i]
  refine Re.congr (re_dkStep h le_rfl (masks_own (i 1).isLt) (re_dkAfter h hA _ le_rfl) (k1_off9_at i) (k1_off10_at i) _ _) fun j _ l _ => ?_
  rw [rows_upto f (dkP Q K V D O (i 1).val) (i 1).val j l]
  by_cases hj : j < 512 * ((i 1).val + 1)
  · rw [if_pos hj]
  · rw [if_neg hj, dkP_later hj]

theorem re_bwdDv (h : Finds i x0 x1 x2 x3 x4 x5 Q K V D O) (hA : Re A f) :
    Re (φ := .f32) (bwdDv (F := Ideal) i x0 x1 x2 x3 x4 x5 A) (fun j c => f j c + dvP Q K D (i 1).val j c) := by
  unfold bwdDv
  rw [k1_trips i]
  refine Re.congr (re_dvStep h le_rfl (masks_own (i 1).isLt) (re_dvAfter h hA _ le_rfl) (k1_off9_at i) (k1_off10_at i) _ _) fun j _ l _ => ?_
  rw [rows_upto f (dvP Q K D (i 1).val) (i 1).val j l]
  by_cases hj : j < 512 * ((i 1).val + 1)
  · rw [if_pos hj]
  · rw [if_neg hj, dvP_later hj]

theorem re_bwdDq (h : Finds i x0 x1 x2 x3 x4 x5 Q K V D O) :
    Re (R := 512) (C := 256) (φ := .f32) (bwdDq (F := Ideal) i x0 x1 x2 x3 x4 x5) (fun r c => dqP Q K V D O (512 * (i 1).val + r) c) := by
  have hb : (i 1).val < 8 := (i 1).isLt
  unfold bwdDq
  rw [k1_trips i]
  have c0 := re_chunk h.k (k1_off9_at i) (k1_off9_inb i)
  have c1 := re_chunk h.k (k1_off10_at i) (k1_off10_inb i)
  have d0 := (bwd_inv h (i 1).val le_rfl).1.dqNext (masks_own hb) h.lse0 h.dl0 c0
  have d1 := (bwd_inv h (i 1).val le_rfl).2.dqNext (masks_own hb) h.lse1 h.dl1 c1
  refine Re.congr (re_side (f := fun a r l => ∑ m ∈ range (512 * ((i 1).val + 1)),
    Gs (hd a Q) (hd a K) (hd a V) (hd a D) (hd a O) (512 * (i 1).val + r) m * hd a K m l) d0 d1) fun r hr c _ => ?_
  exact sum_seen (by omega) fun m hm => by rw [Gs_later hr hm, zero_mul]

end Cert.MlaIdeal.Lat

end
-- ==== Proof.MlaArraysFwd.lean ====
/- What the forward call leaves in its two arrays, from the blocks of MlaForwardReal.lean. -/
module

public import proofs.«01_k».proof.Proof.MlaForwardReal
public import Idealize.ShloMosaic.Lib.Pipeline.Value

@[expose] public section

set_option maxRecDepth 16384

noncomputable section

namespace Cert.MlaIdeal.Lat

open Idealize.ShloMosaic Idealize.ShloMosaic.TcCoe Idealize.ShloMosaic.Tactic
open Cert.MlaIdeal Cert.MlaIdeal.Gen
open Cert.KernelIdeal.Sb (Re Re.congr Re.addf Re.subf Re.mulf Re.exp coe_sum coe_dot coe_max log_coe_pos Vis Sel toInt_small ofBool_decide)
open Finset (range)
open Idealize.ShloMosaic.Pipeline (Dat)

/-- The 256 columns of `X` of pair `p`. -/
def pr (X : ℕ → ℕ → ℝ) (p t c : ℕ) : ℝ := X t (256 * p + c)

/-- The attention's output at column `c` of all the heads' columns, and a row's logarithm. -/
def outAll (Q K V : ℕ → ℕ → ℝ) (t c : ℕ) : ℝ := outP (pr Q (c / 256)) (pr K (c / 256)) (pr V (c / 256)) t (c % 256)

/-! ### Where the windows look -/

theorem coords0 : ∀ t : Fin grid0.N, ((grid0.coords t 0).val = t.val / 8) ∧ ((grid0.coords t 1).val = t.val % 8) := by decide +kernel

theorem index0_0 : ∀ i : grid0.Coords, cc0_transform_0 i 0 = (i 1).val ∧ cc0_transform_0 i 1 = (i 0).val := by decide +kernel
theorem index0_1 : ∀ i : grid0.Coords, cc0_transform_1 i 0 = 0 ∧ cc0_transform_1 i 1 = (i 0).val := by decide +kernel
theorem index0_2 : ∀ i : grid0.Coords, cc0_transform_2 i 0 = 0 ∧ cc0_transform_2 i 1 = (i 0).val := by decide +kernel
theorem index0_3 : ∀ i : grid0.Coords, cc0_transform_3 i 0 = (i 1).val ∧ cc0_transform_3 i 1 = (i 0).val := by decide +kernel
theorem index0_4 : ∀ i : grid0.Coords, cc0_transform_4 i 0 = (i 0).val ∧ cc0_transform_4 i 1 = (i 1).val ∧ cc0_transform_4 i 2 = 0 := by decide +kernel

variable (V : (c : Dev nD) → (b : Ref sig .tc) → Buf (Elt Ideal) ((c : Thread nD τ).loc b)) (c : Dev nD)

/-- An index of a matrix from its two numbers. -/
theorem idx2_eq {R C : ℕ} (j : (⟨2, ![R, C]⟩ : Shape).Idx) {a : Fin R} {b : Fin C} (h0 : (j 0).val = a.val) (h1 : (j 1).val = b.val) :
    j = ix2 a b := by
  rw [eq_ix2 j]
  congr 1
  · exact Fin.ext h0
  · exact Fin.ext h1

variable {Q K U : ℕ → ℕ → ℝ}

theorem re_win0_0 (hX : Re (R := 4096) (C := 512) (φ := .bf16) (V c main_v1) Q) (t : Fin cfg0.N) :
    Re (R := 512) (C := 256) (φ := .bf16) (iblk0 V c 0 t) (fun r l => pr Q (grid0.coords t 0).val (512 * (grid0.coords t 1).val + r) l) := fun r l => by
  have h0 : (grid0.coords t 0).val < 2 := (grid0.coords t 0).isLt
  have h1 : (grid0.coords t 1).val < 8 := (grid0.coords t 1).isLt
  obtain ⟨e0, e1⟩ := index0_0 (grid0.coords t)
  unfold iblk0 pr
  rw [View.read_apply]
  refine Eq.trans ?_ (hX ⟨512 * (grid0.coords t 1).val + r, by omega⟩ ⟨256 * (grid0.coords t 0).val + l, by omega⟩)
  refine congrArg (V c main_v1) (idx2_eq _ ?_ ?_)
  · show cc0_transform_0 (grid0.coords t) 0 * 512 + 1 * r.val = 512 * (grid0.coords t 1).val + r.val
    rw [e0]; omega
  · show cc0_transform_0 (grid0.coords t) 1 * 256 + 1 * l.val = 256 * (grid0.coords t 0).val + l.val
    rw [e1]; omega

theorem re_win0_1 (hX : Re (R := 4096) (C := 512) (φ := .bf16) (V c main_v3) K) (t : Fin cfg0.N) :
    Re (R := 4096) (C := 256) (φ := .bf16) (iblk0 V c 1 t) (pr K (grid0.coords t 0).val) := fun r l => by
  have h0 : (grid0.coords t 0).val < 2 := (grid0.coords t 0).isLt
  have h1 : (grid0.coords t 1).val < 8 := (grid0.coords t 1).isLt
  obtain ⟨e0, e1⟩ := index0_1 (grid0.coords t)
  unfold iblk0 pr
  rw [View.read_apply]
  refine Eq.trans ?_ (hX r ⟨256 * (grid0.coords t 0).val + l, by omega⟩)
  refine congrArg (V c main_v3) (idx2_eq _ ?_ ?_)
  · show cc0_transform_1 (grid0.coords t) 0 * 4096 + 1 * r.val = r.val
    rw [e0]; omega
  · show cc0_transform_1 (grid0.coords t) 1 * 256 + 1 * l.val = 256 * (grid0.coords t 0).val + l.val
    rw [e1]; omega

theorem re_win0_2 (hX : Re (R := 4096) (C := 512) (φ := .bf16) (V c main_v6) U) (t : Fin cfg0.N) :
    Re (R := 4096) (C := 256) (φ := .bf16) (iblk0 V c 2 t) (pr U (grid0.coords t 0).val) := fun r l => by
  have h0 : (grid0.coords t 0).val < 2 := (grid0.coords t 0).isLt
  have h1 : (grid0.coords t 1).val < 8 := (grid0.coords t 1).isLt
  obtain ⟨e0, e1⟩ := index0_2 (grid0.coords t)
  unfold iblk0 pr
  rw [View.read_apply]
  refine Eq.trans ?_ (hX r ⟨256 * (grid0.coords t 0).val + l, by omega⟩)
  refine congrArg (V c main_v6) (idx2_eq _ ?_ ?_)
  · show cc0_transform_2 (grid0.coords t) 0 * 4096 + 1 * r.val = r.val
    rw [e0]; omega
  · show cc0_transform_2 (grid0.coords t) 1 * 256 + 1 * l.val = 256 * (grid0.coords t 0).val + l.val
    rw [e1]; omega

/-! ### The blocks, and the arrays -/

/-- A real matrix as an array of the machine. -/
def oArr (f : ℕ → ℕ → ℝ) : Vec Ideal S4096x512 .f32 := fun j => ((f (j 0).val (j 1).val : ℝ) : EReal)

/-- The rows' logarithms, as the machine's array: a pair of heads, a row, a lane. -/
def statArr (Q K : ℕ → ℕ → ℝ) : Vec Ideal S2x4096x128 .f32 := fun j =>
  ((lseP (pr Q (j 0).val) (pr K (j 0).val) (j 1).val (j 2).val : ℝ) : EReal)

section Blocks

variable (hQ : Re (R := 4096) (C := 512) (φ := .bf16) (V c main_v1) Q) (hK : Re (R := 4096) (C := 512) (φ := .bf16) (V c main_v3) K)
    (hU : Re (R := 4096) (C := 512) (φ := .bf16) (V c main_v6) U)
include hQ hK hU

theorem re_o (t : Fin cfg0.N) :
    Re (R := 512) (C := 256) (φ := .f32) (outsAt0 V c t).1
      (fun r l => outP (pr Q (grid0.coords t 0).val) (pr K (grid0.coords t 0).val) (pr U (grid0.coords t 0).val) (512 * (grid0.coords t 1).val + r) l) := by
  unfold outsAt0
  dsimp only
  rw [out0_A_3_eq]
  exact re_fwdOut (re_win0_0 V c hQ t) (re_win0_1 V c hK t) (re_win0_2 V c hU t)

theorem re_stat (t : Fin cfg0.N) (r : Fin 512) (l : Fin 128) :
    ((outsAt0 V c t).2 (ix3 0 r l) : EReal)
      = ((lseP (pr Q (grid0.coords t 0).val) (pr K (grid0.coords t 0).val) (512 * (grid0.coords t 1).val + r) l : ℝ) : EReal) := by
  unfold outsAt0
  dsimp only
  rw [out0_A_4_eq]
  exact re_fwdLse (re_win0_0 V c hQ t) (re_win0_1 V c hK t) (re_win0_2 V c hU t) r l

theorem flushed0_3 (t : Fin cfg0.N) (hf : (cfg0.win 3).flush t = true) :
    (dat0 V c).flushed 3 t = ((cfg0.win 3).blk t).view.read (Elt Ideal) (oArr (outAll Q K U)) := by
  have h0 : (grid0.coords t 0).val < 2 := (grid0.coords t 0).isLt
  obtain ⟨c0, c1⟩ := coords0 t
  obtain ⟨e0, e1⟩ := index0_3 (grid0.coords t)
  show (cfg0.win 3).cut (grid0.coords t) ((dat0 V c).after 3 t) = _
  rw [after0_3]
  funext j
  obtain ⟨r, l, rfl⟩ : ∃ (r : Fin 512) (l : Fin 256), j = ix2 r l := ⟨j 0, j 1, eq_ix2 j⟩
  refine (re_o V c hQ hK hU t r l).trans ?_
  rw [View.read_apply]
  have i0 : ((((cfg0.win 3).blk t).view.emb (ix2 r l)) 0).val = 512 * (grid0.coords t 1).val + r.val := by
    show cc0_transform_3 (grid0.coords t) 0 * 512 + 1 * r.val = _
    rw [e0]; omega
  have i1 : ((((cfg0.win 3).blk t).view.emb (ix2 r l)) 1).val = 256 * (grid0.coords t 0).val + l.val := by
    show cc0_transform_3 (grid0.coords t) 1 * 256 + 1 * l.val = _
    rw [e1]; omega
  show _ = ((outAll Q K U ((((cfg0.win 3).blk t).view.emb (ix2 r l)) 0).val ((((cfg0.win 3).blk t).view.emb (ix2 r l)) 1).val : ℝ) : EReal)
  rw [i0, i1, outAll, show (256 * (grid0.coords t 0).val + l.val) / 256 = (grid0.coords t 0).val by omega,
    show (256 * (grid0.coords t 0).val + l.val) % 256 = l.val by omega]

theorem final0_3 : (dat0 V c).arrAt 3 cfg0.N = oArr (outAll Q K U) :=
  (dat0 V c).arrAt_eq_of_cover 3 (oArr (outAll Q K U)) (flushed0_3 V c hQ hK hU) fun i => by
    have h0 : (i 0 : Nat) < 4096 := (i 0).isLt
    have h1 : (i 1 : Nat) < 512 := (i 1).isLt
    have hN : cfg0.N = 16 := N_0
    let t : Fin cfg0.N := ⟨8 * ((i 1 : Nat) / 256) + (i 0 : Nat) / 512, by omega⟩
    have ht : t.val = 8 * ((i 1 : Nat) / 256) + (i 0 : Nat) / 512 := rfl
    refine ⟨t, flush0_3 t, ?_⟩
    obtain ⟨c0, c1⟩ := coords0 t
    obtain ⟨e0, e1⟩ := index0_3 (grid0.coords t)
    show i ∈ ((View.whole main_v7_0).slice (win0_3.rect t)).set
    rw [View.set_slice_whole, Rect.mem_set_unit]
    intro a
    match a with
    | ⟨0, _⟩ => show cc0_transform_3 (grid0.coords t) 0 * 512 ≤ (i 0 : Nat) ∧ (i 0 : Nat) < cc0_transform_3 (grid0.coords t) 0 * 512 + 512
                rw [e0, c1]; omega
    | ⟨1, _⟩ => show cc0_transform_3 (grid0.coords t) 1 * 256 ≤ (i 1 : Nat) ∧ (i 1 : Nat) < cc0_transform_3 (grid0.coords t) 1 * 256 + 256
                rw [e1, c0]; omega

theorem flushed0_4 (t : Fin cfg0.N) (hf : (cfg0.win 4).flush t = true) :
    (dat0 V c).flushed 4 t = ((cfg0.win 4).blk t).view.read (Elt Ideal) (statArr Q K) := by
  obtain ⟨e0, e1, e2⟩ := index0_4 (grid0.coords t)
  show (cfg0.win 4).cut (grid0.coords t) ((dat0 V c).after 4 t) = _
  rw [after0_4]
  funext j
  obtain ⟨z, r, l, rfl⟩ : ∃ (z : Fin 1) (r : Fin 512) (l : Fin 128), j = ix3 z r l := ⟨j 0, j 1, j 2, eq_ix3 j⟩
  have ez : z = 0 := Subsingleton.elim _ _
  subst ez
  refine (re_stat V c hQ hK hU t r l).trans ?_
  rw [View.read_apply]
  have i0 : ((((cfg0.win 4).blk t).view.emb (ix3 0 r l)) 0).val = (grid0.coords t 0).val := by
    show cc0_transform_4 (grid0.coords t) 0 * 1 + 1 * 0 = _
    rw [e0]; omega
  have i1 : ((((cfg0.win 4).blk t).view.emb (ix3 0 r l)) 1).val = 512 * (grid0.coords t 1).val + r.val := by
    show cc0_transform_4 (grid0.coords t) 1 * 512 + 1 * r.val = _
    rw [e1]; omega
  have i2 : ((((cfg0.win 4).blk t).view.emb (ix3 0 r l)) 2).val = l.val := by
    show cc0_transform_4 (grid0.coords t) 2 * 128 + 1 * l.val = _
    rw [e2]; omega
  show _ = ((lseP (pr Q ((((cfg0.win 4).blk t).view.emb (ix3 0 r l)) 0).val) (pr K ((((cfg0.win 4).blk t).view.emb (ix3 0 r l)) 0).val)
    ((((cfg0.win 4).blk t).view.emb (ix3 0 r l)) 1).val ((((cfg0.win 4).blk t).view.emb (ix3 0 r l)) 2).val : ℝ) : EReal)
  rw [i0, i1, i2]

theorem final0_4 : (dat0 V c).arrAt 4 cfg0.N = statArr Q K :=
  (dat0 V c).arrAt_eq_of_cover 4 (statArr Q K) (flushed0_4 V c hQ hK hU) fun i => by
    have h0 : (i 0 : Nat) < 2 := (i 0).isLt
    have h1 : (i 1 : Nat) < 4096 := (i 1).isLt
    have h2 : (i 2 : Nat) < 128 := (i 2).isLt
    have hN : cfg0.N = 16 := N_0
    let t : Fin cfg0.N := ⟨8 * (i 0 : Nat) + (i 1 : Nat) / 512, by omega⟩
    have ht : t.val = 8 * (i 0 : Nat) + (i 1 : Nat) / 512 := rfl
    refine ⟨t, flush0_4 t, ?_⟩
    obtain ⟨c0, c1⟩ := coords0 t
    obtain ⟨e0, e1, e2⟩ := index0_4 (grid0.coords t)
    show i ∈ ((View.whole main_v7_1).slice (win0_4.rect t)).set
    rw [View.set_slice_whole, Rect.mem_set_unit]
    intro a
    match a with
    | ⟨0, _⟩ => show cc0_transform_4 (grid0.coords t) 0 * 1 ≤ (i 0 : Nat) ∧ (i 0 : Nat) < cc0_transform_4 (grid0.coords t) 0 * 1 + 1
                rw [e0, c0]; omega
    | ⟨1, _⟩ => show cc0_transform_4 (grid0.coords t) 1 * 512 ≤ (i 1 : Nat) ∧ (i 1 : Nat) < cc0_transform_4 (grid0.coords t) 1 * 512 + 512
                rw [e1, c1]; omega
    | ⟨2, _⟩ => show cc0_transform_4 (grid0.coords t) 2 * 128 ≤ (i 2 : Nat) ∧ (i 2 : Nat) < cc0_transform_4 (grid0.coords t) 2 * 128 + 128
                rw [e2]; omega

end Blocks

end Cert.MlaIdeal.Lat

end
-- ==== Proof.MlaArraysBwd.lean ====
/- What the backward call leaves in its three arrays, from the blocks of MlaBackwardReal.lean. -/
module

public import proofs.«01_k».proof.Proof.MlaBackwardReal
public import proofs.«01_k».proof.Proof.MlaArraysFwd

@[expose] public section

set_option maxRecDepth 16384

noncomputable section

namespace Cert.MlaIdeal.Lat

open Idealize.ShloMosaic Idealize.ShloMosaic.TcCoe Idealize.ShloMosaic.Tactic
open Cert.MlaIdeal Cert.MlaIdeal.Gen
open Cert.KernelIdeal.Sb (Re Re.congr Re.addf Re.subf Re.mulf Re.exp coe_sum coe_dot coe_max log_coe_pos Vis Sel toInt_small ofBool_decide)
open Finset (range)
open Idealize.ShloMosaic.Pipeline (Dat)

/-- The gradient of the queries at column `c` of all the heads' columns. -/
def dqAll (Q K U D O : ℕ → ℕ → ℝ) (t c : ℕ) : ℝ :=
  dqP (pr Q (c / 256)) (pr K (c / 256)) (pr U (c / 256)) (pr D (c / 256)) (pr O (c / 256)) t (c % 256)
/-- The gradient of the keys, a block of queries after another. -/
def dkAll (Q K U D O : ℕ → ℕ → ℝ) (j c : ℕ) : ℝ :=
  ∑ b ∈ range 8, dkP (pr Q (c / 256)) (pr K (c / 256)) (pr U (c / 256)) (pr D (c / 256)) (pr O (c / 256)) b j (c % 256)
/-- The gradient of the values, a block of queries after another. -/
def dvAll (Q K D : ℕ → ℕ → ℝ) (j c : ℕ) : ℝ :=
  ∑ b ∈ range 8, dvP (pr Q (c / 256)) (pr K (c / 256)) (pr D (c / 256)) b j (c % 256)

/-! ### Where the windows look -/

theorem coords1 : ∀ t : Fin grid1.N, ((grid1.coords t 0).val = t.val / 8) ∧ ((grid1.coords t 1).val = t.val % 8) := by decide +kernel

theorem index1_0 : ∀ i : grid1.Coords, cc1_transform_0 i 0 = (i 1).val ∧ cc1_transform_0 i 1 = (i 0).val := by decide +kernel
theorem index1_1 : ∀ i : grid1.Coords, cc1_transform_1 i 0 = 0 ∧ cc1_transform_1 i 1 = (i 0).val := by decide +kernel
theorem index1_2 : ∀ i : grid1.Coords, cc1_transform_2 i 0 = 0 ∧ cc1_transform_2 i 1 = (i 0).val := by decide +kernel
theorem index1_3 : ∀ i : grid1.Coords, cc1_transform_3 i 0 = (i 1).val ∧ cc1_transform_3 i 1 = (i 0).val := by decide +kernel
theorem index1_4 : ∀ i : grid1.Coords, cc1_transform_4 i 0 = (i 1).val ∧ cc1_transform_4 i 1 = (i 0).val := by decide +kernel
theorem index1_5 : ∀ i : grid1.Coords, cc1_transform_5 i 0 = (i 0).val ∧ cc1_transform_5 i 1 = (i 1).val ∧ cc1_transform_5 i 2 = 0 := by decide +kernel
theorem index1_6 : ∀ i : grid1.Coords, cc1_transform_6 i 0 = (i 1).val ∧ cc1_transform_6 i 1 = (i 0).val := by decide +kernel
theorem index1_7 : ∀ i : grid1.Coords, cc1_transform_7 i 0 = 0 ∧ cc1_transform_7 i 1 = (i 0).val := by decide +kernel
theorem index1_8 : ∀ i : grid1.Coords, cc1_transform_8 i 0 = 0 ∧ cc1_transform_8 i 1 = (i 0).val := by decide +kernel

variable (V : (c : Dev nD) → (b : Ref sig .tc) → Buf (Elt Ideal) ((c : Thread nD τ).loc b)) (c : Dev nD)
variable {Q K U D O : ℕ → ℕ → ℝ}

theorem re_win1_0 (hX : Re (R := 4096) (C := 512) (φ := .bf16) (V c main_v1) Q) (t : Fin cfg1.N) :
    Re (R := 512) (C := 256) (φ := .bf16) (iblk1 V c 0 t) (fun r l => pr Q (grid1.coords t 0).val (512 * (grid1.coords t 1).val + r) l) := fun r l => by
  have h0 : (grid1.coords t 0).val < 2 := (grid1.coords t 0).isLt
  have h1 : (grid1.coords t 1).val < 8 := (grid1.coords t 1).isLt
  obtain ⟨e0, e1⟩ := index1_0 (grid1.coords t)
  unfold iblk1 pr
  rw [View.read_apply]
  refine Eq.trans ?_ (hX ⟨512 * (grid1.coords t 1).val + r, by omega⟩ ⟨256 * (grid1.coords t 0).val + l, by omega⟩)
  refine congrArg (V c main_v1) (idx2_eq _ ?_ ?_)
  · show cc1_transform_0 (grid1.coords t) 0 * 512 + 1 * r.val = 512 * (grid1.coords t 1).val + r.val
    rw [e0]; omega
  · show cc1_transform_0 (grid1.coords t) 1 * 256 + 1 * l.val = 256 * (grid1.coords t 0).val + l.val
    rw [e1]; omega

theorem re_win1_1 (hX : Re (R := 4096) (C := 512) (φ := .bf16) (V c main_v3) K) (t : Fin cfg1.N) :
    Re (R := 4096) (C := 256) (φ := .bf16) (iblk1 V c 1 t) (pr K (grid1.coords t 0).val) := fun r l => by
  have h0 : (grid1.coords t 0).val < 2 := (grid1.coords t 0).isLt
  have h1 : (grid1.coords t 1).val < 8 := (grid1.coords t 1).isLt
  obtain ⟨e0, e1⟩ := index1_1 (grid1.coords t)
  unfold iblk1 pr
  rw [View.read_apply]
  refine Eq.trans ?_ (hX r ⟨256 * (grid1.coords t 0).val + l, by omega⟩)
  refine congrArg (V c main_v3) (idx2_eq _ ?_ ?_)
  · show cc1_transform_1 (grid1.coords t) 0 * 4096 + 1 * r.val = r.val
    rw [e0]; omega
  · show cc1_transform_1 (grid1.coords t) 1 * 256 + 1 * l.val = 256 * (grid1.coords t 0).val + l.val
    rw [e1]; omega

theorem re_win1_2 (hX : Re (R := 4096) (C := 512) (φ := .bf16) (V c main_v6) U) (t : Fin cfg1.N) :
    Re (R := 4096) (C := 256) (φ := .bf16) (iblk1 V c 2 t) (pr U (grid1.coords t 0).val) := fun r l => by
  have h0 : (grid1.coords t 0).val < 2 := (grid1.coords t 0).isLt
  have h1 : (grid1.coords t 1).val < 8 := (grid1.coords t 1).isLt
  obtain ⟨e0, e1⟩ := index1_2 (grid1.coords t)
  unfold iblk1 pr
  rw [View.read_apply]
  refine Eq.trans ?_ (hX r ⟨256 * (grid1.coords t 0).val + l, by omega⟩)
  refine congrArg (V c main_v6) (idx2_eq _ ?_ ?_)
  · show cc1_transform_2 (grid1.coords t) 0 * 4096 + 1 * r.val = r.val
    rw [e0]; omega
  · show cc1_transform_2 (grid1.coords t) 1 * 256 + 1 * l.val = 256 * (grid1.coords t 0).val + l.val
    rw [e1]; omega

theorem re_win1_3 (hX : Re (R := 4096) (C := 512) (φ := .f32) (V c main_v7_0) O) (t : Fin cfg1.N) :
    Re (R := 512) (C := 256) (φ := .f32) (iblk1 V c 3 t) (fun r l => pr O (grid1.coords t 0).val (512 * (grid1.coords t 1).val + r) l) := fun r l => by
  have h0 : (grid1.coords t 0).val < 2 := (grid1.coords t 0).isLt
  have h1 : (grid1.coords t 1).val < 8 := (grid1.coords t 1).isLt
  obtain ⟨e0, e1⟩ := index1_3 (grid1.coords t)
  unfold iblk1 pr
  rw [View.read_apply]
  refine Eq.trans ?_ (hX ⟨512 * (grid1.coords t 1).val + r, by omega⟩ ⟨256 * (grid1.coords t 0).val + l, by omega⟩)
  refine congrArg (V c main_v7_0) (idx2_eq _ ?_ ?_)
  · show cc1_transform_3 (grid1.coords t) 0 * 512 + 1 * r.val = 512 * (grid1.coords t 1).val + r.val
    rw [e0]; omega
  · show cc1_transform_3 (grid1.coords t) 1 * 256 + 1 * l.val = 256 * (grid1.coords t 0).val + l.val
    rw [e1]; omega

theorem re_win1_4 (hX : Re (R := 4096) (C := 512) (φ := .f32) (V c main_v10) D) (t : Fin cfg1.N) :
    Re (R := 512) (C := 256) (φ := .f32) (iblk1 V c 4 t) (fun r l => pr D (grid1.coords t 0).val (512 * (grid1.coords t 1).val + r) l) := fun r l => by
  have h0 : (grid1.coords t 0).val < 2 := (grid1.coords t 0).isLt
  have h1 : (grid1.coords t 1).val < 8 := (grid1.coords t 1).isLt
  obtain ⟨e0, e1⟩ := index1_4 (grid1.coords t)
  unfold iblk1 pr
  rw [View.read_apply]
  refine Eq.trans ?_ (hX ⟨512 * (grid1.coords t 1).val + r, by omega⟩ ⟨256 * (grid1.coords t 0).val + l, by omega⟩)
  refine congrArg (V c main_v10) (idx2_eq _ ?_ ?_)
  · show cc1_transform_4 (grid1.coords t) 0 * 512 + 1 * r.val = 512 * (grid1.coords t 1).val + r.val
    rw [e0]; omega
  · show cc1_transform_4 (grid1.coords t) 1 * 256 + 1 * l.val = 256 * (grid1.coords t 0).val + l.val
    rw [e1]; omega

theorem re_win1_5 (hT : (V c main_v7_1 : Vec Ideal S2x4096x128 .f32) = statArr Q K) (t : Fin cfg1.N) (r : Fin 512) (l : Fin 128) :
    ((iblk1 V c 5 t : Vec Ideal S1x512x128 .f32) (ix3 0 r l) : EReal)
      = ((lseP (pr Q (grid1.coords t 0).val) (pr K (grid1.coords t 0).val) (512 * (grid1.coords t 1).val + r) l : ℝ) : EReal) := by
  obtain ⟨e0, e1, e2⟩ := index1_5 (grid1.coords t)
  unfold iblk1
  rw [View.read_apply]
  have i0 : ((((cfg1.win 5).blk t).view.emb (ix3 0 r l)) 0).val = (grid1.coords t 0).val := by
    show cc1_transform_5 (grid1.coords t) 0 * 1 + 1 * 0 = _
    rw [e0]; omega
  have i1 : ((((cfg1.win 5).blk t).view.emb (ix3 0 r l)) 1).val = 512 * (grid1.coords t 1).val + r.val := by
    show cc1_transform_5 (grid1.coords t) 1 * 512 + 1 * r.val = _
    rw [e1]; omega
  have i2 : ((((cfg1.win 5).blk t).view.emb (ix3 0 r l)) 2).val = l.val := by
    show cc1_transform_5 (grid1.coords t) 2 * 128 + 1 * l.val = _
    rw [e2]; omega
  refine (congrFun hT _).trans ?_
  show ((lseP (pr Q ((((cfg1.win 5).blk t).view.emb (ix3 0 r l)) 0).val) (pr K ((((cfg1.win 5).blk t).view.emb (ix3 0 r l)) 0).val)
    ((((cfg1.win 5).blk t).view.emb (ix3 0 r l)) 1).val ((((cfg1.win 5).blk t).view.emb (ix3 0 r l)) 2).val : ℝ) : EReal) = _
  rw [i0, i1, i2]

theorem re_zeros : Re (R := 4096) (C := 256) (φ := .f32) (zeros (F := Ideal)) (fun _ _ => 0) := fun r c => by
  pointwise [zeros]; rfl

section Blocks

variable (hQ : Re (R := 4096) (C := 512) (φ := .bf16) (V c main_v1) Q) (hK : Re (R := 4096) (C := 512) (φ := .bf16) (V c main_v3) K)
    (hU : Re (R := 4096) (C := 512) (φ := .bf16) (V c main_v6) U)
  (hO : Re (R := 4096) (C := 512) (φ := .f32) (V c main_v7_0) O) (hD : Re (R := 4096) (C := 512) (φ := .f32) (V c main_v10) D)
  (hT : (V c main_v7_1 : Vec Ideal S2x4096x128 .f32) = statArr Q K)
include hQ hK hU hO hD hT

theorem finds (t : Fin cfg1.N) :
    Finds (grid1.coords t) (iblk1 V c 0 t) (iblk1 V c 1 t) (iblk1 V c 2 t) (iblk1 V c 3 t) (iblk1 V c 4 t) (iblk1 V c 5 t)
      (pr Q (grid1.coords t 0).val) (pr K (grid1.coords t 0).val) (pr U (grid1.coords t 0).val) (pr D (grid1.coords t 0).val) (pr O (grid1.coords t 0).val) :=
  ⟨re_win1_0 V c hQ t, re_win1_1 V c hK t, re_win1_2 V c hU t, re_win1_3 V c hO t, re_win1_4 V c hD t, re_win1_5 V c hT t⟩

theorem re_dq (t : Fin cfg1.N) :
    Re (R := 512) (C := 256) (φ := .f32) (outsAt1 V c t.val t.isLt).1
      (fun r l => dqP (pr Q (grid1.coords t 0).val) (pr K (grid1.coords t 0).val) (pr U (grid1.coords t 0).val)
        (pr D (grid1.coords t 0).val) (pr O (grid1.coords t 0).val) (512 * (grid1.coords t 1).val + r) l) := by
  by_cases h : t.val % 8 = 0
  · rw [outsAt1_A V c t h]
    dsimp only
    rw [out1_A_6_eq]
    exact re_bwdDq (finds V c hQ hK hU hO hD hT t)
  · rw [outsAt1_B V c t h]
    dsimp only
    rw [out1_B_6_eq]
    exact re_bwdDq (finds V c hQ hK hU hO hD hT t)

/-- The keys' gradients gather one block of queries a point; a new pair of heads starts from zero. -/
theorem re_dk : ∀ (n : ℕ) (hn : n < cfg1.N), Re (R := 4096) (C := 256) (φ := .f32) (outsAt1 V c n hn).2.1
    (fun j l => ∑ b ∈ range (n % 8 + 1), dkP (pr Q (n / 8)) (pr K (n / 8)) (pr U (n / 8)) (pr D (n / 8)) (pr O (n / 8)) b j l) := by
  intro n
  induction n with
  | zero =>
    intro hn
    obtain ⟨c0, c1⟩ := coords1 ⟨0, hn⟩
    have c0' : (grid1.coords (⟨0, hn⟩ : Fin cfg1.N) 0).val = 0 := c0.trans (Nat.zero_div 8)
    have c1' : (grid1.coords (⟨0, hn⟩ : Fin cfg1.N) 1).val = 0 := c1
    have f := finds V c hQ hK hU hO hD hT ⟨0, hn⟩
    rw [outsAt1_A V c ⟨0, hn⟩ (Nat.zero_mod _)]
    dsimp only
    rw [out1_A_7_eq]
    refine Re.congr (re_bwdDk f re_zeros) fun j _ l _ => ?_
    rw [c0', c1', Nat.zero_mod, Nat.zero_div, Finset.sum_range_one, zero_add]
  | succ n ih =>
    intro hn
    obtain ⟨c0, c1⟩ := coords1 ⟨n + 1, hn⟩
    have c0' : (grid1.coords (⟨n + 1, hn⟩ : Fin cfg1.N) 0).val = (n + 1) / 8 := c0
    have c1' : (grid1.coords (⟨n + 1, hn⟩ : Fin cfg1.N) 1).val = (n + 1) % 8 := c1
    have f := finds V c hQ hK hU hO hD hT ⟨n + 1, hn⟩
    by_cases h : (n + 1) % 8 = 0
    · rw [outsAt1_A V c ⟨n + 1, hn⟩ h]
      dsimp only
      rw [out1_A_7_eq]
      refine Re.congr (re_bwdDk f re_zeros) fun j _ l _ => ?_
      rw [c0', c1', h, Finset.sum_range_one, zero_add]
    · rw [outsAt1_B V c ⟨n + 1, hn⟩ h]
      dsimp only
      rw [out1_B_7_eq]
      refine Re.congr (re_bwdDk f (ih (Nat.lt_of_succ_lt hn))) fun j _ l _ => ?_
      rw [c0', c1', show n / 8 = (n + 1) / 8 by omega, show n % 8 + 1 = (n + 1) % 8 by omega, Finset.sum_range_succ]

/-- The values' gradients gather one block of queries a point; a new pair of heads starts from zero. -/
theorem re_dv : ∀ (n : ℕ) (hn : n < cfg1.N), Re (R := 4096) (C := 256) (φ := .f32) (outsAt1 V c n hn).2.2
    (fun j l => ∑ b ∈ range (n % 8 + 1), dvP (pr Q (n / 8)) (pr K (n / 8)) (pr D (n / 8)) b j l) := by
  intro n
  induction n with
  | zero =>
    intro hn
    obtain ⟨c0, c1⟩ := coords1 ⟨0, hn⟩
    have c0' : (grid1.coords (⟨0, hn⟩ : Fin cfg1.N) 0).val = 0 := c0.trans (Nat.zero_div 8)
    have c1' : (grid1.coords (⟨0, hn⟩ : Fin cfg1.N) 1).val = 0 := c1
    have f := finds V c hQ hK hU hO hD hT ⟨0, hn⟩
    rw [outsAt1_A V c ⟨0, hn⟩ (Nat.zero_mod _)]
    dsimp only
    rw [out1_A_8_eq]
    refine Re.congr (re_bwdDv f re_zeros) fun j _ l _ => ?_
    rw [c0', c1', Nat.zero_mod, Nat.zero_div, Finset.sum_range_one, zero_add]
  | succ n ih =>
    intro hn
    obtain ⟨c0, c1⟩ := coords1 ⟨n + 1, hn⟩
    have c0' : (grid1.coords (⟨n + 1, hn⟩ : Fin cfg1.N) 0).val = (n + 1) / 8 := c0
    have c1' : (grid1.coords (⟨n + 1, hn⟩ : Fin cfg1.N) 1).val = (n + 1) % 8 := c1
    have f := finds V c hQ hK hU hO hD hT ⟨n + 1, hn⟩
    by_cases h : (n + 1) % 8 = 0
    · rw [outsAt1_A V c ⟨n + 1, hn⟩ h]
      dsimp only
      rw [out1_A_8_eq]
      refine Re.congr (re_bwdDv f re_zeros) fun j _ l _ => ?_
      rw [c0', c1', h, Finset.sum_range_one, zero_add]
    · rw [outsAt1_B V c ⟨n + 1, hn⟩ h]
      dsimp only
      rw [out1_B_8_eq]
      refine Re.congr (re_bwdDv f (ih (Nat.lt_of_succ_lt hn))) fun j _ l _ => ?_
      rw [c0', c1', show n / 8 = (n + 1) / 8 by omega, show n % 8 + 1 = (n + 1) % 8 by omega, Finset.sum_range_succ]

theorem flushed1_6 (t : Fin cfg1.N) (hf : (cfg1.win 6).flush t = true) :
    (dat1 V c).flushed 6 t = ((cfg1.win 6).blk t).view.read (Elt Ideal) (oArr (dqAll Q K U D O)) := by
  have h0 : (grid1.coords t 0).val < 2 := (grid1.coords t 0).isLt
  obtain ⟨c0, c1⟩ := coords1 t
  obtain ⟨e0, e1⟩ := index1_6 (grid1.coords t)
  show (cfg1.win 6).cut (grid1.coords t) ((dat1 V c).after 6 t) = _
  rw [after1_6]
  funext j
  obtain ⟨r, l, rfl⟩ : ∃ (r : Fin 512) (l : Fin 256), j = ix2 r l := ⟨j 0, j 1, eq_ix2 j⟩
  refine (re_dq V c hQ hK hU hO hD hT t r l).trans ?_
  rw [View.read_apply]
  have i0 : ((((cfg1.win 6).blk t).view.emb (ix2 r l)) 0).val = 512 * (grid1.coords t 1).val + r.val := by
    show cc1_transform_6 (grid1.coords t) 0 * 512 + 1 * r.val = _
    rw [e0]; omega
  have i1 : ((((cfg1.win 6).blk t).view.emb (ix2 r l)) 1).val = 256 * (grid1.coords t 0).val + l.val := by
    show cc1_transform_6 (grid1.coords t) 1 * 256 + 1 * l.val = _
    rw [e1]; omega
  show _ = ((dqAll Q K U D O ((((cfg1.win 6).blk t).view.emb (ix2 r l)) 0).val ((((cfg1.win 6).blk t).view.emb (ix2 r l)) 1).val : ℝ) : EReal)
  rw [i0, i1, dqAll, show (256 * (grid1.coords t 0).val + l.val) / 256 = (grid1.coords t 0).val by omega,
    show (256 * (grid1.coords t 0).val + l.val) % 256 = l.val by omega]

theorem final1_6 : (dat1 V c).arrAt 6 cfg1.N = oArr (dqAll Q K U D O) :=
  (dat1 V c).arrAt_eq_of_cover 6 (oArr (dqAll Q K U D O)) (flushed1_6 V c hQ hK hU hO hD hT) fun i => by
    have h0 : (i 0 : Nat) < 4096 := (i 0).isLt
    have h1 : (i 1 : Nat) < 512 := (i 1).isLt
    have hN : cfg1.N = 16 := N_1
    let t : Fin cfg1.N := ⟨8 * ((i 1 : Nat) / 256) + (i 0 : Nat) / 512, by omega⟩
    have ht : t.val = 8 * ((i 1 : Nat) / 256) + (i 0 : Nat) / 512 := rfl
    refine ⟨t, flush1_6 t, ?_⟩
    obtain ⟨c0, c1⟩ := coords1 t
    obtain ⟨e0, e1⟩ := index1_6 (grid1.coords t)
    show i ∈ ((View.whole main_v11_0).slice (win1_6.rect t)).set
    rw [View.set_slice_whole, Rect.mem_set_unit]
    intro a
    match a with
    | ⟨0, _⟩ => show cc1_transform_6 (grid1.coords t) 0 * 512 ≤ (i 0 : Nat) ∧ (i 0 : Nat) < cc1_transform_6 (grid1.coords t) 0 * 512 + 512
                rw [e0, c1]; omega
    | ⟨1, _⟩ => show cc1_transform_6 (grid1.coords t) 1 * 256 ≤ (i 1 : Nat) ∧ (i 1 : Nat) < cc1_transform_6 (grid1.coords t) 1 * 256 + 256
                rw [e1, c0]; omega

theorem flushed1_7 (t : Fin cfg1.N) (hf : (cfg1.win 7).flush t = true) :
    (dat1 V c).flushed 7 t = ((cfg1.win 7).blk t).view.read (Elt Ideal) (oArr (dkAll Q K U D O)) := by
  have h0 : (grid1.coords t 0).val < 2 := (grid1.coords t 0).isLt
  obtain ⟨c0, c1⟩ := coords1 t
  obtain ⟨e0, e1⟩ := index1_7 (grid1.coords t)
  show (cfg1.win 7).cut (grid1.coords t) ((dat1 V c).after 7 t) = _
  rw [after1_7]
  funext j
  obtain ⟨r, l, rfl⟩ : ∃ (r : Fin 4096) (l : Fin 256), j = ix2 r l := ⟨j 0, j 1, eq_ix2 j⟩
  refine (re_dk V c hQ hK hU hO hD hT t.val t.isLt r l).trans ?_
  rw [View.read_apply]
  have i0 : ((((cfg1.win 7).blk t).view.emb (ix2 r l)) 0).val = r.val := by
    show cc1_transform_7 (grid1.coords t) 0 * 4096 + 1 * r.val = _
    rw [e0]; omega
  have i1 : ((((cfg1.win 7).blk t).view.emb (ix2 r l)) 1).val = 256 * (grid1.coords t 0).val + l.val := by
    show cc1_transform_7 (grid1.coords t) 1 * 256 + 1 * l.val = _
    rw [e1]; omega
  show _ = ((dkAll Q K U D O ((((cfg1.win 7).blk t).view.emb (ix2 r l)) 0).val ((((cfg1.win 7).blk t).view.emb (ix2 r l)) 1).val : ℝ) : EReal)
  rw [i0, i1, dkAll, show (256 * (grid1.coords t 0).val + l.val) / 256 = (grid1.coords t 0).val by omega,
    show (256 * (grid1.coords t 0).val + l.val) % 256 = l.val by omega]
  rw [(flush1_7 t).mp hf, c0]

theorem final1_7 : (dat1 V c).arrAt 7 cfg1.N = oArr (dkAll Q K U D O) :=
  (dat1 V c).arrAt_eq_of_cover 7 (oArr (dkAll Q K U D O)) (flushed1_7 V c hQ hK hU hO hD hT) fun i => by
    have h0 : (i 0 : Nat) < 4096 := (i 0).isLt
    have h1 : (i 1 : Nat) < 512 := (i 1).isLt
    have hN : cfg1.N = 16 := N_1
    let t : Fin cfg1.N := ⟨8 * ((i 1 : Nat) / 256) + 7, by omega⟩
    have ht : t.val = 8 * ((i 1 : Nat) / 256) + 7 := rfl
    refine ⟨t, (flush1_7 t).mpr (by omega), ?_⟩
    obtain ⟨c0, c1⟩ := coords1 t
    obtain ⟨e0, e1⟩ := index1_7 (grid1.coords t)
    show i ∈ ((View.whole main_v11_1).slice (win1_7.rect t)).set
    rw [View.set_slice_whole, Rect.mem_set_unit]
    intro a
    match a with
    | ⟨0, _⟩ => show cc1_transform_7 (grid1.coords t) 0 * 4096 ≤ (i 0 : Nat) ∧ (i 0 : Nat) < cc1_transform_7 (grid1.coords t) 0 * 4096 + 4096
                rw [e0]; omega
    | ⟨1, _⟩ => show cc1_transform_7 (grid1.coords t) 1 * 256 ≤ (i 1 : Nat) ∧ (i 1 : Nat) < cc1_transform_7 (grid1.coords t) 1 * 256 + 256
                rw [e1, c0]; omega

theorem flushed1_8 (t : Fin cfg1.N) (hf : (cfg1.win 8).flush t = true) :
    (dat1 V c).flushed 8 t = ((cfg1.win 8).blk t).view.read (Elt Ideal) (oArr (dvAll Q K D)) := by
  have h0 : (grid1.coords t 0).val < 2 := (grid1.coords t 0).isLt
  obtain ⟨c0, c1⟩ := coords1 t
  obtain ⟨e0, e1⟩ := index1_8 (grid1.coords t)
  show (cfg1.win 8).cut (grid1.coords t) ((dat1 V c).after 8 t) = _
  rw [after1_8]
  funext j
  obtain ⟨r, l, rfl⟩ : ∃ (r : Fin 4096) (l : Fin 256), j = ix2 r l := ⟨j 0, j 1, eq_ix2 j⟩
  refine (re_dv V c hQ hK hU hO hD hT t.val t.isLt r l).trans ?_
  rw [View.read_apply]
  have i0 : ((((cfg1.win 8).blk t).view.emb (ix2 r l)) 0).val = r.val := by
    show cc1_transform_8 (grid1.coords t) 0 * 4096 + 1 * r.val = _
    rw [e0]; omega
  have i1 : ((((cfg1.win 8).blk t).view.emb (ix2 r l)) 1).val = 256 * (grid1.coords t 0).val + l.val := by
    show cc1_transform_8 (grid1.coords t) 1 * 256 + 1 * l.val = _
    rw [e1]; omega
  show _ = ((dvAll Q K D ((((cfg1.win 8).blk t).view.emb (ix2 r l)) 0).val ((((cfg1.win 8).blk t).view.emb (ix2 r l)) 1).val : ℝ) : EReal)
  rw [i0, i1, dvAll, show (256 * (grid1.coords t 0).val + l.val) / 256 = (grid1.coords t 0).val by omega,
    show (256 * (grid1.coords t 0).val + l.val) % 256 = l.val by omega]
  rw [(flush1_8 t).mp hf, c0]

theorem final1_8 : (dat1 V c).arrAt 8 cfg1.N = oArr (dvAll Q K D) :=
  (dat1 V c).arrAt_eq_of_cover 8 (oArr (dvAll Q K D)) (flushed1_8 V c hQ hK hU hO hD hT) fun i => by
    have h0 : (i 0 : Nat) < 4096 := (i 0).isLt
    have h1 : (i 1 : Nat) < 512 := (i 1).isLt
    have hN : cfg1.N = 16 := N_1
    let t : Fin cfg1.N := ⟨8 * ((i 1 : Nat) / 256) + 7, by omega⟩
    have ht : t.val = 8 * ((i 1 : Nat) / 256) + 7 := rfl
    refine ⟨t, (flush1_8 t).mpr (by omega), ?_⟩
    obtain ⟨c0, c1⟩ := coords1 t
    obtain ⟨e0, e1⟩ := index1_8 (grid1.coords t)
    show i ∈ ((View.whole main_v11_2).slice (win1_8.rect t)).set
    rw [View.set_slice_whole, Rect.mem_set_unit]
    intro a
    match a with
    | ⟨0, _⟩ => show cc1_transform_8 (grid1.coords t) 0 * 4096 ≤ (i 0 : Nat) ∧ (i 0 : Nat) < cc1_transform_8 (grid1.coords t) 0 * 4096 + 4096
                rw [e0]; omega
    | ⟨1, _⟩ => show cc1_transform_8 (grid1.coords t) 1 * 256 ≤ (i 1 : Nat) ∧ (i 1 : Nat) < cc1_transform_8 (grid1.coords t) 1 * 256 + 256
                rw [e1, c0]; omega

end Blocks

end Cert.MlaIdeal.Lat

end
-- ==== Proof.MlaTarget.lean ====
/- The attention, forward and backward, over its own heads: what the two calls leave on the widened lanes. -/
module

public import proofs.«01_k».proof.Proof.MlaPack
public import proofs.«01_k».proof.Proof.MlaArraysBwd

@[expose] public section

set_option maxRecDepth 16384

noncomputable section

namespace Cert.MlaIdeal.Lat

open Idealize.ShloMosaic Idealize.ShloMosaic.TcCoe Idealize.ShloMosaic.Tactic
open Cert.MlaIdeal Cert.MlaIdeal.Gen
open Cert.KernelIdeal.Sb (Re Re.congr Re.addf Re.subf Re.mulf Re.exp coe_sum coe_dot coe_max log_coe_pos Vis Sel toInt_small ofBool_decide)
open Finset (range)

/-! Head `h`: the weight of key `j` for query `t` before and after it is divided by the row's sum; the output; the gradient of a weight and of
a score; the gradients of the queries, the keys and the values. -/
section Defs
variable (q k v d : ℕ → ℕ → ℕ → ℝ) (h : ℕ)
def hE (t j : ℕ) : ℝ := if j / 64 ≤ t / 64 then Real.exp ((∑ l ∈ range 96, q t h l * k j h l) * sc) else 0
def hS (t : ℕ) : ℝ := ∑ j ∈ range 4096, hE q k h t j
def hP (t j : ℕ) : ℝ := hE q k h t j / hS q k h t
def hO (t l : ℕ) : ℝ := ∑ j ∈ range 4096, hP q k h t j * v j h l
def hDp (t j : ℕ) : ℝ := ∑ l ∈ range 64, d t h l * v j h l
def hG (t j : ℕ) : ℝ := hP q k h t j * (hDp v d h t j - ∑ n ∈ range 4096, hP q k h t n * hDp v d h t n) * sc
def hDq (t l : ℕ) : ℝ := ∑ j ∈ range 4096, hG q k v d h t j * k j h l
def hDk (j l : ℕ) : ℝ := ∑ t ∈ range 4096, hG q k v d h t j * q t h l
def hDv (j l : ℕ) : ℝ := ∑ t ∈ range 4096, hP q k h t j * d t h l
end Defs

theorem hd_pr (X : ℕ → ℕ → ℝ) (c : ℕ) : hd (c % 256 / 128) (pr X (c / 256)) = hd (c / 128) X := by
  funext t l
  unfold hd pr
  congr 1
  omega

theorem hd_wide (w : ℕ) (f : ℕ → ℕ → ℕ → ℝ) (h t : ℕ) {l : ℕ} (hl : l < 128) : hd h (wide w f) t l = if l < w then f t h l else 0 := by
  unfold hd wide
  rw [show (128 * h + l) % 128 = l by omega, show (128 * h + l) / 128 = h by omega]

theorem lanes {w : ℕ} (hw : w ≤ 128) (f : ℕ → ℕ → ℕ → ℝ) (h t : ℕ) {X Y : ℕ → ℝ} (hX : ∀ l < w, X l = Y l) :
    ∑ l ∈ range 128, hd h (wide w f) t l * X l = ∑ l ∈ range w, f t h l * Y l := by
  rw [← Finset.sum_subset (Finset.range_mono hw) fun l hl hn => by
    rw [hd_wide w f h t (Finset.mem_range.mp hl), if_neg fun h' => hn (Finset.mem_range.mpr h'), zero_mul]]
  refine Finset.sum_congr rfl fun l hl => ?_
  have := Finset.mem_range.mp hl
  rw [hd_wide w f h t (by omega), if_pos this, hX l this]

theorem sum_blocks (F : ℕ → ℝ) (n : ℕ) : ∑ b ∈ range n, ∑ k ∈ range 512, F (512 * b + k) = ∑ t ∈ range (512 * n), F t := by
  induction n with
  | zero => rfl
  | succ n ih => rw [Finset.sum_range_succ, ih, sum_next]

section Heads
variable (q k v d : ℕ → ℕ → ℕ → ℝ) (h : ℕ)

theorem E_eq : E (hd h (wide 96 q)) (hd h (wide 96 k)) = hE q k h := by
  funext t j
  unfold E hE
  rw [lanes (by omega) q h t fun l hl => (hd_wide 96 k h j (by omega)).trans (if_pos hl)]
theorem Sm_eq : Sm (hd h (wide 96 q)) (hd h (wide 96 k)) = hS q k h := by
  funext t
  unfold Sm hS
  rw [E_eq]
theorem Wp_eq : Wp (hd h (wide 96 q)) (hd h (wide 96 k)) = hP q k h := by
  funext t j
  unfold Wp hP
  rw [E_eq, Sm_eq]
theorem Dt_eq (t j : ℕ) : Dt (hd h (wide 64 d)) (hd h (wide 64 v)) t j = hDp v d h t j :=
  lanes (by omega) d h t fun l hl => (hd_wide 64 v h j (by omega)).trans (if_pos hl)

/-- The output on head `h`'s first 64 lanes. -/
theorem out_eq (t : ℕ) {l : ℕ} (hl : l < 64) : outAll (wide 96 q) (wide 96 k) (wide 64 v) t (128 * h + l) = hO q k v h t l := by
  unfold outAll outP
  rw [hd_pr, hd_pr, hd_pr, show (128 * h + l) / 128 = h by omega, show (128 * h + l) % 256 % 128 = l by omega]
  unfold Ou hO
  rw [E_eq, Sm_eq, Finset.sum_div]
  refine Finset.sum_congr rfl fun j _ => ?_
  rw [hd_wide 64 v h j (by omega), if_pos hl, hP, mul_div_right_comm]

theorem Dl_eq (t : ℕ) : Dl (hd h (wide 64 d)) (hd h (outAll (wide 96 q) (wide 96 k) (wide 64 v))) t
    = ∑ j ∈ range 4096, hP q k h t j * hDp v d h t j := by
  unfold Dl
  rw [lanes (by omega) d h t (X := hd h (outAll (wide 96 q) (wide 96 k) (wide 64 v)) t) (Y := fun l => hO q k v h t l) fun l hl => out_eq q k v h t hl]
  unfold hO hDp
  simp only [Finset.mul_sum]
  rw [Finset.sum_comm]
  exact Finset.sum_congr rfl fun j _ => Finset.sum_congr rfl fun l _ => by ring

theorem Gs_eq : Gs (hd h (wide 96 q)) (hd h (wide 96 k)) (hd h (wide 64 v)) (hd h (wide 64 d)) (hd h (outAll (wide 96 q) (wide 96 k) (wide 64 v)))
    = hG q k v d h := by
  funext t j
  unfold Gs hG
  rw [Wp_eq, Dt_eq, Dl_eq]

theorem dq_eq (t : ℕ) {l : ℕ} (hl : l < 96) :
    dqAll (wide 96 q) (wide 96 k) (wide 64 v) (wide 64 d) (outAll (wide 96 q) (wide 96 k) (wide 64 v)) t (128 * h + l) = hDq q k v d h t l := by
  unfold dqAll dqP hDq
  simp only [hd_pr]
  rw [show (128 * h + l) / 128 = h by omega, show (128 * h + l) % 256 % 128 = l by omega, Gs_eq]
  exact Finset.sum_congr rfl fun j _ => by rw [hd_wide 96 k h j (by omega), if_pos hl]

theorem dk_eq (j : ℕ) {l : ℕ} (hl : l < 96) :
    dkAll (wide 96 q) (wide 96 k) (wide 64 v) (wide 64 d) (outAll (wide 96 q) (wide 96 k) (wide 64 v)) j (128 * h + l) = hDk q k v d h j l := by
  unfold dkAll dkP hDk
  simp only [hd_pr]
  rw [show (128 * h + l) / 128 = h by omega, show (128 * h + l) % 256 % 128 = l by omega, Gs_eq,
    sum_blocks (fun t => hG q k v d h t j * hd h (wide 96 q) t l)]
  exact Finset.sum_congr rfl fun t _ => by rw [hd_wide 96 q h t (by omega), if_pos hl]

theorem dv_eq (j : ℕ) {l : ℕ} (hl : l < 64) : dvAll (wide 96 q) (wide 96 k) (wide 64 d) j (128 * h + l) = hDv q k d h j l := by
  unfold dvAll dvP hDv
  simp only [hd_pr]
  rw [show (128 * h + l) / 128 = h by omega, show (128 * h + l) % 256 % 128 = l by omega, Wp_eq,
    sum_blocks (fun t => hP q k h t j * hd h (wide 64 d) t l)]
  exact Finset.sum_congr rfl fun t _ => by rw [hd_wide 64 d h t (by omega), if_pos hl]

end Heads

end Cert.MlaIdeal.Lat

end
-- ==== Proof.MlaResult.lean ====
/- The latent attention's run: its two calls leave the output and the gradients of the queries, the keys and the values. -/
module

public import proofs.«01_k».proof.Proof.MlaTarget

@[expose] public section

set_option maxRecDepth 16384

noncomputable section

namespace Cert.MlaIdeal.Lat

open Idealize.ShloMosaic Idealize.ShloMosaic.TcCoe Idealize.ShloMosaic.Tactic
open Cert.MlaIdeal Cert.MlaIdeal.Gen
open Cert.KernelIdeal.Sb (Re Re.congr Re.addf Re.subf Re.mulf Re.exp coe_sum coe_dot coe_max log_coe_pos Vis Sel toInt_small ofBool_decide)
open Finset (range)
open Cert.ReferenceIdeal.Sb (Re3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Columns of 64 as heads. -/
def heads (f : ℕ → ℕ → ℝ) (t h l : ℕ) : ℝ := f t (64 * h + l)

/-- The arguments hold the real numbers `q`, `k` (the queries and the keys, by head), `v` (the values) and `d` (the gradient of the output). -/
structure Args (c : Dev nD) (q k : ℕ → ℕ → ℕ → ℝ) (v d : ℕ → ℕ → ℝ) : Prop where
  q : Re3 (A := 4096) (B := 4) (C := 96) (φ := .bf16) (m ((c.tc : Thread nD τ).loc main_arg0)) q
  k : Re3 (A := 4096) (B := 4) (C := 96) (φ := .bf16) (m ((c.tc : Thread nD τ).loc main_arg1)) k
  v : Re (R := 4096) (C := 256) (φ := .bf16) (m ((c.tc : Thread nD τ).loc main_arg2)) v
  d : Re (R := 4096) (C := 256) (φ := .f32) (m ((c.tc : Thread nD τ).loc main_arg3)) d

/-- The results as arrays: heads side by side, and by head. -/
def flatArr (f : ℕ → ℕ → ℕ → ℝ) : Vec Ideal S4096x256 .f32 := fun j => ((f ((j 1).val / 64) (j 0).val ((j 1).val % 64) : ℝ) : EReal)
def headArr (f : ℕ → ℕ → ℕ → ℝ) : Vec Ideal S4096x4x96 .f32 := fun j => ((f (j 1).val (j 0).val (j 2).val : ℝ) : EReal)

theorem flat_of {x : FVec Ideal S4096x512 .f32} {g : ℕ → ℕ → ℝ} {f : ℕ → ℕ → ℕ → ℝ} (hx : x = oArr g) (h : ∀ t h l, l < 64 → g t (128 * h + l) = f h t l) :
    narrowHeads x = flatArr f := by
  have hr : Re (narrowHeads x) (fun t c => g t (128 * (c / 64) + c % 64)) := re_narrowHeads fun r c => by rw [hx]; rfl
  funext j
  obtain ⟨r, c, rfl⟩ : ∃ (r : Fin 4096) (c : Fin 256), j = ix2 r c := ⟨j 0, j 1, eq_ix2 j⟩
  refine (hr r c).trans ?_
  dsimp only
  rw [h _ _ _ (Nat.mod_lt _ (by omega))]
  rfl
theorem head_of {x : FVec Ideal S4096x512 .f32} {g : ℕ → ℕ → ℝ} {f : ℕ → ℕ → ℕ → ℝ} (hx : x = oArr g) (h : ∀ t h l, l < 96 → g t (128 * h + l) = f h t l) :
    narrowKeys x = headArr f := by
  have hr := re_narrowKeys (x := x) (f := g) fun r c => by rw [hx]; rfl
  funext j
  refine (hr j).trans ?_
  dsimp only
  rw [h _ _ _ (j 2).isLt]
  rfl

section Contents
variable {c : Dev nD} {q k : ℕ → ℕ → ℕ → ℝ} {v d : ℕ → ℕ → ℝ} (a : Args m c q k v d)
include a

theorem v7_q : Re (R := 4096) (C := 512) (φ := .bf16) (V7 m ρ c main_v1) (wide 96 q) := by
  rw [show V7 m ρ c main_v1 = _ from entry_q m ρ c]; exact re_widenKeys a.q
theorem v7_k : Re (R := 4096) (C := 512) (φ := .bf16) (V7 m ρ c main_v3) (wide 96 k) := by
  rw [show V7 m ρ c main_v3 = _ from entry_k m ρ c]; exact re_widenKeys a.k
theorem v7_v : Re (R := 4096) (C := 512) (φ := .bf16) (V7 m ρ c main_v6) (wide 64 (heads v)) := by
  rw [show V7 m ρ c main_v6 = _ from entry_v m ρ c]; exact re_widenValues a.v
omit a in
theorem kept_q : V11 m ρ c main_v1 = V7 m ρ c main_v1 :=
  (W11_of m ρ c main_v1 (by decide)).trans ((W10_of m ρ c main_v1 (by decide)).trans ((W9_of m ρ c main_v1 (by decide)).trans (W8_of m ρ c main_v1 (by decide))))
omit a in
theorem kept_k : V11 m ρ c main_v3 = V7 m ρ c main_v3 :=
  (W11_of m ρ c main_v3 (by decide)).trans ((W10_of m ρ c main_v3 (by decide)).trans ((W9_of m ρ c main_v3 (by decide)).trans (W8_of m ρ c main_v3 (by decide))))
omit a in
theorem kept_v : V11 m ρ c main_v6 = V7 m ρ c main_v6 :=
  (W11_of m ρ c main_v6 (by decide)).trans ((W10_of m ρ c main_v6 (by decide)).trans ((W9_of m ρ c main_v6 (by decide)).trans (W8_of m ρ c main_v6 (by decide))))
theorem v11_o : (V11 m ρ c main_v7_0 : FVec Ideal S4096x512 .f32) = oArr (outAll (wide 96 q) (wide 96 k) (wide 64 (heads v))) :=
  (W11_of m ρ c main_v7_0 (by decide)).trans ((W10_of m ρ c main_v7_0 (by decide)).trans ((W9_of m ρ c main_v7_0 (by decide)).trans
    ((W8_arr m ρ c 3).trans (final0_3 (V7 m ρ) c (v7_q m ρ a) (v7_k m ρ a) (v7_v m ρ a)))))
theorem v11_stat : V11 m ρ c main_v7_1 = statArr (wide 96 q) (wide 96 k) :=
  (W11_of m ρ c main_v7_1 (by decide)).trans ((W10_of m ρ c main_v7_1 (by decide)).trans ((W9_of m ρ c main_v7_1 (by decide)).trans
    ((W8_arr m ρ c 4).trans (final0_4 (V7 m ρ) c (v7_q m ρ a) (v7_k m ρ a) (v7_v m ρ a)))))
theorem v11_q : Re (R := 4096) (C := 512) (φ := .bf16) (V11 m ρ c main_v1) (wide 96 q) := by rw [kept_q]; exact v7_q m ρ a
theorem v11_k : Re (R := 4096) (C := 512) (φ := .bf16) (V11 m ρ c main_v3) (wide 96 k) := by rw [kept_k]; exact v7_k m ρ a
theorem v11_v : Re (R := 4096) (C := 512) (φ := .bf16) (V11 m ρ c main_v6) (wide 64 (heads v)) := by rw [kept_v]; exact v7_v m ρ a
theorem v11_out : Re (R := 4096) (C := 512) (φ := .f32) (V11 m ρ c main_v7_0) (outAll (wide 96 q) (wide 96 k) (wide 64 (heads v))) := fun r l => by
  rw [show V11 m ρ c main_v7_0 = _ from v11_o m ρ a]; rfl
theorem v11_d : Re (R := 4096) (C := 512) (φ := .f32) (V11 m ρ c main_v10) (wide 64 (heads d)) := by
  rw [show V11 m ρ c main_v10 = _ from entry_d m ρ c]; exact re_widenGrads a.d

/-! The four results. -/
theorem out_o : W13 m ρ c (Proc.devRef .tc main_v14) = flatArr (hO q k (heads v)) :=
  (exit_o m ρ c).trans (flat_of ((W12_of m ρ c main_v7_0 (by decide)).trans (v11_o m ρ a)) fun t h l hl => out_eq q k (heads v) h t hl)
theorem out_dq : W13 m ρ c (Proc.devRef .tc main_v16) = headArr (hDq q k (heads v) (heads d)) :=
  (exit_dq m ρ c).trans (head_of ((W12_arr m ρ c 6).trans (final1_6 (V11 m ρ) c (v11_q m ρ a) (v11_k m ρ a) (v11_v m ρ a) (v11_out m ρ a) (v11_d m ρ a) (v11_stat m ρ a)))
    fun t h l hl => dq_eq q k (heads v) (heads d) h t hl)
theorem out_dk : W13 m ρ c (Proc.devRef .tc main_v18) = headArr (hDk q k (heads v) (heads d)) :=
  (exit_dk m ρ c).trans (head_of ((W12_arr m ρ c 7).trans (final1_7 (V11 m ρ) c (v11_q m ρ a) (v11_k m ρ a) (v11_v m ρ a) (v11_out m ρ a) (v11_d m ρ a) (v11_stat m ρ a)))
    fun t h l hl => dk_eq q k (heads v) (heads d) h t hl)
theorem out_dv : W13 m ρ c (Proc.devRef .tc main_v21) = flatArr (hDv q k (heads d)) :=
  (exit_dv m ρ c).trans (flat_of ((W12_arr m ρ c 8).trans (final1_8 (V11 m ρ) c (v11_q m ρ a) (v11_k m ρ a) (v11_v m ρ a) (v11_out m ρ a) (v11_d m ρ a) (v11_stat m ρ a)))
    fun t h l hl => dv_eq q k (heads d) h t hl)

end Contents

set_option backward.isDefEq.respectTransparency.types false in
/-- Every execution ends with the four results and with the arguments as they were. -/
theorem results {q k : Dev nD → ℕ → ℕ → ℕ → ℝ} {v d : Dev nD → ℕ → ℕ → ℝ} (h : ∀ c, Args m c (q c) (k c) (v c) (d c)) :
    θ_run defs (onTc (τ := τ) (main (F := Ideal))) ⟨m, fun _ => 0, ρ⟩ (fun r => ∀ c : Dev nD,
      r.2.mem ((c.tc : Thread nD τ).loc main_v14) = (flatArr (hO (q c) (k c) (heads (v c))) : Buf (Elt Ideal) ((c.tc : Thread nD τ).loc main_v14))
      ∧ r.2.mem ((c.tc : Thread nD τ).loc main_v16) = (headArr (hDq (q c) (k c) (heads (v c)) (heads (d c))) : Buf (Elt Ideal) ((c.tc : Thread nD τ).loc main_v16))
      ∧ r.2.mem ((c.tc : Thread nD τ).loc main_v18) = (headArr (hDk (q c) (k c) (heads (v c)) (heads (d c))) : Buf (Elt Ideal) ((c.tc : Thread nD τ).loc main_v18))
      ∧ r.2.mem ((c.tc : Thread nD τ).loc main_v21) = (flatArr (hDv (q c) (k c) (heads (d c))) : Buf (Elt Ideal) ((c.tc : Thread nD τ).loc main_v21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s hs hz c =>
      ⟨(hs c _ (mem_uc main_v14 (by decide))).trans (out_o m ρ (h c)),
       (hs c _ (mem_uc main_v16 (by decide))).trans (out_dq m ρ (h c)),
       (hs c _ (mem_uc main_v18 (by decide))).trans (out_dk m ρ (h c)),
       (hs c _ (mem_uc main_v21 (by decide))).trans (out_dv m ρ (h c)),
       (hs c _ (mem_uc main_arg0 (by decide))).trans (W13_main_arg0 m ρ c),
       (hs c _ (mem_uc main_arg1 (by decide))).trans (W13_main_arg1 m ρ c),
       (hs c _ (mem_uc main_arg2 (by decide))).trans (W13_main_arg2 m ρ c),
       (hs c _ (mem_uc main_arg3 (by decide))).trans (W13_main_arg3 m ρ c)⟩)

end Cert.MlaIdeal.Lat

end
-- ==== Proof.MlaRef.lean ====
/- What the reference of the latent attention computes, over the reals: its operations one after another, each at an index. -/
module

public import proofs.«01_k».proof.Proof.Gen.MlaReferenceIdeal.Read
public import proofs.«01_k».proof.Proof.MlaResult

@[expose] public section

set_option maxRecDepth 16384

noncomputable section

namespace Cert.MlaReferenceIdeal.Lat

open Idealize.ShloMosaic Idealize.ShloMosaic.TcCoe Idealize.ShloMosaic.Tactic
open Cert.MlaReferenceIdeal Cert.MlaReferenceIdeal.Read
open Cert.KernelIdeal.Sb (Re Re.congr Re.addf Re.subf Re.mulf Re.exp coe_sum coe_dot coe_max log_coe_pos Vis Sel toInt_small ofBool_decide)
open Finset (range)
open Cert.ReferenceIdeal.Sb (Re3 zero_f32 Select idx2_eq)
open Cert.MlaIdeal.Lat (sc sc_bits low_bits div_real max_real hE hS hP hO hDp hG hDq hDk hDv heads flatArr headArr Sm_eq Sm_pos)

theorem scale_f32 : (FloatOps.ofBits .f32 0x3DD105EC#32 : Ideal .f32) = ((sc : ℝ) : EReal) := sc_bits
theorem low_f32 : (FloatOps.ofBits .f32 0xFF800000#32 : Ideal .f32) = (⊥ : EReal) := low_bits
theorem one_f32 : (FloatOps.ofBits .f32 0x3F800000#32 : Ideal .f32) = ((1 : ℝ) : EReal) := by
  show Ideal.ofBits .f32 0x3F800000#32 = _
  simp [Ideal.ofBits, Ideal.ieee]
  rw [← EReal.coe_mul]
  norm_num

theorem hS_pos (q k : ℕ → ℕ → ℕ → ℝ) (h t : ℕ) : 0 < hS q k h t := by rw [← Sm_eq]; exact Sm_pos _ _ t

/-! ### The mask: a query sees the keys of its own chunk of 64 and of those before -/

/-- A word's sign. -/
def sgn (x : BitVec 32) : BitVec 32 := if x = 0 then 0 else if x.msb then -1 else 1

/-- Dividing a row's number by 64, rounding down, in the words' arithmetic. -/
theorem floor64 : ∀ n : Fin 4096, Scalar.select (IntOp.andi (IntOp.cmpi .ne (sgn (BitVec.ofNat 32 n.val)) (sgn 64#32))
      (IntOp.cmpi .ne (IntOp.remsi .host (BitVec.ofNat 32 n.val) 64#32) 0#32)) (IntOp.subi (IntOp.divsi .host (BitVec.ofNat 32 n.val) 64#32) 1#32)
      (IntOp.divsi .host (BitVec.ofNat 32 n.val) 64#32) = BitVec.ofNat 32 (n.val / 64) := by decide +kernel

theorem chunk (i : S4096.Idx) : val_main_v2 (F := Ideal) i = BitVec.ofNat 32 ((i 0).val / 64) := by
  rw [val_main_v2_apply, val_main_call0_v11_apply, val_main_call0_v6_apply, val_main_call0_v10_apply, val_main_call0_v13_apply, val_main_call0_v8_apply,
    val_main_call0_v2_apply, val_main_call0_v12_apply, val_main_call0_v9_apply, val_main_call0_v7_apply, val_main_call0_v1_apply, val_main_call0_v5_apply,
    val_main_v1_apply]
  exact floor64 (i 0)

theorem seen (i : S4x4096x4096.Idx) : val_main_v11_1 (F := Ideal) i = if (i 2).val / 64 ≤ (i 1).val / 64 then 1#1 else 0#1 := by
  have h1 : (i 1).val < 4096 := (i 1).isLt
  have h2 : (i 2).val < 4096 := (i 2).isLt
  rw [val_main_v11_1_apply, val_main_v10_apply, val_main_v8_apply, val_main_v6_apply, val_main_v9_apply, val_main_v7_apply, chunk, chunk]
  show IntOp.cmpi .sle (BitVec.ofNat 32 ((i 2).val / 64)) (BitVec.ofNat 32 ((i 1).val / 64)) = _
  simp only [IntOp.cmpi, BitVec.sle, toInt_small (show (i 1).val / 64 < 2 ^ 31 by omega), toInt_small (show (i 2).val / 64 < 2 ^ 31 by omega), Nat.cast_le, ofBool_decide]

section Values
variable {x0 x1 : FVec Ideal S4096x4x96 .bf16} {x2 : FVec Ideal S4096x256 .bf16} {x3 : FVec Ideal S4096x256 .f32} {q k : ℕ → ℕ → ℕ → ℝ} {v d : ℕ → ℕ → ℝ}
variable (hq : Re3 (A := 4096) (B := 4) (C := 96) x0 q) (hk : Re3 (A := 4096) (B := 4) (C := 96) x1 k)
  (hv : Re (R := 4096) (C := 256) x2 v) (hd : Re (R := 4096) (C := 256) x3 d)

/-! ### The weights -/

include hq hk in
theorem score (i : S4x4096x4096.Idx) : (val_main_v11_0 (F := Ideal) x0 x1 i : EReal) = if (i 2).val / 64 ≤ (i 1).val / 64 then
    (((∑ l ∈ range 96, q (i 1).val (i 0).val l * k (i 2).val (i 0).val l) * sc : ℝ) : EReal) else ⊥ := by
  rw [val_main_v11_0_apply, seen, Select, val_main_v5_apply, val_main_v3_apply, val_main_v4_apply, val_main_cst_apply, scale_f32,
    val_main_call1_v2_apply, val_main_call1_v0_apply, val_main_cst_0_apply, low_f32,
    coe_dot (f := fun l => q (i 1).val (i 0).val l) (g := fun l => k (i 2).val (i 0).val l) (fun l => hq (lidx_main_v3 i l)) (fun l => hk (ridx_main_v3 i l))]
  rw [EReal.coe_mul]
  rfl

include hq hk in
/-- A row's greatest score is a real number. -/
theorem row_max : ∃ μ : ℕ → ℕ → ℝ, ∀ i, (val_main_v19 (F := Ideal) x0 x1 i : EReal) = ((μ (i 0).val (i 1).val : ℝ) : EReal) := by
  have hone : ∀ i, ∃ μ : ℝ, (val_main_v19 (F := Ideal) x0 x1 i : EReal) = (μ : EReal) := fun i => by
    have hs := score hq hk
    have red : S4x4096x4096.Reduces [2] S4x4096 := by decide
    rw [val_main_v19_apply, val_main_v18_apply, val_main_cst_3_apply, low_f32]
    unfold val_main_v12
    generalize val_main_v11_0 (F := Ideal) x0 x1 = y at hs ⊢
    have e := Host.reduce_eq_fold_single (FloatOps.maximumf (F := Ideal) (φ := .f32)) y (val_main_cst_1 (F := Ideal)) Gen.reducesTo_S4x4096x4096_S4x4096_d2 red Gen.h_S_ i
    rw [val_main_cst_1_apply, low_f32] at e
    refine Exists.imp (fun _ h => (congrArg (FloatOps.maximumf (F := Ideal) (φ := .f32) (⊥ : EReal)) e).trans h) ?_
    refine max_real (n := 4096) ⊥ _ bot_ne_top (fun n => ?_) ⟨⟨0, by omega⟩, _, (hs _).trans (if_pos ?_)⟩
    · intro ht
      have h := (hs (red.lift i n)).symm.trans ht
      split at h
      · exact EReal.coe_ne_top _ h
      · exact bot_ne_top h
    · show 0 / 64 ≤ _
      exact (Nat.zero_div 64).trans_le (Nat.zero_le _)
  choose μ hμ using hone
  refine ⟨fun h t => if hh : h < 4 then if ht : t < 4096 then μ (ix2 ⟨h, hh⟩ ⟨t, ht⟩) else 0 else 0, fun i => ?_⟩
  obtain ⟨h, t, rfl⟩ : ∃ (h : Fin 4) (t : Fin 4096), i = ix2 h t := ⟨i 0, i 1, eq_ix2 i⟩
  rw [hμ]
  show _ = (((if hh : h.val < 4 then if ht : t.val < 4096 then μ (ix2 ⟨h.val, hh⟩ ⟨t.val, ht⟩) else 0 else 0 : ℝ)) : EReal)
  rw [dif_pos h.isLt, dif_pos t.isLt]

section Row
variable {μ : ℕ → ℕ → ℝ} (hμ : ∀ i, (val_main_v19 (F := Ideal) x0 x1 i : EReal) = ((μ (i 0).val (i 1).val : ℝ) : EReal))

include hq hk hμ in
theorem re_e : Re3 (A := 4) (B := 4096) (C := 4096) (φ := .f32) (val_main_v32 (F := Ideal) x0 x1) (fun h t j => hE q k h t j * Real.exp (-μ h t)) := fun i => by
  rw [val_main_v32_apply, val_main_v31_apply, score hq hk, val_main_v30_apply, val_main_v29_apply, hμ]
  show Ideal.exp (_ - (((μ (i 0).val (i 1).val : ℝ)) : EReal)) = _
  unfold hE
  beta_reduce
  by_cases h : (i 2).val / 64 ≤ (i 1).val / 64
  · rw [if_pos h, if_pos h, ← EReal.coe_sub, Ideal.exp_coe, sub_eq_add_neg, Real.exp_add]
  · rw [if_neg h, if_neg h, EReal.bot_sub, Ideal.exp_bot, zero_mul]
    rfl

include hq hk hμ in
theorem re_sum (i : S4x4096.Idx) : (val_main_v33 (F := Ideal) x0 x1 i : EReal) = ((hS q k (i 0).val (i 1).val * Real.exp (-μ (i 0).val (i 1).val) : ℝ) : EReal) := by
  rw [val_main_v33_apply, val_main_cst_9_apply, zero_f32, Finset.sum_congr rfl (fun n _ => re_e hq hk hμ (idx_main_v33 i n)), coe_sum, ← EReal.coe_add]
  rw [zero_add, hS, Finset.sum_mul, Finset.sum_range]

include hq hk hμ in
theorem re_p : Re3 (A := 4) (B := 4096) (C := 4096) (φ := .bf16) (val_main_v40 (F := Ideal) x0 x1) (hP q k) := fun i => by
  have hw := Real.exp_pos (-μ (i 0).val (i 1).val)
  have hs := hS_pos q k (i 0).val (i 1).val
  rw [val_main_v40_apply]
  show val_main_v36 (F := Ideal) x0 x1 i = _
  rw [val_main_v36_apply, val_main_v35_apply, val_main_v34_apply, re_e hq hk hμ i, re_sum hq hk hμ]
  refine (div_real (mul_pos hs hw).ne').trans (congrArg _ ?_)
  exact mul_div_mul_right _ _ hw.ne'

include hv in
theorem re_v : Re3 (A := 4096) (B := 4) (C := 64) (φ := .bf16) (val_main_v0 (F := Ideal) x2) (heads v) := fun i => by
  have h0 : (i 0).val < 4096 := (i 0).isLt
  have h1 : (i 1).val < 4 := (i 1).isLt
  have h2 : (i 2).val < 64 := (i 2).isLt
  rw [val_main_v0_apply]
  refine Eq.trans ?_ (hv ⟨(i 0).val, by omega⟩ ⟨64 * (i 1).val + (i 2).val, by omega⟩)
  refine congrArg x2 (idx2_eq _ ?_ ?_)
  · show (((i 0).val * 4 + (i 1).val) * 64 + (i 2).val) / 256 = (i 0).val
    omega
  · show (((i 0).val * 4 + (i 1).val) * 64 + (i 2).val) % 256 = 64 * (i 1).val + (i 2).val
    omega

/-! ### The gradients -/

include hd in
theorem re_do : Re3 (A := 4) (B := 64) (C := 4096) (φ := .f32) (val_main_v44 (F := Ideal) x3) (fun h l t => heads d t h l) := fun i => by
  have h0 : (i 0).val < 4 := (i 0).isLt
  have h1 : (i 1).val < 64 := (i 1).isLt
  have h2 : (i 2).val < 4096 := (i 2).isLt
  rw [val_main_v44_apply, val_main_v43_apply]
  refine Eq.trans ?_ (hd ⟨(i 2).val, by omega⟩ ⟨64 * (i 0).val + (i 1).val, by omega⟩)
  refine congrArg x3 (idx2_eq _ ?_ ?_)
  · show (((i 2).val * 4 + (i 0).val) * 64 + (i 1).val) / 256 = (i 2).val
    omega
  · show (((i 2).val * 4 + (i 0).val) * 64 + (i 1).val) % 256 = 64 * (i 0).val + (i 1).val
    omega

include hv hd in
theorem re_dp : Re3 (A := 4) (B := 4096) (C := 4096) (φ := .f32) (val_main_v50 (F := Ideal) x2 x3) (hDp (heads v) (heads d)) := fun i => by
  rw [val_main_v50_apply, val_main_v46_apply]
  show val_main_v45 (F := Ideal) x2 x3 i = _
  rw [val_main_v45_apply]
  exact coe_dot (f := fun l => heads d (i 1).val (i 0).val l) (g := fun l => heads v (i 2).val (i 0).val l)
    (fun l => re_do hd (lidx_main_v45 i l)) (fun l => re_v hv (ridx_main_v45 i l))

/-- A row's weighted mean of the weights' gradients, divided by the row's sum. -/
theorem mean_eq (w : ℝ) (hw : w ≠ 0) (q k v d : ℕ → ℕ → ℕ → ℝ) (h t : ℕ) :
    ∑ n ∈ range 4096, hDp v d h t n * (1 / (hS q k h t * w * (hS q k h t * w))) * (hE q k h t n * w)
      = (∑ n ∈ range 4096, hP q k h t n * hDp v d h t n) / (hS q k h t * w) := by
  have hs := (hS_pos q k h t).ne'
  rw [Finset.sum_div]
  refine Finset.sum_congr rfl fun n _ => ?_
  unfold hP
  field_simp

include hq hk hv hd hμ in
theorem re_mean (i : S4x4096.Idx) : (val_main_v54 (F := Ideal) x0 x1 x2 x3 i : EReal)
    = (((∑ n ∈ range 4096, hP q k (i 0).val (i 1).val n * hDp (heads v) (heads d) (i 0).val (i 1).val n)
        / (hS q k (i 0).val (i 1).val * Real.exp (-μ (i 0).val (i 1).val)) : ℝ) : EReal) := by
  have hw := Real.exp_pos (-μ (i 0).val (i 1).val)
  have hs := hS_pos q k (i 0).val (i 1).val
  have hterm : ∀ n : Fin 4096, (val_main_v53 (F := Ideal) x0 x1 x2 x3 (idx_main_v54 i n) : EReal)
      = ((hDp (heads v) (heads d) (i 0).val (i 1).val n.val * (1 / (hS q k (i 0).val (i 1).val * Real.exp (-μ (i 0).val (i 1).val)
          * (hS q k (i 0).val (i 1).val * Real.exp (-μ (i 0).val (i 1).val)))) * (hE q k (i 0).val (i 1).val n.val * Real.exp (-μ (i 0).val (i 1).val)) : ℝ) : EReal) := fun n => by
    rw [val_main_v53_apply, val_main_v52_apply, val_main_v51_apply, val_main_v39_apply, val_main_v38_apply, val_main_cst_10_apply, one_f32, val_main_v37_apply,
      val_main_v34_apply, re_sum hq hk hμ, re_dp hv hd, re_e hq hk hμ]
    show ((_ : ℝ) : EReal) * Ideal.div ((1 : ℝ) : EReal) (((_ : ℝ) : EReal) * ((_ : ℝ) : EReal)) * ((_ : ℝ) : EReal) = _
    rw [← EReal.coe_mul, div_real (mul_pos (mul_pos hs hw) (mul_pos hs hw)).ne', ← EReal.coe_mul, ← EReal.coe_mul]
  rw [val_main_v54_apply, val_main_cst_11_apply, zero_f32, Finset.sum_congr rfl (fun n _ => hterm n), coe_sum, ← EReal.coe_add, zero_add,
    ← mean_eq _ hw.ne', Finset.sum_range]

include hq hk hv hd hμ in
theorem re_ds : Re3 (A := 4) (B := 4096) (C := 4096) (φ := .f32) (val_main_v65 (F := Ideal) x0 x1 x2 x3) (hG q k (heads v) (heads d)) := fun i => by
  have h0 : (i 0).val < 4 := (i 0).isLt
  have h1 : (i 1).val < 4096 := (i 1).isLt
  have hw := Real.exp_pos (-μ (i 0).val (i 1).val)
  have hs := hS_pos q k (i 0).val (i 1).val
  have e60 : (val_main_v60 (F := Ideal) x0 x1 x2 x3 i : EReal) = ((-((∑ n ∈ range 4096, hP q k (i 0).val (i 1).val n * hDp (heads v) (heads d) (i 0).val (i 1).val n)
        / (hS q k (i 0).val (i 1).val * Real.exp (-μ (i 0).val (i 1).val))) : ℝ) : EReal) := by
    rw [val_main_v60_apply, val_main_v59_apply, val_main_cst_12_apply, zero_f32, Fin.sum_univ_one, val_main_v56_apply, val_main_v55_apply, re_mean hq hk hv hd hμ]
    have e0 : (idx_main_v55 (idx_main_v59 (idx_main_v60 i) 0) 0).val = (i 0).val := by
      show (((i 0).val * 4096 + (i 1).val) * 1 + 0) / 4096 = (i 0).val
      omega
    have e1 : (idx_main_v55 (idx_main_v59 (idx_main_v60 i) 0) 1).val = (i 1).val := by
      show (((i 0).val * 4096 + (i 1).val) * 1 + 0) % 4096 = (i 1).val
      omega
    rw [e0, e1, EReal.coe_neg]
    exact (congrArg (· + _) EReal.coe_zero).trans (zero_add _)
  rw [val_main_v65_apply, val_main_v64_apply, val_main_cst_13_apply, scale_f32, val_main_v63_apply, seen, Select, val_main_call2_v0_apply, val_main_call2_cst_apply,
    zero_f32, val_main_v62_apply, val_main_v61_apply, e60, val_main_v58_apply, val_main_v57_apply, val_main_v34_apply, re_sum hq hk hμ, re_dp hv hd, re_e hq hk hμ]
  show (if _ then (Ideal.div ((_ : ℝ) : EReal) ((_ : ℝ) : EReal) + ((_ : ℝ) : EReal)) * ((_ : ℝ) : EReal) else ((0 : ℝ) : EReal)) * ((sc : ℝ) : EReal) = _
  rw [div_real (mul_pos hs hw).ne', ← EReal.coe_add, ← EReal.coe_mul]
  unfold hG hP
  by_cases h : (i 2).val / 64 ≤ (i 1).val / 64
  · rw [if_pos h, ← EReal.coe_mul]
    congr 2
    field_simp
    ring
  · rw [if_neg h, ← EReal.coe_mul]
    congr 1
    unfold hE
    rw [if_neg h]
    ring

/-! ### The results -/

/-- Laying the heads side by side. -/
theorem flatten {φ : FTy} {x : FVec Ideal S4096x4x64 φ} {f : ℕ → ℕ → ℕ → ℝ} (hx : Re3 (A := 4096) (B := 4) (C := 64) x (fun t h l => f h t l)) (i : S4096x256.Idx) :
    (x (idx_main_v72 i) : EReal) = ((f ((i 1).val / 64) (i 0).val ((i 1).val % 64) : ℝ) : EReal) := by
  have h0 : (i 0).val < 4096 := (i 0).isLt
  have h1 : (i 1).val < 256 := (i 1).isLt
  refine (hx (idx_main_v72 i)).trans (congrArg (fun r : ℝ => (r : EReal)) ?_)
  show f (((i 0).val * 256 + (i 1).val) / 64 % 4) (((i 0).val * 256 + (i 1).val) / 256) (((i 0).val * 256 + (i 1).val) % 64) = _
  rw [show ((i 0).val * 256 + (i 1).val) / 256 = (i 0).val by omega, show ((i 0).val * 256 + (i 1).val) / 64 % 4 = (i 1).val / 64 by omega,
    show ((i 0).val * 256 + (i 1).val) % 64 = (i 1).val % 64 by omega]

end Row

include hq hk hv in
theorem ref_o : (val_main_v72 (F := Ideal) x0 x1 x2 : S4096x256.Idx → EReal) = flatArr (hO q k (heads v)) := funext fun i => by
  obtain ⟨μ, hμ⟩ := row_max hq hk
  rw [val_main_v72_apply]
  refine flatten (φ := .f32) (f := hO q k (heads v)) (fun j => ?_) i
  rw [val_main_v42_apply, val_main_v41_apply,
    coe_dot (f := fun n => heads v n (j 1).val (j 2).val) (g := fun n => hP q k (j 1).val (j 0).val n)
      (fun n => re_v hv (lidx_main_v41 (idx_main_v42 j) n)) (fun n => re_p hq hk hμ (ridx_main_v41 (idx_main_v42 j) n))]
  exact congrArg _ (Finset.sum_congr rfl fun n _ => mul_comm _ _)

include hq hk hd in
theorem ref_dv : (val_main_v76 (F := Ideal) x0 x1 x3 : S4096x256.Idx → EReal) = flatArr (hDv q k (heads d)) := funext fun i => by
  obtain ⟨μ, hμ⟩ := row_max hq hk
  rw [val_main_v76_apply]
  refine flatten (φ := .f32) (f := hDv q k (heads d)) (fun j => ?_) i
  rw [val_main_v75_apply, val_main_v49_apply]
  show val_main_v48 (F := Ideal) x0 x1 x3 j = _
  rw [val_main_v48_apply, val_main_v47_apply,
    coe_dot (f := fun n => heads d n (j 1).val (j 2).val) (g := fun n => hP q k (j 1).val n (j 0).val)
      (fun n => re_do hd (lidx_main_v47 (idx_main_v48 j) n)) (fun n => re_p hq hk hμ (ridx_main_v47 (idx_main_v48 j) n))]
  exact congrArg _ (Finset.sum_congr rfl fun n _ => mul_comm _ _)

include hq hk hv hd in
theorem ref_dk : (val_main_v74 (F := Ideal) x0 x1 x2 x3 : S4096x4x96.Idx → EReal) = headArr (hDk q k (heads v) (heads d)) := funext fun i => by
  obtain ⟨μ, hμ⟩ := row_max hq hk
  rw [val_main_v74_apply, val_main_v68_apply]
  show val_main_v67 (F := Ideal) x0 x1 x2 x3 i = _
  rw [val_main_v67_apply, val_main_v66_apply]
  exact coe_dot (f := fun n => hG q k (heads v) (heads d) (i 1).val n (i 0).val) (g := fun n => q n (i 1).val (i 2).val)
    (fun n => re_ds hq hk hv hd hμ (lidx_main_v66 (idx_main_v67 i) n)) (fun n => hq (ridx_main_v66 (idx_main_v67 i) n))

include hq hk hv hd in
theorem ref_dq : (val_main_v73 (F := Ideal) x0 x1 x2 x3 : S4096x4x96.Idx → EReal) = headArr (hDq q k (heads v) (heads d)) := funext fun i => by
  obtain ⟨μ, hμ⟩ := row_max hq hk
  rw [val_main_v73_apply, val_main_v71_apply]
  show val_main_v70 (F := Ideal) x0 x1 x2 x3 i = _
  rw [val_main_v70_apply, val_main_v69_apply]
  exact coe_dot (f := fun n => hG q k (heads v) (heads d) (i 1).val (i 0).val n) (g := fun n => k n (i 1).val (i 2).val)
    (fun n => re_ds hq hk hv hd hμ (lidx_main_v69 (idx_main_v70 i) n)) (fun n => hk (ridx_main_v69 (idx_main_v70 i) n))

end Values

end Cert.MlaReferenceIdeal.Lat

end
-- ==== Proof.lean ====
/- The proof of the certificate: the frames; the stick-breaking layer's forward and backward calls against the reference
at finite arguments; the feed-forward layer's six calls and the two projections' six against theirs at every argument. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpReferenceIdeal
public import proofs.«01_k».proof.Proof.Gen.MlpReferenceIdeal.Run
public import proofs.«01_k».proof.Proof.Gen.MlpReferenceIdeal.Read
public import proofs.«01_k».proof.Proof.Gen.Mla
public import proofs.«01_k».proof.Proof.Gen.Mla.Skeleton
public import proofs.«01_k».proof.Proof.Gen.Mla.Loops
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Loops
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaReferenceIdeal
public import proofs.«01_k».proof.Proof.Gen.MlaReferenceIdeal.Run
public import proofs.«01_k».proof.Proof.Gen.MlaReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.Pre_finite
public import proofs.«01_k».proof.Proof.Gen.Pre_mla_finite
public import proofs.«01_k».proof.Proof.Result
public import proofs.«01_k».proof.Proof.Finite
public import proofs.«01_k».proof.Proof.Equal
public import proofs.«01_k».proof.Proof.MlpRef
public import proofs.«01_k».proof.Proof.ProjRef
public import proofs.«01_k».proof.Proof.MlaFinite
public import proofs.«01_k».proof.Proof.MlaRef
public import Idealize.ShloMosaic.Adequacy
public import Idealize.ShloMosaic.Init

@[expose] public section

noncomputable section

namespace Cert.Proof

open Idealize.ShloMosaic Idealize.SL.Sem Cert.Kernel

/-- The reference's frame. -/
theorem reference_frame : Cert.quiescent_ReferenceIdeal (hReferenceIdeal := Cert.ReferenceIdeal.Gen.facts) := fun m ρ _ =>
  (θ_run Cert.ReferenceIdeal.defs _ _).mono (fun _ h => ⟨fun c => (h c).2.2.2.2, sem_eq_zero_of_no_sems (by decide) _⟩) (Cert.ReferenceIdeal.Value.run m ρ)

/-- Finite arguments are arrays of real numbers. -/
theorem args_real (m : (ℓ : Loc Cert.KernelIdeal.nD Cert.KernelIdeal.τ Cert.KernelIdeal.sig) → Buf (Elt Ideal) ℓ)
    (h : Cert.Pre_KernelIdeal_finite (hPre_finite := Cert.Pre_finite.Gen.facts) m) :
    ∃ P D : Dev Cert.KernelIdeal.nD → ℕ → ℕ → ℝ, ∀ c, Cert.KernelIdeal.Sb.Args m c (P c) (D c) := by
  choose P hP using fun c => (Cert.KernelIdeal.Sb.re_of_finite _ _ (h c)).1
  choose D hD using fun c => (Cert.KernelIdeal.Sb.re_of_finite _ _ (h c)).2
  exact ⟨P, D, fun c => ⟨hP c, hD c⟩⟩

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  obtain ⟨P, D, h⟩ := args_real m hpre
  refine ⟨fun c => Cert.KernelIdeal.Sb.oArr (Cert.KernelIdeal.Sb.outAll (P c)), fun c => Cert.KernelIdeal.Sb.oArr (Cert.KernelIdeal.Sb.dqAll (P c) (D c)),
    fun c => Cert.KernelIdeal.Sb.oArr (Cert.KernelIdeal.Sb.dkAll (P c) (D c)), fun c => Cert.KernelIdeal.Sb.oArr (Cert.KernelIdeal.Sb.dvAll (P c) (D c)),
    Cert.KernelIdeal.Sb.results m g h, ?_⟩
  refine (θ_run Cert.ReferenceIdeal.defs _ _).mono (fun r hr c => ?_) (Cert.ReferenceIdeal.Value.run m' g')
  obtain ⟨r0, r1, r2, r3, ra, rb⟩ := hr c
  obtain ⟨a0, a1⟩ := hargs c
  refine ⟨?_, ?_, ?_, ?_, ra, rb⟩
  · rw [r0, Cert.ReferenceIdeal.Read.val_main_v53_eq, a0]
    exact Cert.ReferenceIdeal.Sb.out_eq (h c).proj
  · rw [r1, Cert.ReferenceIdeal.Read.val_main_v55_eq, a0, a1]
    exact Cert.ReferenceIdeal.Sb.dq_eq (h c).proj (h c).dod
  · rw [r2, Cert.ReferenceIdeal.Read.val_main_v57_eq, a0, a1]
    exact Cert.ReferenceIdeal.Sb.dk_eq (h c).proj (h c).dod
  · rw [r3, Cert.ReferenceIdeal.Read.val_main_v59_eq, a0, a1]
    exact Cert.ReferenceIdeal.Sb.dv_eq (h c).proj (h c).dod

/-- The feed-forward layer's reference's frame. -/
theorem mlp_reference_frame : Cert.quiescent_MlpReferenceIdeal (hMlpReferenceIdeal := Cert.MlpReferenceIdeal.Gen.facts) := fun m ρ _ =>
  (θ_run Cert.MlpReferenceIdeal.defs _ _).mono (fun _ h => ⟨fun c => (h c).2.2.2.2, sem_eq_zero_of_no_sems (by decide) _⟩) (Cert.MlpReferenceIdeal.Value.run m ρ)

open Cert.MlpIdeal.Ffn in
/-- The feed-forward layer, forward and backward, computes its reference at every input. -/
theorem mlp_algebraic : Cert.algebraic_MlpIdeal_MlpReferenceIdeal (hMlpIdeal := Cert.MlpIdeal.Gen.facts) (hMlpReferenceIdeal := Cert.MlpReferenceIdeal.Gen.facts) := by
  intro m g m' g' _ hargs
  obtain ⟨H, U, W, D, h⟩ : ∃ H U W D : Dev Cert.MlpIdeal.nD → ℕ → ℕ → EReal, ∀ c, Args m c (H c) (U c) (W c) (D c) :=
    ⟨_, _, _, _, fun c => ⟨holds_ofArr _, holds_ofArr _, holds_ofArr _, holds_ofArr _⟩⟩
  refine ⟨fun c => arr .f32 (mul 4096 (act (H c) (U c)) (W c)), fun c => arr .f32 (mul 4096 (dpre (H c) (U c) (W c) (D c)) (tr (U c))),
    fun c => arr .f32 (mul 4096 (tr (H c)) (dpre (H c) (U c) (W c) (D c))), fun c => arr .f32 (mul 4096 (tr (act (H c) (U c))) (D c)),
    results m g h, ?_⟩
  refine (θ_run Cert.MlpReferenceIdeal.defs _ _).mono (fun r hr c => ?_) (Cert.MlpReferenceIdeal.Value.run m' g')
  obtain ⟨r0, r1, r2, r3, ra⟩ := hr c
  obtain ⟨a0, a1, a2, a3⟩ := hargs c
  refine ⟨?_, ?_, ?_, ?_, ra⟩
  · rw [r0, Cert.MlpReferenceIdeal.Read.val_main_v8_eq, a0, a1, a2]
    exact (Cert.MlpReferenceIdeal.Ffn.holds_out (h c).h (h c).up (h c).down).eq_arr
  · rw [r1, Cert.MlpReferenceIdeal.Read.val_main_v17_eq, a0, a1, a2, a3]
    exact (Cert.MlpReferenceIdeal.Ffn.holds_dh (h c).h (h c).up (h c).down (h c).df).eq_arr
  · rw [r2, Cert.MlpReferenceIdeal.Read.val_main_v16_eq, a0, a1, a2, a3]
    exact (Cert.MlpReferenceIdeal.Ffn.holds_dup (h c).h (h c).up (h c).down (h c).df).eq_arr
  · rw [r3, Cert.MlpReferenceIdeal.Read.val_main_v10_eq, a0, a1, a3]
    exact (Cert.MlpReferenceIdeal.Ffn.holds_dw (h c).h (h c).up (h c).df).eq_arr

/-- The two projections' reference's frame. -/
theorem proj_reference_frame : Cert.quiescent_ProjReferenceIdeal (hProjReferenceIdeal := Cert.ProjReferenceIdeal.Gen.facts) := fun m ρ _ =>
  (θ_run Cert.ProjReferenceIdeal.defs _ _).mono (fun _ h => ⟨fun c => (h c).2.2.2.2.2.2.2, sem_eq_zero_of_no_sems (by decide) _⟩) (Cert.ProjReferenceIdeal.Value.run m ρ)

open Cert.MlpIdeal.Ffn (mul tr arr ofArr holds_ofArr Holds.eq_arr) in
open Cert.ProjIdeal.Lin in
/-- The two projections, forward and backward, compute their reference at every input. -/
theorem proj_algebraic : Cert.algebraic_ProjIdeal_ProjReferenceIdeal (hProjIdeal := Cert.ProjIdeal.Gen.facts) (hProjReferenceIdeal := Cert.ProjReferenceIdeal.Gen.facts) := by
  intro m g m' g' _ hargs
  obtain ⟨H, W, D, X, O, E, h⟩ : ∃ H W D X O E : Dev Cert.ProjIdeal.nD → ℕ → ℕ → EReal, ∀ c, Args m c (H c) (W c) (D c) (X c) (O c) (E c) :=
    ⟨_, _, _, _, _, _, fun c => ⟨holds_ofArr _, holds_ofArr _, holds_ofArr _, holds_ofArr _, holds_ofArr _, holds_ofArr _⟩⟩
  refine ⟨fun c => arr .f32 (mul 1024 (H c) (W c)), fun c => arr .bf16 (mul 1024 (H c) (W c)), fun c => arr .f32 (mul 2980 (D c) (tr (W c))), fun c => arr .f32 (mul 4096 (tr (H c)) (D c)), fun c => arr .f32 (mul 1024 (X c) (O c)), fun c => arr .f32 (mul 1024 (E c) (tr (O c))), fun c => arr .f32 (mul 4096 (tr (X c)) (E c)), results m g h, ?_⟩
  refine (θ_run Cert.ProjReferenceIdeal.defs _ _).mono (fun r hr c => ?_) (Cert.ProjReferenceIdeal.Value.run m' g')
  obtain ⟨r0, r1, r2, r3, r4, r5, r6, ra⟩ := hr c
  obtain ⟨a0, a1, a2, a3, a4, a5⟩ := hargs c
  refine ⟨?_, ?_, ?_, ?_, ?_, ?_, ?_, ra⟩
  · rw [r0, Cert.ProjReferenceIdeal.Read.val_main_v0_eq, a0, a1]
    exact (Cert.ProjReferenceIdeal.Lin.holds_proj (h c).h (h c).w_in).eq_arr
  · rw [r1, Cert.ProjReferenceIdeal.Read.val_main_v2_eq, a0, a1]
    exact (Cert.ProjReferenceIdeal.Lin.holds_projb (h c).h (h c).w_in).eq_arr
  · rw [r2, Cert.ProjReferenceIdeal.Read.val_main_v5_eq, a1, a2]
    exact (Cert.ProjReferenceIdeal.Lin.holds_dh (h c).w_in (h c).dproj).eq_arr
  · rw [r3, Cert.ProjReferenceIdeal.Read.val_main_v4_eq, a0, a2]
    exact (Cert.ProjReferenceIdeal.Lin.holds_dw_in (h c).h (h c).dproj).eq_arr
  · rw [r4, Cert.ProjReferenceIdeal.Read.val_main_v1_eq, a3, a4]
    exact (Cert.ProjReferenceIdeal.Lin.holds_mix (h c).mixed (h c).w_out).eq_arr
  · rw [r5, Cert.ProjReferenceIdeal.Read.val_main_v8_eq, a4, a5]
    exact (Cert.ProjReferenceIdeal.Lin.holds_dmixed (h c).w_out (h c).dmix).eq_arr
  · rw [r6, Cert.ProjReferenceIdeal.Read.val_main_v7_eq, a3, a5]
    exact (Cert.ProjReferenceIdeal.Lin.holds_dw_out (h c).mixed (h c).dmix).eq_arr

/-- The latent attention's reference's frame. -/
theorem mla_reference_frame : Cert.quiescent_MlaReferenceIdeal (hMlaReferenceIdeal := Cert.MlaReferenceIdeal.Gen.facts) := fun m ρ _ =>
  (θ_run Cert.MlaReferenceIdeal.defs _ _).mono (fun _ h => ⟨fun c => (h c).2.2.2.2, sem_eq_zero_of_no_sems (by decide) _⟩) (Cert.MlaReferenceIdeal.Value.run m ρ)

open Cert.MlaIdeal.Lat in
/-- The latent attention, forward and backward, computes its reference at finite arguments. -/
theorem mla_algebraic : Cert.algebraic_MlaIdeal_MlaReferenceIdeal_pre_mla_finite (hMlaIdeal := Cert.MlaIdeal.Gen.facts) (hMlaReferenceIdeal := Cert.MlaReferenceIdeal.Gen.facts)
    (hPre_mla_finite := Cert.Pre_mla_finite.Gen.facts) := by
  intro m g m' g' hpre hargs
  have hreal := fun c => re_of_mla_finite _ _ _ _ (hpre c)
  choose hq hk hv hd using hreal
  choose q hq using hq
  choose k hk using hk
  choose v hv using hv
  choose d hd using hd
  refine ⟨fun c => flatArr (hO (q c) (k c) (heads (v c))), fun c => headArr (hDq (q c) (k c) (heads (v c)) (heads (d c))),
    fun c => headArr (hDk (q c) (k c) (heads (v c)) (heads (d c))), fun c => flatArr (hDv (q c) (k c) (heads (d c))),
    results m g (fun c => ⟨hq c, hk c, hv c, hd c⟩), ?_⟩
  refine (θ_run Cert.MlaReferenceIdeal.defs _ _).mono (fun r hr c => ?_) (Cert.MlaReferenceIdeal.Value.run m' g')
  obtain ⟨r0, r1, r2, r3, ra⟩ := hr c
  obtain ⟨a0, a1, a2, a3⟩ := hargs c
  refine ⟨?_, ?_, ?_, ?_, ra⟩
  · rw [r0, Cert.MlaReferenceIdeal.Read.val_main_v72_eq, a0, a1, a2]
    exact Cert.MlaReferenceIdeal.Lat.ref_o (hq c) (hk c) (hv c)
  · rw [r1, Cert.MlaReferenceIdeal.Read.val_main_v73_eq, a0, a1, a2, a3]
    exact Cert.MlaReferenceIdeal.Lat.ref_dq (hq c) (hk c) (hv c) (hd c)
  · rw [r2, Cert.MlaReferenceIdeal.Read.val_main_v74_eq, a0, a1, a2, a3]
    exact Cert.MlaReferenceIdeal.Lat.ref_dk (hq c) (hk c) (hv c) (hd c)
  · rw [r3, Cert.MlaReferenceIdeal.Read.val_main_v76_eq, a0, a1, a3]
    exact Cert.MlaReferenceIdeal.Lat.ref_dv (hq c) (hk c) (hd c)

theorem claim : Cert.Claim := ⟨Cert.Kernel.Gen.facts, Cert.KernelIdeal.Gen.facts, Cert.ReferenceIdeal.Gen.facts, Cert.Mlp.Gen.facts, Cert.MlpIdeal.Gen.facts, Cert.MlpReferenceIdeal.Gen.facts,
  Cert.Proj.Gen.facts, Cert.ProjIdeal.Gen.facts, Cert.ProjReferenceIdeal.Gen.facts,
  Cert.Mla.Gen.facts, Cert.MlaIdeal.Gen.facts, Cert.MlaReferenceIdeal.Gen.facts, Cert.Pre_finite.Gen.facts, Cert.Pre_mla_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Mlp.Gen.frame m ρ, fun m ρ _ => Cert.MlpIdeal.Gen.frame m ρ, mlp_reference_frame,
  fun m ρ _ => Cert.Proj.Gen.frame m ρ, fun m ρ _ => Cert.ProjIdeal.Gen.frame m ρ, proj_reference_frame,
  fun m ρ _ => Cert.Mla.Gen.frame m ρ, fun m ρ _ => Cert.MlaIdeal.Gen.frame m ρ, fun m ρ _ => Cert.MlaIdeal.Gen.frame m ρ,
  mla_reference_frame, fun m ρ _ => mla_reference_frame m ρ trivial,
  trivial, algebraic, trivial, mlp_algebraic, trivial, proj_algebraic,
  IdealRules.named_const.statement Cert.MlaIdeal.κ "mask" .f32 0xF149F2CA#32 ⊥ rfl, mla_algebraic⟩

end Cert.Proof

end
